-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)) (v2 : (c : Dev Cert.Kernel3Ideal.nD) → Buf (Elt Ideal) ((c.tc : Thread Cert.Kernel3Ideal.nD Cert.Kernel3Ideal.τ).loc Cert.Kernel3Ideal.main_v37_2)) (v3 : (c : Dev Cert.Kernel3Ideal.nD) → Buf (Elt Ideal) ((c.tc : Thread Cert.Kernel3Ideal.nD Cert.Kernel3Ideal.τ).loc Cert.Kernel3Ideal.main_v37_3)) (v4 : (c : Dev Cert.Kernel3Ideal.nD) → Buf (Elt Ideal) ((c.tc : Thread Cert.Kernel3Ideal.nD Cert.Kernel3Ideal.τ).loc Cert.Kernel3Ideal.main_v37_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_v37_2) = v2 c
          ∧ r.2.mem ((c.tc : Thread Cert.Kernel3Ideal.nD Cert.Kernel3Ideal.τ).loc Cert.Kernel3Ideal.main_v37_3) = v3 c
          ∧ r.2.mem ((c.tc : Thread Cert.Kernel3Ideal.nD Cert.Kernel3Ideal.τ).loc Cert.Kernel3Ideal.main_v37_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v192) = v0 c
          ∧ r.2.mem ((c.tc : Thread Cert.Reference3Ideal.nD Cert.Reference3Ideal.τ).loc Cert.Reference3Ideal.main_v193) = v1 c
          ∧ r.2.mem ((c.tc : Thread Cert.Reference3Ideal.nD Cert.Reference3Ideal.τ).loc Cert.Reference3Ideal.main_v194) = v2 c
          ∧ r.2.mem ((c.tc : Thread Cert.Reference3Ideal.nD Cert.Reference3Ideal.τ).loc Cert.Reference3Ideal.main_v195) = v3 c
          ∧ r.2.mem ((c.tc : Thread Cert.Reference3Ideal.nD Cert.Reference3Ideal.τ).loc Cert.Reference3Ideal.main_v196) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v120) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  IdealRules.named_const.Statement Cert.Kernel5Ideal.κ "mask" .f32 0xF149F2CA#32 ⊥

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v188) = v0 c
          ∧ r.2.mem ((c.tc : Thread Cert.Reference5Ideal.nD Cert.Reference5Ideal.τ).loc Cert.Reference5Ideal.main_v189) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "mask" .f32 0xF149F2CA#32 ⊥

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v188) = v0 c
          ∧ r.2.mem ((c.tc : Thread Cert.Reference6Ideal.nD Cert.Reference6Ideal.τ).loc Cert.Reference6Ideal.main_v189) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v184_4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
-- ==== Pre_finite.lean ====
abbrev S49152x768 : Shape := ⟨2, ![49152, 768]⟩
abbrev S_ : Shape := ⟨0, ![]⟩

class Facts : Prop where
  bitsLt_bf16_f32 : FTy.bits .bf16 < FTy.bits .f32
  bcast_S_S49152x768 : S_.BroadcastsInDim S49152x768 (![] : Fin 0 → Fin S49152x768.rank)

variable [Facts]

def fn {F : FTy → Type} [FloatOps F] (main_arg0 : FVec F S49152x768 .bf16) (main_arg1 : FVec F S49152x768 .bf16) (main_arg2 : FVec F S49152x768 .bf16) : IVec S49152x768 1 × IVec S49152x768 1 :=
  let main_v0 : FVec F S49152x768 .f32 := (extf .f32 · bitsLt_bf16_f32) main_arg0
  let main_v1 : FVec F S49152x768 .f32 := Host.absf main_v0
  let main_cst : FVec F S_ .f32 := constant S_ .f32 0x7F800000#32
  let main_v2 : FVec F S49152x768 .f32 := broadcastInDim S49152x768 ![] bcast_S_S49152x768 main_cst
  let main_v3 : IVec S49152x768 1 := cmpf .olt main_v1 main_v2
  let main_v4 : FVec F S49152x768 .f32 := (extf .f32 · bitsLt_bf16_f32) main_arg1
  let main_v5 : FVec F S49152x768 .f32 := Host.absf main_v4
  let main_cst_0 : FVec F S_ .f32 := constant S_ .f32 0x7F800000#32
  let main_v6 : FVec F S49152x768 .f32 := broadcastInDim S49152x768 ![] bcast_S_S49152x768 main_cst_0
  let main_v7 : IVec S49152x768 1 := cmpf .olt main_v5 main_v6
  (main_v3, main_v7)
-- ==== Kernel.lean ====
abbrev S49152x768 : Shape := ⟨2, ![49152, 768]⟩
abbrev S49152x128 : Shape := ⟨2, ![49152, 128]⟩
abbrev S256x768 : Shape := ⟨2, ![256, 768]⟩
abbrev S64x768 : Shape := ⟨2, ![64, 768]⟩
abbrev S256x128 : Shape := ⟨2, ![256, 128]⟩
abbrev S384x768 : Shape := ⟨2, ![384, 768]⟩
abbrev S128x128 : Shape := ⟨2, ![128, 128]⟩
abbrev S128x256 : Shape := ⟨2, ![128, 256]⟩
abbrev S128 : Shape := ⟨1, ![128]⟩
abbrev S128x1 : Shape := ⟨2, ![128, 1]⟩

abbrev nBuf : Space → Nat
  | .hbm => 5
  | .vmem => 20
  | .smem => 0
  | _ => 0

abbrev bufTy : (tb : Table) → Fin (tcTables nBuf tb) → BufTy
  | .hbm, ⟨0, _⟩ => ⟨S49152x768, .bf16⟩
  | .hbm, ⟨1, _⟩ => ⟨S49152x768, .bf16⟩
  | .hbm, ⟨2, _⟩ => ⟨S49152x768, .bf16⟩
  | .hbm, ⟨3, _⟩ => ⟨S49152x768, .f32⟩
  | .hbm, ⟨4, _⟩ => ⟨S49152x128, .f32⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S64x768, .bf16⟩
  | .local _ .vmem, ⟨5, _⟩ => ⟨S64x768, .bf16⟩
  | .local _ .vmem, ⟨6, _⟩ => ⟨S64x768, .bf16⟩
  | .local _ .vmem, ⟨7, _⟩ => ⟨S64x768, .bf16⟩
  | .local _ .vmem, ⟨8, _⟩ => ⟨S256x768, .bf16⟩
  | .local _ .vmem, ⟨9, _⟩ => ⟨S256x768, .bf16⟩
  | .local _ .vmem, ⟨10, _⟩ => ⟨S64x768, .bf16⟩
  | .local _ .vmem, ⟨11, _⟩ => ⟨S64x768, .bf16⟩
  | .local _ .vmem, ⟨12, _⟩ => ⟨S64x768, .bf16⟩
  | .local _ .vmem, ⟨13, _⟩ => ⟨S64x768, .bf16⟩
  | .local _ .vmem, ⟨14, _⟩ => ⟨S256x768, .f32⟩
  | .local _ .vmem, ⟨15, _⟩ => ⟨S256x768, .f32⟩
  | .local _ .vmem, ⟨16, _⟩ => ⟨S256x128, .f32⟩
  | .local _ .vmem, ⟨17, _⟩ => ⟨S256x128, .f32⟩
  | .local _ .vmem, ⟨18, _⟩ => ⟨S384x768, .bf16⟩
  | .local _ .vmem, ⟨19, _⟩ => ⟨S384x768, .bf16⟩
  | _, _ => ⟨S49152x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![192, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c767_i32 : BitVec 32 := 767#32
  let v2 : BitVec 32 := Scalar.minsi v1 c767_i32
  let c0_i32 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c767_i32 : BitVec 32 := 767#32
  let v2 : BitVec 32 := Scalar.minsi v1 c767_i32
  let c0_i32 : BitVec 32 := 0#32
  ![v2.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S49152x768 : Shape := ⟨2, ![49152, 768]⟩
abbrev S32768x768 : Shape := ⟨2, ![32768, 768]⟩
abbrev S8x4096x12x64 : Shape := ⟨4, ![8, 4096, 12, 64]⟩
abbrev S8x4096x1x12x64 : Shape := ⟨5, ![8, 4096, 1, 12, 64]⟩
abbrev S8x1x4096x12x64 : Shape := ⟨5, ![8, 1, 4096, 12, 64]⟩
abbrev S_ : Shape := ⟨0, ![]⟩
abbrev S8x64x64x12x64 : Shape := ⟨5, ![8, 64, 64, 12, 64]⟩
abbrev S8x4224x12x64 : Shape := ⟨4, ![8, 4224, 12, 64]⟩
abbrev S8x66x64x12x64 : Shape := ⟨5, ![8, 66, 64, 12, 64]⟩
abbrev S8x64x192x12x64 : Shape := ⟨5, ![8, 64, 192, 12, 64]⟩
abbrev S8x64x12x64x192 : Shape := ⟨5, ![8, 64, 12, 64, 192]⟩
abbrev S64 : Shape := ⟨1, ![64]⟩
abbrev S64x1x1 : Shape := ⟨3, ![64, 1, 1]⟩
abbrev S1x64x1 : Shape := ⟨3, ![1, 64, 1]⟩
abbrev S64x64x1 : Shape := ⟨3, ![64, 64, 1]⟩
abbrev S192 : Shape := ⟨1, ![192]⟩
abbrev S1x1x192 : Shape := ⟨3, ![1, 1, 192]⟩
abbrev S64x1x192 : Shape := ⟨3, ![64, 1, 192]⟩
abbrev S64x64x192 : Shape := ⟨3, ![64, 64, 192]⟩
abbrev S1x64x1x64x192 : Shape := ⟨5, ![1, 64, 1, 64, 192]⟩
abbrev S8x64x12x64 : Shape := ⟨4, ![8, 64, 12, 64]⟩
abbrev S8x64x12x64x1 : Shape := ⟨5, ![8, 64, 12, 64, 1]⟩
abbrev S8x64x12x64x64 : Shape := ⟨5, ![8, 64, 12, 64, 64]⟩
abbrev S8x64x64x12 : Shape := ⟨4, ![8, 64, 64, 12]⟩
abbrev S8x4096x12 : Shape := ⟨3, ![8, 4096, 12]⟩
abbrev S8x1x4096x12 : Shape := ⟨4, ![8, 1, 4096, 12]⟩
abbrev S8x4096x1x12 : Shape := ⟨4, ![8, 4096, 1, 12]⟩
abbrev S16384x768 : Shape := ⟨2, ![16384, 768]⟩
abbrev S1x16384x12x64 : Shape := ⟨4, ![1, 16384, 12, 64]⟩
abbrev S1x16384x1x12x64 : Shape := ⟨5, ![1, 16384, 1, 12, 64]⟩
abbrev S1x1x16384x12x64 : Shape := ⟨5, ![1, 1, 16384, 12, 64]⟩
abbrev S1x256x64x12x64 : Shape := ⟨5, ![1, 256, 64, 12, 64]⟩
abbrev S1x16512x12x64 : Shape := ⟨4, ![1, 16512, 12, 64]⟩
abbrev S1x258x64x12x64 : Shape := ⟨5, ![1, 258, 64, 12, 64]⟩
abbrev S1x256x192x12x64 : Shape := ⟨5, ![1, 256, 192, 12, 64]⟩
abbrev S1x256x12x64x192 : Shape := ⟨5, ![1, 256, 12, 64, 192]⟩
abbrev S256 : Shape := ⟨1, ![256]⟩
abbrev S256x1x1 : Shape := ⟨3, ![256, 1, 1]⟩
abbrev S256x64x1 : Shape := ⟨3, ![256, 64, 1]⟩
abbrev S256x1x192 : Shape := ⟨3, ![256, 1, 192]⟩
abbrev S256x64x192 : Shape := ⟨3, ![256, 64, 192]⟩
abbrev S1x256x1x64x192 : Shape := ⟨5, ![1, 256, 1, 64, 192]⟩
abbrev S1x256x12x64 : Shape := ⟨4, ![1, 256, 12, 64]⟩
abbrev S1x256x12x64x1 : Shape := ⟨5, ![1, 256, 12, 64, 1]⟩
abbrev S1x256x12x64x64 : Shape := ⟨5, ![1, 256, 12, 64, 64]⟩
abbrev S1x256x64x12 : Shape := ⟨4, ![1, 256, 64, 12]⟩
abbrev S1x16384x12 : Shape := ⟨3, ![1, 16384, 12]⟩
abbrev S1x1x16384x12 : Shape := ⟨4, ![1, 1, 16384, 12]⟩
abbrev S1x16384x1x12 : Shape := ⟨4, ![1, 16384, 1, 12]⟩
abbrev S32768x12 : Shape := ⟨2, ![32768, 12]⟩
abbrev S16384x12 : Shape := ⟨2, ![16384, 12]⟩
abbrev S49152x12 : Shape := ⟨2, ![49152, 12]⟩
abbrev S49152x128 : Shape := ⟨2, ![49152, 128]⟩

abbrev nBuf : Space → Nat
  | .hbm => 229
  | .vmem => 0
  | .smem => 0
  | _ => 0

abbrev hbmTy0_0 (i : Nat) : BufTy := match i % 128 with
  | 0 => ⟨S49152x768, .bf16⟩
  | 1 => ⟨S49152x768, .bf16⟩
  | 2 => ⟨S49152x768, .bf16⟩
  | 3 => ⟨S49152x768, .f32⟩
  | 4 => ⟨S49152x768, .f32⟩
  | 5 => ⟨S49152x768, .f32⟩
  | 6 => ⟨S32768x768, .f32⟩
  | 7 => ⟨S8x4096x12x64, .f32⟩
  | 8 => ⟨S32768x768, .f32⟩
  | 9 => ⟨S8x4096x12x64, .f32⟩
  | 10 => ⟨S32768x768, .f32⟩
  | 11 => ⟨S8x4096x12x64, .f32⟩
  | 12 => ⟨S8x4096x1x12x64, .f32⟩
  | 13 => ⟨S8x1x4096x12x64, .f32⟩
  | 14 => ⟨S8x4096x12x64, .f32⟩
  | 15 => ⟨S8x4096x1x12x64, .f32⟩
  | 16 => ⟨S8x1x4096x12x64, .f32⟩
  | 17 => ⟨S8x4096x12x64, .f32⟩
  | 18 => ⟨S8x4096x1x12x64, .f32⟩
  | 19 => ⟨S8x1x4096x12x64, .f32⟩
  | 20 => ⟨S8x4096x12x64, .f32⟩
  | 21 => ⟨S_, .i32⟩
  | 22 => ⟨S_, .f32⟩
  | 23 => ⟨S8x4096x12x64, .f32⟩
  | 24 => ⟨S8x64x64x12x64, .f32⟩
  | 25 => ⟨S_, .i32⟩
  | 26 => ⟨S_, .f32⟩
  | 27 => ⟨S8x4224x12x64, .f32⟩
  | 28 => ⟨S8x66x64x12x64, .f32⟩
  | 29 => ⟨S_, .i32⟩
  | 30 => ⟨S_, .f32⟩
  | 31 => ⟨S8x4224x12x64, .f32⟩
  | 32 => ⟨S8x66x64x12x64, .f32⟩
  | 33 => ⟨S8x64x64x12x64, .f32⟩
  | 34 => ⟨S8x64x64x12x64, .f32⟩
  | 35 => ⟨S8x64x64x12x64, .f32⟩
  | 36 => ⟨S8x64x192x12x64, .f32⟩
  | 37 => ⟨S8x64x64x12x64, .f32⟩
  | 38 => ⟨S8x64x64x12x64, .f32⟩
  | 39 => ⟨S8x64x64x12x64, .f32⟩
  | 40 => ⟨S8x64x192x12x64, .f32⟩
  | 41 => ⟨S8x64x12x64x192, .f32⟩
  | 42 => ⟨S64, .i32⟩
  | 43 => ⟨S64x1x1, .i32⟩
  | 44 => ⟨S_, .i32⟩
  | 45 => ⟨S64x1x1, .i32⟩
  | 46 => ⟨S64x1x1, .i32⟩
  | 47 => ⟨S64, .i32⟩
  | 48 => ⟨S1x64x1, .i32⟩
  | 49 => ⟨S64x64x1, .i32⟩
  | 50 => ⟨S64x64x1, .i32⟩
  | 51 => ⟨S64x64x1, .i32⟩
  | 52 => ⟨S64, .i32⟩
  | 53 => ⟨S64x1x1, .i32⟩
  | 54 => ⟨S_, .i32⟩
  | 55 => ⟨S64x1x1, .i32⟩
  | 56 => ⟨S64x1x1, .i32⟩
  | 57 => ⟨S192, .i32⟩
  | 58 => ⟨S1x1x192, .i32⟩
  | 59 => ⟨S64x1x192, .i32⟩
  | 60 => ⟨S64x1x192, .i32⟩
  | 61 => ⟨S64x1x192, .i32⟩
  | 62 => ⟨S_, .i32⟩
  | 63 => ⟨S64x1x192, .i32⟩
  | 64 => ⟨S64x1x192, .i32⟩
  | 65 => ⟨S64x64x192, .i32⟩
  | 66 => ⟨S64x64x192, .i32⟩
  | 67 => ⟨S64x64x192, .i32⟩
  | 68 => ⟨S64x64x192, .i32⟩
  | 69 => ⟨S_, .i32⟩
  | 70 => ⟨S64x64x192, .i32⟩
  | 71 => ⟨S64x64x192, .i1⟩
  | 72 => ⟨S_, .i32⟩
  | 73 => ⟨S64x1x192, .i32⟩
  | 74 => ⟨S64x1x192, .i1⟩
  | 75 => ⟨S64x64x192, .i1⟩
  | 76 => ⟨S64x64x192, .i1⟩
  | 77 => ⟨S_, .i32⟩
  | 78 => ⟨S64x1x192, .i32⟩
  | 79 => ⟨S64x1x192, .i1⟩
  | 80 => ⟨S64x64x192, .i1⟩
  | 81 => ⟨S64x64x192, .i1⟩
  | 82 => ⟨S1x64x1x64x192, .i1⟩
  | 83 => ⟨S_, .f32⟩
  | 84 => ⟨S_, .f32⟩
  | 85 => ⟨S8x64x12x64x192, .i1⟩
  | 86 => ⟨S8x64x12x64x192, .f32⟩
  | 87 => ⟨S8x64x12x64x192, .f32⟩
  | 88 => ⟨S_, .f32⟩
  | 89 => ⟨S8x64x12x64, .f32⟩
  | 90 => ⟨S8x64x12x64x1, .f32⟩
  | 91 => ⟨S8x64x12x64x192, .f32⟩
  | 92 => ⟨S8x64x12x64x192, .f32⟩
  | 93 => ⟨S8x64x12x64x192, .f32⟩
  | 94 => ⟨S_, .f32⟩
  | 95 => ⟨S8x64x12x64, .f32⟩
  | 96 => ⟨S8x64x12x64, .f32⟩
  | 97 => ⟨S8x64x12x64, .f32⟩
  | 98 => ⟨S8x64x12x64x1, .f32⟩
  | 99 => ⟨S8x64x12x64x192, .f32⟩
  | 100 => ⟨S8x64x12x64x192, .f32⟩
  | 101 => ⟨S8x64x12x64x192, .f32⟩
  | 102 => ⟨S8x64x12x64x64, .f32⟩
  | 103 => ⟨S8x64x64x12x64, .f32⟩
  | 104 => ⟨S8x4096x12x64, .f32⟩
  | 105 => ⟨S8x64x64x12, .f32⟩
  | 106 => ⟨S8x4096x12, .f32⟩
  | 107 => ⟨S8x1x4096x12x64, .f32⟩
  | 108 => ⟨S8x4096x1x12x64, .f32⟩
  | 109 => ⟨S8x4096x12x64, .f32⟩
  | 110 => ⟨S8x1x4096x12, .f32⟩
  | 111 => ⟨S8x4096x1x12, .f32⟩
  | 112 => ⟨S8x4096x12, .f32⟩
  | 113 => ⟨S16384x768, .f32⟩
  | 114 => ⟨S1x16384x12x64, .f32⟩
  | 115 => ⟨S16384x768, .f32⟩
  | 116 => ⟨S1x16384x12x64, .f32⟩
  | 117 => ⟨S16384x768, .f32⟩
  | 118 => ⟨S1x16384x12x64, .f32⟩
  | 119 => ⟨S1x16384x1x12x64, .f32⟩
  | 120 => ⟨S1x1x16384x12x64, .f32⟩
  | 121 => ⟨S1x16384x12x64, .f32⟩
  | 122 => ⟨S1x16384x1x12x64, .f32⟩
  | 123 => ⟨S1x1x16384x12x64, .f32⟩
  | 124 => ⟨S1x16384x12x64, .f32⟩
  | 125 => ⟨S1x16384x1x12x64, .f32⟩
  | 126 => ⟨S1x1x16384x12x64, .f32⟩
  | 127 => ⟨S1x16384x12x64, .f32⟩
  | _ => ⟨S49152x768, .bf16⟩

abbrev hbmTy0_1 (i : Nat) : BufTy := match i % 128 with
  | 0 => ⟨S_, .i32⟩
  | 1 => ⟨S_, .f32⟩
  | 2 => ⟨S1x16384x12x64, .f32⟩
  | 3 => ⟨S1x256x64x12x64, .f32⟩
  | 4 => ⟨S_, .i32⟩
  | 5 => ⟨S_, .f32⟩
  | 6 => ⟨S1x16512x12x64, .f32⟩
  | 7 => ⟨S1x258x64x12x64, .f32⟩
  | 8 => ⟨S_, .i32⟩
  | 9 => ⟨S_, .f32⟩
  | 10 => ⟨S1x16512x12x64, .f32⟩
  | 11 => ⟨S1x258x64x12x64, .f32⟩
  | 12 => ⟨S1x256x64x12x64, .f32⟩
  | 13 => ⟨S1x256x64x12x64, .f32⟩
  | 14 => ⟨S1x256x64x12x64, .f32⟩
  | 15 => ⟨S1x256x192x12x64, .f32⟩
  | 16 => ⟨S1x256x64x12x64, .f32⟩
  | 17 => ⟨S1x256x64x12x64, .f32⟩
  | 18 => ⟨S1x256x64x12x64, .f32⟩
  | 19 => ⟨S1x256x192x12x64, .f32⟩
  | 20 => ⟨S1x256x12x64x192, .f32⟩
  | 21 => ⟨S256, .i32⟩
  | 22 => ⟨S256x1x1, .i32⟩
  | 23 => ⟨S_, .i32⟩
  | 24 => ⟨S256x1x1, .i32⟩
  | 25 => ⟨S256x1x1, .i32⟩
  | 26 => ⟨S64, .i32⟩
  | 27 => ⟨S1x64x1, .i32⟩
  | 28 => ⟨S256x64x1, .i32⟩
  | 29 => ⟨S256x64x1, .i32⟩
  | 30 => ⟨S256x64x1, .i32⟩
  | 31 => ⟨S256, .i32⟩
  | 32 => ⟨S256x1x1, .i32⟩
  | 33 => ⟨S_, .i32⟩
  | 34 => ⟨S256x1x1, .i32⟩
  | 35 => ⟨S256x1x1, .i32⟩
  | 36 => ⟨S192, .i32⟩
  | 37 => ⟨S1x1x192, .i32⟩
  | 38 => ⟨S256x1x192, .i32⟩
  | 39 => ⟨S256x1x192, .i32⟩
  | 40 => ⟨S256x1x192, .i32⟩
  | 41 => ⟨S_, .i32⟩
  | 42 => ⟨S256x1x192, .i32⟩
  | 43 => ⟨S256x1x192, .i32⟩
  | 44 => ⟨S256x64x192, .i32⟩
  | 45 => ⟨S256x64x192, .i32⟩
  | 46 => ⟨S256x64x192, .i32⟩
  | 47 => ⟨S256x64x192, .i32⟩
  | 48 => ⟨S_, .i32⟩
  | 49 => ⟨S256x64x192, .i32⟩
  | 50 => ⟨S256x64x192, .i1⟩
  | 51 => ⟨S_, .i32⟩
  | 52 => ⟨S256x1x192, .i32⟩
  | 53 => ⟨S256x1x192, .i1⟩
  | 54 => ⟨S256x64x192, .i1⟩
  | 55 => ⟨S256x64x192, .i1⟩
  | 56 => ⟨S_, .i32⟩
  | 57 => ⟨S256x1x192, .i32⟩
  | 58 => ⟨S256x1x192, .i1⟩
  | 59 => ⟨S256x64x192, .i1⟩
  | 60 => ⟨S256x64x192, .i1⟩
  | 61 => ⟨S1x256x1x64x192, .i1⟩
  | 62 => ⟨S_, .f32⟩
  | 63 => ⟨S_, .f32⟩
  | 64 => ⟨S1x256x12x64x192, .i1⟩
  | 65 => ⟨S1x256x12x64x192, .f32⟩
  | 66 => ⟨S1x256x12x64x192, .f32⟩
  | 67 => ⟨S_, .f32⟩
  | 68 => ⟨S1x256x12x64, .f32⟩
  | 69 => ⟨S1x256x12x64x1, .f32⟩
  | 70 => ⟨S1x256x12x64x192, .f32⟩
  | 71 => ⟨S1x256x12x64x192, .f32⟩
  | 72 => ⟨S1x256x12x64x192, .f32⟩
  | 73 => ⟨S_, .f32⟩
  | 74 => ⟨S1x256x12x64, .f32⟩
  | 75 => ⟨S1x256x12x64, .f32⟩
  | 76 => ⟨S1x256x12x64, .f32⟩
  | 77 => ⟨S1x256x12x64x1, .f32⟩
  | 78 => ⟨S1x256x12x64x192, .f32⟩
  | 79 => ⟨S1x256x12x64x192, .f32⟩
  | 80 => ⟨S1x256x12x64x192, .f32⟩
  | 81 => ⟨S1x256x12x64x64, .f32⟩
  | 82 => ⟨S1x256x64x12x64, .f32⟩
  | 83 => ⟨S1x16384x12x64, .f32⟩
  | 84 => ⟨S1x256x64x12, .f32⟩
  | 85 => ⟨S1x16384x12, .f32⟩
  | 86 => ⟨S1x1x16384x12x64, .f32⟩
  | 87 => ⟨S1x16384x1x12x64, .f32⟩
  | 88 => ⟨S1x16384x12x64, .f32⟩
  | 89 => ⟨S1x1x16384x12, .f32⟩
  | 90 => ⟨S1x16384x1x12, .f32⟩
  | 91 => ⟨S1x16384x12, .f32⟩
  | 92 => ⟨S32768x768, .f32⟩
  | 93 => ⟨S16384x768, .f32⟩
  | 94 => ⟨S49152x768, .f32⟩
  | 95 => ⟨S32768x12, .f32⟩
  | 96 => ⟨S16384x12, .f32⟩
  | 97 => ⟨S49152x12, .f32⟩
  | 98 => ⟨S_, .i32⟩
  | 99 => ⟨S_, .f32⟩
  | 100 => ⟨S49152x128, .f32⟩
  | _ => ⟨S49152x768, .bf16⟩

abbrev hbmTy (i : Nat) : BufTy := match i / 128 with
  | 0 => hbmTy0_0 i
  | 1 => hbmTy0_1 i
  | _ => ⟨S49152x768, .bf16⟩

abbrev bufTy : (tb : Table) → Fin (tcTables nBuf tb) → BufTy
  | .hbm, ⟨i, _⟩ => hbmTy i
  | _, _ => ⟨S49152x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_call1_v0 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_call2_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_4 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_5 : Ref sig .tc := ⟨.hbm, 69, rfl⟩
abbrev main_v57 : Ref sig .tc := ⟨.hbm, 70, rfl⟩
abbrev main_v58 : Ref sig .tc := ⟨.hbm, 71, rfl⟩
abbrev main_c_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_c_10 : Ref sig .tc := ⟨.hbm, 128, rfl⟩
abbrev main_call4_v0 : Ref sig .tc := ⟨.hbm, 129, rfl⟩
abbrev main_v107 : Ref sig .tc := ⟨.hbm, 130, rfl⟩
abbrev main_v108 : Ref sig .tc := ⟨.hbm, 131, rfl⟩
abbrev main_c_11 : Ref sig .tc := ⟨.hbm, 132, rfl⟩
abbrev main_call5_v0 : Ref sig .tc := ⟨.hbm, 133, rfl⟩
abbrev main_v109 : Ref sig .tc := ⟨.hbm, 134, rfl⟩
abbrev main_v110 : Ref sig .tc := ⟨.hbm, 135, rfl⟩
abbrev main_c_12 : Ref sig .tc := ⟨.hbm, 136, rfl⟩
abbrev main_call6_v0 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_c_13 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_c_14 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_c_15 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_c_16 : Ref sig .tc := ⟨.hbm, 176, rfl⟩
abbrev main_v146 : Ref sig .tc := ⟨.hbm, 177, rfl⟩
abbrev main_v147 : Ref sig .tc := ⟨.hbm, 178, rfl⟩
abbrev main_c_17 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_c_18 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_19 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v157 : Ref sig .tc := ⟨.hbm, 194, rfl⟩
abbrev main_cst_20 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_21 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_c_22 : Ref sig .tc := ⟨.hbm, 226, rfl⟩
abbrev main_call8_v0 : Ref sig .tc := ⟨.hbm, 227, rfl⟩
abbrev main_v187 : Ref sig .tc := ⟨.hbm, 228, rfl⟩

abbrev nD : Nat := 1
abbrev τ : Topo := Topo.v7x

variable {F : FTy → Type} [FloatOps F]
-- ==== Kernel2.lean ====
abbrev S49152x2048 : Shape := ⟨2, ![49152, 2048]⟩
abbrev S2x2048x5632 : Shape := ⟨3, ![2, 2048, 5632]⟩
abbrev S2x5632x2048 : Shape := ⟨3, ![2, 5632, 2048]⟩
abbrev S2x2048 : Shape := ⟨2, ![2, 2048]⟩
abbrev S2x1x2048 : Shape := ⟨3, ![2, 1, 2048]⟩
abbrev S512x2048 : Shape := ⟨2, ![512, 2048]⟩
abbrev S1x2048x512 : Shape := ⟨3, ![1, 2048, 512]⟩
abbrev S1x512x2048 : Shape := ⟨3, ![1, 512, 2048]⟩
abbrev S1x1x2048 : Shape := ⟨3, ![1, 1, 2048]⟩
abbrev S2048x512 : Shape := ⟨2, ![2048, 512]⟩
abbrev S512x512 : Shape := ⟨2, ![512, 512]⟩
abbrev S1x2048 : Shape := ⟨2, ![1, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S49152x2048, .f32⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S2x2048, .f32⟩
  | .hbm, ⟨5, _⟩ => ⟨S2x2048, .f32⟩
  | .hbm, ⟨6, _⟩ => ⟨S2x2048x5632, .bf16⟩
  | .hbm, ⟨7, _⟩ => ⟨S2x2048x5632, .bf16⟩
  | .hbm, ⟨8, _⟩ => ⟨S2x5632x2048, .bf16⟩
  | .hbm, ⟨9, _⟩ => ⟨S2x1x2048, .f32⟩
  | .hbm, ⟨10, _⟩ => ⟨S2x1x2048, .f32⟩
  | .hbm, ⟨11, _⟩ => ⟨S49152x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![96, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S49152x2048 : Shape := ⟨2, ![49152, 2048]⟩
abbrev S2x2048x5632 : Shape := ⟨3, ![2, 2048, 5632]⟩
abbrev S2x5632x2048 : Shape := ⟨3, ![2, 5632, 2048]⟩
abbrev S2x2048 : Shape := ⟨2, ![2, 2048]⟩
abbrev S_ : Shape := ⟨0, ![]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S49152x5632 : Shape := ⟨2, ![49152, 5632]⟩
abbrev S1x2048 : Shape := ⟨2, ![1, 2048]⟩
abbrev S2048 : Shape := ⟨1, ![2048]⟩
abbrev S49152 : Shape := ⟨1, ![49152]⟩
abbrev S49152x1 : Shape := ⟨2, ![49152, 1]⟩

abbrev nBuf : Space → Nat
  | .hbm => 65
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S2x2048, .f32⟩
  | .hbm, ⟨5, _⟩ => ⟨S2x2048, .f32⟩
  | .hbm, ⟨6, _⟩ => ⟨S_, .f32⟩
  | .hbm, ⟨7, _⟩ => ⟨S49152x2048, .f32⟩
  | .hbm, ⟨8, _⟩ => ⟨S49152x2048, .f32⟩
  | .hbm, ⟨9, _⟩ => ⟨S1x2048x5632, .f32⟩
  | .hbm, ⟨10, _⟩ => ⟨S2048x5632, .f32⟩
  | .hbm, ⟨11, _⟩ => ⟨S1x2048x5632, .f32⟩
  | .hbm, ⟨12, _⟩ => ⟨S2048x5632, .f32⟩
  | .hbm, ⟨13, _⟩ => ⟨S1x5632x2048, .f32⟩
  | .hbm, ⟨14, _⟩ => ⟨S5632x2048, .f32⟩
  | .hbm, ⟨15, _⟩ => ⟨S49152x5632, .f32⟩
  | .hbm, ⟨16, _⟩ => ⟨S49152x5632, .f32⟩
  | .hbm, ⟨17, _⟩ => ⟨S49152x5632, .f32⟩
  | .hbm, ⟨18, _⟩ => ⟨S_, .f32⟩
  | .hbm, ⟨19, _⟩ => ⟨S49152x5632, .f32⟩
  | .hbm, ⟨20, _⟩ => ⟨S49152x5632, .f32⟩
  | .hbm, ⟨21, _⟩ => ⟨S_, .f32⟩
  | .hbm, ⟨22, _⟩ => ⟨S49152x5632, .f32⟩
  | .hbm, ⟨23, _⟩ => ⟨S49152x5632, .f32⟩
  | .hbm, ⟨24, _⟩ => ⟨S49152x5632, .f32⟩
  | .hbm, ⟨25, _⟩ => ⟨S49152x5632, .f32⟩
  | .hbm, ⟨26, _⟩ => ⟨S49152x5632, .f32⟩
  | .hbm, ⟨27, _⟩ => ⟨S49152x2048, .f32⟩
  | .hbm, ⟨28, _⟩ => ⟨S_, .f32⟩
  | .hbm, ⟨29, _⟩ => ⟨S49152x2048, .f32⟩
  | .hbm, ⟨30, _⟩ => ⟨S49152x2048, .f32⟩
  | .hbm, ⟨31, _⟩ => ⟨S49152x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S_, .f32⟩
  | .hbm, ⟨37, _⟩ => ⟨S49152, .f32⟩
  | .hbm, ⟨38, _⟩ => ⟨S49152x1, .f32⟩
  | .hbm, ⟨39, _⟩ => ⟨S_, .f32⟩
  | .hbm, ⟨40, _⟩ => ⟨S49152x1, .f32⟩
  | .hbm, ⟨41, _⟩ => ⟨S49152x1, .f32⟩
  | .hbm, ⟨42, _⟩ => ⟨S49152x2048, .f32⟩
  | .hbm, ⟨43, _⟩ => ⟨S49152x2048, .f32⟩
  | .hbm, ⟨44, _⟩ => ⟨S49152x2048, .f32⟩
  | .hbm, ⟨45, _⟩ => ⟨S_, .f32⟩
  | .hbm, ⟨46, _⟩ => ⟨S49152, .f32⟩
  | .hbm, ⟨47, _⟩ => ⟨S49152x1, .f32⟩
  | .hbm, ⟨48, _⟩ => ⟨S_, .f32⟩
  | .hbm, ⟨49, _⟩ => ⟨S49152x1, .f32⟩
  | .hbm, ⟨50, _⟩ => ⟨S49152x1, .f32⟩
  | .hbm, ⟨51, _⟩ => ⟨S49152x2048, .f32⟩
  | .hbm, ⟨52, _⟩ => ⟨S49152x2048, .f32⟩
  | .hbm, ⟨53, _⟩ => ⟨S_, .f32⟩
  | .hbm, ⟨54, _⟩ => ⟨S49152x1, .f32⟩
  | .hbm, ⟨55, _⟩ => ⟨S49152x1, .f32⟩
  | .hbm, ⟨56, _⟩ => ⟨S49152x1, .f32⟩
  | .hbm, ⟨57, _⟩ => ⟨S49152x2048, .f32⟩
  | .hbm, ⟨58, _⟩ => ⟨S49152x2048, .f32⟩
  | .hbm, ⟨59, _⟩ => ⟨S1x2048, .f32⟩
  | .hbm, ⟨60, _⟩ => ⟨S49152x2048, .f32⟩
  | .hbm, ⟨61, _⟩ => ⟨S49152x2048, .f32⟩
  | .hbm, ⟨62, _⟩ => ⟨S1x2048, .f32⟩
  | .hbm, ⟨63, _⟩ => ⟨S49152x2048, .f32⟩
  | .hbm, ⟨64, _⟩ => ⟨S49152x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel3.lean ====
abbrev S49152x2048 : Shape := ⟨2, ![49152, 2048]⟩
abbrev S2x2048x4864 : Shape := ⟨3, ![2, 2048, 4864]⟩
abbrev S8 : Shape := ⟨1, ![8]⟩
abbrev S_ : Shape := ⟨0, ![]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S2x2048x2304 : Shape := ⟨3, ![2, 2048, 2304]⟩
abbrev S2x2048x2560 : Shape := ⟨3, ![2, 2048, 2560]⟩
abbrev S49152x768 : Shape := ⟨2, ![49152, 768]⟩
abbrev S49152x1280 : Shape := ⟨2, ![49152, 1280]⟩
abbrev S512x2048 : Shape := ⟨2, ![512, 2048]⟩
abbrev S1x2048x768 : Shape := ⟨3, ![1, 2048, 768]⟩
abbrev S1x2048x1280 : Shape := ⟨3, ![1, 2048, 1280]⟩
abbrev S512x128 : Shape := ⟨2, ![512, 128]⟩
abbrev S512x768 : Shape := ⟨2, ![512, 768]⟩
abbrev S512x1280 : Shape := ⟨2, ![512, 1280]⟩
abbrev S2048x768 : Shape := ⟨2, ![2048, 768]⟩
abbrev S2048x1280 : Shape := ⟨2, ![2048, 1280]⟩

abbrev nBuf : Space → Nat
  | .hbm => 51
  | .vmem => 23
  | .smem => 0
  | _ => 0

abbrev bufTy : (tb : Table) → Fin (tcTables nBuf tb) → BufTy
  | .hbm, ⟨0, _⟩ => ⟨S49152x2048, .f32⟩
  | .hbm, ⟨1, _⟩ => ⟨S2x2048x4864, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S16384, .f32⟩
  | .hbm, ⟨17, _⟩ => ⟨S16384x1, .f32⟩
  | .hbm, ⟨18, _⟩ => ⟨S1x8, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S_, .f32⟩
  | .hbm, ⟨25, _⟩ => ⟨S16384x48, .f32⟩
  | .hbm, ⟨26, _⟩ => ⟨S_, .f32⟩
  | .hbm, ⟨27, _⟩ => ⟨S16384x48, .f32⟩
  | .hbm, ⟨28, _⟩ => ⟨S_, .f32⟩
  | .hbm, ⟨29, _⟩ => ⟨S16384x8, .f32⟩
  | .hbm, ⟨30, _⟩ => ⟨S16384x64, .f32⟩
  | .hbm, ⟨31, _⟩ => ⟨S1x16384x1x64, .f32⟩
  | .hbm, ⟨32, _⟩ => ⟨S1x16384x2x64, .f32⟩
  | .hbm, ⟨33, _⟩ => ⟨S16384x128, .f32⟩
  | .hbm, ⟨34, _⟩ => ⟨S16384x8, .f32⟩
  | .hbm, ⟨35, _⟩ => ⟨S16384x64, .f32⟩
  | .hbm, ⟨36, _⟩ => ⟨S1x16384x1x64, .f32⟩
  | .hbm, ⟨37, _⟩ => ⟨S1x16384x2x64, .f32⟩
  | .hbm, ⟨38, _⟩ => ⟨S16384x128, .f32⟩
  | .hbm, ⟨39, _⟩ => ⟨S16384x64, .f32⟩
  | .hbm, ⟨40, _⟩ => ⟨S1x16384x1x64, .f32⟩
  | .hbm, ⟨41, _⟩ => ⟨S1x16384x2x64, .f32⟩
  | .hbm, ⟨42, _⟩ => ⟨S16384x128, .f32⟩
  | .hbm, ⟨43, _⟩ => ⟨S2x2048x4864, .bf16⟩
  | .hbm, ⟨44, _⟩ => ⟨S2x2048x2304, .bf16⟩
  | .hbm, ⟨45, _⟩ => ⟨S2x2048x2560, .bf16⟩
  | .hbm, ⟨46, _⟩ => ⟨S49152x768, .bf16⟩
  | .hbm, ⟨47, _⟩ => ⟨S49152x768, .bf16⟩
  | .hbm, ⟨48, _⟩ => ⟨S49152x768, .bf16⟩
  | .hbm, ⟨49, _⟩ => ⟨S49152x1280, .f32⟩
  | .hbm, ⟨50, _⟩ => ⟨S49152x1280, .f32⟩
  | .local _ .vmem, ⟨0, _⟩ => ⟨S512x2048, .f32⟩
  | .local _ .vmem, ⟨1, _⟩ => ⟨S512x2048, .f32⟩
  | .local _ .vmem, ⟨2, _⟩ => ⟨S1x2048x768, .bf16⟩
  | .local _ .vmem, ⟨3, _⟩ => ⟨S1x2048x768, .bf16⟩
  | .local _ .vmem, ⟨4, _⟩ => ⟨S1x2048x768, .bf16⟩
  | .local _ .vmem, ⟨5, _⟩ => ⟨S1x2048x1280, .bf16⟩
  | .local _ .vmem, ⟨6, _⟩ => ⟨S1x2048x1280, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x1280, .f32⟩
  | .local _ .vmem, ⟨20, _⟩ => ⟨S512x1280, .f32⟩
  | .local _ .vmem, ⟨21, _⟩ => ⟨S512x1280, .f32⟩
  | .local _ .vmem, ⟨22, _⟩ => ⟨S512x1280, .f32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37_0 : Ref sig .tc := ⟨.hbm, 46, rfl⟩
abbrev main_v37_1 : Ref sig .tc := ⟨.hbm, 47, rfl⟩
abbrev main_v37_2 : Ref sig .tc := ⟨.hbm, 48, rfl⟩
abbrev main_v37_3 : Ref sig .tc := ⟨.hbm, 49, rfl⟩
abbrev main_v37_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_6 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.remsi arg0 c8_i32
  let c64_i32_0 : BitVec 32 := 64#32
  let v2 : BitVec 32 := Scalar.subi arg0 c64_i32_0
  let c0_i32 : BitVec 32 := 0#32
  let v3 : BitVec 32 := Scalar.maxsi v2 c0_i32
  let c32_i32 : BitVec 32 := 32#32
  let v4 : BitVec 32 := Scalar.remsi v3 c32_i32
  let v5 : BitVec 32 := Scalar.select v0 v1 v4
  let c0_i32_1 : BitVec 32 := 0#32
  let c0_i32_2 : BitVec 32 := 0#32
  ![v5.toNat, c0_i32_1.toNat]

def cc0_transform_7 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.remsi arg0 c8_i32
  let c64_i32_0 : BitVec 32 := 64#32
  let v2 : BitVec 32 := Scalar.subi arg0 c64_i32_0
  let c0_i32 : BitVec 32 := 0#32
  let v3 : BitVec 32 := Scalar.maxsi v2 c0_i32
  let c32_i32 : BitVec 32 := 32#32
  let v4 : BitVec 32 := Scalar.remsi v3 c32_i32
  let v5 : BitVec 32 := Scalar.select v0 v1 v4
  let c0_i32_1 : BitVec 32 := 0#32
  let c0_i32_2 : BitVec 32 := 0#32
  ![v5.toNat, c0_i32_1.toNat]

def cc0_transform_8 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.remsi arg0 c8_i32
  let c64_i32_0 : BitVec 32 := 64#32
  let v2 : BitVec 32 := Scalar.subi arg0 c64_i32_0
  let c0_i32 : BitVec 32 := 0#32
  let v3 : BitVec 32 := Scalar.maxsi v2 c0_i32
  let c32_i32 : BitVec 32 := 32#32
  let v4 : BitVec 32 := Scalar.remsi v3 c32_i32
  let v5 : BitVec 32 := Scalar.select v0 v1 v4
  let c0_i32_1 : BitVec 32 := 0#32
  let c0_i32_2 : BitVec 32 := 0#32
  ![v5.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S49152x2048 : Shape := ⟨2, ![49152, 2048]⟩
abbrev S2x2048x4864 : Shape := ⟨3, ![2, 2048, 4864]⟩
abbrev S32768x2048 : Shape := ⟨2, ![32768, 2048]⟩
abbrev S8x4096x2048 : Shape := ⟨3, ![8, 4096, 2048]⟩
abbrev S1x2048x4864 : Shape := ⟨3, ![1, 2048, 4864]⟩
abbrev S2048x4864 : Shape := ⟨2, ![2048, 4864]⟩
abbrev S8x4096x4864 : Shape := ⟨3, ![8, 4096, 4864]⟩
abbrev S8x4096x768 : Shape := ⟨3, ![8, 4096, 768]⟩
abbrev S8x4096x1280 : Shape := ⟨3, ![8, 4096, 1280]⟩
abbrev S8x4096x12x64 : Shape := ⟨4, ![8, 4096, 12, 64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S8x4096x12x16 : Shape := ⟨4, ![8, 4096, 12, 16]⟩
abbrev S8x4096x12x8 : Shape := ⟨4, ![8, 4096, 12, 8]⟩
abbrev S8x4096x12x48 : Shape := ⟨4, ![8, 4096, 12, 48]⟩
abbrev S32768x768 : Shape := ⟨2, ![32768, 768]⟩
abbrev S32768x1280 : Shape := ⟨2, ![32768, 1280]⟩
abbrev S16384x2048 : Shape := ⟨2, ![16384, 2048]⟩
abbrev S1x16384x2048 : Shape := ⟨3, ![1, 16384, 2048]⟩
abbrev S1x16384x4864 : Shape := ⟨3, ![1, 16384, 4864]⟩
abbrev S1x16384x768 : Shape := ⟨3, ![1, 16384, 768]⟩
abbrev S1x16384x1280 : Shape := ⟨3, ![1, 16384, 1280]⟩
abbrev S1x16384x12x64 : Shape := ⟨4, ![1, 16384, 12, 64]⟩
abbrev S16384 : Shape := ⟨1, ![16384]⟩
abbrev S16384x1 : Shape := ⟨2, ![16384, 1]⟩
abbrev S16384x8 : Shape := ⟨2, ![16384, 8]⟩
abbrev S1x16384x1x8 : Shape := ⟨4, ![1, 16384, 1, 8]⟩
abbrev S1x16384x12x16 : Shape := ⟨4, ![1, 16384, 12, 16]⟩
abbrev S1x16384x12x8 : Shape := ⟨4, ![1, 16384, 12, 8]⟩
abbrev S1x16384x12x48 : Shape := ⟨4, ![1, 16384, 12, 48]⟩
abbrev S16384x768 : Shape := ⟨2, ![16384, 768]⟩
abbrev S16384x1280 : Shape := ⟨2, ![16384, 1280]⟩
abbrev S49152x768 : Shape := ⟨2, ![49152, 768]⟩
abbrev S49152x1280 : Shape := ⟨2, ![49152, 1280]⟩

abbrev nBuf : Space → Nat
  | .hbm => 217
  | .vmem => 0
  | .smem => 0
  | _ => 0

abbrev hbmTy0_0 (i : Nat) : BufTy := match i % 128 with
  | 0 => ⟨S49152x2048, .f32⟩
  | 1 => ⟨S2x2048x4864, .f32⟩
  | 2 => ⟨S32768x2048, .f32⟩
  | 3 => ⟨S8x4096x2048, .f32⟩
  | 4 => ⟨S1x2048x4864, .f32⟩
  | 5 => ⟨S2048x4864, .f32⟩
  | 6 => ⟨S8x4096x4864, .f32⟩
  | 7 => ⟨S8x4096x768, .f32⟩
  | 8 => ⟨S8x4096x768, .f32⟩
  | 9 => ⟨S8x4096x768, .f32⟩
  | 10 => ⟨S8x4096x1280, .f32⟩
  | 11 => ⟨S8x4096x1280, .f32⟩
  | 12 => ⟨S8x4096x12x64, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S4096, .f32⟩
  | 28 => ⟨S4096x1, .f32⟩
  | 29 => ⟨S1x8, .f32⟩
  | 30 => ⟨S4096x8, .f32⟩
  | 31 => ⟨S4096x8, .f32⟩
  | 32 => ⟨S4096x8, .f32⟩
  | 33 => ⟨S4096x8, .f32⟩
  | 34 => ⟨S1x4096x1x8, .f32⟩
  | 35 => ⟨S4096x8, .f32⟩
  | 36 => ⟨S1x4096x1x8, .f32⟩
  | 37 => ⟨S8x4096x12x16, .f32⟩
  | 38 => ⟨S8x4096x12x8, .f32⟩
  | 39 => ⟨S8x4096x12x8, .f32⟩
  | 40 => ⟨S8x4096x12x8, .f32⟩
  | 41 => ⟨S8x4096x12x8, .f32⟩
  | 42 => ⟨S8x4096x12x8, .f32⟩
  | 43 => ⟨S8x4096x12x8, .f32⟩
  | 44 => ⟨S8x4096x12x8, .f32⟩
  | 45 => ⟨S8x4096x12x8, .f32⟩
  | 46 => ⟨S8x4096x12x8, .f32⟩
  | 47 => ⟨S8x4096x12x8, .f32⟩
  | 48 => ⟨S8x4096x12x8, .f32⟩
  | 49 => ⟨S8x4096x12x8, .f32⟩
  | 50 => ⟨S8x4096x12x16, .f32⟩
  | 51 => ⟨S8x4096x12x48, .f32⟩
  | 52 => ⟨S8x4096x12x64, .f32⟩
  | 53 => ⟨S8x4096x768, .f32⟩
  | 54 => ⟨S8x4096x12x64, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S4096, .f32⟩
  | 70 => ⟨S4096x1, .f32⟩
  | 71 => ⟨S1x8, .f32⟩
  | 72 => ⟨S4096x8, .f32⟩
  | 73 => ⟨S4096x8, .f32⟩
  | 74 => ⟨S4096x8, .f32⟩
  | 75 => ⟨S4096x8, .f32⟩
  | 76 => ⟨S1x4096x1x8, .f32⟩
  | 77 => ⟨S4096x8, .f32⟩
  | 78 => ⟨S1x4096x1x8, .f32⟩
  | 79 => ⟨S8x4096x12x16, .f32⟩
  | 80 => ⟨S8x4096x12x8, .f32⟩
  | 81 => ⟨S8x4096x12x8, .f32⟩
  | 82 => ⟨S8x4096x12x8, .f32⟩
  | 83 => ⟨S8x4096x12x8, .f32⟩
  | 84 => ⟨S8x4096x12x8, .f32⟩
  | 85 => ⟨S8x4096x12x8, .f32⟩
  | 86 => ⟨S8x4096x12x8, .f32⟩
  | 87 => ⟨S8x4096x12x8, .f32⟩
  | 88 => ⟨S8x4096x12x8, .f32⟩
  | 89 => ⟨S8x4096x12x8, .f32⟩
  | 90 => ⟨S8x4096x12x8, .f32⟩
  | 91 => ⟨S8x4096x12x8, .f32⟩
  | 92 => ⟨S8x4096x12x16, .f32⟩
  | 93 => ⟨S8x4096x12x48, .f32⟩
  | 94 => ⟨S8x4096x12x64, .f32⟩
  | 95 => ⟨S8x4096x768, .f32⟩
  | 96 => ⟨S_, .f32⟩
  | 97 => ⟨S8x4096x768, .f32⟩
  | 98 => ⟨S8x4096x768, .f32⟩
  | 99 => ⟨S8x4096x768, .bf16⟩
  | 100 => ⟨S8x4096x768, .bf16⟩
  | 101 => ⟨S8x4096x768, .bf16⟩
  | 102 => ⟨S32768x768, .bf16⟩
  | 103 => ⟨S32768x768, .bf16⟩
  | 104 => ⟨S32768x768, .bf16⟩
  | 105 => ⟨S32768x1280, .f32⟩
  | 106 => ⟨S32768x1280, .f32⟩
  | 107 => ⟨S16384x2048, .f32⟩
  | 108 => ⟨S1x16384x2048, .f32⟩
  | 109 => ⟨S1x2048x4864, .f32⟩
  | 110 => ⟨S2048x4864, .f32⟩
  | 111 => ⟨S1x16384x4864, .f32⟩
  | 112 => ⟨S1x16384x768, .f32⟩
  | 113 => ⟨S1x16384x768, .f32⟩
  | 114 => ⟨S1x16384x768, .f32⟩
  | 115 => ⟨S1x16384x1280, .f32⟩
  | 116 => ⟨S1x16384x1280, .f32⟩
  | 117 => ⟨S1x16384x12x64, .f32⟩
  | 118 => ⟨S8, .f32⟩
  | 119 => ⟨S_, .f32⟩
  | 120 => ⟨S8, .f32⟩
  | 121 => ⟨S8, .f32⟩
  | 122 => ⟨S_, .f32⟩
  | 123 => ⟨S8, .f32⟩
  | 124 => ⟨S8, .f32⟩
  | 125 => ⟨S8, .f32⟩
  | 126 => ⟨S_, .f32⟩
  | 127 => ⟨S8, .f32⟩
  | _ => ⟨S49152x2048, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S16384, .f32⟩
  | 5 => ⟨S16384x1, .f32⟩
  | 6 => ⟨S1x8, .f32⟩
  | 7 => ⟨S16384x8, .f32⟩
  | 8 => ⟨S16384x8, .f32⟩
  | 9 => ⟨S16384x8, .f32⟩
  | 10 => ⟨S16384x8, .f32⟩
  | 11 => ⟨S1x16384x1x8, .f32⟩
  | 12 => ⟨S16384x8, .f32⟩
  | 13 => ⟨S1x16384x1x8, .f32⟩
  | 14 => ⟨S1x16384x12x16, .f32⟩
  | 15 => ⟨S1x16384x12x8, .f32⟩
  | 16 => ⟨S1x16384x12x8, .f32⟩
  | 17 => ⟨S1x16384x12x8, .f32⟩
  | 18 => ⟨S1x16384x12x8, .f32⟩
  | 19 => ⟨S1x16384x12x8, .f32⟩
  | 20 => ⟨S1x16384x12x8, .f32⟩
  | 21 => ⟨S1x16384x12x8, .f32⟩
  | 22 => ⟨S1x16384x12x8, .f32⟩
  | 23 => ⟨S1x16384x12x8, .f32⟩
  | 24 => ⟨S1x16384x12x8, .f32⟩
  | 25 => ⟨S1x16384x12x8, .f32⟩
  | 26 => ⟨S1x16384x12x8, .f32⟩
  | 27 => ⟨S1x16384x12x16, .f32⟩
  | 28 => ⟨S1x16384x12x48, .f32⟩
  | 29 => ⟨S1x16384x12x64, .f32⟩
  | 30 => ⟨S1x16384x768, .f32⟩
  | 31 => ⟨S1x16384x12x64, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S16384, .f32⟩
  | 47 => ⟨S16384x1, .f32⟩
  | 48 => ⟨S1x8, .f32⟩
  | 49 => ⟨S16384x8, .f32⟩
  | 50 => ⟨S16384x8, .f32⟩
  | 51 => ⟨S16384x8, .f32⟩
  | 52 => ⟨S16384x8, .f32⟩
  | 53 => ⟨S1x16384x1x8, .f32⟩
  | 54 => ⟨S16384x8, .f32⟩
  | 55 => ⟨S1x16384x1x8, .f32⟩
  | 56 => ⟨S1x16384x12x16, .f32⟩
  | 57 => ⟨S1x16384x12x8, .f32⟩
  | 58 => ⟨S1x16384x12x8, .f32⟩
  | 59 => ⟨S1x16384x12x8, .f32⟩
  | 60 => ⟨S1x16384x12x8, .f32⟩
  | 61 => ⟨S1x16384x12x8, .f32⟩
  | 62 => ⟨S1x16384x12x8, .f32⟩
  | 63 => ⟨S1x16384x12x8, .f32⟩
  | 64 => ⟨S1x16384x12x8, .f32⟩
  | 65 => ⟨S1x16384x12x8, .f32⟩
  | 66 => ⟨S1x16384x12x8, .f32⟩
  | 67 => ⟨S1x16384x12x8, .f32⟩
  | 68 => ⟨S1x16384x12x8, .f32⟩
  | 69 => ⟨S1x16384x12x16, .f32⟩
  | 70 => ⟨S1x16384x12x48, .f32⟩
  | 71 => ⟨S1x16384x12x64, .f32⟩
  | 72 => ⟨S1x16384x768, .f32⟩
  | 73 => ⟨S_, .f32⟩
  | 74 => ⟨S1x16384x768, .f32⟩
  | 75 => ⟨S1x16384x768, .f32⟩
  | 76 => ⟨S1x16384x768, .bf16⟩
  | 77 => ⟨S1x16384x768, .bf16⟩
  | 78 => ⟨S1x16384x768, .bf16⟩
  | 79 => ⟨S16384x768, .bf16⟩
  | 80 => ⟨S16384x768, .bf16⟩
  | 81 => ⟨S16384x768, .bf16⟩
  | 82 => ⟨S16384x1280, .f32⟩
  | 83 => ⟨S16384x1280, .f32⟩
  | 84 => ⟨S49152x768, .bf16⟩
  | 85 => ⟨S49152x768, .bf16⟩
  | 86 => ⟨S49152x768, .bf16⟩
  | 87 => ⟨S49152x1280, .f32⟩
  | 88 => ⟨S49152x1280, .f32⟩
  | _ => ⟨S49152x2048, .f32⟩

abbrev hbmTy (i : Nat) : BufTy := match i / 128 with
  | 0 => hbmTy0_0 i
  | 1 => hbmTy0_1 i
  | _ => ⟨S49152x2048, .f32⟩

abbrev bufTy : (tb : Table) → Fin (tcTables nBuf tb) → BufTy
  | .hbm, ⟨i, _⟩ => hbmTy i
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_5 : Ref sig .tc := ⟨.hbm, 63, rfl⟩
abbrev main_v55 : Ref sig .tc := ⟨.hbm, 64, rfl⟩
abbrev main_v56 : Ref sig .tc := ⟨.hbm, 65, rfl⟩
abbrev main_cst_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_7 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_cst_8 : Ref sig .tc := ⟨.hbm, 119, rfl⟩
abbrev main_v108 : Ref sig .tc := ⟨.hbm, 120, rfl⟩
abbrev main_v109 : Ref sig .tc := ⟨.hbm, 121, rfl⟩
abbrev main_cst_9 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_cst_10 : Ref sig .tc := ⟨.hbm, 126, rfl⟩
abbrev main_v113 : Ref sig .tc := ⟨.hbm, 127, rfl⟩
abbrev main_v114 : Ref sig .tc := ⟨.hbm, 128, rfl⟩
abbrev main_cst_11 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_cst_12 : Ref sig .tc := ⟨.hbm, 161, rfl⟩
abbrev main_v146 : Ref sig .tc := ⟨.hbm, 162, rfl⟩
abbrev main_v147 : Ref sig .tc := ⟨.hbm, 163, rfl⟩
abbrev main_cst_13 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_cst_14 : Ref sig .tc := ⟨.hbm, 168, rfl⟩
abbrev main_v151 : Ref sig .tc := ⟨.hbm, 169, rfl⟩
abbrev main_v152 : Ref sig .tc := ⟨.hbm, 170, rfl⟩
abbrev main_cst_15 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_cst_16 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩

abbrev nD : Nat := 1
abbrev τ : Topo := Topo.v7x

variable {F : FTy → Type} [FloatOps F]
-- ==== Kernel4.lean ====
abbrev S49152x2048 : Shape := ⟨2, ![49152, 2048]⟩
abbrev S49152x768 : Shape := ⟨2, ![49152, 768]⟩
abbrev S49152x128 : Shape := ⟨2, ![49152, 128]⟩
abbrev S49152x1280 : Shape := ⟨2, ![49152, 1280]⟩
abbrev S2x768 : Shape := ⟨2, ![2, 768]⟩
abbrev S2x1280 : Shape := ⟨2, ![2, 1280]⟩
abbrev S2x2048x2048 : Shape := ⟨3, ![2, 2048, 2048]⟩
abbrev S2x2048 : Shape := ⟨2, ![2, 2048]⟩
abbrev S2x1x768 : Shape := ⟨3, ![2, 1, 768]⟩
abbrev S2x1x1280 : Shape := ⟨3, ![2, 1, 1280]⟩
abbrev S2x1x2048 : Shape := ⟨3, ![2, 1, 2048]⟩
abbrev S256x2048 : Shape := ⟨2, ![256, 2048]⟩
abbrev S256x768 : Shape := ⟨2, ![256, 768]⟩
abbrev S256x128 : Shape := ⟨2, ![256, 128]⟩
abbrev S256x1280 : Shape := ⟨2, ![256, 1280]⟩
abbrev S1x1x768 : Shape := ⟨3, ![1, 1, 768]⟩
abbrev S1x1x1280 : Shape := ⟨3, ![1, 1, 1280]⟩
abbrev S1x2048x2048 : Shape := ⟨3, ![1, 2048, 2048]⟩
abbrev S1x1x2048 : Shape := ⟨3, ![1, 1, 2048]⟩
abbrev S256x1 : Shape := ⟨2, ![256, 1]⟩
abbrev S1x768 : Shape := ⟨2, ![1, 768]⟩
abbrev S256 : Shape := ⟨1, ![256]⟩
abbrev S1x1280 : Shape := ⟨2, ![1, 1280]⟩
abbrev S2048x2048 : Shape := ⟨2, ![2048, 2048]⟩
abbrev S1x2048 : Shape := ⟨2, ![1, 2048]⟩

abbrev nBuf : Space → Nat
  | .hbm => 21
  | .vmem => 28
  | .smem => 0
  | _ => 0

abbrev bufTy : (tb : Table) → Fin (tcTables nBuf tb) → BufTy
  | .hbm, ⟨0, _⟩ => ⟨S49152x2048, .f32⟩
  | .hbm, ⟨1, _⟩ => ⟨S49152x768, .f32⟩
  | .hbm, ⟨2, _⟩ => ⟨S49152x768, .f32⟩
  | .hbm, ⟨3, _⟩ => ⟨S49152x768, .f32⟩
  | .hbm, ⟨4, _⟩ => ⟨S49152x128, .f32⟩
  | .hbm, ⟨5, _⟩ => ⟨S49152x128, .f32⟩
  | .hbm, ⟨6, _⟩ => ⟨S49152x128, .f32⟩
  | .hbm, ⟨7, _⟩ => ⟨S49152x1280, .f32⟩
  | .hbm, ⟨8, _⟩ => ⟨S49152x1280, .f32⟩
  | .hbm, ⟨9, _⟩ => ⟨S49152x1280, .f32⟩
  | .hbm, ⟨10, _⟩ => ⟨S2x768, .f32⟩
  | .hbm, ⟨11, _⟩ => ⟨S2x1280, .f32⟩
  | .hbm, ⟨12, _⟩ => ⟨S2x2048x2048, .f32⟩
  | .hbm, ⟨13, _⟩ => ⟨S2x2048, .f32⟩
  | .hbm, ⟨14, _⟩ => ⟨S2x2048, .f32⟩
  | .hbm, ⟨15, _⟩ => ⟨S2x1x768, .f32⟩
  | .hbm, ⟨16, _⟩ => ⟨S2x1x1280, .f32⟩
  | .hbm, ⟨17, _⟩ => ⟨S2x2048x2048, .bf16⟩
  | .hbm, ⟨18, _⟩ => ⟨S2x1x2048, .f32⟩
  | .hbm, ⟨19, _⟩ => ⟨S2x1x2048, .f32⟩
  | .hbm, ⟨20, _⟩ => ⟨S49152x2048, .f32⟩
  | .local _ .vmem, ⟨0, _⟩ => ⟨S256x2048, .f32⟩
  | .local _ .vmem, ⟨1, _⟩ => ⟨S256x2048, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1280, .f32⟩
  | .local _ .vmem, ⟨15, _⟩ => ⟨S256x1280, .f32⟩
  | .local _ .vmem, ⟨16, _⟩ => ⟨S256x1280, .f32⟩
  | .local _ .vmem, ⟨17, _⟩ => ⟨S256x1280, .f32⟩
  | .local _ .vmem, ⟨18, _⟩ => ⟨S256x1280, .f32⟩
  | .local _ .vmem, ⟨19, _⟩ => ⟨S256x1280, .f32⟩
  | .local _ .vmem, ⟨20, _⟩ => ⟨S1x1x768, .f32⟩
  | .local _ .vmem, ⟨21, _⟩ => ⟨S1x1x1280, .f32⟩
  | .local _ .vmem, ⟨22, _⟩ => ⟨S1x2048x2048, .bf16⟩
  | .local _ .vmem, ⟨23, _⟩ => ⟨S1x1x2048, .f32⟩
  | .local _ .vmem, ⟨24, _⟩ => ⟨S1x1x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S49152x2048 : Shape := ⟨2, ![49152, 2048]⟩
abbrev S49152x768 : Shape := ⟨2, ![49152, 768]⟩
abbrev S49152x128 : Shape := ⟨2, ![49152, 128]⟩
abbrev S49152x1280 : Shape := ⟨2, ![49152, 1280]⟩
abbrev S2x768 : Shape := ⟨2, ![2, 768]⟩
abbrev S2x1280 : Shape := ⟨2, ![2, 1280]⟩
abbrev S2x2048x2048 : Shape := ⟨3, ![2, 2048, 2048]⟩
abbrev S2x2048 : Shape := ⟨2, ![2, 2048]⟩
abbrev S49152x12x64 : Shape := ⟨3, ![49152, 12, 64]⟩
abbrev S49152x12 : Shape := ⟨2, ![49152, 12]⟩
abbrev S49152x12x1 : Shape := ⟨3, ![49152, 12, 1]⟩
abbrev S49152x12x3 : Shape := ⟨3, ![49152, 12, 3]⟩
abbrev S_ : Shape := ⟨0, ![]⟩
abbrev S1x768 : Shape := ⟨2, ![1, 768]⟩
abbrev S768 : Shape := ⟨1, ![768]⟩
abbrev S49152 : Shape := ⟨1, ![49152]⟩
abbrev S49152x1 : Shape := ⟨2, ![49152, 1]⟩
abbrev S1x1280 : Shape := ⟨2, ![1, 1280]⟩
abbrev S1280 : Shape := ⟨1, ![1280]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩

abbrev nBuf : Space → Nat
  | .hbm => 156
  | .vmem => 0
  | .smem => 0
  | _ => 0

abbrev hbmTy0_0 (i : Nat) : BufTy := match i % 128 with
  | 0 => ⟨S49152x2048, .f32⟩
  | 1 => ⟨S49152x768, .f32⟩
  | 2 => ⟨S49152x768, .f32⟩
  | 3 => ⟨S49152x768, .f32⟩
  | 4 => ⟨S49152x128, .f32⟩
  | 5 => ⟨S49152x128, .f32⟩
  | 6 => ⟨S49152x128, .f32⟩
  | 7 => ⟨S49152x1280, .f32⟩
  | 8 => ⟨S49152x1280, .f32⟩
  | 9 => ⟨S49152x1280, .f32⟩
  | 10 => ⟨S2x768, .f32⟩
  | 11 => ⟨S2x1280, .f32⟩
  | 12 => ⟨S2x2048x2048, .f32⟩
  | 13 => ⟨S2x2048, .f32⟩
  | 14 => ⟨S2x2048, .f32⟩
  | 15 => ⟨S49152x12x64, .f32⟩
  | 16 => ⟨S49152x12x64, .f32⟩
  | 17 => ⟨S49152x12x64, .f32⟩
  | 18 => ⟨S49152x12, .f32⟩
  | 19 => ⟨S49152x12, .f32⟩
  | 20 => ⟨S49152x12, .f32⟩
  | 21 => ⟨S49152x12x1, .f32⟩
  | 22 => ⟨S49152x12x1, .f32⟩
  | 23 => ⟨S49152x12x1, .f32⟩
  | 24 => ⟨S49152x12x3, .f32⟩
  | 25 => ⟨S_, .f32⟩
  | 26 => ⟨S49152x12, .f32⟩
  | 27 => ⟨S_, .f32⟩
  | 28 => ⟨S49152x12, .f32⟩
  | 29 => ⟨S49152x12, .f32⟩
  | 30 => ⟨S49152x12x1, .f32⟩
  | 31 => ⟨S49152x12x3, .f32⟩
  | 32 => ⟨S49152x12x3, .f32⟩
  | 33 => ⟨S49152x12x3, .f32⟩
  | 34 => ⟨S_, .f32⟩
  | 35 => ⟨S49152x12, .f32⟩
  | 36 => ⟨S49152x12x1, .f32⟩
  | 37 => ⟨S49152x12x3, .f32⟩
  | 38 => ⟨S49152x12x3, .f32⟩
  | 39 => ⟨S49152x12x1, .f32⟩
  | 40 => ⟨S49152x12, .f32⟩
  | 41 => ⟨S49152x12x1, .f32⟩
  | 42 => ⟨S49152x12x64, .f32⟩
  | 43 => ⟨S49152x12x64, .f32⟩
  | 44 => ⟨S_, .f32⟩
  | 45 => ⟨S49152x12x64, .f32⟩
  | 46 => ⟨S49152x12x64, .f32⟩
  | 47 => ⟨S49152x12x1, .f32⟩
  | 48 => ⟨S49152x12, .f32⟩
  | 49 => ⟨S49152x12x1, .f32⟩
  | 50 => ⟨S49152x12x64, .f32⟩
  | 51 => ⟨S49152x12x64, .f32⟩
  | 52 => ⟨S49152x12x64, .f32⟩
  | 53 => ⟨S49152x12x1, .f32⟩
  | 54 => ⟨S49152x12, .f32⟩
  | 55 => ⟨S49152x12x1, .f32⟩
  | 56 => ⟨S49152x12x64, .f32⟩
  | 57 => ⟨S49152x12x64, .f32⟩
  | 58 => ⟨S49152x12x64, .f32⟩
  | 59 => ⟨S49152x768, .f32⟩
  | 60 => ⟨S49152x1280, .f32⟩
  | 61 => ⟨S49152x1280, .f32⟩
  | 62 => ⟨S49152x1280, .f32⟩
  | 63 => ⟨S_, .f32⟩
  | 64 => ⟨S49152x1280, .f32⟩
  | 65 => ⟨S49152x1280, .f32⟩
  | 66 => ⟨S49152x1280, .f32⟩
  | 67 => ⟨S_, .f32⟩
  | 68 => ⟨S49152x1280, .f32⟩
  | 69 => ⟨S49152x1280, .f32⟩
  | 70 => ⟨S49152x1280, .f32⟩
  | 71 => ⟨S_, .f32⟩
  | 72 => ⟨S49152x1280, .f32⟩
  | 73 => ⟨S49152x1280, .f32⟩
  | 74 => ⟨S_, .f32⟩
  | 75 => ⟨S49152x1280, .f32⟩
  | 76 => ⟨S49152x1280, .f32⟩
  | 77 => ⟨S49152x1280, .f32⟩
  | 78 => ⟨S49152x1280, .f32⟩
  | 79 => ⟨S1x768, .f32⟩
  | 80 => ⟨S768, .f32⟩
  | 81 => ⟨S49152x768, .f32⟩
  | 82 => ⟨S_, .f32⟩
  | 83 => ⟨S49152, .f32⟩
  | 84 => ⟨S49152x1, .f32⟩
  | 85 => ⟨S_, .f32⟩
  | 86 => ⟨S49152x1, .f32⟩
  | 87 => ⟨S49152x1, .f32⟩
  | 88 => ⟨S_, .f32⟩
  | 89 => ⟨S49152x1, .f32⟩
  | 90 => ⟨S49152x1, .f32⟩
  | 91 => ⟨S49152x1, .f32⟩
  | 92 => ⟨S49152x768, .f32⟩
  | 93 => ⟨S49152x768, .f32⟩
  | 94 => ⟨S1x768, .f32⟩
  | 95 => ⟨S49152x768, .f32⟩
  | 96 => ⟨S49152x768, .f32⟩
  | 97 => ⟨S1x1280, .f32⟩
  | 98 => ⟨S1280, .f32⟩
  | 99 => ⟨S49152x1280, .f32⟩
  | 100 => ⟨S_, .f32⟩
  | 101 => ⟨S49152, .f32⟩
  | 102 => ⟨S49152x1, .f32⟩
  | 103 => ⟨S_, .f32⟩
  | 104 => ⟨S49152x1, .f32⟩
  | 105 => ⟨S49152x1, .f32⟩
  | 106 => ⟨S_, .f32⟩
  | 107 => ⟨S49152x1, .f32⟩
  | 108 => ⟨S49152x1, .f32⟩
  | 109 => ⟨S49152x1, .f32⟩
  | 110 => ⟨S49152x1280, .f32⟩
  | 111 => ⟨S49152x1280, .f32⟩
  | 112 => ⟨S1x1280, .f32⟩
  | 113 => ⟨S49152x1280, .f32⟩
  | 114 => ⟨S49152x1280, .f32⟩
  | 115 => ⟨S49152x2048, .f32⟩
  | 116 => ⟨S_, .f32⟩
  | 117 => ⟨S49152x2048, .f32⟩
  | 118 => ⟨S49152x2048, .f32⟩
  | 119 => ⟨S1x2048x2048, .f32⟩
  | 120 => ⟨S2048x2048, .f32⟩
  | 121 => ⟨S49152x2048, .f32⟩
  | 122 => ⟨S49152x2048, .f32⟩
  | 123 => ⟨S1x2048, .f32⟩
  | 124 => ⟨S2048, .f32⟩
  | 125 => ⟨S1x2048, .f32⟩
  | 126 => ⟨S2048, .f32⟩
  | 127 => ⟨S_, .f32⟩
  | _ => ⟨S49152x2048, .f32⟩

abbrev hbmTy0_1 (i : Nat) : BufTy := match i % 128 with
  | 0 => ⟨S49152, .f32⟩
  | 1 => ⟨S49152x1, .f32⟩
  | 2 => ⟨S_, .f32⟩
  | 3 => ⟨S49152x1, .f32⟩
  | 4 => ⟨S49152x1, .f32⟩
  | 5 => ⟨S49152x2048, .f32⟩
  | 6 => ⟨S49152x2048, .f32⟩
  | 7 => ⟨S49152x2048, .f32⟩
  | 8 => ⟨S_, .f32⟩
  | 9 => ⟨S49152, .f32⟩
  | 10 => ⟨S49152x1, .f32⟩
  | 11 => ⟨S_, .f32⟩
  | 12 => ⟨S49152x1, .f32⟩
  | 13 => ⟨S49152x1, .f32⟩
  | 14 => ⟨S49152x2048, .f32⟩
  | 15 => ⟨S49152x2048, .f32⟩
  | 16 => ⟨S_, .f32⟩
  | 17 => ⟨S49152x1, .f32⟩
  | 18 => ⟨S49152x1, .f32⟩
  | 19 => ⟨S49152x1, .f32⟩
  | 20 => ⟨S49152x2048, .f32⟩
  | 21 => ⟨S49152x2048, .f32⟩
  | 22 => ⟨S1x2048, .f32⟩
  | 23 => ⟨S49152x2048, .f32⟩
  | 24 => ⟨S49152x2048, .f32⟩
  | 25 => ⟨S1x2048, .f32⟩
  | 26 => ⟨S49152x2048, .f32⟩
  | 27 => ⟨S49152x2048, .f32⟩
  | _ => ⟨S49152x2048, .f32⟩

abbrev hbmTy (i : Nat) : BufTy := match i / 128 with
  | 0 => hbmTy0_0 i
  | 1 => hbmTy0_1 i
  | _ => ⟨S49152x2048, .f32⟩

abbrev bufTy : (tb : Table) → Fin (tcTables nBuf tb) → BufTy
  | .hbm, ⟨i, _⟩ => hbmTy i
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_10 : Ref sig .tc := ⟨.hbm, 100, rfl⟩
abbrev main_v74 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_13 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_14 : Ref sig .tc := ⟨.hbm, 127, rfl⟩
abbrev main_v97 : Ref sig .tc := ⟨.hbm, 128, rfl⟩
abbrev main_v98 : Ref sig .tc := ⟨.hbm, 129, rfl⟩
abbrev main_cst_15 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_16 : Ref sig .tc := ⟨.hbm, 136, rfl⟩
abbrev main_v104 : Ref sig .tc := ⟨.hbm, 137, rfl⟩
abbrev main_v105 : Ref sig .tc := ⟨.hbm, 138, rfl⟩
abbrev main_cst_17 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_18 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩

abbrev nD : Nat := 1
abbrev τ : Topo := Topo.v7x

variable {F : FTy → Type} [FloatOps F]
-- ==== Kernel5.lean ====
abbrev S49152x768 : Shape := ⟨2, ![49152, 768]⟩
abbrev S12288x3072 : Shape := ⟨2, ![12288, 3072]⟩
abbrev S12288x512 : Shape := ⟨2, ![12288, 512]⟩
abbrev S256x768 : Shape := ⟨2, ![256, 768]⟩
abbrev S64x768 : Shape := ⟨2, ![64, 768]⟩
abbrev S256x128 : Shape := ⟨2, ![256, 128]⟩
abbrev S384x768 : Shape := ⟨2, ![384, 768]⟩
abbrev S128x128 : Shape := ⟨2, ![128, 128]⟩
abbrev S128x256 : Shape := ⟨2, ![128, 256]⟩
abbrev S128 : Shape := ⟨1, ![128]⟩
abbrev S128x1 : Shape := ⟨2, ![128, 1]⟩

abbrev nBuf : Space → Nat
  | .hbm => 8
  | .vmem => 20
  | .smem => 0
  | _ => 0

abbrev bufTy : (tb : Table) → Fin (tcTables nBuf tb) → BufTy
  | .hbm, ⟨0, _⟩ => ⟨S49152x768, .bf16⟩
  | .hbm, ⟨1, _⟩ => ⟨S49152x768, .bf16⟩
  | .hbm, ⟨2, _⟩ => ⟨S49152x768, .bf16⟩
  | .hbm, ⟨3, _⟩ => ⟨S12288x3072, .bf16⟩
  | .hbm, ⟨4, _⟩ => ⟨S12288x3072, .bf16⟩
  | .hbm, ⟨5, _⟩ => ⟨S12288x3072, .bf16⟩
  | .hbm, ⟨6, _⟩ => ⟨S12288x3072, .f32⟩
  | .hbm, ⟨7, _⟩ => ⟨S12288x512, .f32⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S64x768, .bf16⟩
  | .local _ .vmem, ⟨5, _⟩ => ⟨S64x768, .bf16⟩
  | .local _ .vmem, ⟨6, _⟩ => ⟨S64x768, .bf16⟩
  | .local _ .vmem, ⟨7, _⟩ => ⟨S64x768, .bf16⟩
  | .local _ .vmem, ⟨8, _⟩ => ⟨S256x768, .bf16⟩
  | .local _ .vmem, ⟨9, _⟩ => ⟨S256x768, .bf16⟩
  | .local _ .vmem, ⟨10, _⟩ => ⟨S64x768, .bf16⟩
  | .local _ .vmem, ⟨11, _⟩ => ⟨S64x768, .bf16⟩
  | .local _ .vmem, ⟨12, _⟩ => ⟨S64x768, .bf16⟩
  | .local _ .vmem, ⟨13, _⟩ => ⟨S64x768, .bf16⟩
  | .local _ .vmem, ⟨14, _⟩ => ⟨S256x768, .f32⟩
  | .local _ .vmem, ⟨15, _⟩ => ⟨S256x768, .f32⟩
  | .local _ .vmem, ⟨16, _⟩ => ⟨S256x128, .f32⟩
  | .local _ .vmem, ⟨17, _⟩ => ⟨S256x128, .f32⟩
  | .local _ .vmem, ⟨18, _⟩ => ⟨S384x768, .bf16⟩
  | .local _ .vmem, ⟨19, _⟩ => ⟨S384x768, .bf16⟩
  | _, _ => ⟨S49152x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![48, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c191_i32 : BitVec 32 := 191#32
  let v2 : BitVec 32 := Scalar.minsi v1 c191_i32
  let c0_i32 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c191_i32 : BitVec 32 := 191#32
  let v2 : BitVec 32 := Scalar.minsi v1 c191_i32
  let c0_i32 : BitVec 32 := 0#32
  ![v2.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S49152x768 : Shape := ⟨2, ![49152, 768]⟩
abbrev S32768x768 : Shape := ⟨2, ![32768, 768]⟩
abbrev S8x4096x12x64 : Shape := ⟨4, ![8, 4096, 12, 64]⟩
abbrev S8x1024x4x12x64 : Shape := ⟨5, ![8, 1024, 4, 12, 64]⟩
abbrev S8x4x1024x12x64 : Shape := ⟨5, ![8, 4, 1024, 12, 64]⟩
abbrev S32x1024x12x64 : Shape := ⟨4, ![32, 1024, 12, 64]⟩
abbrev S_ : Shape := ⟨0, ![]⟩
abbrev S32x16x64x12x64 : Shape := ⟨5, ![32, 16, 64, 12, 64]⟩
abbrev S32x1152x12x64 : Shape := ⟨4, ![32, 1152, 12, 64]⟩
abbrev S32x18x64x12x64 : Shape := ⟨5, ![32, 18, 64, 12, 64]⟩
abbrev S32x16x192x12x64 : Shape := ⟨5, ![32, 16, 192, 12, 64]⟩
abbrev S32x16x12x64x192 : Shape := ⟨5, ![32, 16, 12, 64, 192]⟩
abbrev S16 : Shape := ⟨1, ![16]⟩
abbrev S16x1x1 : Shape := ⟨3, ![16, 1, 1]⟩
abbrev S64 : Shape := ⟨1, ![64]⟩
abbrev S1x64x1 : Shape := ⟨3, ![1, 64, 1]⟩
abbrev S16x64x1 : Shape := ⟨3, ![16, 64, 1]⟩
abbrev S192 : Shape := ⟨1, ![192]⟩
abbrev S1x1x192 : Shape := ⟨3, ![1, 1, 192]⟩
abbrev S16x1x192 : Shape := ⟨3, ![16, 1, 192]⟩
abbrev S16x64x192 : Shape := ⟨3, ![16, 64, 192]⟩
abbrev S1x16x1x64x192 : Shape := ⟨5, ![1, 16, 1, 64, 192]⟩
abbrev S32x16x12x64 : Shape := ⟨4, ![32, 16, 12, 64]⟩
abbrev S32x16x12x64x1 : Shape := ⟨5, ![32, 16, 12, 64, 1]⟩
abbrev S32x16x12x64x64 : Shape := ⟨5, ![32, 16, 12, 64, 64]⟩
abbrev S32x16x64x12 : Shape := ⟨4, ![32, 16, 64, 12]⟩
abbrev S32x1024x12 : Shape := ⟨3, ![32, 1024, 12]⟩
abbrev S8x4x1024x12 : Shape := ⟨4, ![8, 4, 1024, 12]⟩
abbrev S8x1024x4x12 : Shape := ⟨4, ![8, 1024, 4, 12]⟩
abbrev S8x4096x12 : Shape := ⟨3, ![8, 4096, 12]⟩
abbrev S16384x768 : Shape := ⟨2, ![16384, 768]⟩
abbrev S1x16384x12x64 : Shape := ⟨4, ![1, 16384, 12, 64]⟩
abbrev S1x4096x4x12x64 : Shape := ⟨5, ![1, 4096, 4, 12, 64]⟩
abbrev S1x4x4096x12x64 : Shape := ⟨5, ![1, 4, 4096, 12, 64]⟩
abbrev S4x4096x12x64 : Shape := ⟨4, ![4, 4096, 12, 64]⟩
abbrev S4x64x64x12x64 : Shape := ⟨5, ![4, 64, 64, 12, 64]⟩
abbrev S4x4224x12x64 : Shape := ⟨4, ![4, 4224, 12, 64]⟩
abbrev S4x66x64x12x64 : Shape := ⟨5, ![4, 66, 64, 12, 64]⟩
abbrev S4x64x192x12x64 : Shape := ⟨5, ![4, 64, 192, 12, 64]⟩
abbrev S4x64x12x64x192 : Shape := ⟨5, ![4, 64, 12, 64, 192]⟩
abbrev S64x1x1 : Shape := ⟨3, ![64, 1, 1]⟩
abbrev S64x64x1 : Shape := ⟨3, ![64, 64, 1]⟩
abbrev S64x1x192 : Shape := ⟨3, ![64, 1, 192]⟩
abbrev S64x64x192 : Shape := ⟨3, ![64, 64, 192]⟩
abbrev S1x64x1x64x192 : Shape := ⟨5, ![1, 64, 1, 64, 192]⟩
abbrev S4x64x12x64 : Shape := ⟨4, ![4, 64, 12, 64]⟩
abbrev S4x64x12x64x1 : Shape := ⟨5, ![4, 64, 12, 64, 1]⟩
abbrev S4x64x12x64x64 : Shape := ⟨5, ![4, 64, 12, 64, 64]⟩
abbrev S4x64x64x12 : Shape := ⟨4, ![4, 64, 64, 12]⟩
abbrev S4x4096x12 : Shape := ⟨3, ![4, 4096, 12]⟩
abbrev S1x4x4096x12 : Shape := ⟨4, ![1, 4, 4096, 12]⟩
abbrev S1x4096x4x12 : Shape := ⟨4, ![1, 4096, 4, 12]⟩
abbrev S1x16384x12 : Shape := ⟨3, ![1, 16384, 12]⟩
abbrev S32768x12 : Shape := ⟨2, ![32768, 12]⟩
abbrev S16384x12 : Shape := ⟨2, ![16384, 12]⟩
abbrev S49152x12 : Shape := ⟨2, ![49152, 12]⟩
abbrev S49152x128 : Shape := ⟨2, ![49152, 128]⟩
abbrev S12288x3072 : Shape := ⟨2, ![12288, 3072]⟩
abbrev S12288x512 : Shape := ⟨2, ![12288, 512]⟩

abbrev nBuf : Space → Nat
  | .hbm => 231
  | .vmem => 0
  | .smem => 0
  | _ => 0

abbrev hbmTy0_0 (i : Nat) : BufTy := match i % 128 with
  | 0 => ⟨S49152x768, .bf16⟩
  | 1 => ⟨S49152x768, .bf16⟩
  | 2 => ⟨S49152x768, .bf16⟩
  | 3 => ⟨S49152x768, .f32⟩
  | 4 => ⟨S49152x768, .f32⟩
  | 5 => ⟨S49152x768, .f32⟩
  | 6 => ⟨S32768x768, .f32⟩
  | 7 => ⟨S8x4096x12x64, .f32⟩
  | 8 => ⟨S32768x768, .f32⟩
  | 9 => ⟨S8x4096x12x64, .f32⟩
  | 10 => ⟨S32768x768, .f32⟩
  | 11 => ⟨S8x4096x12x64, .f32⟩
  | 12 => ⟨S8x1024x4x12x64, .f32⟩
  | 13 => ⟨S8x4x1024x12x64, .f32⟩
  | 14 => ⟨S32x1024x12x64, .f32⟩
  | 15 => ⟨S8x1024x4x12x64, .f32⟩
  | 16 => ⟨S8x4x1024x12x64, .f32⟩
  | 17 => ⟨S32x1024x12x64, .f32⟩
  | 18 => ⟨S8x1024x4x12x64, .f32⟩
  | 19 => ⟨S8x4x1024x12x64, .f32⟩
  | 20 => ⟨S32x1024x12x64, .f32⟩
  | 21 => ⟨S_, .i32⟩
  | 22 => ⟨S_, .f32⟩
  | 23 => ⟨S32x1024x12x64, .f32⟩
  | 24 => ⟨S32x16x64x12x64, .f32⟩
  | 25 => ⟨S_, .i32⟩
  | 26 => ⟨S_, .f32⟩
  | 27 => ⟨S32x1152x12x64, .f32⟩
  | 28 => ⟨S32x18x64x12x64, .f32⟩
  | 29 => ⟨S_, .i32⟩
  | 30 => ⟨S_, .f32⟩
  | 31 => ⟨S32x1152x12x64, .f32⟩
  | 32 => ⟨S32x18x64x12x64, .f32⟩
  | 33 => ⟨S32x16x64x12x64, .f32⟩
  | 34 => ⟨S32x16x64x12x64, .f32⟩
  | 35 => ⟨S32x16x64x12x64, .f32⟩
  | 36 => ⟨S32x16x192x12x64, .f32⟩
  | 37 => ⟨S32x16x64x12x64, .f32⟩
  | 38 => ⟨S32x16x64x12x64, .f32⟩
  | 39 => ⟨S32x16x64x12x64, .f32⟩
  | 40 => ⟨S32x16x192x12x64, .f32⟩
  | 41 => ⟨S32x16x12x64x192, .f32⟩
  | 42 => ⟨S16, .i32⟩
  | 43 => ⟨S16x1x1, .i32⟩
  | 44 => ⟨S_, .i32⟩
  | 45 => ⟨S16x1x1, .i32⟩
  | 46 => ⟨S16x1x1, .i32⟩
  | 47 => ⟨S64, .i32⟩
  | 48 => ⟨S1x64x1, .i32⟩
  | 49 => ⟨S16x64x1, .i32⟩
  | 50 => ⟨S16x64x1, .i32⟩
  | 51 => ⟨S16x64x1, .i32⟩
  | 52 => ⟨S16, .i32⟩
  | 53 => ⟨S16x1x1, .i32⟩
  | 54 => ⟨S_, .i32⟩
  | 55 => ⟨S16x1x1, .i32⟩
  | 56 => ⟨S16x1x1, .i32⟩
  | 57 => ⟨S192, .i32⟩
  | 58 => ⟨S1x1x192, .i32⟩
  | 59 => ⟨S16x1x192, .i32⟩
  | 60 => ⟨S16x1x192, .i32⟩
  | 61 => ⟨S16x1x192, .i32⟩
  | 62 => ⟨S_, .i32⟩
  | 63 => ⟨S16x1x192, .i32⟩
  | 64 => ⟨S16x1x192, .i32⟩
  | 65 => ⟨S16x64x192, .i32⟩
  | 66 => ⟨S16x64x192, .i32⟩
  | 67 => ⟨S16x64x192, .i32⟩
  | 68 => ⟨S16x64x192, .i32⟩
  | 69 => ⟨S_, .i32⟩
  | 70 => ⟨S16x64x192, .i32⟩
  | 71 => ⟨S16x64x192, .i1⟩
  | 72 => ⟨S_, .i32⟩
  | 73 => ⟨S16x1x192, .i32⟩
  | 74 => ⟨S16x1x192, .i1⟩
  | 75 => ⟨S16x64x192, .i1⟩
  | 76 => ⟨S16x64x192, .i1⟩
  | 77 => ⟨S_, .i32⟩
  | 78 => ⟨S16x1x192, .i32⟩
  | 79 => ⟨S16x1x192, .i1⟩
  | 80 => ⟨S16x64x192, .i1⟩
  | 81 => ⟨S16x64x192, .i1⟩
  | 82 => ⟨S1x16x1x64x192, .i1⟩
  | 83 => ⟨S_, .f32⟩
  | 84 => ⟨S_, .f32⟩
  | 85 => ⟨S32x16x12x64x192, .i1⟩
  | 86 => ⟨S32x16x12x64x192, .f32⟩
  | 87 => ⟨S32x16x12x64x192, .f32⟩
  | 88 => ⟨S_, .f32⟩
  | 89 => ⟨S32x16x12x64, .f32⟩
  | 90 => ⟨S32x16x12x64x1, .f32⟩
  | 91 => ⟨S32x16x12x64x192, .f32⟩
  | 92 => ⟨S32x16x12x64x192, .f32⟩
  | 93 => ⟨S32x16x12x64x192, .f32⟩
  | 94 => ⟨S_, .f32⟩
  | 95 => ⟨S32x16x12x64, .f32⟩
  | 96 => ⟨S32x16x12x64, .f32⟩
  | 97 => ⟨S32x16x12x64, .f32⟩
  | 98 => ⟨S32x16x12x64x1, .f32⟩
  | 99 => ⟨S32x16x12x64x192, .f32⟩
  | 100 => ⟨S32x16x12x64x192, .f32⟩
  | 101 => ⟨S32x16x12x64x192, .f32⟩
  | 102 => ⟨S32x16x12x64x64, .f32⟩
  | 103 => ⟨S32x16x64x12x64, .f32⟩
  | 104 => ⟨S32x1024x12x64, .f32⟩
  | 105 => ⟨S32x16x64x12, .f32⟩
  | 106 => ⟨S32x1024x12, .f32⟩
  | 107 => ⟨S8x4x1024x12x64, .f32⟩
  | 108 => ⟨S8x1024x4x12x64, .f32⟩
  | 109 => ⟨S8x4096x12x64, .f32⟩
  | 110 => ⟨S8x4x1024x12, .f32⟩
  | 111 => ⟨S8x1024x4x12, .f32⟩
  | 112 => ⟨S8x4096x12, .f32⟩
  | 113 => ⟨S16384x768, .f32⟩
  | 114 => ⟨S1x16384x12x64, .f32⟩
  | 115 => ⟨S16384x768, .f32⟩
  | 116 => ⟨S1x16384x12x64, .f32⟩
  | 117 => ⟨S16384x768, .f32⟩
  | 118 => ⟨S1x16384x12x64, .f32⟩
  | 119 => ⟨S1x4096x4x12x64, .f32⟩
  | 120 => ⟨S1x4x4096x12x64, .f32⟩
  | 121 => ⟨S4x4096x12x64, .f32⟩
  | 122 => ⟨S1x4096x4x12x64, .f32⟩
  | 123 => ⟨S1x4x4096x12x64, .f32⟩
  | 124 => ⟨S4x4096x12x64, .f32⟩
  | 125 => ⟨S1x4096x4x12x64, .f32⟩
  | 126 => ⟨S1x4x4096x12x64, .f32⟩
  | 127 => ⟨S4x4096x12x64, .f32⟩
  | _ => ⟨S49152x768, .bf16⟩

abbrev hbmTy0_1 (i : Nat) : BufTy := match i % 128 with
  | 0 => ⟨S_, .i32⟩
  | 1 => ⟨S_, .f32⟩
  | 2 => ⟨S4x4096x12x64, .f32⟩
  | 3 => ⟨S4x64x64x12x64, .f32⟩
  | 4 => ⟨S_, .i32⟩
  | 5 => ⟨S_, .f32⟩
  | 6 => ⟨S4x4224x12x64, .f32⟩
  | 7 => ⟨S4x66x64x12x64, .f32⟩
  | 8 => ⟨S_, .i32⟩
  | 9 => ⟨S_, .f32⟩
  | 10 => ⟨S4x4224x12x64, .f32⟩
  | 11 => ⟨S4x66x64x12x64, .f32⟩
  | 12 => ⟨S4x64x64x12x64, .f32⟩
  | 13 => ⟨S4x64x64x12x64, .f32⟩
  | 14 => ⟨S4x64x64x12x64, .f32⟩
  | 15 => ⟨S4x64x192x12x64, .f32⟩
  | 16 => ⟨S4x64x64x12x64, .f32⟩
  | 17 => ⟨S4x64x64x12x64, .f32⟩
  | 18 => ⟨S4x64x64x12x64, .f32⟩
  | 19 => ⟨S4x64x192x12x64, .f32⟩
  | 20 => ⟨S4x64x12x64x192, .f32⟩
  | 21 => ⟨S64, .i32⟩
  | 22 => ⟨S64x1x1, .i32⟩
  | 23 => ⟨S_, .i32⟩
  | 24 => ⟨S64x1x1, .i32⟩
  | 25 => ⟨S64x1x1, .i32⟩
  | 26 => ⟨S64, .i32⟩
  | 27 => ⟨S1x64x1, .i32⟩
  | 28 => ⟨S64x64x1, .i32⟩
  | 29 => ⟨S64x64x1, .i32⟩
  | 30 => ⟨S64x64x1, .i32⟩
  | 31 => ⟨S64, .i32⟩
  | 32 => ⟨S64x1x1, .i32⟩
  | 33 => ⟨S_, .i32⟩
  | 34 => ⟨S64x1x1, .i32⟩
  | 35 => ⟨S64x1x1, .i32⟩
  | 36 => ⟨S192, .i32⟩
  | 37 => ⟨S1x1x192, .i32⟩
  | 38 => ⟨S64x1x192, .i32⟩
  | 39 => ⟨S64x1x192, .i32⟩
  | 40 => ⟨S64x1x192, .i32⟩
  | 41 => ⟨S_, .i32⟩
  | 42 => ⟨S64x1x192, .i32⟩
  | 43 => ⟨S64x1x192, .i32⟩
  | 44 => ⟨S64x64x192, .i32⟩
  | 45 => ⟨S64x64x192, .i32⟩
  | 46 => ⟨S64x64x192, .i32⟩
  | 47 => ⟨S64x64x192, .i32⟩
  | 48 => ⟨S_, .i32⟩
  | 49 => ⟨S64x64x192, .i32⟩
  | 50 => ⟨S64x64x192, .i1⟩
  | 51 => ⟨S_, .i32⟩
  | 52 => ⟨S64x1x192, .i32⟩
  | 53 => ⟨S64x1x192, .i1⟩
  | 54 => ⟨S64x64x192, .i1⟩
  | 55 => ⟨S64x64x192, .i1⟩
  | 56 => ⟨S_, .i32⟩
  | 57 => ⟨S64x1x192, .i32⟩
  | 58 => ⟨S64x1x192, .i1⟩
  | 59 => ⟨S64x64x192, .i1⟩
  | 60 => ⟨S64x64x192, .i1⟩
  | 61 => ⟨S1x64x1x64x192, .i1⟩
  | 62 => ⟨S_, .f32⟩
  | 63 => ⟨S_, .f32⟩
  | 64 => ⟨S4x64x12x64x192, .i1⟩
  | 65 => ⟨S4x64x12x64x192, .f32⟩
  | 66 => ⟨S4x64x12x64x192, .f32⟩
  | 67 => ⟨S_, .f32⟩
  | 68 => ⟨S4x64x12x64, .f32⟩
  | 69 => ⟨S4x64x12x64x1, .f32⟩
  | 70 => ⟨S4x64x12x64x192, .f32⟩
  | 71 => ⟨S4x64x12x64x192, .f32⟩
  | 72 => ⟨S4x64x12x64x192, .f32⟩
  | 73 => ⟨S_, .f32⟩
  | 74 => ⟨S4x64x12x64, .f32⟩
  | 75 => ⟨S4x64x12x64, .f32⟩
  | 76 => ⟨S4x64x12x64, .f32⟩
  | 77 => ⟨S4x64x12x64x1, .f32⟩
  | 78 => ⟨S4x64x12x64x192, .f32⟩
  | 79 => ⟨S4x64x12x64x192, .f32⟩
  | 80 => ⟨S4x64x12x64x192, .f32⟩
  | 81 => ⟨S4x64x12x64x64, .f32⟩
  | 82 => ⟨S4x64x64x12x64, .f32⟩
  | 83 => ⟨S4x4096x12x64, .f32⟩
  | 84 => ⟨S4x64x64x12, .f32⟩
  | 85 => ⟨S4x4096x12, .f32⟩
  | 86 => ⟨S1x4x4096x12x64, .f32⟩
  | 87 => ⟨S1x4096x4x12x64, .f32⟩
  | 88 => ⟨S1x16384x12x64, .f32⟩
  | 89 => ⟨S1x4x4096x12, .f32⟩
  | 90 => ⟨S1x4096x4x12, .f32⟩
  | 91 => ⟨S1x16384x12, .f32⟩
  | 92 => ⟨S32768x768, .f32⟩
  | 93 => ⟨S16384x768, .f32⟩
  | 94 => ⟨S49152x768, .f32⟩
  | 95 => ⟨S32768x12, .f32⟩
  | 96 => ⟨S16384x12, .f32⟩
  | 97 => ⟨S49152x12, .f32⟩
  | 98 => ⟨S_, .i32⟩
  | 99 => ⟨S_, .f32⟩
  | 100 => ⟨S49152x128, .f32⟩
  | 101 => ⟨S12288x3072, .f32⟩
  | 102 => ⟨S12288x512, .f32⟩
  | _ => ⟨S49152x768, .bf16⟩

abbrev hbmTy (i : Nat) : BufTy := match i / 128 with
  | 0 => hbmTy0_0 i
  | 1 => hbmTy0_1 i
  | _ => ⟨S49152x768, .bf16⟩

abbrev bufTy : (tb : Table) → Fin (tcTables nBuf tb) → BufTy
  | .hbm, ⟨i, _⟩ => hbmTy i
  | _, _ => ⟨S49152x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_call1_v0 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_call2_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_4 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_5 : Ref sig .tc := ⟨.hbm, 69, rfl⟩
abbrev main_v57 : Ref sig .tc := ⟨.hbm, 70, rfl⟩
abbrev main_v58 : Ref sig .tc := ⟨.hbm, 71, rfl⟩
abbrev main_c_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_c_10 : Ref sig .tc := ⟨.hbm, 128, rfl⟩
abbrev main_call4_v0 : Ref sig .tc := ⟨.hbm, 129, rfl⟩
abbrev main_v107 : Ref sig .tc := ⟨.hbm, 130, rfl⟩
abbrev main_v108 : Ref sig .tc := ⟨.hbm, 131, rfl⟩
abbrev main_c_11 : Ref sig .tc := ⟨.hbm, 132, rfl⟩
abbrev main_call5_v0 : Ref sig .tc := ⟨.hbm, 133, rfl⟩
abbrev main_v109 : Ref sig .tc := ⟨.hbm, 134, rfl⟩
abbrev main_v110 : Ref sig .tc := ⟨.hbm, 135, rfl⟩
abbrev main_c_12 : Ref sig .tc := ⟨.hbm, 136, rfl⟩
abbrev main_call6_v0 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_c_13 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_c_14 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_c_15 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_c_16 : Ref sig .tc := ⟨.hbm, 176, rfl⟩
abbrev main_v146 : Ref sig .tc := ⟨.hbm, 177, rfl⟩
abbrev main_v147 : Ref sig .tc := ⟨.hbm, 178, rfl⟩
abbrev main_c_17 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_c_18 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_19 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v157 : Ref sig .tc := ⟨.hbm, 194, rfl⟩
abbrev main_cst_20 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_21 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_c_22 : Ref sig .tc := ⟨.hbm, 226, rfl⟩
abbrev main_call8_v0 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩

abbrev nD : Nat := 1
abbrev τ : Topo := Topo.v7x

variable {F : FTy → Type} [FloatOps F]
-- ==== Kernel6.lean ====
abbrev S49152x768 : Shape := ⟨2, ![49152, 768]⟩
abbrev S3072x12288 : Shape := ⟨2, ![3072, 12288]⟩
abbrev S3072x2048 : Shape := ⟨2, ![3072, 2048]⟩
abbrev S256x768 : Shape := ⟨2, ![256, 768]⟩
abbrev S64x768 : Shape := ⟨2, ![64, 768]⟩
abbrev S256x128 : Shape := ⟨2, ![256, 128]⟩
abbrev S384x768 : Shape := ⟨2, ![384, 768]⟩
abbrev S128x128 : Shape := ⟨2, ![128, 128]⟩
abbrev S128x256 : Shape := ⟨2, ![128, 256]⟩
abbrev S128 : Shape := ⟨1, ![128]⟩
abbrev S128x1 : Shape := ⟨2, ![128, 1]⟩

abbrev nBuf : Space → Nat
  | .hbm => 8
  | .vmem => 20
  | .smem => 0
  | _ => 0

abbrev bufTy : (tb : Table) → Fin (tcTables nBuf tb) → BufTy
  | .hbm, ⟨0, _⟩ => ⟨S49152x768, .bf16⟩
  | .hbm, ⟨1, _⟩ => ⟨S49152x768, .bf16⟩
  | .hbm, ⟨2, _⟩ => ⟨S49152x768, .bf16⟩
  | .hbm, ⟨3, _⟩ => ⟨S3072x12288, .bf16⟩
  | .hbm, ⟨4, _⟩ => ⟨S3072x12288, .bf16⟩
  | .hbm, ⟨5, _⟩ => ⟨S3072x12288, .bf16⟩
  | .hbm, ⟨6, _⟩ => ⟨S3072x12288, .f32⟩
  | .hbm, ⟨7, _⟩ => ⟨S3072x2048, .f32⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S64x768, .bf16⟩
  | .local _ .vmem, ⟨5, _⟩ => ⟨S64x768, .bf16⟩
  | .local _ .vmem, ⟨6, _⟩ => ⟨S64x768, .bf16⟩
  | .local _ .vmem, ⟨7, _⟩ => ⟨S64x768, .bf16⟩
  | .local _ .vmem, ⟨8, _⟩ => ⟨S256x768, .bf16⟩
  | .local _ .vmem, ⟨9, _⟩ => ⟨S256x768, .bf16⟩
  | .local _ .vmem, ⟨10, _⟩ => ⟨S64x768, .bf16⟩
  | .local _ .vmem, ⟨11, _⟩ => ⟨S64x768, .bf16⟩
  | .local _ .vmem, ⟨12, _⟩ => ⟨S64x768, .bf16⟩
  | .local _ .vmem, ⟨13, _⟩ => ⟨S64x768, .bf16⟩
  | .local _ .vmem, ⟨14, _⟩ => ⟨S256x768, .f32⟩
  | .local _ .vmem, ⟨15, _⟩ => ⟨S256x768, .f32⟩
  | .local _ .vmem, ⟨16, _⟩ => ⟨S256x128, .f32⟩
  | .local _ .vmem, ⟨17, _⟩ => ⟨S256x128, .f32⟩
  | .local _ .vmem, ⟨18, _⟩ => ⟨S384x768, .bf16⟩
  | .local _ .vmem, ⟨19, _⟩ => ⟨S384x768, .bf16⟩
  | _, _ => ⟨S49152x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c47_i32 : BitVec 32 := 47#32
  let v2 : BitVec 32 := Scalar.minsi v1 c47_i32
  let c0_i32 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c47_i32 : BitVec 32 := 47#32
  let v2 : BitVec 32 := Scalar.minsi v1 c47_i32
  let c0_i32 : BitVec 32 := 0#32
  ![v2.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel6Ideal.lean ====
variable {F : FTy → Type} [FloatOps F] [Named F]
def κ : String → Option EReal := fun
  | "mask" => some ⊥
  | _ => none
-- ==== Reference6Ideal.lean ====
abbrev S49152x768 : Shape := ⟨2, ![49152, 768]⟩
abbrev S32768x768 : Shape := ⟨2, ![32768, 768]⟩
abbrev S8x4096x12x64 : Shape := ⟨4, ![8, 4096, 12, 64]⟩
abbrev S8x256x16x12x64 : Shape := ⟨5, ![8, 256, 16, 12, 64]⟩
abbrev S8x16x256x12x64 : Shape := ⟨5, ![8, 16, 256, 12, 64]⟩
abbrev S128x256x12x64 : Shape := ⟨4, ![128, 256, 12, 64]⟩
abbrev S_ : Shape := ⟨0, ![]⟩
abbrev S128x4x64x12x64 : Shape := ⟨5, ![128, 4, 64, 12, 64]⟩
abbrev S128x384x12x64 : Shape := ⟨4, ![128, 384, 12, 64]⟩
abbrev S128x6x64x12x64 : Shape := ⟨5, ![128, 6, 64, 12, 64]⟩
abbrev S128x4x192x12x64 : Shape := ⟨5, ![128, 4, 192, 12, 64]⟩
abbrev S128x4x12x64x192 : Shape := ⟨5, ![128, 4, 12, 64, 192]⟩
abbrev S4 : Shape := ⟨1, ![4]⟩
abbrev S4x1x1 : Shape := ⟨3, ![4, 1, 1]⟩
abbrev S64 : Shape := ⟨1, ![64]⟩
abbrev S1x64x1 : Shape := ⟨3, ![1, 64, 1]⟩
abbrev S4x64x1 : Shape := ⟨3, ![4, 64, 1]⟩
abbrev S192 : Shape := ⟨1, ![192]⟩
abbrev S1x1x192 : Shape := ⟨3, ![1, 1, 192]⟩
abbrev S4x1x192 : Shape := ⟨3, ![4, 1, 192]⟩
abbrev S4x64x192 : Shape := ⟨3, ![4, 64, 192]⟩
abbrev S1x4x1x64x192 : Shape := ⟨5, ![1, 4, 1, 64, 192]⟩
abbrev S128x4x12x64 : Shape := ⟨4, ![128, 4, 12, 64]⟩
abbrev S128x4x12x64x1 : Shape := ⟨5, ![128, 4, 12, 64, 1]⟩
abbrev S128x4x12x64x64 : Shape := ⟨5, ![128, 4, 12, 64, 64]⟩
abbrev S128x4x64x12 : Shape := ⟨4, ![128, 4, 64, 12]⟩
abbrev S128x256x12 : Shape := ⟨3, ![128, 256, 12]⟩
abbrev S8x16x256x12 : Shape := ⟨4, ![8, 16, 256, 12]⟩
abbrev S8x256x16x12 : Shape := ⟨4, ![8, 256, 16, 12]⟩
abbrev S8x4096x12 : Shape := ⟨3, ![8, 4096, 12]⟩
abbrev S16384x768 : Shape := ⟨2, ![16384, 768]⟩
abbrev S1x16384x12x64 : Shape := ⟨4, ![1, 16384, 12, 64]⟩
abbrev S1x1024x16x12x64 : Shape := ⟨5, ![1, 1024, 16, 12, 64]⟩
abbrev S1x16x1024x12x64 : Shape := ⟨5, ![1, 16, 1024, 12, 64]⟩
abbrev S16x1024x12x64 : Shape := ⟨4, ![16, 1024, 12, 64]⟩
abbrev S16x16x64x12x64 : Shape := ⟨5, ![16, 16, 64, 12, 64]⟩
abbrev S16x1152x12x64 : Shape := ⟨4, ![16, 1152, 12, 64]⟩
abbrev S16x18x64x12x64 : Shape := ⟨5, ![16, 18, 64, 12, 64]⟩
abbrev S16x16x192x12x64 : Shape := ⟨5, ![16, 16, 192, 12, 64]⟩
abbrev S16x16x12x64x192 : Shape := ⟨5, ![16, 16, 12, 64, 192]⟩
abbrev S16 : Shape := ⟨1, ![16]⟩
abbrev S16x1x1 : Shape := ⟨3, ![16, 1, 1]⟩
abbrev S16x64x1 : Shape := ⟨3, ![16, 64, 1]⟩
abbrev S16x1x192 : Shape := ⟨3, ![16, 1, 192]⟩
abbrev S16x64x192 : Shape := ⟨3, ![16, 64, 192]⟩
abbrev S1x16x1x64x192 : Shape := ⟨5, ![1, 16, 1, 64, 192]⟩
abbrev S16x16x12x64 : Shape := ⟨4, ![16, 16, 12, 64]⟩
abbrev S16x16x12x64x1 : Shape := ⟨5, ![16, 16, 12, 64, 1]⟩
abbrev S16x16x12x64x64 : Shape := ⟨5, ![16, 16, 12, 64, 64]⟩
abbrev S16x16x64x12 : Shape := ⟨4, ![16, 16, 64, 12]⟩
abbrev S16x1024x12 : Shape := ⟨3, ![16, 1024, 12]⟩
abbrev S1x16x1024x12 : Shape := ⟨4, ![1, 16, 1024, 12]⟩
abbrev S1x1024x16x12 : Shape := ⟨4, ![1, 1024, 16, 12]⟩
abbrev S1x16384x12 : Shape := ⟨3, ![1, 16384, 12]⟩
abbrev S32768x12 : Shape := ⟨2, ![32768, 12]⟩
abbrev S16384x12 : Shape := ⟨2, ![16384, 12]⟩
abbrev S49152x12 : Shape := ⟨2, ![49152, 12]⟩
abbrev S49152x128 : Shape := ⟨2, ![49152, 128]⟩
abbrev S3072x12288 : Shape := ⟨2, ![3072, 12288]⟩
abbrev S3072x2048 : Shape := ⟨2, ![3072, 2048]⟩

abbrev nBuf : Space → Nat
  | .hbm => 231
  | .vmem => 0
  | .smem => 0
  | _ => 0

abbrev hbmTy0_0 (i : Nat) : BufTy := match i % 128 with
  | 0 => ⟨S49152x768, .bf16⟩
  | 1 => ⟨S49152x768, .bf16⟩
  | 2 => ⟨S49152x768, .bf16⟩
  | 3 => ⟨S49152x768, .f32⟩
  | 4 => ⟨S49152x768, .f32⟩
  | 5 => ⟨S49152x768, .f32⟩
  | 6 => ⟨S32768x768, .f32⟩
  | 7 => ⟨S8x4096x12x64, .f32⟩
  | 8 => ⟨S32768x768, .f32⟩
  | 9 => ⟨S8x4096x12x64, .f32⟩
  | 10 => ⟨S32768x768, .f32⟩
  | 11 => ⟨S8x4096x12x64, .f32⟩
  | 12 => ⟨S8x256x16x12x64, .f32⟩
  | 13 => ⟨S8x16x256x12x64, .f32⟩
  | 14 => ⟨S128x256x12x64, .f32⟩
  | 15 => ⟨S8x256x16x12x64, .f32⟩
  | 16 => ⟨S8x16x256x12x64, .f32⟩
  | 17 => ⟨S128x256x12x64, .f32⟩
  | 18 => ⟨S8x256x16x12x64, .f32⟩
  | 19 => ⟨S8x16x256x12x64, .f32⟩
  | 20 => ⟨S128x256x12x64, .f32⟩
  | 21 => ⟨S_, .i32⟩
  | 22 => ⟨S_, .f32⟩
  | 23 => ⟨S128x256x12x64, .f32⟩
  | 24 => ⟨S128x4x64x12x64, .f32⟩
  | 25 => ⟨S_, .i32⟩
  | 26 => ⟨S_, .f32⟩
  | 27 => ⟨S128x384x12x64, .f32⟩
  | 28 => ⟨S128x6x64x12x64, .f32⟩
  | 29 => ⟨S_, .i32⟩
  | 30 => ⟨S_, .f32⟩
  | 31 => ⟨S128x384x12x64, .f32⟩
  | 32 => ⟨S128x6x64x12x64, .f32⟩
  | 33 => ⟨S128x4x64x12x64, .f32⟩
  | 34 => ⟨S128x4x64x12x64, .f32⟩
  | 35 => ⟨S128x4x64x12x64, .f32⟩
  | 36 => ⟨S128x4x192x12x64, .f32⟩
  | 37 => ⟨S128x4x64x12x64, .f32⟩
  | 38 => ⟨S128x4x64x12x64, .f32⟩
  | 39 => ⟨S128x4x64x12x64, .f32⟩
  | 40 => ⟨S128x4x192x12x64, .f32⟩
  | 41 => ⟨S128x4x12x64x192, .f32⟩
  | 42 => ⟨S4, .i32⟩
  | 43 => ⟨S4x1x1, .i32⟩
  | 44 => ⟨S_, .i32⟩
  | 45 => ⟨S4x1x1, .i32⟩
  | 46 => ⟨S4x1x1, .i32⟩
  | 47 => ⟨S64, .i32⟩
  | 48 => ⟨S1x64x1, .i32⟩
  | 49 => ⟨S4x64x1, .i32⟩
  | 50 => ⟨S4x64x1, .i32⟩
  | 51 => ⟨S4x64x1, .i32⟩
  | 52 => ⟨S4, .i32⟩
  | 53 => ⟨S4x1x1, .i32⟩
  | 54 => ⟨S_, .i32⟩
  | 55 => ⟨S4x1x1, .i32⟩
  | 56 => ⟨S4x1x1, .i32⟩
  | 57 => ⟨S192, .i32⟩
  | 58 => ⟨S1x1x192, .i32⟩
  | 59 => ⟨S4x1x192, .i32⟩
  | 60 => ⟨S4x1x192, .i32⟩
  | 61 => ⟨S4x1x192, .i32⟩
  | 62 => ⟨S_, .i32⟩
  | 63 => ⟨S4x1x192, .i32⟩
  | 64 => ⟨S4x1x192, .i32⟩
  | 65 => ⟨S4x64x192, .i32⟩
  | 66 => ⟨S4x64x192, .i32⟩
  | 67 => ⟨S4x64x192, .i32⟩
  | 68 => ⟨S4x64x192, .i32⟩
  | 69 => ⟨S_, .i32⟩
  | 70 => ⟨S4x64x192, .i32⟩
  | 71 => ⟨S4x64x192, .i1⟩
  | 72 => ⟨S_, .i32⟩
  | 73 => ⟨S4x1x192, .i32⟩
  | 74 => ⟨S4x1x192, .i1⟩
  | 75 => ⟨S4x64x192, .i1⟩
  | 76 => ⟨S4x64x192, .i1⟩
  | 77 => ⟨S_, .i32⟩
  | 78 => ⟨S4x1x192, .i32⟩
  | 79 => ⟨S4x1x192, .i1⟩
  | 80 => ⟨S4x64x192, .i1⟩
  | 81 => ⟨S4x64x192, .i1⟩
  | 82 => ⟨S1x4x1x64x192, .i1⟩
  | 83 => ⟨S_, .f32⟩
  | 84 => ⟨S_, .f32⟩
  | 85 => ⟨S128x4x12x64x192, .i1⟩
  | 86 => ⟨S128x4x12x64x192, .f32⟩
  | 87 => ⟨S128x4x12x64x192, .f32⟩
  | 88 => ⟨S_, .f32⟩
  | 89 => ⟨S128x4x12x64, .f32⟩
  | 90 => ⟨S128x4x12x64x1, .f32⟩
  | 91 => ⟨S128x4x12x64x192, .f32⟩
  | 92 => ⟨S128x4x12x64x192, .f32⟩
  | 93 => ⟨S128x4x12x64x192, .f32⟩
  | 94 => ⟨S_, .f32⟩
  | 95 => ⟨S128x4x12x64, .f32⟩
  | 96 => ⟨S128x4x12x64, .f32⟩
  | 97 => ⟨S128x4x12x64, .f32⟩
  | 98 => ⟨S128x4x12x64x1, .f32⟩
  | 99 => ⟨S128x4x12x64x192, .f32⟩
  | 100 => ⟨S128x4x12x64x192, .f32⟩
  | 101 => ⟨S128x4x12x64x192, .f32⟩
  | 102 => ⟨S128x4x12x64x64, .f32⟩
  | 103 => ⟨S128x4x64x12x64, .f32⟩
  | 104 => ⟨S128x256x12x64, .f32⟩
  | 105 => ⟨S128x4x64x12, .f32⟩
  | 106 => ⟨S128x256x12, .f32⟩
  | 107 => ⟨S8x16x256x12x64, .f32⟩
  | 108 => ⟨S8x256x16x12x64, .f32⟩
  | 109 => ⟨S8x4096x12x64, .f32⟩
  | 110 => ⟨S8x16x256x12, .f32⟩
  | 111 => ⟨S8x256x16x12, .f32⟩
  | 112 => ⟨S8x4096x12, .f32⟩
  | 113 => ⟨S16384x768, .f32⟩
  | 114 => ⟨S1x16384x12x64, .f32⟩
  | 115 => ⟨S16384x768, .f32⟩
  | 116 => ⟨S1x16384x12x64, .f32⟩
  | 117 => ⟨S16384x768, .f32⟩
  | 118 => ⟨S1x16384x12x64, .f32⟩
  | 119 => ⟨S1x1024x16x12x64, .f32⟩
  | 120 => ⟨S1x16x1024x12x64, .f32⟩
  | 121 => ⟨S16x1024x12x64, .f32⟩
  | 122 => ⟨S1x1024x16x12x64, .f32⟩
  | 123 => ⟨S1x16x1024x12x64, .f32⟩
  | 124 => ⟨S16x1024x12x64, .f32⟩
  | 125 => ⟨S1x1024x16x12x64, .f32⟩
  | 126 => ⟨S1x16x1024x12x64, .f32⟩
  | 127 => ⟨S16x1024x12x64, .f32⟩
  | _ => ⟨S49152x768, .bf16⟩

abbrev hbmTy0_1 (i : Nat) : BufTy := match i % 128 with
  | 0 => ⟨S_, .i32⟩
  | 1 => ⟨S_, .f32⟩
  | 2 => ⟨S16x1024x12x64, .f32⟩
  | 3 => ⟨S16x16x64x12x64, .f32⟩
  | 4 => ⟨S_, .i32⟩
  | 5 => ⟨S_, .f32⟩
  | 6 => ⟨S16x1152x12x64, .f32⟩
  | 7 => ⟨S16x18x64x12x64, .f32⟩
  | 8 => ⟨S_, .i32⟩
  | 9 => ⟨S_, .f32⟩
  | 10 => ⟨S16x1152x12x64, .f32⟩
  | 11 => ⟨S16x18x64x12x64, .f32⟩
  | 12 => ⟨S16x16x64x12x64, .f32⟩
  | 13 => ⟨S16x16x64x12x64, .f32⟩
  | 14 => ⟨S16x16x64x12x64, .f32⟩
  | 15 => ⟨S16x16x192x12x64, .f32⟩
  | 16 => ⟨S16x16x64x12x64, .f32⟩
  | 17 => ⟨S16x16x64x12x64, .f32⟩
  | 18 => ⟨S16x16x64x12x64, .f32⟩
  | 19 => ⟨S16x16x192x12x64, .f32⟩
  | 20 => ⟨S16x16x12x64x192, .f32⟩
  | 21 => ⟨S16, .i32⟩
  | 22 => ⟨S16x1x1, .i32⟩
  | 23 => ⟨S_, .i32⟩
  | 24 => ⟨S16x1x1, .i32⟩
  | 25 => ⟨S16x1x1, .i32⟩
  | 26 => ⟨S64, .i32⟩
  | 27 => ⟨S1x64x1, .i32⟩
  | 28 => ⟨S16x64x1, .i32⟩
  | 29 => ⟨S16x64x1, .i32⟩
  | 30 => ⟨S16x64x1, .i32⟩
  | 31 => ⟨S16, .i32⟩
  | 32 => ⟨S16x1x1, .i32⟩
  | 33 => ⟨S_, .i32⟩
  | 34 => ⟨S16x1x1, .i32⟩
  | 35 => ⟨S16x1x1, .i32⟩
  | 36 => ⟨S192, .i32⟩
  | 37 => ⟨S1x1x192, .i32⟩
  | 38 => ⟨S16x1x192, .i32⟩
  | 39 => ⟨S16x1x192, .i32⟩
  | 40 => ⟨S16x1x192, .i32⟩
  | 41 => ⟨S_, .i32⟩
  | 42 => ⟨S16x1x192, .i32⟩
  | 43 => ⟨S16x1x192, .i32⟩
  | 44 => ⟨S16x64x192, .i32⟩
  | 45 => ⟨S16x64x192, .i32⟩
  | 46 => ⟨S16x64x192, .i32⟩
  | 47 => ⟨S16x64x192, .i32⟩
  | 48 => ⟨S_, .i32⟩
  | 49 => ⟨S16x64x192, .i32⟩
  | 50 => ⟨S16x64x192, .i1⟩
  | 51 => ⟨S_, .i32⟩
  | 52 => ⟨S16x1x192, .i32⟩
  | 53 => ⟨S16x1x192, .i1⟩
  | 54 => ⟨S16x64x192, .i1⟩
  | 55 => ⟨S16x64x192, .i1⟩
  | 56 => ⟨S_, .i32⟩
  | 57 => ⟨S16x1x192, .i32⟩
  | 58 => ⟨S16x1x192, .i1⟩
  | 59 => ⟨S16x64x192, .i1⟩
  | 60 => ⟨S16x64x192, .i1⟩
  | 61 => ⟨S1x16x1x64x192, .i1⟩
  | 62 => ⟨S_, .f32⟩
  | 63 => ⟨S_, .f32⟩
  | 64 => ⟨S16x16x12x64x192, .i1⟩
  | 65 => ⟨S16x16x12x64x192, .f32⟩
  | 66 => ⟨S16x16x12x64x192, .f32⟩
  | 67 => ⟨S_, .f32⟩
  | 68 => ⟨S16x16x12x64, .f32⟩
  | 69 => ⟨S16x16x12x64x1, .f32⟩
  | 70 => ⟨S16x16x12x64x192, .f32⟩
  | 71 => ⟨S16x16x12x64x192, .f32⟩
  | 72 => ⟨S16x16x12x64x192, .f32⟩
  | 73 => ⟨S_, .f32⟩
  | 74 => ⟨S16x16x12x64, .f32⟩
  | 75 => ⟨S16x16x12x64, .f32⟩
  | 76 => ⟨S16x16x12x64, .f32⟩
  | 77 => ⟨S16x16x12x64x1, .f32⟩
  | 78 => ⟨S16x16x12x64x192, .f32⟩
  | 79 => ⟨S16x16x12x64x192, .f32⟩
  | 80 => ⟨S16x16x12x64x192, .f32⟩
  | 81 => ⟨S16x16x12x64x64, .f32⟩
  | 82 => ⟨S16x16x64x12x64, .f32⟩
  | 83 => ⟨S16x1024x12x64, .f32⟩
  | 84 => ⟨S16x16x64x12, .f32⟩
  | 85 => ⟨S16x1024x12, .f32⟩
  | 86 => ⟨S1x16x1024x12x64, .f32⟩
  | 87 => ⟨S1x1024x16x12x64, .f32⟩
  | 88 => ⟨S1x16384x12x64, .f32⟩
  | 89 => ⟨S1x16x1024x12, .f32⟩
  | 90 => ⟨S1x1024x16x12, .f32⟩
  | 91 => ⟨S1x16384x12, .f32⟩
  | 92 => ⟨S32768x768, .f32⟩
  | 93 => ⟨S16384x768, .f32⟩
  | 94 => ⟨S49152x768, .f32⟩
  | 95 => ⟨S32768x12, .f32⟩
  | 96 => ⟨S16384x12, .f32⟩
  | 97 => ⟨S49152x12, .f32⟩
  | 98 => ⟨S_, .i32⟩
  | 99 => ⟨S_, .f32⟩
  | 100 => ⟨S49152x128, .f32⟩
  | 101 => ⟨S3072x12288, .f32⟩
  | 102 => ⟨S3072x2048, .f32⟩
  | _ => ⟨S49152x768, .bf16⟩

abbrev hbmTy (i : Nat) : BufTy := match i / 128 with
  | 0 => hbmTy0_0 i
  | 1 => hbmTy0_1 i
  | _ => ⟨S49152x768, .bf16⟩

abbrev bufTy : (tb : Table) → Fin (tcTables nBuf tb) → BufTy
  | .hbm, ⟨i, _⟩ => hbmTy i
  | _, _ => ⟨S49152x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_call1_v0 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_call2_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_4 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_5 : Ref sig .tc := ⟨.hbm, 69, rfl⟩
abbrev main_v57 : Ref sig .tc := ⟨.hbm, 70, rfl⟩
abbrev main_v58 : Ref sig .tc := ⟨.hbm, 71, rfl⟩
abbrev main_c_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_c_10 : Ref sig .tc := ⟨.hbm, 128, rfl⟩
abbrev main_call4_v0 : Ref sig .tc := ⟨.hbm, 129, rfl⟩
abbrev main_v107 : Ref sig .tc := ⟨.hbm, 130, rfl⟩
abbrev main_v108 : Ref sig .tc := ⟨.hbm, 131, rfl⟩
abbrev main_c_11 : Ref sig .tc := ⟨.hbm, 132, rfl⟩
abbrev main_call5_v0 : Ref sig .tc := ⟨.hbm, 133, rfl⟩
abbrev main_v109 : Ref sig .tc := ⟨.hbm, 134, rfl⟩
abbrev main_v110 : Ref sig .tc := ⟨.hbm, 135, rfl⟩
abbrev main_c_12 : Ref sig .tc := ⟨.hbm, 136, rfl⟩
abbrev main_call6_v0 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_c_13 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_c_14 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_c_15 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_c_16 : Ref sig .tc := ⟨.hbm, 176, rfl⟩
abbrev main_v146 : Ref sig .tc := ⟨.hbm, 177, rfl⟩
abbrev main_v147 : Ref sig .tc := ⟨.hbm, 178, rfl⟩
abbrev main_c_17 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_c_18 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_19 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v157 : Ref sig .tc := ⟨.hbm, 194, rfl⟩
abbrev main_cst_20 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_21 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_c_22 : Ref sig .tc := ⟨.hbm, 226, rfl⟩
abbrev main_call8_v0 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩

abbrev nD : Nat := 1
abbrev τ : Topo := Topo.v7x

variable {F : FTy → Type} [FloatOps F]
-- ==== Kernel7.lean ====
abbrev S49152x1280 : Shape := ⟨2, ![49152, 1280]⟩
abbrev S2x4x1280 : Shape := ⟨3, ![2, 4, 1280]⟩
abbrev S2x1280 : Shape := ⟨2, ![2, 1280]⟩
abbrev S2x2x10x128x128 : Shape := ⟨5, ![2, 2, 10, 128, 128]⟩
abbrev S2x2x1280 : Shape := ⟨3, ![2, 2, 1280]⟩
abbrev S2x2x10x128x256 : Shape := ⟨5, ![2, 2, 10, 128, 256]⟩
abbrev S2x2x1x1280 : Shape := ⟨4, ![2, 2, 1, 1280]⟩
abbrev S2x1x1280 : Shape := ⟨3, ![2, 1, 1280]⟩
abbrev S256x1280 : Shape := ⟨2, ![256, 1280]⟩
abbrev S8x1280 : Shape := ⟨2, ![8, 1280]⟩
abbrev S1x4x1280 : Shape := ⟨3, ![1, 4, 1280]⟩
abbrev S1x1x1280 : Shape := ⟨3, ![1, 1, 1280]⟩
abbrev S1x1x10x128x256 : Shape := ⟨5, ![1, 1, 10, 128, 256]⟩
abbrev S1x1x1x1280 : Shape := ⟨4, ![1, 1, 1, 1280]⟩
abbrev S1x1280 : Shape := ⟨2, ![1, 1280]⟩
abbrev S272x1280 : Shape := ⟨2, ![272, 1280]⟩
abbrev S4x1280 : Shape := ⟨2, ![4, 1280]⟩
abbrev S256x128 : Shape := ⟨2, ![256, 128]⟩
abbrev S1x1x1x128x256 : Shape := ⟨5, ![1, 1, 1, 128, 256]⟩
abbrev S128x256 : Shape := ⟨2, ![128, 256]⟩
abbrev S256x256 : Shape := ⟨2, ![256, 256]⟩
abbrev S1x1x1x128 : Shape := ⟨4, ![1, 1, 1, 128]⟩
abbrev S1x128 : Shape := ⟨2, ![1, 128]⟩

abbrev nBuf : Space → Nat
  | .hbm => 15
  | .vmem => 15
  | .smem => 0
  | _ => 0

abbrev bufTy : (tb : Table) → Fin (tcTables nBuf tb) → BufTy
  | .hbm, ⟨0, _⟩ => ⟨S49152x1280, .f32⟩
  | .hbm, ⟨1, _⟩ => ⟨S2x4x1280, .f32⟩
  | .hbm, ⟨2, _⟩ => ⟨S2x1280, .f32⟩
  | .hbm, ⟨3, _⟩ => ⟨S2x2x10x128x128, .f32⟩
  | .hbm, ⟨4, _⟩ => ⟨S2x2x1280, .f32⟩
  | .hbm, ⟨5, _⟩ => ⟨S2x2x10x128x128, .f32⟩
  | .hbm, ⟨6, _⟩ => ⟨S2x2x1280, .f32⟩
  | .hbm, ⟨7, _⟩ => ⟨S2x2x1280, .f32⟩
  | .hbm, ⟨8, _⟩ => ⟨S2x2x10x128x256, .f32⟩
  | .hbm, ⟨9, _⟩ => ⟨S2x2x10x128x256, .bf16⟩
  | .hbm, ⟨10, _⟩ => ⟨S2x2x1x1280, .f32⟩
  | .hbm, ⟨11, _⟩ => ⟨S2x2x1x1280, .f32⟩
  | .hbm, ⟨12, _⟩ => ⟨S2x2x1x1280, .f32⟩
  | .hbm, ⟨13, _⟩ => ⟨S2x1x1280, .f32⟩
  | .hbm, ⟨14, _⟩ => ⟨S49152x1280, .f32⟩
  | .local _ .vmem, ⟨0, _⟩ => ⟨S256x1280, .f32⟩
  | .local _ .vmem, ⟨1, _⟩ => ⟨S256x1280, .f32⟩
  | .local _ .vmem, ⟨2, _⟩ => ⟨S8x1280, .f32⟩
  | .local _ .vmem, ⟨3, _⟩ => ⟨S8x1280, .f32⟩
  | .local _ .vmem, ⟨4, _⟩ => ⟨S8x1280, .f32⟩
  | .local _ .vmem, ⟨5, _⟩ => ⟨S8x1280, .f32⟩
  | .local _ .vmem, ⟨6, _⟩ => ⟨S1x4x1280, .f32⟩
  | .local _ .vmem, ⟨7, _⟩ => ⟨S1x1x1280, .f32⟩
  | .local _ .vmem, ⟨8, _⟩ => ⟨S1x1x10x128x256, .bf16⟩
  | .local _ .vmem, ⟨9, _⟩ => ⟨S1x1x1x1280, .f32⟩
  | .local _ .vmem, ⟨10, _⟩ => ⟨S1x1x1x1280, .f32⟩
  | .local _ .vmem, ⟨11, _⟩ => ⟨S1x1x1x1280, .f32⟩
  | .local _ .vmem, ⟨12, _⟩ => ⟨S256x1280, .f32⟩
  | .local _ .vmem, ⟨13, _⟩ => ⟨S256x1280, .f32⟩
  | .local _ .vmem, ⟨14, _⟩ => ⟨S1x1280, .f32⟩
  | _, _ => ⟨S49152x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c6143_i32 : BitVec 32 := 6143#32
  let v2 : BitVec 32 := Scalar.minsi v1 c6143_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x10x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S49152x1280 : Shape := ⟨2, ![49152, 1280]⟩
abbrev S2x4x1280 : Shape := ⟨3, ![2, 4, 1280]⟩
abbrev S2x1280 : Shape := ⟨2, ![2, 1280]⟩
abbrev S2x2x10x128x128 : Shape := ⟨5, ![2, 2, 10, 128, 128]⟩
abbrev S2x2x1280 : Shape := ⟨3, ![2, 2, 1280]⟩
abbrev S1x1x10x128x128 : Shape := ⟨5, ![1, 1, 10, 128, 128]⟩
abbrev S10x128x128 : Shape := ⟨3, ![10, 128, 128]⟩
abbrev S1x1x1280 : Shape := ⟨3, ![1, 1, 1280]⟩
abbrev S1280 : Shape := ⟨1, ![1280]⟩
abbrev S32768x1280 : Shape := ⟨2, ![32768, 1280]⟩
abbrev S8x4096x1280 : Shape := ⟨3, ![8, 4096, 1280]⟩
abbrev S1x4x1280 : Shape := ⟨3, ![1, 4, 1280]⟩
abbrev S4x1280 : Shape := ⟨2, ![4, 1280]⟩
abbrev S1x1280 : Shape := ⟨2, ![1, 1280]⟩
abbrev S_ : Shape := ⟨0, ![]⟩
abbrev S8x4099x1280 : Shape := ⟨3, ![8, 4099, 1280]⟩
abbrev S8x4096x10x128 : Shape := ⟨4, ![8, 4096, 10, 128]⟩
abbrev S10x128x8x4096 : Shape := ⟨4, ![10, 128, 8, 4096]⟩
abbrev S16384x1280 : Shape := ⟨2, ![16384, 1280]⟩
abbrev S1x16384x1280 : Shape := ⟨3, ![1, 16384, 1280]⟩
abbrev S1x16387x1280 : Shape := ⟨3, ![1, 16387, 1280]⟩
abbrev S1x16384x10x128 : Shape := ⟨4, ![1, 16384, 10, 128]⟩
abbrev S10x128x1x16384 : Shape := ⟨4, ![10, 128, 1, 16384]⟩

abbrev nBuf : Space → Nat
  | .hbm => 267
  | .vmem => 0
  | .smem => 0
  | _ => 0

abbrev hbmTy0_0 (i : Nat) : BufTy := match i % 128 with
  | 0 => ⟨S49152x1280, .f32⟩
  | 1 => ⟨S2x4x1280, .f32⟩
  | 2 => ⟨S2x1280, .f32⟩
  | 3 => ⟨S2x2x10x128x128, .f32⟩
  | 4 => ⟨S2x2x1280, .f32⟩
  | 5 => ⟨S2x2x10x128x128, .f32⟩
  | 6 => ⟨S2x2x1280, .f32⟩
  | 7 => ⟨S2x2x1280, .f32⟩
  | 8 => ⟨S1x1x10x128x128, .f32⟩
  | 9 => ⟨S10x128x128, .f32⟩
  | 10 => ⟨S1x1x1280, .f32⟩
  | 11 => ⟨S1280, .f32⟩
  | 12 => ⟨S1x1x10x128x128, .f32⟩
  | 13 => ⟨S10x128x128, .f32⟩
  | 14 => ⟨S1x1x1280, .f32⟩
  | 15 => ⟨S1280, .f32⟩
  | 16 => ⟨S1x1x1280, .f32⟩
  | 17 => ⟨S1280, .f32⟩
  | 18 => ⟨S32768x1280, .f32⟩
  | 19 => ⟨S8x4096x1280, .f32⟩
  | 20 => ⟨S1x4x1280, .f32⟩
  | 21 => ⟨S4x1280, .f32⟩
  | 22 => ⟨S1x1280, .f32⟩
  | 23 => ⟨S1280, .f32⟩
  | 24 => ⟨S_, .i32⟩
  | 25 => ⟨S_, .f32⟩
  | 26 => ⟨S8x4099x1280, .f32⟩
  | 27 => ⟨S8x4096x1280, .f32⟩
  | 28 => ⟨S1x1280, .f32⟩
  | 29 => ⟨S1280, .f32⟩
  | 30 => ⟨S1x1x1280, .f32⟩
  | 31 => ⟨S8x4096x1280, .f32⟩
  | 32 => ⟨S8x4096x1280, .f32⟩
  | 33 => ⟨S_, .f32⟩
  | 34 => ⟨S8x4096x1280, .f32⟩
  | 35 => ⟨S8x4096x1280, .f32⟩
  | 36 => ⟨S8x4096x1280, .f32⟩
  | 37 => ⟨S1x1280, .f32⟩
  | 38 => ⟨S1280, .f32⟩
  | 39 => ⟨S1x1x1280, .f32⟩
  | 40 => ⟨S8x4096x1280, .f32⟩
  | 41 => ⟨S8x4096x1280, .f32⟩
  | 42 => ⟨S8x4096x1280, .f32⟩
  | 43 => ⟨S8x4096x1280, .f32⟩
  | 44 => ⟨S1x1280, .f32⟩
  | 45 => ⟨S1280, .f32⟩
  | 46 => ⟨S1x1x1280, .f32⟩
  | 47 => ⟨S8x4096x1280, .f32⟩
  | 48 => ⟨S8x4096x1280, .f32⟩
  | 49 => ⟨S8x4096x1280, .f32⟩
  | 50 => ⟨S8x4096x1280, .f32⟩
  | 51 => ⟨S1x1280, .f32⟩
  | 52 => ⟨S1280, .f32⟩
  | 53 => ⟨S1x1x1280, .f32⟩
  | 54 => ⟨S8x4096x1280, .f32⟩
  | 55 => ⟨S8x4096x1280, .f32⟩
  | 56 => ⟨S8x4096x1280, .f32⟩
  | 57 => ⟨S1x1x1280, .f32⟩
  | 58 => ⟨S8x4096x1280, .f32⟩
  | 59 => ⟨S8x4096x1280, .f32⟩
  | 60 => ⟨S8x4096x10x128, .f32⟩
  | 61 => ⟨S10x128x8x4096, .f32⟩
  | 62 => ⟨S8x4096x10x128, .f32⟩
  | 63 => ⟨S8x4096x1280, .f32⟩
  | 64 => ⟨S1x1x1280, .f32⟩
  | 65 => ⟨S8x4096x1280, .f32⟩
  | 66 => ⟨S8x4096x1280, .f32⟩
  | 67 => ⟨S10x128x8x4096, .f32⟩
  | 68 => ⟨S8x4096x10x128, .f32⟩
  | 69 => ⟨S8x4096x1280, .f32⟩
  | 70 => ⟨S1x1x1280, .f32⟩
  | 71 => ⟨S8x4096x1280, .f32⟩
  | 72 => ⟨S8x4096x1280, .f32⟩
  | 73 => ⟨S8x4096x1280, .f32⟩
  | 74 => ⟨S8x4096x1280, .f32⟩
  | 75 => ⟨S_, .f32⟩
  | 76 => ⟨S8x4096x1280, .f32⟩
  | 77 => ⟨S8x4096x1280, .f32⟩
  | 78 => ⟨S_, .f32⟩
  | 79 => ⟨S8x4096x1280, .f32⟩
  | 80 => ⟨S8x4096x1280, .f32⟩
  | 81 => ⟨S8x4096x1280, .f32⟩
  | 82 => ⟨S8x4096x1280, .f32⟩
  | 83 => ⟨S_, .f32⟩
  | 84 => ⟨S8x4096x1280, .f32⟩
  | 85 => ⟨S8x4096x1280, .f32⟩
  | 86 => ⟨S_, .f32⟩
  | 87 => ⟨S8x4096x1280, .f32⟩
  | 88 => ⟨S8x4096x1280, .f32⟩
  | 89 => ⟨S1280, .f32⟩
  | 90 => ⟨S_, .f32⟩
  | 91 => ⟨S1280, .f32⟩
  | 92 => ⟨S1280, .f32⟩
  | 93 => ⟨S1280, .f32⟩
  | 94 => ⟨S1280, .f32⟩
  | 95 => ⟨S1280, .i1⟩
  | 96 => ⟨S1280, .f32⟩
  | 97 => ⟨S1280, .f32⟩
  | 98 => ⟨S1280, .f32⟩
  | 99 => ⟨S1280, .f32⟩
  | 100 => ⟨S1280, .f32⟩
  | 101 => ⟨S1280, .f32⟩
  | 102 => ⟨S1280, .f32⟩
  | 103 => ⟨S1280, .f32⟩
  | 104 => ⟨S_, .f32⟩
  | 105 => ⟨S1280, .f32⟩
  | 106 => ⟨S1280, .f32⟩
  | 107 => ⟨S1x1x1280, .f32⟩
  | 108 => ⟨S8x4096x1280, .f32⟩
  | 109 => ⟨S8x4096x1280, .f32⟩
  | 110 => ⟨S8x4096x1280, .f32⟩
  | 111 => ⟨S_, .f32⟩
  | 112 => ⟨S8x4096x1280, .f32⟩
  | 113 => ⟨S8x4096x1280, .f32⟩
  | 114 => ⟨S8x4096x1280, .f32⟩
  | 115 => ⟨S8x4096x1280, .f32⟩
  | 116 => ⟨S8x4096x1280, .f32⟩
  | 117 => ⟨S8x4096x1280, .f32⟩
  | 118 => ⟨S8x4096x1280, .f32⟩
  | 119 => ⟨S8x4096x1280, .i32⟩
  | 120 => ⟨S_, .i32⟩
  | 121 => ⟨S8x4096x1280, .i32⟩
  | 122 => ⟨S8x4096x1280, .i1⟩
  | 123 => ⟨S_, .f32⟩
  | 124 => ⟨S_, .f32⟩
  | 125 => ⟨S8x4096x1280, .f32⟩
  | 126 => ⟨S8x4096x1280, .f32⟩
  | 127 => ⟨S32768x1280, .f32⟩
  | _ => ⟨S49152x1280, .f32⟩

abbrev hbmTy0_1 (i : Nat) : BufTy := match i % 128 with
  | 0 => ⟨S32768x1280, .f32⟩
  | 1 => ⟨S16384x1280, .f32⟩
  | 2 => ⟨S1x16384x1280, .f32⟩
  | 3 => ⟨S1x4x1280, .f32⟩
  | 4 => ⟨S4x1280, .f32⟩
  | 5 => ⟨S1x1280, .f32⟩
  | 6 => ⟨S1280, .f32⟩
  | 7 => ⟨S_, .i32⟩
  | 8 => ⟨S_, .f32⟩
  | 9 => ⟨S1x16387x1280, .f32⟩
  | 10 => ⟨S1x16384x1280, .f32⟩
  | 11 => ⟨S1x1280, .f32⟩
  | 12 => ⟨S1280, .f32⟩
  | 13 => ⟨S1x1x1280, .f32⟩
  | 14 => ⟨S1x16384x1280, .f32⟩
  | 15 => ⟨S1x16384x1280, .f32⟩
  | 16 => ⟨S_, .f32⟩
  | 17 => ⟨S1x16384x1280, .f32⟩
  | 18 => ⟨S1x16384x1280, .f32⟩
  | 19 => ⟨S1x16384x1280, .f32⟩
  | 20 => ⟨S1x1280, .f32⟩
  | 21 => ⟨S1280, .f32⟩
  | 22 => ⟨S1x1x1280, .f32⟩
  | 23 => ⟨S1x16384x1280, .f32⟩
  | 24 => ⟨S1x16384x1280, .f32⟩
  | 25 => ⟨S1x16384x1280, .f32⟩
  | 26 => ⟨S1x16384x1280, .f32⟩
  | 27 => ⟨S1x1280, .f32⟩
  | 28 => ⟨S1280, .f32⟩
  | 29 => ⟨S1x1x1280, .f32⟩
  | 30 => ⟨S1x16384x1280, .f32⟩
  | 31 => ⟨S1x16384x1280, .f32⟩
  | 32 => ⟨S1x16384x1280, .f32⟩
  | 33 => ⟨S1x16384x1280, .f32⟩
  | 34 => ⟨S1x1280, .f32⟩
  | 35 => ⟨S1280, .f32⟩
  | 36 => ⟨S1x1x1280, .f32⟩
  | 37 => ⟨S1x16384x1280, .f32⟩
  | 38 => ⟨S1x16384x1280, .f32⟩
  | 39 => ⟨S1x16384x1280, .f32⟩
  | 40 => ⟨S1x1x1280, .f32⟩
  | 41 => ⟨S1x16384x1280, .f32⟩
  | 42 => ⟨S1x16384x1280, .f32⟩
  | 43 => ⟨S1x16384x10x128, .f32⟩
  | 44 => ⟨S10x128x1x16384, .f32⟩
  | 45 => ⟨S1x16384x10x128, .f32⟩
  | 46 => ⟨S1x16384x1280, .f32⟩
  | 47 => ⟨S1x1x1280, .f32⟩
  | 48 => ⟨S1x16384x1280, .f32⟩
  | 49 => ⟨S1x16384x1280, .f32⟩
  | 50 => ⟨S10x128x1x16384, .f32⟩
  | 51 => ⟨S1x16384x10x128, .f32⟩
  | 52 => ⟨S1x16384x1280, .f32⟩
  | 53 => ⟨S1x1x1280, .f32⟩
  | 54 => ⟨S1x16384x1280, .f32⟩
  | 55 => ⟨S1x16384x1280, .f32⟩
  | 56 => ⟨S1x16384x1280, .f32⟩
  | 57 => ⟨S1x16384x1280, .f32⟩
  | 58 => ⟨S_, .f32⟩
  | 59 => ⟨S1x16384x1280, .f32⟩
  | 60 => ⟨S1x16384x1280, .f32⟩
  | 61 => ⟨S_, .f32⟩
  | 62 => ⟨S1x16384x1280, .f32⟩
  | 63 => ⟨S1x16384x1280, .f32⟩
  | 64 => ⟨S1x16384x1280, .f32⟩
  | 65 => ⟨S1x16384x1280, .f32⟩
  | 66 => ⟨S_, .f32⟩
  | 67 => ⟨S1x16384x1280, .f32⟩
  | 68 => ⟨S1x16384x1280, .f32⟩
  | 69 => ⟨S_, .f32⟩
  | 70 => ⟨S1x16384x1280, .f32⟩
  | 71 => ⟨S1x16384x1280, .f32⟩
  | 72 => ⟨S1280, .f32⟩
  | 73 => ⟨S_, .f32⟩
  | 74 => ⟨S1280, .f32⟩
  | 75 => ⟨S1280, .f32⟩
  | 76 => ⟨S1280, .f32⟩
  | 77 => ⟨S1280, .f32⟩
  | 78 => ⟨S1280, .i1⟩
  | 79 => ⟨S1280, .f32⟩
  | 80 => ⟨S1280, .f32⟩
  | 81 => ⟨S1280, .f32⟩
  | 82 => ⟨S1280, .f32⟩
  | 83 => ⟨S1280, .f32⟩
  | 84 => ⟨S1280, .f32⟩
  | 85 => ⟨S1280, .f32⟩
  | 86 => ⟨S1280, .f32⟩
  | 87 => ⟨S_, .f32⟩
  | 88 => ⟨S1280, .f32⟩
  | 89 => ⟨S1280, .f32⟩
  | 90 => ⟨S1x1x1280, .f32⟩
  | 91 => ⟨S1x16384x1280, .f32⟩
  | 92 => ⟨S1x16384x1280, .f32⟩
  | 93 => ⟨S1x16384x1280, .f32⟩
  | 94 => ⟨S_, .f32⟩
  | 95 => ⟨S1x16384x1280, .f32⟩
  | 96 => ⟨S1x16384x1280, .f32⟩
  | 97 => ⟨S1x16384x1280, .f32⟩
  | 98 => ⟨S1x16384x1280, .f32⟩
  | 99 => ⟨S1x16384x1280, .f32⟩
  | 100 => ⟨S1x16384x1280, .f32⟩
  | 101 => ⟨S1x16384x1280, .f32⟩
  | 102 => ⟨S1x16384x1280, .i32⟩
  | 103 => ⟨S_, .i32⟩
  | 104 => ⟨S1x16384x1280, .i32⟩
  | 105 => ⟨S1x16384x1280, .i1⟩
  | 106 => ⟨S_, .f32⟩
  | 107 => ⟨S_, .f32⟩
  | 108 => ⟨S1x16384x1280, .f32⟩
  | 109 => ⟨S1x16384x1280, .f32⟩
  | 110 => ⟨S16384x1280, .f32⟩
  | 111 => ⟨S16384x1280, .f32⟩
  | 112 => ⟨S49152x1280, .f32⟩
  | 113 => ⟨S49152x1280, .f32⟩
  | 114 => ⟨S_, .f32⟩
  | 115 => ⟨S1280, .f32⟩
  | 116 => ⟨S_, .f32⟩
  | 117 => ⟨S49152x1280, .f32⟩
  | 118 => ⟨S_, .i32⟩
  | 119 => ⟨S49152x1280, .f32⟩
  | 120 => ⟨S49152x1280, .f32⟩
  | 121 => ⟨S_, .i32⟩
  | 122 => ⟨S1280, .f32⟩
  | 123 => ⟨S49152x1280, .f32⟩
  | 124 => ⟨S_, .i32⟩
  | 125 => ⟨S_, .i1⟩
  | 126 => ⟨S_, .i32⟩
  | 127 => ⟨S1x1280, .f32⟩
  | _ => ⟨S49152x1280, .f32⟩

abbrev hbmTy0_2 (i : Nat) : BufTy := match i % 128 with
  | 0 => ⟨S1280, .f32⟩
  | 1 => ⟨S_, .i32⟩
  | 2 => ⟨S1x1280, .f32⟩
  | 3 => ⟨S1280, .f32⟩
  | 4 => ⟨S1280, .f32⟩
  | 5 => ⟨S1280, .f32⟩
  | 6 => ⟨S1x1280, .f32⟩
  | 7 => ⟨S_, .i32⟩
  | 8 => ⟨S49152x1280, .f32⟩
  | 9 => ⟨S_, .i32⟩
  | 10 => ⟨S_, .i32⟩
  | _ => ⟨S49152x1280, .f32⟩

abbrev hbmTy (i : Nat) : BufTy := match i / 128 with
  | 0 => hbmTy0_0 i
  | 1 => hbmTy0_1 i
  | 2 => hbmTy0_2 i
  | _ => ⟨S49152x1280, .f32⟩

abbrev bufTy : (tb : Table) → Fin (tcTables nBuf tb) → BufTy
  | .hbm, ⟨i, _⟩ => hbmTy i
  | _, _ => ⟨S49152x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_0 : Ref sig .tc := ⟨.hbm, 75, rfl⟩
abbrev main_v64 : Ref sig .tc := ⟨.hbm, 76, rfl⟩
abbrev main_v65 : Ref sig .tc := ⟨.hbm, 77, rfl⟩
abbrev main_cst_1 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_2 : Ref sig .tc := ⟨.hbm, 83, rfl⟩
abbrev main_v70 : Ref sig .tc := ⟨.hbm, 84, rfl⟩
abbrev main_v71 : Ref sig .tc := ⟨.hbm, 85, rfl⟩
abbrev main_cst_3 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_v75 : Ref sig .tc := ⟨.hbm, 103, rfl⟩
abbrev main_cst_4 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_5 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_6 : Ref sig .tc := ⟨.hbm, 120, rfl⟩
abbrev main_v90 : Ref sig .tc := ⟨.hbm, 121, rfl⟩
abbrev main_v91 : Ref sig .tc := ⟨.hbm, 122, rfl⟩
abbrev main_cst_7 : Ref sig .tc := ⟨.hbm, 123, rfl⟩
abbrev main_call2_v0 : Ref sig .tc := ⟨.hbm, 124, rfl⟩
abbrev main_call2_v1 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_8 : Ref sig .tc := ⟨.hbm, 135, rfl⟩
abbrev main_call3_v0 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_9 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_10 : Ref sig .tc := ⟨.hbm, 186, rfl⟩
abbrev main_v149 : Ref sig .tc := ⟨.hbm, 187, rfl⟩
abbrev main_v150 : Ref sig .tc := ⟨.hbm, 188, rfl⟩
abbrev main_cst_11 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_12 : Ref sig .tc := ⟨.hbm, 194, rfl⟩
abbrev main_v155 : Ref sig .tc := ⟨.hbm, 195, rfl⟩
abbrev main_v156 : Ref sig .tc := ⟨.hbm, 196, rfl⟩
abbrev main_cst_13 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_call4_cst : Ref sig .tc := ⟨.hbm, 201, rfl⟩
abbrev main_call4_v0 : Ref sig .tc := ⟨.hbm, 202, rfl⟩
abbrev main_call4_v1 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_call4_v5 : Ref sig .tc := ⟨.hbm, 207, rfl⟩
abbrev main_call4_v6 : Ref sig .tc := ⟨.hbm, 208, rfl⟩
abbrev main_call4_v7 : Ref sig .tc := ⟨.hbm, 209, rfl⟩
abbrev main_call4_v8 : Ref sig .tc := ⟨.hbm, 210, rfl⟩
abbrev main_call4_v9 : Ref sig .tc := ⟨.hbm, 211, rfl⟩
abbrev main_call4_v10 : Ref sig .tc := ⟨.hbm, 212, rfl⟩
abbrev main_call4_v11 : Ref sig .tc := ⟨.hbm, 213, rfl⟩
abbrev main_v160 : Ref sig .tc := ⟨.hbm, 214, rfl⟩
abbrev main_cst_14 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_cst_15 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_c_16 : Ref sig .tc := ⟨.hbm, 231, rfl⟩
abbrev main_v175 : Ref sig .tc := ⟨.hbm, 232, rfl⟩
abbrev main_v176 : Ref sig .tc := ⟨.hbm, 233, rfl⟩
abbrev main_cst_17 : Ref sig .tc := ⟨.hbm, 234, rfl⟩
abbrev main_call5_v0 : Ref sig .tc := ⟨.hbm, 235, rfl⟩
abbrev main_call5_v1 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_cst_18 : Ref sig .tc := ⟨.hbm, 242, rfl⟩
abbrev main_v182 : Ref sig .tc := ⟨.hbm, 243, rfl⟩
abbrev main_cst_19 : Ref sig .tc := ⟨.hbm, 244, rfl⟩
abbrev main_v183 : Ref sig .tc := ⟨.hbm, 245, rfl⟩
abbrev main_c_20 : Ref sig .tc := ⟨.hbm, 246, rfl⟩
abbrev main_v184_0 : Ref sig .tc := ⟨.hbm, 247, rfl⟩
abbrev main_v184_1 : Ref sig .tc := ⟨.hbm, 248, rfl⟩
abbrev main_v184_2 : Ref sig .tc := ⟨.hbm, 249, rfl⟩
abbrev main_v184_3 : Ref sig .tc := ⟨.hbm, 250, rfl⟩
abbrev main_v184_4 : Ref sig .tc := ⟨.hbm, 251, rfl⟩
abbrev main_while0c_c_25 : Ref sig .tc := ⟨.hbm, 252, rfl⟩
abbrev main_while0c_v185 : Ref sig .tc := ⟨.hbm, 253, rfl⟩
abbrev main_while0b_call6_c : Ref sig .tc := ⟨.hbm, 254, rfl⟩
abbrev main_while0b_call6_v0 : Ref sig .tc := ⟨.hbm, 255, rfl⟩
abbrev main_while0b_v185 : Ref sig .tc := ⟨.hbm, 256, rfl⟩
abbrev main_while0b_call7_c : Ref sig .tc := ⟨.hbm, 257, rfl⟩
abbrev main_while0b_call7_v0 : Ref sig .tc := ⟨.hbm, 258, rfl⟩
abbrev main_while0b_v186 : Ref sig .tc := ⟨.hbm, 259, rfl⟩
abbrev main_while0b_v187 : Ref sig .tc := ⟨.hbm, 260, rfl⟩
abbrev main_while0b_v188 : Ref sig .tc := ⟨.hbm, 261, rfl⟩
abbrev main_while0b_call8_v0 : Ref sig .tc := ⟨.hbm, 262, rfl⟩
abbrev main_while0b_call8_c : Ref sig .tc := ⟨.hbm, 263, rfl⟩
abbrev main_while0b_v189 : Ref sig .tc := ⟨.hbm, 264, rfl⟩
abbrev main_while0b_c_25 : Ref sig .tc := ⟨.hbm, 265, rfl⟩
abbrev main_while0b_v190 : Ref sig .tc := ⟨.hbm, 266, rfl⟩

abbrev nD : Nat := 1
abbrev τ : Topo := Topo.v7x

variable {F : FTy → Type} [FloatOps F]

abbrev main_while0_count : Scf.Loop 32 := ⟨0#32, 49152#32, 1#32⟩
-- ==== Proof.AttnCases.lean ====
/-
  The attention kernel, one grid point at a time. A grid point holds 256 query rows and the 384 key and value rows around
  them; it works through two sub-blocks of 128 query rows and six pairs of heads. This file says what one pair of heads
  computes (as vector operations) and that the body leaves exactly these tiles in its two output buffers.
-/
module

public import proofs.«01_k».proof.Proof.Gen.KernelIdeal.Value
public import Idealize.ShloMosaic.Lib.Pipeline.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.Attn

open Idealize.ShloMosaic Idealize.ShloMosaic.TcCoe Idealize.SL.Sem
open Cert.KernelIdeal Cert.KernelIdeal.Gen

variable {F : FTy → Type} [FloatOps F] [Named F]

/-! ## One head -/

/-- The lanes of the lower head of a pair. -/
def lowSel : IVec S128x128 1 := k0_pay9

/-- The lanes of the upper head of a pair. -/
def highSel : IVec S128x128 1 := xori lowSel (constantI S128x128 1 1#1)

/-- The key columns a query row of a sub-block sees: its band, cut at the ends of its sequence. -/
def seen (off v0 v9 v12 : BitVec 32) : IVec S128x256 1 :=
  andi (andi k0_pay10
      (cmpi .sge (iota .tc S128x256 32 [1] iota_S128x256_d1_w32)
        (broadcast S128x256 (Scalar.subi v9 (Scalar.subi (Scalar.addi v0 off) 64#32)))))
    (cmpi .slt (iota .tc S128x256 32 [1] iota_S128x256_d1_w32)
      (broadcast S128x256 (Scalar.subi v12 (Scalar.subi (Scalar.addi v0 off) 64#32))))

/-- Scores of one head: products of its lanes of the queries with the keys, masked. -/
def score (sel : IVec S128x128 1) (val : IVec S128x256 1) (Q : Vec F S128x128 .bf16) (K : Vec F S256x128 .bf16) :
    FVec F S128x256 .f32 :=
  select val
    (matmul dot_S128x128_S256x128_S128x256_1_1_0_0_n_n none
      (select sel Q (broadcast S128x128 (Scalar.ofBits .bf16 0x0000#16)) : Vec F S128x128 .bf16) K
      (constant S128x256 .f32 0x00000000#32))
    (broadcast S128x256 (Named.named κ "mask" 0xF149F2CA#32))

/-- The largest score of each row. -/
def top (s : FVec F S128x256 .f32) : FVec F S128x1 .f32 :=
  shapeCast S128x1 (multiReduction .maximumf [1] S128 s 0xFF800000#32 reduces_S128x256_S128 (.inl rfl) rfl)
    shapeCasts_S128_S128x1

/-- The exponentials of the scores, each row measured from its largest. -/
def expo (s : FVec F S128x256 .f32) : FVec F S128x256 .f32 :=
  exp (subf s (broadcastTo S128x256 (top s) broadcasts_S128x1_S128x256))

/-- The sum of each row's exponentials. -/
def total (s : FVec F S128x256 .f32) : FVec F S128x1 .f32 :=
  shapeCast S128x1 (multiReduction .add [1] S128 (expo s) 0x00000000#32 reduces_S128x256_S128 (.inl rfl) rfl)
    shapeCasts_S128_S128x1

/-- One head's output, in the lanes of its pair. -/
def headOut (s : FVec F S128x256 .f32) (V : Vec F S256x128 .bf16) : FVec F S128x128 .f32 :=
  divf (matmul dot_S128x256_S256x128_S128x128_1_0_0_1_n_n none (truncf .bf16 (expo s) bitsLt_bf16_f32) V
      (constant S128x128 .f32 0x00000000#32))
    (broadcastTo S128x128 (total s) broadcasts_S128x1_S128x128)

/-- The output tile of one pair of heads. -/
def oTile (val : IVec S128x256 1) (Q : Vec F S128x128 .bf16) (K V : Vec F S256x128 .bf16) : FVec F S128x128 .f32 :=
  select lowSel (headOut (score lowSel val Q K) V) (headOut (score highSel val Q K) V)

/-- The tile of log-sums with lane `n` set to the log-sum of the rows of `s`. -/
def lseStep (n : BitVec 32) (s : FVec F S128x256 .f32) (prev : FVec F S128x128 .f32) : FVec F S128x128 .f32 :=
  select (cmpi .eq (iota .tc S128x128 32 [1] iota_S128x128_d1_w32) (broadcast S128x128 n))
    (broadcastTo S128x128 (shapeCast S128x1 (addf (top s) (log (total s))) shapeCasts_S128x1_S128x1)
      broadcasts_S128x1_S128x128)
    prev

/-- The two lanes of one pair of heads. -/
def lsePair (n n' : BitVec 32) (val : IVec S128x256 1) (Q : Vec F S128x128 .bf16) (K : Vec F S256x128 .bf16)
    (prev : FVec F S128x128 .f32) : FVec F S128x128 .f32 :=
  lseStep n' (score highSel val Q K) (lseStep n (score lowSel val Q K) prev)

/-! ## The blocks a grid point holds, cut into tiles -/

/-- The 384 key (or value) rows of a grid point: 64 before its rows, its 256 rows, 64 after. -/
def around (xm : Vec F S256x768 .bf16) (xl xr : Vec F S64x768 .bf16) : Vec F S384x768 .bf16 := fun y =>
  have hy : (y 0).val < 384 := (y 0).isLt
  if h : (y 0).val < 64 then xl (ix2 (⟨(y 0).val, h⟩ : Fin 64) (y 1 : Fin 768))
  else if h' : (y 0).val < 320 then xm (ix2 (⟨(y 0).val - 64, by omega⟩ : Fin 256) (y 1 : Fin 768))
  else xr (ix2 (⟨(y 0).val - 320, by omega⟩ : Fin 64) (y 1 : Fin 768))

/-- Sub-block `b`, pair `p` of the queries. -/
def qTile (b : Fin 2) (p : Fin 6) (q : Vec F S256x768 .bf16) : Vec F S128x128 .bf16 := fun j =>
  have h0 : (j 0).val < 128 := (j 0).isLt
  have h1 : (j 1).val < 128 := (j 1).isLt
  q (ix2 (⟨128 * b.val + (j 0).val, by omega⟩ : Fin 256) (⟨128 * p.val + (j 1).val, by omega⟩ : Fin 768))

/-- The rows around sub-block `b`, pair `p` of the keys or values. -/
def kTile (b : Fin 2) (p : Fin 6) (x : Vec F S384x768 .bf16) : Vec F S256x128 .bf16 := fun j =>
  have h0 : (j 0).val < 256 := (j 0).isLt
  have h1 : (j 1).val < 128 := (j 1).isLt
  x (ix2 (⟨128 * b.val + (j 0).val, by omega⟩ : Fin 384) (⟨128 * p.val + (j 1).val, by omega⟩ : Fin 768))

/-- The grid point's block of outputs. -/
def oBlock (val : Fin 2 → IVec S128x256 1) (q : Vec F S256x768 .bf16) (k v : Vec F S384x768 .bf16) : Vec F S256x768 .f32 :=
  fun y =>
    have h0 : (y 0).val < 256 := (y 0).isLt
    have h1 : (y 1).val < 768 := (y 1).isLt
    oTile (val ⟨(y 0).val / 128, by omega⟩) (qTile ⟨(y 0).val / 128, by omega⟩ ⟨(y 1).val / 128, by omega⟩ q)
      (kTile ⟨(y 0).val / 128, by omega⟩ ⟨(y 1).val / 128, by omega⟩ k)
      (kTile ⟨(y 0).val / 128, by omega⟩ ⟨(y 1).val / 128, by omega⟩ v)
      (ix2 (⟨(y 0).val % 128, Nat.mod_lt _ (by decide)⟩ : Fin 128) (⟨(y 1).val % 128, Nat.mod_lt _ (by decide)⟩ : Fin 128))

/-- The tile of log-sums of sub-block `b`: lane after lane. -/
def lseTile (b : Fin 2) (val : IVec S128x256 1) (q : Vec F S256x768 .bf16) (k : Vec F S384x768 .bf16) :
    FVec F S128x128 .f32 :=
  lsePair 10#32 11#32 val (qTile b 5 q) (kTile b 5 k)
    (lsePair 8#32 9#32 val (qTile b 4 q) (kTile b 4 k)
    (lsePair 6#32 7#32 val (qTile b 3 q) (kTile b 3 k)
    (lsePair 4#32 5#32 val (qTile b 2 q) (kTile b 2 k)
    (lsePair 2#32 3#32 val (qTile b 1 q) (kTile b 1 k)
    (lsePair 0#32 1#32 val (qTile b 0 q) (kTile b 0 k) k0_pay12)))))

/-- The grid point's block of log-sums. -/
def lseBlock (val : Fin 2 → IVec S128x256 1) (q : Vec F S256x768 .bf16) (k : Vec F S384x768 .bf16) : Vec F S256x128 .f32 :=
  fun y =>
    have h0 : (y 0).val < 256 := (y 0).isLt
    lseTile ⟨(y 0).val / 128, by omega⟩ (val ⟨(y 0).val / 128, by omega⟩) q k
      (ix2 (⟨(y 0).val % 128, Nat.mod_lt _ (by decide)⟩ : Fin 128) (y 1 : Fin 128))

theorem oBlock_at (val : Fin 2 → IVec S128x256 1) (q : Vec F S256x768 .bf16) (k v : Vec F S384x768 .bf16)
    (b : Fin 2) (p : Fin 6) (j : S128x128.Idx) (y : S256x768.Idx) (h0 : (y 0).val = 128 * b.val + (j 0).val)
    (h1 : (y 1).val = 128 * p.val + (j 1).val) :
    oBlock val q k v y = oTile (val b) (qTile b p q) (kTile b p k) (kTile b p v) j := by
  have j0 : (j 0).val < 128 := (j 0).isLt
  have j1 : (j 1).val < 128 := (j 1).isLt
  have eb : (⟨(y 0).val / 128, by omega⟩ : Fin 2) = b := Fin.ext (by show (y 0).val / 128 = _; omega)
  have ep : (⟨(y 1).val / 128, by omega⟩ : Fin 6) = p := Fin.ext (by show (y 1).val / 128 = _; omega)
  have ej : ((ix2 (⟨(y 0).val % 128, Nat.mod_lt _ (by decide)⟩ : Fin 128) (⟨(y 1).val % 128, Nat.mod_lt _ (by decide)⟩ : Fin 128)) : S128x128.Idx) = j := by
    funext a
    match a with
    | ⟨0, _⟩ => exact Fin.ext (by show (y 0).val % 128 = (j 0).val; omega)
    | ⟨1, _⟩ => exact Fin.ext (by show (y 1).val % 128 = (j 1).val; omega)
  unfold oBlock
  dsimp only
  rw [eb, ep, ej]

theorem lseBlock_at (val : Fin 2 → IVec S128x256 1) (q : Vec F S256x768 .bf16) (k : Vec F S384x768 .bf16)
    (b : Fin 2) (j : S128x128.Idx) (y : S256x128.Idx) (h0 : (y 0).val = 128 * b.val + (j 0).val)
    (h1 : (y 1).val = (j 1).val) :
    lseBlock val q k y = lseTile b (val b) q k j := by
  have j0 : (j 0).val < 128 := (j 0).isLt
  have eb : (⟨(y 0).val / 128, by omega⟩ : Fin 2) = b := Fin.ext (by show (y 0).val / 128 = _; omega)
  have ej : ((ix2 (⟨(y 0).val % 128, Nat.mod_lt _ (by decide)⟩ : Fin 128) (y 1 : Fin 128)) : S128x128.Idx) = j := by
    funext a
    match a with
    | ⟨0, _⟩ => exact Fin.ext (by show (y 0).val % 128 = (j 0).val; omega)
    | ⟨1, _⟩ => exact Fin.ext h1
  unfold lseBlock
  dsimp only
  rw [eb, ej]

/-! ## The bounds of a block's sequence -/

/-- The first row of the block. -/
def row0 (i : grid0.Coords) : BitVec 32 := Scalar.muli (BitVec.ofNat 32 (i 0).val) 256#32

/-- The first row of the block's sequence among the prompts. -/
def loP (i : grid0.Coords) : BitVec 32 := Scalar.muli (Scalar.divsi (row0 i) 4096#32) 4096#32

/-- The first row of the block's sequence among the samples. -/
def loS (i : grid0.Coords) : BitVec 32 :=
  Scalar.addi 32768#32 (Scalar.muli (Scalar.divsi (Scalar.maxsi (Scalar.subi (row0 i) 32768#32) 0#32) 16384#32) 16384#32)

/-- The first row of the block's sequence. -/
def lo (i : grid0.Coords) : BitVec 32 := Scalar.select (Scalar.cmpi .slt (row0 i) 32768#32) (loP i) (loS i)

/-- The row after the last of the block's sequence. -/
def hi (i : grid0.Coords) : BitVec 32 :=
  Scalar.select (Scalar.cmpi .slt (row0 i) 32768#32) (Scalar.addi (loP i) 4096#32) (Scalar.addi (loS i) 16384#32)

/-- What each sub-block's rows see. -/
def seenAt (i : grid0.Coords) (b : Fin 2) : IVec S128x256 1 :=
  if b = 0 then seen 0#32 (row0 i) (lo i) (hi i) else seen 128#32 (row0 i) (lo i) (hi i)

/-! ## Loads -/

/-- The three stores into a scratch buffer leave the rows around the block. -/
theorem canon_around (xm : Vec F S256x768 .bf16) (xl xr : Vec F S64x768 .bf16) :
    View.canon (Val := Elt F) [⟨Rect.unit (s := S384x768) ![320, 0] S64x768.size inb_S384x768_S64x768_320_0, xr⟩,
      ⟨Rect.unit (s := S384x768) ![64, 0] S256x768.size inb_S384x768_S256x768_64_0, xm⟩,
      ⟨Rect.unit (s := S384x768) ![0, 0] S64x768.size inb_S384x768_S64x768_0_0, xl⟩] = around xm xl xr := by
  funext y
  have hy : (y 0).val < 384 := (y 0).isLt
  refine View.canon_eq_of_allAt _ y _ ?_ ?_
  · by_cases h : (y 0).val < 64
    · refine ⟨_, List.mem_cons_of_mem _ (List.mem_cons_of_mem _ List.mem_cons_self), (Rect.mem_set_unit (inb := inb_S384x768_S64x768_0_0)).mpr fun a => ?_⟩
      match a with
      | ⟨0, _⟩ => exact ⟨Nat.zero_le _, by show (y 0).val < 0 + 64; omega⟩
      | ⟨1, _⟩ => exact ⟨Nat.zero_le _, by have := (y 1).isLt; show (y 1).val < 0 + 768; exact (by simpa using this)⟩
    · by_cases h' : (y 0).val < 320
      · refine ⟨_, List.mem_cons_of_mem _ List.mem_cons_self, (Rect.mem_set_unit (inb := inb_S384x768_S256x768_64_0)).mpr fun a => ?_⟩
        match a with
        | ⟨0, _⟩ => exact ⟨by show 64 ≤ (y 0).val; omega, by show (y 0).val < 64 + 256; omega⟩
        | ⟨1, _⟩ => exact ⟨Nat.zero_le _, by have := (y 1).isLt; show (y 1).val < 0 + 768; exact (by simpa using this)⟩
      · refine ⟨_, List.mem_cons_self, (Rect.mem_set_unit (inb := inb_S384x768_S64x768_320_0)).mpr fun a => ?_⟩
        match a with
        | ⟨0, _⟩ => exact ⟨by show 320 ≤ (y 0).val; omega, by show (y 0).val < 320 + 64; omega⟩
        | ⟨1, _⟩ => exact ⟨Nat.zero_le _, by have := (y 1).isLt; show (y 1).val < 0 + 768; exact (by simpa using this)⟩
  · refine View.allAt_cons_unit _ _ _ _ _ ?_ (View.allAt_cons_unit _ _ _ _ _ ?_ (View.allAt_cons_unit _ _ _ _ _ ?_ (View.allAt_nil _ _)))
    · intro x hx
      have e0 : (y 0).val = 320 + (x 0).val := hx 0
      have e1 : (y 1).val = 0 + (x 1).val := hx 1
      have l0 : (x 0).val < 64 := (x 0).isLt
      unfold around
      rw [dif_neg (by omega), dif_neg (by omega)]
      exact congrArg xr (funext fun a => Fin.ext (match a with
        | ⟨0, _⟩ => by show (x 0).val = (y 0).val - 320; omega
        | ⟨1, _⟩ => by show (x 1).val = (y 1).val; omega))
    · intro x hx
      have e0 : (y 0).val = 64 + (x 0).val := hx 0
      have e1 : (y 1).val = 0 + (x 1).val := hx 1
      have l0 : (x 0).val < 256 := (x 0).isLt
      unfold around
      rw [dif_neg (by omega), dif_pos (by omega)]
      exact congrArg xm (funext fun a => Fin.ext (match a with
        | ⟨0, _⟩ => by show (x 0).val = (y 0).val - 64; omega
        | ⟨1, _⟩ => by show (x 1).val = (y 1).val; omega))
    · intro x hx
      have e0 : (y 0).val = 0 + (x 0).val := hx 0
      have e1 : (y 1).val = 0 + (x 1).val := hx 1
      have l0 : (x 0).val < 64 := (x 0).isLt
      unfold around
      rw [dif_pos (by omega)]
      exact congrArg xl (funext fun a => Fin.ext (match a with
        | ⟨0, _⟩ => by show (x 0).val = (y 0).val; omega
        | ⟨1, _⟩ => by show (x 1).val = (y 1).val; omega))

/-- A load of the queries is a tile of them. -/
theorem load_q (q : Vec F S256x768 .bf16) (b : Fin 2) (p : Fin 6) (hin) :
    View.ld q (Rect.unit (s := S256x768) ![128 * b.val, 128 * p.val] S128x128.size hin) = qTile b p q := by
  funext j
  exact View.ld_unit_apply_of q _ _ _ j _ (fun a => match a with | ⟨0, _⟩ => rfl | ⟨1, _⟩ => rfl)

/-- A load of the rows around the block is a tile of them. -/
theorem load_around (a : Memref sig .tc .vmem S384x768 .bf16) (b : Fin 2) (p : Fin 6) (hin) (xm : Vec F S256x768 .bf16)
    (xl xr : Vec F S64x768 .bf16) :
    a.view.readCov (Val := Elt F) [⟨Rect.unit (s := S384x768) ![320, 0] S64x768.size inb_S384x768_S64x768_320_0, xr⟩,
      ⟨Rect.unit (s := S384x768) ![64, 0] S256x768.size inb_S384x768_S256x768_64_0, xm⟩,
      ⟨Rect.unit (s := S384x768) ![0, 0] S64x768.size inb_S384x768_S64x768_0_0, xl⟩]
      (Rect.unit (s := S384x768) ![128 * b.val, 128 * p.val] S256x128.size hin).toLoadRect
      = kTile b p (around xm xl xr) := by
  rw [View.readCov_eq_canon', canon_around]
  funext j
  exact congrArg (around xm xl xr) (funext fun a => Fin.ext ((Rect.idx_unit_val _ _ _ j a).trans
    (match a with | ⟨0, _⟩ => rfl | ⟨1, _⟩ => rfl)))

theorem stored3 (x : Vec F S64x768 .bf16) : k0_pay3 x = x := shapeCast_self ..
theorem stored4 (x : Vec F S256x768 .bf16) : k0_pay4 x = x := shapeCast_self ..
theorem stored5 (x : Vec F S64x768 .bf16) : k0_pay5 x = x := shapeCast_self ..
theorem stored6 (x : Vec F S64x768 .bf16) : k0_pay6 x = x := shapeCast_self ..
theorem stored7 (x : Vec F S256x768 .bf16) : k0_pay7 x = x := shapeCast_self ..
theorem stored8 (x : Vec F S64x768 .bf16) : k0_pay8 x = x := shapeCast_self ..

theorem off2 : (![0, 0] : Fin 2 → Nat) = fun _ => 0 := funext fun a => by fin_cases a <;> rfl

section
variable (c : Dev nD) (i : grid0.Coords)
  (a2 : Memref sig .tc .vmem S256x768 .bf16) (h2 : a2.IsWhole) (a3 : Memref sig .tc .vmem S256x768 .bf16) (h3 : a3.IsWhole)
  (a4 : Memref sig .tc .vmem S64x768 .bf16) (h4 : a4.IsWhole) (a5 : Memref sig .tc .vmem S64x768 .bf16) (h5 : a5.IsWhole)
  (a6 : Memref sig .tc .vmem S256x768 .bf16) (h6 : a6.IsWhole) (a7 : Memref sig .tc .vmem S64x768 .bf16) (h7 : a7.IsWhole)
  (a8 : Memref sig .tc .vmem S64x768 .bf16) (h8 : a8.IsWhole) (a9 : Memref sig .tc .vmem S256x768 .f32) (h9 : a9.IsWhole)
  (a10 : Memref sig .tc .vmem S256x128 .f32) (h10 : a10.IsWhole) (a11 : Memref sig .tc .vmem S384x768 .bf16) (h11 : a11.IsWhole)
  (a12 : Memref sig .tc .vmem S384x768 .bf16) (h12 : a12.IsWhole)
  (q km : Vec F S256x768 .bf16) (kl kr : Vec F S64x768 .bf16) (vm : Vec F S256x768 .bf16) (vl vr : Vec F S64x768 .bf16)

theorem o_out :
    out0_A_7 c i a2 h2 a3 h3 a4 h4 a5 h5 a6 h6 a7 h7 a8 h8 a9 h9 a10 h10 a11 h11 a12 h12 q km kl kr vm vl vr
      = oBlock (seenAt i) q (around km kl kr) (around vm vl vr) := by
  funext y
  unfold out0_A_7
  rw [View.read_writes_eq_canon _ _ _ (cover0_A_7 c i a2 h2 a3 h3 a4 h4 a5 h5 a6 h6 a7 h7 a8 h8 a9 h9 a10 h10 a11 h11 a12 h12 q km kl kr vm vl vr)]
  refine View.canon_eq_of_allAt _ y _ (cover0_A_7 c i a2 h2 a3 h3 a4 h4 a5 h5 a6 h6 a7 h7 a8 h8 a9 h9 a10 h10 a11 h11 a12 h12 q km kl kr vm vl vr y) ?_
  unfold kernelRun0_A
  dsimp only
  sl_unfold_words
  refine View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_nil _ _))))))))))))
  all_goals intro x hx
  all_goals simp only [View.readAt_eq_ld, h2.read_unread, h3.read_unread, h4.read_unread, h5.read_unread, h6.read_unread,
    h7.read_unread, h8.read_unread, View.ld_unit_zero (S := S64x768) off2, View.ld_unit_zero (S := S256x768) off2,
    stored3, stored4, stored5, stored6, stored7, stored8]
  · rw [oBlock_at (seenAt i) q _ _ 1 5 x y (hx 0) (hx 1), ← load_q q 1 5 inb_S256x768_S128x128_128_640,
      ← load_around a11 1 5 inb_S384x768_S256x128_128_640, ← load_around a12 1 5 inb_S384x768_S256x128_128_640]
    rfl
  · rw [oBlock_at (seenAt i) q _ _ 1 4 x y (hx 0) (hx 1), ← load_q q 1 4 inb_S256x768_S128x128_128_512,
      ← load_around a11 1 4 inb_S384x768_S256x128_128_512, ← load_around a12 1 4 inb_S384x768_S256x128_128_512]
    rfl
  · rw [oBlock_at (seenAt i) q _ _ 1 3 x y (hx 0) (hx 1), ← load_q q 1 3 inb_S256x768_S128x128_128_384,
      ← load_around a11 1 3 inb_S384x768_S256x128_128_384, ← load_around a12 1 3 inb_S384x768_S256x128_128_384]
    rfl
  · rw [oBlock_at (seenAt i) q _ _ 1 2 x y (hx 0) (hx 1), ← load_q q 1 2 inb_S256x768_S128x128_128_256,
      ← load_around a11 1 2 inb_S384x768_S256x128_128_256, ← load_around a12 1 2 inb_S384x768_S256x128_128_256]
    rfl
  · rw [oBlock_at (seenAt i) q _ _ 1 1 x y (hx 0) (hx 1), ← load_q q 1 1 inb_S256x768_S128x128_128_128,
      ← load_around a11 1 1 inb_S384x768_S256x128_128_128, ← load_around a12 1 1 inb_S384x768_S256x128_128_128]
    rfl
  · rw [oBlock_at (seenAt i) q _ _ 1 0 x y (hx 0) (hx 1), ← load_q q 1 0 inb_S256x768_S128x128_128_0,
      ← load_around a11 1 0 inb_S384x768_S256x128_128_0, ← load_around a12 1 0 inb_S384x768_S256x128_128_0]
    rfl
  · rw [oBlock_at (seenAt i) q _ _ 0 5 x y (hx 0) (hx 1), ← load_q q 0 5 inb_S256x768_S128x128_0_640,
      ← load_around a11 0 5 inb_S384x768_S256x128_0_640, ← load_around a12 0 5 inb_S384x768_S256x128_0_640]
    rfl
  · rw [oBlock_at (seenAt i) q _ _ 0 4 x y (hx 0) (hx 1), ← load_q q 0 4 inb_S256x768_S128x128_0_512,
      ← load_around a11 0 4 inb_S384x768_S256x128_0_512, ← load_around a12 0 4 inb_S384x768_S256x128_0_512]
    rfl
  · rw [oBlock_at (seenAt i) q _ _ 0 3 x y (hx 0) (hx 1), ← load_q q 0 3 inb_S256x768_S128x128_0_384,
      ← load_around a11 0 3 inb_S384x768_S256x128_0_384, ← load_around a12 0 3 inb_S384x768_S256x128_0_384]
    rfl
  · rw [oBlock_at (seenAt i) q _ _ 0 2 x y (hx 0) (hx 1), ← load_q q 0 2 inb_S256x768_S128x128_0_256,
      ← load_around a11 0 2 inb_S384x768_S256x128_0_256, ← load_around a12 0 2 inb_S384x768_S256x128_0_256]
    rfl
  · rw [oBlock_at (seenAt i) q _ _ 0 1 x y (hx 0) (hx 1), ← load_q q 0 1 inb_S256x768_S128x128_0_128,
      ← load_around a11 0 1 inb_S384x768_S256x128_0_128, ← load_around a12 0 1 inb_S384x768_S256x128_0_128]
    rfl
  · rw [oBlock_at (seenAt i) q _ _ 0 0 x y (hx 0) (hx 1), ← load_q q 0 0 inb_S256x768_S128x128_0_0,
      ← load_around a11 0 0 inb_S384x768_S256x128_0_0, ← load_around a12 0 0 inb_S384x768_S256x128_0_0]
    rfl

theorem lse_out :
    out0_A_8 c i a2 h2 a3 h3 a4 h4 a5 h5 a6 h6 a7 h7 a8 h8 a9 h9 a10 h10 a11 h11 a12 h12 q km kl kr vm vl vr
      = lseBlock (seenAt i) q (around km kl kr) := by
  funext y
  unfold out0_A_8
  rw [View.read_writes_eq_canon _ _ _ (cover0_A_8 c i a2 h2 a3 h3 a4 h4 a5 h5 a6 h6 a7 h7 a8 h8 a9 h9 a10 h10 a11 h11 a12 h12 q km kl kr vm vl vr)]
  refine View.canon_eq_of_allAt _ y _ (cover0_A_8 c i a2 h2 a3 h3 a4 h4 a5 h5 a6 h6 a7 h7 a8 h8 a9 h9 a10 h10 a11 h11 a12 h12 q km kl kr vm vl vr y) ?_
  unfold kernelRun0_A
  dsimp only
  sl_unfold_words
  refine View.allAt_cons_unit _ _ _ _ _ ?_ (View.allAt_cons_unit _ _ _ _ _ ?_ (View.allAt_nil _ _))
  all_goals intro x hx
  all_goals simp only [View.readAt_eq_ld, h2.read_unread, h3.read_unread, h4.read_unread, h5.read_unread, h6.read_unread,
    h7.read_unread, h8.read_unread, View.ld_unit_zero (S := S64x768) off2, View.ld_unit_zero (S := S256x768) off2,
    stored3, stored4, stored5, stored6, stored7, stored8]
  · rw [lseBlock_at (seenAt i) q _ 1 x y (hx 0) ((hx 1).trans (Nat.zero_add _))]
    unfold lseTile
    rw [← load_q q 1 0 inb_S256x768_S128x128_128_0, ← load_around a11 1 0 inb_S384x768_S256x128_128_0,
      ← load_q q 1 1 inb_S256x768_S128x128_128_128, ← load_around a11 1 1 inb_S384x768_S256x128_128_128,
      ← load_q q 1 2 inb_S256x768_S128x128_128_256, ← load_around a11 1 2 inb_S384x768_S256x128_128_256,
      ← load_q q 1 3 inb_S256x768_S128x128_128_384, ← load_around a11 1 3 inb_S384x768_S256x128_128_384,
      ← load_q q 1 4 inb_S256x768_S128x128_128_512, ← load_around a11 1 4 inb_S384x768_S256x128_128_512,
      ← load_q q 1 5 inb_S256x768_S128x128_128_640, ← load_around a11 1 5 inb_S384x768_S256x128_128_640]
    rfl
  · rw [lseBlock_at (seenAt i) q _ 0 x y (hx 0) ((hx 1).trans (Nat.zero_add _))]
    unfold lseTile
    rw [← load_q q 0 0 inb_S256x768_S128x128_0_0, ← load_around a11 0 0 inb_S384x768_S256x128_0_0,
      ← load_q q 0 1 inb_S256x768_S128x128_0_128, ← load_around a11 0 1 inb_S384x768_S256x128_0_128,
      ← load_q q 0 2 inb_S256x768_S128x128_0_256, ← load_around a11 0 2 inb_S384x768_S256x128_0_256,
      ← load_q q 0 3 inb_S256x768_S128x128_0_384, ← load_around a11 0 3 inb_S384x768_S256x128_0_384,
      ← load_q q 0 4 inb_S256x768_S128x128_0_512, ← load_around a11 0 4 inb_S384x768_S256x128_0_512,
      ← load_q q 0 5 inb_S256x768_S128x128_0_640, ← load_around a11 0 5 inb_S384x768_S256x128_0_640]
    rfl
end
end Cert.Attn
end
-- ==== Proof.AttnPoint.lean ====
/-
  The attention kernel's tiles over the extended reals, read at one index.
-/
module

public import proofs.«01_k».proof.Proof.AttnCases
public import Idealize.ShloMosaic.Lib.WordCmp

@[expose] public section

set_option maxRecDepth 16384

noncomputable section

namespace Cert.Attn

open Idealize.ShloMosaic Idealize.ShloMosaic.TcCoe Idealize.SL.Sem
open Idealize.ShloMosaic.WordCmp
open Cert.KernelIdeal Cert.KernelIdeal.Gen

theorem pick_eq {α : Type} (c : BitVec 1) (a b : α) : Scalar.select c a b = if c = 1#1 then a else b := by
  unfold Scalar.select
  rcases BitVec.eq_zero_or_eq_one c with rfl | rfl <;> simp

theorem negInf : Ideal.ofBits .f32 0xFF800000#32 = ⊥ := by
  simp [Ideal.ofBits, Ideal.ieee]

theorem mask_bot : (Named.named κ "mask" (0xF149F2CA#32) : Idealize.ShloMosaic.Ideal .f32) = (⊥ : EReal) := rfl

theorem score_at (sel : IVec S128x128 1) (val : IVec S128x256 1) (Q : FVec Ideal S128x128 .bf16) (K : FVec Ideal S256x128 .bf16)
    (r : Fin 128) (c : Fin 256) :
    (score (F := Ideal) sel val Q K (ix2 r c) : EReal)
      = if val (ix2 r c) = 1#1 then ∑ k : Fin 128, (if sel (ix2 r k) = 1#1 then Q (ix2 r k) * K (ix2 c k) else 0) else ⊥ := by
  pointwise [score]
  simp only [pick_eq, mask_bot]

theorem top_at (s : FVec Ideal S128x256 .f32) (r : Fin 128) :
    (top (F := Ideal) s (ix2 r 0) : EReal) = Finset.univ.sup fun c : Fin 256 => (s (ix2 r c) : EReal) := by
  pointwise [top]
  rw [negInf]
  rfl

theorem expo_at (s : FVec Ideal S128x256 .f32) (r : Fin 128) (c : Fin 256) :
    (expo (F := Ideal) s (ix2 r c) : EReal) = Ideal.exp (s (ix2 r c) - top (F := Ideal) s (ix2 r 0)) := by
  pointwise [expo]

theorem total_at (s : FVec Ideal S128x256 .f32) (r : Fin 128) :
    (total (F := Ideal) s (ix2 r 0) : EReal) = ∑ c : Fin 256, (expo (F := Ideal) s (ix2 r c) : EReal) := by
  pointwise [total]

theorem headOut_at (s : FVec Ideal S128x256 .f32) (V : FVec Ideal S256x128 .bf16) (r d : Fin 128) :
    (headOut (F := Ideal) s V (ix2 r d) : EReal)
      = Ideal.div (∑ c : Fin 256, expo (F := Ideal) s (ix2 r c) * V (ix2 c d)) (total (F := Ideal) s (ix2 r 0)) := by
  pointwise [headOut]

theorem lowSel_at (r d : Fin 128) : lowSel (ix2 r d) = 1#1 ↔ d.val < 64 := by
  pointwise [lowSel, k0_pay9]
  exact cmpi_slt_ofNat_eq_one_iff (by have := d.isLt; omega) (by decide)

theorem highSel_at (r d : Fin 128) : highSel (ix2 r d) = 1#1 ↔ 64 ≤ d.val := by
  have e : highSel (ix2 r d) = IntOp.xori (lowSel (ix2 r d)) 1#1 := by pointwise [highSel]
  rw [e, ← Nat.not_lt, ← lowSel_at r d]
  rcases BitVec.eq_zero_or_eq_one (lowSel (ix2 r d)) with h | h <;> rw [h] <;> decide

theorem oTile_at (val : IVec S128x256 1) (Q : FVec Ideal S128x128 .bf16) (K V : FVec Ideal S256x128 .bf16) (r d : Fin 128) :
    (oTile (F := Ideal) val Q K V (ix2 r d) : EReal)
      = if d.val < 64 then headOut (F := Ideal) (score lowSel val Q K) V (ix2 r d) else headOut (F := Ideal) (score highSel val Q K) V (ix2 r d) := by
  pointwise [oTile]
  simp only [pick_eq, lowSel_at]

theorem lseStep_at (n : ℕ) (hn : n < 128) (s : FVec Ideal S128x256 .f32) (prev : FVec Ideal S128x128 .f32) (r d : Fin 128) :
    (lseStep (F := Ideal) (BitVec.ofNat 32 n) s prev (ix2 r d) : EReal)
      = if d.val = n then top (F := Ideal) s (ix2 r 0) + Ideal.log (total (F := Ideal) s (ix2 r 0)) else prev (ix2 r d) := by
  pointwise [lseStep]
  simp only [pick_eq]
  have := d.isLt
  simp only [cmpi_eq_ofNat_eq_one_iff (w := 32) (a := d.val) (b := n) (by omega) (by omega)]

theorem shifted (a R off : ℕ) (ha : a < 2 ^ 20) (hR : R < 2 ^ 20) (ho : off < 2 ^ 20) :
    (Scalar.subi (BitVec.ofNat 32 a) (Scalar.subi (Scalar.addi (BitVec.ofNat 32 R) (BitVec.ofNat 32 off)) 64#32)).toInt
      = (a : ℤ) - (R + off - 64) := by
  unfold Scalar.subi Scalar.addi IntOp.subi IntOp.addi
  rw [BitVec.toInt_sub, BitVec.toInt_sub, BitVec.toInt_add, toInt_ofNat_of_lt (w := 32) (a := a) (by omega),
    toInt_ofNat_of_lt (w := 32) (a := R) (by omega), toInt_ofNat_of_lt (w := 32) (a := off) (by omega)]
  show Int.bmod (a - Int.bmod (Int.bmod (R + off) (2 ^ 32) - 64) (2 ^ 32)) (2 ^ 32) = _
  simp only [Int.bmod_def]
  omega

theorem seen_at (off R lo hi : ℕ) (ho : off < 2 ^ 20) (hR : R < 2 ^ 20) (hl : lo < 2 ^ 20) (hh : hi < 2 ^ 20) (r : Fin 128) (c : Fin 256) :
    seen (BitVec.ofNat 32 off) (BitVec.ofNat 32 R) (BitVec.ofNat 32 lo) (BitVec.ofNat 32 hi) (ix2 r c) = 1#1
      ↔ (r.val ≤ c.val ∧ c.val ≤ r.val + 128) ∧ lo + 64 ≤ R + off + c.val ∧ R + off + c.val < hi + 64 := by
  pointwise [seen, k0_pay10]
  have hc := c.isLt
  have hr := r.isLt
  have e : IntOp.addi (BitVec.ofNat 32 r.val) 128#32 = BitVec.ofNat 32 (r.val + 128) := by
    unfold IntOp.addi; simp [BitVec.ofNat_add]
  rw [e]
  simp only [cmpi_sge_eq, cmpi_sle_eq, cmpi_slt_eq, andi_ofBool, ofBool_eq_one_iff, Bool.and_eq_true, decide_eq_true_eq,
    shifted _ _ _ hl hR ho, shifted _ _ _ hh hR ho]
  rw [toInt_ofNat_of_lt (w := 32) (a := c.val) (by omega), toInt_ofNat_of_lt (w := 32) (a := r.val) (by omega),
    toInt_ofNat_of_lt (w := 32) (a := r.val + 128) (by omega)]
  omega

end Cert.Attn
end
-- ==== Proof.AttnForm.lean ====
/-
  Attention over a window of 129 key rows, written once over the extended reals: a query row's scores over its window
  (−∞ off its sequence), their log-sum, and the weighted mean of the values. Longer rows of scores that hold the window
  in one place and −∞ elsewhere give the same numbers.
-/
module

public import Idealize.ShloMosaic.PureOps.Ideal
public import Mathlib.Data.EReal.Operations
public import Mathlib.Algebra.BigOperators.Fin

@[expose] public section

noncomputable section

namespace Cert.Attn

open Idealize.ShloMosaic

/-! ## The window's scores -/

/-- The first row of the sequence row `R` lies in. -/
def lowOf (R : ℕ) : ℕ := if R < 32768 then R / 4096 * 4096 else 32768

/-- The row after the last of the sequence row `R` lies in. -/
def highOf (R : ℕ) : ℕ := if R < 32768 then R / 4096 * 4096 + 4096 else 49152

/-- Row `n` of the arrays, for the `n` that are rows. -/
def rowAt (n : ℕ) : Fin 49152 := ⟨min n 49151, by omega⟩

theorem rowAt_of (n : ℕ) (h : n < 49152) : rowAt n = ⟨n, h⟩ := Fin.ext (by show min n 49151 = n; omega)

/-- Column `x` of head `h`. -/
def colAt (h : Fin 12) (x : Fin 64) : Fin 768 := ⟨h.val * 64 + x.val, by omega⟩

/-- The score of a query row and a key row in one head. -/
def dotHead (q k : Fin 49152 → Fin 768 → EReal) (R N : Fin 49152) (h : Fin 12) : EReal :=
  ∑ x : Fin 64, q R (colAt h x) * k N (colAt h x)

/-- The scores of row `R` over its window: entry `d` is that of key row `R + d - 64`. -/
def win (q k : Fin 49152 → Fin 768 → EReal) (R : ℕ) (h : Fin 12) (d : Fin 129) : EReal :=
  if lowOf R + 64 ≤ R + d.val ∧ R + d.val < highOf R + 64 then dotHead q k (rowAt R) (rowAt (R + d.val - 64)) h else ⊥

/-- The values of row `R`'s window in one column. -/
def vwin (v : Fin 49152 → Fin 768 → EReal) (R : ℕ) (e : Fin 768) (d : Fin 129) : EReal := v (rowAt (R + d.val - 64)) e

/-- The logarithm of the sum of the exponentials, their maximum taken out. -/
def lseOf (w : Fin 129 → EReal) : EReal :=
  Finset.univ.sup w + Ideal.log (∑ d : Fin 129, Ideal.exp (w d - Finset.univ.sup w))

/-- The mean of `u` weighted by the exponentials of `w`. -/
def meanOf (w u : Fin 129 → EReal) : EReal :=
  Ideal.div (∑ d : Fin 129, Ideal.exp (w d - Finset.univ.sup w) * u d) (∑ d : Fin 129, Ideal.exp (w d - Finset.univ.sup w))

/-! ## A longer row holding the window at an offset -/

/-- `f` holds `w` from `a` on and is −∞ elsewhere. -/
structure Holds {n : ℕ} (f : Fin n → EReal) (w : Fin 129 → EReal) (a : ℕ) : Prop where
  fits : a + 129 ≤ n
  inside : ∀ (c : Fin n) (d : Fin 129), c.val = a + d.val → f c = w d
  outside : ∀ c : Fin n, (c.val < a ∨ a + 128 < c.val) → f c = ⊥

variable {n a : ℕ} {f : Fin n → EReal} {w : Fin 129 → EReal}

theorem Holds.cases (H : Holds f w a) (c : Fin n) : (∃ d : Fin 129, c.val = a + d.val) ∨ (c.val < a ∨ a + 128 < c.val) := by
  by_cases h : a ≤ c.val ∧ c.val ≤ a + 128
  · exact .inl ⟨⟨c.val - a, by omega⟩, by show c.val = a + (c.val - a); omega⟩
  · exact .inr (by omega)

theorem Holds.sup_eq (H : Holds f w a) : Finset.univ.sup f = Finset.univ.sup w := by
  apply le_antisymm
  · refine Finset.sup_le fun c _ => ?_
    rcases H.cases c with ⟨d, hd⟩ | hc
    · rw [H.inside c d hd]
      exact Finset.le_sup (f := w) (Finset.mem_univ d)
    · rw [H.outside c hc]
      exact bot_le
  · refine Finset.sup_le fun d _ => ?_
    have hlt : a + d.val < n := by have := H.fits; omega
    rw [← H.inside ⟨a + d.val, hlt⟩ d rfl]
    exact Finset.le_sup (f := f) (Finset.mem_univ _)

/-- A sum over the long row of terms that vanish off the window is the sum over the window. -/
theorem sum_window (hfit : a + 129 ≤ n) (g : Fin n → EReal) (u : Fin 129 → EReal)
    (hin : ∀ (c : Fin n) (d : Fin 129), c.val = a + d.val → g c = u d)
    (hout : ∀ c : Fin n, (c.val < a ∨ a + 128 < c.val) → g c = 0) : ∑ c, g c = ∑ d, u d := by
  symm
  refine Fintype.sum_of_injective (fun d : Fin 129 => (⟨a + d.val, by omega⟩ : Fin n)) ?_ u g ?_ ?_
  · intro d d' e
    have := congrArg Fin.val e
    exact Fin.ext (by dsimp only at this; omega)
  · intro c hc
    apply hout
    by_contra hcon
    exact hc ⟨⟨c.val - a, by omega⟩, Fin.ext (by show a + (c.val - a) = c.val; omega)⟩
  · intro d
    exact (hin _ d rfl).symm

theorem exp_bot_sub (x : EReal) : Ideal.exp (⊥ - x) = 0 := by
  rw [EReal.bot_sub]
  rfl

theorem Holds.sum_exp (H : Holds f w a) (x : EReal) : ∑ c, Ideal.exp (f c - x) = ∑ d, Ideal.exp (w d - x) :=
  sum_window H.fits _ _ (fun c d h => by rw [H.inside c d h]) fun c h => by rw [H.outside c h, exp_bot_sub]

theorem Holds.sum_mul (H : Holds f w a) (x : EReal) (g : Fin n → EReal) (u : Fin 129 → EReal)
    (hg : ∀ (c : Fin n) (d : Fin 129), c.val = a + d.val → w d = ⊥ ∨ g c = u d) :
    ∑ c, Ideal.exp (f c - x) * g c = ∑ d, Ideal.exp (w d - x) * u d := by
  refine sum_window H.fits _ _ (fun c d h => ?_) fun c h => by rw [H.outside c h, exp_bot_sub, zero_mul]
  rw [H.inside c d h]
  rcases hg c d h with hw | hu
  · rw [hw, exp_bot_sub, zero_mul, zero_mul]
  · rw [hu]

theorem Holds.lse_eq (H : Holds f w a) :
    Finset.univ.sup f + Ideal.log (∑ c, Ideal.exp (f c - Finset.univ.sup f)) = lseOf w := by
  rw [H.sup_eq, H.sum_exp]
  rfl

theorem Holds.mean_eq (H : Holds f w a) (g : Fin n → EReal) (u : Fin 129 → EReal)
    (hg : ∀ (c : Fin n) (d : Fin 129), c.val = a + d.val → w d = ⊥ ∨ g c = u d) :
    Ideal.div (∑ c, Ideal.exp (f c - Finset.univ.sup f) * g c) (∑ c, Ideal.exp (f c - Finset.univ.sup f)) = meanOf w u := by
  rw [H.sup_eq, H.sum_exp, H.sum_mul _ g u hg]
  rfl

/-! ## Weights normalized before or after the sum -/

theorem coe_sum {ι : Type} (s : Finset ι) (r : ι → ℝ) : ((∑ i ∈ s, r i : ℝ) : EReal) = ∑ i ∈ s, (r i : EReal) := by
  classical
  induction s using Finset.induction_on with
  | empty => simp
  | insert i s hi ih => rw [Finset.sum_insert hi, Finset.sum_insert hi, EReal.coe_add, ih]

/-- A real factor that is not negative goes into a sum. -/
theorem sum_mul_coe {ι : Type} (s : Finset ι) (f : ι → EReal) (z : ℝ) (hz : 0 ≤ z) :
    (∑ i ∈ s, f i) * (z : EReal) = ∑ i ∈ s, f i * (z : EReal) := by
  classical
  induction s using Finset.induction_on with
  | empty => simp
  | insert i s hi ih =>
    rw [Finset.sum_insert hi, Finset.sum_insert hi,
      EReal.right_distrib_of_nonneg_of_ne_top (EReal.coe_nonneg.mpr hz) (EReal.coe_ne_top z), ih]

/-- Where some score is real, exponentials taken against the log-sum are the normalized weights. -/
theorem mean_real (w u : Fin 129 → EReal) (hw : ∀ d, w d = ⊥ ∨ ∃ r : ℝ, w d = r) (hne : ∃ d, w d ≠ ⊥) :
    ∑ d, Ideal.exp (w d - lseOf w) * u d = meanOf w u := by
  obtain ⟨d0, -, hd0⟩ := Finset.exists_mem_eq_sup Finset.univ Finset.univ_nonempty w
  obtain ⟨d1, hd1⟩ := hne
  have hle : ∀ d, w d ≤ w d0 := fun d => by rw [← hd0]; exact Finset.le_sup (f := w) (Finset.mem_univ d)
  obtain ⟨t, ht⟩ : ∃ t : ℝ, w d0 = t := by
    rcases hw d0 with h | h
    · exact absurd (le_bot_iff.mp (h ▸ hle d1)) hd1
    · exact h
  have hsup : Finset.univ.sup w = (t : EReal) := hd0.trans ht
  have hp : ∀ d, ∃ p : ℝ, 0 ≤ p ∧ Ideal.exp (w d - (t : EReal)) = (p : EReal)
      ∧ ∀ z : ℝ, Ideal.exp (w d - ((t + z : ℝ) : EReal)) = ((p * Real.exp (-z) : ℝ) : EReal) := by
    intro d
    rcases hw d with h | ⟨r, h⟩
    · exact ⟨0, le_refl _, by rw [h, exp_bot_sub]; rfl, fun z => by rw [h, exp_bot_sub, zero_mul]; rfl⟩
    · refine ⟨Real.exp (r - t), (Real.exp_pos _).le, ?_, fun z => ?_⟩
      · rw [h, ← EReal.coe_sub]; rfl
      · rw [h, ← EReal.coe_sub, ← Real.exp_add, show r - t + -z = r - (t + z) by ring]; rfl
  choose p hp0 hp1 hp2 using hp
  have hpd0 : p d0 = 1 := by
    have := hp1 d0
    rw [ht, ← EReal.coe_sub, sub_self] at this
    have h2 : ((Real.exp 0 : ℝ) : EReal) = (p d0 : EReal) := this
    rw [Real.exp_zero] at h2
    exact (EReal.coe_eq_coe_iff.mp h2).symm
  have hL : 0 < ∑ d, p d := Finset.sum_pos' (fun d _ => hp0 d) ⟨d0, Finset.mem_univ _, by rw [hpd0]; exact one_pos⟩
  have htotal : ∑ d, Ideal.exp (w d - (t : EReal)) = ((∑ d, p d : ℝ) : EReal) := by
    rw [coe_sum]; exact Finset.sum_congr rfl fun d _ => hp1 d
  have hlse : lseOf w = ((t + Real.log (∑ d, p d) : ℝ) : EReal) := by
    unfold lseOf
    rw [hsup, htotal, Ideal.log_coe, if_neg (not_le.mpr hL), ← EReal.coe_add]
  unfold meanOf
  rw [hlse, hsup, htotal, Ideal.div_coe hL.ne']
  rw [sum_mul_coe _ _ _ (by positivity)]
  refine Finset.sum_congr rfl fun d _ => ?_
  rw [hp2, hp1, Real.exp_neg, Real.exp_log hL, EReal.coe_mul, one_div, mul_assoc, mul_assoc, mul_comm (u d)]

/-! ## Real arguments -/

theorem dotHead_real (q k : Fin 49152 → Fin 768 → EReal) (hq : ∀ R e, ∃ r : ℝ, q R e = r) (hk : ∀ R e, ∃ r : ℝ, k R e = r)
    (R N : Fin 49152) (h : Fin 12) : ∃ r : ℝ, dotHead q k R N h = r := by
  choose a ha using hq
  choose b hb using hk
  refine ⟨∑ x : Fin 64, a R (colAt h x) * b N (colAt h x), ?_⟩
  unfold dotHead
  rw [coe_sum]
  exact Finset.sum_congr rfl fun x _ => by rw [ha, hb, EReal.coe_mul]

theorem win_real (q k : Fin 49152 → Fin 768 → EReal) (hq : ∀ R e, ∃ r : ℝ, q R e = r) (hk : ∀ R e, ∃ r : ℝ, k R e = r)
    (R : ℕ) (h : Fin 12) (d : Fin 129) : win q k R h d = ⊥ ∨ ∃ r : ℝ, win q k R h d = r := by
  unfold win
  split_ifs
  · exact .inr (dotHead_real q k hq hk _ _ h)
  · exact .inl rfl

theorem win_self (q k : Fin 49152 → Fin 768 → EReal) (hq : ∀ R e, ∃ r : ℝ, q R e = r) (hk : ∀ R e, ∃ r : ℝ, k R e = r)
    (R : ℕ) (hR : R < 49152) (h : Fin 12) : win q k R h ⟨64, by decide⟩ ≠ ⊥ := by
  unfold win
  have hin : lowOf R + 64 ≤ R + 64 ∧ R + 64 < highOf R + 64 := by
    unfold lowOf highOf
    split_ifs <;> omega
  rw [if_pos hin]
  obtain ⟨r, hr⟩ := dotHead_real q k hq hk (rowAt R) (rowAt (R + 64 - 64)) h
  rw [hr]
  exact EReal.coe_ne_bot r

/-- The mean with normalized weights, at real queries and keys. -/
theorem mean_win (q k v : Fin 49152 → Fin 768 → EReal) (hq : ∀ R e, ∃ r : ℝ, q R e = r) (hk : ∀ R e, ∃ r : ℝ, k R e = r)
    (R : ℕ) (hR : R < 49152) (h : Fin 12) (e : Fin 768) :
    ∑ d, Ideal.exp (win q k R h d - lseOf (win q k R h)) * vwin v R e d = meanOf (win q k R h) (vwin v R e) :=
  mean_real _ _ (win_real q k hq hk R h) ⟨_, win_self q k hq hk R hR h⟩

end Cert.Attn

end
-- ==== Proof.AttnTile.lean ====
/-
  One tile of scores is a query row's window at an offset; so the tile's output and log-sum are the window's.
-/
module

public import proofs.«01_k».proof.Proof.AttnPoint
public import proofs.«01_k».proof.Proof.AttnForm

@[expose] public section

set_option maxRecDepth 16384

noncomputable section

namespace Cert.Attn

open Idealize.ShloMosaic Idealize.ShloMosaic.TcCoe Idealize.SL.Sem
open Cert.KernelIdeal Cert.KernelIdeal.Gen

/-- A sum over the lanes of a pair that keeps one head's half is the sum over that head. -/
theorem sum_half (u : ℕ) (hu : u < 2) (f : Fin 128 → EReal) :
    (∑ k : Fin 128, if k.val / 64 = u then f k else 0) = ∑ x : Fin 64, f ⟨64 * u + x.val, by omega⟩ := by
  symm
  refine Fintype.sum_of_injective (fun x : Fin 64 => (⟨64 * u + x.val, by omega⟩ : Fin 128)) ?_ _ _ ?_ ?_
  · intro x x' e
    have := congrArg Fin.val e
    exact Fin.ext (by dsimp only at this; omega)
  · intro k hk
    rw [if_neg]
    intro h
    exact hk ⟨⟨k.val - 64 * u, by omega⟩, Fin.ext (by show 64 * u + (k.val - 64 * u) = k.val; omega)⟩
  · intro x
    rw [if_pos (by show (64 * u + x.val) / 64 = u; omega)]

theorem qTile_at (b : Fin 2) (p : Fin 6) (q : FVec Ideal S256x768 .bf16) (r k : Fin 128) :
    qTile (F := Ideal) b p q (ix2 r k) = q (ix2 (⟨128 * b.val + r.val, by omega⟩ : Fin 256) (⟨128 * p.val + k.val, by omega⟩ : Fin 768)) := rfl

theorem kTile_at (b : Fin 2) (p : Fin 6) (x : FVec Ideal S384x768 .bf16) (c : Fin 256) (k : Fin 128) :
    kTile (F := Ideal) b p x (ix2 c k) = x (ix2 (⟨128 * b.val + c.val, by omega⟩ : Fin 384) (⟨128 * p.val + k.val, by omega⟩ : Fin 768)) := rfl

/-- A block of rows `xx` holds the rows of the array `xe` around block `t`. -/
def Around (t : ℕ) (xx : FVec Ideal S384x768 .bf16) (xe : Fin 49152 → Fin 768 → EReal) : Prop :=
  ∀ (y : Fin 384) (e : Fin 768), 64 ≤ 256 * t + y.val → 256 * t + y.val < 49216 →
    (xx (ix2 y e) : EReal) = xe (rowAt (256 * t + y.val - 64)) e

/-- A mask shows sub-block `b` of block `t` its band within its sequence. -/
def Shows (t : ℕ) (b : Fin 2) (val : IVec S128x256 1) : Prop :=
  ∀ (r : Fin 128) (c : Fin 256), val (ix2 r c) = 1#1 ↔ (r.val ≤ c.val ∧ c.val ≤ r.val + 128)
    ∧ lowOf (256 * t + 128 * b.val + r.val) + 64 ≤ 256 * t + 128 * b.val + c.val
    ∧ 256 * t + 128 * b.val + c.val < highOf (256 * t + 128 * b.val + r.val) + 64

theorem highOf_le (R : ℕ) : highOf R ≤ 49152 := by
  unfold highOf
  split_ifs <;> omega

section
variable {t : ℕ} {b : Fin 2} {p : Fin 6} {u : ℕ} {sel : IVec S128x128 1} {val : IVec S128x256 1}
  {q : FVec Ideal S256x768 .bf16} {kk vv : FVec Ideal S384x768 .bf16} {qe ke ve : Fin 49152 → Fin 768 → EReal}

theorem holds (ht : t < 192) (hu : u < 2) (hsel : ∀ r d : Fin 128, sel (ix2 r d) = 1#1 ↔ d.val / 64 = u)
    (hval : Shows t b val)
    (hq : ∀ (y : Fin 256) (e : Fin 768), (q (ix2 y e) : EReal) = qe (rowAt (256 * t + y.val)) e)
    (hk : Around t kk ke) (r : Fin 128) (h : Fin 12) (hh : h.val = 2 * p.val + u) :
    Holds (fun c : Fin 256 => (score (F := Ideal) sel val (qTile (F := Ideal) b p q) (kTile (F := Ideal) b p kk) (ix2 r c) : EReal))
      (win qe ke (256 * t + 128 * b.val + r.val) h) r.val where
  fits := by omega
  inside := by
    intro c d hcd
    rw [score_at]
    unfold win
    by_cases hc : lowOf (256 * t + 128 * b.val + r.val) + 64 ≤ 256 * t + 128 * b.val + c.val
        ∧ 256 * t + 128 * b.val + c.val < highOf (256 * t + 128 * b.val + r.val) + 64
    · have hb : r.val ≤ c.val ∧ c.val ≤ r.val + 128 := by omega
      have hH := highOf_le (256 * t + 128 * b.val + r.val)
      rw [if_pos ((hval r c).mpr ⟨hb, hc⟩), if_pos (by omega)]
      simp only [hsel, qTile_at, kTile_at]
      rw [sum_half u hu]
      unfold dotHead
      refine Finset.sum_congr rfl fun x _ => ?_
      rw [hq, hk _ _ (by show 64 ≤ 256 * t + (128 * b.val + c.val); omega)
        (by show 256 * t + (128 * b.val + c.val) < 49216; omega)]
      have e1 : (⟨128 * p.val + (64 * u + x.val), by omega⟩ : Fin 768) = colAt h x :=
        Fin.ext (by show 128 * p.val + (64 * u + x.val) = h.val * 64 + x.val; omega)
      have e2 : 256 * t + (128 * b.val + r.val) = 256 * t + 128 * b.val + r.val := by omega
      have e3 : 256 * t + (128 * b.val + c.val) - 64 = 256 * t + 128 * b.val + r.val + d.val - 64 := by omega
      dsimp only
      rw [e1, e2, e3]
    · rw [if_neg (fun hv => hc ((hval r c).mp hv).2), if_neg (by omega)]
  outside := by
    intro c hc
    rw [score_at, if_neg]
    intro hv
    have := ((hval r c).mp hv).1
    omega

/-- One head's log-sum in a tile. -/
theorem lse_of_tile (ht : t < 192) (hu : u < 2) (hsel : ∀ r d : Fin 128, sel (ix2 r d) = 1#1 ↔ d.val / 64 = u)
    (hval : Shows t b val)
    (hq : ∀ (y : Fin 256) (e : Fin 768), (q (ix2 y e) : EReal) = qe (rowAt (256 * t + y.val)) e)
    (hk : Around t kk ke) (r : Fin 128) (h : Fin 12) (hh : h.val = 2 * p.val + u) :
    (top (F := Ideal) (score (F := Ideal) sel val (qTile (F := Ideal) b p q) (kTile (F := Ideal) b p kk)) (ix2 r 0) : EReal)
      + Ideal.log (total (F := Ideal) (score (F := Ideal) sel val (qTile (F := Ideal) b p q) (kTile (F := Ideal) b p kk)) (ix2 r 0))
      = lseOf (win qe ke (256 * t + 128 * b.val + r.val) h) := by
  rw [← (holds ht hu hsel hval hq hk r h hh).lse_eq, total_at]
  simp only [expo_at, top_at]

/-- One head's output in a tile. -/
theorem out_of_tile (ht : t < 192) (hu : u < 2) (hsel : ∀ r d : Fin 128, sel (ix2 r d) = 1#1 ↔ d.val / 64 = u)
    (hval : Shows t b val)
    (hq : ∀ (y : Fin 256) (e : Fin 768), (q (ix2 y e) : EReal) = qe (rowAt (256 * t + y.val)) e)
    (hk : Around t kk ke) (hv : Around t vv ve) (r d : Fin 128) (h : Fin 12) (hh : h.val = 2 * p.val + u)
    (x : Fin 64) (hx : d.val = 64 * u + x.val) :
    (headOut (F := Ideal) (score (F := Ideal) sel val (qTile (F := Ideal) b p q) (kTile (F := Ideal) b p kk)) (kTile (F := Ideal) b p vv) (ix2 r d) : EReal)
      = meanOf (win qe ke (256 * t + 128 * b.val + r.val) h) (vwin ve (256 * t + 128 * b.val + r.val) (colAt h x)) := by
  rw [← (holds ht hu hsel hval hq hk r h hh).mean_eq (fun c => (kTile (F := Ideal) b p vv (ix2 c d) : EReal)) _ ?_, headOut_at, total_at]
  · simp only [expo_at, top_at]
  · intro c dd hcd
    by_cases hc : lowOf (256 * t + 128 * b.val + r.val) + 64 ≤ 256 * t + 128 * b.val + r.val + dd.val
        ∧ 256 * t + 128 * b.val + r.val + dd.val < highOf (256 * t + 128 * b.val + r.val) + 64
    · right
      have hH := highOf_le (256 * t + 128 * b.val + r.val)
      rw [kTile_at, hv _ _ (by show 64 ≤ 256 * t + (128 * b.val + c.val); omega)
        (by show 256 * t + (128 * b.val + c.val) < 49216; omega)]
      unfold vwin
      have e1 : (⟨128 * p.val + d.val, by omega⟩ : Fin 768) = colAt h x :=
        Fin.ext (by show 128 * p.val + d.val = h.val * 64 + x.val; omega)
      have e3 : 256 * t + (128 * b.val + c.val) - 64 = 256 * t + 128 * b.val + r.val + dd.val - 64 := by omega
      dsimp only
      rw [e1, e3]
    · left
      unfold win
      rw [if_neg hc]

theorem low_half (r d : Fin 128) : lowSel (ix2 r d) = 1#1 ↔ d.val / 64 = 0 := (lowSel_at r d).trans (by omega)
theorem high_half (r d : Fin 128) : highSel (ix2 r d) = 1#1 ↔ d.val / 64 = 1 :=
  (highSel_at r d).trans (by have := d.isLt; omega)

/-- The output tile of a pair. -/
theorem oTile_win (ht : t < 192) (hval : Shows t b val)
    (hq : ∀ (y : Fin 256) (e : Fin 768), (q (ix2 y e) : EReal) = qe (rowAt (256 * t + y.val)) e)
    (hk : Around t kk ke) (hv : Around t vv ve) (r d : Fin 128) (h : Fin 12) (x : Fin 64)
    (hx : 128 * p.val + d.val = h.val * 64 + x.val) :
    (oTile (F := Ideal) val (qTile (F := Ideal) b p q) (kTile (F := Ideal) b p kk) (kTile (F := Ideal) b p vv) (ix2 r d) : EReal)
      = meanOf (win qe ke (256 * t + 128 * b.val + r.val) h) (vwin ve (256 * t + 128 * b.val + r.val) (colAt h x)) := by
  rw [oTile_at]
  by_cases hd : d.val < 64
  · rw [if_pos hd]
    exact out_of_tile ht (by decide : 0 < 2) low_half hval hq hk hv r d h (by omega) x (by omega)
  · rw [if_neg hd]
    exact out_of_tile ht (by decide : 1 < 2) high_half hval hq hk hv r d h (by omega) x (by omega)

/-- The two lanes a pair of heads sets. -/
theorem lsePair_win (ht : t < 192) (hval : Shows t b val)
    (hq : ∀ (y : Fin 256) (e : Fin 768), (q (ix2 y e) : EReal) = qe (rowAt (256 * t + y.val)) e)
    (hk : Around t kk ke) (r d : Fin 128) (g : Fin 12 → EReal)
    (hg : ∀ h : Fin 12, g h = lseOf (win qe ke (256 * t + 128 * b.val + r.val) h)) (prev : FVec Ideal S128x128 .f32)
    (hp : (prev (ix2 r d) : EReal) = if hd : d.val < 2 * p.val then g ⟨d.val, by omega⟩ else 0) :
    (lsePair (F := Ideal) (BitVec.ofNat 32 (2 * p.val)) (BitVec.ofNat 32 (2 * p.val + 1)) val (qTile (F := Ideal) b p q)
      (kTile (F := Ideal) b p kk) prev (ix2 r d) : EReal)
      = if hd : d.val < 2 * p.val + 2 then g ⟨d.val, by omega⟩ else 0 := by
  unfold lsePair
  rw [lseStep_at _ (by omega), lseStep_at _ (by omega)]
  by_cases h1 : d.val = 2 * p.val + 1
  · rw [if_pos h1, dif_pos (by omega), hg]
    exact lse_of_tile ht (by decide : 1 < 2) high_half hval hq hk r _ h1
  · rw [if_neg h1]
    by_cases h0 : d.val = 2 * p.val
    · rw [if_pos h0, dif_pos (by omega), hg]
      exact lse_of_tile ht (by decide : 0 < 2) low_half hval hq hk r _ h0
    · rw [if_neg h0, hp]
      by_cases h2 : d.val < 2 * p.val
      · rw [dif_pos h2, dif_pos (by omega)]
      · rw [dif_neg h2, dif_neg (by omega)]

theorem lseTile_win (ht : t < 192) (hval : Shows t b val)
    (hq : ∀ (y : Fin 256) (e : Fin 768), (q (ix2 y e) : EReal) = qe (rowAt (256 * t + y.val)) e)
    (hk : Around t kk ke) (r d : Fin 128) :
    (lseTile (F := Ideal) b val q kk (ix2 r d) : EReal)
      = if hd : d.val < 12 then lseOf (win qe ke (256 * t + 128 * b.val + r.val) ⟨d.val, hd⟩) else 0 := by
  have z : ((k0_pay12 (F := Ideal)) (ix2 r d) : EReal) = 0 := by pointwise [k0_pay12]
  unfold lseTile
  have step := fun (p : Fin 6) (prev : FVec Ideal S128x128 .f32) hp =>
    lsePair_win (p := p) ht hval hq hk r d (fun h => lseOf (win qe ke (256 * t + 128 * b.val + r.val) h)) (fun _ => rfl) prev hp
  have z0 : ((k0_pay12 (F := Ideal)) (ix2 r d) : EReal) = if hd : d.val < 2 * (0 : Fin 6).val then
      lseOf (win qe ke (256 * t + 128 * b.val + r.val) ⟨d.val, by omega⟩) else 0 := by
    rw [z, dif_neg]
    exact Nat.not_lt_zero d.val
  exact step 5 _ (step 4 _ (step 3 _ (step 2 _ (step 1 _ (step 0 _ z0)))))
end

end Cert.Attn
end
-- ==== Proof.AttnValue.lean ====
/-
  The attention kernel's blocks as rows of the arguments, what each grid point's masks show, and the two results at one
  index: the window's mean and the window's log-sum.
-/
module

public import proofs.«01_k».proof.Proof.AttnTile

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

abbrev argQ : FVec Ideal S49152x768 .bf16 := m ((c.tc : Thread nD τ).loc main_arg0)
abbrev argK : FVec Ideal S49152x768 .bf16 := m ((c.tc : Thread nD τ).loc main_arg1)
abbrev argV : FVec Ideal S49152x768 .bf16 := m ((c.tc : Thread nD τ).loc main_arg2)

/-- The entry of an argument. -/
abbrev ent (x : FVec Ideal S49152x768 .bf16) (R : Fin 49152) (e : Fin 768) : EReal := x (ix2 R e)

/-! ## The grid -/

theorem bounds_at : ∀ t : Fin grid0.N, row0 (grid0.coords t) = BitVec.ofNat 32 (256 * t.val)
    ∧ lo (grid0.coords t) = BitVec.ofNat 32 (lowOf (256 * t.val)) ∧ hi (grid0.coords t) = BitVec.ofNat 32 (highOf (256 * t.val)) := by
  decide +kernel

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 4 * t.val - 1 ∧ win0_2.index t 1 = 0 := by decide +kernel
theorem idx3 : ∀ t : Fin grid0.N, win0_3.index t 0 = min (4 * t.val + 4) 767 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = 4 * t.val - 1 ∧ win0_5.index t 1 = 0 := by decide +kernel
theorem idx6 : ∀ t : Fin grid0.N, win0_6.index t 0 = min (4 * t.val + 4) 767 ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel

theorem pt_lt (t : Fin cfg0.N) : t.val < 192 := lt_of_lt_of_eq t.isLt (show cfg0.N = 192 from N_0)

theorem lowOf_block (t b r : ℕ) (hb : b < 2) (hr : r < 128) : lowOf (256 * t + 128 * b + r) = lowOf (256 * t) := by
  unfold lowOf
  split_ifs <;> omega

theorem highOf_block (t b r : ℕ) (hb : b < 2) (hr : r < 128) : highOf (256 * t + 128 * b + r) = highOf (256 * t) := by
  unfold highOf
  split_ifs <;> omega

theorem lowOf_le (R : ℕ) (hR : R < 49152) : lowOf R < 49152 := by
  unfold lowOf
  split_ifs <;> omega

/-- The masks of a grid point show each row its window. -/
theorem shows (t : Fin cfg0.N) (b : Fin 2) : Shows t.val b (seenAt (grid0.coords t) b) := by
  intro r x
  have ht := pt_lt t
  have hb := b.isLt
  have hr := r.isLt
  have hl := lowOf_le (256 * t.val) (by omega)
  have hh := highOf_le (256 * t.val)
  obtain ⟨e0, e1, e2⟩ := bounds_at t
  rw [lowOf_block t.val b.val r.val hb hr, highOf_block t.val b.val r.val hb hr]
  unfold seenAt
  rw [e0, e1, e2]
  by_cases h : b = 0
  · rw [if_pos h, seen_at 0 _ _ _ (by omega) (by omega) (by omega) (by omega)]
    have : b.val = 0 := by rw [h]; rfl
    omega
  · rw [if_neg h, seen_at 128 _ _ _ (by omega) (by omega) (by omega) (by omega)]
    have : b.val = 1 := by have : b.val ≠ 0 := fun hv => h (Fin.ext hv); omega
    omega

/-! ## The blocks -/

theorem blk_q (t : Fin cfg0.N) (y : Fin 256) (e : Fin 768) :
    ((iblk m c 0 t : Vec Ideal S256x768 .bf16) (ix2 y e) : EReal) = ent (argQ m c) (rowAt (256 * t.val + y.val)) e := by
  have ht := pt_lt t
  unfold iblk
  rw [View.read_apply]
  show V m c main_arg0 _ = _
  rw [V_main_arg0]
  unfold ent
  congr 1; funext a; apply Fin.ext
  match a with
  | ⟨0, _⟩ => show win0_0.index t 0 * 256 + 1 * y.val = min (256 * t.val + y.val) 49151; rw [(idx0 t).1]; omega
  | ⟨1, _⟩ => show win0_0.index t 1 * 768 + 1 * e.val = e.val; rw [(idx0 t).2]; omega

theorem blk_km (t : Fin cfg0.N) (y : Fin 256) (e : Fin 768) :
    ((iblk m c 1 t : Vec Ideal S256x768 .bf16) (ix2 y e) : EReal) = ent (argK m c) (rowAt (256 * t.val + y.val)) e := by
  have ht := pt_lt t
  unfold iblk
  rw [View.read_apply]
  show V m c main_arg1 _ = _
  rw [V_main_arg1]
  unfold ent
  congr 1; funext a; apply Fin.ext
  match a with
  | ⟨0, _⟩ => show win0_1.index t 0 * 256 + 1 * y.val = min (256 * t.val + y.val) 49151; rw [(idx1 t).1]; omega
  | ⟨1, _⟩ => show win0_1.index t 1 * 768 + 1 * e.val = e.val; rw [(idx1 t).2]; omega

theorem blk_kl (t : Fin cfg0.N) (h : 0 < t.val) (y : Fin 64) (e : Fin 768) :
    ((iblk m c 2 t : Vec Ideal S64x768 .bf16) (ix2 y e) : EReal) = ent (argK m c) (rowAt (256 * t.val + y.val - 64)) e := by
  have ht := pt_lt t
  unfold iblk
  rw [View.read_apply]
  show V m c main_arg1 _ = _
  rw [V_main_arg1]
  unfold ent
  congr 1; funext a; apply Fin.ext
  match a with
  | ⟨0, _⟩ => show win0_2.index t 0 * 64 + 1 * y.val = min (256 * t.val + y.val - 64) 49151; rw [(idx2 t).1]; omega
  | ⟨1, _⟩ => show win0_2.index t 1 * 768 + 1 * e.val = e.val; rw [(idx2 t).2]; omega

theorem blk_kr (t : Fin cfg0.N) (h : t.val < 191) (y : Fin 64) (e : Fin 768) :
    ((iblk m c 3 t : Vec Ideal S64x768 .bf16) (ix2 y e) : EReal) = ent (argK m c) (rowAt (256 * t.val + y.val + 256)) e := by
  unfold iblk
  rw [View.read_apply]
  show V m c main_arg1 _ = _
  rw [V_main_arg1]
  unfold ent
  congr 1; funext a; apply Fin.ext
  match a with
  | ⟨0, _⟩ => show win0_3.index t 0 * 64 + 1 * y.val = min (256 * t.val + y.val + 256) 49151; rw [(idx3 t).1]; omega
  | ⟨1, _⟩ => show win0_3.index t 1 * 768 + 1 * e.val = e.val; rw [(idx3 t).2]; omega

theorem blk_vm (t : Fin cfg0.N) (y : Fin 256) (e : Fin 768) :
    ((iblk m c 4 t : Vec Ideal S256x768 .bf16) (ix2 y e) : EReal) = ent (argV m c) (rowAt (256 * t.val + y.val)) e := by
  have ht := pt_lt t
  unfold iblk
  rw [View.read_apply]
  show V m c main_arg2 _ = _
  rw [V_main_arg2]
  unfold ent
  congr 1; funext a; apply Fin.ext
  match a with
  | ⟨0, _⟩ => show win0_4.index t 0 * 256 + 1 * y.val = min (256 * t.val + y.val) 49151; rw [(idx4 t).1]; omega
  | ⟨1, _⟩ => show win0_4.index t 1 * 768 + 1 * e.val = e.val; rw [(idx4 t).2]; omega

theorem blk_vl (t : Fin cfg0.N) (h : 0 < t.val) (y : Fin 64) (e : Fin 768) :
    ((iblk m c 5 t : Vec Ideal S64x768 .bf16) (ix2 y e) : EReal) = ent (argV m c) (rowAt (256 * t.val + y.val - 64)) e := by
  have ht := pt_lt t
  unfold iblk
  rw [View.read_apply]
  show V m c main_arg2 _ = _
  rw [V_main_arg2]
  unfold ent
  congr 1; funext a; apply Fin.ext
  match a with
  | ⟨0, _⟩ => show win0_5.index t 0 * 64 + 1 * y.val = min (256 * t.val + y.val - 64) 49151; rw [(idx5 t).1]; omega
  | ⟨1, _⟩ => show win0_5.index t 1 * 768 + 1 * e.val = e.val; rw [(idx5 t).2]; omega

theorem blk_vr (t : Fin cfg0.N) (h : t.val < 191) (y : Fin 64) (e : Fin 768) :
    ((iblk m c 6 t : Vec Ideal S64x768 .bf16) (ix2 y e) : EReal) = ent (argV m c) (rowAt (256 * t.val + y.val + 256)) e := by
  unfold iblk
  rw [View.read_apply]
  show V m c main_arg2 _ = _
  rw [V_main_arg2]
  unfold ent
  congr 1; funext a; apply Fin.ext
  match a with
  | ⟨0, _⟩ => show win0_6.index t 0 * 64 + 1 * y.val = min (256 * t.val + y.val + 256) 49151; rw [(idx6 t).1]; omega
  | ⟨1, _⟩ => show win0_6.index t 1 * 768 + 1 * e.val = e.val; rw [(idx6 t).2]; omega

/-- Three blocks that hold the rows before, at and after block `t` hold the rows around it. -/
theorem around_of (t : ℕ) (ht : t < 192) (xm : Vec Ideal S256x768 .bf16) (xl xr : Vec Ideal S64x768 .bf16)
    (xe : Fin 49152 → Fin 768 → EReal)
    (hm : ∀ (y : Fin 256) (e : Fin 768), (xm (ix2 y e) : EReal) = xe (rowAt (256 * t + y.val)) e)
    (hl : 0 < t → ∀ (y : Fin 64) (e : Fin 768), (xl (ix2 y e) : EReal) = xe (rowAt (256 * t + y.val - 64)) e)
    (hr : t < 191 → ∀ (y : Fin 64) (e : Fin 768), (xr (ix2 y e) : EReal) = xe (rowAt (256 * t + y.val + 256)) e) :
    Around t (around (F := Ideal) xm xl xr) xe := by
  intro y e h0 h1
  have hy := y.isLt
  unfold around
  dsimp only
  by_cases c0 : y.val < 64
  · exact (dif_pos c0).trans (hl (by omega) ⟨y.val, c0⟩ e)
  · refine (dif_neg c0).trans ?_
    by_cases c1 : y.val < 320
    · refine (dif_pos c1).trans ((hm ⟨y.val - 64, by omega⟩ e).trans ?_)
      rw [show 256 * t + (⟨y.val - 64, by omega⟩ : Fin 256).val = 256 * t + y.val - 64 by dsimp only; omega]
    · refine (dif_neg c1).trans ((hr (by omega) ⟨y.val - 320, by omega⟩ e).trans ?_)
      rw [show 256 * t + (⟨y.val - 320, by omega⟩ : Fin 64).val + 256 = 256 * t + y.val - 64 by dsimp only; omega]

theorem around_k (t : Fin cfg0.N) : Around t.val (around (F := Ideal) (iblk m c 1 t) (iblk m c 2 t) (iblk m c 3 t)) (ent (argK m c)) :=
  around_of t.val (pt_lt t) _ _ _ _ (blk_km m c t) (blk_kl m c t) (blk_kr m c t)

theorem around_v (t : Fin cfg0.N) : Around t.val (around (F := Ideal) (iblk m c 4 t) (iblk m c 5 t) (iblk m c 6 t)) (ent (argV m c)) :=
  around_of t.val (pt_lt t) _ _ _ _ (blk_vm m c t) (blk_vl m c t) (blk_vr m c t)

/-! ## The results -/

/-- The grid point that writes row `R`. -/
def ptOf (R : Fin 49152) : Fin cfg0.N := ⟨R.val / 256, lt_of_lt_of_eq (by have := R.isLt; omega) (show cfg0.N = 192 from N_0).symm⟩

/-- The outputs, as one block of the whole array. -/
theorem o_blk (t : Fin cfg0.N) (y : S256x768.Idx) :
    ((((cfg0.win 7).blk t).view.read (Elt Ideal) ((Gen.dats m 0 c).arrAt 7 cfg0.N)) y : EReal)
      = oBlock (F := Ideal) (seenAt (grid0.coords t)) (iblk m c 0 t) (around (iblk m c 1 t) (iblk m c 2 t) (iblk m c 3 t))
        (around (iblk m c 4 t) (iblk m c 5 t) (iblk m c 6 t)) y := by
  rw [Value.blocks7 m c t (flush0_7 t), Value.flushed7_A, o_out]
  rfl

theorem lse_blk (t : Fin cfg0.N) (y : S256x128.Idx) :
    ((((cfg0.win 8).blk t).view.read (Elt Ideal) ((Gen.dats m 0 c).arrAt 8 cfg0.N)) y : EReal)
      = lseBlock (F := Ideal) (seenAt (grid0.coords t)) (iblk m c 0 t) (around (iblk m c 1 t) (iblk m c 2 t) (iblk m c 3 t)) y := by
  rw [Value.blocks8 m c t (flush0_8 t), Value.flushed8_A, lse_out]
  rfl

/-- One entry of the output. -/
theorem out_at (R : Fin 49152) (h : Fin 12) (x : Fin 64) :
    ((Gen.dats m 0 c).arrAt 7 cfg0.N (ix2 R (colAt h x)) : EReal)
      = meanOf (win (ent (argQ m c)) (ent (argK m c)) R.val h) (vwin (ent (argV m c)) R.val (colAt h x)) := by
  have hR := R.isLt
  have hh := h.isLt
  have hx := x.isLt
  have e := o_blk m c (ptOf R) (ix2 (⟨R.val % 256, Nat.mod_lt _ (by decide)⟩ : Fin 256) (colAt h x))
  rw [View.read_apply] at e
  have ei : (((cfg0.win 7).blk (ptOf R)).view.emb (ix2 (⟨R.val % 256, Nat.mod_lt _ (by decide)⟩ : Fin 256) (colAt h x)) : S49152x768.Idx)
      = ix2 R (colAt h x) := by
    funext a; apply Fin.ext
    match a with
    | ⟨0, _⟩ => show win0_7.index (ptOf R) 0 * 256 + 1 * (R.val % 256) = R.val; rw [(idx7 _).1]; show R.val / 256 * 256 + _ = _; omega
    | ⟨1, _⟩ => show win0_7.index (ptOf R) 1 * 768 + 1 * (colAt h x).val = (colAt h x).val; rw [(idx7 _).2]; omega
  have e2 : ((Gen.dats m 0 c).arrAt 7 cfg0.N (ix2 R (colAt h x)) : EReal) = _ := (congrArg ((Gen.dats m 0 c).arrAt 7 cfg0.N) ei).symm.trans e
  rw [e2]
  have hb : R.val % 256 / 128 < 2 := by omega
  have hp : h.val / 2 < 6 := by omega
  have hr : R.val % 128 < 128 := by omega
  have hd : h.val % 2 * 64 + x.val < 128 := by omega
  rw [oBlock_at (F := Ideal) _ _ _ _ ⟨R.val % 256 / 128, hb⟩ ⟨h.val / 2, hp⟩ (ix2 (⟨R.val % 128, hr⟩ : Fin 128) (⟨h.val % 2 * 64 + x.val, hd⟩ : Fin 128)) _
    (by show R.val % 256 = 128 * (R.val % 256 / 128) + R.val % 128; omega)
    (by show h.val * 64 + x.val = 128 * (h.val / 2) + (h.val % 2 * 64 + x.val); omega)]
  rw [oTile_win (pt_lt (ptOf R)) (shows (ptOf R) _) (blk_q m c (ptOf R)) (around_k m c (ptOf R)) (around_v m c (ptOf R)) _ _ h x
    (by show 128 * (h.val / 2) + (h.val % 2 * 64 + x.val) = h.val * 64 + x.val; omega)]
  rw [show 256 * (ptOf R).val + 128 * (⟨R.val % 256 / 128, hb⟩ : Fin 2).val + (⟨R.val % 128, hr⟩ : Fin 128).val = R.val by
    show 256 * (R.val / 256) + 128 * (R.val % 256 / 128) + R.val % 128 = R.val; omega]

/-- One entry of the log-sums. -/
theorem lse_at (R : Fin 49152) (e : Fin 128) :
    ((Gen.dats m 0 c).arrAt 8 cfg0.N (ix2 R e) : EReal)
      = if h : e.val < 12 then lseOf (win (ent (argQ m c)) (ent (argK m c)) R.val ⟨e.val, h⟩) else 0 := by
  have hR := R.isLt
  have e1 := lse_blk m c (ptOf R) (ix2 (⟨R.val % 256, Nat.mod_lt _ (by decide)⟩ : Fin 256) e)
  rw [View.read_apply] at e1
  have ei : (((cfg0.win 8).blk (ptOf R)).view.emb (ix2 (⟨R.val % 256, Nat.mod_lt _ (by decide)⟩ : Fin 256) e) : S49152x128.Idx)
      = ix2 R e := by
    funext a; apply Fin.ext
    match a with
    | ⟨0, _⟩ => show win0_8.index (ptOf R) 0 * 256 + 1 * (R.val % 256) = R.val; rw [(idx8 _).1]; show R.val / 256 * 256 + _ = _; omega
    | ⟨1, _⟩ => show win0_8.index (ptOf R) 1 * 128 + 1 * e.val = e.val; rw [(idx8 _).2]; omega
  have e2 : ((Gen.dats m 0 c).arrAt 8 cfg0.N (ix2 R e) : EReal) = _ := (congrArg ((Gen.dats m 0 c).arrAt 8 cfg0.N) ei).symm.trans e1
  rw [e2]
  have hb : R.val % 256 / 128 < 2 := by omega
  have hr : R.val % 128 < 128 := by omega
  rw [lseBlock_at (F := Ideal) _ _ _ ⟨R.val % 256 / 128, hb⟩ (ix2 (⟨R.val % 128, hr⟩ : Fin 128) e) _
    (by show R.val % 256 = 128 * (R.val % 256 / 128) + R.val % 128; omega) rfl]
  rw [lseTile_win (pt_lt (ptOf R)) (shows (ptOf R) _) (blk_q m c (ptOf R)) (around_k m c (ptOf R))]
  rw [show 256 * (ptOf R).val + 128 * (⟨R.val % 256 / 128, hb⟩ : Fin 2).val + (⟨R.val % 128, hr⟩ : Fin 128).val = R.val by
    show 256 * (R.val / 256) + 128 * (R.val % 256 / 128) + R.val % 128 = R.val; omega]

end Cert.Attn
end
-- ==== Proof.AttnRef.lean ====
/-
  The attention reference over the extended reals, step by step, read at one index: its prompts (8 sequences of 4096 rows,
  64 blocks each) and its sample (one sequence of 16384 rows, 256 blocks). Each step is a function of the arrays before it.
-/
module

public import proofs.«01_k».proof.Proof.AttnForm
public import proofs.«01_k».proof.Proof.AttnPoint
public import proofs.«01_k».proof.Proof.Gen.ReferenceIdeal.Run
public import Idealize.ShloMosaic.Lib.Tactic.CleanTypes

@[expose] public section

set_option maxRecDepth 16384

noncomputable section

namespace Cert.AttnRef

open Idealize.ShloMosaic Idealize.ShloMosaic.TcCoe Idealize.SL.Sem
open Idealize.ShloMosaic.WordCmp
open Cert.ReferenceIdeal Cert.ReferenceIdeal.Gen
open Cert.Attn (rowAt colAt rowAt_of)

/-! ## Words that hold small integers -/

theorem word_nat (n : ℕ) : BitVec.ofNat 32 n = BitVec.ofInt 32 (n : ℤ) := by
  rw [BitVec.ofInt_natCast]

theorem word_toInt (z : ℤ) (h1 : -2147483648 ≤ z) (h2 : z < 2147483648) : (BitVec.ofInt 32 z).toInt = z := by
  rw [BitVec.toInt_ofInt]
  exact Int.bmod_eq_of_le (by norm_num; omega) (by norm_num; omega)

theorem word_add (y z : ℤ) : IntOp.addi (BitVec.ofInt 32 y) (BitVec.ofInt 32 z) = BitVec.ofInt 32 (y + z) := (BitVec.ofInt_add y z).symm
theorem word_mul (y z : ℤ) : IntOp.muli (BitVec.ofInt 32 y) (BitVec.ofInt 32 z) = BitVec.ofInt 32 (y * z) := (BitVec.ofInt_mul y z).symm
theorem word_sub (y z : ℤ) : IntOp.subi (BitVec.ofInt 32 y) (BitVec.ofInt 32 z) = BitVec.ofInt 32 (y - z) := by
  show BitVec.ofInt 32 y - BitVec.ofInt 32 z = _
  rw [BitVec.sub_eq_add_neg, sub_eq_add_neg y z, BitVec.ofInt_add, BitVec.ofInt_neg]
theorem word_abs (z : ℤ) (h1 : -2147483648 < z) (h2 : z < 2147483648) :
    IntOp.absi (BitVec.ofInt 32 z) = BitVec.ofInt 32 |z| := by
  unfold IntOp.absi
  rw [BitVec.msb_eq_toInt, word_toInt z (by omega) h2]
  by_cases h : z < 0
  · rw [if_pos (by simpa using h), abs_of_neg h, BitVec.ofInt_neg]
  · rw [if_neg (by simpa using h), abs_of_nonneg (not_lt.mp h)]
theorem word_sle (y z : ℤ) (hy : -2147483648 ≤ y ∧ y < 2147483648) (hz : -2147483648 ≤ z ∧ z < 2147483648) :
    IntOp.cmpi .sle (BitVec.ofInt 32 y) (BitVec.ofInt 32 z) = BitVec.ofBool (decide (y ≤ z)) := by
  rw [cmpi_sle_eq, word_toInt y hy.1 hy.2, word_toInt z hz.1 hz.2]
theorem word_sge (y z : ℤ) (hy : -2147483648 ≤ y ∧ y < 2147483648) (hz : -2147483648 ≤ z ∧ z < 2147483648) :
    IntOp.cmpi .sge (BitVec.ofInt 32 y) (BitVec.ofInt 32 z) = BitVec.ofBool (decide (z ≤ y)) := by
  rw [cmpi_sge_eq, word_toInt y hy.1 hy.2, word_toInt z hz.1 hz.2]
theorem word_slt (y z : ℤ) (hy : -2147483648 ≤ y ∧ y < 2147483648) (hz : -2147483648 ≤ z ∧ z < 2147483648) :
    IntOp.cmpi .slt (BitVec.ofInt 32 y) (BitVec.ofInt 32 z) = BitVec.ofBool (decide (y < z)) := by
  rw [cmpi_slt_eq, word_toInt y hy.1 hy.2, word_toInt z hz.1 hz.2]

/-- The reference's test of a key position against a query position, both counted from a sequence's start. -/
theorem near_words (b j c L : ℕ) (hb : b < 256) (hj : j < 64) (hc : c < 192) (hL : L < 65536) :
    IntOp.andi (IntOp.andi
        (IntOp.cmpi .sle (IntOp.absi (IntOp.subi
          (IntOp.subi (IntOp.addi (IntOp.muli (BitVec.ofNat 32 b) 64#32) (BitVec.ofNat 32 c)) 64#32)
          (IntOp.addi (IntOp.muli (BitVec.ofNat 32 b) 64#32) (BitVec.ofNat 32 j)))) 64#32)
        (IntOp.cmpi .sge (IntOp.subi (IntOp.addi (IntOp.muli (BitVec.ofNat 32 b) 64#32) (BitVec.ofNat 32 c)) 64#32) 0#32))
      (IntOp.cmpi .slt (IntOp.subi (IntOp.addi (IntOp.muli (BitVec.ofNat 32 b) 64#32) (BitVec.ofNat 32 c)) 64#32)
        (BitVec.ofNat 32 L)) = 1#1
    ↔ (j ≤ c ∧ c ≤ j + 128) ∧ 64 ≤ b * 64 + c ∧ b * 64 + c < L + 64 := by
  simp only [word_nat, word_add, word_mul, word_sub]
  rw [word_abs _ (by push_cast; omega) (by push_cast; omega)]
  rw [word_sle _ _ (by push_cast; constructor <;> rw [abs_eq_max_neg] <;> omega) (by norm_num),
    word_sge _ _ (by push_cast; omega) (by norm_num), word_slt _ _ (by push_cast; omega) (by omega)]
  rw [andi_ofBool, andi_ofBool, ofBool_eq_one_iff]
  simp only [Bool.and_eq_true, decide_eq_true_eq, abs_le]
  push_cast
  omega

/-! ## The steps -/

theorem add_at {s : Shape} (x y : FVec Ideal s .f32) (i : s.Idx) : (addf x y i : EReal) = x i + y i := rfl
theorem log_at {s : Shape} (x : FVec Ideal s .f32) (i : s.Idx) : (Host.log x i : EReal) = Ideal.log (x i) := rfl

/-- The rows as sequences of heads. -/
def seqsP (x : FVec Ideal S49152x768 .f32) : FVec Ideal S8x4096x12x64 .f32 :=
  shapeCast _ (transpose S8x1x4096x12x64 [0, 2, 1, 3, 4] (shapeCast _ (shapeCast _ (extractStridedSlice S32768x768 ![0, 0] x slices_S49152x768_S32768x768_0_0) shapeCasts_S32768x768_S8x4096x12x64) shapeCasts_S8x4096x12x64_S8x4096x1x12x64) transposes_S8x4096x1x12x64_S8x1x4096x12x64_0_2_1_3_4) shapeCasts_S8x1x4096x12x64_S8x4096x12x64

/-- The queries in blocks of 64 rows. -/
def queriesP (x : FVec Ideal S49152x768 .f32) : FVec Ideal S8x64x64x12x64 .f32 :=
  shapeCast _ (pad S8x4096x12x64 ![0, 0, 0, 0] ![0, 0, 0, 0] ![0, 0, 0, 0] (seqsP x) (sitofp (F := Ideal) .f32 (constantI S_ 32 0#32)) pads_S8x4096x12x64_S8x4096x12x64_000_000_000_000 h_S_) shapeCasts_S8x4096x12x64_S8x64x64x12x64

/-- The keys or values in blocks of 64 rows, a block of zeros at either end of a sequence. -/
def paddedP (x : FVec Ideal S49152x768 .f32) : FVec Ideal S8x66x64x12x64 .f32 :=
  shapeCast _ (pad S8x4224x12x64 ![0, 64, 0, 0] ![0, 64, 0, 0] ![0, 0, 0, 0] (seqsP x) (sitofp (F := Ideal) .f32 (constantI S_ 32 0#32)) pads_S8x4096x12x64_S8x4224x12x64_000_64640_000_000 h_S_) shapeCasts_S8x4224x12x64_S8x66x64x12x64

/-- The three blocks around each block. -/
def aroundP (vb : FVec Ideal S8x66x64x12x64 .f32) : FVec Ideal S8x64x192x12x64 .f32 :=
  concatenate S8x64x192x12x64 2
    [⟨S8x64x64x12x64, extractStridedSlice S8x64x64x12x64 ![0, 0, 0, 0, 0] vb slices_S8x66x64x12x64_S8x64x64x12x64_0_0_0_0_0⟩,
     ⟨S8x64x64x12x64, extractStridedSlice S8x64x64x12x64 ![0, 1, 0, 0, 0] vb slices_S8x66x64x12x64_S8x64x64x12x64_0_1_0_0_0⟩,
     ⟨S8x64x64x12x64, extractStridedSlice S8x64x64x12x64 ![0, 2, 0, 0, 0] vb slices_S8x66x64x12x64_S8x64x64x12x64_0_2_0_0_0⟩]
    concatenates_S8x64x64x12x64_S8x64x64x12x64_S8x64x64x12x64_S8x64x192x12x64_d2

/-- The key positions of each block. -/
def keyPosP : IVec S64x1x192 32 :=
  subi (addi (broadcastInDim S64x1x192 ![0, 1, 2] bcast_S64x1x1_S64x1x192_0_1_2 (muli (broadcastInDim S64x1x1 ![0] bcast_S64_S64x1x1_0 (iotaInDim S64 32 0)) (broadcastInDim S64x1x1 ![] bcast_S_S64x1x1 (constantI S_ 32 64#32)))) (broadcastInDim S64x1x192 ![0, 1, 2] bcast_S1x1x192_S64x1x192_0_1_2 (broadcastInDim S1x1x192 ![2] bcast_S192_S1x1x192_2 (iotaInDim S192 32 0)))) (broadcastInDim S64x1x192 ![] bcast_S_S64x1x192 (constantI S_ 32 64#32))

/-- The keys each row of a block sees. -/
def nearP : IVec S64x64x192 1 :=
  andi (andi (cmpi .sle (absi (subi (broadcastInDim S64x64x192 ![0, 1, 2] bcast_S64x1x192_S64x64x192_0_1_2 keyPosP) (broadcastInDim S64x64x192 ![0, 1, 2] bcast_S64x64x1_S64x64x192_0_1_2 (addi (broadcastInDim S64x64x1 ![0, 1, 2] bcast_S64x1x1_S64x64x1_0_1_2 (muli (broadcastInDim S64x1x1 ![0] bcast_S64_S64x1x1_0 (iotaInDim S64 32 0)) (broadcastInDim S64x1x1 ![] bcast_S_S64x1x1 (constantI S_ 32 64#32)))) (broadcastInDim S64x64x1 ![0, 1, 2] bcast_S1x64x1_S64x64x1_0_1_2 (broadcastInDim S1x64x1 ![1] bcast_S64_S1x64x1_1 (iotaInDim S64 32 0))))))) (broadcastInDim S64x64x192 ![] bcast_S_S64x64x192 (constantI S_ 32 64#32))) (broadcastInDim S64x64x192 ![0, 1, 2] bcast_S64x1x192_S64x64x192_0_1_2 (cmpi .sge keyPosP (broadcastInDim S64x1x192 ![] bcast_S_S64x1x192 (constantI S_ 32 0#32))))) (broadcastInDim S64x64x192 ![0, 1, 2] bcast_S64x1x192_S64x64x192_0_1_2 (cmpi .slt keyPosP (broadcastInDim S64x1x192 ![] bcast_S_S64x1x192 (constantI S_ 32 4096#32))))

/-- The scores, −∞ off the window. -/
def maskedP (q k : FVec Ideal S49152x768 .f32) : FVec Ideal S8x64x12x64x192 .f32 :=
  select (broadcastInDim S8x64x12x64x192 ![0, 1, 2, 3, 4] bcast_S1x64x1x64x192_S8x64x12x64x192_0_1_2_3_4 (broadcastInDim S1x64x1x64x192 ![1, 3, 4] bcast_S64x64x192_S1x64x1x64x192_1_3_4 nearP))
    (Host.dotGeneral dot_S8x64x64x12x64_S8x64x192x12x64_S8x64x12x64x192_4_4_2_2_013_013 none (queriesP q) (aroundP (paddedP k)))
    (broadcastInDim S8x64x12x64x192 ![] bcast_S_S8x64x12x64x192 (id (constant (F := Ideal) S_ .f32 0xFF800000#32)))

def topP (s : FVec Ideal S8x64x12x64x192 .f32) : FVec Ideal S8x64x12x64 .f32 :=
  Host.reduce FloatOps.maximumf s (constant S_ .f32 0xFF800000#32) reducesTo_S8x64x12x64x192_S8x64x12x64_d4 h_S_

/-- The exponentials of the scores less a number per row. -/
def probsP (s : FVec Ideal S8x64x12x64x192 .f32) (l : FVec Ideal S8x64x12x64 .f32) : FVec Ideal S8x64x12x64x192 .f32 :=
  Host.exp (subf s (broadcastInDim S8x64x12x64x192 ![0, 1, 2, 3, 4] bcast_S8x64x12x64x1_S8x64x12x64x192_0_1_2_3_4
    (broadcastInDim S8x64x12x64x1 ![0, 1, 2, 3] bcast_S8x64x12x64_S8x64x12x64x1_0_1_2_3 l)))

/-- The sums over the keys. -/
def sumsP (p : FVec Ideal S8x64x12x64x192 .f32) : FVec Ideal S8x64x12x64 .f32 :=
  Host.reduceAdd p (constant S_ .f32 0x00000000#32) reducesTo_S8x64x12x64x192_S8x64x12x64_d4 h_S_

/-- The log-sums. -/
def lseP (s : FVec Ideal S8x64x12x64x192 .f32) : FVec Ideal S8x64x12x64 .f32 :=
  addf (topP s) (Host.log (sumsP (probsP s (topP s))))

/-- The values mixed by the normalized weights. -/
def mixP (x : FVec Ideal S8x64x192x12x64 .f32) (p : FVec Ideal S8x64x12x64x192 .f32) : FVec Ideal S8x64x12x64x64 .f32 :=
  Host.dotGeneral dot_S8x64x192x12x64_S8x64x12x64x192_S8x64x12x64x64_2_4_4_3_013_012 none x p

/-- The mixed values as rows. -/
def flatP (x : FVec Ideal S8x64x12x64x64 .f32) : FVec Ideal S32768x768 .f32 :=
  shapeCast _ (shapeCast _ (transpose S8x4096x1x12x64 [0, 2, 1, 3, 4] (shapeCast _ (shapeCast _ (transpose S8x64x64x12x64 [0, 1, 4, 2, 3] x transposes_S8x64x12x64x64_S8x64x64x12x64_0_1_4_2_3) shapeCasts_S8x64x64x12x64_S8x4096x12x64) shapeCasts_S8x4096x12x64_S8x1x4096x12x64) transposes_S8x1x4096x12x64_S8x4096x1x12x64_0_2_1_3_4) shapeCasts_S8x4096x1x12x64_S8x4096x12x64) shapeCasts_S8x4096x12x64_S32768x768

/-- The log-sums as rows. -/
def lflatP (x : FVec Ideal S8x64x12x64 .f32) : FVec Ideal S32768x12 .f32 :=
  shapeCast _ (shapeCast _ (transpose S8x4096x1x12 [0, 2, 1, 3] (shapeCast _ (shapeCast _ (transpose S8x64x64x12 [0, 1, 3, 2] x transposes_S8x64x12x64_S8x64x64x12_0_1_3_2) shapeCasts_S8x64x64x12_S8x4096x12) shapeCasts_S8x4096x12_S8x1x4096x12) transposes_S8x1x4096x12_S8x4096x1x12_0_2_1_3) shapeCasts_S8x4096x1x12_S8x4096x12) shapeCasts_S8x4096x12_S32768x12

theorem queriesP_at (x : FVec Ideal S49152x768 .f32) (n : Fin 8) (b : Fin 64) (j : Fin 64) (h : Fin 12) (d : Fin 64) :
    (queriesP x (ix5 n b j h d) : EReal) = x (ix2 (rowAt (n.val * 4096 + b.val * 64 + j.val)) (colAt h d)) := by
  rw [rowAt_of _ (by omega)]
  pointwise [queriesP, seqsP]
  rw [dif_pos (by omega)]
  exact congrArg x (congrArg₂ ix2 (Fin.ext (by dsimp only; omega)) rfl)

theorem paddedP_at (x : FVec Ideal S49152x768 .f32) (n : Fin 8) (b : Fin 66) (j : Fin 64) (h : Fin 12) (d : Fin 64)
    (g : 64 ≤ b.val * 64 + j.val ∧ b.val * 64 + j.val < 4096 + 64) :
    (paddedP x (ix5 n b j h d) : EReal) = x (ix2 (rowAt (n.val * 4096 + (b.val * 64 + j.val) - 64)) (colAt h d)) := by
  rw [rowAt_of _ (by omega)]
  pointwise [paddedP, seqsP]
  rw [dif_pos (by omega)]
  exact congrArg x (congrArg₂ ix2 (Fin.ext (by dsimp only; omega)) rfl)

theorem aroundP_at (x : FVec Ideal S49152x768 .f32) (n : Fin 8) (b : Fin 64) (c : Fin 192) (h : Fin 12) (d : Fin 64)
    (g : 64 ≤ b.val * 64 + c.val ∧ b.val * 64 + c.val < 4096 + 64) :
    (aroundP (paddedP x) (ix5 n b c h d) : EReal) = x (ix2 (rowAt (n.val * 4096 + (b.val * 64 + c.val) - 64)) (colAt h d)) := by
  have key : ∀ (b' : Fin 66) (j' : Fin 64), b'.val * 64 + j'.val = b.val * 64 + c.val →
      (paddedP x (ix5 n b' j' h d) : EReal) = x (ix2 (rowAt (n.val * 4096 + (b.val * 64 + c.val) - 64)) (colAt h d)) := by
    intro b' j' e
    rw [paddedP_at x n b' j' h d (by omega), e]
  pointwise [aroundP]
  by_cases h1 : c.val < 64
  · rw [dif_pos h1]
    exact key ⟨b.val, by omega⟩ ⟨c.val, h1⟩ rfl
  · rw [dif_neg h1]
    by_cases h2 : c.val - 64 < 64
    · rw [dif_pos h2]
      exact key ⟨1 + b.val, by omega⟩ ⟨c.val - 64, h2⟩ (by dsimp only; omega)
    · rw [dif_neg h2]
      exact key ⟨2 + b.val, by omega⟩ ⟨c.val - 64 - 64, by omega⟩ (by dsimp only; omega)

theorem nearP_at (b : Fin 64) (j : Fin 64) (c : Fin 192) :
    nearP (ix3 b j c) = 1#1 ↔ (j.val ≤ c.val ∧ c.val ≤ j.val + 128) ∧ 64 ≤ b.val * 64 + c.val ∧ b.val * 64 + c.val < 4096 + 64 := by
  pointwise [nearP, keyPosP]
  exact near_words b.val j.val c.val 4096 (by omega) (by omega) (by omega) (by decide)

theorem maskedP_at (q k : FVec Ideal S49152x768 .f32) (n : Fin 8) (b : Fin 64) (h : Fin 12) (j : Fin 64) (c : Fin 192) :
    (maskedP q k (ix5 n b h j c) : EReal) = if nearP (ix3 b j c) = 1#1 then
      ∑ x : Fin 64, queriesP q (ix5 n b j h x) * aroundP (paddedP k) (ix5 n b c h x) else ⊥ := by
  pointwise [maskedP]
  rw [Attn.pick_eq]
  exact congrArg (ite _ _) Attn.negInf

theorem topP_at (s : FVec Ideal S8x64x12x64x192 .f32) (n : Fin 8) (b : Fin 64) (h : Fin 12) (j : Fin 64) :
    (topP s (ix4 n b h j) : EReal) = Finset.univ.sup fun c : Fin 192 => (s (ix5 n b h j c) : EReal) := by
  pointwise [topP]
  rw [Attn.negInf]
  rfl

theorem probsP_at (s : FVec Ideal S8x64x12x64x192 .f32) (l : FVec Ideal S8x64x12x64 .f32) (n : Fin 8) (b : Fin 64) (h : Fin 12) (j : Fin 64) (c : Fin 192) :
    (probsP s l (ix5 n b h j c) : EReal) = Ideal.exp (s (ix5 n b h j c) - l (ix4 n b h j)) := by
  pointwise [probsP]

theorem sumsP_at (p : FVec Ideal S8x64x12x64x192 .f32) (n : Fin 8) (b : Fin 64) (h : Fin 12) (j : Fin 64) :
    (sumsP p (ix4 n b h j) : EReal) = ∑ c : Fin 192, (p (ix5 n b h j c) : EReal) := by
  pointwise [sumsP]

theorem lseP_at (s : FVec Ideal S8x64x12x64x192 .f32) (n : Fin 8) (b : Fin 64) (h : Fin 12) (j : Fin 64) :
    (lseP s (ix4 n b h j) : EReal) = topP s (ix4 n b h j)
      + Ideal.log (∑ c : Fin 192, Ideal.exp (s (ix5 n b h j c) - topP s (ix4 n b h j))) := by
  have e : (sumsP (probsP s (topP s)) (ix4 n b h j) : EReal)
      = ∑ c : Fin 192, Ideal.exp (s (ix5 n b h j c) - topP s (ix4 n b h j)) :=
    (sumsP_at _ n b h j).trans (Finset.sum_congr rfl fun c _ => probsP_at s (topP s) n b h j c)
  rw [← e]
  unfold lseP
  rw [add_at, log_at]

theorem mixP_at (x : FVec Ideal S8x64x192x12x64 .f32) (p : FVec Ideal S8x64x12x64x192 .f32) (n : Fin 8) (b : Fin 64) (h : Fin 12) (d : Fin 64) (j : Fin 64) :
    (mixP x p (ix5 n b h d j) : EReal) = ∑ c : Fin 192, x (ix5 n b c h d) * p (ix5 n b h j c) := by
  pointwise [mixP]

theorem flatP_at (x : FVec Ideal S8x64x12x64x64 .f32) (n : Fin 8) (b : Fin 64) (j : Fin 64) (h : Fin 12) (d : Fin 64)
    (R : Fin 32768) (hR : R.val = n.val * 4096 + b.val * 64 + j.val) : (flatP x (ix2 R (colAt h d)) : EReal) = x (ix5 n b h d j) := by
  pointwise [flatP]
  refine congrArg x ?_
  funext a; apply Fin.ext
  match a with
  | ⟨0, _⟩ => show R.val / 4096 = n.val; omega
  | ⟨1, _⟩ => show R.val % 4096 / 64 = b.val; omega
  | ⟨2, _⟩ => show (h.val * 64 + d.val) / 64 = h.val; omega
  | ⟨3, _⟩ => show (h.val * 64 + d.val) % 64 = d.val; omega
  | ⟨4, _⟩ => show R.val % 4096 % 64 = j.val; omega

theorem lflatP_at (x : FVec Ideal S8x64x12x64 .f32) (n : Fin 8) (b : Fin 64) (j : Fin 64) (h : Fin 12)
    (R : Fin 32768) (hR : R.val = n.val * 4096 + b.val * 64 + j.val) : (lflatP x (ix2 R h) : EReal) = x (ix4 n b h j) := by
  pointwise [lflatP]
  refine congrArg x ?_
  funext a; apply Fin.ext
  match a with
  | ⟨0, _⟩ => show R.val / 4096 = n.val; omega
  | ⟨1, _⟩ => show R.val % 4096 / 64 = b.val; omega
  | ⟨2, _⟩ => rfl
  | ⟨3, _⟩ => show R.val % 4096 % 64 = j.val; omega

/-- The rows as sequences of heads. -/
def seqsS (x : FVec Ideal S49152x768 .f32) : FVec Ideal S1x16384x12x64 .f32 :=
  shapeCast _ (transpose S1x1x16384x12x64 [0, 2, 1, 3, 4] (shapeCast _ (shapeCast _ (extractStridedSlice S16384x768 ![32768, 0] x slices_S49152x768_S16384x768_32768_0) shapeCasts_S16384x768_S1x16384x12x64) shapeCasts_S1x16384x12x64_S1x16384x1x12x64) transposes_S1x16384x1x12x64_S1x1x16384x12x64_0_2_1_3_4) shapeCasts_S1x1x16384x12x64_S1x16384x12x64

/-- The queries in blocks of 64 rows. -/
def queriesS (x : FVec Ideal S49152x768 .f32) : FVec Ideal S1x256x64x12x64 .f32 :=
  shapeCast _ (pad S1x16384x12x64 ![0, 0, 0, 0] ![0, 0, 0, 0] ![0, 0, 0, 0] (seqsS x) (sitofp (F := Ideal) .f32 (constantI S_ 32 0#32)) pads_S1x16384x12x64_S1x16384x12x64_000_000_000_000 h_S_) shapeCasts_S1x16384x12x64_S1x256x64x12x64

/-- The keys or values in blocks of 64 rows, a block of zeros at either end of a sequence. -/
def paddedS (x : FVec Ideal S49152x768 .f32) : FVec Ideal S1x258x64x12x64 .f32 :=
  shapeCast _ (pad S1x16512x12x64 ![0, 64, 0, 0] ![0, 64, 0, 0] ![0, 0, 0, 0] (seqsS x) (sitofp (F := Ideal) .f32 (constantI S_ 32 0#32)) pads_S1x16384x12x64_S1x16512x12x64_000_64640_000_000 h_S_) shapeCasts_S1x16512x12x64_S1x258x64x12x64

/-- The three blocks around each block. -/
def aroundS (vb : FVec Ideal S1x258x64x12x64 .f32) : FVec Ideal S1x256x192x12x64 .f32 :=
  concatenate S1x256x192x12x64 2
    [⟨S1x256x64x12x64, extractStridedSlice S1x256x64x12x64 ![0, 0, 0, 0, 0] vb slices_S1x258x64x12x64_S1x256x64x12x64_0_0_0_0_0⟩,
     ⟨S1x256x64x12x64, extractStridedSlice S1x256x64x12x64 ![0, 1, 0, 0, 0] vb slices_S1x258x64x12x64_S1x256x64x12x64_0_1_0_0_0⟩,
     ⟨S1x256x64x12x64, extractStridedSlice S1x256x64x12x64 ![0, 2, 0, 0, 0] vb slices_S1x258x64x12x64_S1x256x64x12x64_0_2_0_0_0⟩]
    concatenates_S1x256x64x12x64_S1x256x64x12x64_S1x256x64x12x64_S1x256x192x12x64_d2

/-- The key positions of each block. -/
def keyPosS : IVec S256x1x192 32 :=
  subi (addi (broadcastInDim S256x1x192 ![0, 1, 2] bcast_S256x1x1_S256x1x192_0_1_2 (muli (broadcastInDim S256x1x1 ![0] bcast_S256_S256x1x1_0 (iotaInDim S256 32 0)) (broadcastInDim S256x1x1 ![] bcast_S_S256x1x1 (constantI S_ 32 64#32)))) (broadcastInDim S256x1x192 ![0, 1, 2] bcast_S1x1x192_S256x1x192_0_1_2 (broadcastInDim S1x1x192 ![2] bcast_S192_S1x1x192_2 (iotaInDim S192 32 0)))) (broadcastInDim S256x1x192 ![] bcast_S_S256x1x192 (constantI S_ 32 64#32))

/-- The keys each row of a block sees. -/
def nearS : IVec S256x64x192 1 :=
  andi (andi (cmpi .sle (absi (subi (broadcastInDim S256x64x192 ![0, 1, 2] bcast_S256x1x192_S256x64x192_0_1_2 keyPosS) (broadcastInDim S256x64x192 ![0, 1, 2] bcast_S256x64x1_S256x64x192_0_1_2 (addi (broadcastInDim S256x64x1 ![0, 1, 2] bcast_S256x1x1_S256x64x1_0_1_2 (muli (broadcastInDim S256x1x1 ![0] bcast_S256_S256x1x1_0 (iotaInDim S256 32 0)) (broadcastInDim S256x1x1 ![] bcast_S_S256x1x1 (constantI S_ 32 64#32)))) (broadcastInDim S256x64x1 ![0, 1, 2] bcast_S1x64x1_S256x64x1_0_1_2 (broadcastInDim S1x64x1 ![1] bcast_S64_S1x64x1_1 (iotaInDim S64 32 0))))))) (broadcastInDim S256x64x192 ![] bcast_S_S256x64x192 (constantI S_ 32 64#32))) (broadcastInDim S256x64x192 ![0, 1, 2] bcast_S256x1x192_S256x64x192_0_1_2 (cmpi .sge keyPosS (broadcastInDim S256x1x192 ![] bcast_S_S256x1x192 (constantI S_ 32 0#32))))) (broadcastInDim S256x64x192 ![0, 1, 2] bcast_S256x1x192_S256x64x192_0_1_2 (cmpi .slt keyPosS (broadcastInDim S256x1x192 ![] bcast_S_S256x1x192 (constantI S_ 32 16384#32))))

/-- The scores, −∞ off the window. -/
def maskedS (q k : FVec Ideal S49152x768 .f32) : FVec Ideal S1x256x12x64x192 .f32 :=
  select (broadcastInDim S1x256x12x64x192 ![0, 1, 2, 3, 4] bcast_S1x256x1x64x192_S1x256x12x64x192_0_1_2_3_4 (broadcastInDim S1x256x1x64x192 ![1, 3, 4] bcast_S256x64x192_S1x256x1x64x192_1_3_4 nearS))
    (Host.dotGeneral dot_S1x256x64x12x64_S1x256x192x12x64_S1x256x12x64x192_4_4_2_2_013_013 none (queriesS q) (aroundS (paddedS k)))
    (broadcastInDim S1x256x12x64x192 ![] bcast_S_S1x256x12x64x192 (id (constant (F := Ideal) S_ .f32 0xFF800000#32)))

def topS (s : FVec Ideal S1x256x12x64x192 .f32) : FVec Ideal S1x256x12x64 .f32 :=
  Host.reduce FloatOps.maximumf s (constant S_ .f32 0xFF800000#32) reducesTo_S1x256x12x64x192_S1x256x12x64_d4 h_S_

/-- The exponentials of the scores less a number per row. -/
def probsS (s : FVec Ideal S1x256x12x64x192 .f32) (l : FVec Ideal S1x256x12x64 .f32) : FVec Ideal S1x256x12x64x192 .f32 :=
  Host.exp (subf s (broadcastInDim S1x256x12x64x192 ![0, 1, 2, 3, 4] bcast_S1x256x12x64x1_S1x256x12x64x192_0_1_2_3_4
    (broadcastInDim S1x256x12x64x1 ![0, 1, 2, 3] bcast_S1x256x12x64_S1x256x12x64x1_0_1_2_3 l)))

/-- The sums over the keys. -/
def sumsS (p : FVec Ideal S1x256x12x64x192 .f32) : FVec Ideal S1x256x12x64 .f32 :=
  Host.reduceAdd p (constant S_ .f32 0x00000000#32) reducesTo_S1x256x12x64x192_S1x256x12x64_d4 h_S_

/-- The log-sums. -/
def lseS (s : FVec Ideal S1x256x12x64x192 .f32) : FVec Ideal S1x256x12x64 .f32 :=
  addf (topS s) (Host.log (sumsS (probsS s (topS s))))

/-- The values mixed by the normalized weights. -/
def mixS (x : FVec Ideal S1x256x192x12x64 .f32) (p : FVec Ideal S1x256x12x64x192 .f32) : FVec Ideal S1x256x12x64x64 .f32 :=
  Host.dotGeneral dot_S1x256x192x12x64_S1x256x12x64x192_S1x256x12x64x64_2_4_4_3_013_012 none x p

/-- The mixed values as rows. -/
def flatS (x : FVec Ideal S1x256x12x64x64 .f32) : FVec Ideal S16384x768 .f32 :=
  shapeCast _ (shapeCast _ (transpose S1x16384x1x12x64 [0, 2, 1, 3, 4] (shapeCast _ (shapeCast _ (transpose S1x256x64x12x64 [0, 1, 4, 2, 3] x transposes_S1x256x12x64x64_S1x256x64x12x64_0_1_4_2_3) shapeCasts_S1x256x64x12x64_S1x16384x12x64) shapeCasts_S1x16384x12x64_S1x1x16384x12x64) transposes_S1x1x16384x12x64_S1x16384x1x12x64_0_2_1_3_4) shapeCasts_S1x16384x1x12x64_S1x16384x12x64) shapeCasts_S1x16384x12x64_S16384x768

/-- The log-sums as rows. -/
def lflatS (x : FVec Ideal S1x256x12x64 .f32) : FVec Ideal S16384x12 .f32 :=
  shapeCast _ (shapeCast _ (transpose S1x16384x1x12 [0, 2, 1, 3] (shapeCast _ (shapeCast _ (transpose S1x256x64x12 [0, 1, 3, 2] x transposes_S1x256x12x64_S1x256x64x12_0_1_3_2) shapeCasts_S1x256x64x12_S1x16384x12) shapeCasts_S1x16384x12_S1x1x16384x12) transposes_S1x1x16384x12_S1x16384x1x12_0_2_1_3) shapeCasts_S1x16384x1x12_S1x16384x12) shapeCasts_S1x16384x12_S16384x12

theorem queriesS_at (x : FVec Ideal S49152x768 .f32) (b : Fin 256) (j : Fin 64) (h : Fin 12) (d : Fin 64) :
    (queriesS x (ix5 0 b j h d) : EReal) = x (ix2 (rowAt (32768 + b.val * 64 + j.val)) (colAt h d)) := by
  rw [rowAt_of _ (by omega)]
  pointwise [queriesS, seqsS]
  rw [dif_pos (by omega)]
  exact congrArg x (congrArg₂ ix2 (Fin.ext (by dsimp only; omega)) rfl)

theorem paddedS_at (x : FVec Ideal S49152x768 .f32) (b : Fin 258) (j : Fin 64) (h : Fin 12) (d : Fin 64)
    (g : 64 ≤ b.val * 64 + j.val ∧ b.val * 64 + j.val < 16384 + 64) :
    (paddedS x (ix5 0 b j h d) : EReal) = x (ix2 (rowAt (32768 + (b.val * 64 + j.val) - 64)) (colAt h d)) := by
  rw [rowAt_of _ (by omega)]
  pointwise [paddedS, seqsS]
  rw [dif_pos (by omega)]
  exact congrArg x (congrArg₂ ix2 (Fin.ext (by dsimp only; omega)) rfl)

theorem aroundS_at (x : FVec Ideal S49152x768 .f32) (b : Fin 256) (c : Fin 192) (h : Fin 12) (d : Fin 64)
    (g : 64 ≤ b.val * 64 + c.val ∧ b.val * 64 + c.val < 16384 + 64) :
    (aroundS (paddedS x) (ix5 0 b c h d) : EReal) = x (ix2 (rowAt (32768 + (b.val * 64 + c.val) - 64)) (colAt h d)) := by
  have key : ∀ (b' : Fin 258) (j' : Fin 64), b'.val * 64 + j'.val = b.val * 64 + c.val →
      (paddedS x (ix5 0 b' j' h d) : EReal) = x (ix2 (rowAt (32768 + (b.val * 64 + c.val) - 64)) (colAt h d)) := by
    intro b' j' e
    rw [paddedS_at x b' j' h d (by omega), e]
  pointwise [aroundS]
  by_cases h1 : c.val < 64
  · rw [dif_pos h1]
    exact key ⟨b.val, by omega⟩ ⟨c.val, h1⟩ rfl
  · rw [dif_neg h1]
    by_cases h2 : c.val - 64 < 64
    · rw [dif_pos h2]
      exact key ⟨1 + b.val, by omega⟩ ⟨c.val - 64, h2⟩ (by dsimp only; omega)
    · rw [dif_neg h2]
      exact key ⟨2 + b.val, by omega⟩ ⟨c.val - 64 - 64, by omega⟩ (by dsimp only; omega)

theorem nearS_at (b : Fin 256) (j : Fin 64) (c : Fin 192) :
    nearS (ix3 b j c) = 1#1 ↔ (j.val ≤ c.val ∧ c.val ≤ j.val + 128) ∧ 64 ≤ b.val * 64 + c.val ∧ b.val * 64 + c.val < 16384 + 64 := by
  pointwise [nearS, keyPosS]
  exact near_words b.val j.val c.val 16384 (by omega) (by omega) (by omega) (by decide)

theorem maskedS_at (q k : FVec Ideal S49152x768 .f32) (b : Fin 256) (h : Fin 12) (j : Fin 64) (c : Fin 192) :
    (maskedS q k (ix5 0 b h j c) : EReal) = if nearS (ix3 b j c) = 1#1 then
      ∑ x : Fin 64, queriesS q (ix5 0 b j h x) * aroundS (paddedS k) (ix5 0 b c h x) else ⊥ := by
  pointwise [maskedS]
  rw [Attn.pick_eq]
  exact congrArg (ite _ _) Attn.negInf

theorem topS_at (s : FVec Ideal S1x256x12x64x192 .f32) (b : Fin 256) (h : Fin 12) (j : Fin 64) :
    (topS s (ix4 0 b h j) : EReal) = Finset.univ.sup fun c : Fin 192 => (s (ix5 0 b h j c) : EReal) := by
  pointwise [topS]
  rw [Attn.negInf]
  rfl

theorem probsS_at (s : FVec Ideal S1x256x12x64x192 .f32) (l : FVec Ideal S1x256x12x64 .f32) (b : Fin 256) (h : Fin 12) (j : Fin 64) (c : Fin 192) :
    (probsS s l (ix5 0 b h j c) : EReal) = Ideal.exp (s (ix5 0 b h j c) - l (ix4 0 b h j)) := by
  pointwise [probsS]

theorem sumsS_at (p : FVec Ideal S1x256x12x64x192 .f32) (b : Fin 256) (h : Fin 12) (j : Fin 64) :
    (sumsS p (ix4 0 b h j) : EReal) = ∑ c : Fin 192, (p (ix5 0 b h j c) : EReal) := by
  pointwise [sumsS]

theorem lseS_at (s : FVec Ideal S1x256x12x64x192 .f32) (b : Fin 256) (h : Fin 12) (j : Fin 64) :
    (lseS s (ix4 0 b h j) : EReal) = topS s (ix4 0 b h j)
      + Ideal.log (∑ c : Fin 192, Ideal.exp (s (ix5 0 b h j c) - topS s (ix4 0 b h j))) := by
  have e : (sumsS (probsS s (topS s)) (ix4 0 b h j) : EReal)
      = ∑ c : Fin 192, Ideal.exp (s (ix5 0 b h j c) - topS s (ix4 0 b h j)) :=
    (sumsS_at _ b h j).trans (Finset.sum_congr rfl fun c _ => probsS_at s (topS s) b h j c)
  rw [← e]
  unfold lseS
  rw [add_at, log_at]

theorem mixS_at (x : FVec Ideal S1x256x192x12x64 .f32) (p : FVec Ideal S1x256x12x64x192 .f32) (b : Fin 256) (h : Fin 12) (d : Fin 64) (j : Fin 64) :
    (mixS x p (ix5 0 b h d j) : EReal) = ∑ c : Fin 192, x (ix5 0 b c h d) * p (ix5 0 b h j c) := by
  pointwise [mixS]

theorem flatS_at (x : FVec Ideal S1x256x12x64x64 .f32) (b : Fin 256) (j : Fin 64) (h : Fin 12) (d : Fin 64)
    (R : Fin 16384) (hR : R.val = b.val * 64 + j.val) : (flatS x (ix2 R (colAt h d)) : EReal) = x (ix5 0 b h d j) := by
  pointwise [flatS]
  refine congrArg x ?_
  funext a; apply Fin.ext
  match a with
  | ⟨0, _⟩ => rfl
  | ⟨1, _⟩ => show R.val / 64 = b.val; omega
  | ⟨2, _⟩ => show (h.val * 64 + d.val) / 64 = h.val; omega
  | ⟨3, _⟩ => show (h.val * 64 + d.val) % 64 = d.val; omega
  | ⟨4, _⟩ => show R.val % 64 = j.val; omega

theorem lflatS_at (x : FVec Ideal S1x256x12x64 .f32) (b : Fin 256) (j : Fin 64) (h : Fin 12)
    (R : Fin 16384) (hR : R.val = b.val * 64 + j.val) : (lflatS x (ix2 R h) : EReal) = x (ix4 0 b h j) := by
  pointwise [lflatS]
  refine congrArg x ?_
  funext a; apply Fin.ext
  match a with
  | ⟨0, _⟩ => rfl
  | ⟨1, _⟩ => show R.val / 64 = b.val; omega
  | ⟨2, _⟩ => rfl
  | ⟨3, _⟩ => show R.val % 64 = j.val; omega

/-- The rows of the prompts and of the sample, one after the other. -/
def rows (x : FVec Ideal S32768x768 .f32) (y : FVec Ideal S16384x768 .f32) : FVec Ideal S49152x768 .f32 :=
  concatenate S49152x768 0 [⟨S32768x768, x⟩, ⟨S16384x768, y⟩] concatenates_S32768x768_S16384x768_S49152x768_d0

def lrows (x : FVec Ideal S32768x12 .f32) (y : FVec Ideal S16384x12 .f32) : FVec Ideal S49152x12 .f32 :=
  concatenate S49152x12 0 [⟨S32768x12, x⟩, ⟨S16384x12, y⟩] concatenates_S32768x12_S16384x12_S49152x12_d0

/-- The log-sums in the first 12 of 128 lanes. -/
def lanes (x : FVec Ideal S49152x12 .f32) : FVec Ideal S49152x128 .f32 :=
  pad S49152x128 ![0, 0] ![0, 116] ![0, 0] x (sitofp (F := Ideal) .f32 (constantI S_ 32 0#32)) pads_S49152x12_S49152x128_000_01160 h_S_

theorem rows_at (x : FVec Ideal S32768x768 .f32) (y : FVec Ideal S16384x768 .f32) (R : Fin 49152) (e : Fin 768) :
    (rows x y (ix2 R e) : EReal) = if h : R.val < 32768 then x (ix2 ⟨R.val, h⟩ e) else y (ix2 ⟨R.val - 32768, by omega⟩ e) := by
  pointwise [rows]

theorem lrows_at (x : FVec Ideal S32768x12 .f32) (y : FVec Ideal S16384x12 .f32) (R : Fin 49152) (e : Fin 12) :
    (lrows x y (ix2 R e) : EReal) = if h : R.val < 32768 then x (ix2 ⟨R.val, h⟩ e) else y (ix2 ⟨R.val - 32768, by omega⟩ e) := by
  pointwise [lrows]

theorem lanes_at (x : FVec Ideal S49152x12 .f32) (R : Fin 49152) (e : Fin 128) :
    (lanes x (ix2 R e) : EReal) = if h : e.val < 12 then x (ix2 R ⟨e.val, h⟩) else 0 := by
  pointwise [lanes]
  split_ifs with h
  · rfl
  · show (((0#32 : BitVec 32).toInt : ℝ) : EReal) = 0
    simp

end Cert.AttnRef

end
-- ==== Proof.AttnRefValue.lean ====
/-
  The attention reference's two results at one index: the log-sum and the mean over the row's window.
-/
module

public import proofs.«01_k».proof.Proof.AttnRef

@[expose] public section

set_option maxRecDepth 16384

noncomputable section

namespace Cert.AttnRef

open Idealize.ShloMosaic Idealize.ShloMosaic.TcCoe Idealize.SL.Sem
open Cert.ReferenceIdeal Cert.ReferenceIdeal.Gen
open Cert.Attn

/-- An array's entry at a row and a column. -/
abbrev ent (x : FVec Ideal S49152x768 .f32) (R : Fin 49152) (e : Fin 768) : EReal := x (ix2 R e)

variable (q k v : FVec Ideal S49152x768 .f32)

theorem boundsP (n : Fin 8) (b : Fin 64) (j : Fin 64) :
    lowOf (n.val * 4096 + b.val * 64 + j.val) = n.val * 4096 ∧ highOf (n.val * 4096 + b.val * 64 + j.val) = n.val * 4096 + 4096 := by
  unfold lowOf highOf
  rw [if_pos (by omega), if_pos (by omega)]
  omega

/-- A row's masked scores are its window's, from column `j` on. -/
theorem holdsP (n : Fin 8) (b : Fin 64) (h : Fin 12) (j : Fin 64) :
    Holds (fun c : Fin 192 => (maskedP q k (ix5 n b h j c) : EReal)) (win (ent q) (ent k) (n.val * 4096 + b.val * 64 + j.val) h) j.val where
  fits := by omega
  inside := by
    intro c d e
    have hb := boundsP n b j
    rw [maskedP_at, win, hb.1, hb.2]
    by_cases g : 64 ≤ b.val * 64 + c.val ∧ b.val * 64 + c.val < 4096 + 64
    · rw [if_pos ((nearP_at b j c).mpr ⟨by omega, g⟩), if_pos (by omega)]
      unfold dotHead
      refine Finset.sum_congr rfl fun x _ => ?_
      rw [queriesP_at, aroundP_at _ n b c h x g,
        show n.val * 4096 + b.val * 64 + j.val + d.val - 64 = n.val * 4096 + (b.val * 64 + c.val) - 64 by omega]
    · rw [if_neg (fun hn => g ((nearP_at b j c).mp hn).2), if_neg (by omega)]
  outside := by
    intro c hc
    rw [maskedP_at, if_neg (fun hn => by have := ((nearP_at b j c).mp hn).1; omega)]

theorem lseP_eq (n : Fin 8) (b : Fin 64) (h : Fin 12) (j : Fin 64) :
    (lseP (maskedP q k) (ix4 n b h j) : EReal) = lseOf (win (ent q) (ent k) (n.val * 4096 + b.val * 64 + j.val) h) := by
  rw [lseP_at, topP_at]
  exact (holdsP q k n b h j).lse_eq

theorem outP_eq (hq : ∀ R e, ∃ r : ℝ, ent q R e = r) (hk : ∀ R e, ∃ r : ℝ, ent k R e = r)
    (n : Fin 8) (b : Fin 64) (h : Fin 12) (j d : Fin 64) :
    (mixP (aroundP (paddedP v)) (probsP (maskedP q k) (lseP (maskedP q k))) (ix5 n b h d j) : EReal)
      = meanOf (win (ent q) (ent k) (n.val * 4096 + b.val * 64 + j.val) h) (vwin (ent v) (n.val * 4096 + b.val * 64 + j.val) (colAt h d)) := by
  have hb := boundsP n b j
  rw [mixP_at, ← mean_win (ent q) (ent k) (ent v) hq hk _ (by omega) h (colAt h d),
    ← (holdsP q k n b h j).sum_mul _ (fun c => (aroundP (paddedP v) (ix5 n b c h d) : EReal)) _ ?_]
  · refine Finset.sum_congr rfl fun c _ => ?_
    rw [mul_comm, probsP_at, lseP_eq]
  · intro c d' e
    by_cases g : 64 ≤ b.val * 64 + c.val ∧ b.val * 64 + c.val < 4096 + 64
    · right
      rw [aroundP_at _ n b c h d g, vwin,
        show n.val * 4096 + b.val * 64 + j.val + d'.val - 64 = n.val * 4096 + (b.val * 64 + c.val) - 64 by omega]
    · left
      rw [win, hb.1, hb.2, if_neg (by omega)]

theorem boundsS (b : Fin 256) (j : Fin 64) :
    lowOf (32768 + b.val * 64 + j.val) = 32768 ∧ highOf (32768 + b.val * 64 + j.val) = 32768 + 16384 := by
  unfold lowOf highOf
  rw [if_neg (by omega), if_neg (by omega)]
  exact ⟨rfl, rfl⟩

/-- A row's masked scores are its window's, from column `j` on. -/
theorem holdsS (b : Fin 256) (h : Fin 12) (j : Fin 64) :
    Holds (fun c : Fin 192 => (maskedS q k (ix5 0 b h j c) : EReal)) (win (ent q) (ent k) (32768 + b.val * 64 + j.val) h) j.val where
  fits := by omega
  inside := by
    intro c d e
    have hb := boundsS b j
    rw [maskedS_at, win, hb.1, hb.2]
    by_cases g : 64 ≤ b.val * 64 + c.val ∧ b.val * 64 + c.val < 16384 + 64
    · rw [if_pos ((nearS_at b j c).mpr ⟨by omega, g⟩), if_pos (by omega)]
      unfold dotHead
      refine Finset.sum_congr rfl fun x _ => ?_
      rw [queriesS_at, aroundS_at _ b c h x g,
        show 32768 + b.val * 64 + j.val + d.val - 64 = 32768 + (b.val * 64 + c.val) - 64 by omega]
    · rw [if_neg (fun hn => g ((nearS_at b j c).mp hn).2), if_neg (by omega)]
  outside := by
    intro c hc
    rw [maskedS_at, if_neg (fun hn => by have := ((nearS_at b j c).mp hn).1; omega)]

theorem lseS_eq (b : Fin 256) (h : Fin 12) (j : Fin 64) :
    (lseS (maskedS q k) (ix4 0 b h j) : EReal) = lseOf (win (ent q) (ent k) (32768 + b.val * 64 + j.val) h) := by
  rw [lseS_at, topS_at]
  exact (holdsS q k b h j).lse_eq

theorem outS_eq (hq : ∀ R e, ∃ r : ℝ, ent q R e = r) (hk : ∀ R e, ∃ r : ℝ, ent k R e = r)
    (b : Fin 256) (h : Fin 12) (j d : Fin 64) :
    (mixS (aroundS (paddedS v)) (probsS (maskedS q k) (lseS (maskedS q k))) (ix5 0 b h d j) : EReal)
      = meanOf (win (ent q) (ent k) (32768 + b.val * 64 + j.val) h) (vwin (ent v) (32768 + b.val * 64 + j.val) (colAt h d)) := by
  have hb := boundsS b j
  rw [mixS_at, ← mean_win (ent q) (ent k) (ent v) hq hk _ (by omega) h (colAt h d),
    ← (holdsS q k b h j).sum_mul _ (fun c => (aroundS (paddedS v) (ix5 0 b c h d) : EReal)) _ ?_]
  · refine Finset.sum_congr rfl fun c _ => ?_
    rw [mul_comm, probsS_at, lseS_eq]
  · intro c d' e
    by_cases g : 64 ≤ b.val * 64 + c.val ∧ b.val * 64 + c.val < 16384 + 64
    · right
      rw [aroundS_at _ b c h d g, vwin,
        show 32768 + b.val * 64 + j.val + d'.val - 64 = 32768 + (b.val * 64 + c.val) - 64 by omega]
    · left
      rw [win, hb.1, hb.2, if_neg (by omega)]

/-- The reference's first result. -/
def outs : FVec Ideal S49152x768 .f32 :=
  rows (flatP (mixP (aroundP (paddedP v)) (probsP (maskedP q k) (lseP (maskedP q k)))))
    (flatS (mixS (aroundS (paddedS v)) (probsS (maskedS q k) (lseS (maskedS q k)))))

/-- The reference's second result. -/
def lses : FVec Ideal S49152x128 .f32 := lanes (lrows (lflatP (lseP (maskedP q k))) (lflatS (lseS (maskedS q k))))

theorem outs_at (hq : ∀ R e, ∃ r : ℝ, ent q R e = r) (hk : ∀ R e, ∃ r : ℝ, ent k R e = r)
    (R : Fin 49152) (h : Fin 12) (d : Fin 64) :
    (outs q k v (ix2 R (colAt h d)) : EReal) = meanOf (win (ent q) (ent k) R.val h) (vwin (ent v) R.val (colAt h d)) := by
  unfold outs
  rw [rows_at]
  have hR := R.isLt
  split_ifs with hp
  · rw [flatP_at _ ⟨R.val / 4096, by omega⟩ ⟨R.val % 4096 / 64, by omega⟩ ⟨R.val % 64, by omega⟩ h d ⟨R.val, hp⟩ (by dsimp only; omega),
      outP_eq q k v hq hk]
    rw [show (⟨R.val / 4096, by omega⟩ : Fin 8).val * 4096 + (⟨R.val % 4096 / 64, by omega⟩ : Fin 64).val * 64
      + (⟨R.val % 64, by omega⟩ : Fin 64).val = R.val by dsimp only; omega]
  · rw [flatS_at _ ⟨(R.val - 32768) / 64, by omega⟩ ⟨R.val % 64, by omega⟩ h d ⟨R.val - 32768, by omega⟩ (by dsimp only; omega),
      outS_eq q k v hq hk]
    rw [show 32768 + (⟨(R.val - 32768) / 64, by omega⟩ : Fin 256).val * 64
      + (⟨R.val % 64, by omega⟩ : Fin 64).val = R.val by dsimp only; omega]

theorem lses_at (R : Fin 49152) (e : Fin 128) :
    (lses q k (ix2 R e) : EReal) = if h : e.val < 12 then lseOf (win (ent q) (ent k) R.val ⟨e.val, h⟩) else 0 := by
  unfold lses
  rw [lanes_at]
  have hR := R.isLt
  by_cases he : e.val < 12
  · rw [dif_pos he, dif_pos he, lrows_at]
    split_ifs with hp
    · rw [lflatP_at _ ⟨R.val / 4096, by omega⟩ ⟨R.val % 4096 / 64, by omega⟩ ⟨R.val % 64, by omega⟩ ⟨e.val, he⟩ ⟨R.val, hp⟩ (by dsimp only; omega),
        lseP_eq]
      rw [show (⟨R.val / 4096, by omega⟩ : Fin 8).val * 4096 + (⟨R.val % 4096 / 64, by omega⟩ : Fin 64).val * 64
        + (⟨R.val % 64, by omega⟩ : Fin 64).val = R.val by dsimp only; omega]
    · rw [lflatS_at _ ⟨(R.val - 32768) / 64, by omega⟩ ⟨R.val % 64, by omega⟩ ⟨e.val, he⟩ ⟨R.val - 32768, by omega⟩ (by dsimp only; omega),
        lseS_eq]
      rw [show 32768 + (⟨(R.val - 32768) / 64, by omega⟩ : Fin 256).val * 64
        + (⟨R.val % 64, by omega⟩ : Fin 64).val = R.val by dsimp only; omega]
  · rw [dif_neg he, dif_neg he]

/-! ## The program's results are these -/

variable (m : (ℓ : Loc nD τ sig) → Buf (Elt Ideal) ℓ) (c : Dev nD)

/-- The arguments, read as 32-bit floats. -/
def argQ : FVec Ideal S49152x768 .f32 := extf .f32 (m ((c.tc : Thread nD τ).loc main_arg0) : FVec Ideal S49152x768 .bf16) bitsLt_bf16_f32
def argK : FVec Ideal S49152x768 .f32 := extf .f32 (m ((c.tc : Thread nD τ).loc main_arg1) : FVec Ideal S49152x768 .bf16) bitsLt_bf16_f32
def argV : FVec Ideal S49152x768 .f32 := extf .f32 (m ((c.tc : Thread nD τ).loc main_arg2) : FVec Ideal S49152x768 .bf16) bitsLt_bf16_f32

theorem run_forms (ρ : Dev nD → PrngReg) :
    θ_run defs (onTc (τ := τ) (main (F := Ideal))) ⟨m, fun _ => 0, ρ⟩ fun r => ∀ c : Dev nD,
      r.2.mem ((c.tc : Thread nD τ).loc main_v183) = outs (argQ m c) (argK m c) (argV m c)
      ∧ r.2.mem ((c.tc : Thread nD τ).loc main_v187) = lses (argQ m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2.1.trans rfl, (h c).2.2⟩) (Value.run (F := Ideal) m ρ)

end Cert.AttnRef

end
-- ==== Proof.AttnClaim.lean ====
/-
  The attention claims: every program runs and leaves its arguments, and the kernel's two results are the reference's
  where queries and keys are real numbers.
-/
module

public import proofs.«01_k».proof.Defs
public import proofs.«01_k».proof.Proof.AttnValue
public import proofs.«01_k».proof.Proof.AttnRefValue
public import proofs.«01_k».proof.Proof.Gen.Kernel.Frame
public import proofs.«01_k».proof.Proof.Gen.Pre_finite
public import Idealize.ShloMosaic.Adequacy
public import Idealize.ShloMosaic.Init

@[expose] public section

noncomputable section

namespace Cert.Attn

open Idealize.ShloMosaic Idealize.ShloMosaic.TcCoe Idealize.SL.Sem

theorem kernel_frame : quiescent_Kernel (hKernel := Cert.Kernel.Gen.facts) := fun m ρ _ => Cert.Kernel.Gen.frame m ρ
theorem ideal_frame : quiescent_KernelIdeal (hKernelIdeal := Cert.KernelIdeal.Gen.facts) := fun m ρ _ => Cert.KernelIdeal.Gen.frame m ρ
theorem ideal_frame_pre : quiescent_KernelIdeal_pre_finite (hKernelIdeal := Cert.KernelIdeal.Gen.facts)
    (hPre_finite := Cert.Pre_finite.Gen.facts) := fun m ρ _ => Cert.KernelIdeal.Gen.frame m ρ
theorem ref_frame : quiescent_ReferenceIdeal (hReferenceIdeal := Cert.ReferenceIdeal.Gen.facts) := fun m ρ _ =>
  (θ_run _ _ _).mono (fun r h => ⟨fun c => (h c).2.2, Idealize.ShloMosaic.sem_eq_zero_of_no_sems (by decide) r.2⟩)
    (Cert.ReferenceIdeal.Value.run (F := Ideal) m ρ)
theorem ref_frame_pre : quiescent_ReferenceIdeal_pre_finite (hReferenceIdeal := Cert.ReferenceIdeal.Gen.facts)
    (hPre_finite := Cert.Pre_finite.Gen.facts) := fun m ρ _ => ref_frame m ρ trivial

theorem preserved : preserves_Kernel_KernelIdeal :=
  IdealRules.named_const.statement Cert.KernelIdeal.κ "mask" .f32 0xF149F2CA#32 ⊥ rfl

/-! ## The precondition, read -/

theorem posInf : Ideal.ofBits .f32 0x7F800000#32 = ⊤ := by
  simp [Ideal.ofBits, Ideal.ieee]

/-- A number whose absolute value is below +∞ is real. -/
theorem real_of_abs_lt (x : EReal) (h : Ideal.cmp .olt (max x (-x)) ⊤ = 1#1) : ∃ r : ℝ, x = r := by
  have hlt : max x (-x) < ⊤ := by
    by_contra hn
    have : Ideal.cmp .olt (max x (-x)) ⊤ = 0#1 := by
      simp only [Ideal.cmp, decide_eq_false hn]
      rfl
    rw [this] at h
    exact absurd h (by decide)
  induction x with
  | bot => simp at hlt
  | top => simp at hlt
  | coe r => exact ⟨r, rfl⟩

section
variable {m : (ℓ : Loc Cert.KernelIdeal.nD Cert.KernelIdeal.τ Cert.KernelIdeal.sig) → Buf (Elt Ideal) ℓ}

theorem real_queries (h : Pre_KernelIdeal_finite (hPre_finite := Cert.Pre_finite.Gen.facts) m) (c : Dev 1) (R : Fin 49152)
    (e : Fin 768) : ∃ r : ℝ, ent (argQ m c) R e = r := by
  have e1 := congrFun (h c).1 (ix2 R e)
  refine real_of_abs_lt _ (Eq.trans ?_ e1)
  rw [← posInf]
  rfl

theorem real_keys (h : Pre_KernelIdeal_finite (hPre_finite := Cert.Pre_finite.Gen.facts) m) (c : Dev 1) (R : Fin 49152)
    (e : Fin 768) : ∃ r : ℝ, ent (argK m c) R e = r := by
  have e1 := congrFun (h c).2 (ix2 R e)
  refine real_of_abs_lt _ (Eq.trans ?_ e1)
  rw [← posInf]
  rfl

/-! ## The results are the reference's -/

variable {m' : (ℓ : Loc Cert.ReferenceIdeal.nD Cert.ReferenceIdeal.τ Cert.ReferenceIdeal.sig) → Buf (Elt Ideal) ℓ}

theorem outs_eq (h : Pre_KernelIdeal_finite (hPre_finite := Cert.Pre_finite.Gen.facts) m) (c : Dev 1)
    (hq : Cert.AttnRef.ent (Cert.AttnRef.argQ m' c) = ent (argQ m c)) (hk : Cert.AttnRef.ent (Cert.AttnRef.argK m' c) = ent (argK m c))
    (hv : Cert.AttnRef.ent (Cert.AttnRef.argV m' c) = ent (argV m c)) :
    (Cert.AttnRef.outs (Cert.AttnRef.argQ m' c) (Cert.AttnRef.argK m' c) (Cert.AttnRef.argV m' c) : FVec Ideal ⟨2, ![49152, 768]⟩ .f32)
      = (Cert.KernelIdeal.Gen.dats m 0 c).arrAt 7 Cert.KernelIdeal.cfg0.N := by
  funext i
  have h1 : (i 1).val < 768 := (i 1).isLt
  have e : (i 1 : Fin 768) = colAt ⟨(i 1).val / 64, by omega⟩ ⟨(i 1).val % 64, by omega⟩ :=
    Fin.ext (by show (i 1).val = (i 1).val / 64 * 64 + (i 1).val % 64; omega)
  rw [show i = ix2 (i 0 : Fin 49152) (i 1 : Fin 768) from eq_ix2 i, e]
  refine (Cert.AttnRef.outs_at _ _ _ (fun R e => ?_) (fun R e => ?_) (i 0) _ _).trans ?_
  · rw [hq]; exact real_queries h c R e
  · rw [hk]; exact real_keys h c R e
  · rw [hq, hk, hv]
    exact (out_at m c (i 0) _ _).symm

theorem lses_eq (c : Dev 1)
    (hq : Cert.AttnRef.ent (Cert.AttnRef.argQ m' c) = ent (argQ m c)) (hk : Cert.AttnRef.ent (Cert.AttnRef.argK m' c) = ent (argK m c)) :
    (Cert.AttnRef.lses (Cert.AttnRef.argQ m' c) (Cert.AttnRef.argK m' c) : FVec Ideal ⟨2, ![49152, 128]⟩ .f32)
      = (Cert.KernelIdeal.Gen.dats m 0 c).arrAt 8 Cert.KernelIdeal.cfg0.N := by
  funext i
  rw [show i = ix2 (i 0 : Fin 49152) (i 1 : Fin 128) from eq_ix2 i]
  refine (Cert.AttnRef.lses_at _ _ (i 0) (i 1)).trans ?_
  rw [hq, hk]
  exact (lse_at m c (i 0) (i 1)).symm
end

theorem value : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks (F := Ideal) m ρ, ?_⟩
  refine (θ_run _ _ _).mono (fun r h c => ?_) (Cert.AttnRef.run_forms m' ρ')
  obtain ⟨a0, a1, a2⟩ := hagree c
  have hq : Cert.AttnRef.ent (Cert.AttnRef.argQ m' c) = ent (argQ m c) := by
    funext R e
    exact congrFun a0 (ix2 R e)
  have hk : Cert.AttnRef.ent (Cert.AttnRef.argK m' c) = ent (argK m c) := by
    funext R e
    exact congrFun a1 (ix2 R e)
  have hv : Cert.AttnRef.ent (Cert.AttnRef.argV m' c) = ent (argV m c) := by
    funext R e
    exact congrFun a2 (ix2 R e)
  exact ⟨(h c).1.trans (outs_eq hpre c hq hk hv), (h c).2.1.trans (lses_eq c hq hk), (h c).2.2⟩

end Cert.Attn

end
-- ==== Proof.AttnDil.lean ====
/-
  Attention over a window of a dilated pattern: the rows that share a residue, in order, are sequences of their own, laid
  out one after the other (`P` rows of prompts in sequences of `L`, then one sample sequence up to row `T`); a query row's
  window is the 129 such rows around it.
-/
module

public import proofs.«01_k».proof.Proof.AttnTile

@[expose] public section

set_option maxRecDepth 16384

noncomputable section

namespace Cert.AttnDil

open Idealize.ShloMosaic Idealize.ShloMosaic.TcCoe Idealize.SL.Sem
open Cert.KernelIdeal Cert.KernelIdeal.Gen
open Cert.Attn (rowAt colAt dotHead lseOf meanOf Holds vwin score qTile kTile top total headOut oTile lsePair lseTile)

/-- The rows `I * D + r` of an array, `I` counting them. -/
def part (D r : ℕ) (x : Fin 49152 → Fin 768 → EReal) (I : Fin 49152) (e : Fin 768) : EReal := x (rowAt (I.val * D + r)) e

/-- The first row of the sequence row `R` lies in. -/
def lowOf (P L R : ℕ) : ℕ := if R < P then R / L * L else P

/-- The row after the last of the sequence row `R` lies in. -/
def highOf (P L T R : ℕ) : ℕ := if R < P then R / L * L + L else T

/-- The scores of row `R` over its window: entry `d` is that of key row `R + d - 64`. -/
def win (P L T : ℕ) (q k : Fin 49152 → Fin 768 → EReal) (R : ℕ) (h : Fin 12) (d : Fin 129) : EReal :=
  if lowOf P L R + 64 ≤ R + d.val ∧ R + d.val < highOf P L T R + 64 then dotHead q k (rowAt R) (rowAt (R + d.val - 64)) h else ⊥

section
variable {P L T : ℕ} {q k v : Fin 49152 → Fin 768 → EReal}

theorem win_real (hq : ∀ R e, ∃ r : ℝ, q R e = r) (hk : ∀ R e, ∃ r : ℝ, k R e = r)
    (R : ℕ) (h : Fin 12) (d : Fin 129) : win P L T q k R h d = ⊥ ∨ ∃ r : ℝ, win P L T q k R h d = r := by
  unfold win
  split_ifs
  · exact .inr (Cert.Attn.dotHead_real q k hq hk _ _ h)
  · exact .inl rfl

theorem win_self (hL : 0 < L) (hq : ∀ R e, ∃ r : ℝ, q R e = r) (hk : ∀ R e, ∃ r : ℝ, k R e = r)
    (R : ℕ) (hR : R < T) (h : Fin 12) : win P L T q k R h ⟨64, by decide⟩ ≠ ⊥ := by
  unfold win
  have hin : lowOf P L R + 64 ≤ R + 64 ∧ R + 64 < highOf P L T R + 64 := by
    have h1 := Nat.div_mul_le_self R L
    have h2 := Nat.lt_div_mul_add (a := R) hL
    unfold lowOf highOf
    split_ifs <;> omega
  rw [if_pos hin]
  obtain ⟨r, hr⟩ := Cert.Attn.dotHead_real q k hq hk (rowAt R) (rowAt (R + 64 - 64)) h
  rw [hr]
  exact EReal.coe_ne_bot r

/-- The mean with normalized weights, at real queries and keys. -/
theorem mean_win (hL : 0 < L) (hq : ∀ R e, ∃ r : ℝ, q R e = r) (hk : ∀ R e, ∃ r : ℝ, k R e = r)
    (R : ℕ) (hR : R < T) (h : Fin 12) (e : Fin 768) :
    ∑ d, Ideal.exp (win P L T q k R h d - lseOf (win P L T q k R h)) * vwin v R e d = meanOf (win P L T q k R h) (vwin v R e) :=
  Cert.Attn.mean_real _ _ (win_real hq hk R h) ⟨_, win_self hL hq hk R hR h⟩
end

/-- A part of an array of real numbers is real. -/
theorem part_real {D r : ℕ} {x : Fin 49152 → Fin 768 → EReal} (hx : ∀ R e, ∃ r : ℝ, x R e = r) :
    ∀ R e, ∃ s : ℝ, part D r x R e = s := fun _ e => hx _ e

/-- A block of rows `xx` holds the rows of the array `xe` around block `t`. -/
def Around (T t : ℕ) (xx : FVec Ideal S384x768 .bf16) (xe : Fin 49152 → Fin 768 → EReal) : Prop :=
  ∀ (y : Fin 384) (e : Fin 768), 64 ≤ 256 * t + y.val → 256 * t + y.val < T + 64 →
    (xx (ix2 y e) : EReal) = xe (rowAt (256 * t + y.val - 64)) e

/-- A mask shows sub-block `b` of block `t` its band within its sequence. -/
def Shows (P L T t : ℕ) (b : Fin 2) (val : IVec S128x256 1) : Prop :=
  ∀ (r : Fin 128) (c : Fin 256), val (ix2 r c) = 1#1 ↔ (r.val ≤ c.val ∧ c.val ≤ r.val + 128)
    ∧ lowOf P L (256 * t + 128 * b.val + r.val) + 64 ≤ 256 * t + 128 * b.val + c.val
    ∧ 256 * t + 128 * b.val + c.val < highOf P L T (256 * t + 128 * b.val + r.val) + 64

/-- Three blocks that hold the rows before, at and after block `t` hold the rows around it. -/
theorem around_of (N t : ℕ) (ht : t < N) (xm : Vec Ideal S256x768 .bf16) (xl xr : Vec Ideal S64x768 .bf16)
    (xe : Fin 49152 → Fin 768 → EReal)
    (hm : ∀ (y : Fin 256) (e : Fin 768), (xm (ix2 y e) : EReal) = xe (rowAt (256 * t + y.val)) e)
    (hl : 0 < t → ∀ (y : Fin 64) (e : Fin 768), (xl (ix2 y e) : EReal) = xe (rowAt (256 * t + y.val - 64)) e)
    (hr : t + 1 < N → ∀ (y : Fin 64) (e : Fin 768), (xr (ix2 y e) : EReal) = xe (rowAt (256 * t + y.val + 256)) e) :
    Around (256 * N) t (Cert.Attn.around (F := Ideal) xm xl xr) xe := by
  intro y e h0 h1
  have hy := y.isLt
  unfold Cert.Attn.around
  dsimp only
  by_cases c0 : y.val < 64
  · exact (dif_pos c0).trans (hl (by omega) ⟨y.val, c0⟩ e)
  · refine (dif_neg c0).trans ?_
    by_cases c1 : y.val < 320
    · refine (dif_pos c1).trans ((hm ⟨y.val - 64, by omega⟩ e).trans ?_)
      rw [show 256 * t + (⟨y.val - 64, by omega⟩ : Fin 256).val = 256 * t + y.val - 64 by dsimp only; omega]
    · refine (dif_neg c1).trans ((hr (by omega) ⟨y.val - 320, by omega⟩ e).trans ?_)
      rw [show 256 * t + (⟨y.val - 320, by omega⟩ : Fin 64).val + 256 = 256 * t + y.val - 64 by dsimp only; omega]

section
variable {P L T t : ℕ} {b : Fin 2} {p : Fin 6} {u : ℕ} {sel : IVec S128x128 1} {val : IVec S128x256 1}
  {q : FVec Ideal S256x768 .bf16} {kk vv : FVec Ideal S384x768 .bf16} {qe ke ve : Fin 49152 → Fin 768 → EReal}

theorem holds (hH : ∀ R, highOf P L T R ≤ T) (hu : u < 2) (hsel : ∀ r d : Fin 128, sel (ix2 r d) = 1#1 ↔ d.val / 64 = u)
    (hval : Shows P L T t b val)
    (hq : ∀ (y : Fin 256) (e : Fin 768), (q (ix2 y e) : EReal) = qe (rowAt (256 * t + y.val)) e)
    (hk : Around T t kk ke) (r : Fin 128) (h : Fin 12) (hh : h.val = 2 * p.val + u) :
    Holds (fun c : Fin 256 => (score (F := Ideal) sel val (qTile (F := Ideal) b p q) (kTile (F := Ideal) b p kk) (ix2 r c) : EReal))
      (win P L T qe ke (256 * t + 128 * b.val + r.val) h) r.val where
  fits := by omega
  inside := by
    intro c d hcd
    rw [Cert.Attn.score_at]
    unfold win
    by_cases hc : lowOf P L (256 * t + 128 * b.val + r.val) + 64 ≤ 256 * t + 128 * b.val + c.val
        ∧ 256 * t + 128 * b.val + c.val < highOf P L T (256 * t + 128 * b.val + r.val) + 64
    · have hb : r.val ≤ c.val ∧ c.val ≤ r.val + 128 := by omega
      have hH' := hH (256 * t + 128 * b.val + r.val)
      rw [if_pos ((hval r c).mpr ⟨hb, hc⟩), if_pos (by omega)]
      simp only [hsel, Cert.Attn.qTile_at, Cert.Attn.kTile_at]
      rw [Cert.Attn.sum_half u hu]
      unfold dotHead
      refine Finset.sum_congr rfl fun x _ => ?_
      rw [hq, hk _ _ (by show 64 ≤ 256 * t + (128 * b.val + c.val); omega)
        (by show 256 * t + (128 * b.val + c.val) < T + 64; omega)]
      have e1 : (⟨128 * p.val + (64 * u + x.val), by omega⟩ : Fin 768) = colAt h x :=
        Fin.ext (by show 128 * p.val + (64 * u + x.val) = h.val * 64 + x.val; omega)
      have e2 : 256 * t + (128 * b.val + r.val) = 256 * t + 128 * b.val + r.val := by omega
      have e3 : 256 * t + (128 * b.val + c.val) - 64 = 256 * t + 128 * b.val + r.val + d.val - 64 := by omega
      dsimp only
      rw [e1, e2, e3]
    · rw [if_neg (fun hv => hc ((hval r c).mp hv).2), if_neg (by omega)]
  outside := by
    intro c hc
    rw [Cert.Attn.score_at, if_neg]
    intro hv
    have := ((hval r c).mp hv).1
    omega

/-- One head's log-sum in a tile. -/
theorem lse_of_tile (hH : ∀ R, highOf P L T R ≤ T) (hu : u < 2) (hsel : ∀ r d : Fin 128, sel (ix2 r d) = 1#1 ↔ d.val / 64 = u)
    (hval : Shows P L T t b val)
    (hq : ∀ (y : Fin 256) (e : Fin 768), (q (ix2 y e) : EReal) = qe (rowAt (256 * t + y.val)) e)
    (hk : Around T t kk ke) (r : Fin 128) (h : Fin 12) (hh : h.val = 2 * p.val + u) :
    (top (F := Ideal) (score (F := Ideal) sel val (qTile (F := Ideal) b p q) (kTile (F := Ideal) b p kk)) (ix2 r 0) : EReal)
      + Ideal.log (total (F := Ideal) (score (F := Ideal) sel val (qTile (F := Ideal) b p q) (kTile (F := Ideal) b p kk)) (ix2 r 0))
      = lseOf (win P L T qe ke (256 * t + 128 * b.val + r.val) h) := by
  rw [← (holds hH hu hsel hval hq hk r h hh).lse_eq, Cert.Attn.total_at]
  simp only [Cert.Attn.expo_at, Cert.Attn.top_at]

/-- One head's output in a tile. -/
theorem out_of_tile (hH : ∀ R, highOf P L T R ≤ T) (hu : u < 2) (hsel : ∀ r d : Fin 128, sel (ix2 r d) = 1#1 ↔ d.val / 64 = u)
    (hval : Shows P L T t b val)
    (hq : ∀ (y : Fin 256) (e : Fin 768), (q (ix2 y e) : EReal) = qe (rowAt (256 * t + y.val)) e)
    (hk : Around T t kk ke) (hv : Around T t vv ve) (r d : Fin 128) (h : Fin 12) (hh : h.val = 2 * p.val + u)
    (x : Fin 64) (hx : d.val = 64 * u + x.val) :
    (headOut (F := Ideal) (score (F := Ideal) sel val (qTile (F := Ideal) b p q) (kTile (F := Ideal) b p kk)) (kTile (F := Ideal) b p vv) (ix2 r d) : EReal)
      = meanOf (win P L T qe ke (256 * t + 128 * b.val + r.val) h) (vwin ve (256 * t + 128 * b.val + r.val) (colAt h x)) := by
  rw [← (holds hH hu hsel hval hq hk r h hh).mean_eq (fun c => (kTile (F := Ideal) b p vv (ix2 c d) : EReal)) _ ?_,
    Cert.Attn.headOut_at, Cert.Attn.total_at]
  · simp only [Cert.Attn.expo_at, Cert.Attn.top_at]
  · intro c dd hcd
    by_cases hc : lowOf P L (256 * t + 128 * b.val + r.val) + 64 ≤ 256 * t + 128 * b.val + r.val + dd.val
        ∧ 256 * t + 128 * b.val + r.val + dd.val < highOf P L T (256 * t + 128 * b.val + r.val) + 64
    · right
      have hH' := hH (256 * t + 128 * b.val + r.val)
      rw [Cert.Attn.kTile_at, hv _ _ (by show 64 ≤ 256 * t + (128 * b.val + c.val); omega)
        (by show 256 * t + (128 * b.val + c.val) < T + 64; omega)]
      unfold vwin
      have e1 : (⟨128 * p.val + d.val, by omega⟩ : Fin 768) = colAt h x :=
        Fin.ext (by show 128 * p.val + d.val = h.val * 64 + x.val; omega)
      have e3 : 256 * t + (128 * b.val + c.val) - 64 = 256 * t + 128 * b.val + r.val + dd.val - 64 := by omega
      dsimp only
      rw [e1, e3]
    · left
      unfold win
      rw [if_neg hc]

/-- The output tile of a pair. -/
theorem oTile_win (hH : ∀ R, highOf P L T R ≤ T) (hval : Shows P L T t b val)
    (hq : ∀ (y : Fin 256) (e : Fin 768), (q (ix2 y e) : EReal) = qe (rowAt (256 * t + y.val)) e)
    (hk : Around T t kk ke) (hv : Around T t vv ve) (r d : Fin 128) (h : Fin 12) (x : Fin 64)
    (hx : 128 * p.val + d.val = h.val * 64 + x.val) :
    (oTile (F := Ideal) val (qTile (F := Ideal) b p q) (kTile (F := Ideal) b p kk) (kTile (F := Ideal) b p vv) (ix2 r d) : EReal)
      = meanOf (win P L T qe ke (256 * t + 128 * b.val + r.val) h) (vwin ve (256 * t + 128 * b.val + r.val) (colAt h x)) := by
  rw [Cert.Attn.oTile_at]
  by_cases hd : d.val < 64
  · rw [if_pos hd]
    exact out_of_tile hH (by decide : 0 < 2) Cert.Attn.low_half hval hq hk hv r d h (by omega) x (by omega)
  · rw [if_neg hd]
    exact out_of_tile hH (by decide : 1 < 2) Cert.Attn.high_half hval hq hk hv r d h (by omega) x (by omega)

/-- The two lanes a pair of heads sets. -/
theorem lsePair_win (hH : ∀ R, highOf P L T R ≤ T) (hval : Shows P L T t b val)
    (hq : ∀ (y : Fin 256) (e : Fin 768), (q (ix2 y e) : EReal) = qe (rowAt (256 * t + y.val)) e)
    (hk : Around T t kk ke) (r d : Fin 128) (g : Fin 12 → EReal)
    (hg : ∀ h : Fin 12, g h = lseOf (win P L T qe ke (256 * t + 128 * b.val + r.val) h)) (prev : FVec Ideal S128x128 .f32)
    (hp : (prev (ix2 r d) : EReal) = if hd : d.val < 2 * p.val then g ⟨d.val, by omega⟩ else 0) :
    (lsePair (F := Ideal) (BitVec.ofNat 32 (2 * p.val)) (BitVec.ofNat 32 (2 * p.val + 1)) val (qTile (F := Ideal) b p q)
      (kTile (F := Ideal) b p kk) prev (ix2 r d) : EReal)
      = if hd : d.val < 2 * p.val + 2 then g ⟨d.val, by omega⟩ else 0 := by
  unfold lsePair
  rw [Cert.Attn.lseStep_at _ (by omega), Cert.Attn.lseStep_at _ (by omega)]
  by_cases h1 : d.val = 2 * p.val + 1
  · rw [if_pos h1, dif_pos (by omega), hg]
    exact lse_of_tile hH (by decide : 1 < 2) Cert.Attn.high_half hval hq hk r _ h1
  · rw [if_neg h1]
    by_cases h0 : d.val = 2 * p.val
    · rw [if_pos h0, dif_pos (by omega), hg]
      exact lse_of_tile hH (by decide : 0 < 2) Cert.Attn.low_half hval hq hk r _ h0
    · rw [if_neg h0, hp]
      by_cases h2 : d.val < 2 * p.val
      · rw [dif_pos h2, dif_pos (by omega)]
      · rw [dif_neg h2, dif_neg (by omega)]

theorem lseTile_win (hH : ∀ R, highOf P L T R ≤ T) (hval : Shows P L T t b val)
    (hq : ∀ (y : Fin 256) (e : Fin 768), (q (ix2 y e) : EReal) = qe (rowAt (256 * t + y.val)) e)
    (hk : Around T t kk ke) (r d : Fin 128) :
    (lseTile (F := Ideal) b val q kk (ix2 r d) : EReal)
      = if hd : d.val < 12 then lseOf (win P L T qe ke (256 * t + 128 * b.val + r.val) ⟨d.val, hd⟩) else 0 := by
  have z : ((k0_pay12 (F := Ideal)) (ix2 r d) : EReal) = 0 := by pointwise [k0_pay12]
  unfold lseTile
  have step := fun (p : Fin 6) (prev : FVec Ideal S128x128 .f32) hp =>
    lsePair_win (p := p) hH hval hq hk r d (fun h => lseOf (win P L T qe ke (256 * t + 128 * b.val + r.val) h)) (fun _ => rfl) prev hp
  have z0 : ((k0_pay12 (F := Ideal)) (ix2 r d) : EReal) = if hd : d.val < 2 * (0 : Fin 6).val then
      lseOf (win P L T qe ke (256 * t + 128 * b.val + r.val) ⟨d.val, by omega⟩) else 0 := by
    rw [z, dif_neg]
    exact Nat.not_lt_zero d.val
  exact step 5 _ (step 4 _ (step 3 _ (step 2 _ (step 1 _ (step 0 _ z0)))))
end

end Cert.AttnDil
end
-- ==== Proof.AttnD4Cases.lean ====
/-
  The attention kernel of dilation 4, one grid point at a time: it leaves in its two output buffers the blocks of outputs
  and log-sums of AttnCases.lean, of its own rows and the rows around them in its sequence.
-/
module

public import proofs.«01_k».proof.Proof.AttnDil
public import proofs.«01_k».proof.Proof.Gen.Kernel5Ideal.Value

@[expose] public section

set_option maxRecDepth 16384

noncomputable section

namespace Cert.AttnD4

open Idealize.ShloMosaic Idealize.ShloMosaic.TcCoe Idealize.SL.Sem
open Cert.Kernel5Ideal Cert.Kernel5Ideal.Gen
open Cert.Attn (seen oBlock lseBlock lseTile oBlock_at lseBlock_at around kTile canon_around load_q off2)

variable {F : FTy → Type} [FloatOps F] [Named F]

/-! ## The bounds of a block's sequence -/

/-- The first row of the block. -/
def row0 (i : grid0.Coords) : BitVec 32 := Scalar.muli (BitVec.ofNat 32 (i 0).val) 256#32

/-- The first row of the block's sequence among the prompts. -/
def loP (i : grid0.Coords) : BitVec 32 := Scalar.muli (Scalar.divsi (row0 i) 1024#32) 1024#32

/-- The first row of the block's sequence among the samples. -/
def loS (i : grid0.Coords) : BitVec 32 :=
  Scalar.addi 8192#32 (Scalar.muli (Scalar.divsi (Scalar.maxsi (Scalar.subi (row0 i) 8192#32) 0#32) 4096#32) 4096#32)

/-- The first row of the block's sequence. -/
def lo (i : grid0.Coords) : BitVec 32 := Scalar.select (Scalar.cmpi .slt (row0 i) 8192#32) (loP i) (loS i)

/-- The row after the last of the block's sequence. -/
def hi (i : grid0.Coords) : BitVec 32 :=
  Scalar.select (Scalar.cmpi .slt (row0 i) 8192#32) (Scalar.addi (loP i) 1024#32) (Scalar.addi (loS i) 4096#32)

/-- What each sub-block's rows see. -/
def seenAt (i : grid0.Coords) (b : Fin 2) : IVec S128x256 1 :=
  if b = 0 then seen 0#32 (row0 i) (lo i) (hi i) else seen 128#32 (row0 i) (lo i) (hi i)

theorem stored7 (x : Vec F S64x768 .bf16) : k0_pay7 x = x := by unfold k0_pay7; simp only [shapeCast_self]
theorem stored8 (x : Vec F S256x768 .bf16) : k0_pay8 x = x := by unfold k0_pay8; simp only [shapeCast_self]
theorem stored9 (x : Vec F S64x768 .bf16) : k0_pay9 x = x := by unfold k0_pay9; simp only [shapeCast_self]
theorem stored10 (x : Vec F S64x768 .bf16) : k0_pay10 x = x := by unfold k0_pay10; simp only [shapeCast_self]
theorem stored11 (x : Vec F S64x768 .bf16) : k0_pay11 x = x := by unfold k0_pay11; simp only [shapeCast_self]
theorem stored12 (x : Vec F S256x768 .bf16) : k0_pay12 x = x := by unfold k0_pay12; simp only [shapeCast_self]
theorem stored13 (x : Vec F S64x768 .bf16) : k0_pay13 x = x := by unfold k0_pay13; simp only [shapeCast_self]

theorem seenAt_one (i : grid0.Coords) :
    seenAt i 1 = k0_pay99 (row0 i) (lo i) (hi i) (iota .tc S128x256 32 [1] iota_S128x256_d1_w32) k0_pay15 := rfl
theorem seenAt_zero (i : grid0.Coords) : seenAt i 0 = k0_pay16 (row0 i) (lo i) (hi i) := rfl
theorem lowSel_eq : Cert.Attn.lowSel = k0_pay14 := rfl
theorem highSel_eq : Cert.Attn.highSel = xori k0_pay14 (constantI S128x128 1 1#1) := rfl
theorem dotQK_eq : Cert.KernelIdeal.dot_S128x128_S256x128_S128x256_1_1_0_0_n_n = dot_S128x128_S256x128_S128x256_1_1_0_0_n_n := rfl
theorem dotPV_eq : Cert.KernelIdeal.dot_S128x256_S256x128_S128x128_1_0_0_1_n_n = dot_S128x256_S256x128_S128x128_1_0_0_1_n_n := rfl
theorem κ_eq : Cert.KernelIdeal.κ = κ := rfl

/-- A load of the rows around the block is a tile of them. -/
theorem load_around (a : Memref sig .tc .vmem S384x768 .bf16) (b : Fin 2) (p : Fin 6) (hin) (xm : Vec F S256x768 .bf16)
    (xl xr : Vec F S64x768 .bf16) :
    a.view.readCov (Val := Elt F) [⟨Rect.unit (s := S384x768) ![320, 0] S64x768.size inb_S384x768_S64x768_320_0, xr⟩,
      ⟨Rect.unit (s := S384x768) ![64, 0] S256x768.size inb_S384x768_S256x768_64_0, xm⟩,
      ⟨Rect.unit (s := S384x768) ![0, 0] S64x768.size inb_S384x768_S64x768_0_0, xl⟩]
      (Rect.unit (s := S384x768) ![128 * b.val, 128 * p.val] S256x128.size hin).toLoadRect
      = kTile b p (around xm xl xr) := by
  rw [View.readCov_eq_canon', canon_around]
  funext j
  exact congrArg (around xm xl xr) (funext fun a => Fin.ext ((Rect.idx_unit_val _ _ _ j a).trans
    (match a with | ⟨0, _⟩ => rfl | ⟨1, _⟩ => rfl)))

section
variable (c : Dev nD) (i : grid0.Coords)
  (a2 : Memref sig .tc .vmem S256x768 .bf16) (h2 : a2.IsWhole) (a3 : Memref sig .tc .vmem S256x768 .bf16) (h3 : a3.IsWhole)
  (a4 : Memref sig .tc .vmem S64x768 .bf16) (h4 : a4.IsWhole) (a5 : Memref sig .tc .vmem S64x768 .bf16) (h5 : a5.IsWhole)
  (a6 : Memref sig .tc .vmem S256x768 .bf16) (h6 : a6.IsWhole) (a7 : Memref sig .tc .vmem S64x768 .bf16) (h7 : a7.IsWhole)
  (a8 : Memref sig .tc .vmem S64x768 .bf16) (h8 : a8.IsWhole) (a9 : Memref sig .tc .vmem S256x768 .f32) (h9 : a9.IsWhole)
  (a10 : Memref sig .tc .vmem S256x128 .f32) (h10 : a10.IsWhole) (a11 : Memref sig .tc .vmem S384x768 .bf16) (h11 : a11.IsWhole)
  (a12 : Memref sig .tc .vmem S384x768 .bf16) (h12 : a12.IsWhole)
  (q km : Vec F S256x768 .bf16) (kl kr : Vec F S64x768 .bf16) (vm : Vec F S256x768 .bf16) (vl vr : Vec F S64x768 .bf16)

theorem o_out :
    out0_A_7 c i a2 h2 a3 h3 a4 h4 a5 h5 a6 h6 a7 h7 a8 h8 a9 h9 a10 h10 a11 h11 a12 h12 q km kl kr vm vl vr
      = oBlock (seenAt i) q (around km kl kr) (around vm vl vr) := by
  funext y
  unfold out0_A_7
  rw [View.read_writes_eq_canon _ _ _ (cover0_A_7 c i a2 h2 a3 h3 a4 h4 a5 h5 a6 h6 a7 h7 a8 h8 a9 h9 a10 h10 a11 h11 a12 h12 q km kl kr vm vl vr)]
  refine View.canon_eq_of_allAt _ y _ (cover0_A_7 c i a2 h2 a3 h3 a4 h4 a5 h5 a6 h6 a7 h7 a8 h8 a9 h9 a10 h10 a11 h11 a12 h12 q km kl kr vm vl vr y) ?_
  unfold kernelRun0_A
  dsimp only
  sl_unfold_words
  refine View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_nil _ _))))))))))))
  all_goals intro x hx
  all_goals simp only [View.readAt_eq_ld, h2.read_unread, h3.read_unread, h4.read_unread, h5.read_unread, h6.read_unread,
    h7.read_unread, h8.read_unread, View.ld_unit_zero (S := S64x768) off2, View.ld_unit_zero (S := S256x768) off2,
    stored7, stored8, stored9, stored10, stored11, stored12, stored13]
  on_goal 1 => rw [oBlock_at (seenAt i) q _ _ 1 5 x y (hx 0) (hx 1), ← load_q q 1 5 inb_S256x768_S128x128_128_640,
      ← load_around a11 1 5 inb_S384x768_S256x128_128_640, ← load_around a12 1 5 inb_S384x768_S256x128_128_640]
  on_goal 2 => rw [oBlock_at (seenAt i) q _ _ 1 4 x y (hx 0) (hx 1), ← load_q q 1 4 inb_S256x768_S128x128_128_512,
      ← load_around a11 1 4 inb_S384x768_S256x128_128_512, ← load_around a12 1 4 inb_S384x768_S256x128_128_512]
  on_goal 3 => rw [oBlock_at (seenAt i) q _ _ 1 3 x y (hx 0) (hx 1), ← load_q q 1 3 inb_S256x768_S128x128_128_384,
      ← load_around a11 1 3 inb_S384x768_S256x128_128_384, ← load_around a12 1 3 inb_S384x768_S256x128_128_384]
  on_goal 4 => rw [oBlock_at (seenAt i) q _ _ 1 2 x y (hx 0) (hx 1), ← load_q q 1 2 inb_S256x768_S128x128_128_256,
      ← load_around a11 1 2 inb_S384x768_S256x128_128_256, ← load_around a12 1 2 inb_S384x768_S256x128_128_256]
  on_goal 5 => rw [oBlock_at (seenAt i) q _ _ 1 1 x y (hx 0) (hx 1), ← load_q q 1 1 inb_S256x768_S128x128_128_128,
      ← load_around a11 1 1 inb_S384x768_S256x128_128_128, ← load_around a12 1 1 inb_S384x768_S256x128_128_128]
  on_goal 6 => rw [oBlock_at (seenAt i) q _ _ 1 0 x y (hx 0) (hx 1), ← load_q q 1 0 inb_S256x768_S128x128_128_0,
      ← load_around a11 1 0 inb_S384x768_S256x128_128_0, ← load_around a12 1 0 inb_S384x768_S256x128_128_0]
  on_goal 7 => rw [oBlock_at (seenAt i) q _ _ 0 5 x y (hx 0) (hx 1), ← load_q q 0 5 inb_S256x768_S128x128_0_640,
      ← load_around a11 0 5 inb_S384x768_S256x128_0_640, ← load_around a12 0 5 inb_S384x768_S256x128_0_640]
  on_goal 8 => rw [oBlock_at (seenAt i) q _ _ 0 4 x y (hx 0) (hx 1), ← load_q q 0 4 inb_S256x768_S128x128_0_512,
      ← load_around a11 0 4 inb_S384x768_S256x128_0_512, ← load_around a12 0 4 inb_S384x768_S256x128_0_512]
  on_goal 9 => rw [oBlock_at (seenAt i) q _ _ 0 3 x y (hx 0) (hx 1), ← load_q q 0 3 inb_S256x768_S128x128_0_384,
      ← load_around a11 0 3 inb_S384x768_S256x128_0_384, ← load_around a12 0 3 inb_S384x768_S256x128_0_384]
  on_goal 10 => rw [oBlock_at (seenAt i) q _ _ 0 2 x y (hx 0) (hx 1), ← load_q q 0 2 inb_S256x768_S128x128_0_256,
      ← load_around a11 0 2 inb_S384x768_S256x128_0_256, ← load_around a12 0 2 inb_S384x768_S256x128_0_256]
  on_goal 11 => rw [oBlock_at (seenAt i) q _ _ 0 1 x y (hx 0) (hx 1), ← load_q q 0 1 inb_S256x768_S128x128_0_128,
      ← load_around a11 0 1 inb_S384x768_S256x128_0_128, ← load_around a12 0 1 inb_S384x768_S256x128_0_128]
  on_goal 12 => rw [oBlock_at (seenAt i) q _ _ 0 0 x y (hx 0) (hx 1), ← load_q q 0 0 inb_S256x768_S128x128_0_0,
      ← load_around a11 0 0 inb_S384x768_S256x128_0_0, ← load_around a12 0 0 inb_S384x768_S256x128_0_0]
  all_goals simp only [k0_pay1, k0_pay2, k0_pay3, k0_pay4, k0_pay5, k0_pay6, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, shapeCast_self,
      Cert.Attn.oTile, Cert.Attn.headOut, Cert.Attn.score, Cert.Attn.top, Cert.Attn.total, Cert.Attn.expo,
      seenAt_one, seenAt_zero, row0, lo, hi, loP, loS, lowSel_eq, highSel_eq, dotQK_eq, dotPV_eq, κ_eq]
  all_goals rfl

theorem lse_out :
    out0_A_8 c i a2 h2 a3 h3 a4 h4 a5 h5 a6 h6 a7 h7 a8 h8 a9 h9 a10 h10 a11 h11 a12 h12 q km kl kr vm vl vr
      = lseBlock (seenAt i) q (around km kl kr) := by
  funext y
  unfold out0_A_8
  rw [View.read_writes_eq_canon _ _ _ (cover0_A_8 c i a2 h2 a3 h3 a4 h4 a5 h5 a6 h6 a7 h7 a8 h8 a9 h9 a10 h10 a11 h11 a12 h12 q km kl kr vm vl vr)]
  refine View.canon_eq_of_allAt _ y _ (cover0_A_8 c i a2 h2 a3 h3 a4 h4 a5 h5 a6 h6 a7 h7 a8 h8 a9 h9 a10 h10 a11 h11 a12 h12 q km kl kr vm vl vr y) ?_
  unfold kernelRun0_A
  dsimp only
  sl_unfold_words
  refine View.allAt_cons_unit _ _ _ _ _ ?_ (View.allAt_cons_unit _ _ _ _ _ ?_ (View.allAt_nil _ _))
  all_goals intro x hx
  all_goals simp only [View.readAt_eq_ld, h2.read_unread, h3.read_unread, h4.read_unread, h5.read_unread, h6.read_unread,
    h7.read_unread, h8.read_unread, View.ld_unit_zero (S := S64x768) off2, View.ld_unit_zero (S := S256x768) off2,
    stored7, stored8, stored9, stored10, stored11, stored12, stored13]
  on_goal 1 =>
    rw [lseBlock_at (seenAt i) q _ 1 x y (hx 0) ((hx 1).trans (Nat.zero_add _))]
    unfold lseTile
    rw [← load_q q 1 0 inb_S256x768_S128x128_128_0, ← load_around a11 1 0 inb_S384x768_S256x128_128_0,
      ← load_q q 1 1 inb_S256x768_S128x128_128_128, ← load_around a11 1 1 inb_S384x768_S256x128_128_128,
      ← load_q q 1 2 inb_S256x768_S128x128_128_256, ← load_around a11 1 2 inb_S384x768_S256x128_128_256,
      ← load_q q 1 3 inb_S256x768_S128x128_128_384, ← load_around a11 1 3 inb_S384x768_S256x128_128_384,
      ← load_q q 1 4 inb_S256x768_S128x128_128_512, ← load_around a11 1 4 inb_S384x768_S256x128_128_512,
      ← load_q q 1 5 inb_S256x768_S128x128_128_640, ← load_around a11 1 5 inb_S384x768_S256x128_128_640]
  on_goal 2 =>
    rw [lseBlock_at (seenAt i) q _ 0 x y (hx 0) ((hx 1).trans (Nat.zero_add _))]
    unfold lseTile
    rw [← load_q q 0 0 inb_S256x768_S128x128_0_0, ← load_around a11 0 0 inb_S384x768_S256x128_0_0,
      ← load_q q 0 1 inb_S256x768_S128x128_0_128, ← load_around a11 0 1 inb_S384x768_S256x128_0_128,
      ← load_q q 0 2 inb_S256x768_S128x128_0_256, ← load_around a11 0 2 inb_S384x768_S256x128_0_256,
      ← load_q q 0 3 inb_S256x768_S128x128_0_384, ← load_around a11 0 3 inb_S384x768_S256x128_0_384,
      ← load_q q 0 4 inb_S256x768_S128x128_0_512, ← load_around a11 0 4 inb_S384x768_S256x128_0_512,
      ← load_q q 0 5 inb_S256x768_S128x128_0_640, ← load_around a11 0 5 inb_S384x768_S256x128_0_640]
  all_goals simp only [k0_pay1, k0_pay2, k0_pay3, k0_pay4, k0_pay5, k0_pay6, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, shapeCast_self,
      Cert.Attn.lsePair, Cert.Attn.lseStep, Cert.Attn.score, Cert.Attn.top, Cert.Attn.total, Cert.Attn.expo, Cert.KernelIdeal.Gen.k0_pay12,
      seenAt_one, seenAt_zero, row0, lo, hi, loP, loS, lowSel_eq, highSel_eq, dotQK_eq, κ_eq]
  all_goals rfl
end
end Cert.AttnD4
end
-- ==== Proof.AttnD4Value.lean ====
/-
  The attention kernel of dilation 4: its blocks as rows of the arguments, what each grid point's masks show, and the two
  results at one index: the mean and the log-sum of a window of the rows that share a residue.
-/
module

public import proofs.«01_k».proof.Proof.AttnD4Cases

@[expose] public section

set_option maxRecDepth 16384

noncomputable section

namespace Cert.AttnD4

open Idealize.ShloMosaic Idealize.ShloMosaic.TcCoe Idealize.SL.Sem
open Cert.Kernel5Ideal Cert.Kernel5Ideal.Gen
open Cert.Attn (seen_at oBlock lseBlock oBlock_at lseBlock_at around rowAt rowAt_of colAt lseOf meanOf vwin)
open Cert.AttnDil

variable (m : (ℓ : Loc nD τ sig) → Buf (Elt Ideal) ℓ) (c : Dev nD)

abbrev argQ : FVec Ideal S49152x768 .bf16 := m ((c.tc : Thread nD τ).loc main_arg0)
abbrev argK : FVec Ideal S49152x768 .bf16 := m ((c.tc : Thread nD τ).loc main_arg1)
abbrev argV : FVec Ideal S49152x768 .bf16 := m ((c.tc : Thread nD τ).loc main_arg2)

/-- The entry of an argument. -/
abbrev ent (x : FVec Ideal S49152x768 .bf16) (R : Fin 49152) (e : Fin 768) : EReal := x (ix2 R e)

/-! ## The grid -/

theorem bounds_at : ∀ t : Fin grid0.N, row0 (grid0.coords t) = BitVec.ofNat 32 (256 * (t.val / 4))
    ∧ lo (grid0.coords t) = BitVec.ofNat 32 (lowOf 8192 1024 (256 * (t.val / 4)))
    ∧ hi (grid0.coords t) = BitVec.ofNat 32 (highOf 8192 1024 12288 (256 * (t.val / 4))) := by
  decide +kernel

theorem idx0 : ∀ t : Fin grid0.N, win0_0.index t 0 = t.val / 4 ∧ win0_0.index t 1 = t.val % 4 := by decide +kernel
theorem idx1 : ∀ t : Fin grid0.N, win0_1.index t 0 = t.val / 4 ∧ win0_1.index t 1 = t.val % 4 := by decide +kernel
theorem idx2 : ∀ t : Fin grid0.N, win0_2.index t 0 = 4 * (t.val / 4) - 1 ∧ win0_2.index t 1 = t.val % 4 := by decide +kernel
theorem idx3 : ∀ t : Fin grid0.N, win0_3.index t 0 = min (4 * (t.val / 4) + 4) 191 ∧ win0_3.index t 1 = t.val % 4 := by decide +kernel
theorem idx4 : ∀ t : Fin grid0.N, win0_4.index t 0 = t.val / 4 ∧ win0_4.index t 1 = t.val % 4 := by decide +kernel
theorem idx5 : ∀ t : Fin grid0.N, win0_5.index t 0 = 4 * (t.val / 4) - 1 ∧ win0_5.index t 1 = t.val % 4 := by decide +kernel
theorem idx6 : ∀ t : Fin grid0.N, win0_6.index t 0 = min (4 * (t.val / 4) + 4) 191 ∧ win0_6.index t 1 = t.val % 4 := by decide +kernel
theorem idx7 : ∀ t : Fin grid0.N, win0_7.index t 0 = t.val / 4 ∧ win0_7.index t 1 = t.val % 4 := by decide +kernel
theorem idx8 : ∀ t : Fin grid0.N, win0_8.index t 0 = t.val / 4 ∧ win0_8.index t 1 = t.val % 4 := by decide +kernel

theorem pt_lt (t : Fin cfg0.N) : t.val < 192 := lt_of_lt_of_eq t.isLt (show cfg0.N = 192 from N_0)

theorem lowOf_block (t b r : ℕ) (hb : b < 2) (hr : r < 128) : lowOf 8192 1024 (256 * t + 128 * b + r) = lowOf 8192 1024 (256 * t) := by
  unfold lowOf
  split_ifs <;> omega

theorem highOf_block (t b r : ℕ) (hb : b < 2) (hr : r < 128) : highOf 8192 1024 12288 (256 * t + 128 * b + r) = highOf 8192 1024 12288 (256 * t) := by
  unfold highOf
  split_ifs <;> omega

theorem lowOf_le (R : ℕ) : lowOf 8192 1024 R < 12288 := by
  unfold lowOf
  split_ifs <;> omega

theorem highOf_le (R : ℕ) : highOf 8192 1024 12288 R ≤ 12288 := by
  unfold highOf
  split_ifs <;> omega

/-- The masks of a grid point show each row its window. -/
theorem shows (t : Fin cfg0.N) (b : Fin 2) : Shows 8192 1024 12288 (t.val / 4) b (seenAt (grid0.coords t) b) := by
  intro r x
  have ht := pt_lt t
  have hb := b.isLt
  have hr := r.isLt
  have hl := lowOf_le (256 * (t.val / 4))
  have hh := highOf_le (256 * (t.val / 4))
  obtain ⟨e0, e1, e2⟩ := bounds_at t
  rw [lowOf_block (t.val / 4) b.val r.val hb hr, highOf_block (t.val / 4) b.val r.val hb hr]
  unfold seenAt
  rw [e0, e1, e2]
  by_cases h : b = 0
  · rw [if_pos h, seen_at 0 _ _ _ (by omega) (by omega) (by omega) (by omega)]
    have : b.val = 0 := by rw [h]; rfl
    omega
  · rw [if_neg h, seen_at 128 _ _ _ (by omega) (by omega) (by omega) (by omega)]
    have : b.val = 1 := by have : b.val ≠ 0 := fun hv => h (Fin.ext hv); omega
    omega

/-! ## The blocks -/

theorem found_q (i : S12288x3072.Idx) (R r : ℕ) (hR : R < 12288) (hr : r < 4) (e : Fin 768) (h0 : (i 0).val = R) (h1 : (i 1).val = r * 768 + e.val) :
    (V m c main_v0 i : EReal) = part 4 r (ent (argQ m c)) (rowAt R) e := by
  have h : V m c main_v0 = shapeCast S12288x3072 (argQ m c) shapeCasts_S49152x768_S12288x3072 := by
    show StableHlo.after hostOps0 (fun b => m (c, b)) main_v0 = _
    simp only [hostOps0, List.flatten_cons, List.flatten_nil, List.append_nil, List.cons_append, List.nil_append]
    after_results_simp
    rfl
  rw [h]
  unfold part
  rw [rowAt_of R (by omega)]
  refine shapeCast_apply _ _ _ _ ?_
  rw [Shape.rowMajor_val_two, Shape.rowMajor_val_two]
  show min (R * 4 + r) 49151 * 768 + e.val = (i 0).val * 3072 + (i 1).val
  omega

theorem found_k (i : S12288x3072.Idx) (R r : ℕ) (hR : R < 12288) (hr : r < 4) (e : Fin 768) (h0 : (i 0).val = R) (h1 : (i 1).val = r * 768 + e.val) :
    (V m c main_v1 i : EReal) = part 4 r (ent (argK m c)) (rowAt R) e := by
  have h : V m c main_v1 = shapeCast S12288x3072 (argK m c) shapeCasts_S49152x768_S12288x3072 := by
    show StableHlo.after hostOps0 (fun b => m (c, b)) main_v1 = _
    simp only [hostOps0, List.flatten_cons, List.flatten_nil, List.append_nil, List.cons_append, List.nil_append]
    after_results_simp
    rfl
  rw [h]
  unfold part
  rw [rowAt_of R (by omega)]
  refine shapeCast_apply _ _ _ _ ?_
  rw [Shape.rowMajor_val_two, Shape.rowMajor_val_two]
  show min (R * 4 + r) 49151 * 768 + e.val = (i 0).val * 3072 + (i 1).val
  omega

theorem found_v (i : S12288x3072.Idx) (R r : ℕ) (hR : R < 12288) (hr : r < 4) (e : Fin 768) (h0 : (i 0).val = R) (h1 : (i 1).val = r * 768 + e.val) :
    (V m c main_v2 i : EReal) = part 4 r (ent (argV m c)) (rowAt R) e := by
  have h : V m c main_v2 = shapeCast S12288x3072 (argV m c) shapeCasts_S49152x768_S12288x3072 := by
    show StableHlo.after hostOps0 (fun b => m (c, b)) main_v2 = _
    simp only [hostOps0, List.flatten_cons, List.flatten_nil, List.append_nil, List.cons_append, List.nil_append]
    after_results_simp
    rfl
  rw [h]
  unfold part
  rw [rowAt_of R (by omega)]
  refine shapeCast_apply _ _ _ _ ?_
  rw [Shape.rowMajor_val_two, Shape.rowMajor_val_two]
  show min (R * 4 + r) 49151 * 768 + e.val = (i 0).val * 3072 + (i 1).val
  omega

theorem blk_q (t : Fin cfg0.N) (y : Fin 256) (e : Fin 768) :
    ((iblk m c 0 t : Vec Ideal S256x768 .bf16) (ix2 y e) : EReal) = part 4 (t.val % 4) (ent (argQ m c)) (rowAt (256 * (t.val / 4) + y.val)) e := by
  have ht := pt_lt t
  have hy := y.isLt
  unfold iblk
  rw [View.read_apply]
  refine found_q m c _ (256 * (t.val / 4) + y.val) (t.val % 4) (by omega) (by omega) e ?_ ?_
  · show win0_0.index t 0 * 256 + 1 * y.val = _; rw [(idx0 t).1]; omega
  · show win0_0.index t 1 * 768 + 1 * e.val = _; rw [(idx0 t).2]; omega

theorem blk_km (t : Fin cfg0.N) (y : Fin 256) (e : Fin 768) :
    ((iblk m c 1 t : Vec Ideal S256x768 .bf16) (ix2 y e) : EReal) = part 4 (t.val % 4) (ent (argK m c)) (rowAt (256 * (t.val / 4) + y.val)) e := by
  have ht := pt_lt t
  have hy := y.isLt
  unfold iblk
  rw [View.read_apply]
  refine found_k m c _ (256 * (t.val / 4) + y.val) (t.val % 4) (by omega) (by omega) e ?_ ?_
  · show win0_1.index t 0 * 256 + 1 * y.val = _; rw [(idx1 t).1]; omega
  · show win0_1.index t 1 * 768 + 1 * e.val = _; rw [(idx1 t).2]; omega

theorem blk_kl (t : Fin cfg0.N) (h : 0 < t.val / 4) (y : Fin 64) (e : Fin 768) :
    ((iblk m c 2 t : Vec Ideal S64x768 .bf16) (ix2 y e) : EReal) = part 4 (t.val % 4) (ent (argK m c)) (rowAt (256 * (t.val / 4) + y.val - 64)) e := by
  have ht := pt_lt t
  have hy := y.isLt
  unfold iblk
  rw [View.read_apply]
  refine found_k m c _ (256 * (t.val / 4) + y.val - 64) (t.val % 4) (by omega) (by omega) e ?_ ?_
  · show win0_2.index t 0 * 64 + 1 * y.val = _; rw [(idx2 t).1]; omega
  · show win0_2.index t 1 * 768 + 1 * e.val = _; rw [(idx2 t).2]; omega

theorem blk_kr (t : Fin cfg0.N) (h : t.val / 4 + 1 < 48) (y : Fin 64) (e : Fin 768) :
    ((iblk m c 3 t : Vec Ideal S64x768 .bf16) (ix2 y e) : EReal) = part 4 (t.val % 4) (ent (argK m c)) (rowAt (256 * (t.val / 4) + y.val + 256)) e := by
  have ht := pt_lt t
  have hy := y.isLt
  unfold iblk
  rw [View.read_apply]
  refine found_k m c _ (256 * (t.val / 4) + y.val + 256) (t.val % 4) (by omega) (by omega) e ?_ ?_
  · show win0_3.index t 0 * 64 + 1 * y.val = _; rw [(idx3 t).1]; omega
  · show win0_3.index t 1 * 768 + 1 * e.val = _; rw [(idx3 t).2]; omega

theorem blk_vm (t : Fin cfg0.N) (y : Fin 256) (e : Fin 768) :
    ((iblk m c 4 t : Vec Ideal S256x768 .bf16) (ix2 y e) : EReal) = part 4 (t.val % 4) (ent (argV m c)) (rowAt (256 * (t.val / 4) + y.val)) e := by
  have ht := pt_lt t
  have hy := y.isLt
  unfold iblk
  rw [View.read_apply]
  refine found_v m c _ (256 * (t.val / 4) + y.val) (t.val % 4) (by omega) (by omega) e ?_ ?_
  · show win0_4.index t 0 * 256 + 1 * y.val = _; rw [(idx4 t).1]; omega
  · show win0_4.index t 1 * 768 + 1 * e.val = _; rw [(idx4 t).2]; omega

theorem blk_vl (t : Fin cfg0.N) (h : 0 < t.val / 4) (y : Fin 64) (e : Fin 768) :
    ((iblk m c 5 t : Vec Ideal S64x768 .bf16) (ix2 y e) : EReal) = part 4 (t.val % 4) (ent (argV m c)) (rowAt (256 * (t.val / 4) + y.val - 64)) e := by
  have ht := pt_lt t
  have hy := y.isLt
  unfold iblk
  rw [View.read_apply]
  refine found_v m c _ (256 * (t.val / 4) + y.val - 64) (t.val % 4) (by omega) (by omega) e ?_ ?_
  · show win0_5.index t 0 * 64 + 1 * y.val = _; rw [(idx5 t).1]; omega
  · show win0_5.index t 1 * 768 + 1 * e.val = _; rw [(idx5 t).2]; omega

theorem blk_vr (t : Fin cfg0.N) (h : t.val / 4 + 1 < 48) (y : Fin 64) (e : Fin 768) :
    ((iblk m c 6 t : Vec Ideal S64x768 .bf16) (ix2 y e) : EReal) = part 4 (t.val % 4) (ent (argV m c)) (rowAt (256 * (t.val / 4) + y.val + 256)) e := by
  have ht := pt_lt t
  have hy := y.isLt
  unfold iblk
  rw [View.read_apply]
  refine found_v m c _ (256 * (t.val / 4) + y.val + 256) (t.val % 4) (by omega) (by omega) e ?_ ?_
  · show win0_6.index t 0 * 64 + 1 * y.val = _; rw [(idx6 t).1]; omega
  · show win0_6.index t 1 * 768 + 1 * e.val = _; rw [(idx6 t).2]; omega

theorem around_k (t : Fin cfg0.N) : Around 12288 (t.val / 4) (around (F := Ideal) (iblk m c 1 t) (iblk m c 2 t) (iblk m c 3 t))
    (part 4 (t.val % 4) (ent (argK m c))) :=
  around_of 48 (t.val / 4) (by have := pt_lt t; omega) _ _ _ _ (blk_km m c t) (blk_kl m c t) (blk_kr m c t)

theorem around_v (t : Fin cfg0.N) : Around 12288 (t.val / 4) (around (F := Ideal) (iblk m c 4 t) (iblk m c 5 t) (iblk m c 6 t))
    (part 4 (t.val % 4) (ent (argV m c))) :=
  around_of 48 (t.val / 4) (by have := pt_lt t; omega) _ _ _ _ (blk_vm m c t) (blk_vl m c t) (blk_vr m c t)

/-! ## The results -/

/-- The grid point that writes row `R` of the rows with residue `r`. -/
def ptOf (R : Fin 12288) (r : Fin 4) : Fin cfg0.N :=
  ⟨R.val / 256 * 4 + r.val, lt_of_lt_of_eq (by have := R.isLt; have := r.isLt; omega) (show cfg0.N = 192 from N_0).symm⟩

theorem ptOf_row (R : Fin 12288) (r : Fin 4) : (ptOf R r).val / 4 = R.val / 256 := by
  have := r.isLt
  show (R.val / 256 * 4 + r.val) / 4 = _
  omega

theorem ptOf_part (R : Fin 12288) (r : Fin 4) : (ptOf R r).val % 4 = r.val := by
  have := r.isLt
  show (R.val / 256 * 4 + r.val) % 4 = _
  omega

/-- The outputs, as one block of the whole array. -/
theorem o_blk (t : Fin cfg0.N) (y : S256x768.Idx) :
    ((((cfg0.win 7).blk t).view.read (Elt Ideal) ((Gen.dats m 0 c).arrAt 7 cfg0.N)) y : EReal)
      = oBlock (F := Ideal) (seenAt (grid0.coords t)) (iblk m c 0 t) (around (iblk m c 1 t) (iblk m c 2 t) (iblk m c 3 t))
        (around (iblk m c 4 t) (iblk m c 5 t) (iblk m c 6 t)) y := by
  rw [Value.blocks7 m c t (flush0_7 t), Value.flushed7_A, o_out]
  rfl

theorem lse_blk (t : Fin cfg0.N) (y : S256x128.Idx) :
    ((((cfg0.win 8).blk t).view.read (Elt Ideal) ((Gen.dats m 0 c).arrAt 8 cfg0.N)) y : EReal)
      = lseBlock (F := Ideal) (seenAt (grid0.coords t)) (iblk m c 0 t) (around (iblk m c 1 t) (iblk m c 2 t) (iblk m c 3 t)) y := by
  rw [Value.blocks8 m c t (flush0_8 t), Value.flushed8_A, lse_out]
  rfl

/-- Column `e` of the rows with residue `r`, in the array where a row holds all residues. -/
def wideO (r : Fin 4) (e : Fin 768) : Fin 3072 := ⟨r.val * 768 + e.val, by omega⟩
def wideL (r : Fin 4) (e : Fin 128) : Fin 512 := ⟨r.val * 128 + e.val, by omega⟩

/-- One entry of the output. -/
theorem out_at (R : Fin 12288) (r : Fin 4) (h : Fin 12) (x : Fin 64) :
    ((Gen.dats m 0 c).arrAt 7 cfg0.N (ix2 R (wideO r (colAt h x))) : EReal)
      = meanOf (win 8192 1024 12288 (part 4 r.val (ent (argQ m c))) (part 4 r.val (ent (argK m c))) R.val h)
        (vwin (part 4 r.val (ent (argV m c))) R.val (colAt h x)) := by
  have hR := R.isLt
  have hh := h.isLt
  have hx := x.isLt
  have e := o_blk m c (ptOf R r) (ix2 (⟨R.val % 256, Nat.mod_lt _ (by decide)⟩ : Fin 256) (colAt h x))
  rw [View.read_apply] at e
  have ei : (((cfg0.win 7).blk (ptOf R r)).view.emb (ix2 (⟨R.val % 256, Nat.mod_lt _ (by decide)⟩ : Fin 256) (colAt h x)) : S12288x3072.Idx)
      = ix2 R (wideO r (colAt h x)) := by
    funext a; apply Fin.ext
    match a with
    | ⟨0, _⟩ => show win0_7.index (ptOf R r) 0 * 256 + 1 * (R.val % 256) = R.val; rw [(idx7 _).1, ptOf_row]; omega
    | ⟨1, _⟩ => show win0_7.index (ptOf R r) 1 * 768 + 1 * (colAt h x).val = r.val * 768 + (colAt h x).val; rw [(idx7 _).2, ptOf_part]; omega
  have e2 : ((Gen.dats m 0 c).arrAt 7 cfg0.N (ix2 R (wideO r (colAt h x))) : EReal) = _ := (congrArg ((Gen.dats m 0 c).arrAt 7 cfg0.N) ei).symm.trans e
  rw [e2]
  have hb : R.val % 256 / 128 < 2 := by omega
  have hp : h.val / 2 < 6 := by omega
  have hr : R.val % 128 < 128 := by omega
  have hd : h.val % 2 * 64 + x.val < 128 := by omega
  rw [oBlock_at (F := Ideal) _ _ _ _ ⟨R.val % 256 / 128, hb⟩ ⟨h.val / 2, hp⟩ (ix2 (⟨R.val % 128, hr⟩ : Fin 128) (⟨h.val % 2 * 64 + x.val, hd⟩ : Fin 128)) _
    (by show R.val % 256 = 128 * (R.val % 256 / 128) + R.val % 128; omega)
    (by show h.val * 64 + x.val = 128 * (h.val / 2) + (h.val % 2 * 64 + x.val); omega)]
  rw [oTile_win highOf_le (shows (ptOf R r) _) (blk_q m c (ptOf R r)) (around_k m c (ptOf R r)) (around_v m c (ptOf R r)) _ _ h x
    (by show 128 * (h.val / 2) + (h.val % 2 * 64 + x.val) = h.val * 64 + x.val; omega)]
  rw [ptOf_row, ptOf_part, show 256 * (R.val / 256) + 128 * (⟨R.val % 256 / 128, hb⟩ : Fin 2).val + (⟨R.val % 128, hr⟩ : Fin 128).val = R.val by
    show 256 * (R.val / 256) + 128 * (R.val % 256 / 128) + R.val % 128 = R.val; omega]

/-- One entry of the log-sums. -/
theorem lse_at (R : Fin 12288) (r : Fin 4) (e : Fin 128) :
    ((Gen.dats m 0 c).arrAt 8 cfg0.N (ix2 R (wideL r e)) : EReal)
      = if h : e.val < 12 then lseOf (win 8192 1024 12288 (part 4 r.val (ent (argQ m c))) (part 4 r.val (ent (argK m c))) R.val ⟨e.val, h⟩) else 0 := by
  have hR := R.isLt
  have e1 := lse_blk m c (ptOf R r) (ix2 (⟨R.val % 256, Nat.mod_lt _ (by decide)⟩ : Fin 256) e)
  rw [View.read_apply] at e1
  have ei : (((cfg0.win 8).blk (ptOf R r)).view.emb (ix2 (⟨R.val % 256, Nat.mod_lt _ (by decide)⟩ : Fin 256) e) : S12288x512.Idx)
      = ix2 R (wideL r e) := by
    funext a; apply Fin.ext
    match a with
    | ⟨0, _⟩ => show win0_8.index (ptOf R r) 0 * 256 + 1 * (R.val % 256) = R.val; rw [(idx8 _).1, ptOf_row]; omega
    | ⟨1, _⟩ => show win0_8.index (ptOf R r) 1 * 128 + 1 * e.val = r.val * 128 + e.val; rw [(idx8 _).2, ptOf_part]; omega
  have e2 : ((Gen.dats m 0 c).arrAt 8 cfg0.N (ix2 R (wideL r e)) : EReal) = _ := (congrArg ((Gen.dats m 0 c).arrAt 8 cfg0.N) ei).symm.trans e1
  rw [e2]
  have hb : R.val % 256 / 128 < 2 := by omega
  have hr : R.val % 128 < 128 := by omega
  rw [lseBlock_at (F := Ideal) _ _ _ ⟨R.val % 256 / 128, hb⟩ (ix2 (⟨R.val % 128, hr⟩ : Fin 128) e) _
    (by show R.val % 256 = 128 * (R.val % 256 / 128) + R.val % 128; omega) rfl]
  rw [lseTile_win highOf_le (shows (ptOf R r) _) (blk_q m c (ptOf R r)) (around_k m c (ptOf R r))]
  rw [ptOf_row, ptOf_part, show 256 * (R.val / 256) + 128 * (⟨R.val % 256 / 128, hb⟩ : Fin 2).val + (⟨R.val % 128, hr⟩ : Fin 128).val = R.val by
    show 256 * (R.val / 256) + 128 * (R.val % 256 / 128) + R.val % 128 = R.val; omega]

end Cert.AttnD4
end
-- ==== Proof.AttnRefD4.lean ====
/-
  The attention reference of dilation 4 over the extended reals, step by step, read at one index: the rows of each residue
  are sequences of their own, 1024 rows each among the prompts and 4096 rows in the sample. Each step is a function of the
  arrays before it.
-/
module

public import proofs.«01_k».proof.Proof.AttnDil
public import proofs.«01_k».proof.Proof.AttnRef
public import proofs.«01_k».proof.Proof.Gen.Reference5Ideal.Run

@[expose] public section

set_option maxRecDepth 16384

noncomputable section

namespace Cert.AttnRefD4

open Idealize.ShloMosaic Idealize.ShloMosaic.TcCoe Idealize.SL.Sem
open Cert.Reference5Ideal Cert.Reference5Ideal.Gen
open Cert.Attn (rowAt colAt rowAt_of)
open Cert.AttnRef (near_words add_at log_at)
open Cert.AttnDil (part)

/-- An array's entry at a row and a column. -/
abbrev ent (x : FVec Ideal S49152x768 .f32) (R : Fin 49152) (e : Fin 768) : EReal := x (ix2 R e)

/-! ## The prompts -/

/-- The rows of one residue after another, as sequences of heads. -/
def seqsP (x : FVec Ideal S49152x768 .f32) : FVec Ideal S32x1024x12x64 .f32 :=
  shapeCast _ (transpose S8x4x1024x12x64 [0, 2, 1, 3, 4] (shapeCast _ (shapeCast _ (extractStridedSlice S32768x768 ![0, 0] x slices_S49152x768_S32768x768_0_0) shapeCasts_S32768x768_S8x4096x12x64) shapeCasts_S8x4096x12x64_S8x1024x4x12x64) transposes_S8x1024x4x12x64_S8x4x1024x12x64_0_2_1_3_4) shapeCasts_S8x4x1024x12x64_S32x1024x12x64

/-- The queries in blocks of 64 rows. -/
def queriesP (x : FVec Ideal S49152x768 .f32) : FVec Ideal S32x16x64x12x64 .f32 :=
  shapeCast _ (pad S32x1024x12x64 ![0, 0, 0, 0] ![0, 0, 0, 0] ![0, 0, 0, 0] (seqsP x) (sitofp (F := Ideal) .f32 (constantI S_ 32 0#32)) pads_S32x1024x12x64_S32x1024x12x64_000_000_000_000 h_S_) shapeCasts_S32x1024x12x64_S32x16x64x12x64

/-- The keys or values in blocks of 64 rows, a block of zeros at either end of a sequence. -/
def paddedP (x : FVec Ideal S49152x768 .f32) : FVec Ideal S32x18x64x12x64 .f32 :=
  shapeCast _ (pad S32x1152x12x64 ![0, 64, 0, 0] ![0, 64, 0, 0] ![0, 0, 0, 0] (seqsP x) (sitofp (F := Ideal) .f32 (constantI S_ 32 0#32)) pads_S32x1024x12x64_S32x1152x12x64_000_64640_000_000 h_S_) shapeCasts_S32x1152x12x64_S32x18x64x12x64

/-- The three blocks around each block. -/
def aroundP (vb : FVec Ideal S32x18x64x12x64 .f32) : FVec Ideal S32x16x192x12x64 .f32 :=
  concatenate S32x16x192x12x64 2
    [⟨S32x16x64x12x64, extractStridedSlice S32x16x64x12x64 ![0, 0, 0, 0, 0] vb slices_S32x18x64x12x64_S32x16x64x12x64_0_0_0_0_0⟩,
     ⟨S32x16x64x12x64, extractStridedSlice S32x16x64x12x64 ![0, 1, 0, 0, 0] vb slices_S32x18x64x12x64_S32x16x64x12x64_0_1_0_0_0⟩,
     ⟨S32x16x64x12x64, extractStridedSlice S32x16x64x12x64 ![0, 2, 0, 0, 0] vb slices_S32x18x64x12x64_S32x16x64x12x64_0_2_0_0_0⟩]
    concatenates_S32x16x64x12x64_S32x16x64x12x64_S32x16x64x12x64_S32x16x192x12x64_d2

/-- The key positions of each block. -/
def keyPosP : IVec S16x1x192 32 :=
  subi (addi (broadcastInDim S16x1x192 ![0, 1, 2] bcast_S16x1x1_S16x1x192_0_1_2 (muli (broadcastInDim S16x1x1 ![0] bcast_S16_S16x1x1_0 (iotaInDim S16 32 0)) (broadcastInDim S16x1x1 ![] bcast_S_S16x1x1 (constantI S_ 32 64#32)))) (broadcastInDim S16x1x192 ![0, 1, 2] bcast_S1x1x192_S16x1x192_0_1_2 (broadcastInDim S1x1x192 ![2] bcast_S192_S1x1x192_2 (iotaInDim S192 32 0)))) (broadcastInDim S16x1x192 ![] bcast_S_S16x1x192 (constantI S_ 32 64#32))

/-- The keys each row of a block sees. -/
def nearP : IVec S16x64x192 1 :=
  andi (andi (cmpi .sle (absi (subi (broadcastInDim S16x64x192 ![0, 1, 2] bcast_S16x1x192_S16x64x192_0_1_2 keyPosP) (broadcastInDim S16x64x192 ![0, 1, 2] bcast_S16x64x1_S16x64x192_0_1_2 (addi (broadcastInDim S16x64x1 ![0, 1, 2] bcast_S16x1x1_S16x64x1_0_1_2 (muli (broadcastInDim S16x1x1 ![0] bcast_S16_S16x1x1_0 (iotaInDim S16 32 0)) (broadcastInDim S16x1x1 ![] bcast_S_S16x1x1 (constantI S_ 32 64#32)))) (broadcastInDim S16x64x1 ![0, 1, 2] bcast_S1x64x1_S16x64x1_0_1_2 (broadcastInDim S1x64x1 ![1] bcast_S64_S1x64x1_1 (iotaInDim S64 32 0))))))) (broadcastInDim S16x64x192 ![] bcast_S_S16x64x192 (constantI S_ 32 64#32))) (broadcastInDim S16x64x192 ![0, 1, 2] bcast_S16x1x192_S16x64x192_0_1_2 (cmpi .sge keyPosP (broadcastInDim S16x1x192 ![] bcast_S_S16x1x192 (constantI S_ 32 0#32))))) (broadcastInDim S16x64x192 ![0, 1, 2] bcast_S16x1x192_S16x64x192_0_1_2 (cmpi .slt keyPosP (broadcastInDim S16x1x192 ![] bcast_S_S16x1x192 (constantI S_ 32 1024#32))))

/-- The scores, −∞ off the window. -/
def maskedP (q k : FVec Ideal S49152x768 .f32) : FVec Ideal S32x16x12x64x192 .f32 :=
  select (broadcastInDim S32x16x12x64x192 ![0, 1, 2, 3, 4] bcast_S1x16x1x64x192_S32x16x12x64x192_0_1_2_3_4 (broadcastInDim S1x16x1x64x192 ![1, 3, 4] bcast_S16x64x192_S1x16x1x64x192_1_3_4 nearP))
    (Host.dotGeneral dot_S32x16x64x12x64_S32x16x192x12x64_S32x16x12x64x192_4_4_2_2_013_013 none (queriesP q) (aroundP (paddedP k)))
    (broadcastInDim S32x16x12x64x192 ![] bcast_S_S32x16x12x64x192 (id (constant (F := Ideal) S_ .f32 0xFF800000#32)))

def topP (s : FVec Ideal S32x16x12x64x192 .f32) : FVec Ideal S32x16x12x64 .f32 :=
  Host.reduce FloatOps.maximumf s (constant S_ .f32 0xFF800000#32) reducesTo_S32x16x12x64x192_S32x16x12x64_d4 h_S_

/-- The exponentials of the scores less a number per row. -/
def probsP (s : FVec Ideal S32x16x12x64x192 .f32) (l : FVec Ideal S32x16x12x64 .f32) : FVec Ideal S32x16x12x64x192 .f32 :=
  Host.exp (subf s (broadcastInDim S32x16x12x64x192 ![0, 1, 2, 3, 4] bcast_S32x16x12x64x1_S32x16x12x64x192_0_1_2_3_4
    (broadcastInDim S32x16x12x64x1 ![0, 1, 2, 3] bcast_S32x16x12x64_S32x16x12x64x1_0_1_2_3 l)))

/-- The sums over the keys. -/
def sumsP (p : FVec Ideal S32x16x12x64x192 .f32) : FVec Ideal S32x16x12x64 .f32 :=
  Host.reduceAdd p (constant S_ .f32 0x00000000#32) reducesTo_S32x16x12x64x192_S32x16x12x64_d4 h_S_

/-- The log-sums. -/
def lseP (s : FVec Ideal S32x16x12x64x192 .f32) : FVec Ideal S32x16x12x64 .f32 :=
  addf (topP s) (Host.log (sumsP (probsP s (topP s))))

/-- The values mixed by the normalized weights. -/
def mixP (x : FVec Ideal S32x16x192x12x64 .f32) (p : FVec Ideal S32x16x12x64x192 .f32) : FVec Ideal S32x16x12x64x64 .f32 :=
  Host.dotGeneral dot_S32x16x192x12x64_S32x16x12x64x192_S32x16x12x64x64_2_4_4_3_013_012 none x p

/-- The mixed values as rows. -/
def flatP (x : FVec Ideal S32x16x12x64x64 .f32) : FVec Ideal S32768x768 .f32 :=
  shapeCast _ (shapeCast _ (transpose S8x1024x4x12x64 [0, 2, 1, 3, 4] (shapeCast _ (shapeCast _ (transpose S32x16x64x12x64 [0, 1, 4, 2, 3] x transposes_S32x16x12x64x64_S32x16x64x12x64_0_1_4_2_3) shapeCasts_S32x16x64x12x64_S32x1024x12x64) shapeCasts_S32x1024x12x64_S8x4x1024x12x64) transposes_S8x4x1024x12x64_S8x1024x4x12x64_0_2_1_3_4) shapeCasts_S8x1024x4x12x64_S8x4096x12x64) shapeCasts_S8x4096x12x64_S32768x768

/-- The log-sums as rows. -/
def lflatP (x : FVec Ideal S32x16x12x64 .f32) : FVec Ideal S32768x12 .f32 :=
  shapeCast _ (shapeCast _ (transpose S8x1024x4x12 [0, 2, 1, 3] (shapeCast _ (shapeCast _ (transpose S32x16x64x12 [0, 1, 3, 2] x transposes_S32x16x12x64_S32x16x64x12_0_1_3_2) shapeCasts_S32x16x64x12_S32x1024x12) shapeCasts_S32x1024x12_S8x4x1024x12) transposes_S8x4x1024x12_S8x1024x4x12_0_2_1_3) shapeCasts_S8x1024x4x12_S8x4096x12) shapeCasts_S8x4096x12_S32768x12

theorem queriesP_at (x : FVec Ideal S49152x768 .f32) (n : Fin 32) (b : Fin 16) (j : Fin 64) (h : Fin 12) (d : Fin 64) :
    (queriesP x (ix5 n b j h d) : EReal) = part 4 (n.val % 4) (ent x) (rowAt (n.val / 4 * 1024 + b.val * 64 + j.val)) (colAt h d) := by
  unfold part ent
  rw [rowAt_of (n.val / 4 * 1024 + b.val * 64 + j.val) (by omega), rowAt_of _ (by dsimp only; omega)]
  pointwise [queriesP, seqsP]
  rw [dif_pos (by omega)]
  exact congrArg x (congrArg₂ ix2 (Fin.ext (by dsimp only; omega)) rfl)

theorem paddedP_at (x : FVec Ideal S49152x768 .f32) (n : Fin 32) (b : Fin 18) (j : Fin 64) (h : Fin 12) (d : Fin 64)
    (g : 64 ≤ b.val * 64 + j.val ∧ b.val * 64 + j.val < 1024 + 64) :
    (paddedP x (ix5 n b j h d) : EReal) = part 4 (n.val % 4) (ent x) (rowAt (n.val / 4 * 1024 + (b.val * 64 + j.val) - 64)) (colAt h d) := by
  unfold part ent
  rw [rowAt_of (n.val / 4 * 1024 + (b.val * 64 + j.val) - 64) (by omega), rowAt_of _ (by dsimp only; omega)]
  pointwise [paddedP, seqsP]
  rw [dif_pos (by omega)]
  exact congrArg x (congrArg₂ ix2 (Fin.ext (by dsimp only; omega)) rfl)

theorem aroundP_at (x : FVec Ideal S49152x768 .f32) (n : Fin 32) (b : Fin 16) (c : Fin 192) (h : Fin 12) (d : Fin 64)
    (g : 64 ≤ b.val * 64 + c.val ∧ b.val * 64 + c.val < 1024 + 64) :
    (aroundP (paddedP x) (ix5 n b c h d) : EReal) = part 4 (n.val % 4) (ent x) (rowAt (n.val / 4 * 1024 + (b.val * 64 + c.val) - 64)) (colAt h d) := by
  have key : ∀ (b' : Fin 18) (j' : Fin 64), b'.val * 64 + j'.val = b.val * 64 + c.val →
      (paddedP x (ix5 n b' j' h d) : EReal) = part 4 (n.val % 4) (ent x) (rowAt (n.val / 4 * 1024 + (b.val * 64 + c.val) - 64)) (colAt h d) := by
    intro b' j' e
    rw [paddedP_at x n b' j' h d (by omega), e]
  pointwise [aroundP]
  by_cases h1 : c.val < 64
  · rw [dif_pos h1]
    exact key ⟨b.val, by omega⟩ ⟨c.val, h1⟩ rfl
  · rw [dif_neg h1]
    by_cases h2 : c.val - 64 < 64
    · rw [dif_pos h2]
      exact key ⟨1 + b.val, by omega⟩ ⟨c.val - 64, h2⟩ (by dsimp only; omega)
    · rw [dif_neg h2]
      exact key ⟨2 + b.val, by omega⟩ ⟨c.val - 64 - 64, by omega⟩ (by dsimp only; omega)

theorem nearP_at (b : Fin 16) (j : Fin 64) (c : Fin 192) :
    nearP (ix3 b j c) = 1#1 ↔ (j.val ≤ c.val ∧ c.val ≤ j.val + 128) ∧ 64 ≤ b.val * 64 + c.val ∧ b.val * 64 + c.val < 1024 + 64 := by
  pointwise [nearP, keyPosP]
  exact near_words b.val j.val c.val 1024 (by omega) (by omega) (by omega) (by decide)

theorem maskedP_at (q k : FVec Ideal S49152x768 .f32) (n : Fin 32) (b : Fin 16) (h : Fin 12) (j : Fin 64) (c : Fin 192) :
    (maskedP q k (ix5 n b h j c) : EReal) = if nearP (ix3 b j c) = 1#1 then
      ∑ x : Fin 64, queriesP q (ix5 n b j h x) * aroundP (paddedP k) (ix5 n b c h x) else ⊥ := by
  pointwise [maskedP]
  rw [Attn.pick_eq]
  exact congrArg (ite _ _) Attn.negInf

theorem topP_at (s : FVec Ideal S32x16x12x64x192 .f32) (n : Fin 32) (b : Fin 16) (h : Fin 12) (j : Fin 64) :
    (topP s (ix4 n b h j) : EReal) = Finset.univ.sup fun c : Fin 192 => (s (ix5 n b h j c) : EReal) := by
  pointwise [topP]
  rw [Attn.negInf]
  rfl

theorem probsP_at (s : FVec Ideal S32x16x12x64x192 .f32) (l : FVec Ideal S32x16x12x64 .f32) (n : Fin 32) (b : Fin 16) (h : Fin 12) (j : Fin 64) (c : Fin 192) :
    (probsP s l (ix5 n b h j c) : EReal) = Ideal.exp (s (ix5 n b h j c) - l (ix4 n b h j)) := by
  pointwise [probsP]

theorem sumsP_at (p : FVec Ideal S32x16x12x64x192 .f32) (n : Fin 32) (b : Fin 16) (h : Fin 12) (j : Fin 64) :
    (sumsP p (ix4 n b h j) : EReal) = ∑ c : Fin 192, (p (ix5 n b h j c) : EReal) := by
  pointwise [sumsP]

theorem lseP_at (s : FVec Ideal S32x16x12x64x192 .f32) (n : Fin 32) (b : Fin 16) (h : Fin 12) (j : Fin 64) :
    (lseP s (ix4 n b h j) : EReal) = topP s (ix4 n b h j)
      + Ideal.log (∑ c : Fin 192, Ideal.exp (s (ix5 n b h j c) - topP s (ix4 n b h j))) := by
  have e : (sumsP (probsP s (topP s)) (ix4 n b h j) : EReal)
      = ∑ c : Fin 192, Ideal.exp (s (ix5 n b h j c) - topP s (ix4 n b h j)) :=
    (sumsP_at _ n b h j).trans (Finset.sum_congr rfl fun c _ => probsP_at s (topP s) n b h j c)
  rw [← e]
  unfold lseP
  rw [add_at, log_at]

theorem mixP_at (x : FVec Ideal S32x16x192x12x64 .f32) (p : FVec Ideal S32x16x12x64x192 .f32) (n : Fin 32) (b : Fin 16) (h : Fin 12) (d : Fin 64) (j : Fin 64) :
    (mixP x p (ix5 n b h d j) : EReal) = ∑ c : Fin 192, x (ix5 n b c h d) * p (ix5 n b h j c) := by
  pointwise [mixP]

theorem flatP_at (x : FVec Ideal S32x16x12x64x64 .f32) (n : Fin 32) (b : Fin 16) (j : Fin 64) (h : Fin 12) (d : Fin 64)
    (R : Fin 32768) (hR : R.val = n.val / 4 * 4096 + (b.val * 64 + j.val) * 4 + n.val % 4) : (flatP x (ix2 R (colAt h d)) : EReal) = x (ix5 n b h d j) := by
  pointwise [flatP]
  refine congrArg x ?_
  have hc : (colAt h d).val = h.val * 64 + d.val := rfl
  funext a; apply Fin.ext
  match a with
  | ⟨0, _⟩ => dsimp only [ix5]; omega
  | ⟨1, _⟩ => dsimp only [ix5]; omega
  | ⟨2, _⟩ => dsimp only [ix5]; omega
  | ⟨3, _⟩ => dsimp only [ix5]; omega
  | ⟨4, _⟩ => dsimp only [ix5]; omega

theorem lflatP_at (x : FVec Ideal S32x16x12x64 .f32) (n : Fin 32) (b : Fin 16) (j : Fin 64) (h : Fin 12)
    (R : Fin 32768) (hR : R.val = n.val / 4 * 4096 + (b.val * 64 + j.val) * 4 + n.val % 4) : (lflatP x (ix2 R h) : EReal) = x (ix4 n b h j) := by
  pointwise [lflatP]
  refine congrArg x ?_
  funext a; apply Fin.ext
  match a with
  | ⟨0, _⟩ => dsimp only [ix4]; omega
  | ⟨1, _⟩ => dsimp only [ix4]; omega
  | ⟨2, _⟩ => rfl
  | ⟨3, _⟩ => dsimp only [ix4]; omega

/-! ## The sample -/

/-- The rows of one residue after another, as sequences of heads. -/
def seqsS (x : FVec Ideal S49152x768 .f32) : FVec Ideal S4x4096x12x64 .f32 :=
  shapeCast _ (transpose S1x4x4096x12x64 [0, 2, 1, 3, 4] (shapeCast _ (shapeCast _ (extractStridedSlice S16384x768 ![32768, 0] x slices_S49152x768_S16384x768_32768_0) shapeCasts_S16384x768_S1x16384x12x64) shapeCasts_S1x16384x12x64_S1x4096x4x12x64) transposes_S1x4096x4x12x64_S1x4x4096x12x64_0_2_1_3_4) shapeCasts_S1x4x4096x12x64_S4x4096x12x64

/-- The queries in blocks of 64 rows. -/
def queriesS (x : FVec Ideal S49152x768 .f32) : FVec Ideal S4x64x64x12x64 .f32 :=
  shapeCast _ (pad S4x4096x12x64 ![0, 0, 0, 0] ![0, 0, 0, 0] ![0, 0, 0, 0] (seqsS x) (sitofp (F := Ideal) .f32 (constantI S_ 32 0#32)) pads_S4x4096x12x64_S4x4096x12x64_000_000_000_000 h_S_) shapeCasts_S4x4096x12x64_S4x64x64x12x64

/-- The keys or values in blocks of 64 rows, a block of zeros at either end of a sequence. -/
def paddedS (x : FVec Ideal S49152x768 .f32) : FVec Ideal S4x66x64x12x64 .f32 :=
  shapeCast _ (pad S4x4224x12x64 ![0, 64, 0, 0] ![0, 64, 0, 0] ![0, 0, 0, 0] (seqsS x) (sitofp (F := Ideal) .f32 (constantI S_ 32 0#32)) pads_S4x4096x12x64_S4x4224x12x64_000_64640_000_000 h_S_) shapeCasts_S4x4224x12x64_S4x66x64x12x64

/-- The three blocks around each block. -/
def aroundS (vb : FVec Ideal S4x66x64x12x64 .f32) : FVec Ideal S4x64x192x12x64 .f32 :=
  concatenate S4x64x192x12x64 2
    [⟨S4x64x64x12x64, extractStridedSlice S4x64x64x12x64 ![0, 0, 0, 0, 0] vb slices_S4x66x64x12x64_S4x64x64x12x64_0_0_0_0_0⟩,
     ⟨S4x64x64x12x64, extractStridedSlice S4x64x64x12x64 ![0, 1, 0, 0, 0] vb slices_S4x66x64x12x64_S4x64x64x12x64_0_1_0_0_0⟩,
     ⟨S4x64x64x12x64, extractStridedSlice S4x64x64x12x64 ![0, 2, 0, 0, 0] vb slices_S4x66x64x12x64_S4x64x64x12x64_0_2_0_0_0⟩]
    concatenates_S4x64x64x12x64_S4x64x64x12x64_S4x64x64x12x64_S4x64x192x12x64_d2

/-- The key positions of each block. -/
def keyPosS : IVec S64x1x192 32 :=
  subi (addi (broadcastInDim S64x1x192 ![0, 1, 2] bcast_S64x1x1_S64x1x192_0_1_2 (muli (broadcastInDim S64x1x1 ![0] bcast_S64_S64x1x1_0 (iotaInDim S64 32 0)) (broadcastInDim S64x1x1 ![] bcast_S_S64x1x1 (constantI S_ 32 64#32)))) (broadcastInDim S64x1x192 ![0, 1, 2] bcast_S1x1x192_S64x1x192_0_1_2 (broadcastInDim S1x1x192 ![2] bcast_S192_S1x1x192_2 (iotaInDim S192 32 0)))) (broadcastInDim S64x1x192 ![] bcast_S_S64x1x192 (constantI S_ 32 64#32))

/-- The keys each row of a block sees. -/
def nearS : IVec S64x64x192 1 :=
  andi (andi (cmpi .sle (absi (subi (broadcastInDim S64x64x192 ![0, 1, 2] bcast_S64x1x192_S64x64x192_0_1_2 keyPosS) (broadcastInDim S64x64x192 ![0, 1, 2] bcast_S64x64x1_S64x64x192_0_1_2 (addi (broadcastInDim S64x64x1 ![0, 1, 2] bcast_S64x1x1_S64x64x1_0_1_2 (muli (broadcastInDim S64x1x1 ![0] bcast_S64_S64x1x1_0 (iotaInDim S64 32 0)) (broadcastInDim S64x1x1 ![] bcast_S_S64x1x1 (constantI S_ 32 64#32)))) (broadcastInDim S64x64x1 ![0, 1, 2] bcast_S1x64x1_S64x64x1_0_1_2 (broadcastInDim S1x64x1 ![1] bcast_S64_S1x64x1_1 (iotaInDim S64 32 0))))))) (broadcastInDim S64x64x192 ![] bcast_S_S64x64x192 (constantI S_ 32 64#32))) (broadcastInDim S64x64x192 ![0, 1, 2] bcast_S64x1x192_S64x64x192_0_1_2 (cmpi .sge keyPosS (broadcastInDim S64x1x192 ![] bcast_S_S64x1x192 (constantI S_ 32 0#32))))) (broadcastInDim S64x64x192 ![0, 1, 2] bcast_S64x1x192_S64x64x192_0_1_2 (cmpi .slt keyPosS (broadcastInDim S64x1x192 ![] bcast_S_S64x1x192 (constantI S_ 32 4096#32))))

/-- The scores, −∞ off the window. -/
def maskedS (q k : FVec Ideal S49152x768 .f32) : FVec Ideal S4x64x12x64x192 .f32 :=
  select (broadcastInDim S4x64x12x64x192 ![0, 1, 2, 3, 4] bcast_S1x64x1x64x192_S4x64x12x64x192_0_1_2_3_4 (broadcastInDim S1x64x1x64x192 ![1, 3, 4] bcast_S64x64x192_S1x64x1x64x192_1_3_4 nearS))
    (Host.dotGeneral dot_S4x64x64x12x64_S4x64x192x12x64_S4x64x12x64x192_4_4_2_2_013_013 none (queriesS q) (aroundS (paddedS k)))
    (broadcastInDim S4x64x12x64x192 ![] bcast_S_S4x64x12x64x192 (id (constant (F := Ideal) S_ .f32 0xFF800000#32)))

def topS (s : FVec Ideal S4x64x12x64x192 .f32) : FVec Ideal S4x64x12x64 .f32 :=
  Host.reduce FloatOps.maximumf s (constant S_ .f32 0xFF800000#32) reducesTo_S4x64x12x64x192_S4x64x12x64_d4 h_S_

/-- The exponentials of the scores less a number per row. -/
def probsS (s : FVec Ideal S4x64x12x64x192 .f32) (l : FVec Ideal S4x64x12x64 .f32) : FVec Ideal S4x64x12x64x192 .f32 :=
  Host.exp (subf s (broadcastInDim S4x64x12x64x192 ![0, 1, 2, 3, 4] bcast_S4x64x12x64x1_S4x64x12x64x192_0_1_2_3_4
    (broadcastInDim S4x64x12x64x1 ![0, 1, 2, 3] bcast_S4x64x12x64_S4x64x12x64x1_0_1_2_3 l)))

/-- The sums over the keys. -/
def sumsS (p : FVec Ideal S4x64x12x64x192 .f32) : FVec Ideal S4x64x12x64 .f32 :=
  Host.reduceAdd p (constant S_ .f32 0x00000000#32) reducesTo_S4x64x12x64x192_S4x64x12x64_d4 h_S_

/-- The log-sums. -/
def lseS (s : FVec Ideal S4x64x12x64x192 .f32) : FVec Ideal S4x64x12x64 .f32 :=
  addf (topS s) (Host.log (sumsS (probsS s (topS s))))

/-- The values mixed by the normalized weights. -/
def mixS (x : FVec Ideal S4x64x192x12x64 .f32) (p : FVec Ideal S4x64x12x64x192 .f32) : FVec Ideal S4x64x12x64x64 .f32 :=
  Host.dotGeneral dot_S4x64x192x12x64_S4x64x12x64x192_S4x64x12x64x64_2_4_4_3_013_012 none x p

/-- The mixed values as rows. -/
def flatS (x : FVec Ideal S4x64x12x64x64 .f32) : FVec Ideal S16384x768 .f32 :=
  shapeCast _ (shapeCast _ (transpose S1x4096x4x12x64 [0, 2, 1, 3, 4] (shapeCast _ (shapeCast _ (transpose S4x64x64x12x64 [0, 1, 4, 2, 3] x transposes_S4x64x12x64x64_S4x64x64x12x64_0_1_4_2_3) shapeCasts_S4x64x64x12x64_S4x4096x12x64) shapeCasts_S4x4096x12x64_S1x4x4096x12x64) transposes_S1x4x4096x12x64_S1x4096x4x12x64_0_2_1_3_4) shapeCasts_S1x4096x4x12x64_S1x16384x12x64) shapeCasts_S1x16384x12x64_S16384x768

/-- The log-sums as rows. -/
def lflatS (x : FVec Ideal S4x64x12x64 .f32) : FVec Ideal S16384x12 .f32 :=
  shapeCast _ (shapeCast _ (transpose S1x4096x4x12 [0, 2, 1, 3] (shapeCast _ (shapeCast _ (transpose S4x64x64x12 [0, 1, 3, 2] x transposes_S4x64x12x64_S4x64x64x12_0_1_3_2) shapeCasts_S4x64x64x12_S4x4096x12) shapeCasts_S4x4096x12_S1x4x4096x12) transposes_S1x4x4096x12_S1x4096x4x12_0_2_1_3) shapeCasts_S1x4096x4x12_S1x16384x12) shapeCasts_S1x16384x12_S16384x12

theorem queriesS_at (x : FVec Ideal S49152x768 .f32) (n : Fin 4) (b : Fin 64) (j : Fin 64) (h : Fin 12) (d : Fin 64) :
    (queriesS x (ix5 n b j h d) : EReal) = part 4 (n.val) (ent x) (rowAt (8192 + b.val * 64 + j.val)) (colAt h d) := by
  unfold part ent
  rw [rowAt_of (8192 + b.val * 64 + j.val) (by omega), rowAt_of _ (by dsimp only; omega)]
  pointwise [queriesS, seqsS]
  rw [dif_pos (by omega)]
  exact congrArg x (congrArg₂ ix2 (Fin.ext (by dsimp only; omega)) rfl)

theorem paddedS_at (x : FVec Ideal S49152x768 .f32) (n : Fin 4) (b : Fin 66) (j : Fin 64) (h : Fin 12) (d : Fin 64)
    (g : 64 ≤ b.val * 64 + j.val ∧ b.val * 64 + j.val < 4096 + 64) :
    (paddedS x (ix5 n b j h d) : EReal) = part 4 (n.val) (ent x) (rowAt (8192 + (b.val * 64 + j.val) - 64)) (colAt h d) := by
  unfold part ent
  rw [rowAt_of (8192 + (b.val * 64 + j.val) - 64) (by omega), rowAt_of _ (by dsimp only; omega)]
  pointwise [paddedS, seqsS]
  rw [dif_pos (by omega)]
  exact congrArg x (congrArg₂ ix2 (Fin.ext (by dsimp only; omega)) rfl)

theorem aroundS_at (x : FVec Ideal S49152x768 .f32) (n : Fin 4) (b : Fin 64) (c : Fin 192) (h : Fin 12) (d : Fin 64)
    (g : 64 ≤ b.val * 64 + c.val ∧ b.val * 64 + c.val < 4096 + 64) :
    (aroundS (paddedS x) (ix5 n b c h d) : EReal) = part 4 (n.val) (ent x) (rowAt (8192 + (b.val * 64 + c.val) - 64)) (colAt h d) := by
  have key : ∀ (b' : Fin 66) (j' : Fin 64), b'.val * 64 + j'.val = b.val * 64 + c.val →
      (paddedS x (ix5 n b' j' h d) : EReal) = part 4 (n.val) (ent x) (rowAt (8192 + (b.val * 64 + c.val) - 64)) (colAt h d) := by
    intro b' j' e
    rw [paddedS_at x n b' j' h d (by omega), e]
  pointwise [aroundS]
  by_cases h1 : c.val < 64
  · rw [dif_pos h1]
    exact key ⟨b.val, by omega⟩ ⟨c.val, h1⟩ rfl
  · rw [dif_neg h1]
    by_cases h2 : c.val - 64 < 64
    · rw [dif_pos h2]
      exact key ⟨1 + b.val, by omega⟩ ⟨c.val - 64, h2⟩ (by dsimp only; omega)
    · rw [dif_neg h2]
      exact key ⟨2 + b.val, by omega⟩ ⟨c.val - 64 - 64, by omega⟩ (by dsimp only; omega)

theorem nearS_at (b : Fin 64) (j : Fin 64) (c : Fin 192) :
    nearS (ix3 b j c) = 1#1 ↔ (j.val ≤ c.val ∧ c.val ≤ j.val + 128) ∧ 64 ≤ b.val * 64 + c.val ∧ b.val * 64 + c.val < 4096 + 64 := by
  pointwise [nearS, keyPosS]
  exact near_words b.val j.val c.val 4096 (by omega) (by omega) (by omega) (by decide)

theorem maskedS_at (q k : FVec Ideal S49152x768 .f32) (n : Fin 4) (b : Fin 64) (h : Fin 12) (j : Fin 64) (c : Fin 192) :
    (maskedS q k (ix5 n b h j c) : EReal) = if nearS (ix3 b j c) = 1#1 then
      ∑ x : Fin 64, queriesS q (ix5 n b j h x) * aroundS (paddedS k) (ix5 n b c h x) else ⊥ := by
  pointwise [maskedS]
  rw [Attn.pick_eq]
  exact congrArg (ite _ _) Attn.negInf

theorem topS_at (s : FVec Ideal S4x64x12x64x192 .f32) (n : Fin 4) (b : Fin 64) (h : Fin 12) (j : Fin 64) :
    (topS s (ix4 n b h j) : EReal) = Finset.univ.sup fun c : Fin 192 => (s (ix5 n b h j c) : EReal) := by
  pointwise [topS]
  rw [Attn.negInf]
  rfl

theorem probsS_at (s : FVec Ideal S4x64x12x64x192 .f32) (l : FVec Ideal S4x64x12x64 .f32) (n : Fin 4) (b : Fin 64) (h : Fin 12) (j : Fin 64) (c : Fin 192) :
    (probsS s l (ix5 n b h j c) : EReal) = Ideal.exp (s (ix5 n b h j c) - l (ix4 n b h j)) := by
  pointwise [probsS]

theorem sumsS_at (p : FVec Ideal S4x64x12x64x192 .f32) (n : Fin 4) (b : Fin 64) (h : Fin 12) (j : Fin 64) :
    (sumsS p (ix4 n b h j) : EReal) = ∑ c : Fin 192, (p (ix5 n b h j c) : EReal) := by
  pointwise [sumsS]

theorem lseS_at (s : FVec Ideal S4x64x12x64x192 .f32) (n : Fin 4) (b : Fin 64) (h : Fin 12) (j : Fin 64) :
    (lseS s (ix4 n b h j) : EReal) = topS s (ix4 n b h j)
      + Ideal.log (∑ c : Fin 192, Ideal.exp (s (ix5 n b h j c) - topS s (ix4 n b h j))) := by
  have e : (sumsS (probsS s (topS s)) (ix4 n b h j) : EReal)
      = ∑ c : Fin 192, Ideal.exp (s (ix5 n b h j c) - topS s (ix4 n b h j)) :=
    (sumsS_at _ n b h j).trans (Finset.sum_congr rfl fun c _ => probsS_at s (topS s) n b h j c)
  rw [← e]
  unfold lseS
  rw [add_at, log_at]

theorem mixS_at (x : FVec Ideal S4x64x192x12x64 .f32) (p : FVec Ideal S4x64x12x64x192 .f32) (n : Fin 4) (b : Fin 64) (h : Fin 12) (d : Fin 64) (j : Fin 64) :
    (mixS x p (ix5 n b h d j) : EReal) = ∑ c : Fin 192, x (ix5 n b c h d) * p (ix5 n b h j c) := by
  pointwise [mixS]

theorem flatS_at (x : FVec Ideal S4x64x12x64x64 .f32) (n : Fin 4) (b : Fin 64) (j : Fin 64) (h : Fin 12) (d : Fin 64)
    (R : Fin 16384) (hR : R.val = (b.val * 64 + j.val) * 4 + n.val) : (flatS x (ix2 R (colAt h d)) : EReal) = x (ix5 n b h d j) := by
  pointwise [flatS]
  refine congrArg x ?_
  have hc : (colAt h d).val = h.val * 64 + d.val := rfl
  funext a; apply Fin.ext
  match a with
  | ⟨0, _⟩ => dsimp only [ix5]; omega
  | ⟨1, _⟩ => dsimp only [ix5]; omega
  | ⟨2, _⟩ => dsimp only [ix5]; omega
  | ⟨3, _⟩ => dsimp only [ix5]; omega
  | ⟨4, _⟩ => dsimp only [ix5]; omega

theorem lflatS_at (x : FVec Ideal S4x64x12x64 .f32) (n : Fin 4) (b : Fin 64) (j : Fin 64) (h : Fin 12)
    (R : Fin 16384) (hR : R.val = (b.val * 64 + j.val) * 4 + n.val) : (lflatS x (ix2 R h) : EReal) = x (ix4 n b h j) := by
  pointwise [lflatS]
  refine congrArg x ?_
  funext a; apply Fin.ext
  match a with
  | ⟨0, _⟩ => dsimp only [ix4]; omega
  | ⟨1, _⟩ => dsimp only [ix4]; omega
  | ⟨2, _⟩ => rfl
  | ⟨3, _⟩ => dsimp only [ix4]; omega

/-! ## All rows -/

/-- The rows of the prompts and of the sample, one after the other. -/
def rows (x : FVec Ideal S32768x768 .f32) (y : FVec Ideal S16384x768 .f32) : FVec Ideal S49152x768 .f32 :=
  concatenate S49152x768 0 [⟨S32768x768, x⟩, ⟨S16384x768, y⟩] concatenates_S32768x768_S16384x768_S49152x768_d0

def lrows (x : FVec Ideal S32768x12 .f32) (y : FVec Ideal S16384x12 .f32) : FVec Ideal S49152x12 .f32 :=
  concatenate S49152x12 0 [⟨S32768x12, x⟩, ⟨S16384x12, y⟩] concatenates_S32768x12_S16384x12_S49152x12_d0

/-- The log-sums in the first 12 of 128 lanes. -/
def lanes (x : FVec Ideal S49152x12 .f32) : FVec Ideal S49152x128 .f32 :=
  pad S49152x128 ![0, 0] ![0, 116] ![0, 0] x (sitofp (F := Ideal) .f32 (constantI S_ 32 0#32)) pads_S49152x12_S49152x128_000_01160 h_S_

/-- The rows of all residues side by side. -/
def side (x : FVec Ideal S49152x768 .f32) : FVec Ideal S12288x3072 .f32 := shapeCast _ x shapeCasts_S49152x768_S12288x3072
def lside (x : FVec Ideal S49152x128 .f32) : FVec Ideal S12288x512 .f32 := shapeCast _ x shapeCasts_S49152x128_S12288x512

theorem rows_at (x : FVec Ideal S32768x768 .f32) (y : FVec Ideal S16384x768 .f32) (R : Fin 49152) (e : Fin 768) :
    (rows x y (ix2 R e) : EReal) = if h : R.val < 32768 then x (ix2 ⟨R.val, h⟩ e) else y (ix2 ⟨R.val - 32768, by omega⟩ e) := by
  pointwise [rows]

theorem lrows_at (x : FVec Ideal S32768x12 .f32) (y : FVec Ideal S16384x12 .f32) (R : Fin 49152) (e : Fin 12) :
    (lrows x y (ix2 R e) : EReal) = if h : R.val < 32768 then x (ix2 ⟨R.val, h⟩ e) else y (ix2 ⟨R.val - 32768, by omega⟩ e) := by
  pointwise [lrows]

theorem lanes_at (x : FVec Ideal S49152x12 .f32) (R : Fin 49152) (e : Fin 128) :
    (lanes x (ix2 R e) : EReal) = if h : e.val < 12 then x (ix2 R ⟨e.val, h⟩) else 0 := by
  pointwise [lanes]
  split_ifs with h
  · rfl
  · show (((0#32 : BitVec 32).toInt : ℝ) : EReal) = 0
    simp

theorem side_at (x : FVec Ideal S49152x768 .f32) (I : Fin 12288) (r : Fin 4) (e : Fin 768) :
    (side x (ix2 I (⟨r.val * 768 + e.val, by omega⟩ : Fin 3072)) : EReal) = x (ix2 ⟨I.val * 4 + r.val, by omega⟩ e) := by
  unfold side
  refine shapeCast_apply _ _ _ _ ?_
  rw [Shape.rowMajor_val_two, Shape.rowMajor_val_two]
  show (I.val * 4 + r.val) * 768 + e.val = I.val * 3072 + (r.val * 768 + e.val)
  omega

theorem lside_at (x : FVec Ideal S49152x128 .f32) (I : Fin 12288) (r : Fin 4) (e : Fin 128) :
    (lside x (ix2 I (⟨r.val * 128 + e.val, by omega⟩ : Fin 512)) : EReal) = x (ix2 ⟨I.val * 4 + r.val, by omega⟩ e) := by
  unfold lside
  refine shapeCast_apply _ _ _ _ ?_
  rw [Shape.rowMajor_val_two, Shape.rowMajor_val_two]
  show (I.val * 4 + r.val) * 128 + e.val = I.val * 512 + (r.val * 128 + e.val)
  omega

end Cert.AttnRefD4

end
-- ==== Proof.AttnRefD4Value.lean ====
/-
  The reference's two results for dilation 4 at one index: the log-sum and the mean over the row's window.
-/
module

public import proofs.«01_k».proof.Proof.AttnRefD4

@[expose] public section

set_option maxRecDepth 16384

noncomputable section

namespace Cert.AttnRefD4

open Idealize.ShloMosaic Idealize.ShloMosaic.TcCoe Idealize.SL.Sem
open Cert.Reference5Ideal Cert.Reference5Ideal.Gen
open Cert.Attn (rowAt colAt dotHead lseOf meanOf Holds vwin)
open Cert.AttnDil

variable (q k v : FVec Ideal S49152x768 .f32)

theorem boundsP (n : Fin 32) (b : Fin 16) (j : Fin 64) :
    lowOf 8192 1024 (n.val / 4 * 1024 + b.val * 64 + j.val) = n.val / 4 * 1024 ∧ highOf 8192 1024 12288 (n.val / 4 * 1024 + b.val * 64 + j.val) = n.val / 4 * 1024 + 1024 := by
  unfold lowOf highOf
  rw [if_pos (by omega), if_pos (by omega)]
  omega

/-- A row's masked scores are its window's, from column `j` on. -/
theorem holdsP (n : Fin 32) (b : Fin 16) (h : Fin 12) (j : Fin 64) :
    Holds (fun c : Fin 192 => (maskedP q k (ix5 n b h j c) : EReal)) (win 8192 1024 12288 (part 4 (n.val % 4) (ent q)) (part 4 (n.val % 4) (ent k)) (n.val / 4 * 1024 + b.val * 64 + j.val) h) j.val where
  fits := by omega
  inside := by
    intro c d e
    have hb := boundsP n b j
    rw [maskedP_at, win, hb.1, hb.2]
    by_cases g : 64 ≤ b.val * 64 + c.val ∧ b.val * 64 + c.val < 1024 + 64
    · rw [if_pos ((nearP_at b j c).mpr ⟨by omega, g⟩), if_pos (by omega)]
      unfold dotHead
      refine Finset.sum_congr rfl fun x _ => ?_
      rw [queriesP_at, aroundP_at _ n b c h x g,
        show n.val / 4 * 1024 + b.val * 64 + j.val + d.val - 64 = n.val / 4 * 1024 + (b.val * 64 + c.val) - 64 by omega]
    · rw [if_neg (fun hn => g ((nearP_at b j c).mp hn).2), if_neg (by omega)]
  outside := by
    intro c hc
    rw [maskedP_at, if_neg (fun hn => by have := ((nearP_at b j c).mp hn).1; omega)]

theorem lseP_eq (n : Fin 32) (b : Fin 16) (h : Fin 12) (j : Fin 64) :
    (lseP (maskedP q k) (ix4 n b h j) : EReal) = lseOf (win 8192 1024 12288 (part 4 (n.val % 4) (ent q)) (part 4 (n.val % 4) (ent k)) (n.val / 4 * 1024 + b.val * 64 + j.val) h) := by
  rw [lseP_at, topP_at]
  exact (holdsP q k n b h j).lse_eq

theorem outP_eq (hq : ∀ R e, ∃ r : ℝ, ent q R e = r) (hk : ∀ R e, ∃ r : ℝ, ent k R e = r)
    (n : Fin 32) (b : Fin 16) (h : Fin 12) (j d : Fin 64) :
    (mixP (aroundP (paddedP v)) (probsP (maskedP q k) (lseP (maskedP q k))) (ix5 n b h d j) : EReal)
      = meanOf (win 8192 1024 12288 (part 4 (n.val % 4) (ent q)) (part 4 (n.val % 4) (ent k)) (n.val / 4 * 1024 + b.val * 64 + j.val) h)
        (vwin (part 4 (n.val % 4) (ent v)) (n.val / 4 * 1024 + b.val * 64 + j.val) (colAt h d)) := by
  have hb := boundsP n b j
  rw [mixP_at, ← mean_win (P := 8192) (L := 1024) (T := 12288) (by decide) (part_real hq) (part_real hk) _ (by omega) h (colAt h d),
    ← (holdsP q k n b h j).sum_mul _ (fun c => (aroundP (paddedP v) (ix5 n b c h d) : EReal)) _ ?_]
  · refine Finset.sum_congr rfl fun c _ => ?_
    rw [mul_comm, probsP_at, lseP_eq]
  · intro c d' e
    by_cases g : 64 ≤ b.val * 64 + c.val ∧ b.val * 64 + c.val < 1024 + 64
    · right
      rw [aroundP_at _ n b c h d g, vwin,
        show n.val / 4 * 1024 + b.val * 64 + j.val + d'.val - 64 = n.val / 4 * 1024 + (b.val * 64 + c.val) - 64 by omega]
    · left
      rw [win, hb.1, hb.2, if_neg (by omega)]

theorem boundsS (b : Fin 64) (j : Fin 64) :
    lowOf 8192 1024 (8192 + b.val * 64 + j.val) = 8192 ∧ highOf 8192 1024 12288 (8192 + b.val * 64 + j.val) = 8192 + 4096 := by
  unfold lowOf highOf
  rw [if_neg (by omega), if_neg (by omega)]
  omega

/-- A row's masked scores are its window's, from column `j` on. -/
theorem holdsS (n : Fin 4) (b : Fin 64) (h : Fin 12) (j : Fin 64) :
    Holds (fun c : Fin 192 => (maskedS q k (ix5 n b h j c) : EReal)) (win 8192 1024 12288 (part 4 (n.val) (ent q)) (part 4 (n.val) (ent k)) (8192 + b.val * 64 + j.val) h) j.val where
  fits := by omega
  inside := by
    intro c d e
    have hb := boundsS b j
    rw [maskedS_at, win, hb.1, hb.2]
    by_cases g : 64 ≤ b.val * 64 + c.val ∧ b.val * 64 + c.val < 4096 + 64
    · rw [if_pos ((nearS_at b j c).mpr ⟨by omega, g⟩), if_pos (by omega)]
      unfold dotHead
      refine Finset.sum_congr rfl fun x _ => ?_
      rw [queriesS_at, aroundS_at _ n b c h x g,
        show 8192 + b.val * 64 + j.val + d.val - 64 = 8192 + (b.val * 64 + c.val) - 64 by omega]
    · rw [if_neg (fun hn => g ((nearS_at b j c).mp hn).2), if_neg (by omega)]
  outside := by
    intro c hc
    rw [maskedS_at, if_neg (fun hn => by have := ((nearS_at b j c).mp hn).1; omega)]

theorem lseS_eq (n : Fin 4) (b : Fin 64) (h : Fin 12) (j : Fin 64) :
    (lseS (maskedS q k) (ix4 n b h j) : EReal) = lseOf (win 8192 1024 12288 (part 4 (n.val) (ent q)) (part 4 (n.val) (ent k)) (8192 + b.val * 64 + j.val) h) := by
  rw [lseS_at, topS_at]
  exact (holdsS q k n b h j).lse_eq

theorem outS_eq (hq : ∀ R e, ∃ r : ℝ, ent q R e = r) (hk : ∀ R e, ∃ r : ℝ, ent k R e = r)
    (n : Fin 4) (b : Fin 64) (h : Fin 12) (j d : Fin 64) :
    (mixS (aroundS (paddedS v)) (probsS (maskedS q k) (lseS (maskedS q k))) (ix5 n b h d j) : EReal)
      = meanOf (win 8192 1024 12288 (part 4 (n.val) (ent q)) (part 4 (n.val) (ent k)) (8192 + b.val * 64 + j.val) h)
        (vwin (part 4 (n.val) (ent v)) (8192 + b.val * 64 + j.val) (colAt h d)) := by
  have hb := boundsS b j
  rw [mixS_at, ← mean_win (P := 8192) (L := 1024) (T := 12288) (by decide) (part_real hq) (part_real hk) _ (by omega) h (colAt h d),
    ← (holdsS q k n b h j).sum_mul _ (fun c => (aroundS (paddedS v) (ix5 n b c h d) : EReal)) _ ?_]
  · refine Finset.sum_congr rfl fun c _ => ?_
    rw [mul_comm, probsS_at, lseS_eq]
  · intro c d' e
    by_cases g : 64 ≤ b.val * 64 + c.val ∧ b.val * 64 + c.val < 4096 + 64
    · right
      rw [aroundS_at _ n b c h d g, vwin,
        show 8192 + b.val * 64 + j.val + d'.val - 64 = 8192 + (b.val * 64 + c.val) - 64 by omega]
    · left
      rw [win, hb.1, hb.2, if_neg (by omega)]

/-- The reference's first result. -/
def outs : FVec Ideal S12288x3072 .f32 :=
  side (rows (flatP (mixP (aroundP (paddedP v)) (probsP (maskedP q k) (lseP (maskedP q k)))))
    (flatS (mixS (aroundS (paddedS v)) (probsS (maskedS q k) (lseS (maskedS q k))))))

/-- The reference's second result. -/
def lses : FVec Ideal S12288x512 .f32 := lside (lanes (lrows (lflatP (lseP (maskedP q k))) (lflatS (lseS (maskedS q k)))))

theorem outs_at (hq : ∀ R e, ∃ r : ℝ, ent q R e = r) (hk : ∀ R e, ∃ r : ℝ, ent k R e = r)
    (I : Fin 12288) (r : Fin 4) (h : Fin 12) (d : Fin 64) :
    (outs q k v (ix2 I (⟨r.val * 768 + (colAt h d).val, by omega⟩ : Fin 3072)) : EReal)
      = meanOf (win 8192 1024 12288 (part 4 r.val (ent q)) (part 4 r.val (ent k)) I.val h) (vwin (part 4 r.val (ent v)) I.val (colAt h d)) := by
  unfold outs
  rw [side_at, rows_at]
  have hI := I.isLt
  have hr := r.isLt
  dsimp only
  split_ifs with hp
  · rw [flatP_at _ ⟨I.val / 1024 * 4 + r.val, by omega⟩ ⟨I.val % 1024 / 64, by omega⟩ ⟨I.val % 64, by omega⟩ h d ⟨I.val * 4 + r.val, hp⟩ (by dsimp only; omega),
      outP_eq q k v hq hk]
    rw [show (⟨I.val / 1024 * 4 + r.val, by omega⟩ : Fin 32).val % 4 = r.val by dsimp only; omega,
      show (⟨I.val / 1024 * 4 + r.val, by omega⟩ : Fin 32).val / 4 * 1024 + (⟨I.val % 1024 / 64, by omega⟩ : Fin 16).val * 64
        + (⟨I.val % 64, by omega⟩ : Fin 64).val = I.val by dsimp only; omega]
  · rw [flatS_at _ ⟨r.val, by omega⟩ ⟨(I.val - 8192) / 64, by omega⟩ ⟨I.val % 64, by omega⟩ h d ⟨I.val * 4 + r.val - 32768, by omega⟩ (by dsimp only; omega),
      outS_eq q k v hq hk]
    rw [show 8192 + (⟨(I.val - 8192) / 64, by omega⟩ : Fin 64).val * 64
        + (⟨I.val % 64, by omega⟩ : Fin 64).val = I.val by dsimp only; omega]

theorem lses_at (I : Fin 12288) (r : Fin 4) (e : Fin 128) :
    (lses q k (ix2 I (⟨r.val * 128 + e.val, by omega⟩ : Fin 512)) : EReal)
      = if h : e.val < 12 then lseOf (win 8192 1024 12288 (part 4 r.val (ent q)) (part 4 r.val (ent k)) I.val ⟨e.val, h⟩) else 0 := by
  unfold lses
  rw [lside_at, lanes_at]
  have hI := I.isLt
  have hr := r.isLt
  by_cases he : e.val < 12
  · rw [dif_pos he, dif_pos he, lrows_at]
    dsimp only
    split_ifs with hp
    · rw [lflatP_at _ ⟨I.val / 1024 * 4 + r.val, by omega⟩ ⟨I.val % 1024 / 64, by omega⟩ ⟨I.val % 64, by omega⟩ ⟨e.val, he⟩ ⟨I.val * 4 + r.val, hp⟩ (by dsimp only; omega),
        lseP_eq]
      rw [show (⟨I.val / 1024 * 4 + r.val, by omega⟩ : Fin 32).val % 4 = r.val by dsimp only; omega,
      show (⟨I.val / 1024 * 4 + r.val, by omega⟩ : Fin 32).val / 4 * 1024 + (⟨I.val % 1024 / 64, by omega⟩ : Fin 16).val * 64
        + (⟨I.val % 64, by omega⟩ : Fin 64).val = I.val by dsimp only; omega]
    · rw [lflatS_at _ ⟨r.val, by omega⟩ ⟨(I.val - 8192) / 64, by omega⟩ ⟨I.val % 64, by omega⟩ ⟨e.val, he⟩ ⟨I.val * 4 + r.val - 32768, by omega⟩ (by dsimp only; omega),
        lseS_eq]
      rw [show 8192 + (⟨(I.val - 8192) / 64, by omega⟩ : Fin 64).val * 64
        + (⟨I.val % 64, by omega⟩ : Fin 64).val = I.val by dsimp only; omega]
  · rw [dif_neg he, dif_neg he]

/-! ## The program's results are these -/

variable (m : (ℓ : Loc nD τ sig) → Buf (Elt Ideal) ℓ) (c : Dev nD)

/-- The arguments, read as 32-bit floats. -/
def argQ : FVec Ideal S49152x768 .f32 := extf .f32 (m ((c.tc : Thread nD τ).loc main_arg0) : FVec Ideal S49152x768 .bf16) bitsLt_bf16_f32
def argK : FVec Ideal S49152x768 .f32 := extf .f32 (m ((c.tc : Thread nD τ).loc main_arg1) : FVec Ideal S49152x768 .bf16) bitsLt_bf16_f32
def argV : FVec Ideal S49152x768 .f32 := extf .f32 (m ((c.tc : Thread nD τ).loc main_arg2) : FVec Ideal S49152x768 .bf16) bitsLt_bf16_f32

theorem run_forms (ρ : Dev nD → PrngReg) :
    θ_run defs (onTc (τ := τ) (main (F := Ideal))) ⟨m, fun _ => 0, ρ⟩ fun r => ∀ c : Dev nD,
      r.2.mem ((c.tc : Thread nD τ).loc main_v188) = outs (argQ m c) (argK m c) (argV m c)
      ∧ r.2.mem ((c.tc : Thread nD τ).loc main_v189) = lses (argQ m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2.1.trans rfl, (h c).2.2⟩) (Value.run (F := Ideal) m ρ)

end Cert.AttnRefD4

end
-- ==== Proof.AttnD4Claim.lean ====
/-
  The claims of the attention call of dilation 4: every program runs and leaves its arguments, and the kernel's two results
  are the reference's where queries and keys are real numbers.
-/
module

public import proofs.«01_k».proof.Defs
public import proofs.«01_k».proof.Proof.AttnClaim
public import proofs.«01_k».proof.Proof.AttnD4Value
public import proofs.«01_k».proof.Proof.AttnRefD4Value
public import proofs.«01_k».proof.Proof.Gen.Kernel5.Frame

@[expose] public section

noncomputable section

namespace Cert.AttnD4

open Idealize.ShloMosaic Idealize.ShloMosaic.TcCoe Idealize.SL.Sem
open Cert.Attn (colAt posInf real_of_abs_lt)

theorem kernel_frame : quiescent_Kernel5 (hKernel5 := Cert.Kernel5.Gen.facts) := fun m ρ _ => Cert.Kernel5.Gen.frame m ρ
theorem ideal_frame : quiescent_Kernel5Ideal (hKernel5Ideal := Cert.Kernel5Ideal.Gen.facts) := fun m ρ _ => Cert.Kernel5Ideal.Gen.frame m ρ
theorem ideal_frame_pre : quiescent_Kernel5Ideal_pre_finite (hKernel5Ideal := Cert.Kernel5Ideal.Gen.facts)
    (hPre_finite := Cert.Pre_finite.Gen.facts) := fun m ρ _ => Cert.Kernel5Ideal.Gen.frame m ρ
theorem ref_frame : quiescent_Reference5Ideal (hReference5Ideal := Cert.Reference5Ideal.Gen.facts) := fun m ρ _ =>
  (θ_run _ _ _).mono (fun r h => ⟨fun c => (h c).2.2, Idealize.ShloMosaic.sem_eq_zero_of_no_sems (by decide) r.2⟩)
    (Cert.Reference5Ideal.Value.run (F := Ideal) m ρ)
theorem ref_frame_pre : quiescent_Reference5Ideal_pre_finite (hReference5Ideal := Cert.Reference5Ideal.Gen.facts)
    (hPre_finite := Cert.Pre_finite.Gen.facts) := fun m ρ _ => ref_frame m ρ trivial

theorem preserved : preserves_Kernel5_Kernel5Ideal :=
  IdealRules.named_const.statement Cert.Kernel5Ideal.κ "mask" .f32 0xF149F2CA#32 ⊥ rfl

section
variable {m : (ℓ : Loc Cert.Kernel5Ideal.nD Cert.Kernel5Ideal.τ Cert.Kernel5Ideal.sig) → Buf (Elt Ideal) ℓ}

theorem real_queries (h : Pre_Kernel5Ideal_finite (hPre_finite := Cert.Pre_finite.Gen.facts) m) (c : Dev 1) (R : Fin 49152)
    (e : Fin 768) : ∃ r : ℝ, ent (argQ m c) R e = r := by
  have e1 := congrFun (h c).1 (ix2 R e)
  refine real_of_abs_lt _ (Eq.trans ?_ e1)
  rw [← posInf]
  rfl

theorem real_keys (h : Pre_Kernel5Ideal_finite (hPre_finite := Cert.Pre_finite.Gen.facts) m) (c : Dev 1) (R : Fin 49152)
    (e : Fin 768) : ∃ r : ℝ, ent (argK m c) R e = r := by
  have e1 := congrFun (h c).2 (ix2 R e)
  refine real_of_abs_lt _ (Eq.trans ?_ e1)
  rw [← posInf]
  rfl

/-! ## The results are the reference's -/

variable {m' : (ℓ : Loc Cert.Reference5Ideal.nD Cert.Reference5Ideal.τ Cert.Reference5Ideal.sig) → Buf (Elt Ideal) ℓ}

theorem outs_eq (h : Pre_Kernel5Ideal_finite (hPre_finite := Cert.Pre_finite.Gen.facts) m) (c : Dev 1)
    (hq : Cert.AttnRefD4.ent (Cert.AttnRefD4.argQ m' c) = ent (argQ m c)) (hk : Cert.AttnRefD4.ent (Cert.AttnRefD4.argK m' c) = ent (argK m c))
    (hv : Cert.AttnRefD4.ent (Cert.AttnRefD4.argV m' c) = ent (argV m c)) :
    (Cert.AttnRefD4.outs (Cert.AttnRefD4.argQ m' c) (Cert.AttnRefD4.argK m' c) (Cert.AttnRefD4.argV m' c) : FVec Ideal ⟨2, ![12288, 3072]⟩ .f32)
      = (Cert.Kernel5Ideal.Gen.dats m 0 c).arrAt 7 Cert.Kernel5Ideal.cfg0.N := by
  funext i
  have h1 : (i 1).val < 3072 := (i 1).isLt
  have e : (i 1 : Fin 3072) = wideO ⟨(i 1).val / 768, by omega⟩ (colAt ⟨(i 1).val % 768 / 64, by omega⟩ ⟨(i 1).val % 64, by omega⟩) :=
    Fin.ext (by show (i 1).val = (i 1).val / 768 * 768 + ((i 1).val % 768 / 64 * 64 + (i 1).val % 64); omega)
  rw [show i = ix2 (i 0 : Fin 12288) (i 1 : Fin 3072) from eq_ix2 i, e]
  refine (Cert.AttnRefD4.outs_at _ _ _ (fun R e => ?_) (fun R e => ?_) (i 0) _ _ _).trans ?_
  · rw [hq]; exact real_queries h c R e
  · rw [hk]; exact real_keys h c R e
  · rw [hq, hk, hv]
    exact (out_at m c (i 0) _ _ _).symm

theorem lses_eq (c : Dev 1)
    (hq : Cert.AttnRefD4.ent (Cert.AttnRefD4.argQ m' c) = ent (argQ m c)) (hk : Cert.AttnRefD4.ent (Cert.AttnRefD4.argK m' c) = ent (argK m c)) :
    (Cert.AttnRefD4.lses (Cert.AttnRefD4.argQ m' c) (Cert.AttnRefD4.argK m' c) : FVec Ideal ⟨2, ![12288, 512]⟩ .f32)
      = (Cert.Kernel5Ideal.Gen.dats m 0 c).arrAt 8 Cert.Kernel5Ideal.cfg0.N := by
  funext i
  have h1 : (i 1).val < 512 := (i 1).isLt
  have e : (i 1 : Fin 512) = wideL ⟨(i 1).val / 128, by omega⟩ ⟨(i 1).val % 128, by omega⟩ :=
    Fin.ext (by show (i 1).val = (i 1).val / 128 * 128 + (i 1).val % 128; omega)
  rw [show i = ix2 (i 0 : Fin 12288) (i 1 : Fin 512) from eq_ix2 i, e]
  refine (Cert.AttnRefD4.lses_at _ _ (i 0) _ _).trans ?_
  rw [hq, hk]
  exact (lse_at m c (i 0) _ _).symm
end

theorem value : algebraic_Kernel5Ideal_Reference5Ideal_pre_finite (hKernel5Ideal := Cert.Kernel5Ideal.Gen.facts)
    (hReference5Ideal := Cert.Reference5Ideal.Gen.facts) (hPre_finite := Cert.Pre_finite.Gen.facts) := by
  intro m ρ m' ρ' hpre hagree
  refine ⟨fun c => (Cert.Kernel5Ideal.Gen.dats m 0 c).arrAt 7 Cert.Kernel5Ideal.cfg0.N,
    fun c => (Cert.Kernel5Ideal.Gen.dats m 0 c).arrAt 8 Cert.Kernel5Ideal.cfg0.N,
    Cert.Kernel5Ideal.Value.run_blocks (F := Ideal) m ρ, ?_⟩
  refine (θ_run _ _ _).mono (fun r h c => ?_) (Cert.AttnRefD4.run_forms m' ρ')
  obtain ⟨a0, a1, a2⟩ := hagree c
  have hq : Cert.AttnRefD4.ent (Cert.AttnRefD4.argQ m' c) = ent (argQ m c) := by
    funext R e
    exact congrFun a0 (ix2 R e)
  have hk : Cert.AttnRefD4.ent (Cert.AttnRefD4.argK m' c) = ent (argK m c) := by
    funext R e
    exact congrFun a1 (ix2 R e)
  have hv : Cert.AttnRefD4.ent (Cert.AttnRefD4.argV m' c) = ent (argV m c) := by
    funext R e
    exact congrFun a2 (ix2 R e)
  exact ⟨(h c).1.trans (outs_eq hpre c hq hk hv), (h c).2.1.trans (lses_eq c hq hk), (h c).2.2⟩

end Cert.AttnD4

end
-- ==== Proof.AttnD16Cases.lean ====
/-
  The attention kernel of dilation 16, one grid point at a time: it leaves in its two output buffers the blocks of outputs
  and log-sums of AttnCases.lean, of its own rows and the rows around them in its sequence.
-/
module

public import proofs.«01_k».proof.Proof.AttnDil
public import proofs.«01_k».proof.Proof.Gen.Kernel6Ideal.Value

@[expose] public section

set_option maxRecDepth 16384

noncomputable section

namespace Cert.AttnD16

open Idealize.ShloMosaic Idealize.ShloMosaic.TcCoe Idealize.SL.Sem
open Cert.Kernel6Ideal Cert.Kernel6Ideal.Gen
open Cert.Attn (seen oBlock lseBlock lseTile oBlock_at lseBlock_at around kTile canon_around load_q off2)

variable {F : FTy → Type} [FloatOps F] [Named F]

/-! ## The bounds of a block's sequence -/

/-- The first row of the block. -/
def row0 (i : grid0.Coords) : BitVec 32 := Scalar.muli (BitVec.ofNat 32 (i 0).val) 256#32

/-- The first row of the block's sequence among the prompts. -/
def loP (i : grid0.Coords) : BitVec 32 := Scalar.muli (Scalar.divsi (row0 i) 256#32) 256#32

/-- The first row of the block's sequence among the samples. -/
def loS (i : grid0.Coords) : BitVec 32 :=
  Scalar.addi 2048#32 (Scalar.muli (Scalar.divsi (Scalar.maxsi (Scalar.subi (row0 i) 2048#32) 0#32) 1024#32) 1024#32)

/-- The first row of the block's sequence. -/
def lo (i : grid0.Coords) : BitVec 32 := Scalar.select (Scalar.cmpi .slt (row0 i) 2048#32) (loP i) (loS i)

/-- The row after the last of the block's sequence. -/
def hi (i : grid0.Coords) : BitVec 32 :=
  Scalar.select (Scalar.cmpi .slt (row0 i) 2048#32) (Scalar.addi (loP i) 256#32) (Scalar.addi (loS i) 1024#32)

/-- What each sub-block's rows see. -/
def seenAt (i : grid0.Coords) (b : Fin 2) : IVec S128x256 1 :=
  if b = 0 then seen 0#32 (row0 i) (lo i) (hi i) else seen 128#32 (row0 i) (lo i) (hi i)

theorem stored7 (x : Vec F S64x768 .bf16) : k0_pay7 x = x := by unfold k0_pay7; simp only [shapeCast_self]
theorem stored8 (x : Vec F S256x768 .bf16) : k0_pay8 x = x := by unfold k0_pay8; simp only [shapeCast_self]
theorem stored9 (x : Vec F S64x768 .bf16) : k0_pay9 x = x := by unfold k0_pay9; simp only [shapeCast_self]
theorem stored10 (x : Vec F S64x768 .bf16) : k0_pay10 x = x := by unfold k0_pay10; simp only [shapeCast_self]
theorem stored11 (x : Vec F S64x768 .bf16) : k0_pay11 x = x := by unfold k0_pay11; simp only [shapeCast_self]
theorem stored12 (x : Vec F S256x768 .bf16) : k0_pay12 x = x := by unfold k0_pay12; simp only [shapeCast_self]
theorem stored13 (x : Vec F S64x768 .bf16) : k0_pay13 x = x := by unfold k0_pay13; simp only [shapeCast_self]

theorem seenAt_one (i : grid0.Coords) :
    seenAt i 1 = k0_pay99 (row0 i) (lo i) (hi i) (iota .tc S128x256 32 [1] iota_S128x256_d1_w32) k0_pay15 := rfl
theorem seenAt_zero (i : grid0.Coords) : seenAt i 0 = k0_pay16 (row0 i) (lo i) (hi i) := rfl
theorem lowSel_eq : Cert.Attn.lowSel = k0_pay14 := rfl
theorem highSel_eq : Cert.Attn.highSel = xori k0_pay14 (constantI S128x128 1 1#1) := rfl
theorem dotQK_eq : Cert.KernelIdeal.dot_S128x128_S256x128_S128x256_1_1_0_0_n_n = dot_S128x128_S256x128_S128x256_1_1_0_0_n_n := rfl
theorem dotPV_eq : Cert.KernelIdeal.dot_S128x256_S256x128_S128x128_1_0_0_1_n_n = dot_S128x256_S256x128_S128x128_1_0_0_1_n_n := rfl
theorem κ_eq : Cert.KernelIdeal.κ = κ := rfl

/-- A load of the rows around the block is a tile of them. -/
theorem load_around (a : Memref sig .tc .vmem S384x768 .bf16) (b : Fin 2) (p : Fin 6) (hin) (xm : Vec F S256x768 .bf16)
    (xl xr : Vec F S64x768 .bf16) :
    a.view.readCov (Val := Elt F) [⟨Rect.unit (s := S384x768) ![320, 0] S64x768.size inb_S384x768_S64x768_320_0, xr⟩,
      ⟨Rect.unit (s := S384x768) ![64, 0] S256x768.size inb_S384x768_S256x768_64_0, xm⟩,
      ⟨Rect.unit (s := S384x768) ![0, 0] S64x768.size inb_S384x768_S64x768_0_0, xl⟩]
      (Rect.unit (s := S384x768) ![128 * b.val, 128 * p.val] S256x128.size hin).toLoadRect
      = kTile b p (around xm xl xr) := by
  rw [View.readCov_eq_canon', canon_around]
  funext j
  exact congrArg (around xm xl xr) (funext fun a => Fin.ext ((Rect.idx_unit_val _ _ _ j a).trans
    (match a with | ⟨0, _⟩ => rfl | ⟨1, _⟩ => rfl)))

section
variable (c : Dev nD) (i : grid0.Coords)
  (a2 : Memref sig .tc .vmem S256x768 .bf16) (h2 : a2.IsWhole) (a3 : Memref sig .tc .vmem S256x768 .bf16) (h3 : a3.IsWhole)
  (a4 : Memref sig .tc .vmem S64x768 .bf16) (h4 : a4.IsWhole) (a5 : Memref sig .tc .vmem S64x768 .bf16) (h5 : a5.IsWhole)
  (a6 : Memref sig .tc .vmem S256x768 .bf16) (h6 : a6.IsWhole) (a7 : Memref sig .tc .vmem S64x768 .bf16) (h7 : a7.IsWhole)
  (a8 : Memref sig .tc .vmem S64x768 .bf16) (h8 : a8.IsWhole) (a9 : Memref sig .tc .vmem S256x768 .f32) (h9 : a9.IsWhole)
  (a10 : Memref sig .tc .vmem S256x128 .f32) (h10 : a10.IsWhole) (a11 : Memref sig .tc .vmem S384x768 .bf16) (h11 : a11.IsWhole)
  (a12 : Memref sig .tc .vmem S384x768 .bf16) (h12 : a12.IsWhole)
  (q km : Vec F S256x768 .bf16) (kl kr : Vec F S64x768 .bf16) (vm : Vec F S256x768 .bf16) (vl vr : Vec F S64x768 .bf16)

theorem o_out :
    out0_A_7 c i a2 h2 a3 h3 a4 h4 a5 h5 a6 h6 a7 h7 a8 h8 a9 h9 a10 h10 a11 h11 a12 h12 q km kl kr vm vl vr
      = oBlock (seenAt i) q (around km kl kr) (around vm vl vr) := by
  funext y
  unfold out0_A_7
  rw [View.read_writes_eq_canon _ _ _ (cover0_A_7 c i a2 h2 a3 h3 a4 h4 a5 h5 a6 h6 a7 h7 a8 h8 a9 h9 a10 h10 a11 h11 a12 h12 q km kl kr vm vl vr)]
  refine View.canon_eq_of_allAt _ y _ (cover0_A_7 c i a2 h2 a3 h3 a4 h4 a5 h5 a6 h6 a7 h7 a8 h8 a9 h9 a10 h10 a11 h11 a12 h12 q km kl kr vm vl vr y) ?_
  unfold kernelRun0_A
  dsimp only
  sl_unfold_words
  refine View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_nil _ _))))))))))))
  all_goals intro x hx
  all_goals simp only [View.readAt_eq_ld, h2.read_unread, h3.read_unread, h4.read_unread, h5.read_unread, h6.read_unread,
    h7.read_unread, h8.read_unread, View.ld_unit_zero (S := S64x768) off2, View.ld_unit_zero (S := S256x768) off2,
    stored7, stored8, stored9, stored10, stored11, stored12, stored13]
  on_goal 1 => rw [oBlock_at (seenAt i) q _ _ 1 5 x y (hx 0) (hx 1), ← load_q q 1 5 inb_S256x768_S128x128_128_640,
      ← load_around a11 1 5 inb_S384x768_S256x128_128_640, ← load_around a12 1 5 inb_S384x768_S256x128_128_640]
  on_goal 2 => rw [oBlock_at (seenAt i) q _ _ 1 4 x y (hx 0) (hx 1), ← load_q q 1 4 inb_S256x768_S128x128_128_512,
      ← load_around a11 1 4 inb_S384x768_S256x128_128_512, ← load_around a12 1 4 inb_S384x768_S256x128_128_512]
  on_goal 3 => rw [oBlock_at (seenAt i) q _ _ 1 3 x y (hx 0) (hx 1), ← load_q q 1 3 inb_S256x768_S128x128_128_384,
      ← load_around a11 1 3 inb_S384x768_S256x128_128_384, ← load_around a12 1 3 inb_S384x768_S256x128_128_384]
  on_goal 4 => rw [oBlock_at (seenAt i) q _ _ 1 2 x y (hx 0) (hx 1), ← load_q q 1 2 inb_S256x768_S128x128_128_256,
      ← load_around a11 1 2 inb_S384x768_S256x128_128_256, ← load_around a12 1 2 inb_S384x768_S256x128_128_256]
  on_goal 5 => rw [oBlock_at (seenAt i) q _ _ 1 1 x y (hx 0) (hx 1), ← load_q q 1 1 inb_S256x768_S128x128_128_128,
      ← load_around a11 1 1 inb_S384x768_S256x128_128_128, ← load_around a12 1 1 inb_S384x768_S256x128_128_128]
  on_goal 6 => rw [oBlock_at (seenAt i) q _ _ 1 0 x y (hx 0) (hx 1), ← load_q q 1 0 inb_S256x768_S128x128_128_0,
      ← load_around a11 1 0 inb_S384x768_S256x128_128_0, ← load_around a12 1 0 inb_S384x768_S256x128_128_0]
  on_goal 7 => rw [oBlock_at (seenAt i) q _ _ 0 5 x y (hx 0) (hx 1), ← load_q q 0 5 inb_S256x768_S128x128_0_640,
      ← load_around a11 0 5 inb_S384x768_S256x128_0_640, ← load_around a12 0 5 inb_S384x768_S256x128_0_640]
  on_goal 8 => rw [oBlock_at (seenAt i) q _ _ 0 4 x y (hx 0) (hx 1), ← load_q q 0 4 inb_S256x768_S128x128_0_512,
      ← load_around a11 0 4 inb_S384x768_S256x128_0_512, ← load_around a12 0 4 inb_S384x768_S256x128_0_512]
  on_goal 9 => rw [oBlock_at (seenAt i) q _ _ 0 3 x y (hx 0) (hx 1), ← load_q q 0 3 inb_S256x768_S128x128_0_384,
      ← load_around a11 0 3 inb_S384x768_S256x128_0_384, ← load_around a12 0 3 inb_S384x768_S256x128_0_384]
  on_goal 10 => rw [oBlock_at (seenAt i) q _ _ 0 2 x y (hx 0) (hx 1), ← load_q q 0 2 inb_S256x768_S128x128_0_256,
      ← load_around a11 0 2 inb_S384x768_S256x128_0_256, ← load_around a12 0 2 inb_S384x768_S256x128_0_256]
  on_goal 11 => rw [oBlock_at (seenAt i) q _ _ 0 1 x y (hx 0) (hx 1), ← load_q q 0 1 inb_S256x768_S128x128_0_128,
      ← load_around a11 0 1 inb_S384x768_S256x128_0_128, ← load_around a12 0 1 inb_S384x768_S256x128_0_128]
  on_goal 12 => rw [oBlock_at (seenAt i) q _ _ 0 0 x y (hx 0) (hx 1), ← load_q q 0 0 inb_S256x768_S128x128_0_0,
      ← load_around a11 0 0 inb_S384x768_S256x128_0_0, ← load_around a12 0 0 inb_S384x768_S256x128_0_0]
  all_goals simp only [k0_pay1, k0_pay2, k0_pay3, k0_pay4, k0_pay5, k0_pay6, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, shapeCast_self,
      Cert.Attn.oTile, Cert.Attn.headOut, Cert.Attn.score, Cert.Attn.top, Cert.Attn.total, Cert.Attn.expo,
      seenAt_one, seenAt_zero, row0, lo, hi, loP, loS, lowSel_eq, highSel_eq, dotQK_eq, dotPV_eq, κ_eq]
  all_goals rfl

theorem lse_out :
    out0_A_8 c i a2 h2 a3 h3 a4 h4 a5 h5 a6 h6 a7 h7 a8 h8 a9 h9 a10 h10 a11 h11 a12 h12 q km kl kr vm vl vr
      = lseBlock (seenAt i) q (around km kl kr) := by
  funext y
  unfold out0_A_8
  rw [View.read_writes_eq_canon _ _ _ (cover0_A_8 c i a2 h2 a3 h3 a4 h4 a5 h5 a6 h6 a7 h7 a8 h8 a9 h9 a10 h10 a11 h11 a12 h12 q km kl kr vm vl vr)]
  refine View.canon_eq_of_allAt _ y _ (cover0_A_8 c i a2 h2 a3 h3 a4 h4 a5 h5 a6 h6 a7 h7 a8 h8 a9 h9 a10 h10 a11 h11 a12 h12 q km kl kr vm vl vr y) ?_
  unfold kernelRun0_A
  dsimp only
  sl_unfold_words
  refine View.allAt_cons_unit _ _ _ _ _ ?_ (View.allAt_cons_unit _ _ _ _ _ ?_ (View.allAt_nil _ _))
  all_goals intro x hx
  all_goals simp only [View.readAt_eq_ld, h2.read_unread, h3.read_unread, h4.read_unread, h5.read_unread, h6.read_unread,
    h7.read_unread, h8.read_unread, View.ld_unit_zero (S := S64x768) off2, View.ld_unit_zero (S := S256x768) off2,
    stored7, stored8, stored9, stored10, stored11, stored12, stored13]
  on_goal 1 =>
    rw [lseBlock_at (seenAt i) q _ 1 x y (hx 0) ((hx 1).trans (Nat.zero_add _))]
    unfold lseTile
    rw [← load_q q 1 0 inb_S256x768_S128x128_128_0, ← load_around a11 1 0 inb_S384x768_S256x128_128_0,
      ← load_q q 1 1 inb_S256x768_S128x128_128_128, ← load_around a11 1 1 inb_S384x768_S256x128_128_128,
      ← load_q q 1 2 inb_S256x768_S128x128_128_256, ← load_around a11 1 2 inb_S384x768_S256x128_128_256,
      ← load_q q 1 3 inb_S256x768_S128x128_128_384, ← load_around a11 1 3 inb_S384x768_S256x128_128_384,
      ← load_q q 1 4 inb_S256x768_S128x128_128_512, ← load_around a11 1 4 inb_S384x768_S256x128_128_512,
      ← load_q q 1 5 inb_S256x768_S128x128_128_640, ← load_around a11 1 5 inb_S384x768_S256x128_128_640]
  on_goal 2 =>
    rw [lseBlock_at (seenAt i) q _ 0 x y (hx 0) ((hx 1).trans (Nat.zero_add _))]
    unfold lseTile
    rw [← load_q q 0 0 inb_S256x768_S128x128_0_0, ← load_around a11 0 0 inb_S384x768_S256x128_0_0,
      ← load_q q 0 1 inb_S256x768_S128x128_0_128, ← load_around a11 0 1 inb_S384x768_S256x128_0_128,
      ← load_q q 0 2 inb_S256x768_S128x128_0_256, ← load_around a11 0 2 inb_S384x768_S256x128_0_256,
      ← load_q q 0 3 inb_S256x768_S128x128_0_384, ← load_around a11 0 3 inb_S384x768_S256x128_0_384,
      ← load_q q 0 4 inb_S256x768_S128x128_0_512, ← load_around a11 0 4 inb_S384x768_S256x128_0_512,
      ← load_q q 0 5 inb_S256x768_S128x128_0_640, ← load_around a11 0 5 inb_S384x768_S256x128_0_640]
  all_goals simp only [k0_pay1, k0_pay2, k0_pay3, k0_pay4, k0_pay5, k0_pay6, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, shapeCast_self,
      Cert.Attn.lsePair, Cert.Attn.lseStep, Cert.Attn.score, Cert.Attn.top, Cert.Attn.total, Cert.Attn.expo, Cert.KernelIdeal.Gen.k0_pay12,
      seenAt_one, seenAt_zero, row0, lo, hi, loP, loS, lowSel_eq, highSel_eq, dotQK_eq, κ_eq]
  all_goals rfl
end
end Cert.AttnD16
end
-- ==== Proof.AttnD16Value.lean ====
/-
  The attention kernel of dilation 16: its blocks as rows of the arguments, what each grid point's masks show, and the two
  results at one index: the mean and the log-sum of a window of the rows that share a residue.
-/
module

public import proofs.«01_k».proof.Proof.AttnD16Cases

@[expose] public section

set_option maxRecDepth 16384

noncomputable section

namespace Cert.AttnD16

open Idealize.ShloMosaic Idealize.ShloMosaic.TcCoe Idealize.SL.Sem
open Cert.Kernel6Ideal Cert.Kernel6Ideal.Gen
open Cert.Attn (seen_at oBlock lseBlock oBlock_at lseBlock_at around rowAt rowAt_of colAt lseOf meanOf vwin)
open Cert.AttnDil

variable (m : (ℓ : Loc nD τ sig) → Buf (Elt Ideal) ℓ) (c : Dev nD)

abbrev argQ : FVec Ideal S49152x768 .bf16 := m ((c.tc : Thread nD τ).loc main_arg0)
abbrev argK : FVec Ideal S49152x768 .bf16 := m ((c.tc : Thread nD τ).loc main_arg1)
abbrev argV : FVec Ideal S49152x768 .bf16 := m ((c.tc : Thread nD τ).loc main_arg2)

/-- The entry of an argument. -/
abbrev ent (x : FVec Ideal S49152x768 .bf16) (R : Fin 49152) (e : Fin 768) : EReal := x (ix2 R e)

/-! ## The grid -/

theorem bounds_at : ∀ t : Fin grid0.N, row0 (grid0.coords t) = BitVec.ofNat 32 (256 * (t.val / 16))
    ∧ lo (grid0.coords t) = BitVec.ofNat 32 (lowOf 2048 256 (256 * (t.val / 16)))
    ∧ hi (grid0.coords t) = BitVec.ofNat 32 (highOf 2048 256 3072 (256 * (t.val / 16))) := by
  decide +kernel

theorem idx0 : ∀ t : Fin grid0.N, win0_0.index t 0 = t.val / 16 ∧ win0_0.index t 1 = t.val % 16 := by decide +kernel
theorem idx1 : ∀ t : Fin grid0.N, win0_1.index t 0 = t.val / 16 ∧ win0_1.index t 1 = t.val % 16 := by decide +kernel
theorem idx2 : ∀ t : Fin grid0.N, win0_2.index t 0 = 4 * (t.val / 16) - 1 ∧ win0_2.index t 1 = t.val % 16 := by decide +kernel
theorem idx3 : ∀ t : Fin grid0.N, win0_3.index t 0 = min (4 * (t.val / 16) + 4) 47 ∧ win0_3.index t 1 = t.val % 16 := by decide +kernel
theorem idx4 : ∀ t : Fin grid0.N, win0_4.index t 0 = t.val / 16 ∧ win0_4.index t 1 = t.val % 16 := by decide +kernel
theorem idx5 : ∀ t : Fin grid0.N, win0_5.index t 0 = 4 * (t.val / 16) - 1 ∧ win0_5.index t 1 = t.val % 16 := by decide +kernel
theorem idx6 : ∀ t : Fin grid0.N, win0_6.index t 0 = min (4 * (t.val / 16) + 4) 47 ∧ win0_6.index t 1 = t.val % 16 := by decide +kernel
theorem idx7 : ∀ t : Fin grid0.N, win0_7.index t 0 = t.val / 16 ∧ win0_7.index t 1 = t.val % 16 := by decide +kernel
theorem idx8 : ∀ t : Fin grid0.N, win0_8.index t 0 = t.val / 16 ∧ win0_8.index t 1 = t.val % 16 := by decide +kernel

theorem pt_lt (t : Fin cfg0.N) : t.val < 192 := lt_of_lt_of_eq t.isLt (show cfg0.N = 192 from N_0)

theorem lowOf_block (t b r : ℕ) (hb : b < 2) (hr : r < 128) : lowOf 2048 256 (256 * t + 128 * b + r) = lowOf 2048 256 (256 * t) := by
  unfold lowOf
  split_ifs <;> omega

theorem highOf_block (t b r : ℕ) (hb : b < 2) (hr : r < 128) : highOf 2048 256 3072 (256 * t + 128 * b + r) = highOf 2048 256 3072 (256 * t) := by
  unfold highOf
  split_ifs <;> omega

theorem lowOf_le (R : ℕ) : lowOf 2048 256 R < 3072 := by
  unfold lowOf
  split_ifs <;> omega

theorem highOf_le (R : ℕ) : highOf 2048 256 3072 R ≤ 3072 := by
  unfold highOf
  split_ifs <;> omega

/-- The masks of a grid point show each row its window. -/
theorem shows (t : Fin cfg0.N) (b : Fin 2) : Shows 2048 256 3072 (t.val / 16) b (seenAt (grid0.coords t) b) := by
  intro r x
  have ht := pt_lt t
  have hb := b.isLt
  have hr := r.isLt
  have hl := lowOf_le (256 * (t.val / 16))
  have hh := highOf_le (256 * (t.val / 16))
  obtain ⟨e0, e1, e2⟩ := bounds_at t
  rw [lowOf_block (t.val / 16) b.val r.val hb hr, highOf_block (t.val / 16) b.val r.val hb hr]
  unfold seenAt
  rw [e0, e1, e2]
  by_cases h : b = 0
  · rw [if_pos h, seen_at 0 _ _ _ (by omega) (by omega) (by omega) (by omega)]
    have : b.val = 0 := by rw [h]; rfl
    omega
  · rw [if_neg h, seen_at 128 _ _ _ (by omega) (by omega) (by omega) (by omega)]
    have : b.val = 1 := by have : b.val ≠ 0 := fun hv => h (Fin.ext hv); omega
    omega

/-! ## The blocks -/

theorem found_q (i : S3072x12288.Idx) (R r : ℕ) (hR : R < 3072) (hr : r < 16) (e : Fin 768) (h0 : (i 0).val = R) (h1 : (i 1).val = r * 768 + e.val) :
    (V m c main_v0 i : EReal) = part 16 r (ent (argQ m c)) (rowAt R) e := by
  have h : V m c main_v0 = shapeCast S3072x12288 (argQ m c) shapeCasts_S49152x768_S3072x12288 := by
    show StableHlo.after hostOps0 (fun b => m (c, b)) main_v0 = _
    simp only [hostOps0, List.flatten_cons, List.flatten_nil, List.append_nil, List.cons_append, List.nil_append]
    after_results_simp
    rfl
  rw [h]
  unfold part
  rw [rowAt_of R (by omega)]
  refine shapeCast_apply _ _ _ _ ?_
  rw [Shape.rowMajor_val_two, Shape.rowMajor_val_two]
  show min (R * 16 + r) 49151 * 768 + e.val = (i 0).val * 12288 + (i 1).val
  omega

theorem found_k (i : S3072x12288.Idx) (R r : ℕ) (hR : R < 3072) (hr : r < 16) (e : Fin 768) (h0 : (i 0).val = R) (h1 : (i 1).val = r * 768 + e.val) :
    (V m c main_v1 i : EReal) = part 16 r (ent (argK m c)) (rowAt R) e := by
  have h : V m c main_v1 = shapeCast S3072x12288 (argK m c) shapeCasts_S49152x768_S3072x12288 := by
    show StableHlo.after hostOps0 (fun b => m (c, b)) main_v1 = _
    simp only [hostOps0, List.flatten_cons, List.flatten_nil, List.append_nil, List.cons_append, List.nil_append]
    after_results_simp
    rfl
  rw [h]
  unfold part
  rw [rowAt_of R (by omega)]
  refine shapeCast_apply _ _ _ _ ?_
  rw [Shape.rowMajor_val_two, Shape.rowMajor_val_two]
  show min (R * 16 + r) 49151 * 768 + e.val = (i 0).val * 12288 + (i 1).val
  omega

theorem found_v (i : S3072x12288.Idx) (R r : ℕ) (hR : R < 3072) (hr : r < 16) (e : Fin 768) (h0 : (i 0).val = R) (h1 : (i 1).val = r * 768 + e.val) :
    (V m c main_v2 i : EReal) = part 16 r (ent (argV m c)) (rowAt R) e := by
  have h : V m c main_v2 = shapeCast S3072x12288 (argV m c) shapeCasts_S49152x768_S3072x12288 := by
    show StableHlo.after hostOps0 (fun b => m (c, b)) main_v2 = _
    simp only [hostOps0, List.flatten_cons, List.flatten_nil, List.append_nil, List.cons_append, List.nil_append]
    after_results_simp
    rfl
  rw [h]
  unfold part
  rw [rowAt_of R (by omega)]
  refine shapeCast_apply _ _ _ _ ?_
  rw [Shape.rowMajor_val_two, Shape.rowMajor_val_two]
  show min (R * 16 + r) 49151 * 768 + e.val = (i 0).val * 12288 + (i 1).val
  omega

theorem blk_q (t : Fin cfg0.N) (y : Fin 256) (e : Fin 768) :
    ((iblk m c 0 t : Vec Ideal S256x768 .bf16) (ix2 y e) : EReal) = part 16 (t.val % 16) (ent (argQ m c)) (rowAt (256 * (t.val / 16) + y.val)) e := by
  have ht := pt_lt t
  have hy := y.isLt
  unfold iblk
  rw [View.read_apply]
  refine found_q m c _ (256 * (t.val / 16) + y.val) (t.val % 16) (by omega) (by omega) e ?_ ?_
  · show win0_0.index t 0 * 256 + 1 * y.val = _; rw [(idx0 t).1]; omega
  · show win0_0.index t 1 * 768 + 1 * e.val = _; rw [(idx0 t).2]; omega

theorem blk_km (t : Fin cfg0.N) (y : Fin 256) (e : Fin 768) :
    ((iblk m c 1 t : Vec Ideal S256x768 .bf16) (ix2 y e) : EReal) = part 16 (t.val % 16) (ent (argK m c)) (rowAt (256 * (t.val / 16) + y.val)) e := by
  have ht := pt_lt t
  have hy := y.isLt
  unfold iblk
  rw [View.read_apply]
  refine found_k m c _ (256 * (t.val / 16) + y.val) (t.val % 16) (by omega) (by omega) e ?_ ?_
  · show win0_1.index t 0 * 256 + 1 * y.val = _; rw [(idx1 t).1]; omega
  · show win0_1.index t 1 * 768 + 1 * e.val = _; rw [(idx1 t).2]; omega

theorem blk_kl (t : Fin cfg0.N) (h : 0 < t.val / 16) (y : Fin 64) (e : Fin 768) :
    ((iblk m c 2 t : Vec Ideal S64x768 .bf16) (ix2 y e) : EReal) = part 16 (t.val % 16) (ent (argK m c)) (rowAt (256 * (t.val / 16) + y.val - 64)) e := by
  have ht := pt_lt t
  have hy := y.isLt
  unfold iblk
  rw [View.read_apply]
  refine found_k m c _ (256 * (t.val / 16) + y.val - 64) (t.val % 16) (by omega) (by omega) e ?_ ?_
  · show win0_2.index t 0 * 64 + 1 * y.val = _; rw [(idx2 t).1]; omega
  · show win0_2.index t 1 * 768 + 1 * e.val = _; rw [(idx2 t).2]; omega

theorem blk_kr (t : Fin cfg0.N) (h : t.val / 16 + 1 < 12) (y : Fin 64) (e : Fin 768) :
    ((iblk m c 3 t : Vec Ideal S64x768 .bf16) (ix2 y e) : EReal) = part 16 (t.val % 16) (ent (argK m c)) (rowAt (256 * (t.val / 16) + y.val + 256)) e := by
  have ht := pt_lt t
  have hy := y.isLt
  unfold iblk
  rw [View.read_apply]
  refine found_k m c _ (256 * (t.val / 16) + y.val + 256) (t.val % 16) (by omega) (by omega) e ?_ ?_
  · show win0_3.index t 0 * 64 + 1 * y.val = _; rw [(idx3 t).1]; omega
  · show win0_3.index t 1 * 768 + 1 * e.val = _; rw [(idx3 t).2]; omega

theorem blk_vm (t : Fin cfg0.N) (y : Fin 256) (e : Fin 768) :
    ((iblk m c 4 t : Vec Ideal S256x768 .bf16) (ix2 y e) : EReal) = part 16 (t.val % 16) (ent (argV m c)) (rowAt (256 * (t.val / 16) + y.val)) e := by
  have ht := pt_lt t
  have hy := y.isLt
  unfold iblk
  rw [View.read_apply]
  refine found_v m c _ (256 * (t.val / 16) + y.val) (t.val % 16) (by omega) (by omega) e ?_ ?_
  · show win0_4.index t 0 * 256 + 1 * y.val = _; rw [(idx4 t).1]; omega
  · show win0_4.index t 1 * 768 + 1 * e.val = _; rw [(idx4 t).2]; omega

theorem blk_vl (t : Fin cfg0.N) (h : 0 < t.val / 16) (y : Fin 64) (e : Fin 768) :
    ((iblk m c 5 t : Vec Ideal S64x768 .bf16) (ix2 y e) : EReal) = part 16 (t.val % 16) (ent (argV m c)) (rowAt (256 * (t.val / 16) + y.val - 64)) e := by
  have ht := pt_lt t
  have hy := y.isLt
  unfold iblk
  rw [View.read_apply]
  refine found_v m c _ (256 * (t.val / 16) + y.val - 64) (t.val % 16) (by omega) (by omega) e ?_ ?_
  · show win0_5.index t 0 * 64 + 1 * y.val = _; rw [(idx5 t).1]; omega
  · show win0_5.index t 1 * 768 + 1 * e.val = _; rw [(idx5 t).2]; omega

theorem blk_vr (t : Fin cfg0.N) (h : t.val / 16 + 1 < 12) (y : Fin 64) (e : Fin 768) :
    ((iblk m c 6 t : Vec Ideal S64x768 .bf16) (ix2 y e) : EReal) = part 16 (t.val % 16) (ent (argV m c)) (rowAt (256 * (t.val / 16) + y.val + 256)) e := by
  have ht := pt_lt t
  have hy := y.isLt
  unfold iblk
  rw [View.read_apply]
  refine found_v m c _ (256 * (t.val / 16) + y.val + 256) (t.val % 16) (by omega) (by omega) e ?_ ?_
  · show win0_6.index t 0 * 64 + 1 * y.val = _; rw [(idx6 t).1]; omega
  · show win0_6.index t 1 * 768 + 1 * e.val = _; rw [(idx6 t).2]; omega

theorem around_k (t : Fin cfg0.N) : Around 3072 (t.val / 16) (around (F := Ideal) (iblk m c 1 t) (iblk m c 2 t) (iblk m c 3 t))
    (part 16 (t.val % 16) (ent (argK m c))) :=
  around_of 12 (t.val / 16) (by have := pt_lt t; omega) _ _ _ _ (blk_km m c t) (blk_kl m c t) (blk_kr m c t)

theorem around_v (t : Fin cfg0.N) : Around 3072 (t.val / 16) (around (F := Ideal) (iblk m c 4 t) (iblk m c 5 t) (iblk m c 6 t))
    (part 16 (t.val % 16) (ent (argV m c))) :=
  around_of 12 (t.val / 16) (by have := pt_lt t; omega) _ _ _ _ (blk_vm m c t) (blk_vl m c t) (blk_vr m c t)

/-! ## The results -/

/-- The grid point that writes row `R` of the rows with residue `r`. -/
def ptOf (R : Fin 3072) (r : Fin 16) : Fin cfg0.N :=
  ⟨R.val / 256 * 16 + r.val, lt_of_lt_of_eq (by have := R.isLt; have := r.isLt; omega) (show cfg0.N = 192 from N_0).symm⟩

theorem ptOf_row (R : Fin 3072) (r : Fin 16) : (ptOf R r).val / 16 = R.val / 256 := by
  have := r.isLt
  show (R.val / 256 * 16 + r.val) / 16 = _
  omega

theorem ptOf_part (R : Fin 3072) (r : Fin 16) : (ptOf R r).val % 16 = r.val := by
  have := r.isLt
  show (R.val / 256 * 16 + r.val) % 16 = _
  omega

/-- The outputs, as one block of the whole array. -/
theorem o_blk (t : Fin cfg0.N) (y : S256x768.Idx) :
    ((((cfg0.win 7).blk t).view.read (Elt Ideal) ((Gen.dats m 0 c).arrAt 7 cfg0.N)) y : EReal)
      = oBlock (F := Ideal) (seenAt (grid0.coords t)) (iblk m c 0 t) (around (iblk m c 1 t) (iblk m c 2 t) (iblk m c 3 t))
        (around (iblk m c 4 t) (iblk m c 5 t) (iblk m c 6 t)) y := by
  rw [Value.blocks7 m c t (flush0_7 t), Value.flushed7_A, o_out]
  rfl

theorem lse_blk (t : Fin cfg0.N) (y : S256x128.Idx) :
    ((((cfg0.win 8).blk t).view.read (Elt Ideal) ((Gen.dats m 0 c).arrAt 8 cfg0.N)) y : EReal)
      = lseBlock (F := Ideal) (seenAt (grid0.coords t)) (iblk m c 0 t) (around (iblk m c 1 t) (iblk m c 2 t) (iblk m c 3 t)) y := by
  rw [Value.blocks8 m c t (flush0_8 t), Value.flushed8_A, lse_out]
  rfl

/-- Column `e` of the rows with residue `r`, in the array where a row holds all residues. -/
def wideO (r : Fin 16) (e : Fin 768) : Fin 12288 := ⟨r.val * 768 + e.val, by omega⟩
def wideL (r : Fin 16) (e : Fin 128) : Fin 2048 := ⟨r.val * 128 + e.val, by omega⟩

/-- One entry of the output. -/
theorem out_at (R : Fin 3072) (r : Fin 16) (h : Fin 12) (x : Fin 64) :
    ((Gen.dats m 0 c).arrAt 7 cfg0.N (ix2 R (wideO r (colAt h x))) : EReal)
      = meanOf (win 2048 256 3072 (part 16 r.val (ent (argQ m c))) (part 16 r.val (ent (argK m c))) R.val h)
        (vwin (part 16 r.val (ent (argV m c))) R.val (colAt h x)) := by
  have hR := R.isLt
  have hh := h.isLt
  have hx := x.isLt
  have e := o_blk m c (ptOf R r) (ix2 (⟨R.val % 256, Nat.mod_lt _ (by decide)⟩ : Fin 256) (colAt h x))
  rw [View.read_apply] at e
  have ei : (((cfg0.win 7).blk (ptOf R r)).view.emb (ix2 (⟨R.val % 256, Nat.mod_lt _ (by decide)⟩ : Fin 256) (colAt h x)) : S3072x12288.Idx)
      = ix2 R (wideO r (colAt h x)) := by
    funext a; apply Fin.ext
    match a with
    | ⟨0, _⟩ => show win0_7.index (ptOf R r) 0 * 256 + 1 * (R.val % 256) = R.val; rw [(idx7 _).1, ptOf_row]; omega
    | ⟨1, _⟩ => show win0_7.index (ptOf R r) 1 * 768 + 1 * (colAt h x).val = r.val * 768 + (colAt h x).val; rw [(idx7 _).2, ptOf_part]; omega
  have e2 : ((Gen.dats m 0 c).arrAt 7 cfg0.N (ix2 R (wideO r (colAt h x))) : EReal) = _ := (congrArg ((Gen.dats m 0 c).arrAt 7 cfg0.N) ei).symm.trans e
  rw [e2]
  have hb : R.val % 256 / 128 < 2 := by omega
  have hp : h.val / 2 < 6 := by omega
  have hr : R.val % 128 < 128 := by omega
  have hd : h.val % 2 * 64 + x.val < 128 := by omega
  rw [oBlock_at (F := Ideal) _ _ _ _ ⟨R.val % 256 / 128, hb⟩ ⟨h.val / 2, hp⟩ (ix2 (⟨R.val % 128, hr⟩ : Fin 128) (⟨h.val % 2 * 64 + x.val, hd⟩ : Fin 128)) _
    (by show R.val % 256 = 128 * (R.val % 256 / 128) + R.val % 128; omega)
    (by show h.val * 64 + x.val = 128 * (h.val / 2) + (h.val % 2 * 64 + x.val); omega)]
  rw [oTile_win highOf_le (shows (ptOf R r) _) (blk_q m c (ptOf R r)) (around_k m c (ptOf R r)) (around_v m c (ptOf R r)) _ _ h x
    (by show 128 * (h.val / 2) + (h.val % 2 * 64 + x.val) = h.val * 64 + x.val; omega)]
  rw [ptOf_row, ptOf_part, show 256 * (R.val / 256) + 128 * (⟨R.val % 256 / 128, hb⟩ : Fin 2).val + (⟨R.val % 128, hr⟩ : Fin 128).val = R.val by
    show 256 * (R.val / 256) + 128 * (R.val % 256 / 128) + R.val % 128 = R.val; omega]

/-- One entry of the log-sums. -/
theorem lse_at (R : Fin 3072) (r : Fin 16) (e : Fin 128) :
    ((Gen.dats m 0 c).arrAt 8 cfg0.N (ix2 R (wideL r e)) : EReal)
      = if h : e.val < 12 then lseOf (win 2048 256 3072 (part 16 r.val (ent (argQ m c))) (part 16 r.val (ent (argK m c))) R.val ⟨e.val, h⟩) else 0 := by
  have hR := R.isLt
  have e1 := lse_blk m c (ptOf R r) (ix2 (⟨R.val % 256, Nat.mod_lt _ (by decide)⟩ : Fin 256) e)
  rw [View.read_apply] at e1
  have ei : (((cfg0.win 8).blk (ptOf R r)).view.emb (ix2 (⟨R.val % 256, Nat.mod_lt _ (by decide)⟩ : Fin 256) e) : S3072x2048.Idx)
      = ix2 R (wideL r e) := by
    funext a; apply Fin.ext
    match a with
    | ⟨0, _⟩ => show win0_8.index (ptOf R r) 0 * 256 + 1 * (R.val % 256) = R.val; rw [(idx8 _).1, ptOf_row]; omega
    | ⟨1, _⟩ => show win0_8.index (ptOf R r) 1 * 128 + 1 * e.val = r.val * 128 + e.val; rw [(idx8 _).2, ptOf_part]; omega
  have e2 : ((Gen.dats m 0 c).arrAt 8 cfg0.N (ix2 R (wideL r e)) : EReal) = _ := (congrArg ((Gen.dats m 0 c).arrAt 8 cfg0.N) ei).symm.trans e1
  rw [e2]
  have hb : R.val % 256 / 128 < 2 := by omega
  have hr : R.val % 128 < 128 := by omega
  rw [lseBlock_at (F := Ideal) _ _ _ ⟨R.val % 256 / 128, hb⟩ (ix2 (⟨R.val % 128, hr⟩ : Fin 128) e) _
    (by show R.val % 256 = 128 * (R.val % 256 / 128) + R.val % 128; omega) rfl]
  rw [lseTile_win highOf_le (shows (ptOf R r) _) (blk_q m c (ptOf R r)) (around_k m c (ptOf R r))]
  rw [ptOf_row, ptOf_part, show 256 * (R.val / 256) + 128 * (⟨R.val % 256 / 128, hb⟩ : Fin 2).val + (⟨R.val % 128, hr⟩ : Fin 128).val = R.val by
    show 256 * (R.val / 256) + 128 * (R.val % 256 / 128) + R.val % 128 = R.val; omega]

end Cert.AttnD16
end
-- ==== Proof.AttnRefD16.lean ====
/-
  The attention reference of dilation 16 over the extended reals, step by step, read at one index: the rows of each residue
  are sequences of their own, 256 rows each among the prompts and 1024 rows in the sample. Each step is a function of the
  arrays before it.
-/
module

public import proofs.«01_k».proof.Proof.AttnDil
public import proofs.«01_k».proof.Proof.AttnRef
public import proofs.«01_k».proof.Proof.Gen.Reference6Ideal.Run

@[expose] public section

set_option maxRecDepth 16384

noncomputable section

namespace Cert.AttnRefD16

open Idealize.ShloMosaic Idealize.ShloMosaic.TcCoe Idealize.SL.Sem
open Cert.Reference6Ideal Cert.Reference6Ideal.Gen
open Cert.Attn (rowAt colAt rowAt_of)
open Cert.AttnRef (near_words add_at log_at)
open Cert.AttnDil (part)

/-- An array's entry at a row and a column. -/
abbrev ent (x : FVec Ideal S49152x768 .f32) (R : Fin 49152) (e : Fin 768) : EReal := x (ix2 R e)

/-! ## The prompts -/

/-- The rows of one residue after another, as sequences of heads. -/
def seqsP (x : FVec Ideal S49152x768 .f32) : FVec Ideal S128x256x12x64 .f32 :=
  shapeCast _ (transpose S8x16x256x12x64 [0, 2, 1, 3, 4] (shapeCast _ (shapeCast _ (extractStridedSlice S32768x768 ![0, 0] x slices_S49152x768_S32768x768_0_0) shapeCasts_S32768x768_S8x4096x12x64) shapeCasts_S8x4096x12x64_S8x256x16x12x64) transposes_S8x256x16x12x64_S8x16x256x12x64_0_2_1_3_4) shapeCasts_S8x16x256x12x64_S128x256x12x64

/-- The queries in blocks of 64 rows. -/
def queriesP (x : FVec Ideal S49152x768 .f32) : FVec Ideal S128x4x64x12x64 .f32 :=
  shapeCast _ (pad S128x256x12x64 ![0, 0, 0, 0] ![0, 0, 0, 0] ![0, 0, 0, 0] (seqsP x) (sitofp (F := Ideal) .f32 (constantI S_ 32 0#32)) pads_S128x256x12x64_S128x256x12x64_000_000_000_000 h_S_) shapeCasts_S128x256x12x64_S128x4x64x12x64

/-- The keys or values in blocks of 64 rows, a block of zeros at either end of a sequence. -/
def paddedP (x : FVec Ideal S49152x768 .f32) : FVec Ideal S128x6x64x12x64 .f32 :=
  shapeCast _ (pad S128x384x12x64 ![0, 64, 0, 0] ![0, 64, 0, 0] ![0, 0, 0, 0] (seqsP x) (sitofp (F := Ideal) .f32 (constantI S_ 32 0#32)) pads_S128x256x12x64_S128x384x12x64_000_64640_000_000 h_S_) shapeCasts_S128x384x12x64_S128x6x64x12x64

/-- The three blocks around each block. -/
def aroundP (vb : FVec Ideal S128x6x64x12x64 .f32) : FVec Ideal S128x4x192x12x64 .f32 :=
  concatenate S128x4x192x12x64 2
    [⟨S128x4x64x12x64, extractStridedSlice S128x4x64x12x64 ![0, 0, 0, 0, 0] vb slices_S128x6x64x12x64_S128x4x64x12x64_0_0_0_0_0⟩,
     ⟨S128x4x64x12x64, extractStridedSlice S128x4x64x12x64 ![0, 1, 0, 0, 0] vb slices_S128x6x64x12x64_S128x4x64x12x64_0_1_0_0_0⟩,
     ⟨S128x4x64x12x64, extractStridedSlice S128x4x64x12x64 ![0, 2, 0, 0, 0] vb slices_S128x6x64x12x64_S128x4x64x12x64_0_2_0_0_0⟩]
    concatenates_S128x4x64x12x64_S128x4x64x12x64_S128x4x64x12x64_S128x4x192x12x64_d2

/-- The key positions of each block. -/
def keyPosP : IVec S4x1x192 32 :=
  subi (addi (broadcastInDim S4x1x192 ![0, 1, 2] bcast_S4x1x1_S4x1x192_0_1_2 (muli (broadcastInDim S4x1x1 ![0] bcast_S4_S4x1x1_0 (iotaInDim S4 32 0)) (broadcastInDim S4x1x1 ![] bcast_S_S4x1x1 (constantI S_ 32 64#32)))) (broadcastInDim S4x1x192 ![0, 1, 2] bcast_S1x1x192_S4x1x192_0_1_2 (broadcastInDim S1x1x192 ![2] bcast_S192_S1x1x192_2 (iotaInDim S192 32 0)))) (broadcastInDim S4x1x192 ![] bcast_S_S4x1x192 (constantI S_ 32 64#32))

/-- The keys each row of a block sees. -/
def nearP : IVec S4x64x192 1 :=
  andi (andi (cmpi .sle (absi (subi (broadcastInDim S4x64x192 ![0, 1, 2] bcast_S4x1x192_S4x64x192_0_1_2 keyPosP) (broadcastInDim S4x64x192 ![0, 1, 2] bcast_S4x64x1_S4x64x192_0_1_2 (addi (broadcastInDim S4x64x1 ![0, 1, 2] bcast_S4x1x1_S4x64x1_0_1_2 (muli (broadcastInDim S4x1x1 ![0] bcast_S4_S4x1x1_0 (iotaInDim S4 32 0)) (broadcastInDim S4x1x1 ![] bcast_S_S4x1x1 (constantI S_ 32 64#32)))) (broadcastInDim S4x64x1 ![0, 1, 2] bcast_S1x64x1_S4x64x1_0_1_2 (broadcastInDim S1x64x1 ![1] bcast_S64_S1x64x1_1 (iotaInDim S64 32 0))))))) (broadcastInDim S4x64x192 ![] bcast_S_S4x64x192 (constantI S_ 32 64#32))) (broadcastInDim S4x64x192 ![0, 1, 2] bcast_S4x1x192_S4x64x192_0_1_2 (cmpi .sge keyPosP (broadcastInDim S4x1x192 ![] bcast_S_S4x1x192 (constantI S_ 32 0#32))))) (broadcastInDim S4x64x192 ![0, 1, 2] bcast_S4x1x192_S4x64x192_0_1_2 (cmpi .slt keyPosP (broadcastInDim S4x1x192 ![] bcast_S_S4x1x192 (constantI S_ 32 256#32))))

/-- The scores, −∞ off the window. -/
def maskedP (q k : FVec Ideal S49152x768 .f32) : FVec Ideal S128x4x12x64x192 .f32 :=
  select (broadcastInDim S128x4x12x64x192 ![0, 1, 2, 3, 4] bcast_S1x4x1x64x192_S128x4x12x64x192_0_1_2_3_4 (broadcastInDim S1x4x1x64x192 ![1, 3, 4] bcast_S4x64x192_S1x4x1x64x192_1_3_4 nearP))
    (Host.dotGeneral dot_S128x4x64x12x64_S128x4x192x12x64_S128x4x12x64x192_4_4_2_2_013_013 none (queriesP q) (aroundP (paddedP k)))
    (broadcastInDim S128x4x12x64x192 ![] bcast_S_S128x4x12x64x192 (id (constant (F := Ideal) S_ .f32 0xFF800000#32)))

def topP (s : FVec Ideal S128x4x12x64x192 .f32) : FVec Ideal S128x4x12x64 .f32 :=
  Host.reduce FloatOps.maximumf s (constant S_ .f32 0xFF800000#32) reducesTo_S128x4x12x64x192_S128x4x12x64_d4 h_S_

/-- The exponentials of the scores less a number per row. -/
def probsP (s : FVec Ideal S128x4x12x64x192 .f32) (l : FVec Ideal S128x4x12x64 .f32) : FVec Ideal S128x4x12x64x192 .f32 :=
  Host.exp (subf s (broadcastInDim S128x4x12x64x192 ![0, 1, 2, 3, 4] bcast_S128x4x12x64x1_S128x4x12x64x192_0_1_2_3_4
    (broadcastInDim S128x4x12x64x1 ![0, 1, 2, 3] bcast_S128x4x12x64_S128x4x12x64x1_0_1_2_3 l)))

/-- The sums over the keys. -/
def sumsP (p : FVec Ideal S128x4x12x64x192 .f32) : FVec Ideal S128x4x12x64 .f32 :=
  Host.reduceAdd p (constant S_ .f32 0x00000000#32) reducesTo_S128x4x12x64x192_S128x4x12x64_d4 h_S_

/-- The log-sums. -/
def lseP (s : FVec Ideal S128x4x12x64x192 .f32) : FVec Ideal S128x4x12x64 .f32 :=
  addf (topP s) (Host.log (sumsP (probsP s (topP s))))

/-- The values mixed by the normalized weights. -/
def mixP (x : FVec Ideal S128x4x192x12x64 .f32) (p : FVec Ideal S128x4x12x64x192 .f32) : FVec Ideal S128x4x12x64x64 .f32 :=
  Host.dotGeneral dot_S128x4x192x12x64_S128x4x12x64x192_S128x4x12x64x64_2_4_4_3_013_012 none x p

/-- The mixed values as rows. -/
def flatP (x : FVec Ideal S128x4x12x64x64 .f32) : FVec Ideal S32768x768 .f32 :=
  shapeCast _ (shapeCast _ (transpose S8x256x16x12x64 [0, 2, 1, 3, 4] (shapeCast _ (shapeCast _ (transpose S128x4x64x12x64 [0, 1, 4, 2, 3] x transposes_S128x4x12x64x64_S128x4x64x12x64_0_1_4_2_3) shapeCasts_S128x4x64x12x64_S128x256x12x64) shapeCasts_S128x256x12x64_S8x16x256x12x64) transposes_S8x16x256x12x64_S8x256x16x12x64_0_2_1_3_4) shapeCasts_S8x256x16x12x64_S8x4096x12x64) shapeCasts_S8x4096x12x64_S32768x768

/-- The log-sums as rows. -/
def lflatP (x : FVec Ideal S128x4x12x64 .f32) : FVec Ideal S32768x12 .f32 :=
  shapeCast _ (shapeCast _ (transpose S8x256x16x12 [0, 2, 1, 3] (shapeCast _ (shapeCast _ (transpose S128x4x64x12 [0, 1, 3, 2] x transposes_S128x4x12x64_S128x4x64x12_0_1_3_2) shapeCasts_S128x4x64x12_S128x256x12) shapeCasts_S128x256x12_S8x16x256x12) transposes_S8x16x256x12_S8x256x16x12_0_2_1_3) shapeCasts_S8x256x16x12_S8x4096x12) shapeCasts_S8x4096x12_S32768x12

theorem queriesP_at (x : FVec Ideal S49152x768 .f32) (n : Fin 128) (b : Fin 4) (j : Fin 64) (h : Fin 12) (d : Fin 64) :
    (queriesP x (ix5 n b j h d) : EReal) = part 16 (n.val % 16) (ent x) (rowAt (n.val / 16 * 256 + b.val * 64 + j.val)) (colAt h d) := by
  unfold part ent
  rw [rowAt_of (n.val / 16 * 256 + b.val * 64 + j.val) (by omega), rowAt_of _ (by dsimp only; omega)]
  pointwise [queriesP, seqsP]
  rw [dif_pos (by omega)]
  exact congrArg x (congrArg₂ ix2 (Fin.ext (by dsimp only; omega)) rfl)

theorem paddedP_at (x : FVec Ideal S49152x768 .f32) (n : Fin 128) (b : Fin 6) (j : Fin 64) (h : Fin 12) (d : Fin 64)
    (g : 64 ≤ b.val * 64 + j.val ∧ b.val * 64 + j.val < 256 + 64) :
    (paddedP x (ix5 n b j h d) : EReal) = part 16 (n.val % 16) (ent x) (rowAt (n.val / 16 * 256 + (b.val * 64 + j.val) - 64)) (colAt h d) := by
  unfold part ent
  rw [rowAt_of (n.val / 16 * 256 + (b.val * 64 + j.val) - 64) (by omega), rowAt_of _ (by dsimp only; omega)]
  pointwise [paddedP, seqsP]
  rw [dif_pos (by omega)]
  exact congrArg x (congrArg₂ ix2 (Fin.ext (by dsimp only; omega)) rfl)

theorem aroundP_at (x : FVec Ideal S49152x768 .f32) (n : Fin 128) (b : Fin 4) (c : Fin 192) (h : Fin 12) (d : Fin 64)
    (g : 64 ≤ b.val * 64 + c.val ∧ b.val * 64 + c.val < 256 + 64) :
    (aroundP (paddedP x) (ix5 n b c h d) : EReal) = part 16 (n.val % 16) (ent x) (rowAt (n.val / 16 * 256 + (b.val * 64 + c.val) - 64)) (colAt h d) := by
  have key : ∀ (b' : Fin 6) (j' : Fin 64), b'.val * 64 + j'.val = b.val * 64 + c.val →
      (paddedP x (ix5 n b' j' h d) : EReal) = part 16 (n.val % 16) (ent x) (rowAt (n.val / 16 * 256 + (b.val * 64 + c.val) - 64)) (colAt h d) := by
    intro b' j' e
    rw [paddedP_at x n b' j' h d (by omega), e]
  pointwise [aroundP]
  by_cases h1 : c.val < 64
  · rw [dif_pos h1]
    exact key ⟨b.val, by omega⟩ ⟨c.val, h1⟩ rfl
  · rw [dif_neg h1]
    by_cases h2 : c.val - 64 < 64
    · rw [dif_pos h2]
      exact key ⟨1 + b.val, by omega⟩ ⟨c.val - 64, h2⟩ (by dsimp only; omega)
    · rw [dif_neg h2]
      exact key ⟨2 + b.val, by omega⟩ ⟨c.val - 64 - 64, by omega⟩ (by dsimp only; omega)

theorem nearP_at (b : Fin 4) (j : Fin 64) (c : Fin 192) :
    nearP (ix3 b j c) = 1#1 ↔ (j.val ≤ c.val ∧ c.val ≤ j.val + 128) ∧ 64 ≤ b.val * 64 + c.val ∧ b.val * 64 + c.val < 256 + 64 := by
  pointwise [nearP, keyPosP]
  exact near_words b.val j.val c.val 256 (by omega) (by omega) (by omega) (by decide)

theorem maskedP_at (q k : FVec Ideal S49152x768 .f32) (n : Fin 128) (b : Fin 4) (h : Fin 12) (j : Fin 64) (c : Fin 192) :
    (maskedP q k (ix5 n b h j c) : EReal) = if nearP (ix3 b j c) = 1#1 then
      ∑ x : Fin 64, queriesP q (ix5 n b j h x) * aroundP (paddedP k) (ix5 n b c h x) else ⊥ := by
  pointwise [maskedP]
  rw [Attn.pick_eq]
  exact congrArg (ite _ _) Attn.negInf

theorem topP_at (s : FVec Ideal S128x4x12x64x192 .f32) (n : Fin 128) (b : Fin 4) (h : Fin 12) (j : Fin 64) :
    (topP s (ix4 n b h j) : EReal) = Finset.univ.sup fun c : Fin 192 => (s (ix5 n b h j c) : EReal) := by
  pointwise [topP]
  rw [Attn.negInf]
  rfl

theorem probsP_at (s : FVec Ideal S128x4x12x64x192 .f32) (l : FVec Ideal S128x4x12x64 .f32) (n : Fin 128) (b : Fin 4) (h : Fin 12) (j : Fin 64) (c : Fin 192) :
    (probsP s l (ix5 n b h j c) : EReal) = Ideal.exp (s (ix5 n b h j c) - l (ix4 n b h j)) := by
  pointwise [probsP]

theorem sumsP_at (p : FVec Ideal S128x4x12x64x192 .f32) (n : Fin 128) (b : Fin 4) (h : Fin 12) (j : Fin 64) :
    (sumsP p (ix4 n b h j) : EReal) = ∑ c : Fin 192, (p (ix5 n b h j c) : EReal) := by
  pointwise [sumsP]

theorem lseP_at (s : FVec Ideal S128x4x12x64x192 .f32) (n : Fin 128) (b : Fin 4) (h : Fin 12) (j : Fin 64) :
    (lseP s (ix4 n b h j) : EReal) = topP s (ix4 n b h j)
      + Ideal.log (∑ c : Fin 192, Ideal.exp (s (ix5 n b h j c) - topP s (ix4 n b h j))) := by
  have e : (sumsP (probsP s (topP s)) (ix4 n b h j) : EReal)
      = ∑ c : Fin 192, Ideal.exp (s (ix5 n b h j c) - topP s (ix4 n b h j)) :=
    (sumsP_at _ n b h j).trans (Finset.sum_congr rfl fun c _ => probsP_at s (topP s) n b h j c)
  rw [← e]
  unfold lseP
  rw [add_at, log_at]

theorem mixP_at (x : FVec Ideal S128x4x192x12x64 .f32) (p : FVec Ideal S128x4x12x64x192 .f32) (n : Fin 128) (b : Fin 4) (h : Fin 12) (d : Fin 64) (j : Fin 64) :
    (mixP x p (ix5 n b h d j) : EReal) = ∑ c : Fin 192, x (ix5 n b c h d) * p (ix5 n b h j c) := by
  pointwise [mixP]

theorem flatP_at (x : FVec Ideal S128x4x12x64x64 .f32) (n : Fin 128) (b : Fin 4) (j : Fin 64) (h : Fin 12) (d : Fin 64)
    (R : Fin 32768) (hR : R.val = n.val / 16 * 4096 + (b.val * 64 + j.val) * 16 + n.val % 16) : (flatP x (ix2 R (colAt h d)) : EReal) = x (ix5 n b h d j) := by
  pointwise [flatP]
  refine congrArg x ?_
  have hc : (colAt h d).val = h.val * 64 + d.val := rfl
  funext a; apply Fin.ext
  match a with
  | ⟨0, _⟩ => dsimp only [ix5]; omega
  | ⟨1, _⟩ => dsimp only [ix5]; omega
  | ⟨2, _⟩ => dsimp only [ix5]; omega
  | ⟨3, _⟩ => dsimp only [ix5]; omega
  | ⟨4, _⟩ => dsimp only [ix5]; omega

theorem lflatP_at (x : FVec Ideal S128x4x12x64 .f32) (n : Fin 128) (b : Fin 4) (j : Fin 64) (h : Fin 12)
    (R : Fin 32768) (hR : R.val = n.val / 16 * 4096 + (b.val * 64 + j.val) * 16 + n.val % 16) : (lflatP x (ix2 R h) : EReal) = x (ix4 n b h j) := by
  pointwise [lflatP]
  refine congrArg x ?_
  funext a; apply Fin.ext
  match a with
  | ⟨0, _⟩ => dsimp only [ix4]; omega
  | ⟨1, _⟩ => dsimp only [ix4]; omega
  | ⟨2, _⟩ => rfl
  | ⟨3, _⟩ => dsimp only [ix4]; omega

/-! ## The sample -/

/-- The rows of one residue after another, as sequences of heads. -/
def seqsS (x : FVec Ideal S49152x768 .f32) : FVec Ideal S16x1024x12x64 .f32 :=
  shapeCast _ (transpose S1x16x1024x12x64 [0, 2, 1, 3, 4] (shapeCast _ (shapeCast _ (extractStridedSlice S16384x768 ![32768, 0] x slices_S49152x768_S16384x768_32768_0) shapeCasts_S16384x768_S1x16384x12x64) shapeCasts_S1x16384x12x64_S1x1024x16x12x64) transposes_S1x1024x16x12x64_S1x16x1024x12x64_0_2_1_3_4) shapeCasts_S1x16x1024x12x64_S16x1024x12x64

/-- The queries in blocks of 64 rows. -/
def queriesS (x : FVec Ideal S49152x768 .f32) : FVec Ideal S16x16x64x12x64 .f32 :=
  shapeCast _ (pad S16x1024x12x64 ![0, 0, 0, 0] ![0, 0, 0, 0] ![0, 0, 0, 0] (seqsS x) (sitofp (F := Ideal) .f32 (constantI S_ 32 0#32)) pads_S16x1024x12x64_S16x1024x12x64_000_000_000_000 h_S_) shapeCasts_S16x1024x12x64_S16x16x64x12x64

/-- The keys or values in blocks of 64 rows, a block of zeros at either end of a sequence. -/
def paddedS (x : FVec Ideal S49152x768 .f32) : FVec Ideal S16x18x64x12x64 .f32 :=
  shapeCast _ (pad S16x1152x12x64 ![0, 64, 0, 0] ![0, 64, 0, 0] ![0, 0, 0, 0] (seqsS x) (sitofp (F := Ideal) .f32 (constantI S_ 32 0#32)) pads_S16x1024x12x64_S16x1152x12x64_000_64640_000_000 h_S_) shapeCasts_S16x1152x12x64_S16x18x64x12x64

/-- The three blocks around each block. -/
def aroundS (vb : FVec Ideal S16x18x64x12x64 .f32) : FVec Ideal S16x16x192x12x64 .f32 :=
  concatenate S16x16x192x12x64 2
    [⟨S16x16x64x12x64, extractStridedSlice S16x16x64x12x64 ![0, 0, 0, 0, 0] vb slices_S16x18x64x12x64_S16x16x64x12x64_0_0_0_0_0⟩,
     ⟨S16x16x64x12x64, extractStridedSlice S16x16x64x12x64 ![0, 1, 0, 0, 0] vb slices_S16x18x64x12x64_S16x16x64x12x64_0_1_0_0_0⟩,
     ⟨S16x16x64x12x64, extractStridedSlice S16x16x64x12x64 ![0, 2, 0, 0, 0] vb slices_S16x18x64x12x64_S16x16x64x12x64_0_2_0_0_0⟩]
    concatenates_S16x16x64x12x64_S16x16x64x12x64_S16x16x64x12x64_S16x16x192x12x64_d2

/-- The key positions of each block. -/
def keyPosS : IVec S16x1x192 32 :=
  subi (addi (broadcastInDim S16x1x192 ![0, 1, 2] bcast_S16x1x1_S16x1x192_0_1_2 (muli (broadcastInDim S16x1x1 ![0] bcast_S16_S16x1x1_0 (iotaInDim S16 32 0)) (broadcastInDim S16x1x1 ![] bcast_S_S16x1x1 (constantI S_ 32 64#32)))) (broadcastInDim S16x1x192 ![0, 1, 2] bcast_S1x1x192_S16x1x192_0_1_2 (broadcastInDim S1x1x192 ![2] bcast_S192_S1x1x192_2 (iotaInDim S192 32 0)))) (broadcastInDim S16x1x192 ![] bcast_S_S16x1x192 (constantI S_ 32 64#32))

/-- The keys each row of a block sees. -/
def nearS : IVec S16x64x192 1 :=
  andi (andi (cmpi .sle (absi (subi (broadcastInDim S16x64x192 ![0, 1, 2] bcast_S16x1x192_S16x64x192_0_1_2 keyPosS) (broadcastInDim S16x64x192 ![0, 1, 2] bcast_S16x64x1_S16x64x192_0_1_2 (addi (broadcastInDim S16x64x1 ![0, 1, 2] bcast_S16x1x1_S16x64x1_0_1_2 (muli (broadcastInDim S16x1x1 ![0] bcast_S16_S16x1x1_0 (iotaInDim S16 32 0)) (broadcastInDim S16x1x1 ![] bcast_S_S16x1x1 (constantI S_ 32 64#32)))) (broadcastInDim S16x64x1 ![0, 1, 2] bcast_S1x64x1_S16x64x1_0_1_2 (broadcastInDim S1x64x1 ![1] bcast_S64_S1x64x1_1 (iotaInDim S64 32 0))))))) (broadcastInDim S16x64x192 ![] bcast_S_S16x64x192 (constantI S_ 32 64#32))) (broadcastInDim S16x64x192 ![0, 1, 2] bcast_S16x1x192_S16x64x192_0_1_2 (cmpi .sge keyPosS (broadcastInDim S16x1x192 ![] bcast_S_S16x1x192 (constantI S_ 32 0#32))))) (broadcastInDim S16x64x192 ![0, 1, 2] bcast_S16x1x192_S16x64x192_0_1_2 (cmpi .slt keyPosS (broadcastInDim S16x1x192 ![] bcast_S_S16x1x192 (constantI S_ 32 1024#32))))

/-- The scores, −∞ off the window. -/
def maskedS (q k : FVec Ideal S49152x768 .f32) : FVec Ideal S16x16x12x64x192 .f32 :=
  select (broadcastInDim S16x16x12x64x192 ![0, 1, 2, 3, 4] bcast_S1x16x1x64x192_S16x16x12x64x192_0_1_2_3_4 (broadcastInDim S1x16x1x64x192 ![1, 3, 4] bcast_S16x64x192_S1x16x1x64x192_1_3_4 nearS))
    (Host.dotGeneral dot_S16x16x64x12x64_S16x16x192x12x64_S16x16x12x64x192_4_4_2_2_013_013 none (queriesS q) (aroundS (paddedS k)))
    (broadcastInDim S16x16x12x64x192 ![] bcast_S_S16x16x12x64x192 (id (constant (F := Ideal) S_ .f32 0xFF800000#32)))

def topS (s : FVec Ideal S16x16x12x64x192 .f32) : FVec Ideal S16x16x12x64 .f32 :=
  Host.reduce FloatOps.maximumf s (constant S_ .f32 0xFF800000#32) reducesTo_S16x16x12x64x192_S16x16x12x64_d4 h_S_

/-- The exponentials of the scores less a number per row. -/
def probsS (s : FVec Ideal S16x16x12x64x192 .f32) (l : FVec Ideal S16x16x12x64 .f32) : FVec Ideal S16x16x12x64x192 .f32 :=
  Host.exp (subf s (broadcastInDim S16x16x12x64x192 ![0, 1, 2, 3, 4] bcast_S16x16x12x64x1_S16x16x12x64x192_0_1_2_3_4
    (broadcastInDim S16x16x12x64x1 ![0, 1, 2, 3] bcast_S16x16x12x64_S16x16x12x64x1_0_1_2_3 l)))

/-- The sums over the keys. -/
def sumsS (p : FVec Ideal S16x16x12x64x192 .f32) : FVec Ideal S16x16x12x64 .f32 :=
  Host.reduceAdd p (constant S_ .f32 0x00000000#32) reducesTo_S16x16x12x64x192_S16x16x12x64_d4 h_S_

/-- The log-sums. -/
def lseS (s : FVec Ideal S16x16x12x64x192 .f32) : FVec Ideal S16x16x12x64 .f32 :=
  addf (topS s) (Host.log (sumsS (probsS s (topS s))))

/-- The values mixed by the normalized weights. -/
def mixS (x : FVec Ideal S16x16x192x12x64 .f32) (p : FVec Ideal S16x16x12x64x192 .f32) : FVec Ideal S16x16x12x64x64 .f32 :=
  Host.dotGeneral dot_S16x16x192x12x64_S16x16x12x64x192_S16x16x12x64x64_2_4_4_3_013_012 none x p

/-- The mixed values as rows. -/
def flatS (x : FVec Ideal S16x16x12x64x64 .f32) : FVec Ideal S16384x768 .f32 :=
  shapeCast _ (shapeCast _ (transpose S1x1024x16x12x64 [0, 2, 1, 3, 4] (shapeCast _ (shapeCast _ (transpose S16x16x64x12x64 [0, 1, 4, 2, 3] x transposes_S16x16x12x64x64_S16x16x64x12x64_0_1_4_2_3) shapeCasts_S16x16x64x12x64_S16x1024x12x64) shapeCasts_S16x1024x12x64_S1x16x1024x12x64) transposes_S1x16x1024x12x64_S1x1024x16x12x64_0_2_1_3_4) shapeCasts_S1x1024x16x12x64_S1x16384x12x64) shapeCasts_S1x16384x12x64_S16384x768

/-- The log-sums as rows. -/
def lflatS (x : FVec Ideal S16x16x12x64 .f32) : FVec Ideal S16384x12 .f32 :=
  shapeCast _ (shapeCast _ (transpose S1x1024x16x12 [0, 2, 1, 3] (shapeCast _ (shapeCast _ (transpose S16x16x64x12 [0, 1, 3, 2] x transposes_S16x16x12x64_S16x16x64x12_0_1_3_2) shapeCasts_S16x16x64x12_S16x1024x12) shapeCasts_S16x1024x12_S1x16x1024x12) transposes_S1x16x1024x12_S1x1024x16x12_0_2_1_3) shapeCasts_S1x1024x16x12_S1x16384x12) shapeCasts_S1x16384x12_S16384x12

theorem queriesS_at (x : FVec Ideal S49152x768 .f32) (n : Fin 16) (b : Fin 16) (j : Fin 64) (h : Fin 12) (d : Fin 64) :
    (queriesS x (ix5 n b j h d) : EReal) = part 16 (n.val) (ent x) (rowAt (2048 + b.val * 64 + j.val)) (colAt h d) := by
  unfold part ent
  rw [rowAt_of (2048 + b.val * 64 + j.val) (by omega), rowAt_of _ (by dsimp only; omega)]
  pointwise [queriesS, seqsS]
  rw [dif_pos (by omega)]
  exact congrArg x (congrArg₂ ix2 (Fin.ext (by dsimp only; omega)) rfl)

theorem paddedS_at (x : FVec Ideal S49152x768 .f32) (n : Fin 16) (b : Fin 18) (j : Fin 64) (h : Fin 12) (d : Fin 64)
    (g : 64 ≤ b.val * 64 + j.val ∧ b.val * 64 + j.val < 1024 + 64) :
    (paddedS x (ix5 n b j h d) : EReal) = part 16 (n.val) (ent x) (rowAt (2048 + (b.val * 64 + j.val) - 64)) (colAt h d) := by
  unfold part ent
  rw [rowAt_of (2048 + (b.val * 64 + j.val) - 64) (by omega), rowAt_of _ (by dsimp only; omega)]
  pointwise [paddedS, seqsS]
  rw [dif_pos (by omega)]
  exact congrArg x (congrArg₂ ix2 (Fin.ext (by dsimp only; omega)) rfl)

theorem aroundS_at (x : FVec Ideal S49152x768 .f32) (n : Fin 16) (b : Fin 16) (c : Fin 192) (h : Fin 12) (d : Fin 64)
    (g : 64 ≤ b.val * 64 + c.val ∧ b.val * 64 + c.val < 1024 + 64) :
    (aroundS (paddedS x) (ix5 n b c h d) : EReal) = part 16 (n.val) (ent x) (rowAt (2048 + (b.val * 64 + c.val) - 64)) (colAt h d) := by
  have key : ∀ (b' : Fin 18) (j' : Fin 64), b'.val * 64 + j'.val = b.val * 64 + c.val →
      (paddedS x (ix5 n b' j' h d) : EReal) = part 16 (n.val) (ent x) (rowAt (2048 + (b.val * 64 + c.val) - 64)) (colAt h d) := by
    intro b' j' e
    rw [paddedS_at x n b' j' h d (by omega), e]
  pointwise [aroundS]
  by_cases h1 : c.val < 64
  · rw [dif_pos h1]
    exact key ⟨b.val, by omega⟩ ⟨c.val, h1⟩ rfl
  · rw [dif_neg h1]
    by_cases h2 : c.val - 64 < 64
    · rw [dif_pos h2]
      exact key ⟨1 + b.val, by omega⟩ ⟨c.val - 64, h2⟩ (by dsimp only; omega)
    · rw [dif_neg h2]
      exact key ⟨2 + b.val, by omega⟩ ⟨c.val - 64 - 64, by omega⟩ (by dsimp only; omega)

theorem nearS_at (b : Fin 16) (j : Fin 64) (c : Fin 192) :
    nearS (ix3 b j c) = 1#1 ↔ (j.val ≤ c.val ∧ c.val ≤ j.val + 128) ∧ 64 ≤ b.val * 64 + c.val ∧ b.val * 64 + c.val < 1024 + 64 := by
  pointwise [nearS, keyPosS]
  exact near_words b.val j.val c.val 1024 (by omega) (by omega) (by omega) (by decide)

theorem maskedS_at (q k : FVec Ideal S49152x768 .f32) (n : Fin 16) (b : Fin 16) (h : Fin 12) (j : Fin 64) (c : Fin 192) :
    (maskedS q k (ix5 n b h j c) : EReal) = if nearS (ix3 b j c) = 1#1 then
      ∑ x : Fin 64, queriesS q (ix5 n b j h x) * aroundS (paddedS k) (ix5 n b c h x) else ⊥ := by
  pointwise [maskedS]
  rw [Attn.pick_eq]
  exact congrArg (ite _ _) Attn.negInf

theorem topS_at (s : FVec Ideal S16x16x12x64x192 .f32) (n : Fin 16) (b : Fin 16) (h : Fin 12) (j : Fin 64) :
    (topS s (ix4 n b h j) : EReal) = Finset.univ.sup fun c : Fin 192 => (s (ix5 n b h j c) : EReal) := by
  pointwise [topS]
  rw [Attn.negInf]
  rfl

theorem probsS_at (s : FVec Ideal S16x16x12x64x192 .f32) (l : FVec Ideal S16x16x12x64 .f32) (n : Fin 16) (b : Fin 16) (h : Fin 12) (j : Fin 64) (c : Fin 192) :
    (probsS s l (ix5 n b h j c) : EReal) = Ideal.exp (s (ix5 n b h j c) - l (ix4 n b h j)) := by
  pointwise [probsS]

theorem sumsS_at (p : FVec Ideal S16x16x12x64x192 .f32) (n : Fin 16) (b : Fin 16) (h : Fin 12) (j : Fin 64) :
    (sumsS p (ix4 n b h j) : EReal) = ∑ c : Fin 192, (p (ix5 n b h j c) : EReal) := by
  pointwise [sumsS]

theorem lseS_at (s : FVec Ideal S16x16x12x64x192 .f32) (n : Fin 16) (b : Fin 16) (h : Fin 12) (j : Fin 64) :
    (lseS s (ix4 n b h j) : EReal) = topS s (ix4 n b h j)
      + Ideal.log (∑ c : Fin 192, Ideal.exp (s (ix5 n b h j c) - topS s (ix4 n b h j))) := by
  have e : (sumsS (probsS s (topS s)) (ix4 n b h j) : EReal)
      = ∑ c : Fin 192, Ideal.exp (s (ix5 n b h j c) - topS s (ix4 n b h j)) :=
    (sumsS_at _ n b h j).trans (Finset.sum_congr rfl fun c _ => probsS_at s (topS s) n b h j c)
  rw [← e]
  unfold lseS
  rw [add_at, log_at]

theorem mixS_at (x : FVec Ideal S16x16x192x12x64 .f32) (p : FVec Ideal S16x16x12x64x192 .f32) (n : Fin 16) (b : Fin 16) (h : Fin 12) (d : Fin 64) (j : Fin 64) :
    (mixS x p (ix5 n b h d j) : EReal) = ∑ c : Fin 192, x (ix5 n b c h d) * p (ix5 n b h j c) := by
  pointwise [mixS]

theorem flatS_at (x : FVec Ideal S16x16x12x64x64 .f32) (n : Fin 16) (b : Fin 16) (j : Fin 64) (h : Fin 12) (d : Fin 64)
    (R : Fin 16384) (hR : R.val = (b.val * 64 + j.val) * 16 + n.val) : (flatS x (ix2 R (colAt h d)) : EReal) = x (ix5 n b h d j) := by
  pointwise [flatS]
  refine congrArg x ?_
  have hc : (colAt h d).val = h.val * 64 + d.val := rfl
  funext a; apply Fin.ext
  match a with
  | ⟨0, _⟩ => dsimp only [ix5]; omega
  | ⟨1, _⟩ => dsimp only [ix5]; omega
  | ⟨2, _⟩ => dsimp only [ix5]; omega
  | ⟨3, _⟩ => dsimp only [ix5]; omega
  | ⟨4, _⟩ => dsimp only [ix5]; omega

theorem lflatS_at (x : FVec Ideal S16x16x12x64 .f32) (n : Fin 16) (b : Fin 16) (j : Fin 64) (h : Fin 12)
    (R : Fin 16384) (hR : R.val = (b.val * 64 + j.val) * 16 + n.val) : (lflatS x (ix2 R h) : EReal) = x (ix4 n b h j) := by
  pointwise [lflatS]
  refine congrArg x ?_
  funext a; apply Fin.ext
  match a with
  | ⟨0, _⟩ => dsimp only [ix4]; omega
  | ⟨1, _⟩ => dsimp only [ix4]; omega
  | ⟨2, _⟩ => rfl
  | ⟨3, _⟩ => dsimp only [ix4]; omega

/-! ## All rows -/

/-- The rows of the prompts and of the sample, one after the other. -/
def rows (x : FVec Ideal S32768x768 .f32) (y : FVec Ideal S16384x768 .f32) : FVec Ideal S49152x768 .f32 :=
  concatenate S49152x768 0 [⟨S32768x768, x⟩, ⟨S16384x768, y⟩] concatenates_S32768x768_S16384x768_S49152x768_d0

def lrows (x : FVec Ideal S32768x12 .f32) (y : FVec Ideal S16384x12 .f32) : FVec Ideal S49152x12 .f32 :=
  concatenate S49152x12 0 [⟨S32768x12, x⟩, ⟨S16384x12, y⟩] concatenates_S32768x12_S16384x12_S49152x12_d0

/-- The log-sums in the first 12 of 128 lanes. -/
def lanes (x : FVec Ideal S49152x12 .f32) : FVec Ideal S49152x128 .f32 :=
  pad S49152x128 ![0, 0] ![0, 116] ![0, 0] x (sitofp (F := Ideal) .f32 (constantI S_ 32 0#32)) pads_S49152x12_S49152x128_000_01160 h_S_

/-- The rows of all residues side by side. -/
def side (x : FVec Ideal S49152x768 .f32) : FVec Ideal S3072x12288 .f32 := shapeCast _ x shapeCasts_S49152x768_S3072x12288
def lside (x : FVec Ideal S49152x128 .f32) : FVec Ideal S3072x2048 .f32 := shapeCast _ x shapeCasts_S49152x128_S3072x2048

theorem rows_at (x : FVec Ideal S32768x768 .f32) (y : FVec Ideal S16384x768 .f32) (R : Fin 49152) (e : Fin 768) :
    (rows x y (ix2 R e) : EReal) = if h : R.val < 32768 then x (ix2 ⟨R.val, h⟩ e) else y (ix2 ⟨R.val - 32768, by omega⟩ e) := by
  pointwise [rows]

theorem lrows_at (x : FVec Ideal S32768x12 .f32) (y : FVec Ideal S16384x12 .f32) (R : Fin 49152) (e : Fin 12) :
    (lrows x y (ix2 R e) : EReal) = if h : R.val < 32768 then x (ix2 ⟨R.val, h⟩ e) else y (ix2 ⟨R.val - 32768, by omega⟩ e) := by
  pointwise [lrows]

theorem lanes_at (x : FVec Ideal S49152x12 .f32) (R : Fin 49152) (e : Fin 128) :
    (lanes x (ix2 R e) : EReal) = if h : e.val < 12 then x (ix2 R ⟨e.val, h⟩) else 0 := by
  pointwise [lanes]
  split_ifs with h
  · rfl
  · show (((0#32 : BitVec 32).toInt : ℝ) : EReal) = 0
    simp

theorem side_at (x : FVec Ideal S49152x768 .f32) (I : Fin 3072) (r : Fin 16) (e : Fin 768) :
    (side x (ix2 I (⟨r.val * 768 + e.val, by omega⟩ : Fin 12288)) : EReal) = x (ix2 ⟨I.val * 16 + r.val, by omega⟩ e) := by
  unfold side
  refine shapeCast_apply _ _ _ _ ?_
  rw [Shape.rowMajor_val_two, Shape.rowMajor_val_two]
  show (I.val * 16 + r.val) * 768 + e.val = I.val * 12288 + (r.val * 768 + e.val)
  omega

theorem lside_at (x : FVec Ideal S49152x128 .f32) (I : Fin 3072) (r : Fin 16) (e : Fin 128) :
    (lside x (ix2 I (⟨r.val * 128 + e.val, by omega⟩ : Fin 2048)) : EReal) = x (ix2 ⟨I.val * 16 + r.val, by omega⟩ e) := by
  unfold lside
  refine shapeCast_apply _ _ _ _ ?_
  rw [Shape.rowMajor_val_two, Shape.rowMajor_val_two]
  show (I.val * 16 + r.val) * 128 + e.val = I.val * 2048 + (r.val * 128 + e.val)
  omega

end Cert.AttnRefD16

end
-- ==== Proof.AttnRefD16Value.lean ====
/-
  The reference's two results for dilation 16 at one index: the log-sum and the mean over the row's window.
-/
module

public import proofs.«01_k».proof.Proof.AttnRefD16

@[expose] public section

set_option maxRecDepth 16384

noncomputable section

namespace Cert.AttnRefD16

open Idealize.ShloMosaic Idealize.ShloMosaic.TcCoe Idealize.SL.Sem
open Cert.Reference6Ideal Cert.Reference6Ideal.Gen
open Cert.Attn (rowAt colAt dotHead lseOf meanOf Holds vwin)
open Cert.AttnDil

variable (q k v : FVec Ideal S49152x768 .f32)

theorem boundsP (n : Fin 128) (b : Fin 4) (j : Fin 64) :
    lowOf 2048 256 (n.val / 16 * 256 + b.val * 64 + j.val) = n.val / 16 * 256 ∧ highOf 2048 256 3072 (n.val / 16 * 256 + b.val * 64 + j.val) = n.val / 16 * 256 + 256 := by
  unfold lowOf highOf
  rw [if_pos (by omega), if_pos (by omega)]
  omega

/-- A row's masked scores are its window's, from column `j` on. -/
theorem holdsP (n : Fin 128) (b : Fin 4) (h : Fin 12) (j : Fin 64) :
    Holds (fun c : Fin 192 => (maskedP q k (ix5 n b h j c) : EReal)) (win 2048 256 3072 (part 16 (n.val % 16) (ent q)) (part 16 (n.val % 16) (ent k)) (n.val / 16 * 256 + b.val * 64 + j.val) h) j.val where
  fits := by omega
  inside := by
    intro c d e
    have hb := boundsP n b j
    rw [maskedP_at, win, hb.1, hb.2]
    by_cases g : 64 ≤ b.val * 64 + c.val ∧ b.val * 64 + c.val < 256 + 64
    · rw [if_pos ((nearP_at b j c).mpr ⟨by omega, g⟩), if_pos (by omega)]
      unfold dotHead
      refine Finset.sum_congr rfl fun x _ => ?_
      rw [queriesP_at, aroundP_at _ n b c h x g,
        show n.val / 16 * 256 + b.val * 64 + j.val + d.val - 64 = n.val / 16 * 256 + (b.val * 64 + c.val) - 64 by omega]
    · rw [if_neg (fun hn => g ((nearP_at b j c).mp hn).2), if_neg (by omega)]
  outside := by
    intro c hc
    rw [maskedP_at, if_neg (fun hn => by have := ((nearP_at b j c).mp hn).1; omega)]

theorem lseP_eq (n : Fin 128) (b : Fin 4) (h : Fin 12) (j : Fin 64) :
    (lseP (maskedP q k) (ix4 n b h j) : EReal) = lseOf (win 2048 256 3072 (part 16 (n.val % 16) (ent q)) (part 16 (n.val % 16) (ent k)) (n.val / 16 * 256 + b.val * 64 + j.val) h) := by
  rw [lseP_at, topP_at]
  exact (holdsP q k n b h j).lse_eq

theorem outP_eq (hq : ∀ R e, ∃ r : ℝ, ent q R e = r) (hk : ∀ R e, ∃ r : ℝ, ent k R e = r)
    (n : Fin 128) (b : Fin 4) (h : Fin 12) (j d : Fin 64) :
    (mixP (aroundP (paddedP v)) (probsP (maskedP q k) (lseP (maskedP q k))) (ix5 n b h d j) : EReal)
      = meanOf (win 2048 256 3072 (part 16 (n.val % 16) (ent q)) (part 16 (n.val % 16) (ent k)) (n.val / 16 * 256 + b.val * 64 + j.val) h)
        (vwin (part 16 (n.val % 16) (ent v)) (n.val / 16 * 256 + b.val * 64 + j.val) (colAt h d)) := by
  have hb := boundsP n b j
  rw [mixP_at, ← mean_win (P := 2048) (L := 256) (T := 3072) (by decide) (part_real hq) (part_real hk) _ (by omega) h (colAt h d),
    ← (holdsP q k n b h j).sum_mul _ (fun c => (aroundP (paddedP v) (ix5 n b c h d) : EReal)) _ ?_]
  · refine Finset.sum_congr rfl fun c _ => ?_
    rw [mul_comm, probsP_at, lseP_eq]
  · intro c d' e
    by_cases g : 64 ≤ b.val * 64 + c.val ∧ b.val * 64 + c.val < 256 + 64
    · right
      rw [aroundP_at _ n b c h d g, vwin,
        show n.val / 16 * 256 + b.val * 64 + j.val + d'.val - 64 = n.val / 16 * 256 + (b.val * 64 + c.val) - 64 by omega]
    · left
      rw [win, hb.1, hb.2, if_neg (by omega)]

theorem boundsS (b : Fin 16) (j : Fin 64) :
    lowOf 2048 256 (2048 + b.val * 64 + j.val) = 2048 ∧ highOf 2048 256 3072 (2048 + b.val * 64 + j.val) = 2048 + 1024 := by
  unfold lowOf highOf
  rw [if_neg (by omega), if_neg (by omega)]
  omega

/-- A row's masked scores are its window's, from column `j` on. -/
theorem holdsS (n : Fin 16) (b : Fin 16) (h : Fin 12) (j : Fin 64) :
    Holds (fun c : Fin 192 => (maskedS q k (ix5 n b h j c) : EReal)) (win 2048 256 3072 (part 16 (n.val) (ent q)) (part 16 (n.val) (ent k)) (2048 + b.val * 64 + j.val) h) j.val where
  fits := by omega
  inside := by
    intro c d e
    have hb := boundsS b j
    rw [maskedS_at, win, hb.1, hb.2]
    by_cases g : 64 ≤ b.val * 64 + c.val ∧ b.val * 64 + c.val < 1024 + 64
    · rw [if_pos ((nearS_at b j c).mpr ⟨by omega, g⟩), if_pos (by omega)]
      unfold dotHead
      refine Finset.sum_congr rfl fun x _ => ?_
      rw [queriesS_at, aroundS_at _ n b c h x g,
        show 2048 + b.val * 64 + j.val + d.val - 64 = 2048 + (b.val * 64 + c.val) - 64 by omega]
    · rw [if_neg (fun hn => g ((nearS_at b j c).mp hn).2), if_neg (by omega)]
  outside := by
    intro c hc
    rw [maskedS_at, if_neg (fun hn => by have := ((nearS_at b j c).mp hn).1; omega)]

theorem lseS_eq (n : Fin 16) (b : Fin 16) (h : Fin 12) (j : Fin 64) :
    (lseS (maskedS q k) (ix4 n b h j) : EReal) = lseOf (win 2048 256 3072 (part 16 (n.val) (ent q)) (part 16 (n.val) (ent k)) (2048 + b.val * 64 + j.val) h) := by
  rw [lseS_at, topS_at]
  exact (holdsS q k n b h j).lse_eq

theorem outS_eq (hq : ∀ R e, ∃ r : ℝ, ent q R e = r) (hk : ∀ R e, ∃ r : ℝ, ent k R e = r)
    (n : Fin 16) (b : Fin 16) (h : Fin 12) (j d : Fin 64) :
    (mixS (aroundS (paddedS v)) (probsS (maskedS q k) (lseS (maskedS q k))) (ix5 n b h d j) : EReal)
      = meanOf (win 2048 256 3072 (part 16 (n.val) (ent q)) (part 16 (n.val) (ent k)) (2048 + b.val * 64 + j.val) h)
        (vwin (part 16 (n.val) (ent v)) (2048 + b.val * 64 + j.val) (colAt h d)) := by
  have hb := boundsS b j
  rw [mixS_at, ← mean_win (P := 2048) (L := 256) (T := 3072) (by decide) (part_real hq) (part_real hk) _ (by omega) h (colAt h d),
    ← (holdsS q k n b h j).sum_mul _ (fun c => (aroundS (paddedS v) (ix5 n b c h d) : EReal)) _ ?_]
  · refine Finset.sum_congr rfl fun c _ => ?_
    rw [mul_comm, probsS_at, lseS_eq]
  · intro c d' e
    by_cases g : 64 ≤ b.val * 64 + c.val ∧ b.val * 64 + c.val < 1024 + 64
    · right
      rw [aroundS_at _ n b c h d g, vwin,
        show 2048 + b.val * 64 + j.val + d'.val - 64 = 2048 + (b.val * 64 + c.val) - 64 by omega]
    · left
      rw [win, hb.1, hb.2, if_neg (by omega)]

/-- The reference's first result. -/
def outs : FVec Ideal S3072x12288 .f32 :=
  side (rows (flatP (mixP (aroundP (paddedP v)) (probsP (maskedP q k) (lseP (maskedP q k)))))
    (flatS (mixS (aroundS (paddedS v)) (probsS (maskedS q k) (lseS (maskedS q k))))))

/-- The reference's second result. -/
def lses : FVec Ideal S3072x2048 .f32 := lside (lanes (lrows (lflatP (lseP (maskedP q k))) (lflatS (lseS (maskedS q k)))))

theorem outs_at (hq : ∀ R e, ∃ r : ℝ, ent q R e = r) (hk : ∀ R e, ∃ r : ℝ, ent k R e = r)
    (I : Fin 3072) (r : Fin 16) (h : Fin 12) (d : Fin 64) :
    (outs q k v (ix2 I (⟨r.val * 768 + (colAt h d).val, by omega⟩ : Fin 12288)) : EReal)
      = meanOf (win 2048 256 3072 (part 16 r.val (ent q)) (part 16 r.val (ent k)) I.val h) (vwin (part 16 r.val (ent v)) I.val (colAt h d)) := by
  unfold outs
  rw [side_at, rows_at]
  have hI := I.isLt
  have hr := r.isLt
  dsimp only
  split_ifs with hp
  · rw [flatP_at _ ⟨I.val / 256 * 16 + r.val, by omega⟩ ⟨I.val % 256 / 64, by omega⟩ ⟨I.val % 64, by omega⟩ h d ⟨I.val * 16 + r.val, hp⟩ (by dsimp only; omega),
      outP_eq q k v hq hk]
    rw [show (⟨I.val / 256 * 16 + r.val, by omega⟩ : Fin 128).val % 16 = r.val by dsimp only; omega,
      show (⟨I.val / 256 * 16 + r.val, by omega⟩ : Fin 128).val / 16 * 256 + (⟨I.val % 256 / 64, by omega⟩ : Fin 4).val * 64
        + (⟨I.val % 64, by omega⟩ : Fin 64).val = I.val by dsimp only; omega]
  · rw [flatS_at _ ⟨r.val, by omega⟩ ⟨(I.val - 2048) / 64, by omega⟩ ⟨I.val % 64, by omega⟩ h d ⟨I.val * 16 + r.val - 32768, by omega⟩ (by dsimp only; omega),
      outS_eq q k v hq hk]
    rw [show 2048 + (⟨(I.val - 2048) / 64, by omega⟩ : Fin 16).val * 64
        + (⟨I.val % 64, by omega⟩ : Fin 64).val = I.val by dsimp only; omega]

theorem lses_at (I : Fin 3072) (r : Fin 16) (e : Fin 128) :
    (lses q k (ix2 I (⟨r.val * 128 + e.val, by omega⟩ : Fin 2048)) : EReal)
      = if h : e.val < 12 then lseOf (win 2048 256 3072 (part 16 r.val (ent q)) (part 16 r.val (ent k)) I.val ⟨e.val, h⟩) else 0 := by
  unfold lses
  rw [lside_at, lanes_at]
  have hI := I.isLt
  have hr := r.isLt
  by_cases he : e.val < 12
  · rw [dif_pos he, dif_pos he, lrows_at]
    dsimp only
    split_ifs with hp
    · rw [lflatP_at _ ⟨I.val / 256 * 16 + r.val, by omega⟩ ⟨I.val % 256 / 64, by omega⟩ ⟨I.val % 64, by omega⟩ ⟨e.val, he⟩ ⟨I.val * 16 + r.val, hp⟩ (by dsimp only; omega),
        lseP_eq]
      rw [show (⟨I.val / 256 * 16 + r.val, by omega⟩ : Fin 128).val % 16 = r.val by dsimp only; omega,
      show (⟨I.val / 256 * 16 + r.val, by omega⟩ : Fin 128).val / 16 * 256 + (⟨I.val % 256 / 64, by omega⟩ : Fin 4).val * 64
        + (⟨I.val % 64, by omega⟩ : Fin 64).val = I.val by dsimp only; omega]
    · rw [lflatS_at _ ⟨r.val, by omega⟩ ⟨(I.val - 2048) / 64, by omega⟩ ⟨I.val % 64, by omega⟩ ⟨e.val, he⟩ ⟨I.val * 16 + r.val - 32768, by omega⟩ (by dsimp only; omega),
        lseS_eq]
      rw [show 2048 + (⟨(I.val - 2048) / 64, by omega⟩ : Fin 16).val * 64
        + (⟨I.val % 64, by omega⟩ : Fin 64).val = I.val by dsimp only; omega]
  · rw [dif_neg he, dif_neg he]

/-! ## The program's results are these -/

variable (m : (ℓ : Loc nD τ sig) → Buf (Elt Ideal) ℓ) (c : Dev nD)

/-- The arguments, read as 32-bit floats. -/
def argQ : FVec Ideal S49152x768 .f32 := extf .f32 (m ((c.tc : Thread nD τ).loc main_arg0) : FVec Ideal S49152x768 .bf16) bitsLt_bf16_f32
def argK : FVec Ideal S49152x768 .f32 := extf .f32 (m ((c.tc : Thread nD τ).loc main_arg1) : FVec Ideal S49152x768 .bf16) bitsLt_bf16_f32
def argV : FVec Ideal S49152x768 .f32 := extf .f32 (m ((c.tc : Thread nD τ).loc main_arg2) : FVec Ideal S49152x768 .bf16) bitsLt_bf16_f32

theorem run_forms (ρ : Dev nD → PrngReg) :
    θ_run defs (onTc (τ := τ) (main (F := Ideal))) ⟨m, fun _ => 0, ρ⟩ fun r => ∀ c : Dev nD,
      r.2.mem ((c.tc : Thread nD τ).loc main_v188) = outs (argQ m c) (argK m c) (argV m c)
      ∧ r.2.mem ((c.tc : Thread nD τ).loc main_v189) = lses (argQ m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2.1.trans rfl, (h c).2.2⟩) (Value.run (F := Ideal) m ρ)

end Cert.AttnRefD16

end
-- ==== Proof.AttnD16Claim.lean ====
/-
  The claims of the attention call of dilation 16: every program runs and leaves its arguments, and the kernel's two results
  are the reference's where queries and keys are real numbers.
-/
module

public import proofs.«01_k».proof.Defs
public import proofs.«01_k».proof.Proof.AttnClaim
public import proofs.«01_k».proof.Proof.AttnD16Value
public import proofs.«01_k».proof.Proof.AttnRefD16Value
public import proofs.«01_k».proof.Proof.Gen.Kernel6.Frame

@[expose] public section

noncomputable section

namespace Cert.AttnD16

open Idealize.ShloMosaic Idealize.ShloMosaic.TcCoe Idealize.SL.Sem
open Cert.Attn (colAt posInf real_of_abs_lt)

theorem kernel_frame : quiescent_Kernel6 (hKernel6 := Cert.Kernel6.Gen.facts) := fun m ρ _ => Cert.Kernel6.Gen.frame m ρ
theorem ideal_frame : quiescent_Kernel6Ideal (hKernel6Ideal := Cert.Kernel6Ideal.Gen.facts) := fun m ρ _ => Cert.Kernel6Ideal.Gen.frame m ρ
theorem ideal_frame_pre : quiescent_Kernel6Ideal_pre_finite (hKernel6Ideal := Cert.Kernel6Ideal.Gen.facts)
    (hPre_finite := Cert.Pre_finite.Gen.facts) := fun m ρ _ => Cert.Kernel6Ideal.Gen.frame m ρ
theorem ref_frame : quiescent_Reference6Ideal (hReference6Ideal := Cert.Reference6Ideal.Gen.facts) := fun m ρ _ =>
  (θ_run _ _ _).mono (fun r h => ⟨fun c => (h c).2.2, Idealize.ShloMosaic.sem_eq_zero_of_no_sems (by decide) r.2⟩)
    (Cert.Reference6Ideal.Value.run (F := Ideal) m ρ)
theorem ref_frame_pre : quiescent_Reference6Ideal_pre_finite (hReference6Ideal := Cert.Reference6Ideal.Gen.facts)
    (hPre_finite := Cert.Pre_finite.Gen.facts) := fun m ρ _ => ref_frame m ρ trivial

theorem preserved : preserves_Kernel6_Kernel6Ideal :=
  IdealRules.named_const.statement Cert.Kernel6Ideal.κ "mask" .f32 0xF149F2CA#32 ⊥ rfl

section
variable {m : (ℓ : Loc Cert.Kernel6Ideal.nD Cert.Kernel6Ideal.τ Cert.Kernel6Ideal.sig) → Buf (Elt Ideal) ℓ}

theorem real_queries (h : Pre_Kernel6Ideal_finite (hPre_finite := Cert.Pre_finite.Gen.facts) m) (c : Dev 1) (R : Fin 49152)
    (e : Fin 768) : ∃ r : ℝ, ent (argQ m c) R e = r := by
  have e1 := congrFun (h c).1 (ix2 R e)
  refine real_of_abs_lt _ (Eq.trans ?_ e1)
  rw [← posInf]
  rfl

theorem real_keys (h : Pre_Kernel6Ideal_finite (hPre_finite := Cert.Pre_finite.Gen.facts) m) (c : Dev 1) (R : Fin 49152)
    (e : Fin 768) : ∃ r : ℝ, ent (argK m c) R e = r := by
  have e1 := congrFun (h c).2 (ix2 R e)
  refine real_of_abs_lt _ (Eq.trans ?_ e1)
  rw [← posInf]
  rfl

/-! ## The results are the reference's -/

variable {m' : (ℓ : Loc Cert.Reference6Ideal.nD Cert.Reference6Ideal.τ Cert.Reference6Ideal.sig) → Buf (Elt Ideal) ℓ}

theorem outs_eq (h : Pre_Kernel6Ideal_finite (hPre_finite := Cert.Pre_finite.Gen.facts) m) (c : Dev 1)
    (hq : Cert.AttnRefD16.ent (Cert.AttnRefD16.argQ m' c) = ent (argQ m c)) (hk : Cert.AttnRefD16.ent (Cert.AttnRefD16.argK m' c) = ent (argK m c))
    (hv : Cert.AttnRefD16.ent (Cert.AttnRefD16.argV m' c) = ent (argV m c)) :
    (Cert.AttnRefD16.outs (Cert.AttnRefD16.argQ m' c) (Cert.AttnRefD16.argK m' c) (Cert.AttnRefD16.argV m' c) : FVec Ideal ⟨2, ![3072, 12288]⟩ .f32)
      = (Cert.Kernel6Ideal.Gen.dats m 0 c).arrAt 7 Cert.Kernel6Ideal.cfg0.N := by
  funext i
  have h1 : (i 1).val < 12288 := (i 1).isLt
  have e : (i 1 : Fin 12288) = wideO ⟨(i 1).val / 768, by omega⟩ (colAt ⟨(i 1).val % 768 / 64, by omega⟩ ⟨(i 1).val % 64, by omega⟩) :=
    Fin.ext (by show (i 1).val = (i 1).val / 768 * 768 + ((i 1).val % 768 / 64 * 64 + (i 1).val % 64); omega)
  rw [show i = ix2 (i 0 : Fin 3072) (i 1 : Fin 12288) from eq_ix2 i, e]
  refine (Cert.AttnRefD16.outs_at _ _ _ (fun R e => ?_) (fun R e => ?_) (i 0) _ _ _).trans ?_
  · rw [hq]; exact real_queries h c R e
  · rw [hk]; exact real_keys h c R e
  · rw [hq, hk, hv]
    exact (out_at m c (i 0) _ _ _).symm

theorem lses_eq (c : Dev 1)
    (hq : Cert.AttnRefD16.ent (Cert.AttnRefD16.argQ m' c) = ent (argQ m c)) (hk : Cert.AttnRefD16.ent (Cert.AttnRefD16.argK m' c) = ent (argK m c)) :
    (Cert.AttnRefD16.lses (Cert.AttnRefD16.argQ m' c) (Cert.AttnRefD16.argK m' c) : FVec Ideal ⟨2, ![3072, 2048]⟩ .f32)
      = (Cert.Kernel6Ideal.Gen.dats m 0 c).arrAt 8 Cert.Kernel6Ideal.cfg0.N := by
  funext i
  have h1 : (i 1).val < 2048 := (i 1).isLt
  have e : (i 1 : Fin 2048) = wideL ⟨(i 1).val / 128, by omega⟩ ⟨(i 1).val % 128, by omega⟩ :=
    Fin.ext (by show (i 1).val = (i 1).val / 128 * 128 + (i 1).val % 128; omega)
  rw [show i = ix2 (i 0 : Fin 3072) (i 1 : Fin 2048) from eq_ix2 i, e]
  refine (Cert.AttnRefD16.lses_at _ _ (i 0) _ _).trans ?_
  rw [hq, hk]
  exact (lse_at m c (i 0) _ _).symm
end

theorem value : algebraic_Kernel6Ideal_Reference6Ideal_pre_finite (hKernel6Ideal := Cert.Kernel6Ideal.Gen.facts)
    (hReference6Ideal := Cert.Reference6Ideal.Gen.facts) (hPre_finite := Cert.Pre_finite.Gen.facts) := by
  intro m ρ m' ρ' hpre hagree
  refine ⟨fun c => (Cert.Kernel6Ideal.Gen.dats m 0 c).arrAt 7 Cert.Kernel6Ideal.cfg0.N,
    fun c => (Cert.Kernel6Ideal.Gen.dats m 0 c).arrAt 8 Cert.Kernel6Ideal.cfg0.N,
    Cert.Kernel6Ideal.Value.run_blocks (F := Ideal) m ρ, ?_⟩
  refine (θ_run _ _ _).mono (fun r h c => ?_) (Cert.AttnRefD16.run_forms m' ρ')
  obtain ⟨a0, a1, a2⟩ := hagree c
  have hq : Cert.AttnRefD16.ent (Cert.AttnRefD16.argQ m' c) = ent (argQ m c) := by
    funext R e
    exact congrFun a0 (ix2 R e)
  have hk : Cert.AttnRefD16.ent (Cert.AttnRefD16.argK m' c) = ent (argK m c) := by
    funext R e
    exact congrFun a1 (ix2 R e)
  have hv : Cert.AttnRefD16.ent (Cert.AttnRefD16.argV m' c) = ent (argV m c) := by
    funext R e
    exact congrFun a2 (ix2 R e)
  exact ⟨(h c).1.trans (outs_eq hpre c hq hk hv), (h c).2.1.trans (lses_eq c hq hk), (h c).2.2⟩

end Cert.AttnD16

end
-- ==== Proof.FfnCases.lean ====
/-
  The feed-forward kernel, one grid point at a time: what its body leaves in the two scratch buffers and in the output's
  staging buffer, in each of the three cases (first, middle and last block of hidden columns of a row block).
-/
module

public import proofs.«01_k».proof.Proof.Gen.Kernel2Ideal.Value
public import Idealize.ShloMosaic.Lib.Pipeline.Value
public import Idealize.ShloMosaic.Lib.Tactic

@[expose] public section

set_option maxRecDepth 16384

noncomputable section

namespace Cert.Ffn

open Idealize.ShloMosaic Idealize.ShloMosaic.TcCoe Idealize.SL.Sem
open Cert.Kernel2Ideal Cert.Kernel2Ideal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

section
variable (c : Dev nD) (i : grid0.Coords)
  (a2 : Memref sig .tc .vmem S512x2048 .f32) (h2 : a2.IsWhole) (a3 : Memref sig .tc .vmem S1x2048x512 .bf16) (h3 : a3.IsWhole)
  (a4 : Memref sig .tc .vmem S1x2048x512 .bf16) (h4 : a4.IsWhole) (a5 : Memref sig .tc .vmem S1x512x2048 .bf16) (h5 : a5.IsWhole)
  (a6 : Memref sig .tc .vmem S1x1x2048 .f32) (h6 : a6.IsWhole) (a7 : Memref sig .tc .vmem S1x1x2048 .f32) (h7 : a7.IsWhole)
  (a8 : Memref sig .tc .vmem S512x2048 .f32) (h8 : a8.IsWhole) (a9 : Memref sig .tc .vmem S512x2048 .bf16) (h9 : a9.IsWhole)
  (a10 : Memref sig .tc .vmem S512x2048 .f32) (h10 : a10.IsWhole)
  (x : Vec F S512x2048 .f32) (wg wu : Vec F S1x2048x512 .bf16) (wd : Vec F S1x512x2048 .bf16) (g b : Vec F S1x1x2048 .f32)

/-- First block: the rounded copy of the row block is kept in the first scratch buffer. -/
theorem first_copy (hc0 : cond0_0 i) (hc1 : ¬cond0_1 i) :
    sout0_A_0 c i a2 h2 a3 h3 a4 h4 a5 h5 a6 h6 a7 h7 a8 h8 a9 h9 a10 h10 hc0 hc1 x wg wu wd g b = k0_pay1 x := by
  unfold sout0_A_0
  rw [View.read_writes_eq_canon _ _ _ (scover0_A_0 c i a2 h2 a3 h3 a4 h4 a5 h5 a6 h6 a7 h7 a8 h8 a9 h9 a10 h10 hc0 hc1 x wg wu wd g b)]
  unfold kernelRun0_A
  dsimp only
  sl_unfold_words
  rw [View.canon_unit_zero off2]
  simp only [View.readAt_eq_ld, h2.read_unread, View.ld_unit_zero (S := S512x2048) off2]

/-- First block: the accumulator holds the first partial product, added to zero. -/
theorem first_acc (hc0 : cond0_0 i) (hc1 : ¬cond0_1 i) :
    sout0_A_1 c i a2 h2 a3 h3 a4 h4 a5 h5 a6 h6 a7 h7 a8 h8 a9 h9 a10 h10 hc0 hc1 x wg wu wd g b
      = k0_pay3 (k0_pay1 x) wg wu k0_pay2 wd := by
  unfold sout0_A_1
  rw [View.read_writes_eq_canon _ _ _ (scover0_A_1 c i a2 h2 a3 h3 a4 h4 a5 h5 a6 h6 a7 h7 a8 h8 a9 h9 a10 h10 hc0 hc1 x wg wu wd g b)]
  unfold kernelRun0_A
  dsimp only
  sl_unfold_words
  rw [View.canon_cons_unit_zero (S := S512x2048) off2]
  simp only [View.readAt_eq_ld, h2.read_unread, h3.read_unread, h4.read_unread, h5.read_unread,
    View.readCov_unit_zero (S := S512x2048) _ off2, View.ld_unit_zero (S := S512x2048) off2,
    View.ld_unit_zero (S := S1x2048x512) off3, View.ld_unit_zero (S := S1x512x2048) off3]

/-- Middle block: the accumulator gains this block's partial product. -/
theorem mid_acc (hc0 : ¬cond0_0 i) (hc1 : ¬cond0_1 i) (xb : Vec F S512x2048 .bf16) (acc : Vec F S512x2048 .f32) :
    sout0_B_1 c i a2 h2 a3 h3 a4 h4 a5 h5 a6 h6 a7 h7 a8 h8 a9 h9 a10 h10 hc0 hc1 x wg wu wd g b xb acc
      = k0_pay3 xb wg wu acc wd := by
  unfold sout0_B_1
  rw [View.read_writes_eq_canon _ _ _ (scover0_B_1 c i a2 h2 a3 h3 a4 h4 a5 h5 a6 h6 a7 h7 a8 h8 a9 h9 a10 h10 hc0 hc1 x wg wu wd g b xb acc)]
  unfold kernelRun0_B
  dsimp only
  sl_unfold_words
  rw [View.canon_unit_zero off2]
  simp only [View.readAt_eq_ld, h3.read_unread, h4.read_unread, h5.read_unread, h9.read_unread, h10.read_unread,
    View.ld_unit_zero (S := S512x2048) off2, View.ld_unit_zero (S := S1x2048x512) off3, View.ld_unit_zero (S := S1x512x2048) off3]

/-- Last block: the accumulator gains the last partial product. -/
theorem last_acc (hc0 : ¬cond0_0 i) (hc1 : cond0_1 i) (xb : Vec F S512x2048 .bf16) (acc : Vec F S512x2048 .f32) :
    sout0_C_1 c i a2 h2 a3 h3 a4 h4 a5 h5 a6 h6 a7 h7 a8 h8 a9 h9 a10 h10 hc0 hc1 x wg wu wd g b xb acc
      = k0_pay3 xb wg wu acc wd := by
  unfold sout0_C_1
  rw [View.read_writes_eq_canon _ _ _ (scover0_C_1 c i a2 h2 a3 h3 a4 h4 a5 h5 a6 h6 a7 h7 a8 h8 a9 h9 a10 h10 hc0 hc1 x wg wu wd g b xb acc)]
  unfold kernelRun0_C
  dsimp only
  sl_unfold_words
  rw [View.canon_unit_zero off2]
  simp only [View.readAt_eq_ld, h3.read_unread, h4.read_unread, h5.read_unread, h9.read_unread, h10.read_unread,
    View.ld_unit_zero (S := S512x2048) off2, View.ld_unit_zero (S := S1x2048x512) off3, View.ld_unit_zero (S := S1x512x2048) off3]

/-- Last block: the output block is the residual and layer norm of the finished accumulator. -/
theorem last_out (hc0 : ¬cond0_0 i) (hc1 : cond0_1 i) (xb : Vec F S512x2048 .bf16) (acc : Vec F S512x2048 .f32) :
    out0_C_6 c i a2 h2 a3 h3 a4 h4 a5 h5 a6 h6 a7 h7 a8 h8 a9 h9 a10 h10 hc0 hc1 x wg wu wd g b xb acc
      = k0_pay4 x (k0_pay3 xb wg wu acc wd) g b := by
  unfold out0_C_6
  rw [View.read_writes_eq_canon _ _ _ (cover0_C_6 c i a2 h2 a3 h3 a4 h4 a5 h5 a6 h6 a7 h7 a8 h8 a9 h9 a10 h10 hc0 hc1 x wg wu wd g b xb acc)]
  unfold kernelRun0_C
  dsimp only
  sl_unfold_words
  rw [View.canon_unit_zero off2]
  simp only [View.readAt_eq_ld, h2.read_unread, h3.read_unread, h4.read_unread, h5.read_unread, h6.read_unread, h7.read_unread,
    h9.read_unread, h10.read_unread, View.readCov_unit_zero (S := S512x2048) _ off2,
    View.ld_unit_zero (S := S512x2048) off2, View.ld_unit_zero (S := S1x2048x512) off3,
    View.ld_unit_zero (S := S1x512x2048) off3, View.ld_unit_zero (S := S1x1x2048) off3]
end

end Cert.Ffn

end
-- ==== Proof.FfnPoint.lean ====
/-
  The feed-forward kernel's payloads over the extended reals, read at one index.
-/
module

public import proofs.«01_k».proof.Proof.FfnCases
public import Idealize.ShloMosaic.Lib.Pointwise

@[expose] public section

set_option maxRecDepth 16384

noncomputable section

namespace Cert.Ffn

open Idealize.ShloMosaic Idealize.ShloMosaic.TcCoe Idealize.SL.Sem
open Cert.Kernel2Ideal Cert.Kernel2Ideal.Gen

/-- Gate times up: `silu(s) * u`. -/
def gated (s u : EReal) : EReal := s * Ideal.logistic s * u

/-- Layer norm of a row of 2048 entries, at column `d`, with scale `g` and shift `b`. -/
def rowNorm (y : Fin 2048 → EReal) (g b : EReal) (d : Fin 2048) : EReal :=
  let n : EReal := Ideal.ofBits .f32 0x45000000#32
  let mu := Ideal.div (∑ k, y k) n
  let var := Ideal.div (∑ k, (y k - mu) * (y k - mu)) n
  (y d - mu) * Ideal.rsqrt (var + Ideal.ofBits .f32 0x3727C5AC#32) * g + b

theorem pay1_at (x : FVec Ideal S512x2048 .f32) (r : Fin 512) (k : Fin 2048) :
    (k0_pay1 (F := Ideal) x (ix2 r k) : EReal) = x (ix2 r k) := by
  pointwise [k0_pay1]

theorem pay2_at (r : Fin 512) (k : Fin 2048) : k0_pay2 (F := Ideal) (ix2 r k) = 0 := by
  pointwise [k0_pay2]

theorem pay3_at (xb : FVec Ideal S512x2048 .bf16) (wg wu : FVec Ideal S1x2048x512 .bf16) (acc : FVec Ideal S512x2048 .f32)
    (wd : FVec Ideal S1x512x2048 .bf16) (r : Fin 512) (d : Fin 2048) :
    (k0_pay3 (F := Ideal) xb wg wu acc wd (ix2 r d) : EReal)
      = acc (ix2 r d) + ∑ f : Fin 512, gated (∑ k : Fin 2048, xb (ix2 r k) * wg (ix3 0 k f)) (∑ k : Fin 2048, xb (ix2 r k) * wu (ix3 0 k f))
          * wd (ix3 0 f d) := by
  pointwise [k0_pay3, gated]

theorem pay4_at (x acc : FVec Ideal S512x2048 .f32) (g b : FVec Ideal S1x1x2048 .f32) (r : Fin 512) (d : Fin 2048) :
    (k0_pay4 (F := Ideal) x acc g b (ix2 r d) : EReal)
      = rowNorm (fun k => Ideal.ofBits .f32 0x3FB504F3#32 * x (ix2 r k) + Ideal.ofBits .f32 0x3F000000#32 * acc (ix2 r k))
          (g (ix3 0 0 d)) (b (ix3 0 0 d)) d := by
  pointwise [k0_pay4, rowNorm]

end Cert.Ffn

end
-- ==== Proof.FfnRef.lean ====
/-
  The feed-forward reference over the extended reals, read at one index: layer norm of the scaled input plus half the
  gated product.
-/
module

public import proofs.«01_k».proof.Proof.FfnPoint
public import proofs.«01_k».proof.Proof.Gen.Reference2Ideal.Run
public import Idealize.ShloMosaic.Lib.Tactic.CleanTypes

@[expose] public section

set_option maxRecDepth 16384

noncomputable section

namespace Cert.Ffn

open Idealize.ShloMosaic Idealize.ShloMosaic.TcCoe Idealize.SL.Sem

/-- The pre-norm row of the feed-forward part, at row `r` and column `d`. -/
def ffnRow (x : FVec Ideal ⟨2, ![49152, 2048]⟩ .f32) (wg wu : FVec Ideal ⟨3, ![2, 2048, 5632]⟩ .f32)
    (wd : FVec Ideal ⟨3, ![2, 5632, 2048]⟩ .f32) (r : Fin 49152) (d : Fin 2048) : EReal :=
  Ideal.ofBits .f32 0x3FB504F3#32 * x (ix2 r d) + Ideal.ofBits .f32 0x3F000000#32 *
    ∑ f : Fin 5632, gated (∑ k : Fin 2048, x (ix2 r k) * wg (ix3 0 k f)) (∑ k : Fin 2048, x (ix2 r k) * wu (ix3 0 k f)) * wd (ix3 0 f d)

open Cert.Reference2Ideal Cert.Reference2Ideal.Gen in
theorem ref_at (m : (ℓ : Loc nD τ sig) → Buf (Elt Ideal) ℓ) (c : Dev nD) (r : Fin 49152) (d : Fin 2048) :
    (Value.res_out0 m c (ix2 r d) : EReal)
      = rowNorm (ffnRow (m ((c.tc : Thread nD τ).loc main_arg0)) (m ((c.tc : Thread nD τ).loc main_arg1)) (m ((c.tc : Thread nD τ).loc main_arg2))
          (m ((c.tc : Thread nD τ).loc main_arg3)) r) (m ((c.tc : Thread nD τ).loc main_arg4) (ix2 0 d)) (m ((c.tc : Thread nD τ).loc main_arg5) (ix2 0 d)) d := by
  show (Value.res_main_v43 m c (ix2 r d) : EReal) = _
  unfold Value.res_main_v43
  clean_types
  pointwise [rowNorm, ffnRow, gated, Ideal.logistic]

end Cert.Ffn

end
-- ==== Proof.FfnBlock.lean ====
/-
  The feed-forward kernel's input blocks at a grid point, as entries of the arguments; the accumulator after each point
  of a row block; the result at one index.
-/
module

public import proofs.«01_k».proof.Proof.FfnRef

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

abbrev argX : FVec Ideal ⟨2, ![49152, 2048]⟩ .f32 := m ((c.tc : Thread nD τ).loc main_arg0)
abbrev argG : FVec Ideal ⟨3, ![2, 2048, 5632]⟩ .f32 := m ((c.tc : Thread nD τ).loc main_arg1)
abbrev argU : FVec Ideal ⟨3, ![2, 2048, 5632]⟩ .f32 := m ((c.tc : Thread nD τ).loc main_arg2)
abbrev argD : FVec Ideal ⟨3, ![2, 5632, 2048]⟩ .f32 := m ((c.tc : Thread nD τ).loc main_arg3)
abbrev argS : FVec Ideal ⟨2, ![2, 2048]⟩ .f32 := m ((c.tc : Thread nD τ).loc main_arg4)
abbrev argB : FVec Ideal ⟨2, ![2, 2048]⟩ .f32 := m ((c.tc : Thread nD τ).loc main_arg5)

/-! ## The arrays the region finds -/

theorem found_gate : V m c main_v0 = (argG m c : FVec Ideal ⟨3, ![2, 2048, 5632]⟩ .f32) := by
  show StableHlo.after hostOps0 (fun b => m (c, b)) main_v0 = _
  simp only [hostOps0, List.flatten_cons, List.flatten_nil, List.append_nil, List.cons_append, List.nil_append]
  after_results_simp
  rfl
theorem found_up : V m c main_v1 = (argU m c : FVec Ideal ⟨3, ![2, 2048, 5632]⟩ .f32) := by
  show StableHlo.after hostOps0 (fun b => m (c, b)) main_v1 = _
  simp only [hostOps0, List.flatten_cons, List.flatten_nil, List.append_nil, List.cons_append, List.nil_append]
  after_results_simp
  rfl
theorem found_down : V m c main_v2 = (argD m c : FVec Ideal ⟨3, ![2, 5632, 2048]⟩ .f32) := by
  show StableHlo.after hostOps0 (fun b => m (c, b)) main_v2 = _
  simp only [hostOps0, List.flatten_cons, List.flatten_nil, List.append_nil, List.cons_append, List.nil_append]
  after_results_simp
  rfl
theorem found_scale (l : Fin 2) (d : Fin 2048) : (V m c main_v3 (ix3 l 0 d) : EReal) = argS m c (ix2 l d) := by
  have e : V m c main_v3 = shapeCast S2x1x2048 (argS m c) shapeCasts_S2x2048_S2x1x2048 := by
    show StableHlo.after hostOps0 (fun b => m (c, b)) main_v3 = _
    simp only [hostOps0, List.flatten_cons, List.flatten_nil, List.append_nil, List.cons_append, List.nil_append]
    after_results_simp
    rfl
  rw [e]
  pointwise []
theorem found_shift (l : Fin 2) (d : Fin 2048) : (V m c main_v4 (ix3 l 0 d) : EReal) = argB m c (ix2 l d) := by
  have e : V m c main_v4 = shapeCast S2x1x2048 (argB m c) shapeCasts_S2x2048_S2x1x2048 := by
    show StableHlo.after hostOps0 (fun b => m (c, b)) main_v4 = _
    simp only [hostOps0, List.flatten_cons, List.flatten_nil, List.append_nil, List.cons_append, List.nil_append]
    after_results_simp
    rfl
  rw [e]
  pointwise []

/-! ## The block indices of each window -/

theorem idx0 : ∀ t : Fin grid0.N, win0_0.index t 0 = t.val / 11 ∧ win0_0.index t 1 = 0 := by decide +kernel
theorem idx1 : ∀ t : Fin grid0.N, win0_1.index t 0 = 0 ∧ win0_1.index t 1 = 0 ∧ win0_1.index t 2 = t.val % 11 := by decide +kernel
theorem idx2 : ∀ t : Fin grid0.N, win0_2.index t 0 = 0 ∧ win0_2.index t 1 = 0 ∧ win0_2.index t 2 = t.val % 11 := by decide +kernel
theorem idx3 : ∀ t : Fin grid0.N, win0_3.index t 0 = 0 ∧ win0_3.index t 1 = t.val % 11 ∧ win0_3.index t 2 = 0 := by decide +kernel
theorem idx4 : ∀ t : Fin grid0.N, win0_4.index t 0 = 0 ∧ win0_4.index t 1 = 0 ∧ win0_4.index t 2 = 0 := by decide +kernel
theorem idx5 : ∀ t : Fin grid0.N, win0_5.index t 0 = 0 ∧ win0_5.index t 1 = 0 ∧ win0_5.index t 2 = 0 := by decide +kernel

/-- Row `r` of row block `q`, as a row of the whole array. -/
abbrev rowOf (t : Fin cfg0.N) (r : Fin 512) : Fin 49152 :=
  ⟨t.val / 11 * 512 + r.val, by have := lt_of_lt_of_eq t.isLt (show cfg0.N = 1056 from N_0); omega⟩
/-- Hidden column `f` of the point's block, as a hidden column of the whole weight. -/
abbrev hidOf (t : Fin cfg0.N) (f : Fin 512) : Fin 5632 := ⟨t.val % 11 * 512 + f.val, by omega⟩

theorem blk_x (t : Fin cfg0.N) (r : Fin 512) (k : Fin 2048) :
    ((iblk m c 0 t : Vec Ideal S512x2048 .f32) (ix2 r k) : EReal) = argX m c (ix2 (rowOf t r) k) := by
  unfold iblk
  rw [View.read_apply]
  show V m c main_arg0 _ = _
  rw [V_main_arg0]
  congr 1; funext a; apply Fin.ext
  match a with
  | ⟨0, _⟩ => show win0_0.index t 0 * 512 + 1 * r.val = t.val / 11 * 512 + r.val; rw [(idx0 t).1]; omega
  | ⟨1, _⟩ => show win0_0.index t 1 * 2048 + 1 * k.val = k.val; rw [(idx0 t).2]; omega

theorem blk_g (t : Fin cfg0.N) (k : Fin 2048) (f : Fin 512) :
    ((iblk m c 1 t : Vec Ideal S1x2048x512 .bf16) (ix3 0 k f) : EReal) = argG m c (ix3 0 k (hidOf t f)) := by
  unfold iblk
  rw [View.read_apply]
  show V m c main_v0 _ = _
  rw [found_gate]
  congr 1; funext a; apply Fin.ext
  match a with
  | ⟨0, _⟩ => show win0_1.index t 0 * 1 + 1 * 0 = 0; rw [(idx1 t).1]
  | ⟨1, _⟩ => show win0_1.index t 1 * 2048 + 1 * k.val = k.val; rw [(idx1 t).2.1]; omega
  | ⟨2, _⟩ => show win0_1.index t 2 * 512 + 1 * f.val = t.val % 11 * 512 + f.val; rw [(idx1 t).2.2]; omega

theorem blk_u (t : Fin cfg0.N) (k : Fin 2048) (f : Fin 512) :
    ((iblk m c 2 t : Vec Ideal S1x2048x512 .bf16) (ix3 0 k f) : EReal) = argU m c (ix3 0 k (hidOf t f)) := by
  unfold iblk
  rw [View.read_apply]
  show V m c main_v1 _ = _
  rw [found_up]
  congr 1; funext a; apply Fin.ext
  match a with
  | ⟨0, _⟩ => show win0_2.index t 0 * 1 + 1 * 0 = 0; rw [(idx2 t).1]
  | ⟨1, _⟩ => show win0_2.index t 1 * 2048 + 1 * k.val = k.val; rw [(idx2 t).2.1]; omega
  | ⟨2, _⟩ => show win0_2.index t 2 * 512 + 1 * f.val = t.val % 11 * 512 + f.val; rw [(idx2 t).2.2]; omega

theorem blk_d (t : Fin cfg0.N) (f : Fin 512) (d : Fin 2048) :
    ((iblk m c 3 t : Vec Ideal S1x512x2048 .bf16) (ix3 0 f d) : EReal) = argD m c (ix3 0 (hidOf t f) d) := by
  unfold iblk
  rw [View.read_apply]
  show V m c main_v2 _ = _
  rw [found_down]
  congr 1; funext a; apply Fin.ext
  match a with
  | ⟨0, _⟩ => show win0_3.index t 0 * 1 + 1 * 0 = 0; rw [(idx3 t).1]
  | ⟨1, _⟩ => show win0_3.index t 1 * 512 + 1 * f.val = t.val % 11 * 512 + f.val; rw [(idx3 t).2.1]; omega
  | ⟨2, _⟩ => show win0_3.index t 2 * 2048 + 1 * d.val = d.val; rw [(idx3 t).2.2]; omega

theorem blk_s (t : Fin cfg0.N) (d : Fin 2048) :
    ((iblk m c 4 t : Vec Ideal S1x1x2048 .f32) (ix3 0 0 d) : EReal) = argS m c (ix2 0 d) := by
  rw [← found_scale]
  unfold iblk
  rw [View.read_apply]
  show V m c main_v3 _ = _
  congr 1; funext a; apply Fin.ext
  match a with
  | ⟨0, _⟩ => show win0_4.index t 0 * 1 + 1 * 0 = 0; rw [(idx4 t).1]
  | ⟨1, _⟩ => show win0_4.index t 1 * 1 + 1 * 0 = 0; rw [(idx4 t).2.1]
  | ⟨2, _⟩ => show win0_4.index t 2 * 2048 + 1 * d.val = d.val; rw [(idx4 t).2.2]; omega

theorem blk_b (t : Fin cfg0.N) (d : Fin 2048) :
    ((iblk m c 5 t : Vec Ideal S1x1x2048 .f32) (ix3 0 0 d) : EReal) = argB m c (ix2 0 d) := by
  rw [← found_shift]
  unfold iblk
  rw [View.read_apply]
  show V m c main_v4 _ = _
  congr 1; funext a; apply Fin.ext
  match a with
  | ⟨0, _⟩ => show win0_5.index t 0 * 1 + 1 * 0 = 0; rw [(idx5 t).1]
  | ⟨1, _⟩ => show win0_5.index t 1 * 1 + 1 * 0 = 0; rw [(idx5 t).2.1]
  | ⟨2, _⟩ => show win0_5.index t 2 * 2048 + 1 * d.val = d.val; rw [(idx5 t).2.2]; omega

end Cert.Ffn

end
-- ==== Proof.FfnValue.lean ====
/-
  The feed-forward kernel's accumulator after each grid point of a row block, and its result at one index: the same
  number as the reference's.
-/
module

public import proofs.«01_k».proof.Proof.FfnBlock

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- One hidden unit's share of the gated product at row `r` and column `d`. -/
def unit (r : Fin 49152) (d : Fin 2048) (f : Fin 5632) : EReal :=
  gated (∑ k : Fin 2048, argX m c (ix2 r k) * argG m c (ix3 0 k f)) (∑ k : Fin 2048, argX m c (ix2 r k) * argU m c (ix3 0 k f))
    * argD m c (ix3 0 f d)

/-- The share of the `s`-th block of 512 hidden units. -/
def part (r : Fin 49152) (d : Fin 2048) (s : ℕ) : EReal :=
  ∑ f : Fin 512, unit m c r d ⟨s % 11 * 512 + f.val, by omega⟩

theorem part_mod (r : Fin 49152) (d : Fin 2048) (s : ℕ) : part m c r d (s % 11) = part m c r d s := by
  unfold part
  simp only [Nat.mod_mod]

/-- A point's step adds that point's share, when the first scratch holds the row block. -/
theorem step_at (t : Fin cfg0.N) (xb : FVec Ideal S512x2048 .bf16) (acc : FVec Ideal S512x2048 .f32)
    (hx : ∀ r k, (xb (ix2 r k) : EReal) = argX m c (ix2 (rowOf t r) k)) (r : Fin 512) (d : Fin 2048) :
    (k0_pay3 (F := Ideal) xb (iblk m c 1 t) (iblk m c 2 t) acc (iblk m c 3 t) (ix2 r d) : EReal)
      = acc (ix2 r d) + part m c (rowOf t r) d t.val := by
  refine (pay3_at xb (iblk m c 1 t) (iblk m c 2 t) acc (iblk m c 3 t) r d).trans ?_
  unfold part unit
  congr 1
  refine Finset.sum_congr rfl fun f _ => ?_
  refine congrArg₂ (· * ·) (congrArg₂ gated ?_ ?_) (blk_d m c t f d)
  · exact Finset.sum_congr rfl fun k _ => congrArg₂ (· * ·) (hx r k) (blk_g m c t k f)
  · exact Finset.sum_congr rfl fun k _ => congrArg₂ (· * ·) (hx r k) (blk_u m c t k f)

theorem copy_at (t : Fin cfg0.N) (r : Fin 512) (k : Fin 2048) :
    (k0_pay1 (F := Ideal) (iblk m c 0 t) (ix2 r k) : EReal) = argX m c (ix2 (rowOf t r) k) :=
  (pay1_at _ r k).trans (blk_x m c t r k)

theorem sum_step (f : ℕ → EReal) (n : ℕ) (h : ¬ (n + 1) % 11 = 0) :
    ∑ s ∈ Finset.range ((n + 1) % 11 + 1), f s = (∑ s ∈ Finset.range (n % 11 + 1), f s) + f ((n + 1) % 11) := by
  have : (n + 1) % 11 = n % 11 + 1 := by omega
  rw [this, Finset.sum_range_succ]

/-- A row block's first point: the scratch buffers after it. -/
theorem state_first (t : Fin cfg0.N) (h0 : t.val % 11 = 0) :
    (outsAt0 m c t.val t.isLt).2.1 = k0_pay1 (F := Ideal) (iblk m c 0 t)
    ∧ (outsAt0 m c t.val t.isLt).2.2
      = k0_pay3 (F := Ideal) (k0_pay1 (iblk m c 0 t)) (iblk m c 1 t) (iblk m c 2 t) (k0_pay2 (F := Ideal)) (iblk m c 3 t) := by
  have h1 : ¬ t.val % 11 = 10 := by omega
  have e := outsAt0_A m c t h0 h1
  have e1 := congrArg (fun s => s.2.1) e
  have e2 := congrArg (fun s => s.2.2) e
  dsimp only at e1 e2
  exact ⟨e1.trans (first_copy (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (iblk m c 5 t) _ _),
    e2.trans (first_acc (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (iblk m c 5 t) _ _)⟩

/-- A middle point's step: the copy stays, the accumulator gains the point's product. -/
theorem step_mid (t : Fin cfg0.N) (h0 : ¬ t.val % 11 = 0) (h1 : ¬ t.val % 11 = 10)
    (s : Vec Ideal S512x2048 .f32 × Vec Ideal S512x2048 .bf16 × Vec Ideal S512x2048 .f32) :
    (Value.stAt0 m c t.val t.isLt s).2.1 = s.2.1
    ∧ (Value.stAt0 m c t.val t.isLt s).2.2 = k0_pay3 (F := Ideal) s.2.1 (iblk m c 1 t) (iblk m c 2 t) s.2.2 (iblk m c 3 t) := by
  have e := Value.stAt0_B m c t s h0 h1
  have e1 := congrArg (fun s => s.2.1) e
  have e2 := congrArg (fun s => s.2.2) e
  dsimp only at e1 e2
  exact ⟨e1,
    e2.trans (mid_acc (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (iblk m c 5 t) _ _ s.2.1 s.2.2)⟩

/-- The last point's step, and the output block it writes. -/
theorem step_last (t : Fin cfg0.N) (h1 : t.val % 11 = 10)
    (s : Vec Ideal S512x2048 .f32 × Vec Ideal S512x2048 .bf16 × Vec Ideal S512x2048 .f32) :
    (Value.stAt0 m c t.val t.isLt s).2.1 = s.2.1
    ∧ (Value.stAt0 m c t.val t.isLt s).2.2 = k0_pay3 (F := Ideal) s.2.1 (iblk m c 1 t) (iblk m c 2 t) s.2.2 (iblk m c 3 t)
    ∧ (Value.stAt0 m c t.val t.isLt s).1 = k0_pay4 (F := Ideal) (iblk m c 0 t)
        (k0_pay3 (F := Ideal) s.2.1 (iblk m c 1 t) (iblk m c 2 t) s.2.2 (iblk m c 3 t)) (iblk m c 4 t) (iblk m c 5 t) := by
  have h0 : ¬ t.val % 11 = 0 := by omega
  have e := Value.stAt0_C m c t s h0 h1
  have e1 := congrArg (fun s => s.2.1) e
  have e2 := congrArg (fun s => s.2.2) e
  have e3 := congrArg (fun s => s.1) e
  dsimp only at e1 e2 e3
  exact ⟨e1,
    e2.trans (last_acc (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (iblk m c 5 t) _ _ s.2.1 s.2.2),
    e3.trans (last_out (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (iblk m c 5 t) _ _ s.2.1 s.2.2)⟩

/-- Every point but a row block's first. -/
theorem state_next (n : ℕ) (hn : n + 1 < cfg0.N) (h0 : ¬ (n + 1) % 11 = 0) :
    (outsAt0 m c (n + 1) hn).2.1 = (outsAt0 m c n (Nat.lt_of_succ_lt hn)).2.1
    ∧ (outsAt0 m c (n + 1) hn).2.2 = k0_pay3 (F := Ideal) (outsAt0 m c n (Nat.lt_of_succ_lt hn)).2.1 (iblk m c 1 ⟨n + 1, hn⟩)
        (iblk m c 2 ⟨n + 1, hn⟩) (outsAt0 m c n (Nat.lt_of_succ_lt hn)).2.2 (iblk m c 3 ⟨n + 1, hn⟩) := by
  rw [Value.outsAt0_succ m c n hn]
  generalize outsAt0 m c n (Nat.lt_of_succ_lt hn) = s
  by_cases h1 : (n + 1) % 11 = 10
  · exact ⟨(step_last m c ⟨n + 1, hn⟩ h1 s).1, (step_last m c ⟨n + 1, hn⟩ h1 s).2.1⟩
  · exact step_mid m c ⟨n + 1, hn⟩ h0 h1 s

/-- The last point: the output block. -/
theorem state_out (n : ℕ) (hn : n + 1 < cfg0.N) (h1 : (n + 1) % 11 = 10) :
    (outsAt0 m c (n + 1) hn).1 = k0_pay4 (F := Ideal) (iblk m c 0 ⟨n + 1, hn⟩) (outsAt0 m c (n + 1) hn).2.2 (iblk m c 4 ⟨n + 1, hn⟩)
      (iblk m c 5 ⟨n + 1, hn⟩) := by
  rw [Value.outsAt0_succ m c n hn]
  generalize outsAt0 m c n (Nat.lt_of_succ_lt hn) = s
  rw [(step_last m c ⟨n + 1, hn⟩ h1 s).2.1]
  exact (step_last m c ⟨n + 1, hn⟩ h1 s).2.2

/-- What the two scratch buffers hold after point `n`. -/
theorem scratch_at : ∀ (n : ℕ) (hn : n < cfg0.N),
    (∀ (r : Fin 512) (k : Fin 2048), ((outsAt0 m c n hn).2.1 (ix2 r k) : EReal) = argX m c (ix2 (rowOf ⟨n, hn⟩ r) k))
    ∧ (∀ (r : Fin 512) (d : Fin 2048), ((outsAt0 m c n hn).2.2 (ix2 r d) : EReal)
        = ∑ s ∈ Finset.range (n % 11 + 1), part m c (rowOf ⟨n, hn⟩ r) d s) := by
  have first : ∀ (t : Fin cfg0.N), t.val % 11 = 0 →
      (∀ (r : Fin 512) (k : Fin 2048), ((outsAt0 m c t.val t.isLt).2.1 (ix2 r k) : EReal) = argX m c (ix2 (rowOf t r) k))
      ∧ (∀ (r : Fin 512) (d : Fin 2048), ((outsAt0 m c t.val t.isLt).2.2 (ix2 r d) : EReal)
        = ∑ s ∈ Finset.range (t.val % 11 + 1), part m c (rowOf t r) d s) := by
    intro t h0
    rw [(state_first m c t h0).1, (state_first m c t h0).2]
    refine ⟨copy_at m c t, fun r d => ?_⟩
    refine (step_at m c t _ _ (copy_at m c t) r d).trans ?_
    rw [pay2_at, show t.val % 11 + 1 = 1 by rw [h0], zero_add, Finset.sum_range_one]
    exact (part_mod m c _ d t.val).symm.trans (by rw [h0])
  intro n hn
  induction n with
  | zero => exact first ⟨0, hn⟩ rfl
  | succ n ih =>
    by_cases h0 : (n + 1) % 11 = 0
    · exact first ⟨n + 1, hn⟩ h0
    · have ih := ih (Nat.lt_of_succ_lt hn)
      have same : ∀ r, rowOf ⟨n, Nat.lt_of_succ_lt hn⟩ r = rowOf ⟨n + 1, hn⟩ r := fun r => Fin.ext (by
        show n / 11 * 512 + r.val = (n + 1) / 11 * 512 + r.val
        have : n / 11 = (n + 1) / 11 := by omega
        rw [this])
      rw [(state_next m c n hn h0).1, (state_next m c n hn h0).2]
      have hx : ∀ (r : Fin 512) (k : Fin 2048), ((outsAt0 m c n (Nat.lt_of_succ_lt hn)).2.1 (ix2 r k) : EReal)
          = argX m c (ix2 (rowOf ⟨n + 1, hn⟩ r) k) := fun r k => by rw [ih.1, same]
      refine ⟨hx, fun r d => ?_⟩
      refine (step_at m c ⟨n + 1, hn⟩ _ _ hx r d).trans ?_
      rw [sum_step _ n h0, ih.2, same]
      exact congrArg _ (part_mod m c _ d (n + 1)).symm

/-- All eleven shares of a row and column are the sum over the hidden units. -/
theorem parts_sum (r : Fin 49152) (d : Fin 2048) : ∑ s ∈ Finset.range 11, part m c r d s = ∑ f : Fin 5632, unit m c r d f := by
  rw [Finset.sum_range, Fin.sum_univ_tiles 11 512 (by decide) (unit m c r d)]
  refine Finset.sum_congr rfl fun s _ => Finset.sum_congr rfl fun f _ => congrArg _ (Fin.ext ?_)
  show s.val % 11 * 512 + f.val = s.val * 512 + f.val
  rw [Nat.mod_eq_of_lt s.isLt]

theorem same_point {n n' : ℕ} (e : n = n') (h : n < cfg0.N) (h' : n' < cfg0.N) : outsAt0 m c n h = outsAt0 m c n' h' := by
  subst e; rfl

/-- The kernel's result at one index. -/
theorem out_at (r : Fin 49152) (d : Fin 2048) :
    (Value.G6 m c (ix2 r d) : EReal)
      = rowNorm (ffnRow (argX m c) (argG m c) (argU m c) (argD m c) r) (argS m c (ix2 0 d)) (argB m c (ix2 0 d)) d := by
  have hr := r.isLt
  have hd := d.isLt
  have hN : cfg0.N = 1056 := N_0
  have hp : Value.pt6Of (ix2 r d) = (11 * (r.val / 512) + 9) + 1 := by
    show 11 * (1 * (r.val / 512 - 0) + 1 * (d.val / 2048 - 0)) + 10 = _
    omega
  have hn : (11 * (r.val / 512) + 9) + 1 < cfg0.N := by omega
  have hl : Value.loc6Of (ix2 r d) = ix2 (⟨r.val % 512, by omega⟩ : Fin 512) d := by
    funext a; apply Fin.ext
    match a with
    | ⟨0, _⟩ => rfl
    | ⟨1, _⟩ => exact Nat.mod_eq_of_lt hd
  have hrow : rowOf ⟨(11 * (r.val / 512) + 9) + 1, hn⟩ ⟨r.val % 512, by omega⟩ = r := Fin.ext (by
    show ((11 * (r.val / 512) + 9) + 1) / 11 * 512 + r.val % 512 = r.val
    omega)
  unfold Value.G6
  rw [dif_pos (show Value.pt6Of (ix2 r d) < cfg0.N by rw [hp]; exact hn), ← Value.outsAt0_sweep m c _ (by rw [hp]; exact hn), hl]
  rw [same_point m c hp (by rw [hp]; exact hn) hn]
  rw [state_out m c _ hn (by omega)]
  refine (pay4_at _ _ _ _ _ _).trans ?_
  rw [blk_s, blk_b]
  refine congrArg (fun y => rowNorm y _ _ d) (funext fun k => ?_)
  rw [blk_x, (scratch_at m c _ hn).2, hrow, show ((11 * (r.val / 512) + 9) + 1) % 11 + 1 = 11 by omega, parts_sum]
  rfl

end Cert.Ffn

end
-- ==== Proof.FfnClaim.lean ====
/-
  The feed-forward claims: every program runs and leaves its arguments, and the kernel's result is the reference's.
-/
module

public import proofs.«01_k».proof.Defs
public import proofs.«01_k».proof.Proof.FfnValue
public import proofs.«01_k».proof.Proof.Gen.Kernel2.Frame
public import proofs.«01_k».proof.Proof.Gen.Kernel2Ideal.Frame
public import Idealize.ShloMosaic.Adequacy
public import Idealize.ShloMosaic.Init

@[expose] public section

noncomputable section

namespace Cert.Ffn

open Idealize.ShloMosaic Idealize.ShloMosaic.TcCoe Idealize.SL.Sem

theorem kernel_frame : quiescent_Kernel2 (hKernel2 := Cert.Kernel2.Gen.facts) := fun m ρ _ => Cert.Kernel2.Gen.frame m ρ
theorem ideal_frame : quiescent_Kernel2Ideal (hKernel2Ideal := Cert.Kernel2Ideal.Gen.facts) := fun m ρ _ => Cert.Kernel2Ideal.Gen.frame m ρ
theorem ref_frame : quiescent_Reference2Ideal (hReference2Ideal := Cert.Reference2Ideal.Gen.facts) := fun m ρ _ =>
  (θ_run _ _ _).mono (fun r h => ⟨fun c => (h c).2, Idealize.ShloMosaic.sem_eq_zero_of_no_sems (by decide) r.2⟩)
    (Cert.Reference2Ideal.Value.run (F := Ideal) m ρ)

theorem preserved : preserves_Kernel2_Kernel2Ideal := trivial

theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (h0 : m' ((c.tc : Thread Cert.Reference2Ideal.nD Cert.Reference2Ideal.τ).loc Cert.Reference2Ideal.main_arg0) = argX m c)
    (h1 : m' ((c.tc : Thread Cert.Reference2Ideal.nD Cert.Reference2Ideal.τ).loc Cert.Reference2Ideal.main_arg1) = argG m c)
    (h2 : m' ((c.tc : Thread Cert.Reference2Ideal.nD Cert.Reference2Ideal.τ).loc Cert.Reference2Ideal.main_arg2) = argU m c)
    (h3 : m' ((c.tc : Thread Cert.Reference2Ideal.nD Cert.Reference2Ideal.τ).loc Cert.Reference2Ideal.main_arg3) = argD m c)
    (h4 : m' ((c.tc : Thread Cert.Reference2Ideal.nD Cert.Reference2Ideal.τ).loc Cert.Reference2Ideal.main_arg4) = argS m c)
    (h5 : m' ((c.tc : Thread Cert.Reference2Ideal.nD Cert.Reference2Ideal.τ).loc Cert.Reference2Ideal.main_arg5) = argB m c) :
    (Cert.Reference2Ideal.Value.res_out0 m' c : FVec Ideal ⟨2, ![49152, 2048]⟩ .f32) = Cert.Kernel2Ideal.Value.G6 m c := by
  funext i
  rw [show i = ix2 (i 0) (i 1) from eq_ix2 i]
  refine (ref_at m' c (i 0) (i 1)).trans ?_
  rw [h0, h1, h2, h3, h4, h5]
  exact (out_at m c (i 0) (i 1)).symm

theorem value : algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Value.G6 m c, Cert.Kernel2Ideal.Value.run (F := Ideal) m ρ, ?_⟩
  refine (θ_run _ _ _).mono (fun r h c => ⟨(h c).1.trans ?_, (h c).2⟩) (Cert.Reference2Ideal.Value.run (F := Ideal) m' ρ')
  obtain ⟨h0, h1, h2, h3, h4, h5⟩ := hagree c
  exact result_eq m m' c h0 h1 h2 h3 h4 h5

end Cert.Ffn

end
-- ==== Proof.ProjCases.lean ====
/-
  The input projection kernel, one grid point at a time. A grid point holds 512 rows; it multiplies them with five slabs of
  the weight and turns queries and keys by their positions, six groups of 128 lanes (two heads each) one by one. This file
  says what the body leaves in its five output buffers.
-/
module

public import proofs.«01_k».proof.Proof.Gen.Kernel3Ideal.Value
public import Idealize.ShloMosaic.Lib.Pipeline.Value
public import Idealize.ShloMosaic.Lib.Pointwise
public import Idealize.ShloMosaic.Lib.Tactic

@[expose] public section

set_option maxRecDepth 16384

noncomputable section

namespace Cert.Proj

open Idealize.ShloMosaic Idealize.ShloMosaic.TcCoe Idealize.SL.Sem
open Cert.Kernel3Ideal Cert.Kernel3Ideal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- The rows times one 768-wide slab of the weight. -/
def slab (x : Vec F S512x2048 .f32) (w : Vec F S1x2048x768 .bf16) : FVec F S512x768 .f32 := k0_pay7 x w

/-- Group `g` of 128 lanes. -/
def group (z : FVec F S512x768 .f32) (g : Fin 6) : FVec F S512x128 .f32 := fun j =>
  have h1 : (j 1).val < 128 := (j 1).isLt
  z (ix2 (j 0 : Fin 512) (⟨128 * g.val + (j 1).val, by omega⟩ : Fin 768))

/-- One group turned: itself times the cosines, its left neighbours eight lanes on times one table of sines, its right
    neighbours times the other. -/
def turn (t co lo hi : FVec F S512x128 .f32) : FVec F S512x128 .f32 :=
  addf (addf (mulf t co) (mulf (dynamicRotate 1 120#32 none t rotates_S512x128_d1) lo))
    (mulf (dynamicRotate 1 8#32 none t rotates_S512x128_d1) hi)

/-- All six groups turned and laid side by side. -/
def turned (z : FVec F S512x768 .f32) (co lo hi : FVec F S512x128 .f32) : FVec F S512x768 .f32 :=
  concatenate S512x768 1 (List.ofFn fun g : Fin 6 => (⟨S512x128, turn (group z g) co lo hi⟩ : (s : Shape) × (s.Idx → F .f32)))
    concatenates_S512x128_S512x128_S512x128_S512x128_S512x128_S512x128_S512x768_d1

theorem group0 (z : FVec F S512x768 .f32) : extractStridedSlice S512x128 ![0, 0] z slices_S512x768_o0_0_S512x128 = group z 0 := by
  funext j; rw [show j = ix2 (j 0) (j 1) from eq_ix2 j]; pointwise [group]
theorem group1 (z : FVec F S512x768 .f32) : extractStridedSlice S512x128 ![0, 128] z slices_S512x768_o0_128_S512x128 = group z 1 := by
  funext j; rw [show j = ix2 (j 0) (j 1) from eq_ix2 j]; pointwise [group]
theorem group2 (z : FVec F S512x768 .f32) : extractStridedSlice S512x128 ![0, 256] z slices_S512x768_o0_256_S512x128 = group z 2 := by
  funext j; rw [show j = ix2 (j 0) (j 1) from eq_ix2 j]; pointwise [group]
theorem group3 (z : FVec F S512x768 .f32) : extractStridedSlice S512x128 ![0, 384] z slices_S512x768_o0_384_S512x128 = group z 3 := by
  funext j; rw [show j = ix2 (j 0) (j 1) from eq_ix2 j]; pointwise [group]
theorem group4 (z : FVec F S512x768 .f32) : extractStridedSlice S512x128 ![0, 512] z slices_S512x768_o0_512_S512x128 = group z 4 := by
  funext j; rw [show j = ix2 (j 0) (j 1) from eq_ix2 j]; pointwise [group]
theorem group5 (z : FVec F S512x768 .f32) : extractStridedSlice S512x128 ![0, 640] z slices_S512x768_o0_640_S512x128 = group z 5 := by
  funext j; rw [show j = ix2 (j 0) (j 1) from eq_ix2 j]; pointwise [group]

variable (x : Vec F S512x2048 .f32) (wq wk wv : Vec F S1x2048x768 .bf16) (wx wg : Vec F S1x2048x1280 .bf16)
  (co lo hi : Vec F S512x128 .f32)

/-- Six groups side by side. -/
def beside (a b c d e f : FVec F S512x128 .f32) : FVec F S512x768 .f32 :=
  concatenate S512x768 1 [⟨S512x128, a⟩, ⟨S512x128, b⟩, ⟨S512x128, c⟩, ⟨S512x128, d⟩, ⟨S512x128, e⟩, ⟨S512x128, f⟩]
    concatenates_S512x128_S512x128_S512x128_S512x128_S512x128_S512x128_S512x768_d1

theorem turned_eq (z : FVec F S512x768 .f32) : turned z co lo hi
    = beside (turn (group z 0) co lo hi) (turn (group z 1) co lo hi) (turn (group z 2) co lo hi) (turn (group z 3) co lo hi)
        (turn (group z 4) co lo hi) (turn (group z 5) co lo hi) := rfl

theorem last_q (z : FVec F S512x768 .f32) (a b c d e f : FVec F S512x128 .f32) : k0_pay15 co lo hi z a b c d e f
    = truncf .bf16 (mulf (beside a b c (addf (addf f (mulf d lo)) (mulf e hi))
        (turn (extractStridedSlice S512x128 ![0, 512] z slices_S512x768_o0_512_S512x128) co lo hi)
        (turn (extractStridedSlice S512x128 ![0, 640] z slices_S512x768_o0_640_S512x128) co lo hi))
      (broadcast S512x768 (Scalar.ofBits .f32 0x3E000000#32))) bitsLt_bf16_f32 := rfl

theorem last_k (z : FVec F S512x768 .f32) (a b : FVec F S512x128 .f32) : k0_pay19 co lo hi z a b
    = truncf .bf16 (beside a b
        (turn (extractStridedSlice S512x128 ![0, 256] z slices_S512x768_o0_256_S512x128) co lo hi)
        (turn (extractStridedSlice S512x128 ![0, 384] z slices_S512x768_o0_384_S512x128) co lo hi)
        (turn (extractStridedSlice S512x128 ![0, 512] z slices_S512x768_o0_512_S512x128) co lo hi)
        (turn (extractStridedSlice S512x128 ![0, 640] z slices_S512x768_o0_640_S512x128) co lo hi)) bitsLt_bf16_f32 := rfl

theorem q_out : out0_9 x wq wk wv wx wg co lo hi
    = truncf .bf16 (mulf (turned (slab x wq) co lo hi) (broadcast S512x768 (Scalar.ofBits .f32 0x3E000000#32))) bitsLt_bf16_f32 := by
  unfold_out out0_9
  rw [View.canon_unit_zero off2]
  simp only [View.ld_unit_zero (S := S512x2048) off2, View.ld_unit_zero (S := S512x128) off2, View.ld_unit_zero (S := S1x2048x768) off3]
  rw [last_q, turned_eq]
  simp only [k0_pay14, k0_pay13, k0_pay12, k0_pay11, k0_pay10, k0_pay9, k0_pay8, k0_pay6, k0_pay5, k0_pay4,
    shapeCast_self, group0, group1, group2, group3, group4, group5]
  rfl

theorem k_out : out0_10 x wq wk wv wx wg co lo hi
    = truncf .bf16 (turned (slab x wk) co lo hi) bitsLt_bf16_f32 := by
  unfold_out out0_10
  rw [View.canon_unit_zero off2]
  simp only [View.ld_unit_zero (S := S512x2048) off2, View.ld_unit_zero (S := S512x128) off2, View.ld_unit_zero (S := S1x2048x768) off3]
  rw [last_k, turned_eq]
  simp only [k0_pay18, k0_pay17, k0_pay6, k0_pay5, k0_pay4,
    shapeCast_self, group0, group1, group2, group3, group4, group5]
  rfl

theorem v_out : out0_11 x wq wk wv wx wg co lo hi = truncf .bf16 (slab x wv) bitsLt_bf16_f32 := by
  unfold_out out0_11
  rw [View.canon_unit_zero off2]
  simp only [View.ld_unit_zero (S := S512x2048) off2, View.ld_unit_zero (S := S1x2048x768) off3]
  rfl

theorem x_out : out0_12 x wq wk wv wx wg co lo hi = k0_pay1 (k0_pay3 x) wx := by
  unfold_out out0_12
  rw [View.canon_unit_zero off2]
  simp only [View.ld_unit_zero (S := S512x2048) off2, View.ld_unit_zero (S := S1x2048x1280) off3]

theorem g_out : out0_13 x wq wk wv wx wg co lo hi = k0_pay2 (k0_pay3 x) wg := by
  unfold_out out0_13
  rw [View.canon_unit_zero off2]
  simp only [View.ld_unit_zero (S := S512x2048) off2, View.ld_unit_zero (S := S1x2048x1280) off3]

/-! ## The same over the extended reals, read at one index -/

theorem slab_at (x : FVec Ideal S512x2048 .f32) (w : FVec Ideal S1x2048x768 .bf16) (r : Fin 512) (d : Fin 768) :
    (slab (F := Ideal) x w (ix2 r d) : EReal) = ∑ k : Fin 2048, x (ix2 r k) * w (ix3 0 k d) := by
  pointwise [slab, k0_pay7, k0_pay3]

theorem x_at (x : FVec Ideal S512x2048 .f32) (w : FVec Ideal S1x2048x1280 .bf16) (r : Fin 512) (d : Fin 1280) :
    (k0_pay1 (F := Ideal) (k0_pay3 x) w (ix2 r d) : EReal) = ∑ k : Fin 2048, x (ix2 r k) * w (ix3 0 k d) := by
  pointwise [k0_pay1, k0_pay3]

theorem g_at (x : FVec Ideal S512x2048 .f32) (w : FVec Ideal S1x2048x1280 .bf16) (r : Fin 512) (d : Fin 1280) :
    (k0_pay2 (F := Ideal) (k0_pay3 x) w (ix2 r d) : EReal) = ∑ k : Fin 2048, x (ix2 r k) * w (ix3 0 k d) := by
  pointwise [k0_pay2, k0_pay3]

theorem turn_at (t co lo hi : FVec Ideal S512x128 .f32) (r : Fin 512) (l : Fin 128) :
    (turn (F := Ideal) t co lo hi (ix2 r l) : EReal)
      = t (ix2 r l) * co (ix2 r l) + t (ix2 r ⟨(l.val + 8) % 128, Nat.mod_lt _ (by decide)⟩) * lo (ix2 r l)
        + t (ix2 r ⟨(l.val + 120) % 128, Nat.mod_lt _ (by decide)⟩) * hi (ix2 r l) := by
  pointwise [turn]
  simp only [show l.val + 128 - 120 = l.val + 8 by omega, show l.val + 128 - 8 = l.val + 120 by omega]

theorem turned_at (z : FVec Ideal S512x768 .f32) (co lo hi : FVec Ideal S512x128 .f32) (r : Fin 512) (g : Fin 6) (l : Fin 128) :
    (turned (F := Ideal) z co lo hi (ix2 r ⟨128 * g.val + l.val, by omega⟩) : EReal)
      = z (ix2 r ⟨128 * g.val + l.val, by omega⟩) * co (ix2 r l)
        + z (ix2 r ⟨128 * g.val + (l.val + 8) % 128, by omega⟩) * lo (ix2 r l)
        + z (ix2 r ⟨128 * g.val + (l.val + 120) % 128, by omega⟩) * hi (ix2 r l) := by
  refine Eq.trans ?_ (turn_at (group z g) co lo hi r l)
  unfold turned
  exact concatenate_ofFn_apply (t := S512x768) (s₁ := S512x128) 1 (fun g : Fin 6 => turn (group z g) co lo hi) _ rfl 128 rfl
    (ix2 r ⟨128 * g.val + l.val, by omega⟩) g
    (by show (128 * g.val + l.val) / 128 = g.val; omega) (ix2 r l)
    (by show l.val = (128 * g.val + l.val) % 128; omega)
    (fun b hb => by
      match b with
      | ⟨0, _⟩ => rfl
      | ⟨1, _⟩ => exact absurd rfl hb)

end Cert.Proj

end
-- ==== Proof.ProjTable.lean ====
/-
  The tables of cosines and sines the projection kernel is launched with, read at one position and one lane.
-/
module

public import proofs.«01_k».proof.Proof.ProjCases

@[expose] public section

set_option maxRecDepth 16384

noncomputable section

namespace Cert.Proj

open Idealize.ShloMosaic Idealize.ShloMosaic.TcCoe Idealize.SL.Sem
open Cert.Kernel3Ideal Cert.Kernel3Ideal.Gen

/-- The frequencies the positions are multiplied with. -/
def freq : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
      (broadcastInDim S8 ![] bcast_S_S8 (constant S_ .f32 0x41800000#32)))

/-- Every position times every frequency. -/
def angles : FVec Ideal S16384x8 .f32 :=
  mulf (broadcastInDim S16384x8 ![0, 1] bcast_S16384x1_S16384x8_0_1
      (broadcastInDim S16384x1 ![0] bcast_S16384_S16384x1_0 (sitofp .f32 (iotaInDim S16384 32 0))))
    (broadcastInDim S16384x8 ![0, 1] bcast_S1x8_S16384x8_0_1 (broadcastInDim S1x8 ![1] bcast_S8_S1x8_1 freq))

/-- Three pieces of a head's 64 lanes, repeated for both heads of a group. -/
def table (a b : FVec Ideal S16384x8 .f32) (r : FVec Ideal S16384x48 .f32) : FVec Ideal S16384x128 .f32 :=
  shapeCast S16384x128
    (broadcastInDim S1x16384x2x64 ![0, 1, 2, 3] bcast_S1x16384x1x64_S1x16384x2x64_0_1_2_3
      (shapeCast S1x16384x1x64
        (concatenate S16384x64 1 [⟨S16384x8, a⟩, ⟨S16384x8, b⟩, ⟨S16384x48, r⟩] concatenates_S16384x8_S16384x8_S16384x48_S16384x64_d1)
        shapeCasts_S16384x64_S1x16384x1x64))
    shapeCasts_S1x16384x2x64_S16384x128

variable (m : (ℓ : Loc nD τ sig) → Buf (Elt Ideal) ℓ) (c : Dev nD)

theorem found_cos : V m c main_v24 = table (Host.cos angles) (Host.cos angles)
    (broadcastInDim S16384x48 ![] bcast_S_S16384x48 (constant S_ .f32 0x3F800000#32)) := by
  show StableHlo.after hostOps0 (fun b => m (c, b)) main_v24 = _
  simp only [hostOps0, List.flatten_cons, List.flatten_nil, List.append_nil, List.cons_append, List.nil_append]
  after_results_simp
  rfl

theorem found_lo : V m c main_v29 = table (Host.negf (Host.sin angles))
    (broadcastInDim S16384x8 ![] bcast_S_S16384x8 (constant S_ .f32 0x00000000#32))
    (broadcastInDim S16384x48 ![] bcast_S_S16384x48 (constant S_ .f32 0x00000000#32)) := by
  show StableHlo.after hostOps0 (fun b => m (c, b)) main_v29 = _
  simp only [hostOps0, List.flatten_cons, List.flatten_nil, List.append_nil, List.cons_append, List.nil_append]
  after_results_simp
  rfl

theorem found_hi : V m c main_v33 = table (broadcastInDim S16384x8 ![] bcast_S_S16384x8 (constant S_ .f32 0x00000000#32))
    (Host.sin angles) (broadcastInDim S16384x48 ![] bcast_S_S16384x48 (constant S_ .f32 0x00000000#32)) := by
  show StableHlo.after hostOps0 (fun b => m (c, b)) main_v33 = _
  simp only [hostOps0, List.flatten_cons, List.flatten_nil, List.append_nil, List.cons_append, List.nil_append]
  after_results_simp
  rfl

/-- The position of a row as a number. -/
def posOf (p : ℕ) : EReal := FloatOps.sitofp (F := Ideal) FTy.f32 (BitVec.ofNat 32 p)

theorem angles_at (p : Fin 16384) (j : Fin 8) : (angles (ix2 p j) : EReal) = posOf p.val * freq (ix1 j) := by
  have gen : ∀ f : FVec Ideal S8 .f32,
      (mulf (broadcastInDim S16384x8 ![0, 1] bcast_S16384x1_S16384x8_0_1
        (broadcastInDim S16384x1 ![0] bcast_S16384_S16384x1_0 (sitofp .f32 (iotaInDim S16384 32 0))))
        (broadcastInDim S16384x8 ![0, 1] bcast_S1x8_S16384x8_0_1 (broadcastInDim S1x8 ![1] bcast_S8_S1x8_1 f)) (ix2 p j) : EReal)
        = posOf p.val * f (ix1 j) := by
    intro f
    pointwise [posOf]
  exact gen freq

theorem table_at (a b : FVec Ideal S16384x8 .f32) (r : FVec Ideal S16384x48 .f32) (p : Fin 16384) (h : Fin 2) (d : Fin 64) :
    (table a b r (ix2 p ⟨64 * h.val + d.val, by omega⟩) : EReal)
      = if h1 : d.val < 8 then a (ix2 p ⟨d.val, h1⟩)
        else if h2 : d.val - 8 < 8 then b (ix2 p ⟨d.val - 8, h2⟩)
        else r (ix2 p ⟨d.val - 8 - 8, by omega⟩) := by
  pointwise [table]

/-- A row of queries or keys turned by its position: the first eight lanes of every head against the next eight. -/
def rotated (z : Fin 768 → EReal) (p : ℕ) (d : Fin 768) : EReal :=
  if h1 : d.val % 64 < 8 then
    z d * Ideal.cos (posOf p * freq (ix1 ⟨d.val % 64, h1⟩))
      - z ⟨d.val + 8, by omega⟩ * Ideal.sin (posOf p * freq (ix1 ⟨d.val % 64, h1⟩))
  else if h2 : d.val % 64 - 8 < 8 then
    z d * Ideal.cos (posOf p * freq (ix1 ⟨d.val % 64 - 8, h2⟩))
      + z ⟨d.val - 8, by omega⟩ * Ideal.sin (posOf p * freq (ix1 ⟨d.val % 64 - 8, h2⟩))
  else z d

theorem cos_at (a : FVec Ideal S16384x8 .f32) (p : Fin 16384) (j : Fin 8) : (Host.cos a (ix2 p j) : EReal) = Ideal.cos (a (ix2 p j)) := by
  pointwise []
theorem sin_at (a : FVec Ideal S16384x8 .f32) (p : Fin 16384) (j : Fin 8) : (Host.sin a (ix2 p j) : EReal) = Ideal.sin (a (ix2 p j)) := by
  pointwise []
theorem negsin_at (a : FVec Ideal S16384x8 .f32) (p : Fin 16384) (j : Fin 8) :
    (Host.negf (Host.sin a) (ix2 p j) : EReal) = -Ideal.sin (a (ix2 p j)) := by
  pointwise []
theorem one_at (p : Fin 16384) (j : Fin 48) :
    ((broadcastInDim S16384x48 ![] bcast_S_S16384x48 (constant (F := Ideal) S_ .f32 0x3F800000#32)) (ix2 p j) : EReal) = 1 := by
  pointwise []
theorem zero48_at (p : Fin 16384) (j : Fin 48) :
    ((broadcastInDim S16384x48 ![] bcast_S_S16384x48 (constant (F := Ideal) S_ .f32 0x00000000#32)) (ix2 p j) : EReal) = 0 := by
  pointwise []
theorem zero8_at (p : Fin 16384) (j : Fin 8) :
    ((broadcastInDim S16384x8 ![] bcast_S_S16384x8 (constant (F := Ideal) S_ .f32 0x00000000#32)) (ix2 p j) : EReal) = 0 := by
  pointwise []

/-- The cosine table of position `p` at lane `e` of a head. -/
def cosLane (p : ℕ) (e : Fin 64) : EReal :=
  if h1 : e.val < 8 then Ideal.cos (posOf p * freq (ix1 ⟨e.val, h1⟩))
  else if h2 : e.val - 8 < 8 then Ideal.cos (posOf p * freq (ix1 ⟨e.val - 8, h2⟩))
  else 1
def loLane (p : ℕ) (e : Fin 64) : EReal :=
  if h1 : e.val < 8 then -Ideal.sin (posOf p * freq (ix1 ⟨e.val, h1⟩)) else 0
def hiLane (p : ℕ) (e : Fin 64) : EReal :=
  if h1 : e.val < 8 then 0
  else if h2 : e.val - 8 < 8 then Ideal.sin (posOf p * freq (ix1 ⟨e.val - 8, h2⟩))
  else 0

theorem cos_found (p : Fin 16384) (h : Fin 2) (e : Fin 64) :
    (V m c main_v24 (ix2 p (⟨64 * h.val + e.val, by omega⟩ : Fin 128)) : EReal) = cosLane p.val e := by
  rw [found_cos]
  refine (table_at _ _ _ p h e).trans ?_
  unfold cosLane
  by_cases h1 : e.val < 8
  · rw [dif_pos h1, dif_pos h1]
    refine (cos_at _ _ _).trans ?_
    rw [angles_at]
  · rw [dif_neg h1, dif_neg h1]
    by_cases h2 : e.val - 8 < 8
    · rw [dif_pos h2, dif_pos h2]
      refine (cos_at _ _ _).trans ?_
      rw [angles_at]
    · rw [dif_neg h2, dif_neg h2]
      exact one_at _ _

theorem lo_found (p : Fin 16384) (h : Fin 2) (e : Fin 64) :
    (V m c main_v29 (ix2 p (⟨64 * h.val + e.val, by omega⟩ : Fin 128)) : EReal) = loLane p.val e := by
  rw [found_lo]
  refine (table_at _ _ _ p h e).trans ?_
  unfold loLane
  by_cases h1 : e.val < 8
  · rw [dif_pos h1, dif_pos h1]
    refine (negsin_at _ _ _).trans ?_
    rw [angles_at]
  · rw [dif_neg h1, dif_neg h1]
    by_cases h2 : e.val - 8 < 8
    · rw [dif_pos h2]
      exact zero8_at _ _
    · rw [dif_neg h2]
      exact zero48_at _ _

theorem hi_found (p : Fin 16384) (h : Fin 2) (e : Fin 64) :
    (V m c main_v33 (ix2 p (⟨64 * h.val + e.val, by omega⟩ : Fin 128)) : EReal) = hiLane p.val e := by
  rw [found_hi]
  refine (table_at _ _ _ p h e).trans ?_
  unfold hiLane
  by_cases h1 : e.val < 8
  · rw [dif_pos h1, dif_pos h1]
    exact zero8_at _ _
  · rw [dif_neg h1, dif_neg h1]
    by_cases h2 : e.val - 8 < 8
    · rw [dif_pos h2, dif_pos h2]
      refine (sin_at _ _ _).trans ?_
      rw [angles_at]
    · rw [dif_neg h2, dif_neg h2]
      exact zero48_at _ _

theorem neg_mul_r (x y : EReal) : -(x * y) = x * -y := by rw [mul_comm x, mul_comm x]; exact (EReal.neg_mul y x).symm

/-- One lane of a turned row, in one group and one head of it. -/
theorem turned_lane (z : FVec Ideal S512x768 .f32) (co lo hi : FVec Ideal S512x128 .f32) (r : Fin 512) (p : ℕ) (g : Fin 6) (h : Fin 2)
    (e : Fin 64) (hco : (co (ix2 r ⟨64 * h.val + e.val, by omega⟩) : EReal) = cosLane p e)
    (hlo : (lo (ix2 r ⟨64 * h.val + e.val, by omega⟩) : EReal) = loLane p e)
    (hhi : (hi (ix2 r ⟨64 * h.val + e.val, by omega⟩) : EReal) = hiLane p e) :
    (turned (F := Ideal) z co lo hi (ix2 r ⟨128 * g.val + (64 * h.val + e.val), by omega⟩) : EReal)
      = rotated (fun d => z (ix2 r d)) p ⟨128 * g.val + (64 * h.val + e.val), by omega⟩ := by
  refine (turned_at z co lo hi r g ⟨64 * h.val + e.val, by omega⟩).trans ?_
  rw [hco, hlo, hhi]
  have he := e.isLt
  have hm : (128 * g.val + (64 * h.val + e.val)) % 64 = e.val := by omega
  unfold rotated cosLane loLane hiLane
  by_cases h1 : e.val < 8
  · rw [dif_pos h1, dif_pos h1, dif_pos h1, dif_pos (by show (128 * g.val + (64 * h.val + e.val)) % 64 < 8; omega)]
    have e1 : (⟨(128 * g.val + (64 * h.val + e.val)) % 64, by omega⟩ : Fin 8) = ⟨e.val, h1⟩ := Fin.ext hm
    have e2 : (⟨128 * g.val + (64 * h.val + e.val + 8) % 128, by omega⟩ : Fin 768) = ⟨128 * g.val + (64 * h.val + e.val) + 8, by omega⟩ :=
      Fin.ext (by show 128 * g.val + (64 * h.val + e.val + 8) % 128 = 128 * g.val + (64 * h.val + e.val) + 8; omega)
    simp only [e1, e2, mul_zero, add_zero, sub_eq_add_neg, neg_mul_r]
  · have hn1 : ¬(128 * g.val + (64 * h.val + e.val)) % 64 < 8 := by omega
    rw [dif_neg h1, dif_neg h1, dif_neg h1, dif_neg hn1]
    by_cases h2 : e.val - 8 < 8
    · have hp2 : (128 * g.val + (64 * h.val + e.val)) % 64 - 8 < 8 := by omega
      rw [dif_pos h2, dif_pos h2, dif_pos hp2]
      have e1 : (⟨(128 * g.val + (64 * h.val + e.val)) % 64 - 8, by omega⟩ : Fin 8) = ⟨e.val - 8, h2⟩ :=
        Fin.ext (by show (128 * g.val + (64 * h.val + e.val)) % 64 - 8 = e.val - 8; omega)
      have e2 : (⟨128 * g.val + (64 * h.val + e.val + 120) % 128, by omega⟩ : Fin 768) = ⟨128 * g.val + (64 * h.val + e.val) - 8, by omega⟩ :=
        Fin.ext (by show 128 * g.val + (64 * h.val + e.val + 120) % 128 = 128 * g.val + (64 * h.val + e.val) - 8; omega)
      simp only [e1, e2, mul_zero, add_zero]
    · have hn2 : ¬(128 * g.val + (64 * h.val + e.val)) % 64 - 8 < 8 := by omega
      rw [dif_neg h2, dif_neg h2, dif_neg hn2]
      simp only [mul_zero, add_zero, mul_one]

/-- A turned row. -/
theorem turned_row (z : FVec Ideal S512x768 .f32) (co lo hi : FVec Ideal S512x128 .f32) (r : Fin 512) (p : ℕ)
    (hco : ∀ (h : Fin 2) (e : Fin 64), (co (ix2 r ⟨64 * h.val + e.val, by omega⟩) : EReal) = cosLane p e)
    (hlo : ∀ (h : Fin 2) (e : Fin 64), (lo (ix2 r ⟨64 * h.val + e.val, by omega⟩) : EReal) = loLane p e)
    (hhi : ∀ (h : Fin 2) (e : Fin 64), (hi (ix2 r ⟨64 * h.val + e.val, by omega⟩) : EReal) = hiLane p e) (d : Fin 768) :
    (turned (F := Ideal) z co lo hi (ix2 r d) : EReal) = rotated (fun d => z (ix2 r d)) p d := by
  have hd := d.isLt
  have t := turned_lane z co lo hi r p ⟨d.val / 128, by omega⟩ ⟨d.val % 128 / 64, by omega⟩ ⟨d.val % 64, by omega⟩
    (hco _ _) (hlo _ _) (hhi _ _)
  rwa [show (⟨128 * (d.val / 128) + (64 * (d.val % 128 / 64) + d.val % 64), by omega⟩ : Fin 768) = d from
    Fin.ext (by show 128 * (d.val / 128) + (64 * (d.val % 128 / 64) + d.val % 64) = d.val; omega)] at t

end Cert.Proj

end
-- ==== Proof.ProjValue.lean ====
/-
  The projection kernel's input blocks as entries of its arguments, and its five results at one index.
-/
module

public import proofs.«01_k».proof.Proof.ProjTable

@[expose] public section

set_option maxRecDepth 16384

noncomputable section

namespace Cert.Proj

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

abbrev argX : FVec Ideal ⟨2, ![49152, 2048]⟩ .f32 := m ((c.tc : Thread nD τ).loc main_arg0)
abbrev argW : FVec Ideal ⟨3, ![2, 2048, 4864]⟩ .f32 := m ((c.tc : Thread nD τ).loc main_arg1)

/-- Entry of the rows times the first layer's weight. -/
def prod (x : FVec Ideal ⟨2, ![49152, 2048]⟩ .f32) (w : FVec Ideal ⟨3, ![2, 2048, 4864]⟩ .f32) (R : Fin 49152) (j : Fin 4864) : EReal :=
  ∑ k : Fin 2048, x (ix2 R k) * w (ix3 0 k j)

theorem rotated_congr {z z' : Fin 768 → EReal} (h : ∀ d, z d = z' d) (p : ℕ) (d : Fin 768) : rotated z p d = rotated z' p d := by
  rw [funext h]

/-- A row's position in its sequence: eight prompts of 4096 rows, then one sequence of 16384. -/
def seqPos (R : ℕ) : ℕ := if R < 32768 then R % 4096 else R - 32768

theorem seqPos_lt (R : Fin 49152) : seqPos R.val < 16384 := by
  have := R.isLt
  unfold seqPos
  split_ifs <;> omega

/-! ## The arrays the region finds -/

theorem found_qkv (l : Fin 2) (k : Fin 2048) (j : Fin 2304) :
    (V m c main_v35 (ix3 l k j) : EReal) = argW m c (ix3 l k ⟨j.val, by omega⟩) := by
  have e : V m c main_v35 = extractStridedSlice S2x2048x2304 ![0, 0, 0]
      (truncf .bf16 (argW m c) bitsLt_bf16_f32 : FVec Ideal ⟨3, ![2, 2048, 4864]⟩ .bf16) slices_S2x2048x4864_S2x2048x2304_0_0_0 := by
    show StableHlo.after hostOps0 (fun b => m (c, b)) main_v35 = _
    simp only [hostOps0, List.flatten_cons, List.flatten_nil, List.append_nil, List.cons_append, List.nil_append]
    after_results_simp
  rw [e]
  generalize argW m c = w
  pointwise []

theorem found_lru (l : Fin 2) (k : Fin 2048) (j : Fin 2560) :
    (V m c main_v36 (ix3 l k j) : EReal) = argW m c (ix3 l k ⟨2304 + j.val, by omega⟩) := by
  have e : V m c main_v36 = extractStridedSlice S2x2048x2560 ![0, 0, 2304]
      (truncf .bf16 (argW m c) bitsLt_bf16_f32 : FVec Ideal ⟨3, ![2, 2048, 4864]⟩ .bf16) slices_S2x2048x4864_S2x2048x2560_0_0_2304 := by
    show StableHlo.after hostOps0 (fun b => m (c, b)) main_v36 = _
    simp only [hostOps0, List.flatten_cons, List.flatten_nil, List.append_nil, List.cons_append, List.nil_append]
    after_results_simp
  rw [e]
  generalize argW m c = w
  pointwise []

/-! ## The block indices of each window -/

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = 0 ∧ win0_2.index t 1 = 0 ∧ win0_2.index t 2 = 1 := by decide +kernel
theorem idx3 : ∀ t : Fin grid0.N, win0_3.index t 0 = 0 ∧ win0_3.index t 1 = 0 ∧ win0_3.index t 2 = 2 := by decide +kernel
theorem idx4 : ∀ t : Fin grid0.N, win0_4.index t 0 = 0 ∧ win0_4.index t 1 = 0 ∧ win0_4.index t 2 = 0 := by decide +kernel
theorem idx5 : ∀ t : Fin grid0.N, win0_5.index t 0 = 0 ∧ win0_5.index t 1 = 0 ∧ win0_5.index t 2 = 1 := by decide +kernel
theorem idx6 : ∀ t : Fin grid0.N, win0_6.index t 0 = (if t.val < 64 then t.val % 8 else t.val - 64) ∧ win0_6.index t 1 = 0 := by decide +kernel
theorem idx7 : ∀ t : Fin grid0.N, win0_7.index t 0 = (if t.val < 64 then t.val % 8 else t.val - 64) ∧ win0_7.index t 1 = 0 := by decide +kernel
theorem idx8 : ∀ t : Fin grid0.N, win0_8.index t 0 = (if t.val < 64 then t.val % 8 else t.val - 64) ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel
theorem idx12 : ∀ t : Fin grid0.N, win0_12.index t 0 = t.val ∧ win0_12.index t 1 = 0 := by decide +kernel
theorem idx13 : ∀ t : Fin grid0.N, win0_13.index t 0 = t.val ∧ win0_13.index t 1 = 0 := by decide +kernel

theorem pt_lt (t : Fin cfg0.N) : t.val < 96 := lt_of_lt_of_eq t.isLt (show cfg0.N = 96 from N_0)

/-- Row `r` of row block `t`, as a row of the whole array. -/
abbrev rowOf (t : Fin cfg0.N) (r : Fin 512) : Fin 49152 := ⟨t.val * 512 + r.val, by have := pt_lt t; omega⟩

theorem pos_block (t : Fin cfg0.N) (r : Fin 512) : (if t.val < 64 then t.val % 8 else t.val - 64) * 512 + r.val = seqPos (rowOf t r).val := by
  have := pt_lt t
  show _ = seqPos (t.val * 512 + r.val)
  unfold seqPos
  split_ifs <;> omega

theorem blk_x (t : Fin cfg0.N) (r : Fin 512) (k : Fin 2048) :
    ((iblk m c 0 t : Vec Ideal S512x2048 .f32) (ix2 r k) : EReal) = argX m c (ix2 (rowOf t r) k) := by
  unfold iblk
  rw [View.read_apply]
  show V m c main_arg0 _ = _
  rw [V_main_arg0]
  congr 1; funext a; apply Fin.ext
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega

theorem blk_q (t : Fin cfg0.N) (k : Fin 2048) (d : Fin 768) :
    ((iblk m c 1 t : Vec Ideal S1x2048x768 .bf16) (ix3 0 k d) : EReal) = argW m c (ix3 0 k ⟨d.val, by omega⟩) := by
  refine Eq.trans ?_ (found_qkv m c 0 k ⟨d.val, by omega⟩)
  unfold iblk
  rw [View.read_apply]
  show V m c main_v35 _ = _
  congr 1; funext a; apply Fin.ext
  match a with
  | ⟨0, _⟩ => show win0_1.index t 0 * 1 + 1 * 0 = 0; rw [(idx1 t).1]
  | ⟨1, _⟩ => show win0_1.index t 1 * 2048 + 1 * k.val = k.val; rw [(idx1 t).2.1]; omega
  | ⟨2, _⟩ => show win0_1.index t 2 * 768 + 1 * d.val = d.val; rw [(idx1 t).2.2]; omega

theorem blk_k (t : Fin cfg0.N) (k : Fin 2048) (d : Fin 768) :
    ((iblk m c 2 t : Vec Ideal S1x2048x768 .bf16) (ix3 0 k d) : EReal) = argW m c (ix3 0 k ⟨768 + d.val, by omega⟩) := by
  refine Eq.trans ?_ (found_qkv m c 0 k ⟨768 + d.val, by omega⟩)
  unfold iblk
  rw [View.read_apply]
  show V m c main_v35 _ = _
  congr 1; funext a; apply Fin.ext
  match a with
  | ⟨0, _⟩ => show win0_2.index t 0 * 1 + 1 * 0 = 0; rw [(idx2 t).1]
  | ⟨1, _⟩ => show win0_2.index t 1 * 2048 + 1 * k.val = k.val; rw [(idx2 t).2.1]; omega
  | ⟨2, _⟩ => show win0_2.index t 2 * 768 + 1 * d.val = 768 + d.val; rw [(idx2 t).2.2]; omega

theorem blk_v (t : Fin cfg0.N) (k : Fin 2048) (d : Fin 768) :
    ((iblk m c 3 t : Vec Ideal S1x2048x768 .bf16) (ix3 0 k d) : EReal) = argW m c (ix3 0 k ⟨1536 + d.val, by omega⟩) := by
  refine Eq.trans ?_ (found_qkv m c 0 k ⟨1536 + d.val, by omega⟩)
  unfold iblk
  rw [View.read_apply]
  show V m c main_v35 _ = _
  congr 1; funext a; apply Fin.ext
  match a with
  | ⟨0, _⟩ => show win0_3.index t 0 * 1 + 1 * 0 = 0; rw [(idx3 t).1]
  | ⟨1, _⟩ => show win0_3.index t 1 * 2048 + 1 * k.val = k.val; rw [(idx3 t).2.1]; omega
  | ⟨2, _⟩ => show win0_3.index t 2 * 768 + 1 * d.val = 1536 + d.val; rw [(idx3 t).2.2]; omega

theorem blk_xl (t : Fin cfg0.N) (k : Fin 2048) (d : Fin 1280) :
    ((iblk m c 4 t : Vec Ideal S1x2048x1280 .bf16) (ix3 0 k d) : EReal) = argW m c (ix3 0 k ⟨2304 + d.val, by omega⟩) := by
  refine Eq.trans ?_ (found_lru m c 0 k ⟨d.val, by omega⟩)
  unfold iblk
  rw [View.read_apply]
  show V m c main_v36 _ = _
  congr 1; funext a; apply Fin.ext
  match a with
  | ⟨0, _⟩ => show win0_4.index t 0 * 1 + 1 * 0 = 0; rw [(idx4 t).1]
  | ⟨1, _⟩ => show win0_4.index t 1 * 2048 + 1 * k.val = k.val; rw [(idx4 t).2.1]; omega
  | ⟨2, _⟩ => show win0_4.index t 2 * 1280 + 1 * d.val = d.val; rw [(idx4 t).2.2]; omega

theorem blk_gl (t : Fin cfg0.N) (k : Fin 2048) (d : Fin 1280) :
    ((iblk m c 5 t : Vec Ideal S1x2048x1280 .bf16) (ix3 0 k d) : EReal) = argW m c (ix3 0 k ⟨3584 + d.val, by omega⟩) := by
  have e := found_lru m c 0 k ⟨1280 + d.val, by omega⟩
  rw [show (⟨2304 + (1280 + d.val), by omega⟩ : Fin 4864) = ⟨3584 + d.val, by omega⟩ from
    Fin.ext (by show 2304 + (1280 + d.val) = 3584 + d.val; omega)] at e
  refine Eq.trans ?_ e
  unfold iblk
  rw [View.read_apply]
  show V m c main_v36 _ = _
  congr 1; funext a; apply Fin.ext
  match a with
  | ⟨0, _⟩ => show win0_5.index t 0 * 1 + 1 * 0 = 0; rw [(idx5 t).1]
  | ⟨1, _⟩ => show win0_5.index t 1 * 2048 + 1 * k.val = k.val; rw [(idx5 t).2.1]; omega
  | ⟨2, _⟩ => show win0_5.index t 2 * 1280 + 1 * d.val = 1280 + d.val; rw [(idx5 t).2.2]; omega

theorem blk_co (t : Fin cfg0.N) (r : Fin 512) (h : Fin 2) (e : Fin 64) :
    ((iblk m c 6 t : Vec Ideal S512x128 .f32) (ix2 r (⟨64 * h.val + e.val, by omega⟩ : Fin 128)) : EReal) = cosLane (seqPos (rowOf t r).val) e := by
  refine Eq.trans ?_ (cos_found m c ⟨seqPos (rowOf t r).val, seqPos_lt _⟩ h e)
  unfold iblk
  rw [View.read_apply]
  show V m c main_v24 _ = _
  congr 1; funext a; apply Fin.ext
  match a with
  | ⟨0, _⟩ => show win0_6.index t 0 * 512 + 1 * r.val = seqPos (rowOf t r).val; rw [(idx6 t).1, one_mul]; exact pos_block t r
  | ⟨1, _⟩ => show win0_6.index t 1 * 128 + 1 * (64 * h.val + e.val) = 64 * h.val + e.val; rw [(idx6 t).2]; omega

theorem blk_lo (t : Fin cfg0.N) (r : Fin 512) (h : Fin 2) (e : Fin 64) :
    ((iblk m c 7 t : Vec Ideal S512x128 .f32) (ix2 r (⟨64 * h.val + e.val, by omega⟩ : Fin 128)) : EReal) = loLane (seqPos (rowOf t r).val) e := by
  refine Eq.trans ?_ (lo_found m c ⟨seqPos (rowOf t r).val, seqPos_lt _⟩ h e)
  unfold iblk
  rw [View.read_apply]
  show V m c main_v29 _ = _
  congr 1; funext a; apply Fin.ext
  match a with
  | ⟨0, _⟩ => show win0_7.index t 0 * 512 + 1 * r.val = seqPos (rowOf t r).val; rw [(idx7 t).1, one_mul]; exact pos_block t r
  | ⟨1, _⟩ => show win0_7.index t 1 * 128 + 1 * (64 * h.val + e.val) = 64 * h.val + e.val; rw [(idx7 t).2]; omega

theorem blk_hi (t : Fin cfg0.N) (r : Fin 512) (h : Fin 2) (e : Fin 64) :
    ((iblk m c 8 t : Vec Ideal S512x128 .f32) (ix2 r (⟨64 * h.val + e.val, by omega⟩ : Fin 128)) : EReal) = hiLane (seqPos (rowOf t r).val) e := by
  refine Eq.trans ?_ (hi_found m c ⟨seqPos (rowOf t r).val, seqPos_lt _⟩ h e)
  unfold iblk
  rw [View.read_apply]
  show V m c main_v33 _ = _
  congr 1; funext a; apply Fin.ext
  match a with
  | ⟨0, _⟩ => show win0_8.index t 0 * 512 + 1 * r.val = seqPos (rowOf t r).val; rw [(idx8 t).1, one_mul]; exact pos_block t r
  | ⟨1, _⟩ => show win0_8.index t 1 * 128 + 1 * (64 * h.val + e.val) = 64 * h.val + e.val; rw [(idx8 t).2]; omega

/-! ## What a grid point writes -/

theorem scaled_at (z : FVec Ideal S512x768 .f32) (r : Fin 512) (d : Fin 768) :
    ((truncf .bf16 (mulf z (broadcast S512x768 (Scalar.ofBits .f32 0x3E000000#32))) bitsLt_bf16_f32 : FVec Ideal S512x768 .bf16) (ix2 r d) : EReal)
      = z (ix2 r d) * Ideal.ofBits .f32 0x3E000000#32 := by
  pointwise []

theorem rounded_at (z : FVec Ideal S512x768 .f32) (r : Fin 512) (d : Fin 768) :
    ((truncf .bf16 z bitsLt_bf16_f32 : FVec Ideal S512x768 .bf16) (ix2 r d) : EReal) = z (ix2 r d) := by
  pointwise []

theorem q_blk (t : Fin cfg0.N) (r : Fin 512) (d : Fin 768) :
    ((((cfg0.win 9).blk t).view.read (Elt Ideal) ((Gen.dats m 0 c).arrAt 9 cfg0.N)) (ix2 r d) : EReal)
      = rotated (fun d => prod (argX m c) (argW m c) (rowOf t r) ⟨d.val, by omega⟩) (seqPos (rowOf t r).val) d * Ideal.ofBits .f32 0x3E000000#32 := by
  rw [Value.blocks9 m c t (flush0_9 t), Value.flushed9, q_out]
  refine (scaled_at _ r d).trans (congrArg (· * _) ?_)
  rw [turned_row _ _ _ _ r _ (blk_co m c t r) (blk_lo m c t r) (blk_hi m c t r) d]
  refine rotated_congr (fun d' => ?_) _ d
  refine (slab_at _ _ r d').trans (Finset.sum_congr rfl fun k _ => ?_)
  rw [blk_x, blk_q]

theorem k_blk (t : Fin cfg0.N) (r : Fin 512) (d : Fin 768) :
    ((((cfg0.win 10).blk t).view.read (Elt Ideal) ((Gen.dats m 0 c).arrAt 10 cfg0.N)) (ix2 r d) : EReal)
      = rotated (fun d => prod (argX m c) (argW m c) (rowOf t r) ⟨768 + d.val, by omega⟩) (seqPos (rowOf t r).val) d := by
  rw [Value.blocks10 m c t (flush0_10 t), Value.flushed10, k_out]
  refine (rounded_at _ r d).trans ?_
  rw [turned_row _ _ _ _ r _ (blk_co m c t r) (blk_lo m c t r) (blk_hi m c t r) d]
  refine rotated_congr (fun d' => ?_) _ d
  refine (slab_at _ _ r d').trans (Finset.sum_congr rfl fun k _ => ?_)
  rw [blk_x, blk_k]

theorem v_blk (t : Fin cfg0.N) (r : Fin 512) (d : Fin 768) :
    ((((cfg0.win 11).blk t).view.read (Elt Ideal) ((Gen.dats m 0 c).arrAt 11 cfg0.N)) (ix2 r d) : EReal)
      = prod (argX m c) (argW m c) (rowOf t r) ⟨1536 + d.val, by omega⟩ := by
  rw [Value.blocks11 m c t (flush0_11 t), Value.flushed11, v_out]
  refine (rounded_at _ r d).trans ?_
  refine (slab_at _ _ r d).trans (Finset.sum_congr rfl fun k _ => ?_)
  rw [blk_x, blk_v]

theorem xl_blk (t : Fin cfg0.N) (r : Fin 512) (d : Fin 1280) :
    ((((cfg0.win 12).blk t).view.read (Elt Ideal) ((Gen.dats m 0 c).arrAt 12 cfg0.N)) (ix2 r d) : EReal)
      = prod (argX m c) (argW m c) (rowOf t r) ⟨2304 + d.val, by omega⟩ := by
  rw [Value.blocks12 m c t (flush0_12 t), Value.flushed12, x_out]
  refine (x_at _ _ r d).trans (Finset.sum_congr rfl fun k _ => ?_)
  rw [blk_x, blk_xl]

theorem gl_blk (t : Fin cfg0.N) (r : Fin 512) (d : Fin 1280) :
    ((((cfg0.win 13).blk t).view.read (Elt Ideal) ((Gen.dats m 0 c).arrAt 13 cfg0.N)) (ix2 r d) : EReal)
      = prod (argX m c) (argW m c) (rowOf t r) ⟨3584 + d.val, by omega⟩ := by
  rw [Value.blocks13 m c t (flush0_13 t), Value.flushed13, g_out]
  refine (g_at _ _ r d).trans (Finset.sum_congr rfl fun k _ => ?_)
  rw [blk_x, blk_gl]

/-! ## The results at one index -/

/-- The grid point that computes row `R`. -/
abbrev ptOf (R : Fin 49152) : Fin cfg0.N := ⟨R.val / 512, by have h : cfg0.N = 96 := N_0; have := R.isLt; omega⟩
/-- The row inside the point's block. -/
abbrev inBlk (R : Fin 49152) : Fin 512 := ⟨R.val % 512, Nat.mod_lt _ (by decide)⟩

theorem row_back (R : Fin 49152) : rowOf (ptOf R) (inBlk R) = R := Fin.ext (by show R.val / 512 * 512 + R.val % 512 = R.val; omega)

theorem q_at (R : Fin 49152) (d : Fin 768) :
    ((Gen.dats m 0 c).arrAt 9 cfg0.N (ix2 R d) : EReal)
      = rotated (fun d => prod (argX m c) (argW m c) R ⟨d.val, by omega⟩) (seqPos R.val) d * Ideal.ofBits .f32 0x3E000000#32 := by
  have e := q_blk m c (ptOf R) (inBlk R) d
  rw [View.read_apply] at e
  have ei : (((cfg0.win 9).blk (ptOf R)).view.emb (ix2 (inBlk R) d) : S49152x768.Idx) = ix2 R d := by
    funext a; apply Fin.ext
    match a with
    | ⟨0, _⟩ => show win0_9.index (ptOf R) 0 * 512 + 1 * (R.val % 512) = R.val; rw [(idx9 _).1]; show R.val / 512 * 512 + _ = _; omega
    | ⟨1, _⟩ => show win0_9.index (ptOf R) 1 * 768 + 1 * d.val = d.val; rw [(idx9 _).2]; omega
  refine ((congrArg ((Gen.dats m 0 c).arrAt 9 cfg0.N) ei).symm.trans e).trans ?_
  rw [row_back]

theorem k_at (R : Fin 49152) (d : Fin 768) :
    ((Gen.dats m 0 c).arrAt 10 cfg0.N (ix2 R d) : EReal)
      = rotated (fun d => prod (argX m c) (argW m c) R ⟨768 + d.val, by omega⟩) (seqPos R.val) d := by
  have e := k_blk m c (ptOf R) (inBlk R) d
  rw [View.read_apply] at e
  have ei : (((cfg0.win 10).blk (ptOf R)).view.emb (ix2 (inBlk R) d) : S49152x768.Idx) = ix2 R d := by
    funext a; apply Fin.ext
    match a with
    | ⟨0, _⟩ => show win0_10.index (ptOf R) 0 * 512 + 1 * (R.val % 512) = R.val; rw [(idx10 _).1]; show R.val / 512 * 512 + _ = _; omega
    | ⟨1, _⟩ => show win0_10.index (ptOf R) 1 * 768 + 1 * d.val = d.val; rw [(idx10 _).2]; omega
  refine ((congrArg ((Gen.dats m 0 c).arrAt 10 cfg0.N) ei).symm.trans e).trans ?_
  rw [row_back]

theorem v_at (R : Fin 49152) (d : Fin 768) :
    ((Gen.dats m 0 c).arrAt 11 cfg0.N (ix2 R d) : EReal) = prod (argX m c) (argW m c) R ⟨1536 + d.val, by omega⟩ := by
  have e := v_blk m c (ptOf R) (inBlk R) d
  rw [View.read_apply] at e
  have ei : (((cfg0.win 11).blk (ptOf R)).view.emb (ix2 (inBlk R) d) : S49152x768.Idx) = ix2 R d := by
    funext a; apply Fin.ext
    match a with
    | ⟨0, _⟩ => show win0_11.index (ptOf R) 0 * 512 + 1 * (R.val % 512) = R.val; rw [(idx11 _).1]; show R.val / 512 * 512 + _ = _; omega
    | ⟨1, _⟩ => show win0_11.index (ptOf R) 1 * 768 + 1 * d.val = d.val; rw [(idx11 _).2]; omega
  refine ((congrArg ((Gen.dats m 0 c).arrAt 11 cfg0.N) ei).symm.trans e).trans ?_
  rw [row_back]

theorem xl_at (R : Fin 49152) (d : Fin 1280) :
    ((Gen.dats m 0 c).arrAt 12 cfg0.N (ix2 R d) : EReal) = prod (argX m c) (argW m c) R ⟨2304 + d.val, by omega⟩ := by
  have e := xl_blk m c (ptOf R) (inBlk R) d
  rw [View.read_apply] at e
  have ei : (((cfg0.win 12).blk (ptOf R)).view.emb (ix2 (inBlk R) d) : S49152x1280.Idx) = ix2 R d := by
    funext a; apply Fin.ext
    match a with
    | ⟨0, _⟩ => show win0_12.index (ptOf R) 0 * 512 + 1 * (R.val % 512) = R.val; rw [(idx12 _).1]; show R.val / 512 * 512 + _ = _; omega
    | ⟨1, _⟩ => show win0_12.index (ptOf R) 1 * 1280 + 1 * d.val = d.val; rw [(idx12 _).2]; omega
  refine ((congrArg ((Gen.dats m 0 c).arrAt 12 cfg0.N) ei).symm.trans e).trans ?_
  rw [row_back]

theorem gl_at (R : Fin 49152) (d : Fin 1280) :
    ((Gen.dats m 0 c).arrAt 13 cfg0.N (ix2 R d) : EReal) = prod (argX m c) (argW m c) R ⟨3584 + d.val, by omega⟩ := by
  have e := gl_blk m c (ptOf R) (inBlk R) d
  rw [View.read_apply] at e
  have ei : (((cfg0.win 13).blk (ptOf R)).view.emb (ix2 (inBlk R) d) : S49152x1280.Idx) = ix2 R d := by
    funext a; apply Fin.ext
    match a with
    | ⟨0, _⟩ => show win0_13.index (ptOf R) 0 * 512 + 1 * (R.val % 512) = R.val; rw [(idx13 _).1]; show R.val / 512 * 512 + _ = _; omega
    | ⟨1, _⟩ => show win0_13.index (ptOf R) 1 * 1280 + 1 * d.val = d.val; rw [(idx13 _).2]; omega
  refine ((congrArg ((Gen.dats m 0 c).arrAt 13 cfg0.N) ei).symm.trans e).trans ?_
  rw [row_back]

end Cert.Proj

end
-- ==== Proof.ProjRef.lean ====
/-
  The projection reference over the extended reals, step by step, read at one index: its prompts (8 sequences of 4096
  rows) and its sample (one sequence of 16384 rows). Each step is a function of the arrays before it.
-/
module

public import proofs.«01_k».proof.Proof.ProjValue
public import proofs.«01_k».proof.Proof.Gen.Reference3Ideal.Run
public import Idealize.ShloMosaic.Lib.Tactic.CleanTypes

@[expose] public section

set_option maxRecDepth 16384

noncomputable section

namespace Cert.ProjRef

open Idealize.ShloMosaic Idealize.ShloMosaic.TcCoe Idealize.SL.Sem
open Cert.Reference3Ideal Cert.Reference3Ideal.Gen
open Cert.Proj (freq posOf rotated prod seqPos)

/-! ## The prompts -/

/-- The projected rows. -/
def prodP (x : FVec Ideal S49152x2048 .f32) (w : FVec Ideal S2x2048x4864 .f32) : FVec Ideal S8x4096x4864 .f32 :=
  Host.dotGeneral dot_S8x4096x2048_S2048x4864_S8x4096x4864_2_0_01_1_n_n none (shapeCast _ (extractStridedSlice S32768x2048 ![0, 0] x slices_S49152x2048_S32768x2048_0_0) shapeCasts_S32768x2048_S8x4096x2048) (shapeCast _ (extractStridedSlice S1x2048x4864 ![0, 0, 0] w slices_S2x2048x4864_S1x2048x4864_0_0_0) shapeCasts_S1x2048x4864_S2048x4864)

/-- The queries as heads. -/
def qsP (z : FVec Ideal S8x4096x4864 .f32) : FVec Ideal S8x4096x12x64 .f32 :=
  shapeCast _ (extractStridedSlice S8x4096x768 ![0, 0, 0] z slices_S8x4096x4864_S8x4096x768_0_0_0) shapeCasts_S8x4096x768_S8x4096x12x64

/-- The keys as heads. -/
def ksP (z : FVec Ideal S8x4096x4864 .f32) : FVec Ideal S8x4096x12x64 .f32 :=
  shapeCast _ (extractStridedSlice S8x4096x768 ![0, 0, 768] z slices_S8x4096x4864_S8x4096x768_0_0_768) shapeCasts_S8x4096x768_S8x4096x12x64

/-- Every position times every frequency. -/
def anglesP (f : FVec Ideal S8 .f32) : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 f))

def spreadP (a : FVec Ideal S4096x8 .f32) : FVec Ideal S1x4096x1x8 .f32 :=
  broadcastInDim S1x4096x1x8 ![1, 3] bcast_S4096x8_S1x4096x1x8_1_3 a

/-- The first eight lanes of every head. -/
def lowP (q : FVec Ideal S8x4096x12x64 .f32) : FVec Ideal S8x4096x12x8 .f32 :=
  extractStridedSlice S8x4096x12x8 ![0, 0, 0, 0] (extractStridedSlice S8x4096x12x16 ![0, 0, 0, 0] q slices_S8x4096x12x64_S8x4096x12x16_0_0_0_0) slices_S8x4096x12x16_S8x4096x12x8_0_0_0_0

/-- The next eight. -/
def highP (q : FVec Ideal S8x4096x12x64 .f32) : FVec Ideal S8x4096x12x8 .f32 :=
  extractStridedSlice S8x4096x12x8 ![0, 0, 0, 8] (extractStridedSlice S8x4096x12x16 ![0, 0, 0, 0] q slices_S8x4096x12x64_S8x4096x12x16_0_0_0_0) slices_S8x4096x12x16_S8x4096x12x8_0_0_0_8

/-- The heads with their first sixteen lanes turned by the position. -/
def turnedP (q : FVec Ideal S8x4096x12x64 .f32) (co si : FVec Ideal S1x4096x1x8 .f32) : FVec Ideal S8x4096x12x64 .f32 :=
  concatenate S8x4096x12x64 3 [⟨S8x4096x12x16, (concatenate S8x4096x12x16 3 [⟨S8x4096x12x8, (subf (mulf (lowP q) (broadcastInDim S8x4096x12x8 ![0, 1, 2, 3] bcast_S1x4096x1x8_S8x4096x12x8_0_1_2_3 co)) (mulf (highP q) (broadcastInDim S8x4096x12x8 ![0, 1, 2, 3] bcast_S1x4096x1x8_S8x4096x12x8_0_1_2_3 si)))⟩, ⟨S8x4096x12x8, (addf (mulf (highP q) (broadcastInDim S8x4096x12x8 ![0, 1, 2, 3] bcast_S1x4096x1x8_S8x4096x12x8_0_1_2_3 co)) (mulf (lowP q) (broadcastInDim S8x4096x12x8 ![0, 1, 2, 3] bcast_S1x4096x1x8_S8x4096x12x8_0_1_2_3 si)))⟩] concatenates_S8x4096x12x8_S8x4096x12x8_S8x4096x12x16_d3)⟩, ⟨S8x4096x12x48, (extractStridedSlice S8x4096x12x48 ![0, 0, 0, 16] q slices_S8x4096x12x64_S8x4096x12x48_0_0_0_16)⟩] concatenates_S8x4096x12x16_S8x4096x12x48_S8x4096x12x64_d3

def flatQP (z : FVec Ideal S8x4096x12x64 .f32) : FVec Ideal S32768x768 .bf16 :=
  shapeCast _ (truncf .bf16 (mulf (shapeCast _ z shapeCasts_S8x4096x12x64_S8x4096x768) (broadcastInDim S8x4096x768 ![] bcast_S_S8x4096x768 (constant S_ .f32 0x3E000000#32))) bitsLt_bf16_f32) shapeCasts_S8x4096x768_S32768x768

def flatKP (z : FVec Ideal S8x4096x12x64 .f32) : FVec Ideal S32768x768 .bf16 :=
  shapeCast _ (truncf .bf16 (shapeCast _ z shapeCasts_S8x4096x12x64_S8x4096x768) bitsLt_bf16_f32) shapeCasts_S8x4096x768_S32768x768

def flatVP (z : FVec Ideal S8x4096x4864 .f32) : FVec Ideal S32768x768 .bf16 :=
  shapeCast _ (truncf .bf16 (extractStridedSlice S8x4096x768 ![0, 0, 1536] z slices_S8x4096x4864_S8x4096x768_0_0_1536) bitsLt_bf16_f32) shapeCasts_S8x4096x768_S32768x768

def flatXP (z : FVec Ideal S8x4096x4864 .f32) : FVec Ideal S32768x1280 .f32 :=
  shapeCast _ (extractStridedSlice S8x4096x1280 ![0, 0, 2304] z slices_S8x4096x4864_S8x4096x1280_0_0_2304) shapeCasts_S8x4096x1280_S32768x1280

def flatGP (z : FVec Ideal S8x4096x4864 .f32) : FVec Ideal S32768x1280 .f32 :=
  shapeCast _ (extractStridedSlice S8x4096x1280 ![0, 0, 3584] z slices_S8x4096x4864_S8x4096x1280_0_0_3584) shapeCasts_S8x4096x1280_S32768x1280

theorem prodP_at (x : FVec Ideal S49152x2048 .f32) (w : FVec Ideal S2x2048x4864 .f32) (b : Fin 8) (t : Fin 4096) (j : Fin 4864) :
    (prodP x w (ix3 b t j) : EReal) = prod x w ⟨4096 * b.val + t.val, by omega⟩ j := by
  pointwise [prodP, prod]
  simp only [Nat.mul_comm]

theorem qsP_at (z : FVec Ideal S8x4096x4864 .f32) (b : Fin 8) (t : Fin 4096) (h : Fin 12) (e : Fin 64) :
    (qsP z (ix4 b t h e) : EReal) = z (ix3 b t ⟨64 * h.val + e.val, by omega⟩) := by
  pointwise [qsP]
  simp only [Nat.mul_comm]

theorem ksP_at (z : FVec Ideal S8x4096x4864 .f32) (b : Fin 8) (t : Fin 4096) (h : Fin 12) (e : Fin 64) :
    (ksP z (ix4 b t h e) : EReal) = z (ix3 b t ⟨768 + (64 * h.val + e.val), by omega⟩) := by
  pointwise [ksP]
  simp only [Nat.mul_comm]

theorem anglesP_at (f : FVec Ideal S8 .f32) (t : Fin 4096) (j : Fin 8) : (anglesP f (ix2 t j) : EReal) = posOf t.val * f (ix1 j) := by
  pointwise [anglesP, posOf]

theorem cosP_at (a : FVec Ideal S4096x8 .f32) (t : Fin 4096) (j : Fin 8) : (spreadP (Host.cos a) (ix4 0 t 0 j) : EReal) = Ideal.cos (a (ix2 t j)) := by
  pointwise [spreadP]

theorem sinP_at (a : FVec Ideal S4096x8 .f32) (t : Fin 4096) (j : Fin 8) : (spreadP (Host.sin a) (ix4 0 t 0 j) : EReal) = Ideal.sin (a (ix2 t j)) := by
  pointwise [spreadP]

theorem turnedP_at (q : FVec Ideal S8x4096x12x64 .f32) (co si : FVec Ideal S1x4096x1x8 .f32) (b : Fin 8) (t : Fin 4096) (h : Fin 12) (e : Fin 64) :
    (turnedP q co si (ix4 b t h e) : EReal)
      = if h1 : e.val < 16 then
          if h2 : e.val < 8 then
            q (ix4 b t h ⟨e.val, by omega⟩) * co (ix4 0 t 0 ⟨e.val, h2⟩) - q (ix4 b t h ⟨8 + e.val, by omega⟩) * si (ix4 0 t 0 ⟨e.val, h2⟩)
          else q (ix4 b t h ⟨8 + (e.val - 8), by omega⟩) * co (ix4 0 t 0 ⟨e.val - 8, by omega⟩)
            + q (ix4 b t h ⟨e.val - 8, by omega⟩) * si (ix4 0 t 0 ⟨e.val - 8, by omega⟩)
        else q (ix4 b t h ⟨16 + (e.val - 16), by omega⟩) := by
  pointwise [turnedP, lowP, highP]

theorem flatQP_at (z : FVec Ideal S8x4096x12x64 .f32) (b : Fin 8) (t : Fin 4096) (h : Fin 12) (e : Fin 64) :
    (flatQP z (ix2 ⟨4096 * b.val + t.val, by omega⟩ ⟨64 * h.val + e.val, by omega⟩) : EReal) = z (ix4 b t h e) * Ideal.ofBits .f32 0x3E000000#32 := by
  pointwise [flatQP]

theorem flatKP_at (z : FVec Ideal S8x4096x12x64 .f32) (b : Fin 8) (t : Fin 4096) (h : Fin 12) (e : Fin 64) :
    (flatKP z (ix2 ⟨4096 * b.val + t.val, by omega⟩ ⟨64 * h.val + e.val, by omega⟩) : EReal) = z (ix4 b t h e) := by
  pointwise [flatKP]

theorem flatVP_at (z : FVec Ideal S8x4096x4864 .f32) (b : Fin 8) (t : Fin 4096) (d : Fin 768) :
    (flatVP z (ix2 ⟨4096 * b.val + t.val, by omega⟩ d) : EReal) = z (ix3 b t ⟨1536 + d.val, by omega⟩) := by
  pointwise [flatVP]

theorem flatXP_at (z : FVec Ideal S8x4096x4864 .f32) (b : Fin 8) (t : Fin 4096) (d : Fin 1280) :
    (flatXP z (ix2 ⟨4096 * b.val + t.val, by omega⟩ d) : EReal) = z (ix3 b t ⟨2304 + d.val, by omega⟩) := by
  pointwise [flatXP]

theorem flatGP_at (z : FVec Ideal S8x4096x4864 .f32) (b : Fin 8) (t : Fin 4096) (d : Fin 1280) :
    (flatGP z (ix2 ⟨4096 * b.val + t.val, by omega⟩ d) : EReal) = z (ix3 b t ⟨3584 + d.val, by omega⟩) := by
  pointwise [flatGP]

/-- A turned entry in the words of one row. -/
theorem turnedP_row (q : FVec Ideal S8x4096x12x64 .f32) (z : Fin 768 → EReal) (b : Fin 8) (t : Fin 4096)
    (hq : ∀ (h : Fin 12) (e : Fin 64), (q (ix4 b t h e) : EReal) = z ⟨64 * h.val + e.val, by omega⟩) (h : Fin 12) (e : Fin 64) :
    (turnedP q (spreadP (Host.cos (anglesP freq))) (spreadP (Host.sin (anglesP freq))) (ix4 b t h e) : EReal)
      = rotated z t.val ⟨64 * h.val + e.val, by omega⟩ := by
  refine (turnedP_at q _ _ b t h e).trans ?_
  have he := e.isLt
  have hm : (64 * h.val + e.val) % 64 = e.val := by omega
  unfold rotated
  by_cases h1 : e.val < 16
  · by_cases h2 : e.val < 8
    · have n1 : (64 * h.val + e.val) % 64 < 8 := by omega
      rw [dif_pos h1, dif_pos h2, dif_pos n1]
      rw [hq, hq, cosP_at, sinP_at, anglesP_at]
      have e1 : (⟨(64 * h.val + e.val) % 64, n1⟩ : Fin 8) = ⟨e.val, h2⟩ := Fin.ext hm
      have e2 : (⟨64 * h.val + (8 + e.val), by omega⟩ : Fin 768) = ⟨64 * h.val + e.val + 8, by omega⟩ := Fin.ext (by show 64 * h.val + (8 + e.val) = 64 * h.val + e.val + 8; omega)
      simp only [e1, e2]
    · have n1 : ¬(64 * h.val + e.val) % 64 < 8 := by omega
      have n2 : (64 * h.val + e.val) % 64 - 8 < 8 := by omega
      rw [dif_pos h1, dif_neg h2, dif_neg n1, dif_pos n2]
      rw [hq, hq, cosP_at, sinP_at, anglesP_at]
      have e1 : (⟨(64 * h.val + e.val) % 64 - 8, n2⟩ : Fin 8) = ⟨e.val - 8, by omega⟩ := Fin.ext (by show (64 * h.val + e.val) % 64 - 8 = e.val - 8; omega)
      have e2 : (⟨64 * h.val + (8 + (e.val - 8)), by omega⟩ : Fin 768) = ⟨64 * h.val + e.val, by omega⟩ := Fin.ext (by show 64 * h.val + (8 + (e.val - 8)) = 64 * h.val + e.val; omega)
      have e3 : (⟨64 * h.val + (e.val - 8), by omega⟩ : Fin 768) = ⟨64 * h.val + e.val - 8, by omega⟩ := Fin.ext (by show 64 * h.val + (e.val - 8) = 64 * h.val + e.val - 8; omega)
      simp only [e1, e2, e3]
  · have n1 : ¬(64 * h.val + e.val) % 64 < 8 := by omega
    have n2 : ¬(64 * h.val + e.val) % 64 - 8 < 8 := by omega
    rw [dif_neg h1, dif_neg n1, dif_neg n2, hq]
    exact congrArg z (Fin.ext (by show 64 * h.val + (16 + (e.val - 16)) = 64 * h.val + e.val; omega))

/-! ## The sample -/

/-- The projected rows. -/
def prodS (x : FVec Ideal S49152x2048 .f32) (w : FVec Ideal S2x2048x4864 .f32) : FVec Ideal S1x16384x4864 .f32 :=
  Host.dotGeneral dot_S1x16384x2048_S2048x4864_S1x16384x4864_2_0_01_1_n_n none (shapeCast _ (extractStridedSlice S16384x2048 ![32768, 0] x slices_S49152x2048_S16384x2048_32768_0) shapeCasts_S16384x2048_S1x16384x2048) (shapeCast _ (extractStridedSlice S1x2048x4864 ![0, 0, 0] w slices_S2x2048x4864_S1x2048x4864_0_0_0) shapeCasts_S1x2048x4864_S2048x4864)

/-- The queries as heads. -/
def qsS (z : FVec Ideal S1x16384x4864 .f32) : FVec Ideal S1x16384x12x64 .f32 :=
  shapeCast _ (extractStridedSlice S1x16384x768 ![0, 0, 0] z slices_S1x16384x4864_S1x16384x768_0_0_0) shapeCasts_S1x16384x768_S1x16384x12x64

/-- The keys as heads. -/
def ksS (z : FVec Ideal S1x16384x4864 .f32) : FVec Ideal S1x16384x12x64 .f32 :=
  shapeCast _ (extractStridedSlice S1x16384x768 ![0, 0, 768] z slices_S1x16384x4864_S1x16384x768_0_0_768) shapeCasts_S1x16384x768_S1x16384x12x64

/-- Every position times every frequency. -/
def anglesS (f : FVec Ideal S8 .f32) : FVec Ideal S16384x8 .f32 :=
  mulf (broadcastInDim S16384x8 ![0, 1] bcast_S16384x1_S16384x8_0_1 (broadcastInDim S16384x1 ![0] bcast_S16384_S16384x1_0 (sitofp .f32 (iotaInDim S16384 32 0)))) (broadcastInDim S16384x8 ![0, 1] bcast_S1x8_S16384x8_0_1 (broadcastInDim S1x8 ![1] bcast_S8_S1x8_1 f))

def spreadS (a : FVec Ideal S16384x8 .f32) : FVec Ideal S1x16384x1x8 .f32 :=
  broadcastInDim S1x16384x1x8 ![1, 3] bcast_S16384x8_S1x16384x1x8_1_3 a

/-- The first eight lanes of every head. -/
def lowS (q : FVec Ideal S1x16384x12x64 .f32) : FVec Ideal S1x16384x12x8 .f32 :=
  extractStridedSlice S1x16384x12x8 ![0, 0, 0, 0] (extractStridedSlice S1x16384x12x16 ![0, 0, 0, 0] q slices_S1x16384x12x64_S1x16384x12x16_0_0_0_0) slices_S1x16384x12x16_S1x16384x12x8_0_0_0_0

/-- The next eight. -/
def highS (q : FVec Ideal S1x16384x12x64 .f32) : FVec Ideal S1x16384x12x8 .f32 :=
  extractStridedSlice S1x16384x12x8 ![0, 0, 0, 8] (extractStridedSlice S1x16384x12x16 ![0, 0, 0, 0] q slices_S1x16384x12x64_S1x16384x12x16_0_0_0_0) slices_S1x16384x12x16_S1x16384x12x8_0_0_0_8

/-- The heads with their first sixteen lanes turned by the position. -/
def turnedS (q : FVec Ideal S1x16384x12x64 .f32) (co si : FVec Ideal S1x16384x1x8 .f32) : FVec Ideal S1x16384x12x64 .f32 :=
  concatenate S1x16384x12x64 3 [⟨S1x16384x12x16, (concatenate S1x16384x12x16 3 [⟨S1x16384x12x8, (subf (mulf (lowS q) (broadcastInDim S1x16384x12x8 ![0, 1, 2, 3] bcast_S1x16384x1x8_S1x16384x12x8_0_1_2_3 co)) (mulf (highS q) (broadcastInDim S1x16384x12x8 ![0, 1, 2, 3] bcast_S1x16384x1x8_S1x16384x12x8_0_1_2_3 si)))⟩, ⟨S1x16384x12x8, (addf (mulf (highS q) (broadcastInDim S1x16384x12x8 ![0, 1, 2, 3] bcast_S1x16384x1x8_S1x16384x12x8_0_1_2_3 co)) (mulf (lowS q) (broadcastInDim S1x16384x12x8 ![0, 1, 2, 3] bcast_S1x16384x1x8_S1x16384x12x8_0_1_2_3 si)))⟩] concatenates_S1x16384x12x8_S1x16384x12x8_S1x16384x12x16_d3)⟩, ⟨S1x16384x12x48, (extractStridedSlice S1x16384x12x48 ![0, 0, 0, 16] q slices_S1x16384x12x64_S1x16384x12x48_0_0_0_16)⟩] concatenates_S1x16384x12x16_S1x16384x12x48_S1x16384x12x64_d3

def flatQS (z : FVec Ideal S1x16384x12x64 .f32) : FVec Ideal S16384x768 .bf16 :=
  shapeCast _ (truncf .bf16 (mulf (shapeCast _ z shapeCasts_S1x16384x12x64_S1x16384x768) (broadcastInDim S1x16384x768 ![] bcast_S_S1x16384x768 (constant S_ .f32 0x3E000000#32))) bitsLt_bf16_f32) shapeCasts_S1x16384x768_S16384x768

def flatKS (z : FVec Ideal S1x16384x12x64 .f32) : FVec Ideal S16384x768 .bf16 :=
  shapeCast _ (truncf .bf16 (shapeCast _ z shapeCasts_S1x16384x12x64_S1x16384x768) bitsLt_bf16_f32) shapeCasts_S1x16384x768_S16384x768

def flatVS (z : FVec Ideal S1x16384x4864 .f32) : FVec Ideal S16384x768 .bf16 :=
  shapeCast _ (truncf .bf16 (extractStridedSlice S1x16384x768 ![0, 0, 1536] z slices_S1x16384x4864_S1x16384x768_0_0_1536) bitsLt_bf16_f32) shapeCasts_S1x16384x768_S16384x768

def flatXS (z : FVec Ideal S1x16384x4864 .f32) : FVec Ideal S16384x1280 .f32 :=
  shapeCast _ (extractStridedSlice S1x16384x1280 ![0, 0, 2304] z slices_S1x16384x4864_S1x16384x1280_0_0_2304) shapeCasts_S1x16384x1280_S16384x1280

def flatGS (z : FVec Ideal S1x16384x4864 .f32) : FVec Ideal S16384x1280 .f32 :=
  shapeCast _ (extractStridedSlice S1x16384x1280 ![0, 0, 3584] z slices_S1x16384x4864_S1x16384x1280_0_0_3584) shapeCasts_S1x16384x1280_S16384x1280

theorem prodS_at (x : FVec Ideal S49152x2048 .f32) (w : FVec Ideal S2x2048x4864 .f32) (b : Fin 1) (t : Fin 16384) (j : Fin 4864) :
    (prodS x w (ix3 b t j) : EReal) = prod x w ⟨32768 + t.val, by omega⟩ j := by
  obtain rfl : b = 0 := Subsingleton.elim _ _
  pointwise [prodS, prod]

theorem qsS_at (z : FVec Ideal S1x16384x4864 .f32) (b : Fin 1) (t : Fin 16384) (h : Fin 12) (e : Fin 64) :
    (qsS z (ix4 b t h e) : EReal) = z (ix3 b t ⟨64 * h.val + e.val, by omega⟩) := by
  obtain rfl : b = 0 := Subsingleton.elim _ _
  pointwise [qsS]
  simp only [Nat.mul_comm]

theorem ksS_at (z : FVec Ideal S1x16384x4864 .f32) (b : Fin 1) (t : Fin 16384) (h : Fin 12) (e : Fin 64) :
    (ksS z (ix4 b t h e) : EReal) = z (ix3 b t ⟨768 + (64 * h.val + e.val), by omega⟩) := by
  obtain rfl : b = 0 := Subsingleton.elim _ _
  pointwise [ksS]
  simp only [Nat.mul_comm]

theorem anglesS_at (f : FVec Ideal S8 .f32) (t : Fin 16384) (j : Fin 8) : (anglesS f (ix2 t j) : EReal) = posOf t.val * f (ix1 j) := by
  pointwise [anglesS, posOf]

theorem cosS_at (a : FVec Ideal S16384x8 .f32) (t : Fin 16384) (j : Fin 8) : (spreadS (Host.cos a) (ix4 0 t 0 j) : EReal) = Ideal.cos (a (ix2 t j)) := by
  pointwise [spreadS]

theorem sinS_at (a : FVec Ideal S16384x8 .f32) (t : Fin 16384) (j : Fin 8) : (spreadS (Host.sin a) (ix4 0 t 0 j) : EReal) = Ideal.sin (a (ix2 t j)) := by
  pointwise [spreadS]

theorem turnedS_at (q : FVec Ideal S1x16384x12x64 .f32) (co si : FVec Ideal S1x16384x1x8 .f32) (b : Fin 1) (t : Fin 16384) (h : Fin 12) (e : Fin 64) :
    (turnedS q co si (ix4 b t h e) : EReal)
      = if h1 : e.val < 16 then
          if h2 : e.val < 8 then
            q (ix4 b t h ⟨e.val, by omega⟩) * co (ix4 0 t 0 ⟨e.val, h2⟩) - q (ix4 b t h ⟨8 + e.val, by omega⟩) * si (ix4 0 t 0 ⟨e.val, h2⟩)
          else q (ix4 b t h ⟨8 + (e.val - 8), by omega⟩) * co (ix4 0 t 0 ⟨e.val - 8, by omega⟩)
            + q (ix4 b t h ⟨e.val - 8, by omega⟩) * si (ix4 0 t 0 ⟨e.val - 8, by omega⟩)
        else q (ix4 b t h ⟨16 + (e.val - 16), by omega⟩) := by
  obtain rfl : b = 0 := Subsingleton.elim _ _
  pointwise [turnedS, lowS, highS]

theorem flatQS_at (z : FVec Ideal S1x16384x12x64 .f32) (b : Fin 1) (t : Fin 16384) (h : Fin 12) (e : Fin 64) :
    (flatQS z (ix2 ⟨t.val, by omega⟩ ⟨64 * h.val + e.val, by omega⟩) : EReal) = z (ix4 b t h e) * Ideal.ofBits .f32 0x3E000000#32 := by
  obtain rfl : b = 0 := Subsingleton.elim _ _
  pointwise [flatQS]

theorem flatKS_at (z : FVec Ideal S1x16384x12x64 .f32) (b : Fin 1) (t : Fin 16384) (h : Fin 12) (e : Fin 64) :
    (flatKS z (ix2 ⟨t.val, by omega⟩ ⟨64 * h.val + e.val, by omega⟩) : EReal) = z (ix4 b t h e) := by
  obtain rfl : b = 0 := Subsingleton.elim _ _
  pointwise [flatKS]

theorem flatVS_at (z : FVec Ideal S1x16384x4864 .f32) (b : Fin 1) (t : Fin 16384) (d : Fin 768) :
    (flatVS z (ix2 ⟨t.val, by omega⟩ d) : EReal) = z (ix3 b t ⟨1536 + d.val, by omega⟩) := by
  obtain rfl : b = 0 := Subsingleton.elim _ _
  pointwise [flatVS]

theorem flatXS_at (z : FVec Ideal S1x16384x4864 .f32) (b : Fin 1) (t : Fin 16384) (d : Fin 1280) :
    (flatXS z (ix2 ⟨t.val, by omega⟩ d) : EReal) = z (ix3 b t ⟨2304 + d.val, by omega⟩) := by
  obtain rfl : b = 0 := Subsingleton.elim _ _
  pointwise [flatXS]

theorem flatGS_at (z : FVec Ideal S1x16384x4864 .f32) (b : Fin 1) (t : Fin 16384) (d : Fin 1280) :
    (flatGS z (ix2 ⟨t.val, by omega⟩ d) : EReal) = z (ix3 b t ⟨3584 + d.val, by omega⟩) := by
  obtain rfl : b = 0 := Subsingleton.elim _ _
  pointwise [flatGS]

/-- A turned entry in the words of one row. -/
theorem turnedS_row (q : FVec Ideal S1x16384x12x64 .f32) (z : Fin 768 → EReal) (b : Fin 1) (t : Fin 16384)
    (hq : ∀ (h : Fin 12) (e : Fin 64), (q (ix4 b t h e) : EReal) = z ⟨64 * h.val + e.val, by omega⟩) (h : Fin 12) (e : Fin 64) :
    (turnedS q (spreadS (Host.cos (anglesS freq))) (spreadS (Host.sin (anglesS freq))) (ix4 b t h e) : EReal)
      = rotated z t.val ⟨64 * h.val + e.val, by omega⟩ := by
  refine (turnedS_at q _ _ b t h e).trans ?_
  have he := e.isLt
  have hm : (64 * h.val + e.val) % 64 = e.val := by omega
  unfold rotated
  by_cases h1 : e.val < 16
  · by_cases h2 : e.val < 8
    · have n1 : (64 * h.val + e.val) % 64 < 8 := by omega
      rw [dif_pos h1, dif_pos h2, dif_pos n1]
      rw [hq, hq, cosS_at, sinS_at, anglesS_at]
      have e1 : (⟨(64 * h.val + e.val) % 64, n1⟩ : Fin 8) = ⟨e.val, h2⟩ := Fin.ext hm
      have e2 : (⟨64 * h.val + (8 + e.val), by omega⟩ : Fin 768) = ⟨64 * h.val + e.val + 8, by omega⟩ := Fin.ext (by show 64 * h.val + (8 + e.val) = 64 * h.val + e.val + 8; omega)
      simp only [e1, e2]
    · have n1 : ¬(64 * h.val + e.val) % 64 < 8 := by omega
      have n2 : (64 * h.val + e.val) % 64 - 8 < 8 := by omega
      rw [dif_pos h1, dif_neg h2, dif_neg n1, dif_pos n2]
      rw [hq, hq, cosS_at, sinS_at, anglesS_at]
      have e1 : (⟨(64 * h.val + e.val) % 64 - 8, n2⟩ : Fin 8) = ⟨e.val - 8, by omega⟩ := Fin.ext (by show (64 * h.val + e.val) % 64 - 8 = e.val - 8; omega)
      have e2 : (⟨64 * h.val + (8 + (e.val - 8)), by omega⟩ : Fin 768) = ⟨64 * h.val + e.val, by omega⟩ := Fin.ext (by show 64 * h.val + (8 + (e.val - 8)) = 64 * h.val + e.val; omega)
      have e3 : (⟨64 * h.val + (e.val - 8), by omega⟩ : Fin 768) = ⟨64 * h.val + e.val - 8, by omega⟩ := Fin.ext (by show 64 * h.val + (e.val - 8) = 64 * h.val + e.val - 8; omega)
      simp only [e1, e2, e3]
  · have n1 : ¬(64 * h.val + e.val) % 64 < 8 := by omega
    have n2 : ¬(64 * h.val + e.val) % 64 - 8 < 8 := by omega
    rw [dif_neg h1, dif_neg n1, dif_neg n2, hq]
    exact congrArg z (Fin.ext (by show 64 * h.val + (16 + (e.val - 16)) = 64 * h.val + e.val; omega))

/-! ## The results -/

def stack768 {φ : FTy} (a : FVec Ideal S32768x768 φ) (b : FVec Ideal S16384x768 φ) : FVec Ideal S49152x768 φ :=
  concatenate S49152x768 0 [⟨S32768x768, a⟩, ⟨S16384x768, b⟩] concatenates_S32768x768_S16384x768_S49152x768_d0

def stack1280 {φ : FTy} (a : FVec Ideal S32768x1280 φ) (b : FVec Ideal S16384x1280 φ) : FVec Ideal S49152x1280 φ :=
  concatenate S49152x1280 0 [⟨S32768x1280, a⟩, ⟨S16384x1280, b⟩] concatenates_S32768x1280_S16384x1280_S49152x1280_d0

theorem stack768_at {φ : FTy} (a : FVec Ideal S32768x768 φ) (b : FVec Ideal S16384x768 φ) (R : Fin 49152) (d : Fin 768) :
    (stack768 a b (ix2 R d) : EReal) = if h : R.val < 32768 then a (ix2 ⟨R.val, h⟩ d) else b (ix2 ⟨R.val - 32768, by omega⟩ d) := by
  pointwise [stack768]

theorem stack1280_at {φ : FTy} (a : FVec Ideal S32768x1280 φ) (b : FVec Ideal S16384x1280 φ) (R : Fin 49152) (d : Fin 1280) :
    (stack1280 a b (ix2 R d) : EReal) = if h : R.val < 32768 then a (ix2 ⟨R.val, h⟩ d) else b (ix2 ⟨R.val - 32768, by omega⟩ d) := by
  pointwise [stack1280]

/-- A stacked array is known once it is known on each sequence's rows. -/
theorem stack768_of {φ : FTy} (a : FVec Ideal S32768x768 φ) (b : FVec Ideal S16384x768 φ) (f : Fin 49152 → Fin 768 → EReal)
    (ha : ∀ (i : Fin 8) (t : Fin 4096) (d : Fin 768), (a (ix2 ⟨4096 * i.val + t.val, by omega⟩ d) : EReal) = f ⟨4096 * i.val + t.val, by omega⟩ d)
    (hb : ∀ (t : Fin 16384) (d : Fin 768), (b (ix2 t d) : EReal) = f ⟨32768 + t.val, by omega⟩ d) (R : Fin 49152) (d : Fin 768) :
    (stack768 a b (ix2 R d) : EReal) = f R d := by
  refine (stack768_at a b R d).trans ?_
  have hR := R.isLt
  by_cases h : R.val < 32768
  · rw [dif_pos h]
    have e := ha ⟨R.val / 4096, by omega⟩ ⟨R.val % 4096, by omega⟩ d
    have e1 : (⟨4096 * (R.val / 4096) + R.val % 4096, by omega⟩ : Fin 32768) = ⟨R.val, h⟩ := Fin.ext (Nat.div_add_mod R.val 4096)
    have e2 : (⟨4096 * (R.val / 4096) + R.val % 4096, by omega⟩ : Fin 49152) = R := Fin.ext (Nat.div_add_mod R.val 4096)
    exact (congrArg (fun r => a (ix2 r d)) e1).symm.trans (e.trans (congrArg (fun r => f r d) e2))
  · rw [dif_neg h]
    have e2 : (⟨32768 + (R.val - 32768), by omega⟩ : Fin 49152) = R := Fin.ext (by show 32768 + (R.val - 32768) = R.val; omega)
    exact (hb ⟨R.val - 32768, by omega⟩ d).trans (congrArg (fun r => f r d) e2)

theorem stack1280_of {φ : FTy} (a : FVec Ideal S32768x1280 φ) (b : FVec Ideal S16384x1280 φ) (f : Fin 49152 → Fin 1280 → EReal)
    (ha : ∀ (i : Fin 8) (t : Fin 4096) (d : Fin 1280), (a (ix2 ⟨4096 * i.val + t.val, by omega⟩ d) : EReal) = f ⟨4096 * i.val + t.val, by omega⟩ d)
    (hb : ∀ (t : Fin 16384) (d : Fin 1280), (b (ix2 t d) : EReal) = f ⟨32768 + t.val, by omega⟩ d) (R : Fin 49152) (d : Fin 1280) :
    (stack1280 a b (ix2 R d) : EReal) = f R d := by
  refine (stack1280_at a b R d).trans ?_
  have hR := R.isLt
  by_cases h : R.val < 32768
  · rw [dif_pos h]
    have e := ha ⟨R.val / 4096, by omega⟩ ⟨R.val % 4096, by omega⟩ d
    have e1 : (⟨4096 * (R.val / 4096) + R.val % 4096, by omega⟩ : Fin 32768) = ⟨R.val, h⟩ := Fin.ext (Nat.div_add_mod R.val 4096)
    have e2 : (⟨4096 * (R.val / 4096) + R.val % 4096, by omega⟩ : Fin 49152) = R := Fin.ext (Nat.div_add_mod R.val 4096)
    exact (congrArg (fun r => a (ix2 r d)) e1).symm.trans (e.trans (congrArg (fun r => f r d) e2))
  · rw [dif_neg h]
    have e2 : (⟨32768 + (R.val - 32768), by omega⟩ : Fin 49152) = R := Fin.ext (by show 32768 + (R.val - 32768) = R.val; omega)
    exact (hb ⟨R.val - 32768, by omega⟩ d).trans (congrArg (fun r => f r d) e2)

theorem seqPos_prompt (i : Fin 8) (t : Fin 4096) : seqPos (4096 * i.val + t.val) = t.val := by
  unfold seqPos
  rw [if_pos (by omega)]
  omega

theorem seqPos_sample (t : Fin 16384) : seqPos (32768 + t.val) = t.val := by
  unfold seqPos
  rw [if_neg (by omega)]
  omega

/-- A column as a head and a lane. -/
theorem col_split (d : Fin 768) : ∃ (h : Fin 12) (e : Fin 64), d = ⟨64 * h.val + e.val, by omega⟩ :=
  ⟨⟨d.val / 64, by omega⟩, ⟨d.val % 64, by omega⟩, Fin.ext (Nat.div_add_mod d.val 64).symm⟩

abbrev cosP := spreadP (Host.cos (anglesP freq))
abbrev sinP := spreadP (Host.sin (anglesP freq))
abbrev cosS := spreadS (Host.cos (anglesS freq))
abbrev sinS := spreadS (Host.sin (anglesS freq))

section
variable (x : FVec Ideal S49152x2048 .f32) (w : FVec Ideal S2x2048x4864 .f32)

def outQ : FVec Ideal S49152x768 .bf16 := stack768 (flatQP (turnedP (qsP (prodP x w)) cosP sinP)) (flatQS (turnedS (qsS (prodS x w)) cosS sinS))
def outK : FVec Ideal S49152x768 .bf16 := stack768 (flatKP (turnedP (ksP (prodP x w)) cosP sinP)) (flatKS (turnedS (ksS (prodS x w)) cosS sinS))
def outV : FVec Ideal S49152x768 .bf16 := stack768 (flatVP (prodP x w)) (flatVS (prodS x w))
def outX : FVec Ideal S49152x1280 .f32 := stack1280 (flatXP (prodP x w)) (flatXS (prodS x w))
def outG : FVec Ideal S49152x1280 .f32 := stack1280 (flatGP (prodP x w)) (flatGS (prodS x w))

theorem outQ_at (R : Fin 49152) (d : Fin 768) :
    (outQ x w (ix2 R d) : EReal) = rotated (fun d => prod x w R ⟨d.val, by omega⟩) (seqPos R.val) d * Ideal.ofBits .f32 0x3E000000#32 := by
  refine stack768_of _ _ (fun R d => rotated (fun d => prod x w R ⟨d.val, by omega⟩) (seqPos R.val) d * Ideal.ofBits .f32 0x3E000000#32) ?_ ?_ R d
  · intro i t d
    obtain ⟨h, e, rfl⟩ := col_split d
    refine (flatQP_at _ i t h e).trans (congrArg (· * _) ?_)
    refine (turnedP_row _ (fun d => prod x w ⟨4096 * i.val + t.val, by omega⟩ ⟨d.val, by omega⟩) i t (fun h e => ?_) h e).trans ?_
    · exact (qsP_at _ i t h e).trans (prodP_at x w i t _)
    · exact congrArg (fun p => rotated _ p _) (seqPos_prompt i t).symm
  · intro t d
    obtain ⟨h, e, rfl⟩ := col_split d
    refine (flatQS_at _ 0 t h e).trans (congrArg (· * _) ?_)
    refine (turnedS_row _ (fun d => prod x w ⟨32768 + t.val, by omega⟩ ⟨d.val, by omega⟩) 0 t (fun h e => ?_) h e).trans ?_
    · exact (qsS_at _ 0 t h e).trans (prodS_at x w 0 t _)
    · exact congrArg (fun p => rotated _ p _) (seqPos_sample t).symm

theorem outK_at (R : Fin 49152) (d : Fin 768) :
    (outK x w (ix2 R d) : EReal) = rotated (fun d => prod x w R ⟨768 + d.val, by omega⟩) (seqPos R.val) d := by
  refine stack768_of _ _ (fun R d => rotated (fun d => prod x w R ⟨768 + d.val, by omega⟩) (seqPos R.val) d) ?_ ?_ R d
  · intro i t d
    obtain ⟨h, e, rfl⟩ := col_split d
    refine (flatKP_at _ i t h e).trans ?_
    refine (turnedP_row _ (fun d => prod x w ⟨4096 * i.val + t.val, by omega⟩ ⟨768 + d.val, by omega⟩) i t (fun h e => ?_) h e).trans ?_
    · exact (ksP_at _ i t h e).trans (prodP_at x w i t _)
    · exact congrArg (fun p => rotated _ p _) (seqPos_prompt i t).symm
  · intro t d
    obtain ⟨h, e, rfl⟩ := col_split d
    refine (flatKS_at _ 0 t h e).trans ?_
    refine (turnedS_row _ (fun d => prod x w ⟨32768 + t.val, by omega⟩ ⟨768 + d.val, by omega⟩) 0 t (fun h e => ?_) h e).trans ?_
    · exact (ksS_at _ 0 t h e).trans (prodS_at x w 0 t _)
    · exact congrArg (fun p => rotated _ p _) (seqPos_sample t).symm

theorem outV_at (R : Fin 49152) (d : Fin 768) : (outV x w (ix2 R d) : EReal) = prod x w R ⟨1536 + d.val, by omega⟩ :=
  stack768_of _ _ (fun R d => prod x w R ⟨1536 + d.val, by omega⟩) (fun i t d => (flatVP_at _ i t d).trans (prodP_at x w i t _))
    (fun t d => (flatVS_at _ 0 t d).trans (prodS_at x w 0 t _)) R d

theorem outX_at (R : Fin 49152) (d : Fin 1280) : (outX x w (ix2 R d) : EReal) = prod x w R ⟨2304 + d.val, by omega⟩ :=
  stack1280_of _ _ (fun R d => prod x w R ⟨2304 + d.val, by omega⟩) (fun i t d => (flatXP_at _ i t d).trans (prodP_at x w i t _))
    (fun t d => (flatXS_at _ 0 t d).trans (prodS_at x w 0 t _)) R d

theorem outG_at (R : Fin 49152) (d : Fin 1280) : (outG x w (ix2 R d) : EReal) = prod x w R ⟨3584 + d.val, by omega⟩ :=
  stack1280_of _ _ (fun R d => prod x w R ⟨3584 + d.val, by omega⟩) (fun i t d => (flatGP_at _ i t d).trans (prodP_at x w i t _))
    (fun t d => (flatGS_at _ 0 t d).trans (prodS_at x w 0 t _)) R d

end

end Cert.ProjRef

end
-- ==== Proof.ProjClaim.lean ====
/-
  The projection claims: every program runs and leaves its arguments, and the kernel's five results are the reference's.
-/
module

public import proofs.«01_k».proof.Defs
public import proofs.«01_k».proof.Proof.ProjRef
public import proofs.«01_k».proof.Proof.Gen.Kernel3.Frame
public import proofs.«01_k».proof.Proof.Gen.Kernel3Ideal.Frame
public import Idealize.ShloMosaic.Adequacy
public import Idealize.ShloMosaic.Init

@[expose] public section

set_option maxRecDepth 16384

noncomputable section

namespace Cert.Proj

open Idealize.ShloMosaic Idealize.ShloMosaic.TcCoe Idealize.SL.Sem

theorem kernel_frame : quiescent_Kernel3 (hKernel3 := Cert.Kernel3.Gen.facts) := fun m ρ _ => Cert.Kernel3.Gen.frame m ρ
theorem ideal_frame : quiescent_Kernel3Ideal (hKernel3Ideal := Cert.Kernel3Ideal.Gen.facts) := fun m ρ _ => Cert.Kernel3Ideal.Gen.frame m ρ
theorem ref_frame : quiescent_Reference3Ideal (hReference3Ideal := Cert.Reference3Ideal.Gen.facts) := fun m ρ _ =>
  (θ_run _ _ _).mono (fun r h => ⟨fun c => (h c).2.2.2.2.2, Idealize.ShloMosaic.sem_eq_zero_of_no_sems (by decide) r.2⟩)
    (Cert.Reference3Ideal.Value.run (F := Ideal) m ρ)

theorem preserved : preserves_Kernel3_Kernel3Ideal := trivial

section
open Cert.Reference3Ideal Cert.Reference3Ideal.Gen

abbrev refX (m : (ℓ : Loc nD τ sig) → Buf (Elt Ideal) ℓ) (c : Dev nD) : FVec Ideal S49152x2048 .f32 := m ((c.tc : Thread nD τ).loc main_arg0)
abbrev refW (m : (ℓ : Loc nD τ sig) → Buf (Elt Ideal) ℓ) (c : Dev nD) : FVec Ideal S2x2048x4864 .f32 := m ((c.tc : Thread nD τ).loc main_arg1)

/-- The reference's run with its results named by their steps. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v192) = Cert.ProjRef.outQ (refX m c) (refW m c)
      ∧ r.2.mem ((c.tc : Thread nD τ).loc main_v193) = Cert.ProjRef.outK (refX m c) (refW m c)
      ∧ r.2.mem ((c.tc : Thread nD τ).loc main_v194) = Cert.ProjRef.outV (refX m c) (refW m c)
      ∧ r.2.mem ((c.tc : Thread nD τ).loc main_v195) = Cert.ProjRef.outX (refX m c) (refW m c)
      ∧ r.2.mem ((c.tc : Thread nD τ).loc main_v196) = Cert.ProjRef.outG (refX m c) (refW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans rfl, (h c).2.1.trans rfl, (h c).2.2.1.trans rfl, (h c).2.2.2.1.trans rfl,
    (h c).2.2.2.2.1.trans rfl, (h c).2.2.2.2.2⟩) (Value.run (F := Ideal) m ρ)
end

section
variable (m : (ℓ : Loc Cert.Kernel3Ideal.nD Cert.Kernel3Ideal.τ Cert.Kernel3Ideal.sig) → Buf (Elt Ideal) ℓ) (c : Dev 1)

theorem q_eq : (Cert.ProjRef.outQ (argX m c) (argW m c) : FVec Ideal ⟨2, ![49152, 768]⟩ .bf16)
    = (Cert.Kernel3Ideal.Gen.dats m 0 c).arrAt 9 Cert.Kernel3Ideal.cfg0.N := by
  funext i
  rw [show i = ix2 (i 0 : Fin 49152) (i 1 : Fin 768) from eq_ix2 i]
  exact (Cert.ProjRef.outQ_at _ _ (i 0) (i 1)).trans (q_at m c (i 0) (i 1)).symm

theorem k_eq : (Cert.ProjRef.outK (argX m c) (argW m c) : FVec Ideal ⟨2, ![49152, 768]⟩ .bf16)
    = (Cert.Kernel3Ideal.Gen.dats m 0 c).arrAt 10 Cert.Kernel3Ideal.cfg0.N := by
  funext i
  rw [show i = ix2 (i 0 : Fin 49152) (i 1 : Fin 768) from eq_ix2 i]
  exact (Cert.ProjRef.outK_at _ _ (i 0) (i 1)).trans (k_at m c (i 0) (i 1)).symm

theorem v_eq : (Cert.ProjRef.outV (argX m c) (argW m c) : FVec Ideal ⟨2, ![49152, 768]⟩ .bf16)
    = (Cert.Kernel3Ideal.Gen.dats m 0 c).arrAt 11 Cert.Kernel3Ideal.cfg0.N := by
  funext i
  rw [show i = ix2 (i 0 : Fin 49152) (i 1 : Fin 768) from eq_ix2 i]
  exact (Cert.ProjRef.outV_at _ _ (i 0) (i 1)).trans (v_at m c (i 0) (i 1)).symm

theorem x_eq : (Cert.ProjRef.outX (argX m c) (argW m c) : FVec Ideal ⟨2, ![49152, 1280]⟩ .f32)
    = (Cert.Kernel3Ideal.Gen.dats m 0 c).arrAt 12 Cert.Kernel3Ideal.cfg0.N := by
  funext i
  rw [show i = ix2 (i 0 : Fin 49152) (i 1 : Fin 1280) from eq_ix2 i]
  exact (Cert.ProjRef.outX_at _ _ (i 0) (i 1)).trans (xl_at m c (i 0) (i 1)).symm

theorem g_eq : (Cert.ProjRef.outG (argX m c) (argW m c) : FVec Ideal ⟨2, ![49152, 1280]⟩ .f32)
    = (Cert.Kernel3Ideal.Gen.dats m 0 c).arrAt 13 Cert.Kernel3Ideal.cfg0.N := by
  funext i
  rw [show i = ix2 (i 0 : Fin 49152) (i 1 : Fin 1280) from eq_ix2 i]
  exact (Cert.ProjRef.outG_at _ _ (i 0) (i 1)).trans (gl_at m c (i 0) (i 1)).symm
end

theorem value : algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    Cert.Kernel3Ideal.Value.run_blocks (F := Ideal) m ρ, ?_⟩
  refine (θ_run _ _ _).mono (fun r h c => ?_) (ref_run m' ρ')
  obtain ⟨a0, a1⟩ := hagree c
  have hx : refX m' c = argX m c := a0
  have hw : refW m' c = argW m c := a1
  have hc := h c
  rw [hx, hw] at hc
  exact ⟨hc.1.trans (q_eq m c), hc.2.1.trans (k_eq m c), hc.2.2.1.trans (v_eq m c), hc.2.2.2.1.trans (x_eq m c),
    hc.2.2.2.2.1.trans (g_eq m c), hc.2.2.2.2.2⟩

end Cert.Proj

end
-- ==== Proof.MergeCases.lean ====
/-
  The merge kernel, one grid point at a time: what its body leaves in the output's staging buffer.
-/
module

public import proofs.«01_k».proof.Proof.Gen.Kernel4Ideal.Value
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

namespace Cert.Merge

open Idealize.ShloMosaic Idealize.ShloMosaic.TcCoe Idealize.SL.Sem
open Cert.Kernel4Ideal Cert.Kernel4Ideal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- The attention part of a block: the three dilations' outputs, each head weighted by its softmax over the dilations. -/
def attn (x1 x2 x3 : Vec F S256x768 .f32) (x4 x5 x6 : Vec F S256x128 .f32) : FVec F S256x768 .f32 :=
  let w1 := k0_pay7 x4 x5 x6
  let w2 := k0_pay8 x4 x5 x6
  let w3 := k0_pay9 x4 x5 x6
  k0_pay21 w1 w2 w3 k0_pay10
    (k0_pay13 (k0_pay11 x4 x5 x6 (View.ld x1 (Rect.unit (s := S256x768) ![0, 0] S256x128.size inb_S256x768_S256x128_0_0)) (View.ld x2 (Rect.unit (s := S256x768) ![0, 0] S256x128.size inb_S256x768_S256x128_0_0))) (k0_pay12 x4 x5 x6) (View.ld x3 (Rect.unit (s := S256x768) ![0, 0] S256x128.size inb_S256x768_S256x128_0_0)))
    (k0_pay14 w1 w2 w3 k0_pay10 (View.ld x1 (Rect.unit (s := S256x768) ![0, 128] S256x128.size inb_S256x768_S256x128_0_128)) (View.ld x2 (Rect.unit (s := S256x768) ![0, 128] S256x128.size inb_S256x768_S256x128_0_128)) (View.ld x3 (Rect.unit (s := S256x768) ![0, 128] S256x128.size inb_S256x768_S256x128_0_128)))
    (k0_pay16 w3 k0_pay10 (k0_pay15 w1 w2 k0_pay10 (View.ld x1 (Rect.unit (s := S256x768) ![0, 256] S256x128.size inb_S256x768_S256x128_0_256)) (View.ld x2 (Rect.unit (s := S256x768) ![0, 256] S256x128.size inb_S256x768_S256x128_0_256))) (View.ld x3 (Rect.unit (s := S256x768) ![0, 256] S256x128.size inb_S256x768_S256x128_0_256)))
    (k0_pay17 w1 w2 w3 k0_pay10 (View.ld x1 (Rect.unit (s := S256x768) ![0, 384] S256x128.size inb_S256x768_S256x128_0_384)) (View.ld x2 (Rect.unit (s := S256x768) ![0, 384] S256x128.size inb_S256x768_S256x128_0_384)) (View.ld x3 (Rect.unit (s := S256x768) ![0, 384] S256x128.size inb_S256x768_S256x128_0_384)))
    (k0_pay18 w1 k0_pay10 (View.ld x1 (Rect.unit (s := S256x768) ![0, 512] S256x128.size inb_S256x768_S256x128_0_512))) (k0_pay19 w2) (k0_pay20 w2) (View.ld x2 (Rect.unit (s := S256x768) ![0, 512] S256x128.size inb_S256x768_S256x128_0_512)) (View.ld x3 (Rect.unit (s := S256x768) ![0, 512] S256x128.size inb_S256x768_S256x128_0_512)) (View.ld x1 (Rect.unit (s := S256x768) ![0, 640] S256x128.size inb_S256x768_S256x128_0_640)) (View.ld x2 (Rect.unit (s := S256x768) ![0, 640] S256x128.size inb_S256x768_S256x128_0_640)) (View.ld x3 (Rect.unit (s := S256x768) ![0, 640] S256x128.size inb_S256x768_S256x128_0_640))

/-- Two groups of columns side by side: 768 of the first, then 1280 of the second. -/
def joined (a : Vec F S256x768 .bf16) (r : Vec F S256x1280 .bf16) : Vec F S256x2048 .bf16 := fun y =>
  if h : (y 1).val < 768 then a (ix2 (⟨(y 0).val, (y 0).isLt⟩ : Fin 256) (⟨(y 1).val, h⟩ : Fin 768))
  else r (ix2 (⟨(y 0).val, (y 0).isLt⟩ : Fin 256) (⟨(y 1).val - 768, by have : (y 1).val < 2048 := (y 1).isLt; omega⟩ : Fin 1280))

/-- The two stores into the scratch buffer leave the two groups side by side. -/
theorem canon_joined (a : Vec F S256x768 .bf16) (r : Vec F S256x1280 .bf16) :
    View.canon (Val := Elt F) [⟨Rect.unit (s := S256x2048) ![0, 768] S256x1280.size inb_S256x2048_S256x1280_0_768, r⟩,
      ⟨Rect.unit (s := S256x2048) ![0, 0] S256x768.size inb_S256x2048_S256x768_0_0, a⟩] = joined a r := by
  funext y
  have hy : (y 1).val < 2048 := (y 1).isLt
  refine View.canon_eq_of_allAt _ y _ ?_ ?_
  · by_cases h : (y 1).val < 768
    · refine ⟨_, List.mem_cons_of_mem _ List.mem_cons_self, (Rect.mem_set_unit (inb := inb_S256x2048_S256x768_0_0)).mpr fun a => ?_⟩
      match a with
      | ⟨0, _⟩ => exact ⟨Nat.zero_le _, by have : (y 0).val < 256 := (y 0).isLt; show (y 0).val < 0 + 256; omega⟩
      | ⟨1, _⟩ => exact ⟨Nat.zero_le _, by show (y 1).val < 0 + 768; omega⟩
    · refine ⟨_, List.mem_cons_self, (Rect.mem_set_unit (inb := inb_S256x2048_S256x1280_0_768)).mpr fun a => ?_⟩
      match a with
      | ⟨0, _⟩ => exact ⟨Nat.zero_le _, by have : (y 0).val < 256 := (y 0).isLt; show (y 0).val < 0 + 256; omega⟩
      | ⟨1, _⟩ => exact ⟨by show 768 ≤ (y 1).val; omega, by show (y 1).val < 768 + 1280; omega⟩
  · refine View.allAt_cons_unit _ _ _ _ _ ?_ (View.allAt_cons_unit _ _ _ _ _ ?_ (View.allAt_nil _ _))
    · intro x hx
      have e0 : (y 0).val = 0 + (x 0).val := hx 0
      have e1 : (y 1).val = 768 + (x 1).val := hx 1
      unfold joined
      rw [dif_neg (by omega)]
      exact congrArg r (funext fun a => Fin.ext (match a with
        | ⟨0, _⟩ => by show (x 0).val = (y 0).val; omega
        | ⟨1, _⟩ => by show (x 1).val = (y 1).val - 768; omega))
    · intro x hx
      have e0 : (y 0).val = 0 + (x 0).val := hx 0
      have e1 : (y 1).val = 0 + (x 1).val := hx 1
      have l1 : (x 1).val < 768 := (x 1).isLt
      unfold joined
      rw [dif_pos (by omega)]
      exact congrArg a (funext fun a => Fin.ext (match a with
        | ⟨0, _⟩ => by show (x 0).val = (y 0).val; omega
        | ⟨1, _⟩ => by show (x 1).val = (y 1).val; omega))

/-- A load of the whole scratch buffer reads the two groups side by side. -/
theorem load_joined (m : Memref sig .tc .vmem S256x2048 .bf16) (a : Vec F S256x768 .bf16) (r : Vec F S256x1280 .bf16) :
    m.view.readCov (Val := Elt F) [⟨Rect.unit (s := S256x2048) ![0, 768] S256x1280.size inb_S256x2048_S256x1280_0_768, r⟩,
      ⟨Rect.unit (s := S256x2048) ![0, 0] S256x768.size inb_S256x2048_S256x768_0_0, a⟩]
      (Rect.unit (s := S256x2048) ![0, 0] S256x2048.size inb_S256x2048_S256x2048_0_0).toLoadRect = joined a r := by
  rw [View.readCov_eq_canon', canon_joined]
  funext j
  exact congrArg (joined a r) (funext fun a => Fin.ext ((Rect.idx_unit_val _ _ _ j a).trans
    (match a with | ⟨0, _⟩ => Nat.zero_add _ | ⟨1, _⟩ => Nat.zero_add _)))

/-- The merged rows of a block: the attention part and the recurrence part, each normalized. -/
def merged (x1 x2 x3 : Vec F S256x768 .f32) (x4 x5 x6 : Vec F S256x128 .f32) (x7 x8 x9 : Vec F S256x1280 .f32)
    (x10 : Vec F S1x1x768 .f32) (x11 : Vec F S1x1x1280 .f32) : Vec F S256x2048 .bf16 :=
  joined (k0_pay22 (attn x1 x2 x3 x4 x5 x6) x10) (k0_pay26 (k0_pay23 x7 x8 x9) (k0_pay24 x11) (k0_pay25 x7 x8 x9))

/-- The projected merge, with the residual, normalized. -/
def finish (mg : Vec F S256x2048 .bf16) (x0 : Vec F S256x2048 .f32) (x12 : Vec F S1x2048x2048 .bf16) (x13 x14 : Vec F S1x1x2048 .f32) :
    Vec F S256x2048 .f32 :=
  k0_pay1 (k0_pay27 x13) (k0_pay28 x14) (k0_pay29 mg x12 x0) (k0_pay30 mg x12 x0) (FloatOps.ofBits FTy.f32 0x45000000#32)

variable (c : Dev nD) (i : grid0.Coords) (arg1 : Memref sig .tc .vmem S256x2048 .f32) (harg1 : arg1.IsWhole) (arg2 : Memref sig .tc .vmem S256x768 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x1280 .f32) (harg8 : arg8.IsWhole) (arg9 : Memref sig .tc .vmem S256x1280 .f32) (harg9 : arg9.IsWhole) (arg10 : Memref sig .tc .vmem S256x1280 .f32) (harg10 : arg10.IsWhole) (arg11 : Memref sig .tc .vmem S1x1x768 .f32) (harg11 : arg11.IsWhole) (arg12 : Memref sig .tc .vmem S1x1x1280 .f32) (harg12 : arg12.IsWhole) (arg13 : Memref sig .tc .vmem S1x2048x2048 .bf16) (harg13 : arg13.IsWhole) (arg14 : Memref sig .tc .vmem S1x1x2048 .f32) (harg14 : arg14.IsWhole) (arg15 : Memref sig .tc .vmem S1x1x2048 .f32) (harg15 : arg15.IsWhole) (arg16 : Memref sig .tc .vmem S256x2048 .f32) (harg16 : arg16.IsWhole) (arg17 : Memref sig .tc .vmem S256x2048 .bf16) (harg17 : arg17.IsWhole)
    (x0 : Vec F S256x2048 .f32) (x1 : Vec F S256x768 .f32) (x2 : Vec F S256x768 .f32) (x3 : Vec F S256x768 .f32) (x4 : Vec F S256x128 .f32) (x5 : Vec F S256x128 .f32) (x6 : Vec F S256x128 .f32) (x7 : Vec F S256x1280 .f32) (x8 : Vec F S256x1280 .f32) (x9 : Vec F S256x1280 .f32) (x10 : Vec F S1x1x768 .f32) (x11 : Vec F S1x1x1280 .f32) (x12 : Vec F S1x2048x2048 .bf16) (x13 : Vec F S1x1x2048 .f32) (x14 : Vec F S1x1x2048 .f32)

theorem out_eq : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 = finish (merged x1 x2 x3 x4 x5 x6 x7 x8 x9 x10 x11) x0 x12 x13 x14 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14)]
  unfold kernelRun0_A
  dsimp only
  sl_unfold_words
  rw [View.canon_unit_zero off2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S256x2048) off2, View.ld_unit_zero (S := S256x128) off2, View.ld_unit_zero (S := S256x1280) off2, View.ld_unit_zero (S := S1x1x768) off3, View.ld_unit_zero (S := S1x1x1280) off3, View.ld_unit_zero (S := S1x1x2048) off3, View.ld_unit_zero (S := S1x2048x2048) off3]
  have e := load_joined (F := F) arg17 (k0_pay22 (attn x1 x2 x3 x4 x5 x6) x10) (k0_pay26 (k0_pay23 x7 x8 x9) (k0_pay24 x11) (k0_pay25 x7 x8 x9))
  unfold attn at e
  dsimp only at e
  rw [e]
  rfl

end Cert.Merge

end
-- ==== Proof.MergePoint.lean ====
/-
  The merge kernel's payloads over the extended reals, read at one entry.
-/
module

public import proofs.«01_k».proof.Proof.MergeCases
public import proofs.«01_k».proof.Proof.FfnPoint
public import Idealize.ShloMosaic.Lib.WordCmp

@[expose] public section

set_option maxRecDepth 16384

noncomputable section

namespace Cert.Merge

open Idealize.ShloMosaic Idealize.ShloMosaic.TcCoe Idealize.SL.Sem
open Cert.Kernel4Ideal Cert.Kernel4Ideal.Gen

/-! ## The mathematics of a row -/

/-- The softmax weight of `v` among the three values `a`, `b`, `c`. -/
def weight (a b c v : EReal) : EReal :=
  Ideal.div (Ideal.exp (v - max (max a b) c))
    (Ideal.exp (a - max (max a b) c) + Ideal.exp (b - max (max a b) c) + Ideal.exp (c - max (max a b) c))

/-- Three outputs blended by the softmax of their log-sum-exps. -/
def blend (o1 o2 o3 a b c : EReal) : EReal :=
  o1 * weight a b c a + o2 * weight a b c b + o3 * weight a b c c

/-- A row divided by its root mean square, at column `d`, with scale `g`; `n` is the row's length. -/
def rowRms {k : Nat} (n : EReal) (y : Fin k → EReal) (g : EReal) (d : Fin k) : EReal :=
  y d * Ideal.rsqrt (Ideal.div (∑ e, y e * y e) n + Ideal.ofBits .f32 0x3727C5AC#32) * g

/-- The gelu of `x` (its tanh form). -/
def gelu (x : EReal) : EReal :=
  x * (Ideal.ofBits .f32 0x3F000000#32 * (1 + Ideal.tanh (Ideal.ofBits .f32 0x3F4C422A#32
    * (x + Ideal.ofBits .f32 0x3D372713#32 * (x * (x * x))))))

/-- The head of a column. -/
def head (d : Fin 768) : Fin 12 := ⟨d.val / 64, by omega⟩

/-- The lane of a head. -/
def lane (h : Fin 12) : Fin 128 := ⟨h.val, by omega⟩

/-- A merged row at column `j`: attention, then recurrence, each normalized. -/
def mergedRow (at_ : Fin 768 → EReal) (rc : Fin 1280 → EReal) (ga : Fin 768 → EReal) (gr : Fin 1280 → EReal) (j : Fin 2048) : EReal :=
  if h : j.val < 768 then rowRms (Ideal.ofBits .f32 0x44400000#32) at_ (ga ⟨j.val, h⟩) ⟨j.val, h⟩
  else rowRms (Ideal.ofBits .f32 0x44A00000#32) rc (gr ⟨j.val - 768, by omega⟩) ⟨j.val - 768, by omega⟩

/-! ## Weights -/

theorem weight1_at (a b c : FVec Ideal S256x128 .f32) (r : Fin 256) (h : Fin 128) :
    (k0_pay7 (F := Ideal) a b c (ix2 r h) : EReal) = weight (a (ix2 r h)) (b (ix2 r h)) (c (ix2 r h)) (a (ix2 r h)) := by
  pointwise [k0_pay7, k0_pay3, k0_pay4, k0_pay5, k0_pay6, k0_pay2, weight]

theorem weight2_at (a b c : FVec Ideal S256x128 .f32) (r : Fin 256) (h : Fin 128) :
    (k0_pay8 (F := Ideal) a b c (ix2 r h) : EReal) = weight (a (ix2 r h)) (b (ix2 r h)) (c (ix2 r h)) (b (ix2 r h)) := by
  pointwise [k0_pay8, k0_pay3, k0_pay4, k0_pay5, k0_pay6, k0_pay2, weight]

theorem weight3_at (a b c : FVec Ideal S256x128 .f32) (r : Fin 256) (h : Fin 128) :
    (k0_pay9 (F := Ideal) a b c (ix2 r h) : EReal) = weight (a (ix2 r h)) (b (ix2 r h)) (c (ix2 r h)) (c (ix2 r h)) := by
  pointwise [k0_pay9, k0_pay3, k0_pay4, k0_pay5, k0_pay6, k0_pay2, weight]

/-- A pair of columns of the weights spread over the 64 lanes of each of a pair of heads. -/
def spread (w : FVec Ideal S256x128 .f32) (a b : Nat) (ha : S256x128.Slices ![0, a] S256x1) (hb : S256x128.Slices ![0, b] S256x1) :
    FVec Ideal S256x128 .f32 :=
  select k0_pay10
    (broadcastTo S256x128 (shapeCast S256x1 (extractStridedSlice S256x1 ![0, a] w ha) shapeCasts_S256x1_S256x1) broadcasts_S256x1_S256x128)
    (broadcastTo S256x128 (shapeCast S256x1 (extractStridedSlice S256x1 ![0, b] w hb) shapeCasts_S256x1_S256x1) broadcasts_S256x1_S256x128)

theorem lanes_at (r : Fin 256) (l : Fin 128) : (k0_pay10 : IVec S256x128 1) (ix2 r l) = if l.val < 64 then 1#1 else 0#1 := by
  revert l
  pointwise [k0_pay10]
  decide +kernel

theorem spread_at (w : FVec Ideal S256x128 .f32) (p : Fin 6) (a b : Nat) (ha : S256x128.Slices ![0, a] S256x1)
    (hb : S256x128.Slices ![0, b] S256x1) (ea : a = 2 * p.val) (eb : b = 2 * p.val + 1) (r : Fin 256) (l : Fin 128) :
    (spread w a b ha hb (ix2 r l) : EReal) = w (ix2 r (⟨2 * p.val + l.val / 64, by omega⟩ : Fin 128)) := by
  unfold spread
  rw [show ∀ (m : IVec S256x128 1) (u v : FVec Ideal S256x128 .f32) i, select m u v i = if m i = 1#1 then u i else v i from fun _ _ _ _ => rfl,
    lanes_at]
  by_cases h : l.val < 64
  · rw [if_pos h, if_pos rfl]
    pointwise []
    exact congrArg w (congrArg (ix2 r) (Fin.ext (by show a = 2 * p.val + l.val / 64; omega)))
  · rw [if_neg h, if_neg (by decide)]
    pointwise []
    exact congrArg w (congrArg (ix2 r) (Fin.ext (by show b = 2 * p.val + l.val / 64; omega)))

/-- A pair of heads blended. -/
def mix (o1 o2 o3 w1 w2 w3 : FVec Ideal S256x128 .f32) (a b : Nat) (ha : S256x128.Slices ![0, a] S256x1)
    (hb : S256x128.Slices ![0, b] S256x1) : FVec Ideal S256x128 .f32 :=
  addf (addf (mulf o1 (spread w1 a b ha hb)) (mulf o2 (spread w2 a b ha hb))) (mulf o3 (spread w3 a b ha hb))

theorem mix_apply (o1 o2 o3 u1 u2 u3 : FVec Ideal S256x128 .f32) (r : Fin 256) (l : Fin 128) :
    (addf (addf (mulf o1 u1) (mulf o2 u2)) (mulf o3 u3) (ix2 r l) : EReal)
      = o1 (ix2 r l) * u1 (ix2 r l) + o2 (ix2 r l) * u2 (ix2 r l) + o3 (ix2 r l) * u3 (ix2 r l) := by
  pointwise []

/-- A load of 128 columns. -/
def cols (x : Vec Ideal S256x768 .f32) (k : Nat) (h : ∀ a, (![0, k] : Fin 2 → Nat) a + S256x128.size a ≤ S256x768.size a) : FVec Ideal S256x128 .f32 :=
  View.ld x (Rect.unit (s := S256x768) ![0, k] S256x128.size h)

theorem cols_at (x : Vec Ideal S256x768 .f32) (k : Nat) (h) (r : Fin 256) (l : Fin 128) (d : Fin 768) (e : d.val = k + l.val) :
    (cols x k h (ix2 r l) : EReal) = x (ix2 r d) :=
  View.ld_unit_apply_of x _ _ _ _ _ (fun a => match a with
    | ⟨0, _⟩ => (Nat.zero_add _).symm
    | ⟨1, _⟩ => e)

theorem mix_at (x1 x2 x3 : Vec Ideal S256x768 .f32) (a b c : FVec Ideal S256x128 .f32) (p : Fin 6) (k m n : Nat)
    (h) (hm hn) (ek : k = 128 * p.val) (em : m = 2 * p.val) (en : n = 2 * p.val + 1) (r : Fin 256) (d : Fin 768) (l : Fin 128)
    (e : d.val = k + l.val) :
    (mix (cols x1 k h) (cols x2 k h) (cols x3 k h) (k0_pay7 a b c) (k0_pay8 a b c) (k0_pay9 a b c) m n hm hn (ix2 r l) : EReal)
      = blend (x1 (ix2 r d)) (x2 (ix2 r d)) (x3 (ix2 r d)) (a (ix2 r (lane (head d)))) (b (ix2 r (lane (head d)))) (c (ix2 r (lane (head d)))) := by
  have hl : (⟨2 * p.val + l.val / 64, by omega⟩ : Fin 128) = lane (head d) :=
    Fin.ext (by show 2 * p.val + l.val / 64 = d.val / 64; omega)
  unfold mix
  rw [mix_apply, spread_at _ p _ _ _ _ em en, spread_at _ p _ _ _ _ em en, spread_at _ p _ _ _ _ em en,
    cols_at x1 k h r l d e, cols_at x2 k h r l d e, cols_at x3 k h r l d e, hl, weight1_at, weight2_at, weight3_at]
  rfl

/-- Six groups of 128 columns side by side. -/
def six (m0 m1 m2 m3 m4 m5 : FVec Ideal S256x128 .f32) : FVec Ideal S256x768 .f32 :=
  concatenate S256x768 1 [⟨S256x128, m0⟩, ⟨S256x128, m1⟩, ⟨S256x128, m2⟩, ⟨S256x128, m3⟩, ⟨S256x128, m4⟩, ⟨S256x128, m5⟩]
    concatenates_S256x128_S256x128_S256x128_S256x128_S256x128_S256x128_S256x768_d1

theorem attn_eq (x1 x2 x3 : Vec Ideal S256x768 .f32) (a b c : Vec Ideal S256x128 .f32) :
    attn (F := Ideal) x1 x2 x3 a b c = six
      (mix (cols x1 0 inb_S256x768_S256x128_0_0) (cols x2 0 inb_S256x768_S256x128_0_0) (cols x3 0 inb_S256x768_S256x128_0_0) (k0_pay7 a b c) (k0_pay8 a b c) (k0_pay9 a b c) 0 1 slices_S256x128_o0_0_S256x1 slices_S256x128_o0_1_S256x1)
      (mix (cols x1 128 inb_S256x768_S256x128_0_128) (cols x2 128 inb_S256x768_S256x128_0_128) (cols x3 128 inb_S256x768_S256x128_0_128) (k0_pay7 a b c) (k0_pay8 a b c) (k0_pay9 a b c) 2 3 slices_S256x128_o0_2_S256x1 slices_S256x128_o0_3_S256x1)
      (mix (cols x1 256 inb_S256x768_S256x128_0_256) (cols x2 256 inb_S256x768_S256x128_0_256) (cols x3 256 inb_S256x768_S256x128_0_256) (k0_pay7 a b c) (k0_pay8 a b c) (k0_pay9 a b c) 4 5 slices_S256x128_o0_4_S256x1 slices_S256x128_o0_5_S256x1)
      (mix (cols x1 384 inb_S256x768_S256x128_0_384) (cols x2 384 inb_S256x768_S256x128_0_384) (cols x3 384 inb_S256x768_S256x128_0_384) (k0_pay7 a b c) (k0_pay8 a b c) (k0_pay9 a b c) 6 7 slices_S256x128_o0_6_S256x1 slices_S256x128_o0_7_S256x1)
      (mix (cols x1 512 inb_S256x768_S256x128_0_512) (cols x2 512 inb_S256x768_S256x128_0_512) (cols x3 512 inb_S256x768_S256x128_0_512) (k0_pay7 a b c) (k0_pay8 a b c) (k0_pay9 a b c) 8 9 slices_S256x128_o0_8_S256x1 slices_S256x128_o0_9_S256x1)
      (mix (cols x1 640 inb_S256x768_S256x128_0_640) (cols x2 640 inb_S256x768_S256x128_0_640) (cols x3 640 inb_S256x768_S256x128_0_640) (k0_pay7 a b c) (k0_pay8 a b c) (k0_pay9 a b c) 10 11 slices_S256x128_o0_10_S256x1 slices_S256x128_o0_11_S256x1) := rfl

theorem six_at (m0 m1 m2 m3 m4 m5 : FVec Ideal S256x128 .f32) (r : Fin 256) (d : Fin 768) (v : EReal)
    (h0 : ∀ l : Fin 128, d.val = 0 + l.val → (m0 (ix2 r l) : EReal) = v) (h1 : ∀ l : Fin 128, d.val = 128 + l.val → (m1 (ix2 r l) : EReal) = v)
    (h2 : ∀ l : Fin 128, d.val = 256 + l.val → (m2 (ix2 r l) : EReal) = v) (h3 : ∀ l : Fin 128, d.val = 384 + l.val → (m3 (ix2 r l) : EReal) = v)
    (h4 : ∀ l : Fin 128, d.val = 512 + l.val → (m4 (ix2 r l) : EReal) = v) (h5 : ∀ l : Fin 128, d.val = 640 + l.val → (m5 (ix2 r l) : EReal) = v) :
    (six m0 m1 m2 m3 m4 m5 (ix2 r d) : EReal) = v := by
  pointwise [six]
  split_ifs
  all_goals first
    | (refine h0 _ ?_; dsimp only; omega) | (refine h1 _ ?_; dsimp only; omega) | (refine h2 _ ?_; dsimp only; omega)
    | (refine h3 _ ?_; dsimp only; omega) | (refine h4 _ ?_; dsimp only; omega) | (refine h5 _ ?_; dsimp only; omega)
    | contradiction

theorem attn_at (x1 x2 x3 : Vec Ideal S256x768 .f32) (a b c : Vec Ideal S256x128 .f32) (r : Fin 256) (d : Fin 768) :
    (attn (F := Ideal) x1 x2 x3 a b c (ix2 r d) : EReal)
      = blend (x1 (ix2 r d)) (x2 (ix2 r d)) (x3 (ix2 r d)) (a (ix2 r (lane (head d)))) (b (ix2 r (lane (head d)))) (c (ix2 r (lane (head d)))) := by
  rw [attn_eq]
  exact six_at _ _ _ _ _ _ r d _
    (fun l e => mix_at x1 x2 x3 a b c 0 _ _ _ _ _ _ rfl rfl rfl r d l e) (fun l e => mix_at x1 x2 x3 a b c 1 _ _ _ _ _ _ rfl rfl rfl r d l e)
    (fun l e => mix_at x1 x2 x3 a b c 2 _ _ _ _ _ _ rfl rfl rfl r d l e) (fun l e => mix_at x1 x2 x3 a b c 3 _ _ _ _ _ _ rfl rfl rfl r d l e)
    (fun l e => mix_at x1 x2 x3 a b c 4 _ _ _ _ _ _ rfl rfl rfl r d l e) (fun l e => mix_at x1 x2 x3 a b c 5 _ _ _ _ _ _ rfl rfl rfl r d l e)

/-! ## Norms, gelu, projection -/

theorem normA_at (y : FVec Ideal S256x768 .f32) (g : Vec Ideal S1x1x768 .f32) (r : Fin 256) (d : Fin 768) :
    (k0_pay22 (F := Ideal) y g (ix2 r d) : EReal)
      = rowRms (Ideal.ofBits .f32 0x44400000#32) (fun e => y (ix2 r e)) (g (ix3 0 0 d)) d := by
  pointwise [k0_pay22, rowRms]

theorem rec_at (hf hb gl : Vec Ideal S256x1280 .f32) (r : Fin 256) (d : Fin 1280) :
    (k0_pay23 (F := Ideal) hf hb gl (ix2 r d) : EReal)
      = (hf (ix2 r d) + hb (ix2 r d)) * gelu (gl (ix2 r d)) := by
  pointwise [k0_pay23, gelu]

theorem normR_at (y : FVec Ideal S256x1280 .f32) (g : FVec Ideal S1x1280 .f32) (r : Fin 256) (d : Fin 1280) :
    (k0_pay26 (F := Ideal) y g (mulf y y) (ix2 r d) : EReal)
      = rowRms (Ideal.ofBits .f32 0x44A00000#32) (fun e => y (ix2 r e)) (g (ix2 0 d)) d := by
  pointwise [k0_pay26, rowRms]

theorem scaleR_at (g : Vec Ideal S1x1x1280 .f32) (d : Fin 1280) : (k0_pay24 (F := Ideal) g (ix2 0 d) : EReal) = g (ix3 0 0 d) := by
  pointwise [k0_pay24]

theorem joined_at (a : Vec Ideal S256x768 .bf16) (q : Vec Ideal S256x1280 .bf16) (r : Fin 256) (j : Fin 2048) :
    (joined (F := Ideal) a q (ix2 r j) : EReal) = if h : j.val < 768 then a (ix2 r ⟨j.val, h⟩) else q (ix2 r ⟨j.val - 768, by omega⟩) := rfl

theorem merged_at (x1 x2 x3 : Vec Ideal S256x768 .f32) (x4 x5 x6 : Vec Ideal S256x128 .f32) (x7 x8 x9 : Vec Ideal S256x1280 .f32)
    (x10 : Vec Ideal S1x1x768 .f32) (x11 : Vec Ideal S1x1x1280 .f32) (r : Fin 256) (j : Fin 2048) :
    (merged (F := Ideal) x1 x2 x3 x4 x5 x6 x7 x8 x9 x10 x11 (ix2 r j) : EReal)
      = mergedRow (fun d => blend (x1 (ix2 r d)) (x2 (ix2 r d)) (x3 (ix2 r d)) (x4 (ix2 r (lane (head d)))) (x5 (ix2 r (lane (head d)))) (x6 (ix2 r (lane (head d)))))
          (fun d => (x7 (ix2 r d) + x8 (ix2 r d)) * gelu (x9 (ix2 r d))) (fun d => x10 (ix3 0 0 d)) (fun d => x11 (ix3 0 0 d)) j := by
  unfold merged mergedRow
  rw [joined_at]
  by_cases h : j.val < 768
  · rw [dif_pos h, dif_pos h, normA_at]
    refine congrArg (fun z => rowRms (Ideal.ofBits .f32 0x44400000#32) z (x10 (ix3 0 0 ⟨j.val, h⟩)) ⟨j.val, h⟩) (funext fun d => ?_)
    exact attn_at x1 x2 x3 x4 x5 x6 r d
  · rw [dif_neg h, dif_neg h, show k0_pay25 (F := Ideal) x7 x8 x9 = mulf (k0_pay23 x7 x8 x9) (k0_pay23 x7 x8 x9) from rfl, normR_at, scaleR_at]
    refine congrArg (fun z => rowRms (Ideal.ofBits .f32 0x44A00000#32) z (x11 (ix3 0 0 ⟨j.val - 768, by omega⟩)) ⟨j.val - 768, by omega⟩) (funext fun d => ?_)
    exact rec_at x7 x8 x9 r d

theorem centred_at (mg : Vec Ideal S256x2048 .bf16) (w : Vec Ideal S1x2048x2048 .bf16) (x : Vec Ideal S256x2048 .f32) (r : Fin 256) (d : Fin 2048) :
    (k0_pay29 (F := Ideal) mg w x (ix2 r d) : EReal)
      = (fun k => Ideal.ofBits .f32 0x3FB504F3#32 * x (ix2 r k) + ∑ j : Fin 2048, mg (ix2 r j) * w (ix3 0 j k)) d
        - Ideal.div (∑ k : Fin 2048, (Ideal.ofBits .f32 0x3FB504F3#32 * x (ix2 r k) + ∑ j : Fin 2048, mg (ix2 r j) * w (ix3 0 j k)))
            (Ideal.ofBits .f32 0x45000000#32) := by
  pointwise [k0_pay29]

theorem squares_at (mg : Vec Ideal S256x2048 .bf16) (w : Vec Ideal S1x2048x2048 .bf16) (x : Vec Ideal S256x2048 .f32) (r : Fin 256) :
    (k0_pay30 (F := Ideal) mg w x (ix2 r 0) : EReal)
      = ∑ k : Fin 2048, k0_pay29 (F := Ideal) mg w x (ix2 r k) * k0_pay29 (F := Ideal) mg w x (ix2 r k) := by
  unfold k0_pay30
  generalize k0_pay29 (F := Ideal) mg w x = z
  pointwise []

theorem tail_at (g b : FVec Ideal S1x2048 .f32) (z : FVec Ideal S256x2048 .f32) (q : FVec Ideal S256x1 .f32) (r : Fin 256) (d : Fin 2048) :
    (k0_pay1 (F := Ideal) g b z q (FloatOps.ofBits FTy.f32 0x45000000#32) (ix2 r d) : EReal)
      = z (ix2 r d) * Ideal.rsqrt (Ideal.div (q (ix2 r 0)) (Ideal.ofBits .f32 0x45000000#32) + Ideal.ofBits .f32 0x3727C5AC#32) * g (ix2 0 d) + b (ix2 0 d) := by
  pointwise [k0_pay1]

theorem scale_at (g : Vec Ideal S1x1x2048 .f32) (d : Fin 2048) : (k0_pay27 (F := Ideal) g (ix2 0 d) : EReal) = g (ix3 0 0 d) := by
  pointwise [k0_pay27]

theorem shift_at (g : Vec Ideal S1x1x2048 .f32) (d : Fin 2048) : (k0_pay28 (F := Ideal) g (ix2 0 d) : EReal) = g (ix3 0 0 d) := by
  pointwise [k0_pay28]

/-- The block's result at one entry: the layer norm of the residual row plus the projected merged row. -/
theorem finish_at (mg : Vec Ideal S256x2048 .bf16) (x : Vec Ideal S256x2048 .f32) (w : Vec Ideal S1x2048x2048 .bf16) (g b : Vec Ideal S1x1x2048 .f32)
    (r : Fin 256) (d : Fin 2048) :
    (finish (F := Ideal) mg x w g b (ix2 r d) : EReal)
      = Cert.Ffn.rowNorm (fun k => Ideal.ofBits .f32 0x3FB504F3#32 * x (ix2 r k) + ∑ j : Fin 2048, mg (ix2 r j) * w (ix3 0 j k))
          (g (ix3 0 0 d)) (b (ix3 0 0 d)) d := by
  unfold finish Cert.Ffn.rowNorm
  rw [tail_at, squares_at, scale_at, shift_at]
  simp only [centred_at]

end Cert.Merge

end
-- ==== Proof.MergeValue.lean ====
/-
  The merge kernel's input blocks as entries of its arguments, and its result at one index.
-/
module

public import proofs.«01_k».proof.Proof.MergePoint

@[expose] public section

set_option maxRecDepth 16384

noncomputable section

namespace Cert.Merge

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

abbrev argX : FVec Ideal ⟨2, ![49152, 2048]⟩ .f32 := m ((c.tc : Thread nD τ).loc main_arg0)
abbrev argO1 : FVec Ideal ⟨2, ![49152, 768]⟩ .f32 := m ((c.tc : Thread nD τ).loc main_arg1)
abbrev argO2 : FVec Ideal ⟨2, ![49152, 768]⟩ .f32 := m ((c.tc : Thread nD τ).loc main_arg2)
abbrev argO3 : FVec Ideal ⟨2, ![49152, 768]⟩ .f32 := m ((c.tc : Thread nD τ).loc main_arg3)
abbrev argL1 : FVec Ideal ⟨2, ![49152, 128]⟩ .f32 := m ((c.tc : Thread nD τ).loc main_arg4)
abbrev argL2 : FVec Ideal ⟨2, ![49152, 128]⟩ .f32 := m ((c.tc : Thread nD τ).loc main_arg5)
abbrev argL3 : FVec Ideal ⟨2, ![49152, 128]⟩ .f32 := m ((c.tc : Thread nD τ).loc main_arg6)
abbrev argF : FVec Ideal ⟨2, ![49152, 1280]⟩ .f32 := m ((c.tc : Thread nD τ).loc main_arg7)
abbrev argB : FVec Ideal ⟨2, ![49152, 1280]⟩ .f32 := m ((c.tc : Thread nD τ).loc main_arg8)
abbrev argG : FVec Ideal ⟨2, ![49152, 1280]⟩ .f32 := m ((c.tc : Thread nD τ).loc main_arg9)
abbrev argA : FVec Ideal ⟨2, ![2, 768]⟩ .f32 := m ((c.tc : Thread nD τ).loc main_arg10)
abbrev argR : FVec Ideal ⟨2, ![2, 1280]⟩ .f32 := m ((c.tc : Thread nD τ).loc main_arg11)
abbrev argW : FVec Ideal ⟨3, ![2, 2048, 2048]⟩ .f32 := m ((c.tc : Thread nD τ).loc main_arg12)
abbrev argS : FVec Ideal ⟨2, ![2, 2048]⟩ .f32 := m ((c.tc : Thread nD τ).loc main_arg13)
abbrev argH : FVec Ideal ⟨2, ![2, 2048]⟩ .f32 := m ((c.tc : Thread nD τ).loc main_arg14)

/-- The result's row `R` before the norm: the residual plus the projected merge. -/
def preNorm (x : FVec Ideal ⟨2, ![49152, 2048]⟩ .f32) (o1 o2 o3 : FVec Ideal ⟨2, ![49152, 768]⟩ .f32)
    (l1 l2 l3 : FVec Ideal ⟨2, ![49152, 128]⟩ .f32) (hf hb gl : FVec Ideal ⟨2, ![49152, 1280]⟩ .f32)
    (ga : FVec Ideal ⟨2, ![2, 768]⟩ .f32) (gr : FVec Ideal ⟨2, ![2, 1280]⟩ .f32) (w : FVec Ideal ⟨3, ![2, 2048, 2048]⟩ .f32)
    (R : Fin 49152) (k : Fin 2048) : EReal :=
  Ideal.ofBits .f32 0x3FB504F3#32 * x (ix2 R k) + ∑ j : Fin 2048,
    mergedRow (fun d => blend (o1 (ix2 R d)) (o2 (ix2 R d)) (o3 (ix2 R d)) (l1 (ix2 R (lane (head d)))) (l2 (ix2 R (lane (head d)))) (l3 (ix2 R (lane (head d)))))
      (fun d => (hf (ix2 R d) + hb (ix2 R d)) * gelu (gl (ix2 R d))) (fun d => ga (ix2 0 d)) (fun d => gr (ix2 0 d)) j * w (ix3 0 j k)

/-! ## The arrays the region finds -/

theorem found_a (l : Fin 2) (d : Fin 768) : (V m c main_v0 (ix3 l 0 d) : EReal) = argA m c (ix2 l d) := by
  have e : V m c main_v0 = shapeCast S2x1x768 (argA m c) shapeCasts_S2x768_S2x1x768 := by
    show StableHlo.after hostOps0 (fun b => m (c, b)) main_v0 = _
    simp only [hostOps0, List.flatten_cons, List.flatten_nil, List.append_nil, List.cons_append, List.nil_append]
    after_results_simp
    rfl
  rw [e]
  pointwise []

theorem found_r (l : Fin 2) (d : Fin 1280) : (V m c main_v1 (ix3 l 0 d) : EReal) = argR m c (ix2 l d) := by
  have e : V m c main_v1 = shapeCast S2x1x1280 (argR m c) shapeCasts_S2x1280_S2x1x1280 := by
    show StableHlo.after hostOps0 (fun b => m (c, b)) main_v1 = _
    simp only [hostOps0, List.flatten_cons, List.flatten_nil, List.append_nil, List.cons_append, List.nil_append]
    after_results_simp
    rfl
  rw [e]
  pointwise []

theorem found_w : V m c main_v2 = (argW m c : FVec Ideal ⟨3, ![2, 2048, 2048]⟩ .f32) := by
  show StableHlo.after hostOps0 (fun b => m (c, b)) main_v2 = _
  simp only [hostOps0, List.flatten_cons, List.flatten_nil, List.append_nil, List.cons_append, List.nil_append]
  after_results_simp
  rfl

theorem found_s (l : Fin 2) (d : Fin 2048) : (V m c main_v3 (ix3 l 0 d) : EReal) = argS m c (ix2 l d) := by
  have e : V m c main_v3 = shapeCast S2x1x2048 (argS m c) shapeCasts_S2x2048_S2x1x2048 := by
    show StableHlo.after hostOps0 (fun b => m (c, b)) main_v3 = _
    simp only [hostOps0, List.flatten_cons, List.flatten_nil, List.append_nil, List.cons_append, List.nil_append]
    after_results_simp
    rfl
  rw [e]
  pointwise []

theorem found_h (l : Fin 2) (d : Fin 2048) : (V m c main_v4 (ix3 l 0 d) : EReal) = argH m c (ix2 l d) := by
  have e : V m c main_v4 = shapeCast S2x1x2048 (argH m c) shapeCasts_S2x2048_S2x1x2048 := by
    show StableHlo.after hostOps0 (fun b => m (c, b)) main_v4 = _
    simp only [hostOps0, List.flatten_cons, List.flatten_nil, List.append_nil, List.cons_append, List.nil_append]
    after_results_simp
    rfl
  rw [e]
  pointwise []

/-! ## The block indices of each window -/

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx15 : ∀ t : Fin grid0.N, win0_15.index t 0 = t.val ∧ win0_15.index t 1 = 0 := by decide +kernel
theorem idx10 : ∀ t : Fin grid0.N, win0_10.index t 0 = 0 ∧ win0_10.index t 1 = 0 ∧ win0_10.index t 2 = 0 := by decide +kernel
theorem idx11 : ∀ t : Fin grid0.N, win0_11.index t 0 = 0 ∧ win0_11.index t 1 = 0 ∧ win0_11.index t 2 = 0 := by decide +kernel
theorem idx12 : ∀ t : Fin grid0.N, win0_12.index t 0 = 0 ∧ win0_12.index t 1 = 0 ∧ win0_12.index t 2 = 0 := by decide +kernel
theorem idx13 : ∀ t : Fin grid0.N, win0_13.index t 0 = 0 ∧ win0_13.index t 1 = 0 ∧ win0_13.index t 2 = 0 := by decide +kernel
theorem idx14 : ∀ t : Fin grid0.N, win0_14.index t 0 = 0 ∧ win0_14.index t 1 = 0 ∧ win0_14.index t 2 = 0 := by decide +kernel

theorem pt_lt (t : Fin cfg0.N) : t.val < 192 := lt_of_lt_of_eq t.isLt (show cfg0.N = 192 from N_0)

/-- Row `r` of row block `t`, as a row of the whole array. -/
abbrev rowOf (t : Fin cfg0.N) (r : Fin 256) : Fin 49152 := ⟨t.val * 256 + r.val, by have := pt_lt t; omega⟩

theorem blk0 (t : Fin cfg0.N) (r : Fin 256) (d : Fin 2048) :
    ((iblk m c 0 t : Vec Ideal S256x2048 .f32) (ix2 r d) : EReal) = argX m c (ix2 (rowOf t r) d) := by
  unfold iblk
  rw [View.read_apply]
  show V m c main_arg0 _ = _
  rw [V_main_arg0]
  congr 1; funext a; apply Fin.ext
  match a with
  | ⟨0, _⟩ => show win0_0.index t 0 * 256 + 1 * r.val = t.val * 256 + r.val; rw [(idx0 t).1]; omega
  | ⟨1, _⟩ => show win0_0.index t 1 * 2048 + 1 * d.val = d.val; rw [(idx0 t).2]; omega

theorem blk1 (t : Fin cfg0.N) (r : Fin 256) (d : Fin 768) :
    ((iblk m c 1 t : Vec Ideal S256x768 .f32) (ix2 r d) : EReal) = argO1 m c (ix2 (rowOf t r) d) := by
  unfold iblk
  rw [View.read_apply]
  show V m c main_arg1 _ = _
  rw [V_main_arg1]
  congr 1; funext a; apply Fin.ext
  match a with
  | ⟨0, _⟩ => show win0_1.index t 0 * 256 + 1 * r.val = t.val * 256 + r.val; rw [(idx1 t).1]; omega
  | ⟨1, _⟩ => show win0_1.index t 1 * 768 + 1 * d.val = d.val; rw [(idx1 t).2]; omega

theorem blk2 (t : Fin cfg0.N) (r : Fin 256) (d : Fin 768) :
    ((iblk m c 2 t : Vec Ideal S256x768 .f32) (ix2 r d) : EReal) = argO2 m c (ix2 (rowOf t r) d) := by
  unfold iblk
  rw [View.read_apply]
  show V m c main_arg2 _ = _
  rw [V_main_arg2]
  congr 1; funext a; apply Fin.ext
  match a with
  | ⟨0, _⟩ => show win0_2.index t 0 * 256 + 1 * r.val = t.val * 256 + r.val; rw [(idx2 t).1]; omega
  | ⟨1, _⟩ => show win0_2.index t 1 * 768 + 1 * d.val = d.val; rw [(idx2 t).2]; omega

theorem blk3 (t : Fin cfg0.N) (r : Fin 256) (d : Fin 768) :
    ((iblk m c 3 t : Vec Ideal S256x768 .f32) (ix2 r d) : EReal) = argO3 m c (ix2 (rowOf t r) d) := by
  unfold iblk
  rw [View.read_apply]
  show V m c main_arg3 _ = _
  rw [V_main_arg3]
  congr 1; funext a; apply Fin.ext
  match a with
  | ⟨0, _⟩ => show win0_3.index t 0 * 256 + 1 * r.val = t.val * 256 + r.val; rw [(idx3 t).1]; omega
  | ⟨1, _⟩ => show win0_3.index t 1 * 768 + 1 * d.val = d.val; rw [(idx3 t).2]; omega

theorem blk4 (t : Fin cfg0.N) (r : Fin 256) (d : Fin 128) :
    ((iblk m c 4 t : Vec Ideal S256x128 .f32) (ix2 r d) : EReal) = argL1 m c (ix2 (rowOf t r) d) := by
  unfold iblk
  rw [View.read_apply]
  show V m c main_arg4 _ = _
  rw [V_main_arg4]
  congr 1; funext a; apply Fin.ext
  match a with
  | ⟨0, _⟩ => show win0_4.index t 0 * 256 + 1 * r.val = t.val * 256 + r.val; rw [(idx4 t).1]; omega
  | ⟨1, _⟩ => show win0_4.index t 1 * 128 + 1 * d.val = d.val; rw [(idx4 t).2]; omega

theorem blk5 (t : Fin cfg0.N) (r : Fin 256) (d : Fin 128) :
    ((iblk m c 5 t : Vec Ideal S256x128 .f32) (ix2 r d) : EReal) = argL2 m c (ix2 (rowOf t r) d) := by
  unfold iblk
  rw [View.read_apply]
  show V m c main_arg5 _ = _
  rw [V_main_arg5]
  congr 1; funext a; apply Fin.ext
  match a with
  | ⟨0, _⟩ => show win0_5.index t 0 * 256 + 1 * r.val = t.val * 256 + r.val; rw [(idx5 t).1]; omega
  | ⟨1, _⟩ => show win0_5.index t 1 * 128 + 1 * d.val = d.val; rw [(idx5 t).2]; omega

theorem blk6 (t : Fin cfg0.N) (r : Fin 256) (d : Fin 128) :
    ((iblk m c 6 t : Vec Ideal S256x128 .f32) (ix2 r d) : EReal) = argL3 m c (ix2 (rowOf t r) d) := by
  unfold iblk
  rw [View.read_apply]
  show V m c main_arg6 _ = _
  rw [V_main_arg6]
  congr 1; funext a; apply Fin.ext
  match a with
  | ⟨0, _⟩ => show win0_6.index t 0 * 256 + 1 * r.val = t.val * 256 + r.val; rw [(idx6 t).1]; omega
  | ⟨1, _⟩ => show win0_6.index t 1 * 128 + 1 * d.val = d.val; rw [(idx6 t).2]; omega

theorem blk7 (t : Fin cfg0.N) (r : Fin 256) (d : Fin 1280) :
    ((iblk m c 7 t : Vec Ideal S256x1280 .f32) (ix2 r d) : EReal) = argF m c (ix2 (rowOf t r) d) := by
  unfold iblk
  rw [View.read_apply]
  show V m c main_arg7 _ = _
  rw [V_main_arg7]
  congr 1; funext a; apply Fin.ext
  match a with
  | ⟨0, _⟩ => show win0_7.index t 0 * 256 + 1 * r.val = t.val * 256 + r.val; rw [(idx7 t).1]; omega
  | ⟨1, _⟩ => show win0_7.index t 1 * 1280 + 1 * d.val = d.val; rw [(idx7 t).2]; omega

theorem blk8 (t : Fin cfg0.N) (r : Fin 256) (d : Fin 1280) :
    ((iblk m c 8 t : Vec Ideal S256x1280 .f32) (ix2 r d) : EReal) = argB m c (ix2 (rowOf t r) d) := by
  unfold iblk
  rw [View.read_apply]
  show V m c main_arg8 _ = _
  rw [V_main_arg8]
  congr 1; funext a; apply Fin.ext
  match a with
  | ⟨0, _⟩ => show win0_8.index t 0 * 256 + 1 * r.val = t.val * 256 + r.val; rw [(idx8 t).1]; omega
  | ⟨1, _⟩ => show win0_8.index t 1 * 1280 + 1 * d.val = d.val; rw [(idx8 t).2]; omega

theorem blk9 (t : Fin cfg0.N) (r : Fin 256) (d : Fin 1280) :
    ((iblk m c 9 t : Vec Ideal S256x1280 .f32) (ix2 r d) : EReal) = argG m c (ix2 (rowOf t r) d) := by
  unfold iblk
  rw [View.read_apply]
  show V m c main_arg9 _ = _
  rw [V_main_arg9]
  congr 1; funext a; apply Fin.ext
  match a with
  | ⟨0, _⟩ => show win0_9.index t 0 * 256 + 1 * r.val = t.val * 256 + r.val; rw [(idx9 t).1]; omega
  | ⟨1, _⟩ => show win0_9.index t 1 * 1280 + 1 * d.val = d.val; rw [(idx9 t).2]; omega

theorem blk10 (t : Fin cfg0.N) (d : Fin 768) :
    ((iblk m c 10 t : Vec Ideal S1x1x768 .f32) (ix3 0 0 d) : EReal) = argA m c (ix2 0 d) := by
  refine Eq.trans ?_ (found_a m c 0 d)
  unfold iblk
  rw [View.read_apply]
  show V m c main_v0 _ = _
  congr 1; funext a; apply Fin.ext
  match a with
  | ⟨0, _⟩ => show win0_10.index t 0 * 1 + 1 * 0 = 0; rw [(idx10 t).1]
  | ⟨1, _⟩ => show win0_10.index t 1 * 1 + 1 * 0 = 0; rw [(idx10 t).2.1]
  | ⟨2, _⟩ => show win0_10.index t 2 * 768 + 1 * d.val = d.val; rw [(idx10 t).2.2]; omega

theorem blk11 (t : Fin cfg0.N) (d : Fin 1280) :
    ((iblk m c 11 t : Vec Ideal S1x1x1280 .f32) (ix3 0 0 d) : EReal) = argR m c (ix2 0 d) := by
  refine Eq.trans ?_ (found_r m c 0 d)
  unfold iblk
  rw [View.read_apply]
  show V m c main_v1 _ = _
  congr 1; funext a; apply Fin.ext
  match a with
  | ⟨0, _⟩ => show win0_11.index t 0 * 1 + 1 * 0 = 0; rw [(idx11 t).1]
  | ⟨1, _⟩ => show win0_11.index t 1 * 1 + 1 * 0 = 0; rw [(idx11 t).2.1]
  | ⟨2, _⟩ => show win0_11.index t 2 * 1280 + 1 * d.val = d.val; rw [(idx11 t).2.2]; omega

theorem blk13 (t : Fin cfg0.N) (d : Fin 2048) :
    ((iblk m c 13 t : Vec Ideal S1x1x2048 .f32) (ix3 0 0 d) : EReal) = argS m c (ix2 0 d) := by
  refine Eq.trans ?_ (found_s m c 0 d)
  unfold iblk
  rw [View.read_apply]
  show V m c main_v3 _ = _
  congr 1; funext a; apply Fin.ext
  match a with
  | ⟨0, _⟩ => show win0_13.index t 0 * 1 + 1 * 0 = 0; rw [(idx13 t).1]
  | ⟨1, _⟩ => show win0_13.index t 1 * 1 + 1 * 0 = 0; rw [(idx13 t).2.1]
  | ⟨2, _⟩ => show win0_13.index t 2 * 2048 + 1 * d.val = d.val; rw [(idx13 t).2.2]; omega

theorem blk14 (t : Fin cfg0.N) (d : Fin 2048) :
    ((iblk m c 14 t : Vec Ideal S1x1x2048 .f32) (ix3 0 0 d) : EReal) = argH m c (ix2 0 d) := by
  refine Eq.trans ?_ (found_h m c 0 d)
  unfold iblk
  rw [View.read_apply]
  show V m c main_v4 _ = _
  congr 1; funext a; apply Fin.ext
  match a with
  | ⟨0, _⟩ => show win0_14.index t 0 * 1 + 1 * 0 = 0; rw [(idx14 t).1]
  | ⟨1, _⟩ => show win0_14.index t 1 * 1 + 1 * 0 = 0; rw [(idx14 t).2.1]
  | ⟨2, _⟩ => show win0_14.index t 2 * 2048 + 1 * d.val = d.val; rw [(idx14 t).2.2]; omega

theorem blk12 (t : Fin cfg0.N) (j k : Fin 2048) :
    ((iblk m c 12 t : Vec Ideal S1x2048x2048 .bf16) (ix3 0 j k) : EReal) = argW m c (ix3 0 j k) := by
  refine Eq.trans ?_ (congrFun (found_w m c) (ix3 0 j k))
  unfold iblk
  rw [View.read_apply]
  show V m c main_v2 _ = _
  congr 1; funext a; apply Fin.ext
  match a with
  | ⟨0, _⟩ => show win0_12.index t 0 * 1 + 1 * 0 = 0; rw [(idx12 t).1]
  | ⟨1, _⟩ => show win0_12.index t 1 * 2048 + 1 * j.val = j.val; rw [(idx12 t).2.1]; omega
  | ⟨2, _⟩ => show win0_12.index t 2 * 2048 + 1 * k.val = k.val; rw [(idx12 t).2.2]; omega

/-! ## The result -/

theorem norm_congr {y y' : Fin 2048 → EReal} (h : ∀ k, y k = y' k) (g b : EReal) (d : Fin 2048) :
    Cert.Ffn.rowNorm y g b d = Cert.Ffn.rowNorm y' g b d := by
  rw [funext h]

theorem merged_congr {a a' : Fin 768 → EReal} {q q' : Fin 1280 → EReal} {g g' : Fin 768 → EReal} {s s' : Fin 1280 → EReal}
    (ha : ∀ d, a d = a' d) (hq : ∀ d, q d = q' d) (hg : ∀ d, g d = g' d) (hs : ∀ d, s d = s' d) (j : Fin 2048) :
    mergedRow a q g s j = mergedRow a' q' g' s' j := by
  rw [funext ha, funext hq, funext hg, funext hs]

theorem out_blk (t : Fin cfg0.N) (r : Fin 256) (d : Fin 2048) :
    ((((cfg0.win 15).blk t).view.read (Elt Ideal) ((Gen.dats m 0 c).arrAt 15 cfg0.N)) (ix2 r d) : EReal)
      = Cert.Ffn.rowNorm (preNorm (argX m c) (argO1 m c) (argO2 m c) (argO3 m c) (argL1 m c) (argL2 m c) (argL3 m c) (argF m c) (argB m c) (argG m c)
          (argA m c) (argR m c) (argW m c) (rowOf t r)) (argS m c (ix2 0 d)) (argH m c (ix2 0 d)) d := by
  rw [Value.blocks15 m c t (flush0_15 t), Value.flushed15_A, out_eq]
  refine (finish_at _ (iblk m c 0 t) (iblk m c 12 t) (iblk m c 13 t) (iblk m c 14 t) r d).trans ?_
  rw [blk13 m c t d, blk14 m c t d]
  refine norm_congr (fun k => ?_) _ _ d
  unfold preNorm
  rw [blk0 m c t r k]
  refine congrArg (Ideal.ofBits .f32 0x3FB504F3#32 * argX m c (ix2 (rowOf t r) k) + ·) (Finset.sum_congr rfl fun j _ => ?_)
  rw [blk12 m c t j k]
  refine congrArg (· * argW m c (ix3 0 j k)) ?_
  refine (merged_at (iblk m c 1 t) (iblk m c 2 t) (iblk m c 3 t) (iblk m c 4 t) (iblk m c 5 t) (iblk m c 6 t) (iblk m c 7 t) (iblk m c 8 t)
    (iblk m c 9 t) (iblk m c 10 t) (iblk m c 11 t) r j).trans ?_
  refine merged_congr (fun e => ?_) (fun e => ?_) (fun e => blk10 m c t e) (fun e => blk11 m c t e) j
  · rw [blk1 m c t r e, blk2 m c t r e, blk3 m c t r e, blk4 m c t r (lane (head e)), blk5 m c t r (lane (head e)), blk6 m c t r (lane (head e))]
  · rw [blk7 m c t r e, blk8 m c t r e, blk9 m c t r e]

/-- The grid point that computes row `R`. -/
abbrev ptOf (R : Fin 49152) : Fin cfg0.N := ⟨R.val / 256, by have h : cfg0.N = 192 := N_0; have := R.isLt; omega⟩
/-- The row inside the point's block. -/
abbrev inBlk (R : Fin 49152) : Fin 256 := ⟨R.val % 256, Nat.mod_lt _ (by decide)⟩

theorem row_back (R : Fin 49152) : rowOf (ptOf R) (inBlk R) = R := Fin.ext (by show R.val / 256 * 256 + R.val % 256 = R.val; omega)

/-- The kernel's result at one index. -/
theorem out_at (R : Fin 49152) (d : Fin 2048) :
    ((Gen.dats m 0 c).arrAt 15 cfg0.N (ix2 R d) : EReal)
      = Cert.Ffn.rowNorm (preNorm (argX m c) (argO1 m c) (argO2 m c) (argO3 m c) (argL1 m c) (argL2 m c) (argL3 m c) (argF m c) (argB m c) (argG m c)
          (argA m c) (argR m c) (argW m c) R) (argS m c (ix2 0 d)) (argH m c (ix2 0 d)) d := by
  have e := out_blk m c (ptOf R) (inBlk R) d
  rw [View.read_apply] at e
  have ei : (((cfg0.win 15).blk (ptOf R)).view.emb (ix2 (inBlk R) d) : S49152x2048.Idx) = ix2 R d := by
    funext a; apply Fin.ext
    match a with
    | ⟨0, _⟩ => show win0_15.index (ptOf R) 0 * 256 + 1 * (R.val % 256) = R.val; rw [(idx15 _).1]; show R.val / 256 * 256 + _ = _; omega
    | ⟨1, _⟩ => show win0_15.index (ptOf R) 1 * 2048 + 1 * d.val = d.val; rw [(idx15 _).2]; omega
  refine ((congrArg ((Gen.dats m 0 c).arrAt 15 cfg0.N) ei).symm.trans e).trans ?_
  rw [row_back]

end Cert.Merge

end
-- ==== Proof.MergeRef.lean ====
/-
  The merge reference over the extended reals, step by step, read at one index. Each step is a function of the arrays
  before it.
-/
module

public import proofs.«01_k».proof.Proof.MergeValue
public import proofs.«01_k».proof.Proof.Gen.Reference4Ideal.Run
public import Idealize.ShloMosaic.Lib.Tactic.CleanTypes

@[expose] public section

set_option maxRecDepth 16384

noncomputable section

namespace Cert.MergeRef

open Idealize.ShloMosaic Idealize.ShloMosaic.TcCoe Idealize.SL.Sem
open Cert.Reference4Ideal Cert.Reference4Ideal.Gen
open Cert.Merge (weight blend rowRms gelu head lane mergedRow preNorm norm_congr merged_congr)
open Cert.Ffn (rowNorm)

/-! ## The steps -/

/-- The twelve heads' log-sum-exps as a last axis of extent one. -/
def column (l : FVec Ideal S49152x128 .f32) : FVec Ideal S49152x12x1 .f32 :=
  broadcastInDim S49152x12x1 ![0, 1] bcast_S49152x12_S49152x12x1_0_1 (extractStridedSlice S49152x12 ![0, 0] l slices_S49152x128_S49152x12_0_0)

/-- Three columns stacked. -/
def stacked (a b c : FVec Ideal S49152x12x1 .f32) : FVec Ideal S49152x12x3 .f32 :=
  concatenate S49152x12x3 2 [⟨S49152x12x1, a⟩, ⟨S49152x12x1, b⟩, ⟨S49152x12x1, c⟩] concatenates_S49152x12x1_S49152x12x1_S49152x12x1_S49152x12x3_d2

/-- An array of heads spread over the last axis of three. -/
def over3 (t : FVec Ideal S49152x12 .f32) : FVec Ideal S49152x12x3 .f32 :=
  broadcastInDim S49152x12x3 ![0, 1, 2] bcast_S49152x12x1_S49152x12x3_0_1_2 (broadcastInDim S49152x12x1 ![0, 1] bcast_S49152x12_S49152x12x1_0_1 t)

/-- The greatest of the three. -/
def greatest (z : FVec Ideal S49152x12x3 .f32) : FVec Ideal S49152x12 .f32 :=
  maximumf (broadcastInDim S49152x12 ![] bcast_S_S49152x12 (constant S_ .f32 0xFF800000#32)) (Host.reduce FloatOps.maximumf z (constant S_ .f32 0xFF800000#32) reducesTo_S49152x12x3_S49152x12_d2 h_S_)

def exps (z : FVec Ideal S49152x12x3 .f32) : FVec Ideal S49152x12x3 .f32 := Host.exp (subf z (over3 (greatest z)))

def total (e : FVec Ideal S49152x12x3 .f32) : FVec Ideal S49152x12 .f32 :=
  Host.reduceAdd e (constant S_ .f32 0x00000000#32) reducesTo_S49152x12x3_S49152x12_d2 h_S_

/-- The softmax over the three. -/
def softmax (z : FVec Ideal S49152x12x3 .f32) : FVec Ideal S49152x12x3 .f32 := Host.divf (exps z) (over3 (total (exps z)))

def heads (o : FVec Ideal S49152x768 .f32) : FVec Ideal S49152x12x64 .f32 := shapeCast _ o shapeCasts_S49152x768_S49152x12x64

/-- One of the three, spread over the lanes of its head. -/
def pick0 (w : FVec Ideal S49152x12x3 .f32) : FVec Ideal S49152x12x64 .f32 :=
  broadcastInDim S49152x12x64 ![0, 1, 2] bcast_S49152x12x1_S49152x12x64_0_1_2 (broadcastInDim S49152x12x1 ![0, 1] bcast_S49152x12_S49152x12x1_0_1 (shapeCast _ (extractStridedSlice S49152x12x1 ![0, 0, 0] w slices_S49152x12x3_S49152x12x1_0_0_0) shapeCasts_S49152x12x1_S49152x12))
def pick1 (w : FVec Ideal S49152x12x3 .f32) : FVec Ideal S49152x12x64 .f32 :=
  broadcastInDim S49152x12x64 ![0, 1, 2] bcast_S49152x12x1_S49152x12x64_0_1_2 (broadcastInDim S49152x12x1 ![0, 1] bcast_S49152x12_S49152x12x1_0_1 (shapeCast _ (extractStridedSlice S49152x12x1 ![0, 0, 1] w slices_S49152x12x3_S49152x12x1_0_0_1) shapeCasts_S49152x12x1_S49152x12))
def pick2 (w : FVec Ideal S49152x12x3 .f32) : FVec Ideal S49152x12x64 .f32 :=
  broadcastInDim S49152x12x64 ![0, 1, 2] bcast_S49152x12x1_S49152x12x64_0_1_2 (broadcastInDim S49152x12x1 ![0, 1] bcast_S49152x12_S49152x12x1_0_1 (shapeCast _ (extractStridedSlice S49152x12x1 ![0, 0, 2] w slices_S49152x12x3_S49152x12x1_0_0_2) shapeCasts_S49152x12x1_S49152x12))

/-- The three weighted outputs added up. -/
def summed (o1 o2 o3 w1 w2 w3 : FVec Ideal S49152x12x64 .f32) : FVec Ideal S49152x768 .f32 :=
  shapeCast _ (addf (addf (addf (broadcastInDim S49152x12x64 ![] bcast_S_S49152x12x64 (constant S_ .f32 0x00000000#32)) (mulf o1 w1)) (mulf o2 w2)) (mulf o3 w3)) shapeCasts_S49152x12x64_S49152x768

def attn (o1 o2 o3 : FVec Ideal S49152x768 .f32) (w : FVec Ideal S49152x12x3 .f32) : FVec Ideal S49152x768 .f32 :=
  summed (heads o1) (heads o2) (heads o3) (pick0 w) (pick1 w) (pick2 w)

/-- The recurrence's output, gated. -/
def recur (hf hb gl : FVec Ideal S49152x1280 .f32) : FVec Ideal S49152x1280 .f32 :=
  mulf (addf hf hb) (mulf gl (mulf (broadcastInDim S49152x1280 ![] bcast_S_S49152x1280 (constant S_ .f32 0x3F000000#32)) (addf (broadcastInDim S49152x1280 ![] bcast_S_S49152x1280 (constant S_ .f32 0x3F800000#32)) (Host.tanh (mulf (broadcastInDim S49152x1280 ![] bcast_S_S49152x1280 (constant S_ .f32 0x3F4C422A#32)) (addf gl (mulf (broadcastInDim S49152x1280 ![] bcast_S_S49152x1280 (constant S_ .f32 0x3D372713#32)) (mulf (mulf gl gl) gl))))))))

def normA (y : FVec Ideal S49152x768 .f32) (g : FVec Ideal S2x768 .f32) : FVec Ideal S49152x768 .f32 :=
  mulf (mulf y (broadcastInDim S49152x768 ![0, 1] bcast_S49152x1_S49152x768_0_1 (Host.rsqrt (addf (Host.divf (broadcastInDim S49152x1 ![0] bcast_S49152_S49152x1_0 (Host.reduceAdd (mulf y y) (constant S_ .f32 0x00000000#32) reducesTo_S49152x768_S49152_d1 h_S_)) (broadcastInDim S49152x1 ![] bcast_S_S49152x1 (constant S_ .f32 0x44400000#32))) (broadcastInDim S49152x1 ![] bcast_S_S49152x1 (constant S_ .f32 0x3727C5AC#32)))))) (broadcastInDim S49152x768 ![0, 1] bcast_S1x768_S49152x768_0_1 (broadcastInDim S1x768 ![1] bcast_S768_S1x768_1 (shapeCast _ (extractStridedSlice S1x768 ![0, 0] g slices_S2x768_S1x768_0_0) shapeCasts_S1x768_S768)))

def normR (y : FVec Ideal S49152x1280 .f32) (g : FVec Ideal S2x1280 .f32) : FVec Ideal S49152x1280 .f32 :=
  mulf (mulf y (broadcastInDim S49152x1280 ![0, 1] bcast_S49152x1_S49152x1280_0_1 (Host.rsqrt (addf (Host.divf (broadcastInDim S49152x1 ![0] bcast_S49152_S49152x1_0 (Host.reduceAdd (mulf y y) (constant S_ .f32 0x00000000#32) reducesTo_S49152x1280_S49152_d1 h_S_)) (broadcastInDim S49152x1 ![] bcast_S_S49152x1 (constant S_ .f32 0x44A00000#32))) (broadcastInDim S49152x1 ![] bcast_S_S49152x1 (constant S_ .f32 0x3727C5AC#32)))))) (broadcastInDim S49152x1280 ![0, 1] bcast_S1x1280_S49152x1280_0_1 (broadcastInDim S1x1280 ![1] bcast_S1280_S1x1280_1 (shapeCast _ (extractStridedSlice S1x1280 ![0, 0] g slices_S2x1280_S1x1280_0_0) shapeCasts_S1x1280_S1280)))

/-- The two normalized groups side by side. -/
def both (a : FVec Ideal S49152x768 .f32) (q : FVec Ideal S49152x1280 .f32) : FVec Ideal S49152x2048 .f32 :=
  concatenate S49152x2048 1 [⟨S49152x768, a⟩, ⟨S49152x1280, q⟩] concatenates_S49152x768_S49152x1280_S49152x2048_d1

/-- The rows before the last norm. -/
def rows (x z : FVec Ideal S49152x2048 .f32) (w : FVec Ideal S2x2048x2048 .f32) : FVec Ideal S49152x2048 .f32 :=
  addf (mulf (broadcastInDim S49152x2048 ![] bcast_S_S49152x2048 (constant S_ .f32 0x3FB504F3#32)) x) (Host.dotGeneral dot_S49152x2048_S2048x2048_S49152x2048_1_0_0_1_n_n none z (shapeCast _ (extractStridedSlice S1x2048x2048 ![0, 0, 0] w slices_S2x2048x2048_S1x2048x2048_0_0_0) shapeCasts_S1x2048x2048_S2048x2048))

def meanOf (y : FVec Ideal S49152x2048 .f32) : FVec Ideal S49152x1 .f32 :=
  Host.divf (broadcastInDim S49152x1 ![0] bcast_S49152_S49152x1_0 (Host.reduceAdd y (constant S_ .f32 0x00000000#32) reducesTo_S49152x2048_S49152_d1 h_S_)) (broadcastInDim S49152x1 ![] bcast_S_S49152x1 (constant S_ .f32 0x45000000#32))

def centred (y : FVec Ideal S49152x2048 .f32) : FVec Ideal S49152x2048 .f32 :=
  subf y (broadcastInDim S49152x2048 ![0, 1] bcast_S49152x1_S49152x2048_0_1 (meanOf y))

def scaled (z : FVec Ideal S49152x2048 .f32) (s h : FVec Ideal S2x2048 .f32) : FVec Ideal S49152x2048 .f32 :=
  addf (mulf (mulf z (broadcastInDim S49152x2048 ![0, 1] bcast_S49152x1_S49152x2048_0_1 (Host.rsqrt (addf (meanOf (mulf z z)) (broadcastInDim S49152x1 ![] bcast_S_S49152x1 (constant S_ .f32 0x3727C5AC#32)))))) (broadcastInDim S49152x2048 ![0, 1] bcast_S1x2048_S49152x2048_0_1 (broadcastInDim S1x2048 ![1] bcast_S2048_S1x2048_1 (shapeCast _ (extractStridedSlice S1x2048 ![0, 0] s slices_S2x2048_S1x2048_0_0) shapeCasts_S1x2048_S2048)))) (broadcastInDim S49152x2048 ![0, 1] bcast_S1x2048_S49152x2048_0_1 (broadcastInDim S1x2048 ![1] bcast_S2048_S1x2048_1 (shapeCast _ (extractStridedSlice S1x2048 ![0, 0] h slices_S2x2048_S1x2048_0_0) shapeCasts_S1x2048_S2048)))

/-- The merged rows before the last norm, from the arguments. -/
def before (x : FVec Ideal S49152x2048 .f32) (o1 o2 o3 : FVec Ideal S49152x768 .f32) (l1 l2 l3 : FVec Ideal S49152x128 .f32)
    (hf hb gl : FVec Ideal S49152x1280 .f32) (ga : FVec Ideal S2x768 .f32) (gr : FVec Ideal S2x1280 .f32) (w : FVec Ideal S2x2048x2048 .f32) :
    FVec Ideal S49152x2048 .f32 :=
  rows x (both (normA (attn o1 o2 o3 (softmax (stacked (column l1) (column l2) (column l3)))) ga) (normR (recur hf hb gl) gr)) w

/-- The reference's result. -/
def result (x : FVec Ideal S49152x2048 .f32) (o1 o2 o3 : FVec Ideal S49152x768 .f32) (l1 l2 l3 : FVec Ideal S49152x128 .f32)
    (hf hb gl : FVec Ideal S49152x1280 .f32) (ga : FVec Ideal S2x768 .f32) (gr : FVec Ideal S2x1280 .f32) (w : FVec Ideal S2x2048x2048 .f32)
    (s h : FVec Ideal S2x2048 .f32) : FVec Ideal S49152x2048 .f32 :=
  scaled (centred (before x o1 o2 o3 l1 l2 l3 hf hb gl ga gr w)) s h

/-! ## Their entries -/

theorem column_at (l : FVec Ideal S49152x128 .f32) (R : Fin 49152) (h : Fin 12) : (column l (ix3 R h 0) : EReal) = l (ix2 R (lane h)) := by
  pointwise [column]
  rfl

theorem stacked_at (a b c : FVec Ideal S49152x12x1 .f32) (R : Fin 49152) (h : Fin 12) (n : Fin 3) :
    (stacked a b c (ix3 R h n) : EReal) = if n.val < 1 then a (ix3 R h 0) else if n.val < 2 then b (ix3 R h 0) else c (ix3 R h 0) := by
  match n with
  | 0 => pointwise [stacked]
  | 1 => pointwise [stacked]
  | 2 => pointwise [stacked]

theorem negInf : Ideal.ofBits .f32 0xFF800000#32 = ⊥ := by
  simp [Ideal.ofBits, Ideal.ieee]

theorem greatest_at (z : FVec Ideal S49152x12x3 .f32) (R : Fin 49152) (h : Fin 12) :
    (greatest z (ix2 R h) : EReal) = max (max (z (ix3 R h 0)) (z (ix3 R h 1))) (z (ix3 R h 2)) := by
  have e : (greatest z (ix2 R h) : EReal) = Finset.univ.sup fun n : Fin 3 => (z (ix3 R h n) : EReal) := by
    pointwise [greatest]
    rw [negInf, bot_sup_eq]
    rfl
  rw [e]
  simp [Finset.sup, Fin.univ_succ, max_assoc]

theorem exps_at (z : FVec Ideal S49152x12x3 .f32) (R : Fin 49152) (h : Fin 12) (n : Fin 3) :
    (exps z (ix3 R h n) : EReal) = Ideal.exp (z (ix3 R h n) - greatest z (ix2 R h)) := by
  unfold exps
  generalize greatest z = t
  pointwise [over3]

theorem total_at (e : FVec Ideal S49152x12x3 .f32) (R : Fin 49152) (h : Fin 12) :
    (total e (ix2 R h) : EReal) = e (ix3 R h 0) + e (ix3 R h 1) + e (ix3 R h 2) := by
  have q : (total e (ix2 R h) : EReal) = ∑ n : Fin 3, (e (ix3 R h n) : EReal) := by
    pointwise [total]
  rw [q, Fin.sum_univ_three]

theorem softmax_at (z : FVec Ideal S49152x12x3 .f32) (R : Fin 49152) (h : Fin 12) (n : Fin 3) :
    (softmax z (ix3 R h n) : EReal) = weight (z (ix3 R h 0)) (z (ix3 R h 1)) (z (ix3 R h 2)) (z (ix3 R h n)) := by
  have q : (softmax z (ix3 R h n) : EReal) = Ideal.div (exps z (ix3 R h n)) (total (exps z) (ix2 R h)) := by
    unfold softmax
    generalize exps z = e
    generalize total e = t
    pointwise [over3]
  rw [q, total_at, exps_at, exps_at, exps_at, exps_at, greatest_at]
  rfl

theorem heads_at (o : FVec Ideal S49152x768 .f32) (R : Fin 49152) (h : Fin 12) (e : Fin 64) :
    (heads o (ix3 R h e) : EReal) = o (ix2 R ⟨64 * h.val + e.val, by omega⟩) := by
  pointwise [heads]
  simp only [Nat.mul_comm]

theorem pick0_at (w : FVec Ideal S49152x12x3 .f32) (R : Fin 49152) (h : Fin 12) (e : Fin 64) : (pick0 w (ix3 R h e) : EReal) = w (ix3 R h 0) := by
  pointwise [pick0]
theorem pick1_at (w : FVec Ideal S49152x12x3 .f32) (R : Fin 49152) (h : Fin 12) (e : Fin 64) : (pick1 w (ix3 R h e) : EReal) = w (ix3 R h 1) := by
  pointwise [pick1]
theorem pick2_at (w : FVec Ideal S49152x12x3 .f32) (R : Fin 49152) (h : Fin 12) (e : Fin 64) : (pick2 w (ix3 R h e) : EReal) = w (ix3 R h 2) := by
  pointwise [pick2]

theorem summed_at (o1 o2 o3 w1 w2 w3 : FVec Ideal S49152x12x64 .f32) (R : Fin 49152) (h : Fin 12) (e : Fin 64) :
    (summed o1 o2 o3 w1 w2 w3 (ix2 R ⟨64 * h.val + e.val, by omega⟩) : EReal)
      = o1 (ix3 R h e) * w1 (ix3 R h e) + o2 (ix3 R h e) * w2 (ix3 R h e) + o3 (ix3 R h e) * w3 (ix3 R h e) := by
  pointwise [summed]

theorem attn_at (o1 o2 o3 : FVec Ideal S49152x768 .f32) (l1 l2 l3 : FVec Ideal S49152x128 .f32) (R : Fin 49152) (d : Fin 768) :
    (attn o1 o2 o3 (softmax (stacked (column l1) (column l2) (column l3))) (ix2 R d) : EReal)
      = blend (o1 (ix2 R d)) (o2 (ix2 R d)) (o3 (ix2 R d)) (l1 (ix2 R (lane (head d)))) (l2 (ix2 R (lane (head d)))) (l3 (ix2 R (lane (head d)))) := by
  have hd : d = ⟨64 * (head d).val + (⟨d.val % 64, Nat.mod_lt _ (by decide)⟩ : Fin 64).val, by show 64 * (d.val / 64) + d.val % 64 < 768; omega⟩ :=
    Fin.ext (by show d.val = 64 * (d.val / 64) + d.val % 64; omega)
  have z0 : (stacked (column l1) (column l2) (column l3) (ix3 R (head d) 0) : EReal) = l1 (ix2 R (lane (head d))) :=
    (stacked_at _ _ _ R (head d) 0).trans (column_at l1 R (head d))
  have z1 : (stacked (column l1) (column l2) (column l3) (ix3 R (head d) 1) : EReal) = l2 (ix2 R (lane (head d))) :=
    (stacked_at _ _ _ R (head d) 1).trans (column_at l2 R (head d))
  have z2 : (stacked (column l1) (column l2) (column l3) (ix3 R (head d) 2) : EReal) = l3 (ix2 R (lane (head d))) :=
    (stacked_at _ _ _ R (head d) 2).trans (column_at l3 R (head d))
  unfold attn
  refine (congrArg (fun j => summed (heads o1) (heads o2) (heads o3) (pick0 (softmax (stacked (column l1) (column l2) (column l3))))
    (pick1 (softmax (stacked (column l1) (column l2) (column l3)))) (pick2 (softmax (stacked (column l1) (column l2) (column l3)))) (ix2 R j)) hd).trans ?_
  refine (summed_at _ _ _ _ _ _ R (head d) _).trans ?_
  rw [heads_at, heads_at, heads_at, pick0_at, pick1_at, pick2_at, softmax_at, softmax_at, softmax_at, z0, z1, z2, ← hd]
  rfl

theorem recur_at (hf hb gl : FVec Ideal S49152x1280 .f32) (R : Fin 49152) (d : Fin 1280) :
    (recur hf hb gl (ix2 R d) : EReal) = (hf (ix2 R d) + hb (ix2 R d)) * gelu (gl (ix2 R d)) := by
  have q : (recur hf hb gl (ix2 R d) : EReal) = (hf (ix2 R d) + hb (ix2 R d)) * (gl (ix2 R d) * (Ideal.ofBits .f32 0x3F000000#32 * (1 + Ideal.tanh (Ideal.ofBits .f32 0x3F4C422A#32
    * (gl (ix2 R d) + Ideal.ofBits .f32 0x3D372713#32 * ((gl (ix2 R d) * gl (ix2 R d)) * gl (ix2 R d))))))) := by
    pointwise [recur]
  rw [q, mul_comm (gl (ix2 R d) * gl (ix2 R d)) (gl (ix2 R d))]
  rfl

theorem normA_at (y : FVec Ideal S49152x768 .f32) (g : FVec Ideal S2x768 .f32) (R : Fin 49152) (d : Fin 768) :
    (normA y g (ix2 R d) : EReal) = rowRms (Ideal.ofBits .f32 0x44400000#32) (fun e => y (ix2 R e)) (g (ix2 0 d)) d := by
  pointwise [normA, rowRms]

theorem normR_at (y : FVec Ideal S49152x1280 .f32) (g : FVec Ideal S2x1280 .f32) (R : Fin 49152) (d : Fin 1280) :
    (normR y g (ix2 R d) : EReal) = rowRms (Ideal.ofBits .f32 0x44A00000#32) (fun e => y (ix2 R e)) (g (ix2 0 d)) d := by
  pointwise [normR, rowRms]

theorem both_at (a : FVec Ideal S49152x768 .f32) (q : FVec Ideal S49152x1280 .f32) (R : Fin 49152) (j : Fin 2048) :
    (both a q (ix2 R j) : EReal) = if h : j.val < 768 then a (ix2 R ⟨j.val, h⟩) else q (ix2 R ⟨j.val - 768, by omega⟩) := by
  pointwise [both]

theorem rows_at (x z : FVec Ideal S49152x2048 .f32) (w : FVec Ideal S2x2048x2048 .f32) (R : Fin 49152) (k : Fin 2048) :
    (rows x z w (ix2 R k) : EReal) = Ideal.ofBits .f32 0x3FB504F3#32 * x (ix2 R k) + ∑ j : Fin 2048, z (ix2 R j) * w (ix3 0 j k) := by
  pointwise [rows]

theorem result_norm (y : FVec Ideal S49152x2048 .f32) (s h : FVec Ideal S2x2048 .f32) (R : Fin 49152) (d : Fin 2048) :
    (scaled (centred y) s h (ix2 R d) : EReal) = rowNorm (fun k => y (ix2 R k)) (s (ix2 0 d)) (h (ix2 0 d)) d := by
  have cz : ∀ k : Fin 2048, (centred y (ix2 R k) : EReal) = y (ix2 R k) - Ideal.div (∑ e : Fin 2048, (y (ix2 R e) : EReal)) (Ideal.ofBits .f32 0x45000000#32) := fun k => by
    pointwise [centred, meanOf]
  have q : ∀ z : FVec Ideal S49152x2048 .f32, (scaled z s h (ix2 R d) : EReal)
      = z (ix2 R d) * Ideal.rsqrt (Ideal.div (∑ e : Fin 2048, (z (ix2 R e) : EReal) * z (ix2 R e)) (Ideal.ofBits .f32 0x45000000#32) + Ideal.ofBits .f32 0x3727C5AC#32)
        * s (ix2 0 d) + h (ix2 0 d) := fun z => by
    pointwise [scaled, meanOf]
  rw [q]
  simp only [cz]
  rfl

/-- The reference's rows before the last norm. -/
theorem before_at (x : FVec Ideal S49152x2048 .f32) (o1 o2 o3 : FVec Ideal S49152x768 .f32) (l1 l2 l3 : FVec Ideal S49152x128 .f32)
    (hf hb gl : FVec Ideal S49152x1280 .f32) (ga : FVec Ideal S2x768 .f32) (gr : FVec Ideal S2x1280 .f32) (w : FVec Ideal S2x2048x2048 .f32)
    (R : Fin 49152) (k : Fin 2048) :
    (before x o1 o2 o3 l1 l2 l3 hf hb gl ga gr w (ix2 R k) : EReal) = preNorm x o1 o2 o3 l1 l2 l3 hf hb gl ga gr w R k := by
  unfold before preNorm
  refine (rows_at x _ w R k).trans (congrArg (Ideal.ofBits .f32 0x3FB504F3#32 * x (ix2 R k) + ·) (Finset.sum_congr rfl fun j _ => ?_))
  refine congrArg (· * (w (ix3 0 j k) : EReal)) ?_
  refine (both_at _ _ R j).trans ?_
  refine Eq.trans ?_ (merged_congr (fun d => attn_at o1 o2 o3 l1 l2 l3 R d) (fun d => recur_at hf hb gl R d) (fun _ => rfl) (fun _ => rfl) j)
  unfold mergedRow
  by_cases h : j.val < 768
  · rw [dif_pos h, dif_pos h]
    exact normA_at _ ga R _
  · rw [dif_neg h, dif_neg h]
    exact normR_at _ gr R _

/-- The reference's result at one index. -/
theorem result_at (x : FVec Ideal S49152x2048 .f32) (o1 o2 o3 : FVec Ideal S49152x768 .f32) (l1 l2 l3 : FVec Ideal S49152x128 .f32)
    (hf hb gl : FVec Ideal S49152x1280 .f32) (ga : FVec Ideal S2x768 .f32) (gr : FVec Ideal S2x1280 .f32) (w : FVec Ideal S2x2048x2048 .f32)
    (s h : FVec Ideal S2x2048 .f32) (R : Fin 49152) (d : Fin 2048) :
    (result x o1 o2 o3 l1 l2 l3 hf hb gl ga gr w s h (ix2 R d) : EReal)
      = rowNorm (preNorm x o1 o2 o3 l1 l2 l3 hf hb gl ga gr w R) (s (ix2 0 d)) (h (ix2 0 d)) d := by
  unfold result
  refine (result_norm _ s h R d).trans ?_
  exact norm_congr (fun k => before_at x o1 o2 o3 l1 l2 l3 hf hb gl ga gr w R k) _ _ d

end Cert.MergeRef

end
-- ==== Proof.MergeClaim.lean ====
/-
  The merge claims: every program runs and leaves its arguments, and the kernel's result is the reference's.
-/
module

public import proofs.«01_k».proof.Defs
public import proofs.«01_k».proof.Proof.MergeRef
public import proofs.«01_k».proof.Proof.Gen.Kernel4.Frame
public import proofs.«01_k».proof.Proof.Gen.Kernel4Ideal.Frame
public import Idealize.ShloMosaic.Adequacy
public import Idealize.ShloMosaic.Init

@[expose] public section

set_option maxRecDepth 16384

noncomputable section

namespace Cert.Merge

open Idealize.ShloMosaic Idealize.ShloMosaic.TcCoe Idealize.SL.Sem

theorem kernel_frame : quiescent_Kernel4 (hKernel4 := Cert.Kernel4.Gen.facts) := fun m ρ _ => Cert.Kernel4.Gen.frame m ρ
theorem ideal_frame : quiescent_Kernel4Ideal (hKernel4Ideal := Cert.Kernel4Ideal.Gen.facts) := fun m ρ _ => Cert.Kernel4Ideal.Gen.frame m ρ
theorem ref_frame : quiescent_Reference4Ideal (hReference4Ideal := Cert.Reference4Ideal.Gen.facts) := fun m ρ _ =>
  (θ_run _ _ _).mono (fun r h => ⟨fun c => (h c).2, Idealize.ShloMosaic.sem_eq_zero_of_no_sems (by decide) r.2⟩)
    (Cert.Reference4Ideal.Value.run (F := Ideal) m ρ)

theorem preserved : preserves_Kernel4_Kernel4Ideal := trivial

section
open Cert.Reference4Ideal Cert.Reference4Ideal.Gen

abbrev refX (m : (ℓ : Loc nD τ sig) → Buf (Elt Ideal) ℓ) (c : Dev nD) : FVec Ideal S49152x2048 .f32 := m ((c.tc : Thread nD τ).loc main_arg0)
abbrev refO1 (m : (ℓ : Loc nD τ sig) → Buf (Elt Ideal) ℓ) (c : Dev nD) : FVec Ideal S49152x768 .f32 := m ((c.tc : Thread nD τ).loc main_arg1)
abbrev refO2 (m : (ℓ : Loc nD τ sig) → Buf (Elt Ideal) ℓ) (c : Dev nD) : FVec Ideal S49152x768 .f32 := m ((c.tc : Thread nD τ).loc main_arg2)
abbrev refO3 (m : (ℓ : Loc nD τ sig) → Buf (Elt Ideal) ℓ) (c : Dev nD) : FVec Ideal S49152x768 .f32 := m ((c.tc : Thread nD τ).loc main_arg3)
abbrev refL1 (m : (ℓ : Loc nD τ sig) → Buf (Elt Ideal) ℓ) (c : Dev nD) : FVec Ideal S49152x128 .f32 := m ((c.tc : Thread nD τ).loc main_arg4)
abbrev refL2 (m : (ℓ : Loc nD τ sig) → Buf (Elt Ideal) ℓ) (c : Dev nD) : FVec Ideal S49152x128 .f32 := m ((c.tc : Thread nD τ).loc main_arg5)
abbrev refL3 (m : (ℓ : Loc nD τ sig) → Buf (Elt Ideal) ℓ) (c : Dev nD) : FVec Ideal S49152x128 .f32 := m ((c.tc : Thread nD τ).loc main_arg6)
abbrev refF (m : (ℓ : Loc nD τ sig) → Buf (Elt Ideal) ℓ) (c : Dev nD) : FVec Ideal S49152x1280 .f32 := m ((c.tc : Thread nD τ).loc main_arg7)
abbrev refB (m : (ℓ : Loc nD τ sig) → Buf (Elt Ideal) ℓ) (c : Dev nD) : FVec Ideal S49152x1280 .f32 := m ((c.tc : Thread nD τ).loc main_arg8)
abbrev refG (m : (ℓ : Loc nD τ sig) → Buf (Elt Ideal) ℓ) (c : Dev nD) : FVec Ideal S49152x1280 .f32 := m ((c.tc : Thread nD τ).loc main_arg9)
abbrev refA (m : (ℓ : Loc nD τ sig) → Buf (Elt Ideal) ℓ) (c : Dev nD) : FVec Ideal S2x768 .f32 := m ((c.tc : Thread nD τ).loc main_arg10)
abbrev refR (m : (ℓ : Loc nD τ sig) → Buf (Elt Ideal) ℓ) (c : Dev nD) : FVec Ideal S2x1280 .f32 := m ((c.tc : Thread nD τ).loc main_arg11)
abbrev refW (m : (ℓ : Loc nD τ sig) → Buf (Elt Ideal) ℓ) (c : Dev nD) : FVec Ideal S2x2048x2048 .f32 := m ((c.tc : Thread nD τ).loc main_arg12)
abbrev refS (m : (ℓ : Loc nD τ sig) → Buf (Elt Ideal) ℓ) (c : Dev nD) : FVec Ideal S2x2048 .f32 := m ((c.tc : Thread nD τ).loc main_arg13)
abbrev refH (m : (ℓ : Loc nD τ sig) → Buf (Elt Ideal) ℓ) (c : Dev nD) : FVec Ideal S2x2048 .f32 := m ((c.tc : Thread nD τ).loc main_arg14)

/-- The reference's run with its result named by its steps. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v120) = Cert.MergeRef.result (refX m c) (refO1 m c) (refO2 m c) (refO3 m c) (refL1 m c) (refL2 m c) (refL3 m c) (refF m c) (refB m c) (refG m c) (refA m c) (refR m c) (refW m c) (refS m c) (refH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run _ _ _).mono (fun r h c => ⟨(h c).1.trans rfl, (h c).2⟩) (Value.run (F := Ideal) m ρ)
end

theorem result_eq (m : (ℓ : Loc Cert.Kernel4Ideal.nD Cert.Kernel4Ideal.τ Cert.Kernel4Ideal.sig) → Buf (Elt Ideal) ℓ) (c : Dev 1) :
    (Cert.MergeRef.result (argX m c) (argO1 m c) (argO2 m c) (argO3 m c) (argL1 m c) (argL2 m c) (argL3 m c) (argF m c) (argB m c) (argG m c) (argA m c) (argR m c) (argW m c) (argS m c) (argH m c) : FVec Ideal ⟨2, ![49152, 2048]⟩ .f32)
    = (Cert.Kernel4Ideal.Gen.dats m 0 c).arrAt 15 Cert.Kernel4Ideal.cfg0.N := by
  funext i
  rw [show i = ix2 (i 0 : Fin 49152) (i 1 : Fin 2048) from eq_ix2 i]
  exact (Cert.MergeRef.result_at _ _ _ _ _ _ _ _ _ _ _ _ _ _ _ (i 0) (i 1)).trans (out_at m c (i 0) (i 1)).symm

theorem value : algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Gen.dats m 0 c).arrAt 15 Cert.Kernel4Ideal.cfg0.N,
    Cert.Kernel4Ideal.Value.run_blocks (F := Ideal) m ρ, ?_⟩
  refine (θ_run _ _ _).mono (fun r h c => ?_) (ref_run m' ρ')
  obtain ⟨a0, a1, a2, a3, a4, a5, a6, a7, a8, a9, a10, a11, a12, a13, a14⟩ := hagree c
  have h0 : refX m' c = argX m c := a0
  have h1 : refO1 m' c = argO1 m c := a1
  have h2 : refO2 m' c = argO2 m c := a2
  have h3 : refO3 m' c = argO3 m c := a3
  have h4 : refL1 m' c = argL1 m c := a4
  have h5 : refL2 m' c = argL2 m c := a5
  have h6 : refL3 m' c = argL3 m c := a6
  have h7 : refF m' c = argF m c := a7
  have h8 : refB m' c = argB m c := a8
  have h9 : refG m' c = argG m c := a9
  have h10 : refA m' c = argA m c := a10
  have h11 : refR m' c = argR m c := a11
  have h12 : refW m' c = argW m c := a12
  have h13 : refS m' c = argS m c := a13
  have h14 : refH m' c = argH m c := a14
  have hc := h c
  rw [h0, h1, h2, h3, h4, h5, h6, h7, h8, h9, h10, h11, h12, h13, h14] at hc
  exact ⟨hc.1.trans (result_eq m c), hc.2⟩

end Cert.Merge

end
-- ==== Proof.LruCases.lean ====
/-
  The forward recurrence's kernel, one grid point at a time. A grid point holds 256 rows; it convolves them, and for ten
  blocks of 128 columns forms the gates and runs the recurrence by doubling. This file says what one block of columns
  computes (as vector operations) and that the body leaves exactly these tiles in its output and its carry.
-/
module

public import proofs.«01_k».proof.Proof.Gen.Kernel7Ideal.Frame
public import Idealize.ShloMosaic.Lib.Pipeline.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.Lru

open Idealize.ShloMosaic Idealize.ShloMosaic.TcCoe Idealize.SL.Sem
open Cert.Kernel7Ideal Cert.Kernel7Ideal.Gen

variable {F : FTy → Type} [FloatOps F]

/-! ## The recurrence by doubling -/

/-- The rows with at least `k` rows before them. -/
def later (k : BitVec 32) : IVec S256x128 1 :=
  cmpi .sge (iota .tc S256x128 32 [0] iota_S256x128_d0_w32) (broadcast S256x128 k)

/-- The factors of twice as many rows. -/
def stepA (k : BitVec 32) (a : FVec F S256x128 .f32) : FVec F S256x128 .f32 :=
  mulf a (select (later k) (dynamicRotate 0 k none a rotates_S256x128_d0)
    (broadcast S256x128 (Scalar.ofBits .f32 0x3F800000#32)))

/-- The terms of twice as many rows. -/
def stepU (k : BitVec 32) (a u : FVec F S256x128 .f32) : FVec F S256x128 .f32 :=
  addf (mulf a (select (later k) (dynamicRotate 0 k none u rotates_S256x128_d0)
    (broadcast S256x128 (Scalar.ofBits .f32 0x00000000#32)))) u

/-- Two doublings of the factors, from `k` rows. -/
def stepsA (k k' : BitVec 32) (a : FVec F S256x128 .f32) : FVec F S256x128 .f32 := stepA k' (stepA k a)

/-- Two doublings of the terms, from `k` rows. -/
def stepsU (k k' : BitVec 32) (a u : FVec F S256x128 .f32) : FVec F S256x128 .f32 := stepU k' (stepA k a) (stepU k a u)

/-- The products of the factors of the last 4 rows, then of the last 16, 64 and all 256. -/
def a4 (a : FVec F S256x128 .f32) : FVec F S256x128 .f32 := stepsA 1#32 2#32 a
def a16 (a : FVec F S256x128 .f32) : FVec F S256x128 .f32 := stepsA 4#32 8#32 (a4 a)
def a64 (a : FVec F S256x128 .f32) : FVec F S256x128 .f32 := stepsA 16#32 32#32 (a16 a)
def a256 (a : FVec F S256x128 .f32) : FVec F S256x128 .f32 := stepsA 64#32 128#32 (a64 a)

/-- The states that start from zero before the last 4 rows, then before the last 16, 64 and all 256. -/
def u4 (a u : FVec F S256x128 .f32) : FVec F S256x128 .f32 := stepsU 1#32 2#32 a u
def u16 (a u : FVec F S256x128 .f32) : FVec F S256x128 .f32 := stepsU 4#32 8#32 (a4 a) (u4 a u)
def u64 (a u : FVec F S256x128 .f32) : FVec F S256x128 .f32 := stepsU 16#32 32#32 (a16 a) (u16 a u)
def u256 (a u : FVec F S256x128 .f32) : FVec F S256x128 .f32 := stepsU 64#32 128#32 (a64 a) (u64 a u)

/-! ## The gates of one block of columns -/

/-- Both gates' products. -/
def gates (x : FVec F S256x128 .f32) (w : Vec F S1x1x1x128x256 .bf16) : FVec F S256x256 .f32 :=
  matmul dot_S256x128_S128x256_S256x256_1_0_0_1_n_n none (truncf .bf16 x bitsLt_bf16_f32 : FVec F S256x128 .bf16)
    (shapeCast S128x256 w shapeCasts_S1x1x1x128x256_S128x256) (constant S256x256 .f32 0x00000000#32)

/-- A gate: the logistic function of its products and bias. -/
def gate (g : FVec F S256x128 .f32) (b : Vec F S1x1x1x128 .f32) : FVec F S256x128 .f32 :=
  logistic (addf g (broadcastTo S256x128 (shapeCast S1x128 b shapeCasts_S1x1x1x128_S1x128) broadcasts_S1x128_S256x128))

/-- The factors `a`. -/
def factor (x : FVec F S256x128 .f32) (w : Vec F S1x1x1x128x256 .bf16) (ba : Vec F S1x1x1x128 .f32) (cl : FVec F S1x128 .f32) :
    FVec F S256x128 .f32 :=
  exp (mulf (broadcastTo S256x128 cl broadcasts_S1x128_S256x128)
    (gate (extractStridedSlice S256x128 ![0, 0] (gates x w) slices_S256x256_o0_0_S256x128) ba))

/-- The terms `u`. -/
def term (x : FVec F S256x128 .f32) (w : Vec F S1x1x1x128x256 .bf16) (ba bx : Vec F S1x1x1x128 .f32) (cl : FVec F S1x128 .f32) :
    FVec F S256x128 .f32 :=
  mulf (mulf (sqrt (subf (broadcast S256x128 (Scalar.ofBits .f32 0x3F800000#32))
      (mulf (factor x w ba cl) (factor x w ba cl))))
    (gate (extractStridedSlice S256x128 ![0, 128] (gates x w) slices_S256x256_o0_128_S256x128) bx)) x

/-- The block's states, from the state `h` before its first row. -/
def tile (x : FVec F S256x128 .f32) (w : Vec F S1x1x1x128x256 .bf16) (ba bx : Vec F S1x1x1x128 .f32) (cl : FVec F S1x128 .f32)
    (h : Vec F S1x128 .f32) : FVec F S256x128 .f32 :=
  addf (u256 (factor x w ba cl) (term x w ba bx cl))
    (mulf (a256 (factor x w ba cl)) (broadcastTo S256x128 h broadcasts_S1x128_S256x128))

/-- The last row of a tile. -/
def lastRow (x : FVec F S256x128 .f32) : FVec F S1x128 .f32 :=
  shapeCast S1x128 (extractStridedSlice S1x128 ![255, 0] x slices_S256x128_o255_0_S1x128) shapeCasts_S1x128_S1x128

/-! ## Cutting a point's blocks into blocks of columns -/

def cols (n : Fin 10) (x : FVec F S256x1280 .f32) : FVec F S256x128 .f32 := fun j =>
  have h1 : (j 1).val < 128 := (j 1).isLt
  x (ix2 (j 0 : Fin 256) (⟨128 * n.val + (j 1).val, by omega⟩ : Fin 1280))

def row (n : Fin 10) (x : FVec F S1x1280 .f32) : FVec F S1x128 .f32 := fun j =>
  have h1 : (j 1).val < 128 := (j 1).isLt
  x (ix2 (j 0 : Fin 1) (⟨128 * n.val + (j 1).val, by omega⟩ : Fin 1280))

def bias (n : Fin 10) (x : Vec F S1x1x1x1280 .f32) : Vec F S1x1x1x128 .f32 := fun j =>
  have h3 : (j 3).val < 128 := (j 3).isLt
  x (ix4 (j 0 : Fin 1) (j 1 : Fin 1) (j 2 : Fin 1) (⟨128 * n.val + (j 3).val, by omega⟩ : Fin 1280))

def weight (n : Fin 10) (x : Vec F S1x1x10x128x256 .bf16) : Vec F S1x1x1x128x256 .bf16 := fun j =>
  x (ix5 (j 0 : Fin 1) (j 1 : Fin 1) n (j 3 : Fin 128) (j 4 : Fin 256))

theorem slice_cols (n : Fin 10) (x : FVec F S256x1280 .f32) (h) :
    extractStridedSlice S256x128 ![0, 128 * n.val] x h = cols n x := by
  funext j
  refine congrArg x (funext fun a => Fin.ext ?_)
  match a with
  | ⟨0, _⟩ => exact Nat.zero_add _
  | ⟨1, _⟩ => rfl

theorem slice_row (n : Fin 10) (x : FVec F S1x1280 .f32) (h) :
    extractStridedSlice S1x128 ![0, 128 * n.val] x h = row n x := by
  funext j
  refine congrArg x (funext fun a => Fin.ext ?_)
  match a with
  | ⟨0, _⟩ => exact Nat.zero_add _
  | ⟨1, _⟩ => rfl

theorem load_bias (n : Fin 10) (x : Vec F S1x1x1x1280 .f32) (hin) :
    View.ld x (Rect.unit (s := S1x1x1x1280) ![0, 0, 0, 128 * n.val] S1x1x1x128.size hin) = bias n x := by
  funext j
  exact View.ld_unit_apply_of x _ _ _ j _ (fun a => match a with
    | ⟨0, _⟩ => (Nat.zero_add _).symm | ⟨1, _⟩ => (Nat.zero_add _).symm | ⟨2, _⟩ => (Nat.zero_add _).symm | ⟨3, _⟩ => rfl)

theorem load_weight (n : Fin 10) (x : Vec F S1x1x10x128x256 .bf16) (hin) :
    View.ld x (Rect.unit (s := S1x1x10x128x256) ![0, 0, n.val, 0, 0] S1x1x1x128x256.size hin) = weight n x := by
  funext j
  have h2 : (j 2).val < 1 := (j 2).isLt
  exact View.ld_unit_apply_of x _ _ _ j _ (fun a => match a with
    | ⟨0, _⟩ => (Nat.zero_add _).symm | ⟨1, _⟩ => (Nat.zero_add _).symm
    | ⟨2, _⟩ => by show n.val = n.val + (j 2).val; omega
    | ⟨3, _⟩ => (Nat.zero_add _).symm | ⟨4, _⟩ => (Nat.zero_add _).symm)

theorem load_row (n : Fin 10) (x : Vec F S1x1280 .f32) (hin) :
    View.ld x (Rect.unit (s := S1x1280) ![0, 128 * n.val] S1x128.size hin) = row n x := by
  funext j
  exact View.ld_unit_apply_of x _ _ _ j _ (fun a => match a with | ⟨0, _⟩ => (Nat.zero_add _).symm | ⟨1, _⟩ => rfl)

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- A load of one block of columns of the carry passes over a store of an earlier block. -/
theorem load_later (a : Memref sig .tc .vmem S1x1280 .f32) (o o' : ℕ) (v : Vec F S1x128 .f32)
    (L : List (View.Piece (Elt F) S1x1280 .f32)) (hin hin') (hlt : o + 128 ≤ o') :
    a.view.readCov (Val := Elt F) (⟨Rect.unit (s := S1x1280) ![0, o] ![1, 128] hin, v⟩ :: L)
      (Rect.unit (s := S1x1280) ![0, o'] ![1, 128] hin').toLoadRect
      = a.view.readCov L (Rect.unit (s := S1x1280) ![0, o'] ![1, 128] hin').toLoadRect :=
  View.readCov_cons_of_disjoint a.view _ L _ (Rect.unit_disjoint (inb := hin) (inb' := hin') 1 (.inl hlt))

/-- A load of one block of columns of a carry stored whole. -/
theorem load_first (a : Memref sig .tc .vmem S1x1280 .f32) (o : ℕ) (v : Vec F S1x1280 .f32) (hin hin') :
    a.view.readCov (Val := Elt F) [⟨Rect.unit (s := S1x1280) ![0, 0] ![1, 1280] hin, v⟩]
      (Rect.unit (s := S1x1280) ![0, o] ![1, 128] hin').toLoadRect
      = View.ld v (Rect.unit (s := S1x1280) ![0, o] ![1, 128] hin') :=
  (View.readCov_eq_canon' _ _ _).trans (congrArg (fun f => View.ld f _) (View.canon_cons_unit_zero (S := S1x1280) off2 _ _ _))

/-- The convolution of a point's rows. -/
def conv (i : grid0.Coords) (x : Vec F S256x1280 .f32) (xl xr : Vec F S8x1280 .f32) (cw : Vec F S1x4x1280 .f32)
    (cb : Vec F S1x1x1280 .f32) : FVec F S256x1280 .f32 :=
  k0_pay7 (k0_pay4 i xl xr x) (k0_pay5 cw) (k0_pay6 i xl xr x cw) cb

/-- Block `n` of a point's states. -/
def states (n : Fin 10) (xc : FVec F S256x1280 .f32) (w : Vec F S1x1x10x128x256 .bf16) (ba bx lam : Vec F S1x1x1x1280 .f32)
    (h : Vec F S1x1280 .f32) : FVec F S256x128 .f32 :=
  tile (cols n xc) (weight n w) (bias n ba) (bias n bx) (row n (k0_pay8 lam)) (row n h)

/-- The grid point's block of outputs. -/
def outBlock (xc : FVec F S256x1280 .f32) (w : Vec F S1x1x10x128x256 .bf16) (ba bx lam : Vec F S1x1x1x1280 .f32)
    (h : Vec F S1x1280 .f32) : Vec F S256x1280 .f32 := fun y =>
  have h1 : (y 1).val < 1280 := (y 1).isLt
  states ⟨(y 1).val / 128, by omega⟩ xc w ba bx lam h
    (ix2 (y 0 : Fin 256) (⟨(y 1).val % 128, Nat.mod_lt _ (by decide)⟩ : Fin 128))

/-- The state after the point's last row. -/
def carryBlock (xc : FVec F S256x1280 .f32) (w : Vec F S1x1x10x128x256 .bf16) (ba bx lam : Vec F S1x1x1x1280 .f32)
    (h : Vec F S1x1280 .f32) : Vec F S1x1280 .f32 := fun y =>
  have h1 : (y 1).val < 1280 := (y 1).isLt
  lastRow (states ⟨(y 1).val / 128, by omega⟩ xc w ba bx lam h)
    (ix2 (y 0 : Fin 1) (⟨(y 1).val % 128, Nat.mod_lt _ (by decide)⟩ : Fin 128))

theorem outBlock_at (xc : FVec F S256x1280 .f32) (w : Vec F S1x1x10x128x256 .bf16) (ba bx lam : Vec F S1x1x1x1280 .f32)
    (h : Vec F S1x1280 .f32) (n : Fin 10) (j : S256x128.Idx) (y : S256x1280.Idx) (h0 : (y 0).val = 0 + (j 0).val)
    (h1 : (y 1).val = 128 * n.val + (j 1).val) :
    outBlock xc w ba bx lam h y = states n xc w ba bx lam h j := by
  have j1 : (j 1).val < 128 := (j 1).isLt
  have en : (⟨(y 1).val / 128, by omega⟩ : Fin 10) = n := Fin.ext (by show (y 1).val / 128 = _; omega)
  have ej : ((ix2 (y 0 : Fin 256) (⟨(y 1).val % 128, Nat.mod_lt _ (by decide)⟩ : Fin 128)) : S256x128.Idx) = j := by
    funext a
    match a with
    | ⟨0, _⟩ => exact Fin.ext (h0.trans (Nat.zero_add _))
    | ⟨1, _⟩ => exact Fin.ext (by show (y 1).val % 128 = (j 1).val; omega)
  unfold outBlock
  dsimp only
  rw [en, ej]

theorem carryBlock_at (xc : FVec F S256x1280 .f32) (w : Vec F S1x1x10x128x256 .bf16) (ba bx lam : Vec F S1x1x1x1280 .f32)
    (h : Vec F S1x1280 .f32) (n : Fin 10) (j : S1x128.Idx) (y : S1x1280.Idx) (h0 : (y 0).val = 0 + (j 0).val)
    (h1 : (y 1).val = 128 * n.val + (j 1).val) :
    carryBlock xc w ba bx lam h y = lastRow (states n xc w ba bx lam h) j := by
  have j1 : (j 1).val < 128 := (j 1).isLt
  have en : (⟨(y 1).val / 128, by omega⟩ : Fin 10) = n := Fin.ext (by show (y 1).val / 128 = _; omega)
  have ej : ((ix2 (y 0 : Fin 1) (⟨(y 1).val % 128, Nat.mod_lt _ (by decide)⟩ : Fin 128)) : S1x128.Idx) = j := by
    funext a
    match a with
    | ⟨0, _⟩ => exact Fin.ext (h0.trans (Nat.zero_add _))
    | ⟨1, _⟩ => exact Fin.ext (by show (y 1).val % 128 = (j 1).val; omega)
  unfold carryBlock
  dsimp only
  rw [en, ej]

/-- One block of columns as the body forms it, from its own loads and slices, is that block of the point's states. -/
theorem block (n : Fin 10) (xc : FVec F S256x1280 .f32) (w : Vec F S1x1x10x128x256 .bf16) (ba bx lam : Vec F S1x1x1x1280 .f32)
    (h : Vec F S1x1280 .f32) (o : ℕ) (ho : o = 128 * n.val) (k : ℕ) (hk : k = n.val) (hs hw hb hl)
    (r : FVec F S1x128 .f32) (hr : r = row n h) :
    tile (extractStridedSlice S256x128 ![0, o] xc hs)
      (View.ld w (Rect.unit (s := S1x1x10x128x256) ![0, 0, k, 0, 0] S1x1x1x128x256.size hw))
      (View.ld ba (Rect.unit (s := S1x1x1x1280) ![0, 0, 0, o] S1x1x1x128.size hb))
      (View.ld bx (Rect.unit (s := S1x1x1x1280) ![0, 0, 0, o] S1x1x1x128.size hb))
      (extractStridedSlice S1x128 ![0, o] (k0_pay8 lam) hl) r = states n xc w ba bx lam h := by
  subst ho hk hr
  unfold states
  rw [slice_cols n, slice_row n, load_weight n, load_bias n, load_bias n]

/-- Reading a store made after all of `L` at an index it does not hold. -/
theorem canon_row (o : ℕ) (hin) (v : Vec F S1x128 .f32) (L : List (View.Piece (Elt F) S1x1280 .f32)) (y : S1x1280.Idx)
    (e : Elt F .f32) (h : ∀ z : S1x128.Idx, (∀ a, (y a : ℕ) = (![0, o] : Fin 2 → ℕ) a + z a) → v z = e)
    (h' : ¬(o ≤ (y 1).val ∧ (y 1).val < o + 128) → View.canon L y = e) :
    View.canon (⟨Rect.unit (s := S1x1280) ![0, o] S1x128.size hin, v⟩ :: L) y = e := by
  by_cases hm : y ∈ (Rect.unit (s := S1x1280) ![0, o] S1x128.size hin).set
  · obtain ⟨z, hz⟩ := (Rect.unit (s := S1x1280) ![0, o] S1x128.size hin).exists_idx_of_mem hm
    have hz' : (Rect.unit (s := S1x1280) ![0, o] S1x128.size hin).emb z = y := hz
    rw [← hz', View.canon_cons_emb]
    refine h z fun a => ?_
    rw [← hz', Rect.emb_apply]
    show (![0, o] : Fin 2 → ℕ) a + 1 * (z a).val = _
    omega
  · refine (View.canon_cons_of_not_mem (⟨Rect.unit (s := S1x1280) ![0, o] S1x128.size hin, v⟩ :
      View.Piece (Elt F) S1x1280 .f32) L hm).trans ?_
    refine h' fun hy => hm (Rect.mem_set_unit.mpr fun a => ?_)
    have y0 : (y 0).val < 1 := (y 0).isLt
    match a with
    | ⟨0, _⟩ =>
      show 0 ≤ (y 0).val ∧ (y 0).val < 0 + 1
      omega
    | ⟨1, _⟩ =>
      show o ≤ (y 1).val ∧ (y 1).val < o + 128
      omega

section
variable (c : Dev nD) (i : grid0.Coords)
  (a1 : Memref sig .tc .vmem S256x1280 .f32) (h1 : a1.IsWhole) (a2 : Memref sig .tc .vmem S8x1280 .f32) (h2 : a2.IsWhole)
  (a3 : Memref sig .tc .vmem S8x1280 .f32) (h3 : a3.IsWhole) (a4 : Memref sig .tc .vmem S1x4x1280 .f32) (h4 : a4.IsWhole)
  (a5 : Memref sig .tc .vmem S1x1x1280 .f32) (h5 : a5.IsWhole) (a6 : Memref sig .tc .vmem S1x1x10x128x256 .bf16) (h6 : a6.IsWhole)
  (a7 : Memref sig .tc .vmem S1x1x1x1280 .f32) (h7 : a7.IsWhole) (a8 : Memref sig .tc .vmem S1x1x1x1280 .f32) (h8 : a8.IsWhole)
  (a9 : Memref sig .tc .vmem S1x1x1x1280 .f32) (h9 : a9.IsWhole) (a10 : Memref sig .tc .vmem S256x1280 .f32) (h10 : a10.IsWhole)
  (a11 : Memref sig .tc .vmem S1x1280 .f32) (h11 : a11.IsWhole)
  (x : Vec F S256x1280 .f32) (xl xr : Vec F S8x1280 .f32) (cw : Vec F S1x4x1280 .f32) (cb : Vec F S1x1x1280 .f32)
  (w : Vec F S1x1x10x128x256 .bf16) (ba bx lam : Vec F S1x1x1x1280 .f32) (h : Vec F S1x1280 .f32)

set_option maxHeartbeats 4000000 in
theorem out_B (hc) :
    out0_B_9 c i a1 h1 a2 h2 a3 h3 a4 h4 a5 h5 a6 h6 a7 h7 a8 h8 a9 h9 a10 h10 a11 h11 hc x xl xr cw cb w ba bx lam h
      = outBlock (conv i x xl xr cw cb) w ba bx lam h := by
  funext y
  unfold out0_B_9
  rw [View.read_writes_eq_canon _ _ _ (cover0_B_9 c i a1 h1 a2 h2 a3 h3 a4 h4 a5 h5 a6 h6 a7 h7 a8 h8 a9 h9 a10 h10 a11 h11 hc x xl xr cw cb w ba bx lam h)]
  refine View.canon_eq_of_allAt _ y _ (cover0_B_9 c i a1 h1 a2 h2 a3 h3 a4 h4 a5 h5 a6 h6 a7 h7 a8 h8 a9 h9 a10 h10 a11 h11 hc x xl xr cw cb w ba bx lam h y) ?_
  unfold kernelRun0_B
  dsimp only
  sl_unfold_words
  refine View.allAt_cons_unit _ _ _ _ _ ?_ (View.allAt_cons_unit _ _ _ _ _ ?_ (View.allAt_cons_unit _ _ _ _ _ ?_ (
    View.allAt_cons_unit _ _ _ _ _ ?_ (View.allAt_cons_unit _ _ _ _ _ ?_ (View.allAt_cons_unit _ _ _ _ _ ?_ (
    View.allAt_cons_unit _ _ _ _ _ ?_ (View.allAt_cons_unit _ _ _ _ _ ?_ (View.allAt_cons_unit _ _ _ _ _ ?_ (
    View.allAt_cons_unit _ _ _ _ _ ?_ (View.allAt_nil _ _))))))))))
  all_goals intro z hz
  all_goals simp only [View.readAt_eq_ld, h1.read_unread, h2.read_unread, h3.read_unread, h4.read_unread, h5.read_unread, h6.read_unread,
    h7.read_unread, h8.read_unread, h9.read_unread, h11.read_unread, View.ld_unit_zero (S := S8x1280) off2, View.ld_unit_zero (S := S256x1280) off2,
    View.ld_unit_zero (S := S1x4x1280) off3, View.ld_unit_zero (S := S1x1x1280) off3, View.ld_unit_zero (S := S1x1x1x1280) off4]
  · rw [outBlock_at _ w ba bx lam _ 9 z y (hz 0) (hz 1), ← block 9 (conv i x xl xr cw cb) w ba bx lam h 1152 rfl 9 rfl slices_S256x1280_o0_1152_S256x128 inb_S1x1x10x128x256_S1x1x1x128x256_0_0_9_0_0
      inb_S1x1x1x1280_S1x1x1x128_0_0_0_1152 slices_S1x1280_o0_1152_S1x128 _ (load_row 9 h inb_S1x1280_S1x128_0_1152)]
    rfl
  · rw [outBlock_at _ w ba bx lam _ 8 z y (hz 0) (hz 1), ← block 8 (conv i x xl xr cw cb) w ba bx lam h 1024 rfl 8 rfl slices_S256x1280_o0_1024_S256x128 inb_S1x1x10x128x256_S1x1x1x128x256_0_0_8_0_0
      inb_S1x1x1x1280_S1x1x1x128_0_0_0_1024 slices_S1x1280_o0_1024_S1x128 _ (load_row 8 h inb_S1x1280_S1x128_0_1024)]
    rfl
  · rw [outBlock_at _ w ba bx lam _ 7 z y (hz 0) (hz 1), ← block 7 (conv i x xl xr cw cb) w ba bx lam h 896 rfl 7 rfl slices_S256x1280_o0_896_S256x128 inb_S1x1x10x128x256_S1x1x1x128x256_0_0_7_0_0
      inb_S1x1x1x1280_S1x1x1x128_0_0_0_896 slices_S1x1280_o0_896_S1x128 _ (load_row 7 h inb_S1x1280_S1x128_0_896)]
    rfl
  · rw [outBlock_at _ w ba bx lam _ 6 z y (hz 0) (hz 1), ← block 6 (conv i x xl xr cw cb) w ba bx lam h 768 rfl 6 rfl slices_S256x1280_o0_768_S256x128 inb_S1x1x10x128x256_S1x1x1x128x256_0_0_6_0_0
      inb_S1x1x1x1280_S1x1x1x128_0_0_0_768 slices_S1x1280_o0_768_S1x128 _ (load_row 6 h inb_S1x1280_S1x128_0_768)]
    rfl
  · rw [outBlock_at _ w ba bx lam _ 5 z y (hz 0) (hz 1), ← block 5 (conv i x xl xr cw cb) w ba bx lam h 640 rfl 5 rfl slices_S256x1280_o0_640_S256x128 inb_S1x1x10x128x256_S1x1x1x128x256_0_0_5_0_0
      inb_S1x1x1x1280_S1x1x1x128_0_0_0_640 slices_S1x1280_o0_640_S1x128 _ (load_row 5 h inb_S1x1280_S1x128_0_640)]
    rfl
  · rw [outBlock_at _ w ba bx lam _ 4 z y (hz 0) (hz 1), ← block 4 (conv i x xl xr cw cb) w ba bx lam h 512 rfl 4 rfl slices_S256x1280_o0_512_S256x128 inb_S1x1x10x128x256_S1x1x1x128x256_0_0_4_0_0
      inb_S1x1x1x1280_S1x1x1x128_0_0_0_512 slices_S1x1280_o0_512_S1x128 _ (load_row 4 h inb_S1x1280_S1x128_0_512)]
    rfl
  · rw [outBlock_at _ w ba bx lam _ 3 z y (hz 0) (hz 1), ← block 3 (conv i x xl xr cw cb) w ba bx lam h 384 rfl 3 rfl slices_S256x1280_o0_384_S256x128 inb_S1x1x10x128x256_S1x1x1x128x256_0_0_3_0_0
      inb_S1x1x1x1280_S1x1x1x128_0_0_0_384 slices_S1x1280_o0_384_S1x128 _ (load_row 3 h inb_S1x1280_S1x128_0_384)]
    rfl
  · rw [outBlock_at _ w ba bx lam _ 2 z y (hz 0) (hz 1), ← block 2 (conv i x xl xr cw cb) w ba bx lam h 256 rfl 2 rfl slices_S256x1280_o0_256_S256x128 inb_S1x1x10x128x256_S1x1x1x128x256_0_0_2_0_0
      inb_S1x1x1x1280_S1x1x1x128_0_0_0_256 slices_S1x1280_o0_256_S1x128 _ (load_row 2 h inb_S1x1280_S1x128_0_256)]
    rfl
  · rw [outBlock_at _ w ba bx lam _ 1 z y (hz 0) (hz 1), ← block 1 (conv i x xl xr cw cb) w ba bx lam h 128 rfl 1 rfl slices_S256x1280_o0_128_S256x128 inb_S1x1x10x128x256_S1x1x1x128x256_0_0_1_0_0
      inb_S1x1x1x1280_S1x1x1x128_0_0_0_128 slices_S1x1280_o0_128_S1x128 _ (load_row 1 h inb_S1x1280_S1x128_0_128)]
    rfl
  · rw [outBlock_at _ w ba bx lam _ 0 z y (hz 0) (hz 1), ← block 0 (conv i x xl xr cw cb) w ba bx lam h 0 rfl 0 rfl slices_S256x1280_o0_0_S256x128 inb_S1x1x10x128x256_S1x1x1x128x256_0_0_0_0_0
      inb_S1x1x1x1280_S1x1x1x128_0_0_0_0 slices_S1x1280_o0_0_S1x128 _ (load_row 0 h inb_S1x1280_S1x128_0_0)]
    rfl

set_option maxHeartbeats 4000000 in
theorem carry_B (hc) :
    sout0_B_0 c i a1 h1 a2 h2 a3 h3 a4 h4 a5 h5 a6 h6 a7 h7 a8 h8 a9 h9 a10 h10 a11 h11 hc x xl xr cw cb w ba bx lam h
      = carryBlock (conv i x xl xr cw cb) w ba bx lam h := by
  funext y
  unfold sout0_B_0
  rw [View.read_writes_eq_canon _ _ _ (scover0_B_0 c i a1 h1 a2 h2 a3 h3 a4 h4 a5 h5 a6 h6 a7 h7 a8 h8 a9 h9 a10 h10 a11 h11 hc x xl xr cw cb w ba bx lam h)]
  refine View.canon_eq_of_allAt _ y _ (scover0_B_0 c i a1 h1 a2 h2 a3 h3 a4 h4 a5 h5 a6 h6 a7 h7 a8 h8 a9 h9 a10 h10 a11 h11 hc x xl xr cw cb w ba bx lam h y) ?_
  unfold kernelRun0_B
  dsimp only
  sl_unfold_words
  refine View.allAt_cons_unit _ _ _ _ _ ?_ (View.allAt_cons_unit _ _ _ _ _ ?_ (View.allAt_cons_unit _ _ _ _ _ ?_ (
    View.allAt_cons_unit _ _ _ _ _ ?_ (View.allAt_cons_unit _ _ _ _ _ ?_ (View.allAt_cons_unit _ _ _ _ _ ?_ (
    View.allAt_cons_unit _ _ _ _ _ ?_ (View.allAt_cons_unit _ _ _ _ _ ?_ (View.allAt_cons_unit _ _ _ _ _ ?_ (
    View.allAt_cons_unit _ _ _ _ _ ?_ (View.allAt_nil _ _))))))))))
  all_goals intro z hz
  all_goals simp only [View.readAt_eq_ld, h1.read_unread, h2.read_unread, h3.read_unread, h4.read_unread, h5.read_unread, h6.read_unread,
    h7.read_unread, h8.read_unread, h9.read_unread, h11.read_unread, View.ld_unit_zero (S := S8x1280) off2, View.ld_unit_zero (S := S256x1280) off2,
    View.ld_unit_zero (S := S1x4x1280) off3, View.ld_unit_zero (S := S1x1x1280) off3, View.ld_unit_zero (S := S1x1x1x1280) off4]
  · rw [carryBlock_at _ w ba bx lam _ 9 z y (hz 0) (hz 1), ← block 9 (conv i x xl xr cw cb) w ba bx lam h 1152 rfl 9 rfl slices_S256x1280_o0_1152_S256x128 inb_S1x1x10x128x256_S1x1x1x128x256_0_0_9_0_0
      inb_S1x1x1x1280_S1x1x1x128_0_0_0_1152 slices_S1x1280_o0_1152_S1x128 _ (load_row 9 h inb_S1x1280_S1x128_0_1152)]
    rfl
  · rw [carryBlock_at _ w ba bx lam _ 8 z y (hz 0) (hz 1), ← block 8 (conv i x xl xr cw cb) w ba bx lam h 1024 rfl 8 rfl slices_S256x1280_o0_1024_S256x128 inb_S1x1x10x128x256_S1x1x1x128x256_0_0_8_0_0
      inb_S1x1x1x1280_S1x1x1x128_0_0_0_1024 slices_S1x1280_o0_1024_S1x128 _ (load_row 8 h inb_S1x1280_S1x128_0_1024)]
    rfl
  · rw [carryBlock_at _ w ba bx lam _ 7 z y (hz 0) (hz 1), ← block 7 (conv i x xl xr cw cb) w ba bx lam h 896 rfl 7 rfl slices_S256x1280_o0_896_S256x128 inb_S1x1x10x128x256_S1x1x1x128x256_0_0_7_0_0
      inb_S1x1x1x1280_S1x1x1x128_0_0_0_896 slices_S1x1280_o0_896_S1x128 _ (load_row 7 h inb_S1x1280_S1x128_0_896)]
    rfl
  · rw [carryBlock_at _ w ba bx lam _ 6 z y (hz 0) (hz 1), ← block 6 (conv i x xl xr cw cb) w ba bx lam h 768 rfl 6 rfl slices_S256x1280_o0_768_S256x128 inb_S1x1x10x128x256_S1x1x1x128x256_0_0_6_0_0
      inb_S1x1x1x1280_S1x1x1x128_0_0_0_768 slices_S1x1280_o0_768_S1x128 _ (load_row 6 h inb_S1x1280_S1x128_0_768)]
    rfl
  · rw [carryBlock_at _ w ba bx lam _ 5 z y (hz 0) (hz 1), ← block 5 (conv i x xl xr cw cb) w ba bx lam h 640 rfl 5 rfl slices_S256x1280_o0_640_S256x128 inb_S1x1x10x128x256_S1x1x1x128x256_0_0_5_0_0
      inb_S1x1x1x1280_S1x1x1x128_0_0_0_640 slices_S1x1280_o0_640_S1x128 _ (load_row 5 h inb_S1x1280_S1x128_0_640)]
    rfl
  · rw [carryBlock_at _ w ba bx lam _ 4 z y (hz 0) (hz 1), ← block 4 (conv i x xl xr cw cb) w ba bx lam h 512 rfl 4 rfl slices_S256x1280_o0_512_S256x128 inb_S1x1x10x128x256_S1x1x1x128x256_0_0_4_0_0
      inb_S1x1x1x1280_S1x1x1x128_0_0_0_512 slices_S1x1280_o0_512_S1x128 _ (load_row 4 h inb_S1x1280_S1x128_0_512)]
    rfl
  · rw [carryBlock_at _ w ba bx lam _ 3 z y (hz 0) (hz 1), ← block 3 (conv i x xl xr cw cb) w ba bx lam h 384 rfl 3 rfl slices_S256x1280_o0_384_S256x128 inb_S1x1x10x128x256_S1x1x1x128x256_0_0_3_0_0
      inb_S1x1x1x1280_S1x1x1x128_0_0_0_384 slices_S1x1280_o0_384_S1x128 _ (load_row 3 h inb_S1x1280_S1x128_0_384)]
    rfl
  · rw [carryBlock_at _ w ba bx lam _ 2 z y (hz 0) (hz 1), ← block 2 (conv i x xl xr cw cb) w ba bx lam h 256 rfl 2 rfl slices_S256x1280_o0_256_S256x128 inb_S1x1x10x128x256_S1x1x1x128x256_0_0_2_0_0
      inb_S1x1x1x1280_S1x1x1x128_0_0_0_256 slices_S1x1280_o0_256_S1x128 _ (load_row 2 h inb_S1x1280_S1x128_0_256)]
    rfl
  · rw [carryBlock_at _ w ba bx lam _ 1 z y (hz 0) (hz 1), ← block 1 (conv i x xl xr cw cb) w ba bx lam h 128 rfl 1 rfl slices_S256x1280_o0_128_S256x128 inb_S1x1x10x128x256_S1x1x1x128x256_0_0_1_0_0
      inb_S1x1x1x1280_S1x1x1x128_0_0_0_128 slices_S1x1280_o0_128_S1x128 _ (load_row 1 h inb_S1x1280_S1x128_0_128)]
    rfl
  · rw [carryBlock_at _ w ba bx lam _ 0 z y (hz 0) (hz 1), ← block 0 (conv i x xl xr cw cb) w ba bx lam h 0 rfl 0 rfl slices_S256x1280_o0_0_S256x128 inb_S1x1x10x128x256_S1x1x1x128x256_0_0_0_0_0
      inb_S1x1x1x1280_S1x1x1x128_0_0_0_0 slices_S1x1280_o0_0_S1x128 _ (load_row 0 h inb_S1x1280_S1x128_0_0)]
    rfl

set_option maxHeartbeats 4000000 in
theorem out_A (hc) :
    out0_A_9 c i a1 h1 a2 h2 a3 h3 a4 h4 a5 h5 a6 h6 a7 h7 a8 h8 a9 h9 a10 h10 a11 h11 hc x xl xr cw cb w ba bx lam
      = outBlock (conv i x xl xr cw cb) w ba bx lam k0_pay3 := by
  funext y
  unfold out0_A_9
  rw [View.read_writes_eq_canon _ _ _ (cover0_A_9 c i a1 h1 a2 h2 a3 h3 a4 h4 a5 h5 a6 h6 a7 h7 a8 h8 a9 h9 a10 h10 a11 h11 hc x xl xr cw cb w ba bx lam)]
  refine View.canon_eq_of_allAt _ y _ (cover0_A_9 c i a1 h1 a2 h2 a3 h3 a4 h4 a5 h5 a6 h6 a7 h7 a8 h8 a9 h9 a10 h10 a11 h11 hc x xl xr cw cb w ba bx lam y) ?_
  unfold kernelRun0_A
  dsimp only
  sl_unfold_words
  refine View.allAt_cons_unit _ _ _ _ _ ?_ (View.allAt_cons_unit _ _ _ _ _ ?_ (View.allAt_cons_unit _ _ _ _ _ ?_ (
    View.allAt_cons_unit _ _ _ _ _ ?_ (View.allAt_cons_unit _ _ _ _ _ ?_ (View.allAt_cons_unit _ _ _ _ _ ?_ (
    View.allAt_cons_unit _ _ _ _ _ ?_ (View.allAt_cons_unit _ _ _ _ _ ?_ (View.allAt_cons_unit _ _ _ _ _ ?_ (
    View.allAt_cons_unit _ _ _ _ _ ?_ (View.allAt_nil _ _))))))))))
  all_goals intro z hz
  all_goals simp (disch := decide) only [↓load_later, load_first]
  all_goals simp only [View.readAt_eq_ld, h1.read_unread, h2.read_unread, h3.read_unread, h4.read_unread, h5.read_unread, h6.read_unread,
    h7.read_unread, h8.read_unread, h9.read_unread, h11.read_unread, View.ld_unit_zero (S := S8x1280) off2, View.ld_unit_zero (S := S256x1280) off2,
    View.ld_unit_zero (S := S1x4x1280) off3, View.ld_unit_zero (S := S1x1x1280) off3, View.ld_unit_zero (S := S1x1x1x1280) off4]
  · rw [outBlock_at _ w ba bx lam _ 9 z y (hz 0) (hz 1), ← block 9 (conv i x xl xr cw cb) w ba bx lam (k0_pay3 (F := F)) 1152 rfl 9 rfl slices_S256x1280_o0_1152_S256x128 inb_S1x1x10x128x256_S1x1x1x128x256_0_0_9_0_0
      inb_S1x1x1x1280_S1x1x1x128_0_0_0_1152 slices_S1x1280_o0_1152_S1x128 _ (load_row 9 (k0_pay3 (F := F)) inb_S1x1280_S1x128_0_1152)]
    rfl
  · rw [outBlock_at _ w ba bx lam _ 8 z y (hz 0) (hz 1), ← block 8 (conv i x xl xr cw cb) w ba bx lam (k0_pay3 (F := F)) 1024 rfl 8 rfl slices_S256x1280_o0_1024_S256x128 inb_S1x1x10x128x256_S1x1x1x128x256_0_0_8_0_0
      inb_S1x1x1x1280_S1x1x1x128_0_0_0_1024 slices_S1x1280_o0_1024_S1x128 _ (load_row 8 (k0_pay3 (F := F)) inb_S1x1280_S1x128_0_1024)]
    rfl
  · rw [outBlock_at _ w ba bx lam _ 7 z y (hz 0) (hz 1), ← block 7 (conv i x xl xr cw cb) w ba bx lam (k0_pay3 (F := F)) 896 rfl 7 rfl slices_S256x1280_o0_896_S256x128 inb_S1x1x10x128x256_S1x1x1x128x256_0_0_7_0_0
      inb_S1x1x1x1280_S1x1x1x128_0_0_0_896 slices_S1x1280_o0_896_S1x128 _ (load_row 7 (k0_pay3 (F := F)) inb_S1x1280_S1x128_0_896)]
    rfl
  · rw [outBlock_at _ w ba bx lam _ 6 z y (hz 0) (hz 1), ← block 6 (conv i x xl xr cw cb) w ba bx lam (k0_pay3 (F := F)) 768 rfl 6 rfl slices_S256x1280_o0_768_S256x128 inb_S1x1x10x128x256_S1x1x1x128x256_0_0_6_0_0
      inb_S1x1x1x1280_S1x1x1x128_0_0_0_768 slices_S1x1280_o0_768_S1x128 _ (load_row 6 (k0_pay3 (F := F)) inb_S1x1280_S1x128_0_768)]
    rfl
  · rw [outBlock_at _ w ba bx lam _ 5 z y (hz 0) (hz 1), ← block 5 (conv i x xl xr cw cb) w ba bx lam (k0_pay3 (F := F)) 640 rfl 5 rfl slices_S256x1280_o0_640_S256x128 inb_S1x1x10x128x256_S1x1x1x128x256_0_0_5_0_0
      inb_S1x1x1x1280_S1x1x1x128_0_0_0_640 slices_S1x1280_o0_640_S1x128 _ (load_row 5 (k0_pay3 (F := F)) inb_S1x1280_S1x128_0_640)]
    rfl
  · rw [outBlock_at _ w ba bx lam _ 4 z y (hz 0) (hz 1), ← block 4 (conv i x xl xr cw cb) w ba bx lam (k0_pay3 (F := F)) 512 rfl 4 rfl slices_S256x1280_o0_512_S256x128 inb_S1x1x10x128x256_S1x1x1x128x256_0_0_4_0_0
      inb_S1x1x1x1280_S1x1x1x128_0_0_0_512 slices_S1x1280_o0_512_S1x128 _ (load_row 4 (k0_pay3 (F := F)) inb_S1x1280_S1x128_0_512)]
    rfl
  · rw [outBlock_at _ w ba bx lam _ 3 z y (hz 0) (hz 1), ← block 3 (conv i x xl xr cw cb) w ba bx lam (k0_pay3 (F := F)) 384 rfl 3 rfl slices_S256x1280_o0_384_S256x128 inb_S1x1x10x128x256_S1x1x1x128x256_0_0_3_0_0
      inb_S1x1x1x1280_S1x1x1x128_0_0_0_384 slices_S1x1280_o0_384_S1x128 _ (load_row 3 (k0_pay3 (F := F)) inb_S1x1280_S1x128_0_384)]
    rfl
  · rw [outBlock_at _ w ba bx lam _ 2 z y (hz 0) (hz 1), ← block 2 (conv i x xl xr cw cb) w ba bx lam (k0_pay3 (F := F)) 256 rfl 2 rfl slices_S256x1280_o0_256_S256x128 inb_S1x1x10x128x256_S1x1x1x128x256_0_0_2_0_0
      inb_S1x1x1x1280_S1x1x1x128_0_0_0_256 slices_S1x1280_o0_256_S1x128 _ (load_row 2 (k0_pay3 (F := F)) inb_S1x1280_S1x128_0_256)]
    rfl
  · rw [outBlock_at _ w ba bx lam _ 1 z y (hz 0) (hz 1), ← block 1 (conv i x xl xr cw cb) w ba bx lam (k0_pay3 (F := F)) 128 rfl 1 rfl slices_S256x1280_o0_128_S256x128 inb_S1x1x10x128x256_S1x1x1x128x256_0_0_1_0_0
      inb_S1x1x1x1280_S1x1x1x128_0_0_0_128 slices_S1x1280_o0_128_S1x128 _ (load_row 1 (k0_pay3 (F := F)) inb_S1x1280_S1x128_0_128)]
    rfl
  · rw [outBlock_at _ w ba bx lam _ 0 z y (hz 0) (hz 1), ← block 0 (conv i x xl xr cw cb) w ba bx lam (k0_pay3 (F := F)) 0 rfl 0 rfl slices_S256x1280_o0_0_S256x128 inb_S1x1x10x128x256_S1x1x1x128x256_0_0_0_0_0
      inb_S1x1x1x1280_S1x1x1x128_0_0_0_0 slices_S1x1280_o0_0_S1x128 _ (load_row 0 (k0_pay3 (F := F)) inb_S1x1280_S1x128_0_0)]
    rfl

set_option maxHeartbeats 4000000 in
theorem carry_A (hc) :
    sout0_A_0 c i a1 h1 a2 h2 a3 h3 a4 h4 a5 h5 a6 h6 a7 h7 a8 h8 a9 h9 a10 h10 a11 h11 hc x xl xr cw cb w ba bx lam
      = carryBlock (conv i x xl xr cw cb) w ba bx lam k0_pay3 := by
  funext y
  unfold sout0_A_0
  rw [View.read_writes_eq_canon _ _ _ (scover0_A_0 c i a1 h1 a2 h2 a3 h3 a4 h4 a5 h5 a6 h6 a7 h7 a8 h8 a9 h9 a10 h10 a11 h11 hc x xl xr cw cb w ba bx lam)]
  unfold kernelRun0_A
  dsimp only
  sl_unfold_words
  refine canon_row _ _ _ _ y _ ?_ fun n9 => canon_row _ _ _ _ y _ ?_ fun n8 => canon_row _ _ _ _ y _ ?_ fun n7 =>
    canon_row _ _ _ _ y _ ?_ fun n6 => canon_row _ _ _ _ y _ ?_ fun n5 => canon_row _ _ _ _ y _ ?_ fun n4 =>
    canon_row _ _ _ _ y _ ?_ fun n3 => canon_row _ _ _ _ y _ ?_ fun n2 => canon_row _ _ _ _ y _ ?_ fun n1 =>
    canon_row _ _ _ _ y _ ?_ fun n0 => absurd (y 1).isLt ?_
  rotate_right
  · show ¬ (y 1).val < 1280
    omega
  all_goals intro z hz
  all_goals simp (disch := decide) only [↓load_later, load_first]
  all_goals simp only [View.readAt_eq_ld, h1.read_unread, h2.read_unread, h3.read_unread, h4.read_unread, h5.read_unread, h6.read_unread,
    h7.read_unread, h8.read_unread, h9.read_unread, h11.read_unread, View.ld_unit_zero (S := S8x1280) off2, View.ld_unit_zero (S := S256x1280) off2,
    View.ld_unit_zero (S := S1x4x1280) off3, View.ld_unit_zero (S := S1x1x1280) off3, View.ld_unit_zero (S := S1x1x1x1280) off4]
  · rw [carryBlock_at _ w ba bx lam _ 9 z y (hz 0) (hz 1), ← block 9 (conv i x xl xr cw cb) w ba bx lam (k0_pay3 (F := F)) 1152 rfl 9 rfl slices_S256x1280_o0_1152_S256x128 inb_S1x1x10x128x256_S1x1x1x128x256_0_0_9_0_0
      inb_S1x1x1x1280_S1x1x1x128_0_0_0_1152 slices_S1x1280_o0_1152_S1x128 _ (load_row 9 (k0_pay3 (F := F)) inb_S1x1280_S1x128_0_1152)]
    rfl
  · rw [carryBlock_at _ w ba bx lam _ 8 z y (hz 0) (hz 1), ← block 8 (conv i x xl xr cw cb) w ba bx lam (k0_pay3 (F := F)) 1024 rfl 8 rfl slices_S256x1280_o0_1024_S256x128 inb_S1x1x10x128x256_S1x1x1x128x256_0_0_8_0_0
      inb_S1x1x1x1280_S1x1x1x128_0_0_0_1024 slices_S1x1280_o0_1024_S1x128 _ (load_row 8 (k0_pay3 (F := F)) inb_S1x1280_S1x128_0_1024)]
    rfl
  · rw [carryBlock_at _ w ba bx lam _ 7 z y (hz 0) (hz 1), ← block 7 (conv i x xl xr cw cb) w ba bx lam (k0_pay3 (F := F)) 896 rfl 7 rfl slices_S256x1280_o0_896_S256x128 inb_S1x1x10x128x256_S1x1x1x128x256_0_0_7_0_0
      inb_S1x1x1x1280_S1x1x1x128_0_0_0_896 slices_S1x1280_o0_896_S1x128 _ (load_row 7 (k0_pay3 (F := F)) inb_S1x1280_S1x128_0_896)]
    rfl
  · rw [carryBlock_at _ w ba bx lam _ 6 z y (hz 0) (hz 1), ← block 6 (conv i x xl xr cw cb) w ba bx lam (k0_pay3 (F := F)) 768 rfl 6 rfl slices_S256x1280_o0_768_S256x128 inb_S1x1x10x128x256_S1x1x1x128x256_0_0_6_0_0
      inb_S1x1x1x1280_S1x1x1x128_0_0_0_768 slices_S1x1280_o0_768_S1x128 _ (load_row 6 (k0_pay3 (F := F)) inb_S1x1280_S1x128_0_768)]
    rfl
  · rw [carryBlock_at _ w ba bx lam _ 5 z y (hz 0) (hz 1), ← block 5 (conv i x xl xr cw cb) w ba bx lam (k0_pay3 (F := F)) 640 rfl 5 rfl slices_S256x1280_o0_640_S256x128 inb_S1x1x10x128x256_S1x1x1x128x256_0_0_5_0_0
      inb_S1x1x1x1280_S1x1x1x128_0_0_0_640 slices_S1x1280_o0_640_S1x128 _ (load_row 5 (k0_pay3 (F := F)) inb_S1x1280_S1x128_0_640)]
    rfl
  · rw [carryBlock_at _ w ba bx lam _ 4 z y (hz 0) (hz 1), ← block 4 (conv i x xl xr cw cb) w ba bx lam (k0_pay3 (F := F)) 512 rfl 4 rfl slices_S256x1280_o0_512_S256x128 inb_S1x1x10x128x256_S1x1x1x128x256_0_0_4_0_0
      inb_S1x1x1x1280_S1x1x1x128_0_0_0_512 slices_S1x1280_o0_512_S1x128 _ (load_row 4 (k0_pay3 (F := F)) inb_S1x1280_S1x128_0_512)]
    rfl
  · rw [carryBlock_at _ w ba bx lam _ 3 z y (hz 0) (hz 1), ← block 3 (conv i x xl xr cw cb) w ba bx lam (k0_pay3 (F := F)) 384 rfl 3 rfl slices_S256x1280_o0_384_S256x128 inb_S1x1x10x128x256_S1x1x1x128x256_0_0_3_0_0
      inb_S1x1x1x1280_S1x1x1x128_0_0_0_384 slices_S1x1280_o0_384_S1x128 _ (load_row 3 (k0_pay3 (F := F)) inb_S1x1280_S1x128_0_384)]
    rfl
  · rw [carryBlock_at _ w ba bx lam _ 2 z y (hz 0) (hz 1), ← block 2 (conv i x xl xr cw cb) w ba bx lam (k0_pay3 (F := F)) 256 rfl 2 rfl slices_S256x1280_o0_256_S256x128 inb_S1x1x10x128x256_S1x1x1x128x256_0_0_2_0_0
      inb_S1x1x1x1280_S1x1x1x128_0_0_0_256 slices_S1x1280_o0_256_S1x128 _ (load_row 2 (k0_pay3 (F := F)) inb_S1x1280_S1x128_0_256)]
    rfl
  · rw [carryBlock_at _ w ba bx lam _ 1 z y (hz 0) (hz 1), ← block 1 (conv i x xl xr cw cb) w ba bx lam (k0_pay3 (F := F)) 128 rfl 1 rfl slices_S256x1280_o0_128_S256x128 inb_S1x1x10x128x256_S1x1x1x128x256_0_0_1_0_0
      inb_S1x1x1x1280_S1x1x1x128_0_0_0_128 slices_S1x1280_o0_128_S1x128 _ (load_row 1 (k0_pay3 (F := F)) inb_S1x1280_S1x128_0_128)]
    rfl
  · rw [carryBlock_at _ w ba bx lam _ 0 z y (hz 0) (hz 1), ← block 0 (conv i x xl xr cw cb) w ba bx lam (k0_pay3 (F := F)) 0 rfl 0 rfl slices_S256x1280_o0_0_S256x128 inb_S1x1x10x128x256_S1x1x1x128x256_0_0_0_0_0
      inb_S1x1x1x1280_S1x1x1x128_0_0_0_0 slices_S1x1280_o0_0_S1x128 _ (load_row 0 (k0_pay3 (F := F)) inb_S1x1280_S1x128_0_0)]
    rfl

end

end Cert.Lru
-- ==== Proof.LruScan.lean ====
/-
  The linear recurrence h_j = a_j h_{j−1} + u_j and its evaluation by doubling, over the extended reals.
-/
module

public import Mathlib.Data.EReal.Operations
public import Mathlib.Data.EReal.Inv

@[expose] public section

noncomputable section

namespace Cert.Lru

variable (A U : ℕ → EReal)

/-- The product of the factors of the `w` rows that end at row `j`. -/
def prods : ℕ → ℕ → EReal
  | 0, _ => 1
  | _ + 1, 0 => A 0
  | w + 1, j + 1 => A (j + 1) * prods w j

/-- The state at row `j` that starts from zero before the `w` rows that end at `j`. -/
def sums : ℕ → ℕ → EReal
  | 0, _ => 0
  | _ + 1, 0 => U 0
  | w + 1, j + 1 => A (j + 1) * sums w j + U (j + 1)

/-- The state at row `j` from the state `c` before row 0. -/
def state (c : EReal) : ℕ → EReal
  | 0 => A 0 * c + U 0
  | j + 1 => A (j + 1) * state c j + U (j + 1)

theorem prods_add (w v j : ℕ) : prods A (w + v) j = prods A w j * (if w ≤ j then prods A v (j - w) else 1) := by
  induction w generalizing j with
  | zero => simp [prods]
  | succ w ih =>
    rw [Nat.add_right_comm]
    cases j with
    | zero => simp [prods]
    | succ j => simp only [prods, ih, Nat.add_le_add_iff_right, Nat.add_sub_add_right, mul_assoc]

variable {A}

theorem sums_add (h0 : ∀ j, 0 ≤ A j) (h1 : ∀ j, A j ≠ ⊤) (w v j : ℕ) :
    sums A U (w + v) j = prods A w j * (if w ≤ j then sums A U v (j - w) else 0) + sums A U w j := by
  induction w generalizing j with
  | zero => simp [prods, sums]
  | succ w ih =>
    rw [Nat.add_right_comm]
    cases j with
    | zero => simp [prods, sums]
    | succ j =>
      simp only [prods, sums, ih, Nat.add_le_add_iff_right, Nat.add_sub_add_right,
        EReal.left_distrib_of_nonneg_of_ne_top (h0 _) (h1 _), mul_assoc, add_assoc]

theorem state_eq (h0 : ∀ j, 0 ≤ A j) (h1 : ∀ j, A j ≠ ⊤) (c : EReal) (w j : ℕ) (hj : j < w) :
    sums A U w j + prods A w j * c = state A U c j := by
  induction w generalizing j with
  | zero => omega
  | succ w ih =>
    cases j with
    | zero => simp only [sums, prods, state, add_comm]
    | succ j =>
      rw [state, ← ih j (by omega), EReal.left_distrib_of_nonneg_of_ne_top (h0 _) (h1 _), sums, prods, mul_assoc]
      exact add_right_comm _ _ _

/-! ## A recurrence cut into sequences and evaluated a block of rows at a time -/

variable (A)

/-- The factors with each sequence's first one zero. -/
def cut (first : ℕ → Prop) [DecidablePred first] (j : ℕ) : EReal := if first j then 0 else A j

/-- A block of 256 rows started from the state before it, or from zero at a sequence's first row, has the states of the
    whole recurrence. -/
theorem block_state (first : ℕ → Prop) [DecidablePred first] (K : ℕ → ℕ → EReal) (carry : ℕ → EReal) (N : ℕ)
    (inner : ∀ t j, j % 256 ≠ 0 → ¬first (256 * t + j))
    (hK : ∀ t < N, ∀ j < 256, K t j = state (fun i => A (256 * t + i)) (fun i => U (256 * t + i)) (carry t) j)
    (h0 : first 0) (hf : ∀ t < N, first (256 * t) → carry t = 0)
    (hn : ∀ t, t + 1 < N → ¬first (256 * (t + 1)) → carry (t + 1) = K t 255) (t : ℕ) (ht : t < N) (j : ℕ) (hj : j < 256) :
    K t j = state (cut A first) U 0 (256 * t + j) := by
  induction t generalizing j with
  | zero =>
    induction j with
    | zero => rw [hK 0 ht 0 hj, hf 0 ht h0]; simp [state, cut, h0]
    | succ j ih =>
      rw [hK 0 ht _ hj]
      have e := (hK 0 ht j (by omega)).symm.trans (ih (by omega))
      simp only [Nat.mul_zero, Nat.zero_add] at e ⊢
      rw [state, e, state, cut, if_neg]
      have := inner 0 (j + 1) (by omega)
      simpa using this
  | succ t iht =>
    induction j with
    | zero =>
      have p := iht (by omega) 255 (by omega)
      rw [hK _ ht 0 hj]
      show A (256 * (t + 1)) * carry (t + 1) + U (256 * (t + 1)) = state (cut A first) U 0 (256 * t + 255 + 1)
      rw [state, ← p, cut]
      show _ = (if first (256 * (t + 1)) then 0 else A (256 * (t + 1))) * K t 255 + U (256 * (t + 1))
      by_cases h : first (256 * (t + 1))
      · rw [hf _ ht h, if_pos h, mul_zero, zero_mul]
      · rw [hn _ ht h, if_neg h]
    | succ j ih =>
      rw [hK _ ht _ hj]
      have e := (hK _ ht j (by omega)).symm.trans (ih (by omega))
      show A (256 * (t + 1) + (j + 1)) * state _ _ _ j + U (256 * (t + 1) + (j + 1)) =
        state (cut A first) U 0 (256 * (t + 1) + j + 1)
      rw [e, state, cut, if_neg]
      · rfl
      · exact inner (t + 1) (j + 1) (by omega)

end Cert.Lru
-- ==== Proof.LruPoint.lean ====
/-
  The forward recurrence's kernel read at one entry, over the extended reals: the gates' factors and terms, one
  doubling, and the tile of states as the linear recurrence of its rows.
-/
module

public import proofs.«01_k».proof.Proof.LruCases
public import proofs.«01_k».proof.Proof.LruScan

@[expose] public section

set_option maxRecDepth 16384

noncomputable section

namespace Cert.Lru

open Idealize.ShloMosaic Idealize.ShloMosaic.TcCoe Idealize.SL.Sem
open Cert.Kernel7Ideal Cert.Kernel7Ideal.Gen

/-! ## The gates' arithmetic -/

/-- The logarithm of a factor at a full gate: minus eight times the softplus of `-l`. -/
def rate (l : EReal) : EReal :=
  Ideal.ofBits .f32 0xC1000000#32 * (max (0 - l) 0 + Ideal.log1p (Ideal.exp (0 - max (0 - l) (-(0 - l)))))

theorem minus_eight : Ideal.ofBits .f32 0xC1000000#32 = ((-8 : ℝ) : EReal) := by
  simp [Ideal.ofBits, Ideal.ieee]
  rw [← EReal.coe_mul]
  norm_num

theorem exp_nonneg (x : EReal) : 0 ≤ Ideal.exp x := by
  induction x with
  | bot => simp
  | top => simp
  | coe r => rw [Ideal.exp_coe]; exact EReal.coe_nonneg.mpr (Real.exp_pos r).le

theorem exp_ne_top {x : EReal} (h : x ≤ 0) : Ideal.exp x ≠ ⊤ := by
  induction x with
  | bot => simp
  | top => simp at h
  | coe r => rw [Ideal.exp_coe]; exact EReal.coe_ne_top _

theorem log1p_nonneg {x : EReal} (h : 0 ≤ x) : 0 ≤ Ideal.log1p x := by
  unfold Ideal.log1p
  induction x with
  | bot => simp at h
  | top => rw [EReal.add_top_of_ne_bot (show (1 : EReal) ≠ ⊥ from EReal.coe_ne_bot 1)]; simp
  | coe r =>
    have hr : 0 ≤ r := EReal.coe_nonneg.mp h
    rw [← EReal.coe_one, ← EReal.coe_add, Ideal.log_coe, if_neg (by linarith)]
    exact EReal.coe_nonneg.mpr (Real.log_nonneg (by linarith))

theorem logistic_nonneg (x : EReal) : 0 ≤ Ideal.logistic x := by
  induction x with
  | bot => simp
  | top => simp
  | coe r => rw [Ideal.logistic_coe]; exact EReal.coe_nonneg.mpr (by positivity)

theorem rate_nonpos (l : EReal) : rate l ≤ 0 := by
  unfold rate
  rw [minus_eight]
  exact mul_nonpos_of_nonpos_of_nonneg (EReal.coe_nonpos.mpr (by norm_num))
    (add_nonneg (le_max_right _ _) (log1p_nonneg (exp_nonneg _)))

/-- A factor from its rate and its gate's argument. -/
def decay (c g : EReal) : EReal := Ideal.exp (c * Ideal.logistic g)

theorem decay_nonneg (c g : EReal) : 0 ≤ decay c g := exp_nonneg _

theorem decay_ne_top {c : EReal} (h : c ≤ 0) (g : EReal) : decay c g ≠ ⊤ :=
  exp_ne_top (mul_nonpos_of_nonpos_of_nonneg h (logistic_nonneg _))

theorem two_f32 : Ideal.ofBits .f32 0x40000000#32 = ((2 : ℝ) : EReal) := by
  simp [Ideal.ofBits, Ideal.ieee]
  rw [← EReal.coe_mul]
  norm_num

/-- One minus the square of a factor, from twice its logarithm. -/
theorem one_sub_square (x : EReal) : 1 - Ideal.exp x * Ideal.exp x = -(Ideal.exp (((2 : ℝ) : EReal) * x) - 1) := by
  induction x with
  | bot =>
    rw [EReal.coe_mul_bot_of_pos (by norm_num)]
    simp
  | top =>
    rw [EReal.coe_mul_top_of_pos (by norm_num)]
    simp only [Ideal.exp_top, EReal.top_mul_top]
    rfl
  | coe r =>
    rw [← EReal.coe_mul, Ideal.exp_coe, Ideal.exp_coe, ← EReal.coe_mul, ← EReal.coe_one, ← EReal.coe_sub, ← EReal.coe_sub,
      ← EReal.coe_neg, two_mul, Real.exp_add, neg_sub]

/-! ## The readings -/

theorem factor_at (x : FVec Ideal S256x128 .f32) (w : Vec Ideal S1x1x1x128x256 .bf16) (ba : Vec Ideal S1x1x1x128 .f32)
    (cl : FVec Ideal S1x128 .f32) (j : Fin 256) (q : Fin 128) :
    (factor x w ba cl (ix2 j q) : EReal) = decay (cl (ix2 0 q))
      ((∑ k : Fin 128, (x (ix2 j k) : EReal) * w (ix5 0 0 0 k ⟨q.val, by omega⟩)) + ba (ix4 0 0 0 q)) := by
  pointwise [factor, gate, gates, decay]

theorem term_at (x : FVec Ideal S256x128 .f32) (w : Vec Ideal S1x1x1x128x256 .bf16) (ba bx : Vec Ideal S1x1x1x128 .f32)
    (cl : FVec Ideal S1x128 .f32) (j : Fin 256) (q : Fin 128) :
    (term x w ba bx cl (ix2 j q) : EReal) =
      Ideal.sqrt (1 - (factor x w ba cl (ix2 j q) : EReal) * factor x w ba cl (ix2 j q)) *
      Ideal.logistic ((∑ k : Fin 128, (x (ix2 j k) : EReal) * w (ix5 0 0 0 k ⟨128 + q.val, by omega⟩)) + bx (ix4 0 0 0 q))
        * x (ix2 j q) := by
  pointwise [term, gate, gates]

theorem rate_at (lam : Vec Ideal S1x1x1x1280 .f32) (d : Fin 1280) :
    (k0_pay8 lam (ix2 0 d) : EReal) = rate (lam (ix4 0 0 0 d)) := by
  pointwise [k0_pay8, rate]
  rfl

/-! ## The doublings -/

theorem at_least : ∀ K j : Fin 256,
    IntOp.cmpi .sge (BitVec.ofNat 32 j.val) (BitVec.ofNat 32 K.val) = if K.val ≤ j.val then 1#1 else 0#1 := by
  decide +kernel

/-- A row `K` rows back, where there is one. -/
theorem back (K j : Fin 256) (a : FVec Ideal S256x128 .f32) (q : Fin 128) (z : EReal) (h : ℕ → EReal)
    (ha : ∀ i : Fin 256, (a (ix2 i q) : EReal) = h i.val) (hj) :
    (Scalar.select (IntOp.cmpi .sge (BitVec.ofNat 32 j.val) (BitVec.ofNat 32 K.val))
      (a (ix2 (⟨(j.val + 256 - (BitVec.ofNat 32 K.val).toNat % 256) % 256, hj⟩ : Fin 256) q) : EReal) z)
      = if K.val ≤ j.val then h (j.val - K.val) else z := by
  have hk : (BitVec.ofNat 32 K.val).toNat = K.val := by rw [BitVec.toNat_ofNat]; omega
  rw [at_least, ha]
  split
  · simp only [Scalar.select, hk]
    rw [if_pos (by rfl)]
    congr 1
    omega
  · simp [Scalar.select]

theorem stepA_at (w : ℕ) (hw : w < 256) (a : FVec Ideal S256x128 .f32) (q : Fin 128) (A : ℕ → EReal)
    (ha : ∀ j : Fin 256, (a (ix2 j q) : EReal) = prods A w j.val) (j : Fin 256) :
    (stepA (BitVec.ofNat 32 w) a (ix2 j q) : EReal) = prods A (w + w) j.val := by
  rw [prods_add, ← ha j]
  have e := back ⟨w, hw⟩ j a q 1 (prods A w) ha (Nat.mod_lt _ (by decide))
  dsimp only at e
  rw [← e]
  pointwise [stepA, later]

theorem stepU_at (w : ℕ) (hw : w < 256) (a u : FVec Ideal S256x128 .f32) (q : Fin 128) (A U : ℕ → EReal)
    (h0 : ∀ j, 0 ≤ A j) (h1 : ∀ j, A j ≠ ⊤) (ha : ∀ j : Fin 256, (a (ix2 j q) : EReal) = prods A w j.val)
    (hu : ∀ j : Fin 256, (u (ix2 j q) : EReal) = sums A U w j.val) (j : Fin 256) :
    (stepU (BitVec.ofNat 32 w) a u (ix2 j q) : EReal) = sums A U (w + w) j.val := by
  rw [sums_add U h0 h1, ← ha j, ← hu j]
  have e := back ⟨w, hw⟩ j u q 0 (sums A U w) hu (Nat.mod_lt _ (by decide))
  dsimp only at e
  rw [← e]
  pointwise [stepU, later]

theorem prods_one (A : ℕ → EReal) (j : ℕ) : prods A 1 j = A j := by cases j <;> simp [prods]
theorem sums_one (A U : ℕ → EReal) (j : ℕ) : sums A U 1 j = U j := by cases j <;> simp [sums]

/-- The tile is the recurrence of its rows. -/
theorem tile_at (x : FVec Ideal S256x128 .f32) (w : Vec Ideal S1x1x1x128x256 .bf16) (ba bx : Vec Ideal S1x1x1x128 .f32)
    (cl : FVec Ideal S1x128 .f32) (h : Vec Ideal S1x128 .f32) (q : Fin 128) (A U : ℕ → EReal)
    (h0 : ∀ j, 0 ≤ A j) (h1 : ∀ j, A j ≠ ⊤) (hA : ∀ j : Fin 256, (factor x w ba cl (ix2 j q) : EReal) = A j.val)
    (hU : ∀ j : Fin 256, (term x w ba bx cl (ix2 j q) : EReal) = U j.val) (j : Fin 256) :
    (tile x w ba bx cl h (ix2 j q) : EReal) = state A U (h (ix2 0 q)) j.val := by
  have a1 : ∀ j : Fin 256, (factor x w ba cl (ix2 j q) : EReal) = prods A 1 j.val := fun j => (hA j).trans (prods_one A _).symm
  have u1 : ∀ j : Fin 256, (term x w ba bx cl (ix2 j q) : EReal) = sums A U 1 j.val := fun j => (hU j).trans (sums_one A U _).symm
  have a2 := stepA_at 1 (by decide) _ q A a1
  have a4' := stepA_at 2 (by decide) _ q A a2
  have a8' := stepA_at 4 (by decide) _ q A a4'
  have a16' := stepA_at 8 (by decide) _ q A a8'
  have a32' := stepA_at 16 (by decide) _ q A a16'
  have a64' := stepA_at 32 (by decide) _ q A a32'
  have a128' := stepA_at 64 (by decide) _ q A a64'
  have a256' := stepA_at 128 (by decide) _ q A a128'
  have u2 := stepU_at 1 (by decide) _ _ q A U h0 h1 a1 u1
  have u4' := stepU_at 2 (by decide) _ _ q A U h0 h1 a2 u2
  have u8' := stepU_at 4 (by decide) _ _ q A U h0 h1 a4' u4'
  have u16' := stepU_at 8 (by decide) _ _ q A U h0 h1 a8' u8'
  have u32' := stepU_at 16 (by decide) _ _ q A U h0 h1 a16' u16'
  have u64' := stepU_at 32 (by decide) _ _ q A U h0 h1 a32' u32'
  have u128' := stepU_at 64 (by decide) _ _ q A U h0 h1 a64' u64'
  have u256' := stepU_at 128 (by decide) _ _ q A U h0 h1 a128' u128'
  rw [← state_eq U h0 h1 (h (ix2 0 q)) 256 j.val j.isLt]
  have eA : (a256 (factor x w ba cl) (ix2 j q) : EReal) = prods A 256 j.val := a256' j
  have eU : (u256 (factor x w ba cl) (term x w ba bx cl) (ix2 j q) : EReal) = sums A U 256 j.val := u256' j
  rw [← eA, ← eU]
  pointwise [tile]

theorem lastRow_at (x : FVec Ideal S256x128 .f32) (q : Fin 128) : (lastRow x (ix2 0 q) : EReal) = x (ix2 255 q) := by
  pointwise [lastRow]

end Cert.Lru
-- ==== Proof.LruSpec.lean ====
/-
  The forward recurrence's mathematics, row by row: the centred convolution inside each sequence, the gates, and the
  recurrence's factors and terms.
-/
module

public import proofs.«01_k».proof.Proof.LruPoint

@[expose] public section

noncomputable section

namespace Cert.Lru

open Idealize.ShloMosaic

/-- The first row of the sequence that row `r` belongs to. -/
def lo (r : ℕ) : ℕ := if r < 32768 then r / 4096 * 4096 else 32768
/-- The length of that sequence. -/
def len (r : ℕ) : ℕ := if r < 32768 then 4096 else 16384

/-- Column `q` of block `n`. -/
def col (n : Fin 10) (q : Fin 128) : Fin 1280 := ⟨128 * n.val + q.val, by omega⟩

variable (X : FVec Ideal ⟨2, ![49152, 1280]⟩ .f32) (CW : FVec Ideal ⟨3, ![2, 4, 1280]⟩ .f32) (CB : FVec Ideal ⟨2, ![2, 1280]⟩ .f32)
  (WA : FVec Ideal ⟨5, ![2, 2, 10, 128, 128]⟩ .f32) (BA : FVec Ideal ⟨3, ![2, 2, 1280]⟩ .f32)
  (WX : FVec Ideal ⟨5, ![2, 2, 10, 128, 128]⟩ .f32) (BX : FVec Ideal ⟨3, ![2, 2, 1280]⟩ .f32) (LAM : FVec Ideal ⟨3, ![2, 2, 1280]⟩ .f32)

def entry (r : ℕ) (d : Fin 1280) : EReal := if h : r < 49152 then X (ix2 (⟨r, h⟩ : Fin 49152) d) else 0

/-- Entry `p` of the sequence of `n` rows from row `l`, padded by two rows of zeros before it and one after. -/
def tap (l n p : ℕ) (d : Fin 1280) : EReal := if 2 ≤ p ∧ p - 2 < n then entry X (l + (p - 2)) d else 0

/-- The convolution at row `s` of that sequence. -/
def convIn (l n s : ℕ) (d : Fin 1280) : EReal :=
  tap X l n s d * CW (ix3 0 0 d) + tap X l n (s + 1) d * CW (ix3 0 1 d) + tap X l n (s + 2) d * CW (ix3 0 2 d)
    + tap X l n (s + 3) d * CW (ix3 0 3 d) + CB (ix2 0 d)

def convRow (r : ℕ) (d : Fin 1280) : EReal := convIn X CW CB (lo r) (len r) (r - lo r) d

/-- A gate's product: block `n` of the row against block `n` of the weight. -/
def product (W : FVec Ideal ⟨5, ![2, 2, 10, 128, 128]⟩ .f32) (c : Fin 1280 → EReal) (n : Fin 10) (q : Fin 128) : EReal :=
  ∑ k : Fin 128, c (col n k) * W (ix5 0 0 n k q)

def factorOf (c : Fin 1280 → EReal) (n : Fin 10) (q : Fin 128) : EReal :=
  decay (rate (LAM (ix3 0 0 (col n q)))) (product WA c n q + BA (ix3 0 0 (col n q)))

def termOf (c : Fin 1280 → EReal) (n : Fin 10) (q : Fin 128) : EReal :=
  Ideal.sqrt (1 - factorOf WA BA LAM c n q * factorOf WA BA LAM c n q)
    * Ideal.logistic (product WX c n q + BX (ix3 0 0 (col n q))) * c (col n q)

/-- Row `r`'s factor and term, at column `q` of block `n`. -/
def factorAt (n : Fin 10) (q : Fin 128) (r : ℕ) : EReal := factorOf WA BA LAM (convRow X CW CB r) n q
def termAt (n : Fin 10) (q : Fin 128) (r : ℕ) : EReal := termOf WA BA WX BX LAM (convRow X CW CB r) n q

/-- The states at row `r`. -/
def stateAt (n : Fin 10) (q : Fin 128) (r : ℕ) : EReal :=
  state (cut (factorAt X CW CB WA BA LAM n q) fun r => lo r = r) (termAt X CW CB WA BA WX BX LAM n q) 0 r

theorem factorOf_nonneg (c : Fin 1280 → EReal) (n : Fin 10) (q : Fin 128) : 0 ≤ factorOf WA BA LAM c n q := decay_nonneg _ _
theorem factorOf_ne_top (c : Fin 1280 → EReal) (n : Fin 10) (q : Fin 128) : factorOf WA BA LAM c n q ≠ ⊤ :=
  decay_ne_top (rate_nonpos _) _

end Cert.Lru
-- ==== Proof.LruRun.lean ====
/-
  What the forward recurrence's kernel leaves in its result, in terms of what each grid point leaves in its block: point `t`
  writes rows `256 t … 256 t + 255`.
-/
module

public import proofs.«01_k».proof.Proof.Gen.Kernel7Ideal.Frame
public import Idealize.ShloMosaic.Lib.Pipeline.Value
public import Idealize.ShloMosaic.Lib.Pipeline.Cells
public import Idealize.ShloMosaic.Lib.Pointwise

@[expose] public section

noncomputable section

namespace Cert.LruRun

open Cert.Kernel7Ideal Cert.Kernel7Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem result_array (r : PUnit × MemSt nD τ sig (Elt F)) (h : Pipeline.FramePost cfgs (dats m) 0 (V m) r) (c : Dev nD) :
    r.2.mem ((c : Thread nD τ).loc main_v6) = (dats m 0 c).arrAt 9 cfg0.N :=
  (h c).1 9

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The grid has 192 points. -/
theorem points : cfg0.N = 192 := N_0

/-- The result: each row from the point that holds it. -/
def out (c : Dev nD) : S49152x1280.Idx → Elt F .f32 := fun i =>
  have h0 : (i 0).val < 49152 := (i 0).isLt
  (outsAt0 m c ((i 0).val / 256) (by rw [points]; omega)).1
    (ix2 (⟨(i 0).val % 256, Nat.mod_lt _ (by decide)⟩ : Fin 256) (i 1 : Fin 1280))

theorem out_at (c : Dev nD) (t : ℕ) (ht : t < cfg0.N) (y : S256x1280.Idx) (i : S49152x1280.Idx)
    (h0 : (i 0).val = t * 256 + (y 0).val) (h1 : (i 1).val = (y 1).val) : out m c i = (outsAt0 m c t ht).1 y := by
  have hy : (y 0).val < 256 := (y 0).isLt
  have e : (i 0).val / 256 = t := by omega
  have ej : ((ix2 (⟨(i 0).val % 256, Nat.mod_lt _ (by decide)⟩ : Fin 256) (i 1 : Fin 1280)) : S256x1280.Idx) = y := by
    funext a
    match a with
    | ⟨0, _⟩ => exact Fin.ext (by show (i 0).val % 256 = (y 0).val; omega)
    | ⟨1, _⟩ => exact Fin.ext h1
  unfold out
  dsimp only
  rw [ej]
  subst e
  rfl

theorem index9 : ∀ t : Fin cfg0.N, win0_9.index t (0 : Fin 2) = t.val ∧ win0_9.index t (1 : Fin 2) = 0 ∧ win0_9.flush t = true :=
  (by decide +kernel : ∀ t : Fin grid0.N, _)

theorem written (c : Dev nD) (t : Fin cfg0.N) : (dats m 0 c).flushed 9 t = ((cfg0.win 9).blk t).view.read (Elt F) (out m c) := by
  show (cfg0.win 9).cut (grid0.coords t) ((dats m 0 c).after 9 t) = _
  rw [after0_9]
  obtain ⟨e0, e1, -⟩ := index9 t
  funext y
  have hb0 : (((cfg0.win 9).blk t).view.emb y 0).val = win0_9.index t (0 : Fin 2) * 256 + 1 * (y 0).val := rfl
  have hb1 : (((cfg0.win 9).blk t).view.emb y 1).val = win0_9.index t (1 : Fin 2) * 1280 + 1 * (y 1).val := rfl
  exact (out_at m c t.val t.isLt ((cfg0.win 9).xinj (grid0.coords t) y) (((cfg0.win 9).blk t).view.emb y)
    (by rw [hb0, e0]; show _ = t.val * 256 + (y 0).val; omega) (by rw [hb1, e1]; show _ = (y 1).val; omega)).symm

theorem covered (i : S49152x1280.Idx) : ∃ t : Fin cfg0.N, (cfg0.win 9).flush t = true ∧ i ∈ ((cfg0.win 9).blk t).view.set := by
  have h0 : (i 0).val < 49152 := (i 0).isLt
  have h1 : (i 1).val < 1280 := (i 1).isLt
  let t : Fin cfg0.N := ⟨(i 0).val / 256, by rw [points]; omega⟩
  obtain ⟨e0, e1, hf⟩ := index9 t
  have et : t.val = (i 0).val / 256 := rfl
  refine ⟨t, hf, ?_⟩
  show i ∈ ((View.whole main_v6).slice (win0_9.rect t)).set
  rw [View.set_slice_whole, Rect.mem_set_unit]
  intro a
  match a with
  | ⟨0, _⟩ =>
    show win0_9.index t (0 : Fin 2) * 256 ≤ (i 0).val ∧ (i 0).val < win0_9.index t (0 : Fin 2) * 256 + 256
    rw [e0, et]; omega
  | ⟨1, _⟩ =>
    show win0_9.index t (1 : Fin 2) * 1280 ≤ (i 1).val ∧ (i 1).val < win0_9.index t (1 : Fin 2) * 1280 + 1280
    rw [e1]; omega

theorem final (c : Dev nD) : (dats m 0 c).arrAt 9 cfg0.N = out m c :=
  (dats m 0 c).arrAt_eq_of_cover 9 _ (fun t _ => written m c t) covered

theorem run : θ_run defs (onTc (τ := τ) (main (F := F))) ⟨m, fun _ => 0, ρ⟩ fun r => ∀ c : Dev nD,
      r.2.mem ((c : Thread nD τ).loc main_v6) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(result_array m r h c).trans (final m c), kept_main_arg0 m r h c, kept_main_arg1 m r h c, kept_main_arg2 m r h c, kept_main_arg3 m r h c, kept_main_arg4 m r h c, kept_main_arg5 m r h c, kept_main_arg6 m r h c, kept_main_arg7 m r h c⟩)
    (run_main m ρ)

end Cert.LruRun
end
-- ==== Proof.LruBlock.lean ====
/-
  The forward recurrence's kernel at a grid point: its blocks as entries of the arguments, its convolution as the
  sequence's convolution, and the rows it leaves as the recurrence's states.
-/
module

public import proofs.«01_k».proof.Proof.LruSpec
public import proofs.«01_k».proof.Proof.LruRun

@[expose] public section

set_option maxRecDepth 16384

noncomputable section

namespace Cert.Lru

open Idealize.ShloMosaic Idealize.ShloMosaic.TcCoe Idealize.SL.Sem
open Cert.Kernel7Ideal Cert.Kernel7Ideal.Gen

/-! ## The rows before and after a point's block -/

/-- The word of "the block starts a sequence". -/
def startsWord (i : grid0.Coords) : BitVec 1 :=
  let r : BitVec 32 := Scalar.muli (BitVec.ofNat 32 (i 0).val) 256#32
  Scalar.cmpi .eq r (Scalar.select (Scalar.cmpi .slt r 32768#32) (Scalar.muli (Scalar.divsi r 4096#32) 4096#32)
    (Scalar.addi 32768#32 (Scalar.muli (Scalar.divsi (Scalar.maxsi (Scalar.subi r 32768#32) 0#32) 16384#32) 16384#32)))

/-- The word of "the block ends a sequence". -/
def endsWord (i : grid0.Coords) : BitVec 1 :=
  let r : BitVec 32 := Scalar.muli (BitVec.ofNat 32 (i 0).val) 256#32
  Scalar.cmpi .eq (Scalar.addi r 256#32) (Scalar.select (Scalar.cmpi .slt r 32768#32)
    (Scalar.addi (Scalar.muli (Scalar.divsi r 4096#32) 4096#32) 4096#32)
    (Scalar.addi (Scalar.addi 32768#32 (Scalar.muli (Scalar.divsi (Scalar.maxsi (Scalar.subi r 32768#32) 0#32) 16384#32) 16384#32)) 16384#32))

theorem starts_eq : ∀ t : Fin grid0.N, startsWord (grid0.coords t) = if lo (256 * t.val) = 256 * t.val then 1#1 else 0#1 := by
  decide +kernel
theorem ends_eq : ∀ t : Fin grid0.N, endsWord (grid0.coords t) =
    if lo (256 * t.val) + len (256 * t.val) = 256 * t.val + 256 then 1#1 else 0#1 := by
  decide +kernel

theorem around_at (i : grid0.Coords) (xl xr : Vec Ideal S8x1280 .f32) (x : Vec Ideal S256x1280 .f32) (P : Fin 272) (d : Fin 1280) :
    (k0_pay4 i xl xr x (ix2 P d) : EReal) =
      if h : P.val < 8 then Scalar.select (startsWord i) (0 : EReal) (xl (ix2 ⟨P.val, h⟩ d))
      else if h : P.val - 8 < 256 then x (ix2 ⟨P.val - 8, h⟩ d)
      else Scalar.select (endsWord i) (0 : EReal) (xr (ix2 ⟨P.val - 8 - 256, by omega⟩ d)) := by
  pointwise [k0_pay4, startsWord, endsWord]

theorem conv_at (i : grid0.Coords) (x : Vec Ideal S256x1280 .f32) (xl xr : Vec Ideal S8x1280 .f32) (cw : Vec Ideal S1x4x1280 .f32)
    (cb : Vec Ideal S1x1x1280 .f32) (j : Fin 256) (d : Fin 1280) :
    (conv i x xl xr cw cb (ix2 j d) : EReal) =
      (k0_pay4 i xl xr x (ix2 ⟨6 + j.val, by omega⟩ d) : EReal) * cw (ix3 0 0 d)
      + (k0_pay4 i xl xr x (ix2 ⟨7 + j.val, by omega⟩ d) : EReal) * cw (ix3 0 1 d)
      + (k0_pay4 i xl xr x (ix2 ⟨8 + j.val, by omega⟩ d) : EReal) * cw (ix3 0 2 d)
      + (k0_pay4 i xl xr x (ix2 ⟨9 + j.val, by omega⟩ d) : EReal) * cw (ix3 0 3 d) + cb (ix3 0 0 d) := by
  have e2 : (⟨(8 + j.val + 272 - 2) % 272, Nat.mod_lt _ (by decide)⟩ : Fin 272) = ⟨6 + j.val, by omega⟩ := Fin.ext (by show (8 + j.val + 272 - 2) % 272 = 6 + j.val; omega)
  have e1 : (⟨(8 + j.val + 272 - 1) % 272, Nat.mod_lt _ (by decide)⟩ : Fin 272) = ⟨7 + j.val, by omega⟩ := Fin.ext (by show (8 + j.val + 272 - 1) % 272 = 7 + j.val; omega)
  have e3 : (⟨(8 + j.val + 272 - 271) % 272, Nat.mod_lt _ (by decide)⟩ : Fin 272) = ⟨9 + j.val, by omega⟩ := Fin.ext (by show (8 + j.val + 272 - 271) % 272 = 9 + j.val; omega)
  rw [← e1, ← e2, ← e3]
  pointwise [conv, k0_pay7, k0_pay6, k0_pay5]

/-! ## The blocks as entries of the arguments -/

variable (m : (ℓ : Loc nD τ sig) → Buf (Elt Ideal) ℓ) (c : Dev nD)

abbrev argX : FVec Ideal ⟨2, ![49152, 1280]⟩ .f32 := m ((c.tc : Thread nD τ).loc main_arg0)
abbrev argCW : FVec Ideal ⟨3, ![2, 4, 1280]⟩ .f32 := m ((c.tc : Thread nD τ).loc main_arg1)
abbrev argCB : FVec Ideal ⟨2, ![2, 1280]⟩ .f32 := m ((c.tc : Thread nD τ).loc main_arg2)
abbrev argWA : FVec Ideal ⟨5, ![2, 2, 10, 128, 128]⟩ .f32 := m ((c.tc : Thread nD τ).loc main_arg3)
abbrev argBA : FVec Ideal ⟨3, ![2, 2, 1280]⟩ .f32 := m ((c.tc : Thread nD τ).loc main_arg4)
abbrev argWX : FVec Ideal ⟨5, ![2, 2, 10, 128, 128]⟩ .f32 := m ((c.tc : Thread nD τ).loc main_arg5)
abbrev argBX : FVec Ideal ⟨3, ![2, 2, 1280]⟩ .f32 := m ((c.tc : Thread nD τ).loc main_arg6)
abbrev argLam : FVec Ideal ⟨3, ![2, 2, 1280]⟩ .f32 := m ((c.tc : Thread nD τ).loc main_arg7)

theorem found_w : V m c main_v1 = (truncf .bf16 (concatenate S2x2x10x128x256 4 [⟨S2x2x10x128x128, argWA m c⟩, ⟨S2x2x10x128x128, argWX m c⟩]
    concatenates_S2x2x10x128x128_S2x2x10x128x128_S2x2x10x128x256_d4 : FVec Ideal S2x2x10x128x256 .f32) bitsLt_bf16_f32) := by
  show StableHlo.after hostOps0 (fun b => m (c, b)) main_v1 = _
  simp only [hostOps0, List.flatten_cons, List.flatten_nil, List.append_nil, List.cons_append, List.nil_append]
  after_results_simp
theorem found_wa (n : Fin 10) (k q : Fin 128) :
    (V m c main_v1 (ix5 0 0 n k (⟨q.val, by omega⟩ : Fin 256)) : EReal) = argWA m c (ix5 0 0 n k q) := by
  rw [found_w]
  pointwise []
theorem found_wx (n : Fin 10) (k q : Fin 128) :
    (V m c main_v1 (ix5 0 0 n k (⟨128 + q.val, by omega⟩ : Fin 256)) : EReal) = argWX m c (ix5 0 0 n k q) := by
  rw [found_w]
  pointwise []
theorem found_cb (d : Fin 1280) : (V m c main_v5 (ix3 0 0 d) : EReal) = argCB m c (ix2 0 d) := by
  have e : V m c main_v5 = shapeCast S2x1x1280 (argCB m c) shapeCasts_S2x1280_S2x1x1280 := by
    show StableHlo.after hostOps0 (fun b => m (c, b)) main_v5 = _
    simp only [hostOps0, List.flatten_cons, List.flatten_nil, List.append_nil, List.cons_append, List.nil_append]
    after_results_simp
    rfl
  rw [e]
  pointwise []
theorem found_ba (d : Fin 1280) : (V m c main_v2 (ix4 0 0 0 d) : EReal) = argBA m c (ix3 0 0 d) := by
  have e : V m c main_v2 = shapeCast S2x2x1x1280 (argBA m c) shapeCasts_S2x2x1280_S2x2x1x1280 := by
    show StableHlo.after hostOps0 (fun b => m (c, b)) main_v2 = _
    simp only [hostOps0, List.flatten_cons, List.flatten_nil, List.append_nil, List.cons_append, List.nil_append]
    after_results_simp
    rfl
  rw [e]
  pointwise []
theorem found_bx (d : Fin 1280) : (V m c main_v3 (ix4 0 0 0 d) : EReal) = argBX m c (ix3 0 0 d) := by
  have e : V m c main_v3 = shapeCast S2x2x1x1280 (argBX m c) shapeCasts_S2x2x1280_S2x2x1x1280 := by
    show StableHlo.after hostOps0 (fun b => m (c, b)) main_v3 = _
    simp only [hostOps0, List.flatten_cons, List.flatten_nil, List.append_nil, List.cons_append, List.nil_append]
    after_results_simp
    rfl
  rw [e]
  pointwise []
theorem found_lam (d : Fin 1280) : (V m c main_v4 (ix4 0 0 0 d) : EReal) = argLam m c (ix3 0 0 d) := by
  have e : V m c main_v4 = shapeCast S2x2x1x1280 (argLam m c) shapeCasts_S2x2x1280_S2x2x1x1280 := by
    show StableHlo.after hostOps0 (fun b => m (c, b)) main_v4 = _
    simp only [hostOps0, List.flatten_cons, List.flatten_nil, List.append_nil, List.cons_append, List.nil_append]
    after_results_simp
    rfl
  rw [e]
  pointwise []

theorem idx0 : ∀ t : Fin grid0.N, win0_0.index t 0 = t.val ∧ win0_0.index t 1 = 0 := by decide +kernel
theorem idx1 : ∀ t : Fin grid0.N, win0_1.index t 0 = 32 * t.val - 1 ∧ win0_1.index t 1 = 0 := by decide +kernel
theorem idx2 : ∀ t : Fin grid0.N, win0_2.index t 0 = min (32 * (t.val + 1)) 6143 ∧ win0_2.index t 1 = 0 := by decide +kernel
theorem idx3 : ∀ t : Fin grid0.N, win0_3.index t 0 = 0 ∧ win0_3.index t 1 = 0 ∧ win0_3.index t 2 = 0 := by decide +kernel
theorem idx4 : ∀ t : Fin grid0.N, win0_4.index t 0 = 0 ∧ win0_4.index t 1 = 0 ∧ win0_4.index t 2 = 0 := by decide +kernel
theorem idx5 : ∀ t : Fin grid0.N, win0_5.index t 0 = 0 ∧ win0_5.index t 1 = 0 ∧ win0_5.index t 2 = 0 ∧ win0_5.index t 3 = 0 ∧ win0_5.index t 4 = 0 := by decide +kernel
theorem idx6 : ∀ t : Fin grid0.N, win0_6.index t 0 = 0 ∧ win0_6.index t 1 = 0 ∧ win0_6.index t 2 = 0 ∧ win0_6.index t 3 = 0 := by decide +kernel
theorem idx7 : ∀ t : Fin grid0.N, win0_7.index t 0 = 0 ∧ win0_7.index t 1 = 0 ∧ win0_7.index t 2 = 0 ∧ win0_7.index t 3 = 0 := by decide +kernel
theorem idx8 : ∀ t : Fin grid0.N, win0_8.index t 0 = 0 ∧ win0_8.index t 1 = 0 ∧ win0_8.index t 2 = 0 ∧ win0_8.index t 3 = 0 := by decide +kernel

theorem entry_at (X : FVec Ideal ⟨2, ![49152, 1280]⟩ .f32) (r : Fin 49152) (d : Fin 1280) : entry X r.val d = X (ix2 r d) := by
  unfold entry; rw [dif_pos r.isLt]

theorem blk_x (t : Fin cfg0.N) (r : Fin 256) (d : Fin 1280) :
    ((iblk m c 0 t : Vec Ideal S256x1280 .f32) (ix2 r d) : EReal) = entry (argX m c) (256 * t.val + r.val) d := by
  have ht := lt_of_lt_of_eq t.isLt (show cfg0.N = 192 from N_0)
  rw [show (256 * t.val + r.val) = (⟨256 * t.val + r.val, by omega⟩ : Fin 49152).val from rfl, entry_at]
  unfold iblk
  rw [View.read_apply]
  show V m c main_arg0 _ = _
  rw [V_main_arg0]
  congr 1; funext a; apply Fin.ext
  match a with
  | ⟨0, _⟩ => show win0_0.index t 0 * 256 + 1 * r.val = 256 * t.val + r.val; rw [(idx0 t).1]; omega
  | ⟨1, _⟩ => show win0_0.index t 1 * 1280 + 1 * d.val = d.val; rw [(idx0 t).2]; omega

theorem blk_before (t : Fin cfg0.N) (r : Fin 8) (d : Fin 1280) :
    ((iblk m c 1 t : Vec Ideal S8x1280 .f32) (ix2 r d) : EReal) = entry (argX m c) (8 * (32 * t.val - 1) + r.val) d := by
  have ht := lt_of_lt_of_eq t.isLt (show cfg0.N = 192 from N_0)
  rw [show (8 * (32 * t.val - 1) + r.val) = (⟨8 * (32 * t.val - 1) + r.val, by omega⟩ : Fin 49152).val from rfl, entry_at]
  unfold iblk
  rw [View.read_apply]
  show V m c main_arg0 _ = _
  rw [V_main_arg0]
  congr 1; funext a; apply Fin.ext
  match a with
  | ⟨0, _⟩ => show win0_1.index t 0 * 8 + 1 * r.val = 8 * (32 * t.val - 1) + r.val; rw [(idx1 t).1]; omega
  | ⟨1, _⟩ => show win0_1.index t 1 * 1280 + 1 * d.val = d.val; rw [(idx1 t).2]; omega

theorem blk_after (t : Fin cfg0.N) (r : Fin 8) (d : Fin 1280) :
    ((iblk m c 2 t : Vec Ideal S8x1280 .f32) (ix2 r d) : EReal) = entry (argX m c) (8 * min (32 * (t.val + 1)) 6143 + r.val) d := by
  rw [show (8 * min (32 * (t.val + 1)) 6143 + r.val) = (⟨8 * min (32 * (t.val + 1)) 6143 + r.val, by omega⟩ : Fin 49152).val from rfl, entry_at]
  unfold iblk
  rw [View.read_apply]
  show V m c main_arg0 _ = _
  rw [V_main_arg0]
  congr 1; funext a; apply Fin.ext
  match a with
  | ⟨0, _⟩ => show win0_2.index t 0 * 8 + 1 * r.val = 8 * min (32 * (t.val + 1)) 6143 + r.val; rw [(idx2 t).1]; omega
  | ⟨1, _⟩ => show win0_2.index t 1 * 1280 + 1 * d.val = d.val; rw [(idx2 t).2]; omega

theorem blk_cw (t : Fin cfg0.N) (k : Fin 4) (d : Fin 1280) :
    ((iblk m c 3 t : Vec Ideal S1x4x1280 .f32) (ix3 0 k d) : EReal) = argCW m c (ix3 0 k d) := by
  unfold iblk
  rw [View.read_apply]
  show V m c main_arg1 _ = _
  rw [V_main_arg1]
  congr 1; funext a; apply Fin.ext
  match a with
  | ⟨0, _⟩ => show win0_3.index t 0 * 1 + 1 * 0 = 0; rw [(idx3 t).1]
  | ⟨1, _⟩ => show win0_3.index t 1 * 4 + 1 * k.val = k.val; rw [(idx3 t).2.1]; omega
  | ⟨2, _⟩ => show win0_3.index t 2 * 1280 + 1 * d.val = d.val; rw [(idx3 t).2.2]; omega

theorem blk_cb (t : Fin cfg0.N) (d : Fin 1280) :
    ((iblk m c 4 t : Vec Ideal S1x1x1280 .f32) (ix3 0 0 d) : EReal) = argCB m c (ix2 0 d) := by
  rw [← found_cb]
  unfold iblk
  rw [View.read_apply]
  show V m c main_v5 _ = _
  congr 1; funext a; apply Fin.ext
  match a with
  | ⟨0, _⟩ => show win0_4.index t 0 * 1 + 1 * 0 = 0; rw [(idx4 t).1]
  | ⟨1, _⟩ => show win0_4.index t 1 * 1 + 1 * 0 = 0; rw [(idx4 t).2.1]
  | ⟨2, _⟩ => show win0_4.index t 2 * 1280 + 1 * d.val = d.val; rw [(idx4 t).2.2]; omega

theorem blk_w (t : Fin cfg0.N) (n : Fin 10) (k : Fin 128) (q : Fin 256) :
    ((iblk m c 5 t : Vec Ideal S1x1x10x128x256 .bf16) (ix5 0 0 n k q) : EReal) = V m c main_v1 (ix5 0 0 n k q) := by
  unfold iblk
  rw [View.read_apply]
  show V m c main_v1 _ = _
  congr 1; funext a; apply Fin.ext
  match a with
  | ⟨0, _⟩ => show win0_5.index t 0 * 1 + 1 * 0 = 0; rw [(idx5 t).1]
  | ⟨1, _⟩ => show win0_5.index t 1 * 1 + 1 * 0 = 0; rw [(idx5 t).2.1]
  | ⟨2, _⟩ => show win0_5.index t 2 * 10 + 1 * n.val = n.val; rw [(idx5 t).2.2.1]; omega
  | ⟨3, _⟩ => show win0_5.index t 3 * 128 + 1 * k.val = k.val; rw [(idx5 t).2.2.2.1]; omega
  | ⟨4, _⟩ => show win0_5.index t 4 * 256 + 1 * q.val = q.val; rw [(idx5 t).2.2.2.2]; omega

theorem blk_ba (t : Fin cfg0.N) (d : Fin 1280) :
    ((iblk m c 6 t : Vec Ideal S1x1x1x1280 .f32) (ix4 0 0 0 d) : EReal) = argBA m c (ix3 0 0 d) := by
  rw [← found_ba]
  unfold iblk
  rw [View.read_apply]
  show V m c main_v2 _ = _
  congr 1; funext a; apply Fin.ext
  match a with
  | ⟨0, _⟩ => show win0_6.index t 0 * 1 + 1 * 0 = 0; rw [(idx6 t).1]
  | ⟨1, _⟩ => show win0_6.index t 1 * 1 + 1 * 0 = 0; rw [(idx6 t).2.1]
  | ⟨2, _⟩ => show win0_6.index t 2 * 1 + 1 * 0 = 0; rw [(idx6 t).2.2.1]
  | ⟨3, _⟩ => show win0_6.index t 3 * 1280 + 1 * d.val = d.val; rw [(idx6 t).2.2.2]; omega

theorem blk_bx (t : Fin cfg0.N) (d : Fin 1280) :
    ((iblk m c 7 t : Vec Ideal S1x1x1x1280 .f32) (ix4 0 0 0 d) : EReal) = argBX m c (ix3 0 0 d) := by
  rw [← found_bx]
  unfold iblk
  rw [View.read_apply]
  show V m c main_v3 _ = _
  congr 1; funext a; apply Fin.ext
  match a with
  | ⟨0, _⟩ => show win0_7.index t 0 * 1 + 1 * 0 = 0; rw [(idx7 t).1]
  | ⟨1, _⟩ => show win0_7.index t 1 * 1 + 1 * 0 = 0; rw [(idx7 t).2.1]
  | ⟨2, _⟩ => show win0_7.index t 2 * 1 + 1 * 0 = 0; rw [(idx7 t).2.2.1]
  | ⟨3, _⟩ => show win0_7.index t 3 * 1280 + 1 * d.val = d.val; rw [(idx7 t).2.2.2]; omega

theorem blk_lam (t : Fin cfg0.N) (d : Fin 1280) :
    ((iblk m c 8 t : Vec Ideal S1x1x1x1280 .f32) (ix4 0 0 0 d) : EReal) = argLam m c (ix3 0 0 d) := by
  rw [← found_lam]
  unfold iblk
  rw [View.read_apply]
  show V m c main_v4 _ = _
  congr 1; funext a; apply Fin.ext
  match a with
  | ⟨0, _⟩ => show win0_8.index t 0 * 1 + 1 * 0 = 0; rw [(idx8 t).1]
  | ⟨1, _⟩ => show win0_8.index t 1 * 1 + 1 * 0 = 0; rw [(idx8 t).2.1]
  | ⟨2, _⟩ => show win0_8.index t 2 * 1 + 1 * 0 = 0; rw [(idx8 t).2.2.1]
  | ⟨3, _⟩ => show win0_8.index t 3 * 1280 + 1 * d.val = d.val; rw [(idx8 t).2.2.2]; omega

end Cert.Lru
-- ==== Proof.LruState.lean ====
/-
  The forward recurrence's kernel, its result: each row is the recurrence's state at that row.
-/
module

public import proofs.«01_k».proof.Proof.LruBlock

@[expose] public section

set_option maxRecDepth 16384

noncomputable section

namespace Cert.Lru

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

/-- Where a block lies in its sequence. -/
theorem block_lies (t : ℕ) (ht : t < 192) :
    (lo (256 * t) = 256 * t ∨ lo (256 * t) + 256 ≤ 256 * t) ∧
      (lo (256 * t) + len (256 * t) = 256 * t + 256 ∨ 256 * t + 512 ≤ lo (256 * t) + len (256 * t)) := by
  unfold lo len; split <;> omega
theorem not_first (t : ℕ) (h : lo (256 * t) ≠ 256 * t) : 1 ≤ t := by
  revert h; unfold lo; split <;> omega
theorem not_last (t : ℕ) (ht : t < 192) (h : lo (256 * t) + len (256 * t) ≠ 256 * t + 256) : t < 191 := by
  revert h; unfold lo len; split <;> omega
theorem lo_in (t j : ℕ) (ht : t < 192) (hj : j < 256) : lo (256 * t + j) = lo (256 * t) := by
  unfold lo; split <;> split <;> omega
theorem len_in (t j : ℕ) (ht : t < 192) (hj : j < 256) : len (256 * t + j) = len (256 * t) := by
  unfold len; split <;> split <;> omega
theorem lo_mod (r : ℕ) : lo r % 256 = 0 := by unfold lo; split <;> omega

/-- The rows around a block, as the padded sequence's entries. -/
theorem around_tap (t : Fin cfg0.N) (p : ℕ) (hp : p < 259) (d : Fin 1280) :
    (k0_pay4 (grid0.coords t) (iblk m c 1 t) (iblk m c 2 t) (iblk m c 0 t) (ix2 ⟨6 + p, by omega⟩ d) : EReal)
      = tap (argX m c) (lo (256 * t.val)) (len (256 * t.val)) (256 * t.val - lo (256 * t.val) + p) d := by
  have ht := lt_of_lt_of_eq t.isLt (show cfg0.N = 192 from N_0)
  obtain ⟨hs, he⟩ := block_lies t.val ht
  rw [around_at, starts_eq t, ends_eq t]
  unfold tap
  dsimp only
  by_cases h1 : 6 + p < 8
  · rw [dif_pos h1]
    by_cases h : lo (256 * t.val) = 256 * t.val
    · rw [if_pos h, if_neg (by omega)]
      rfl
    · have h0 := not_first _ h
      rw [if_neg h, if_pos (by omega)]
      refine (blk_before m c t _ d).trans ?_
      congr 1
      dsimp only
      omega
  · rw [dif_neg h1]
    by_cases h2 : 6 + p - 8 < 256
    · rw [dif_pos h2, if_pos (by omega)]
      refine (blk_x m c t _ d).trans ?_
      congr 1
      dsimp only
      omega
    · rw [dif_neg h2]
      by_cases h : lo (256 * t.val) + len (256 * t.val) = 256 * t.val + 256
      · rw [if_pos h, if_neg (by omega)]
        rfl
      · have h0 := not_last _ ht h
        rw [if_neg h, if_pos (by omega)]
        refine (blk_after m c t _ d).trans ?_
        congr 1
        dsimp only
        omega

/-- The point's convolution. -/
def convAt (t : Fin cfg0.N) : FVec Ideal S256x1280 .f32 :=
  conv (grid0.coords t) (iblk m c 0 t) (iblk m c 1 t) (iblk m c 2 t) (iblk m c 3 t) (iblk m c 4 t)

/-- The point's weights and biases. -/
def weightAt (t : Fin cfg0.N) : Vec Ideal S1x1x10x128x256 .bf16 := iblk m c 5 t
def biasA (t : Fin cfg0.N) : Vec Ideal S1x1x1x1280 .f32 := iblk m c 6 t
def biasX (t : Fin cfg0.N) : Vec Ideal S1x1x1x1280 .f32 := iblk m c 7 t
def lamAt (t : Fin cfg0.N) : Vec Ideal S1x1x1x1280 .f32 := iblk m c 8 t

theorem biasA_at (t : Fin cfg0.N) (d : Fin 1280) : (biasA m c t (ix4 0 0 0 d) : EReal) = argBA m c (ix3 0 0 d) := blk_ba m c t d
theorem biasX_at (t : Fin cfg0.N) (d : Fin 1280) : (biasX m c t (ix4 0 0 0 d) : EReal) = argBX m c (ix3 0 0 d) := blk_bx m c t d
theorem lamAt_at (t : Fin cfg0.N) (d : Fin 1280) : (lamAt m c t (ix4 0 0 0 d) : EReal) = argLam m c (ix3 0 0 d) := blk_lam m c t d
theorem weightA_at (t : Fin cfg0.N) (n : Fin 10) (k q : Fin 128) :
    (weightAt m c t (ix5 0 0 n k ⟨q.val, by omega⟩) : EReal) = argWA m c (ix5 0 0 n k q) := (blk_w m c t n k _).trans (found_wa m c n k q)
theorem weightX_at (t : Fin cfg0.N) (n : Fin 10) (k q : Fin 128) :
    (weightAt m c t (ix5 0 0 n k ⟨128 + q.val, by omega⟩) : EReal) = argWX m c (ix5 0 0 n k q) := (blk_w m c t n k _).trans (found_wx m c n k q)

theorem conv_row (t : Fin cfg0.N) (j : Fin 256) (d : Fin 1280) :
    (convAt m c t (ix2 j d) : EReal) = convRow (argX m c) (argCW m c) (argCB m c) (256 * t.val + j.val) d := by
  have ht := lt_of_lt_of_eq t.isLt (show cfg0.N = 192 from N_0)
  obtain ⟨hs, -⟩ := block_lies t.val ht
  have e (k : ℕ) (hk : k < 4) := around_tap m c t (j.val + k) (by omega) d
  have e0 := e 0 (by decide)
  have e1 := e 1 (by decide)
  have e2 := e 2 (by decide)
  have e3 := e 3 (by decide)
  have i1 : (⟨7 + j.val, by omega⟩ : Fin 272) = ⟨6 + (j.val + 1), by omega⟩ := Fin.ext (by show 7 + j.val = 6 + (j.val + 1); omega)
  have i2 : (⟨8 + j.val, by omega⟩ : Fin 272) = ⟨6 + (j.val + 2), by omega⟩ := Fin.ext (by show 8 + j.val = 6 + (j.val + 2); omega)
  have i3 : (⟨9 + j.val, by omega⟩ : Fin 272) = ⟨6 + (j.val + 3), by omega⟩ := Fin.ext (by show 9 + j.val = 6 + (j.val + 3); omega)
  have s : ∀ k, 256 * t.val - lo (256 * t.val) + (j.val + k) = 256 * t.val + j.val - lo (256 * t.val) + k := fun k => by omega
  rw [convAt, conv_at, i1, i2, i3, e1, e2, e3]
  rw [show (⟨6 + j.val, by omega⟩ : Fin 272) = ⟨6 + (j.val + 0), by omega⟩ from rfl, e0]
  rw [blk_cw, blk_cw, blk_cw, blk_cw, blk_cb, s, s, s, s]
  unfold convRow convIn
  rw [lo_in _ _ ht j.isLt, len_in _ _ ht j.isLt]
  rfl

/-- The factors and terms of one block of columns, over the blocks it is cut from. -/
theorem factor_cols (x : FVec Ideal S256x1280 .f32) (w : Vec Ideal S1x1x10x128x256 .bf16) (ba : Vec Ideal S1x1x1x1280 .f32)
    (cl : FVec Ideal S1x1280 .f32) (n : Fin 10) (q : Fin 128) (j : Fin 256) :
    (factor (cols n x) (weight n w) (bias n ba) (row n cl) (ix2 j q) : EReal) = decay (cl (ix2 0 (col n q)))
      ((∑ k : Fin 128, (x (ix2 j (col n k)) : EReal) * w (ix5 0 0 n k ⟨q.val, by omega⟩)) + ba (ix4 0 0 0 (col n q))) :=
  factor_at _ _ _ _ j q

theorem term_cols (x : FVec Ideal S256x1280 .f32) (w : Vec Ideal S1x1x10x128x256 .bf16) (ba bx : Vec Ideal S1x1x1x1280 .f32)
    (cl : FVec Ideal S1x1280 .f32) (n : Fin 10) (q : Fin 128) (j : Fin 256) :
    (term (cols n x) (weight n w) (bias n ba) (bias n bx) (row n cl) (ix2 j q) : EReal) =
      Ideal.sqrt (1 - (factor (cols n x) (weight n w) (bias n ba) (row n cl) (ix2 j q) : EReal)
        * factor (cols n x) (weight n w) (bias n ba) (row n cl) (ix2 j q)) *
      Ideal.logistic ((∑ k : Fin 128, (x (ix2 j (col n k)) : EReal) * w (ix5 0 0 n k ⟨128 + q.val, by omega⟩)) + bx (ix4 0 0 0 (col n q)))
        * x (ix2 j (col n q)) :=
  term_at _ _ _ _ _ j q

theorem factor_row (t : Fin cfg0.N) (n : Fin 10) (q : Fin 128) (j : Fin 256) :
    (factor (cols n (convAt m c t)) (weight n (weightAt m c t)) (bias n (biasA m c t)) (row n (k0_pay8 (lamAt m c t))) (ix2 j q) : EReal)
      = factorAt (argX m c) (argCW m c) (argCB m c) (argWA m c) (argBA m c) (argLam m c) n q (256 * t.val + j.val) := by
  rw [factor_cols, rate_at, lamAt_at, biasA_at]
  unfold factorAt factorOf product
  simp only [conv_row, weightA_at]

theorem term_row (t : Fin cfg0.N) (n : Fin 10) (q : Fin 128) (j : Fin 256) :
    (term (cols n (convAt m c t)) (weight n (weightAt m c t)) (bias n (biasA m c t)) (bias n (biasX m c t))
        (row n (k0_pay8 (lamAt m c t))) (ix2 j q) : EReal)
      = termAt (argX m c) (argCW m c) (argCB m c) (argWA m c) (argBA m c) (argWX m c) (argBX m c) (argLam m c) n q (256 * t.val + j.val) := by
  rw [term_cols, factor_row, biasX_at, conv_row]
  unfold termAt termOf product
  simp only [conv_row, weightX_at]
  rfl

theorem states_cols (x : FVec Ideal S256x1280 .f32) (w : Vec Ideal S1x1x10x128x256 .bf16) (ba bx lam : Vec Ideal S1x1x1x1280 .f32)
    (h : Vec Ideal S1x1280 .f32) (n : Fin 10) (q : Fin 128) (A U : ℕ → EReal) (h0 : ∀ j, 0 ≤ A j) (h1 : ∀ j, A j ≠ ⊤)
    (hA : ∀ j : Fin 256, (factor (cols n x) (weight n w) (bias n ba) (row n (k0_pay8 lam)) (ix2 j q) : EReal) = A j.val)
    (hU : ∀ j : Fin 256, (term (cols n x) (weight n w) (bias n ba) (bias n bx) (row n (k0_pay8 lam)) (ix2 j q) : EReal) = U j.val)
    (j : Fin 256) : (states n x w ba bx lam h (ix2 j q) : EReal) = state A U (h (ix2 0 (col n q))) j.val :=
  tile_at _ _ _ _ _ (row (F := Ideal) n h) q A U h0 h1 hA hU j

abbrev factors (n : Fin 10) (q : Fin 128) : ℕ → EReal := factorAt (argX m c) (argCW m c) (argCB m c) (argWA m c) (argBA m c) (argLam m c) n q
abbrev terms (n : Fin 10) (q : Fin 128) : ℕ → EReal :=
  termAt (argX m c) (argCW m c) (argCB m c) (argWA m c) (argBA m c) (argWX m c) (argBX m c) (argLam m c) n q

theorem states_row (t : Fin cfg0.N) (h : Vec Ideal S1x1280 .f32) (n : Fin 10) (q : Fin 128) (j : Fin 256) :
    (states n (convAt m c t) (weightAt m c t) (biasA m c t) (biasX m c t) (lamAt m c t) h (ix2 j q) : EReal)
      = state (fun i => factors m c n q (256 * t.val + i)) (fun i => terms m c n q (256 * t.val + i)) (h (ix2 0 (col n q))) j.val :=
  states_cols _ _ _ _ _ h n q (fun i => factors m c n q (256 * t.val + i)) (fun i => terms m c n q (256 * t.val + i))
    (fun j => factorOf_nonneg _ _ _ _ _ _) (fun j => factorOf_ne_top _ _ _ _ _ _)
    (fun j => factor_row m c t n q j) (fun j => term_row m c t n q j) j

/-- What the point starts from. -/
def before (t : ℕ) : Vec Ideal S1x1280 .f32 :=
  if lo (256 * t) = 256 * t then k0_pay3 (F := Ideal) else if h : t - 1 < cfg0.N then (outsAt0 m c (t - 1) h).2 else k0_pay3 (F := Ideal)

theorem starts_iff (t : ℕ) (ht : t < 192) : lo (256 * t) = 256 * t ↔ (t % 192 = 0 ∨ t % 192 = 16 ∨ t % 192 = 32
    ∨ t % 192 = 48 ∨ t % 192 = 64 ∨ t % 192 = 80 ∨ t % 192 = 96 ∨ t % 192 = 112 ∨ t % 192 = 128) := by
  unfold lo; split <;> omega

theorem point (t : Fin cfg0.N) : outsAt0 m c t.val t.isLt =
    (outBlock (convAt m c t) (weightAt m c t) (biasA m c t) (biasX m c t) (lamAt m c t) (before m c t.val),
      carryBlock (convAt m c t) (weightAt m c t) (biasA m c t) (biasX m c t) (lamAt m c t) (before m c t.val)) := by
  have ht := lt_of_lt_of_eq t.isLt (show cfg0.N = 192 from N_0)
  by_cases h : lo (256 * t.val) = 256 * t.val
  · rw [outsAt0_A m c t ((starts_iff _ ht).mp h), out_A, carry_A]
    unfold before
    rw [if_pos h]
    rfl
  · rw [outsAt0_B m c t (fun h' => h ((starts_iff _ ht).mpr h')), out_B, carry_B]
    unfold before
    rw [if_neg h, dif_pos (Nat.lt_of_le_of_lt (Nat.sub_le _ _) t.isLt)]
    rfl

theorem zero_row (d : Fin 1280) : (k0_pay3 (F := Ideal) (ix2 0 d) : EReal) = 0 := by pointwise [k0_pay3]

theorem out_row (t : Fin cfg0.N) (n : Fin 10) (q : Fin 128) (j : Fin 256) :
    ((outsAt0 m c t.val t.isLt).1 (ix2 j (col n q)) : EReal)
      = state (fun i => factors m c n q (256 * t.val + i)) (fun i => terms m c n q (256 * t.val + i)) (before m c t.val (ix2 0 (col n q))) j.val := by
  rw [point]
  exact (outBlock_at _ _ _ _ _ _ n (ix2 j q) _ (Nat.zero_add _).symm rfl).trans (states_row m c t _ n q j)

theorem carry_row (t : Fin cfg0.N) (n : Fin 10) (q : Fin 128) :
    ((outsAt0 m c t.val t.isLt).2 (ix2 0 (col n q)) : EReal) = (outsAt0 m c t.val t.isLt).1 (ix2 255 (col n q)) := by
  rw [out_row, point]
  exact ((carryBlock_at _ _ _ _ _ _ n (ix2 0 q) _ rfl rfl).trans (lastRow_at _ q)).trans (states_row m c t _ n q 255)

/-- The kernel's result is the recurrence's states. -/
theorem out_state (n : Fin 10) (q : Fin 128) (r : Fin 49152) :
    (LruRun.out m c (ix2 r (col n q)) : EReal) = stateAt (argX m c) (argCW m c) (argCB m c) (argWA m c) (argBA m c) (argWX m c)
      (argBX m c) (argLam m c) n q r.val := by
  have hN : cfg0.N = 192 := N_0
  let K : ℕ → ℕ → EReal := fun t j => if h : t < cfg0.N ∧ j < 256 then
    ((outsAt0 m c t h.1).1 (ix2 (⟨j, h.2⟩ : Fin 256) (col n q)) : EReal) else 0
  have hK : ∀ (t : ℕ) (h : t < cfg0.N) (j : ℕ) (hj : j < 256), K t j = (outsAt0 m c t h).1 (ix2 (⟨j, hj⟩ : Fin 256) (col n q)) :=
    fun t h j hj => dif_pos ⟨h, hj⟩
  have main := block_state (factors m c n q) (terms m c n q) (fun r => lo r = r) K
    (fun t => (before m c t (ix2 0 (col n q)) : EReal)) 192
    (fun t j hj h => by have := lo_mod (256 * t + j); omega)
    (fun t ht j hj => by rw [hK t (hN ▸ ht) j hj]; exact out_row m c ⟨t, hN ▸ ht⟩ n q ⟨j, hj⟩)
    (by decide)
    (fun t ht h => by unfold before; rw [if_pos h]; exact zero_row _)
    (fun t ht h => by
      rw [hK t (by omega) 255 (by decide)]
      unfold before
      rw [if_neg h, dif_pos (show t + 1 - 1 < cfg0.N by omega)]
      exact carry_row m c ⟨t, by omega⟩ n q)
    (r.val / 256) (by omega) (r.val % 256) (by omega)
  rw [hK _ (by omega) _ (by omega)] at main
  rw [LruRun.out_at m c (r.val / 256) (by omega) (ix2 (⟨r.val % 256, by omega⟩ : Fin 256) (col n q)) _
    (by show r.val = r.val / 256 * 256 + r.val % 256; omega) rfl, main]
  unfold stateAt
  congr 1
  omega

end Cert.Lru
-- ==== Proof.LruLoop.lean ====
/-
  The reference's recurrence is a loop over the rows. This file follows the loop's buffers: what they hold before the first
  row, how one row changes them, and so what the result holds after the last.
-/
module

public import proofs.«01_k».proof.Proof.Gen.Reference7Ideal.Run
public import proofs.«01_k».proof.Proof.Gen.Reference7Ideal.Step

@[expose] public section

noncomputable section

namespace Cert.LruLoop

open Idealize.ShloMosaic Idealize.ShloMosaic.TcCoe Idealize.SL.Sem Idealize.ShloMosaic.StableHlo
open Cert.Reference7Ideal Cert.Reference7Ideal.Gen Cert.Reference7Ideal.Value
open Cert.Reference7Ideal.Step (State)

variable {F : FTy → Type} [FloatOps F]

/-- The buffers before row `j`: the carried state, the rows so far, the terms, the row's number. -/
def At (V : Valuation τ sig (Elt F)) (s : State F) (j : ℕ) : Prop :=
  V (Proc.devRef .tc main_v184_3) = s.main_v184_3 ∧ V (Proc.devRef .tc main_v184_4) = s.main_v184_4
    ∧ V (Proc.devRef .tc main_v184_0) = s.main_v184_0 ∧ V (Proc.devRef .tc main_v184_1) = s.main_v184_1
    ∧ V (Proc.devRef .tc main_v184_2) = constantI S_ 32 (BitVec.ofNat 32 j)

theorem row_step {V : Valuation τ sig (Elt F)} {s : State F} {j : ℕ} (h : At V s j) :
    res_main_while0b_v188 V = Step.b7 j s := by
  obtain ⟨h3, h4, h0, h1, h2⟩ := h
  unfold res_main_while0b_v188
  rw [h3, h0, h1, h2]
  rfl

theorem rows_step {V : Valuation τ sig (Elt F)} {s : State F} {j : ℕ} (h : At V s j) :
    step_main_v184_4 V = Step.b10 j s := by
  have hr := row_step h
  obtain ⟨h3, h4, h0, h1, h2⟩ := h
  unfold step_main_v184_4
  show Host.dynamicUpdateSlice (V (Proc.devRef .tc main_v184_4)) (broadcastInDim S1x1280 ![1] bcast_S1280_S1x1280_1 (res_main_while0b_v188 V)) (fun k => (((![V (Proc.devRef .tc main_v184_2), constantI S_ 32 0#32] : Fin 2 → (⟨S_, .i32⟩ : BufTy).Contents (Elt F))) k (Shape.Idx.first h_S_)).toInt) updateFits_S49152x1280_S1x1280 = _
  rw [h4, h2, hr]
  rfl

theorem number_step {V : Valuation τ sig (Elt F)} {s : State F} {j : ℕ} (h : At V s j) :
    step_main_v184_2 V = constantI S_ 32 (BitVec.ofNat 32 (j + 1)) := by
  unfold step_main_v184_2
  rw [h.2.2.2.2]
  funext i
  show BitVec.ofNat 32 j + 1#32 = BitVec.ofNat 32 (j + 1)
  simp only [BitVec.ofNat_add]

theorem at_step {V : Valuation τ sig (Elt F)} {s : State F} {j : ℕ} (h : At V s j) : At (STEP V) (Step.step j s) (j + 1) :=
  ⟨(STEP_main_v184_3 V).trans (row_step h), (STEP_main_v184_4 V).trans (rows_step h),
    (STEP_main_v184_0 V).trans h.2.2.1, (STEP_main_v184_1 V).trans h.2.2.2.1, (STEP_main_v184_2 V).trans (number_step h)⟩

/-! ## Before the first row -/

/-- The prompts' rows, then the samples'. -/
def glue (a : (⟨S32768x1280, .f32⟩ : BufTy).Contents (Elt F)) (b : (⟨S16384x1280, .f32⟩ : BufTy).Contents (Elt F)) :
    (⟨S49152x1280, .f32⟩ : BufTy).Contents (Elt F) :=
  concatenate S49152x1280 0 [⟨S32768x1280, a⟩, ⟨S16384x1280, b⟩] concatenates_S32768x1280_S16384x1280_S49152x1280_d0

section
variable (V : Valuation τ sig (Elt F))

theorem last_0 : after hostOps0_12 V (Proc.devRef .tc main_v184_0) = glue (V (Proc.devRef .tc main_v93))
    (shapeCast S16384x1280 (V (Proc.devRef .tc main_v177)) shapeCasts_S1x16384x1280_S16384x1280) := by
  after_reads_simp
  rfl
theorem last_1 : after hostOps0_12 V (Proc.devRef .tc main_v184_1) = glue (V (Proc.devRef .tc main_v94))
    (shapeCast S16384x1280 (V (Proc.devRef .tc main_v173)) shapeCasts_S1x16384x1280_S16384x1280) := by
  after_reads_simp
  rfl
theorem last_2 : after hostOps0_12 V (Proc.devRef .tc main_v184_2) = constantI S_ 32 0#32 := by
  after_reads_simp
  rfl
theorem last_3 : after hostOps0_12 V (Proc.devRef .tc main_v184_3) = Step.K_main_v182 (F := F) := by
  after_reads_simp
  rfl
theorem last_4 : after hostOps0_12 V (Proc.devRef .tc main_v184_4) = Step.K_main_v183 (F := F) := by
  after_reads_simp
  rfl
end

variable (m : (ℓ : Loc nD τ sig) → Buf (Elt F) ℓ) (c : Dev nD)

/-- The buffers before the two groups' terms are put together. -/
abbrev mid : Valuation τ sig (Elt F) :=
  after hostOps0_11 (after hostOps0_10 (after hostOps0_9 (after hostOps0_8 (after hostOps0_7 (after hostOps0_6 (after hostOps0_5 (after hostOps0_4 (after hostOps0_3 (after hostOps0_2 (after hostOps0_1 (after hostOps0 (launchContents m c))))))))))))

set_option maxRecDepth 65536 in
set_option maxHeartbeats 4000000 in
theorem mid_93 : mid m c (Proc.devRef .tc main_v93) = Step.A_main_v93 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_reads_simp
  rfl

set_option maxRecDepth 65536 in
set_option maxHeartbeats 4000000 in
theorem mid_94 : mid m c (Proc.devRef .tc main_v94) = Step.A_main_v94 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_reads_simp
  rfl

set_option maxRecDepth 65536 in
set_option maxHeartbeats 4000000 in
theorem mid_177 : mid m c (Proc.devRef .tc main_v177) = Step.A_main_v177 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_reads_simp
  rfl

set_option maxRecDepth 65536 in
set_option maxHeartbeats 4000000 in
theorem mid_173 : mid m c (Proc.devRef .tc main_v173) = Step.A_main_v173 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_reads_simp
  rfl

/-- The state before the first row. -/
def start : State F := Step.init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem at_start : At (entryContents preI m c) (start m c) 0 :=
  ⟨last_3 (mid m c), last_4 (mid m c), (last_0 (mid m c)).trans (by rw [mid_93, mid_177]; rfl),
    (last_1 (mid m c)).trans (by rw [mid_94, mid_173]; rfl), last_2 (mid m c)⟩

/-- The state before row `j`. -/
def states : ℕ → State F
  | 0 => start m c
  | j + 1 => Step.step j (states j)

theorem at_states : ∀ j, At (STEP^[j] (entryContents preI m c)) (states m c j) j
  | 0 => at_start m c
  | j + 1 => by
    rw [Function.iterate_succ_apply']
    exact at_step (at_states j)

theorem run (ρ : Dev nD → PrngReg) :
    θ_run (defs (F := F)) (onTc (τ := τ) (main (F := F))) ⟨m, fun _ => 0, ρ⟩ fun r => ∀ c : Dev nD,
      r.2.mem ((c.tc : Thread nD τ).loc main_v184_4) = (states m c 49152).main_v184_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (at_states m c 49152).2.1, (h c).2⟩) (Value.run m ρ)

end Cert.LruLoop
end
-- ==== Proof.LruRef.lean ====
/-
  The forward recurrence's reference: its factors and terms at one row, of the prompts and of the sample.
-/
module

public import proofs.«01_k».proof.Proof.LruSpec
public import proofs.«01_k».proof.Proof.LruLoop

@[expose] public section

set_option maxRecDepth 16384

noncomputable section

namespace Cert.Lru

open Idealize.ShloMosaic Idealize.ShloMosaic.TcCoe Idealize.SL.Sem
open Cert.Reference7Ideal Cert.Reference7Ideal.Gen Cert.Reference7Ideal.Step

variable (X : FVec Ideal ⟨2, ![49152, 1280]⟩ .f32) (CW : FVec Ideal ⟨3, ![2, 4, 1280]⟩ .f32) (CB : FVec Ideal ⟨2, ![2, 1280]⟩ .f32)
  (WA : FVec Ideal ⟨5, ![2, 2, 10, 128, 128]⟩ .f32) (BA : FVec Ideal ⟨3, ![2, 2, 1280]⟩ .f32)
  (WX : FVec Ideal ⟨5, ![2, 2, 10, 128, 128]⟩ .f32) (BX : FVec Ideal ⟨3, ![2, 2, 1280]⟩ .f32) (LAM : FVec Ideal ⟨3, ![2, 2, 1280]⟩ .f32)

theorem col_div (n : Fin 10) (q : Fin 128) (h) : (⟨(col n q).val / 128, h⟩ : Fin 10) = n := Fin.ext (by unfold col; dsimp only; omega)
theorem col_mod (n : Fin 10) (q : Fin 128) (h) : (⟨(col n q).val % 128, h⟩ : Fin 128) = q := Fin.ext (by unfold col; dsimp only; omega)
theorem col_join (n : Fin 10) (q k : Fin 128) (h) : (⟨(col n q).val / 128 * 128 + k.val, h⟩ : Fin 1280) = col n k :=
  Fin.ext (by unfold col; dsimp only; omega)

theorem entry_eq (r : ℕ) (i : Fin 49152) (d : Fin 1280) (h : r = i.val) : entry X r d = X (ix2 i d) := by
  subst h; unfold entry; rw [dif_pos i.isLt]
theorem zero_word : (FloatOps.sitofp (F := Ideal) .f32 (0#32 : BitVec 32) : EReal) = 0 := by
  simp [FloatOps.sitofp]

theorem v16_at (s : Fin 8) (p : Fin 4099) (d : Fin 1280) :
    (A_main_v16 (F := Ideal) X CW CB WA BA WX BX LAM (ix3 s p d) : EReal) = tap X (4096 * s.val) 4096 p.val d := by
  unfold tap
  pointwise [A_main_v16, A_main_v11, A_main_v10, K_main_call0_v0, K_main_c]
  split
  · exact (entry_eq X _ _ d (by dsimp only; omega)).symm
  · exact zero_word

theorem v48_at (s : Fin 8) (r : Fin 4096) (d : Fin 1280) :
    (A_main_v48 (F := Ideal) X CW CB WA BA WX BX LAM (ix3 s r d) : EReal) = convIn X CW CB (4096 * s.val) 4096 r.val d := by
  unfold convIn
  pointwise [A_main_v48, A_main_v47, A_main_v46, A_main_v45, A_main_v44, A_main_v43, A_main_v42, A_main_v41, A_main_v40, A_main_v39,
    A_main_v38, A_main_v37, A_main_v36, A_main_v35, A_main_v34, A_main_v33, A_main_v32, A_main_v31, A_main_v30, A_main_v29,
    A_main_v28, A_main_v27, A_main_v26, A_main_v25, A_main_v24, A_main_v22, A_main_v21, A_main_v20, A_main_v19, A_main_v18,
    A_main_v17, A_main_v15, A_main_v14, A_main_v13, A_main_v12, K_main_v23, K_main_cst]
  rw [v16_at, v16_at, v16_at, v16_at]
  simp only [Nat.add_comm 1, Nat.add_comm 2, Nat.add_comm 3]

theorem v52_at (s : Fin 8) (r : Fin 4096) (n : Fin 10) (q : Fin 128) :
    (A_main_v52 (F := Ideal) X CW CB WA BA WX BX LAM (ix3 s r (col n q)) : EReal) = product WA (fun d => A_main_v48 (F := Ideal) X CW CB WA BA WX BX LAM (ix3 s r d)) n q := by
  unfold product
  pointwise [A_main_v52, A_main_v51, A_main_v50, A_main_v49, A_main_v1, A_main_v0]
  simp only [col_div, col_mod, col_join]
  exact Finset.sum_congr rfl fun k _ => mul_comm _ _

theorem v58_at (s : Fin 8) (r : Fin 4096) (n : Fin 10) (q : Fin 128) :
    (A_main_v58 (F := Ideal) X CW CB WA BA WX BX LAM (ix3 s r (col n q)) : EReal) = product WX (fun d => A_main_v48 (F := Ideal) X CW CB WA BA WX BX LAM (ix3 s r d)) n q := by
  unfold product
  pointwise [A_main_v58, A_main_v57, A_main_v56, A_main_v49, A_main_v5, A_main_v4]
  simp only [col_div, col_mod, col_join]
  exact Finset.sum_congr rfl fun k _ => mul_comm _ _

theorem v67_at (s : Fin 8) (r : Fin 4096) (d : Fin 1280) :
    (A_main_v67 (F := Ideal) X CW CB WA BA WX BX LAM (ix3 s r d) : EReal) =
      Ideal.logistic (A_main_v52 (F := Ideal) X CW CB WA BA WX BX LAM (ix3 s r d) + BA (ix3 0 0 d)) := by
  pointwise [A_main_v67, A_main_v65, A_main_v63, A_main_v62, A_main_v55, A_main_v54, A_main_v53, A_main_v3, A_main_v2,
    K_main_v64, K_main_cst_0, K_main_v66, K_main_cst_1]
  rfl

theorem v73_at (s : Fin 8) (r : Fin 4096) (d : Fin 1280) :
    (A_main_v73 (F := Ideal) X CW CB WA BA WX BX LAM (ix3 s r d) : EReal) =
      Ideal.logistic (A_main_v58 (F := Ideal) X CW CB WA BA WX BX LAM (ix3 s r d) + BX (ix3 0 0 d)) := by
  pointwise [A_main_v73, A_main_v71, A_main_v69, A_main_v68, A_main_v61, A_main_v60, A_main_v59, A_main_v7, A_main_v6,
    K_main_v70, K_main_cst_2, K_main_v72, K_main_cst_3]
  rfl

theorem v77_at (d : Fin 1280) :
    (A_main_v77 (F := Ideal) X CW CB WA BA WX BX LAM (ix1 d) : EReal) = rate (LAM (ix3 0 0 d)) := by
  unfold rate
  pointwise [A_main_v77, A_main_v75, A_main_v74, A_main_call1_v1, A_main_call1_v3, A_main_call1_v4, A_main_call1_v6, A_main_call1_v7,
    A_main_call1_v8, A_main_call1_v9, A_main_call1_v10, A_main_call1_v11, K_main_v76, K_main_cst_4, K_main_call1_v0, K_main_call1_v2,
    K_main_call1_v5, K_main_call1_cst, A_main_v9, A_main_v8]
  rw [if_neg (fun h => h rfl)]
  simp only [zero_sub]
  rfl

theorem first_row : ∀ r : Fin 4096, IntOp.cmpi .eq (BitVec.ofNat 32 r.val) 0#32 = if r.val = 0 then 1#1 else 0#1 := by decide +kernel

theorem v92_at (s : Fin 8) (r : Fin 4096) (d : Fin 1280) :
    (A_main_v92 (F := Ideal) X CW CB WA BA WX BX LAM (ix3 s r d) : EReal) = if r.val = 0 then 0 else
      Ideal.exp (A_main_v77 (F := Ideal) X CW CB WA BA WX BX LAM (ix1 d) * A_main_v67 (F := Ideal) X CW CB WA BA WX BX LAM (ix3 s r d)) := by
  pointwise [A_main_v92, A_main_v81, A_main_v80, A_main_v79, A_main_v78, K_main_v91, K_main_v90, K_main_v89, K_main_c_6, K_main_call2_v1,
    K_main_call2_v0, K_main_cst_7, id]
  rw [first_row]
  split <;> simp [Scalar.select]

theorem v88_at (s : Fin 8) (r : Fin 4096) (d : Fin 1280) :
    (A_main_v88 (F := Ideal) X CW CB WA BA WX BX LAM (ix3 s r d) : EReal) = Ideal.sqrt (-(Ideal.exp (((2 : ℝ) : EReal) *
      (A_main_v77 (F := Ideal) X CW CB WA BA WX BX LAM (ix1 d) * A_main_v67 (F := Ideal) X CW CB WA BA WX BX LAM (ix3 s r d))) - 1))
      * A_main_v73 (F := Ideal) X CW CB WA BA WX BX LAM (ix3 s r d) * A_main_v48 (F := Ideal) X CW CB WA BA WX BX LAM (ix3 s r d) := by
  pointwise [A_main_v88, A_main_v87, A_main_v86, A_main_v85, A_main_v84, A_main_v83, A_main_v80, A_main_v79, A_main_v78, K_main_v82,
    K_main_cst_5]
  rw [two_f32]

/-- A prompt row's factor, zero at the first, and its term. -/
theorem v92_row (s : Fin 8) (r : Fin 4096) (n : Fin 10) (q : Fin 128) :
    (A_main_v92 (F := Ideal) X CW CB WA BA WX BX LAM (ix3 s r (col n q)) : EReal) =
      if r.val = 0 then 0 else factorOf WA BA LAM (fun d => convIn X CW CB (4096 * s.val) 4096 r.val d) n q := by
  rw [v92_at, v77_at, v67_at, v52_at]
  simp only [v48_at]
  rfl

theorem v88_row (s : Fin 8) (r : Fin 4096) (n : Fin 10) (q : Fin 128) :
    (A_main_v88 (F := Ideal) X CW CB WA BA WX BX LAM (ix3 s r (col n q)) : EReal) =
      termOf WA BA WX BX LAM (fun d => convIn X CW CB (4096 * s.val) 4096 r.val d) n q := by
  rw [v88_at, v77_at, v67_at, v73_at, v52_at, v58_at, ← one_sub_square]
  simp only [v48_at]
  rfl

theorem v93_at (s : Fin 8) (r : Fin 4096) (d : Fin 1280) :
    (A_main_v93 (F := Ideal) X CW CB WA BA WX BX LAM (ix2 ⟨4096 * s.val + r.val, by omega⟩ d) : EReal) = A_main_v92 (F := Ideal) X CW CB WA BA WX BX LAM (ix3 s r d) := by
  pointwise [A_main_v93]
theorem v94_at (s : Fin 8) (r : Fin 4096) (d : Fin 1280) :
    (A_main_v94 (F := Ideal) X CW CB WA BA WX BX LAM (ix2 ⟨4096 * s.val + r.val, by omega⟩ d) : EReal) = A_main_v88 (F := Ideal) X CW CB WA BA WX BX LAM (ix3 s r d) := by
  pointwise [A_main_v94]

/-! ## The sample -/

theorem v101_at (p : Fin 16387) (d : Fin 1280) :
    (A_main_v101 (F := Ideal) X CW CB WA BA WX BX LAM (ix3 0 p d) : EReal) = tap X 32768 16384 p.val d := by
  unfold tap
  pointwise [A_main_v101, A_main_v96, A_main_v95, K_main_call3_v0, K_main_c_8]
  split
  · exact (entry_eq X _ _ d rfl).symm
  · exact zero_word

theorem v133_at (r : Fin 16384) (d : Fin 1280) :
    (A_main_v133 (F := Ideal) X CW CB WA BA WX BX LAM (ix3 0 r d) : EReal) = convIn X CW CB 32768 16384 r.val d := by
  unfold convIn
  pointwise [A_main_v133, A_main_v132, A_main_v131, A_main_v130, A_main_v129, A_main_v128, A_main_v127, A_main_v126, A_main_v125, A_main_v124,
    A_main_v123, A_main_v122, A_main_v121, A_main_v120, A_main_v119, A_main_v118, A_main_v117, A_main_v116, A_main_v115, A_main_v114,
    A_main_v113, A_main_v112, A_main_v111, A_main_v110, A_main_v109, A_main_v107, A_main_v106, A_main_v105, A_main_v104, A_main_v103,
    A_main_v102, A_main_v100, A_main_v99, A_main_v98, A_main_v97, K_main_v108, K_main_cst_9]
  rw [v101_at, v101_at, v101_at, v101_at]
  simp only [Nat.add_comm 1, Nat.add_comm 2, Nat.add_comm 3]

theorem v137_at (r : Fin 16384) (n : Fin 10) (q : Fin 128) :
    (A_main_v137 (F := Ideal) X CW CB WA BA WX BX LAM (ix3 0 r (col n q)) : EReal) = product WA (fun d => A_main_v133 (F := Ideal) X CW CB WA BA WX BX LAM (ix3 0 r d)) n q := by
  unfold product
  pointwise [A_main_v137, A_main_v136, A_main_v135, A_main_v134, A_main_v1, A_main_v0]
  simp only [col_div, col_mod, col_join]
  exact Finset.sum_congr rfl fun k _ => mul_comm _ _

theorem v143_at (r : Fin 16384) (n : Fin 10) (q : Fin 128) :
    (A_main_v143 (F := Ideal) X CW CB WA BA WX BX LAM (ix3 0 r (col n q)) : EReal) = product WX (fun d => A_main_v133 (F := Ideal) X CW CB WA BA WX BX LAM (ix3 0 r d)) n q := by
  unfold product
  pointwise [A_main_v143, A_main_v142, A_main_v141, A_main_v134, A_main_v5, A_main_v4]
  simp only [col_div, col_mod, col_join]
  exact Finset.sum_congr rfl fun k _ => mul_comm _ _

theorem v152_at (r : Fin 16384) (d : Fin 1280) :
    (A_main_v152 (F := Ideal) X CW CB WA BA WX BX LAM (ix3 0 r d) : EReal) =
      Ideal.logistic (A_main_v137 (F := Ideal) X CW CB WA BA WX BX LAM (ix3 0 r d) + BA (ix3 0 0 d)) := by
  pointwise [A_main_v152, A_main_v150, A_main_v148, A_main_v147, A_main_v140, A_main_v139, A_main_v138, A_main_v3, A_main_v2,
    K_main_v149, K_main_cst_10, K_main_v151, K_main_cst_11]
  rfl

theorem v158_at (r : Fin 16384) (d : Fin 1280) :
    (A_main_v158 (F := Ideal) X CW CB WA BA WX BX LAM (ix3 0 r d) : EReal) =
      Ideal.logistic (A_main_v143 (F := Ideal) X CW CB WA BA WX BX LAM (ix3 0 r d) + BX (ix3 0 0 d)) := by
  pointwise [A_main_v158, A_main_v156, A_main_v154, A_main_v153, A_main_v146, A_main_v145, A_main_v144, A_main_v7, A_main_v6,
    K_main_v155, K_main_cst_12, K_main_v157, K_main_cst_13]
  rfl

theorem v162_at (d : Fin 1280) :
    (A_main_v162 (F := Ideal) X CW CB WA BA WX BX LAM (ix1 d) : EReal) = rate (LAM (ix3 0 0 d)) := by
  unfold rate
  pointwise [A_main_v162, A_main_v160, A_main_v159, A_main_call4_v1, A_main_call4_v3, A_main_call4_v4, A_main_call4_v6, A_main_call4_v7,
    A_main_call4_v8, A_main_call4_v9, A_main_call4_v10, A_main_call4_v11, K_main_v161, K_main_cst_14, K_main_call4_v0, K_main_call4_v2,
    K_main_call4_v5, K_main_call4_cst, A_main_v9, A_main_v8]
  rw [if_neg (fun h => h rfl)]
  simp only [zero_sub]
  rfl

theorem first_row_sample : ∀ r : Fin 16384, IntOp.cmpi .eq (BitVec.ofNat 32 r.val) 0#32 = if r.val = 0 then 1#1 else 0#1 := by decide +kernel

theorem v177_at (r : Fin 16384) (d : Fin 1280) :
    (A_main_v177 (F := Ideal) X CW CB WA BA WX BX LAM (ix3 0 r d) : EReal) = if r.val = 0 then 0 else
      Ideal.exp (A_main_v162 (F := Ideal) X CW CB WA BA WX BX LAM (ix1 d) * A_main_v152 (F := Ideal) X CW CB WA BA WX BX LAM (ix3 0 r d)) := by
  pointwise [A_main_v177, A_main_v166, A_main_v165, A_main_v164, A_main_v163, K_main_v176, K_main_v175, K_main_v174, K_main_c_16, K_main_call5_v1,
    K_main_call5_v0, K_main_cst_17, id]
  rw [first_row_sample]
  split <;> simp [Scalar.select]

theorem v173_at (r : Fin 16384) (d : Fin 1280) :
    (A_main_v173 (F := Ideal) X CW CB WA BA WX BX LAM (ix3 0 r d) : EReal) = Ideal.sqrt (-(Ideal.exp (((2 : ℝ) : EReal) *
      (A_main_v162 (F := Ideal) X CW CB WA BA WX BX LAM (ix1 d) * A_main_v152 (F := Ideal) X CW CB WA BA WX BX LAM (ix3 0 r d))) - 1))
      * A_main_v158 (F := Ideal) X CW CB WA BA WX BX LAM (ix3 0 r d) * A_main_v133 (F := Ideal) X CW CB WA BA WX BX LAM (ix3 0 r d) := by
  pointwise [A_main_v173, A_main_v172, A_main_v171, A_main_v170, A_main_v169, A_main_v168, A_main_v165, A_main_v164, A_main_v163, K_main_v167,
    K_main_cst_15]
  rw [two_f32]

/-- A sample row's factor, zero at the first, and its term. -/
theorem v177_row (r : Fin 16384) (n : Fin 10) (q : Fin 128) :
    (A_main_v177 (F := Ideal) X CW CB WA BA WX BX LAM (ix3 0 r (col n q)) : EReal) =
      if r.val = 0 then 0 else factorOf WA BA LAM (fun d => convIn X CW CB 32768 16384 r.val d) n q := by
  rw [v177_at, v162_at, v152_at, v137_at]
  simp only [v133_at]
  rfl

theorem v173_row (r : Fin 16384) (n : Fin 10) (q : Fin 128) :
    (A_main_v173 (F := Ideal) X CW CB WA BA WX BX LAM (ix3 0 r (col n q)) : EReal) =
      termOf WA BA WX BX LAM (fun d => convIn X CW CB 32768 16384 r.val d) n q := by
  rw [v173_at, v162_at, v152_at, v158_at, v137_at, v143_at, ← one_sub_square]
  simp only [v133_at]
  rfl

theorem v178_at (r : Fin 16384) (d : Fin 1280) :
    (A_main_v178 (F := Ideal) X CW CB WA BA WX BX LAM (ix2 r d) : EReal) = A_main_v177 (F := Ideal) X CW CB WA BA WX BX LAM (ix3 0 r d) := by
  pointwise [A_main_v178]
theorem v179_at (r : Fin 16384) (d : Fin 1280) :
    (A_main_v179 (F := Ideal) X CW CB WA BA WX BX LAM (ix2 r d) : EReal) = A_main_v173 (F := Ideal) X CW CB WA BA WX BX LAM (ix3 0 r d) := by
  pointwise [A_main_v179]

/-! ## Both -/

theorem v180_at (r : Fin 49152) (d : Fin 1280) :
    (A_main_v180 (F := Ideal) X CW CB WA BA WX BX LAM (ix2 r d) : EReal) =
      if h : r.val < 32768 then A_main_v93 (F := Ideal) X CW CB WA BA WX BX LAM (ix2 ⟨r.val, h⟩ d)
      else A_main_v178 (F := Ideal) X CW CB WA BA WX BX LAM (ix2 ⟨r.val - 32768, by omega⟩ d) := by
  pointwise [A_main_v180]
theorem v181_at (r : Fin 49152) (d : Fin 1280) :
    (A_main_v181 (F := Ideal) X CW CB WA BA WX BX LAM (ix2 r d) : EReal) =
      if h : r.val < 32768 then A_main_v94 (F := Ideal) X CW CB WA BA WX BX LAM (ix2 ⟨r.val, h⟩ d)
      else A_main_v179 (F := Ideal) X CW CB WA BA WX BX LAM (ix2 ⟨r.val - 32768, by omega⟩ d) := by
  pointwise [A_main_v181]

theorem prompt_row (r : ℕ) (h : r < 32768) : lo r = 4096 * (r / 4096) ∧ len r = 4096 ∧ r - lo r = r % 4096 := by
  unfold lo len; rw [if_pos h, if_pos h]; omega
theorem sample_row (r : ℕ) (h : ¬r < 32768) : lo r = 32768 ∧ len r = 16384 := by
  unfold lo len; rw [if_neg h, if_neg h]; exact ⟨rfl, rfl⟩

/-- Row `r`'s factor, zero where a sequence starts. -/
theorem factor_ref (r : Fin 49152) (n : Fin 10) (q : Fin 128) :
    (A_main_v180 (F := Ideal) X CW CB WA BA WX BX LAM (ix2 r (col n q)) : EReal)
      = cut (factorAt X CW CB WA BA LAM n q) (fun r => lo r = r) r.val := by
  rw [v180_at]
  unfold cut factorAt convRow
  by_cases h : r.val < 32768
  · obtain ⟨h1, h2, h3⟩ := prompt_row _ h
    have e : (⟨r.val, h⟩ : Fin 32768) = ⟨4096 * (⟨r.val / 4096, by omega⟩ : Fin 8).val + (⟨r.val % 4096, by omega⟩ : Fin 4096).val, by dsimp only; omega⟩ :=
      Fin.ext (by dsimp only; omega)
    rw [dif_pos h, e, v93_at, v92_row, h3, h2, h1]
    dsimp only
    by_cases h0 : r.val % 4096 = 0
    · rw [if_pos h0, if_pos (by omega)]
    · rw [if_neg h0, if_neg (by omega)]
  · obtain ⟨h1, h2⟩ := sample_row _ h
    rw [dif_neg h, v178_at, v177_row, h2, h1]
    dsimp only
    by_cases h0 : r.val - 32768 = 0
    · rw [if_pos h0, if_pos (by omega)]
    · rw [if_neg h0, if_neg (by omega)]

theorem term_ref (r : Fin 49152) (n : Fin 10) (q : Fin 128) :
    (A_main_v181 (F := Ideal) X CW CB WA BA WX BX LAM (ix2 r (col n q)) : EReal) = termAt X CW CB WA BA WX BX LAM n q r.val := by
  rw [v181_at]
  unfold termAt convRow
  by_cases h : r.val < 32768
  · obtain ⟨h1, h2, h3⟩ := prompt_row _ h
    have e : (⟨r.val, h⟩ : Fin 32768) = ⟨4096 * (⟨r.val / 4096, by omega⟩ : Fin 8).val + (⟨r.val % 4096, by omega⟩ : Fin 4096).val, by dsimp only; omega⟩ :=
      Fin.ext (by dsimp only; omega)
    rw [dif_pos h, e, v94_at, v88_row, h3, h2, h1]
  · obtain ⟨h1, h2⟩ := sample_row _ h
    rw [dif_neg h, v179_at, v173_row, h2, h1]

end Cert.Lru
-- ==== Proof.LruRows.lean ====
/-
  The forward recurrence's reference, its result: the loop's rows are the recurrence's states.
-/
module

public import proofs.«01_k».proof.Proof.LruRef

@[expose] public section

set_option maxRecDepth 16384

noncomputable section

namespace Cert.Lru

open Idealize.ShloMosaic Idealize.ShloMosaic.TcCoe Idealize.SL.Sem
open Cert.Reference7Ideal Cert.Reference7Ideal.Gen

/-- The loop's counter as a start index. -/
theorem word_toInt (j : ℕ) (hj : j < 49152) : (BitVec.ofNat 32 j).toInt = (j : ℤ) := by
  rw [BitVec.toInt_eq_toNat_of_lt (by rw [BitVec.toNat_ofNat]; omega), BitVec.toNat_ofNat, Nat.mod_eq_of_lt (by omega)]

/-- One row read at the loop's counter. -/
theorem read_row (x : FVec Ideal S49152x1280 .f32) (j : ℕ) (hj : j < 49152) (start : Fin 2 → Int) (h0 : start 0 = (j : ℤ)) (h1 : start 1 = 0)
    (d : Fin 1280) : (Host.dynamicSlice S1x1280 x start sliceFits_S49152x1280_S1x1280 (ix2 0 d) : EReal) = x (ix2 ⟨j, hj⟩ d) := by
  rw [Host.dynamicSlice_apply]
  have e0 : Host.clampedStart S49152x1280 S1x1280 sliceFits_S49152x1280_S1x1280.1 start 0 = j := by
    exact Host.clampedStart_of_le _ _ _ _ h0 (by show j + 1 ≤ 49152; omega)
  have e1 : Host.clampedStart S49152x1280 S1x1280 sliceFits_S49152x1280_S1x1280.1 start 1 = 0 := by
    exact Host.clampedStart_of_le _ _ _ _ h1 (by show 0 + 1280 ≤ 1280; omega)
  congr 1
  funext a
  apply Fin.ext
  match a with
  | ⟨0, _⟩ => show Host.clampedStart S49152x1280 S1x1280 sliceFits_S49152x1280_S1x1280.1 start 0 + 0 = j; rw [e0, Nat.add_zero]
  | ⟨1, _⟩ => show Host.clampedStart S49152x1280 S1x1280 sliceFits_S49152x1280_S1x1280.1 start 1 + d.val = d.val; rw [e1]; omega

/-- One row written there. -/
theorem write_row (x : FVec Ideal S49152x1280 .f32) (u : FVec Ideal S1x1280 .f32) (j : ℕ) (hj : j < 49152) (start : Fin 2 → Int)
    (h0 : start 0 = (j : ℤ)) (h1 : start 1 = 0) (r : Fin 49152) (d : Fin 1280) :
    (Host.dynamicUpdateSlice x u start updateFits_S49152x1280_S1x1280 (ix2 r d) : EReal) = if r.val = j then u (ix2 0 d) else x (ix2 r d) := by
  have e0 : Host.clampedStart S49152x1280 S1x1280 updateFits_S49152x1280_S1x1280.1 start 0 = j := by
    exact Host.clampedStart_of_le _ _ _ _ h0 (by show j + 1 ≤ 49152; omega)
  have e1 : Host.clampedStart S49152x1280 S1x1280 updateFits_S49152x1280_S1x1280.1 start 1 = 0 := by
    exact Host.clampedStart_of_le _ _ _ _ h1 (by show 0 + 1280 ≤ 1280; omega)
  rw [Host.dynamicUpdateSlice_apply]
  by_cases h : r.val = j
  · rw [if_pos h, dif_pos (fun a => by
      match a with
      | ⟨0, _⟩ =>
        show Host.clampedStart S49152x1280 S1x1280 updateFits_S49152x1280_S1x1280.1 start 0 ≤ r.val
          ∧ r.val < Host.clampedStart S49152x1280 S1x1280 updateFits_S49152x1280_S1x1280.1 start 0 + 1
        rw [e0]; omega
      | ⟨1, _⟩ =>
        show Host.clampedStart S49152x1280 S1x1280 updateFits_S49152x1280_S1x1280.1 start 1 ≤ d.val
          ∧ d.val < Host.clampedStart S49152x1280 S1x1280 updateFits_S49152x1280_S1x1280.1 start 1 + 1280
        rw [e1]; omega)]
    congr 1
    funext b
    apply Fin.ext
    match b with
    | ⟨0, _⟩ => show r.val - Host.clampedStart S49152x1280 S1x1280 updateFits_S49152x1280_S1x1280.1 start 0 = 0; rw [e0]; omega
    | ⟨1, _⟩ => show d.val - Host.clampedStart S49152x1280 S1x1280 updateFits_S49152x1280_S1x1280.1 start 1 = d.val; rw [e1]; omega
  · rw [if_neg h, dif_neg (fun hin => h (by
      have h2 : Host.clampedStart S49152x1280 S1x1280 updateFits_S49152x1280_S1x1280.1 start 0 ≤ r.val
          ∧ r.val < Host.clampedStart S49152x1280 S1x1280 updateFits_S49152x1280_S1x1280.1 start 0 + 1 := hin (0 : Fin 2)
      rw [e0] at h2; omega))]

/-- One trip's new state and its rows. -/
theorem trip_state (j : ℕ) (hj : j < 49152) (s : Step.State Ideal) (d : Fin 1280) :
    (Step.b7 j s (ix1 d) : EReal) = (s.main_v184_0 (ix2 ⟨j, hj⟩ d) : EReal) * s.main_v184_3 (ix1 d) + s.main_v184_1 (ix2 ⟨j, hj⟩ d) := by
  have r0 := read_row s.main_v184_0 j hj (fun k => (((![(constantI S_ 32 (BitVec.ofNat 32 j) : (⟨S_, .i32⟩ : BufTy).Contents (Elt Ideal)), (Step.b0 j s)] : Fin 2 → (⟨S_, .i32⟩ : BufTy).Contents (Elt Ideal))) k (Shape.Idx.first h_S_)).toInt)
    (word_toInt j hj) rfl d
  have r1 := read_row s.main_v184_1 j hj (fun k => (((![(constantI S_ 32 (BitVec.ofNat 32 j) : (⟨S_, .i32⟩ : BufTy).Contents (Elt Ideal)), (Step.b3 j s)] : Fin 2 → (⟨S_, .i32⟩ : BufTy).Contents (Elt Ideal))) k (Shape.Idx.first h_S_)).toInt)
    (word_toInt j hj) rfl d
  have b2 : (Step.b2 j s (ix1 d) : EReal) = Step.b1 j s (ix2 0 d) := by pointwise [Step.b2]
  have b5 : (Step.b5 j s (ix1 d) : EReal) = Step.b4 j s (ix2 0 d) := by pointwise [Step.b5]
  show (Step.b2 j s (ix1 d) : EReal) * s.main_v184_3 (ix1 d) + Step.b5 j s (ix1 d) = _
  rw [b2, b5, ← r0, ← r1]
  rfl

theorem trip_rows (j : ℕ) (hj : j < 49152) (s : Step.State Ideal) (r : Fin 49152) (d : Fin 1280) :
    (Step.b10 j s (ix2 r d) : EReal) = if r.val = j then (Step.b7 j s (ix1 d) : EReal) else s.main_v184_4 (ix2 r d) := by
  have b8 : (Step.b8 j s (ix2 0 d) : EReal) = Step.b7 j s (ix1 d) := by pointwise [Step.b8]
  rw [← b8]
  exact write_row s.main_v184_4 (Step.b8 j s) j hj _ (word_toInt j hj) rfl r d

variable (m : (ℓ : Loc nD τ sig) → Buf (Elt Ideal) ℓ) (c : Dev nD)

abbrev refX : FVec Ideal ⟨2, ![49152, 1280]⟩ .f32 := m ((c.tc : Thread nD τ).loc main_arg0)
abbrev refCW : FVec Ideal ⟨3, ![2, 4, 1280]⟩ .f32 := m ((c.tc : Thread nD τ).loc main_arg1)
abbrev refCB : FVec Ideal ⟨2, ![2, 1280]⟩ .f32 := m ((c.tc : Thread nD τ).loc main_arg2)
abbrev refWA : FVec Ideal ⟨5, ![2, 2, 10, 128, 128]⟩ .f32 := m ((c.tc : Thread nD τ).loc main_arg3)
abbrev refBA : FVec Ideal ⟨3, ![2, 2, 1280]⟩ .f32 := m ((c.tc : Thread nD τ).loc main_arg4)
abbrev refWX : FVec Ideal ⟨5, ![2, 2, 10, 128, 128]⟩ .f32 := m ((c.tc : Thread nD τ).loc main_arg5)
abbrev refBX : FVec Ideal ⟨3, ![2, 2, 1280]⟩ .f32 := m ((c.tc : Thread nD τ).loc main_arg6)
abbrev refLam : FVec Ideal ⟨3, ![2, 2, 1280]⟩ .f32 := m ((c.tc : Thread nD τ).loc main_arg7)

theorem terms_kept (j : ℕ) : (LruLoop.states m c j).main_v184_0 = (LruLoop.start m c).main_v184_0
    ∧ (LruLoop.states m c j).main_v184_1 = (LruLoop.start m c).main_v184_1 := by
  induction j with
  | zero => exact ⟨rfl, rfl⟩
  | succ j ih => exact ih

abbrev refState (n : Fin 10) (q : Fin 128) (r : ℕ) : EReal :=
  stateAt (refX m c) (refCW m c) (refCB m c) (refWA m c) (refBA m c) (refWX m c) (refBX m c) (refLam m c) n q r

/-- After `j` trips: the state of the row before, and every row before `j` written. -/
theorem after_trips (n : Fin 10) (q : Fin 128) (j : ℕ) (hj : j ≤ 49152) :
    ((LruLoop.states m c j).main_v184_3 (ix1 (col n q)) : EReal) = (match j with | 0 => 0 | i + 1 => refState m c n q i)
    ∧ ∀ r : Fin 49152, r.val < j → ((LruLoop.states m c j).main_v184_4 (ix2 r (col n q)) : EReal) = refState m c n q r.val := by
  induction j with
  | zero =>
    refine ⟨?_, fun r h => absurd h (Nat.not_lt_zero _)⟩
    show (Step.K_main_v182 (F := Ideal) (ix1 (col n q)) : EReal) = 0
    pointwise [Step.K_main_v182, Step.K_main_cst_18]
  | succ j ih =>
    have hj' : j < 49152 := hj
    obtain ⟨i3, i4⟩ := ih (Nat.le_of_lt hj')
    obtain ⟨k0, k1⟩ := terms_kept m c j
    have s7 : (Step.b7 j (LruLoop.states m c j) (ix1 (col n q)) : EReal) = refState m c n q j := by
      rw [trip_state j hj', k0, k1, i3]
      have f := factor_ref (refX m c) (refCW m c) (refCB m c) (refWA m c) (refBA m c) (refWX m c) (refBX m c) (refLam m c) ⟨j, hj'⟩ n q
      have u := term_ref (refX m c) (refCW m c) (refCB m c) (refWA m c) (refBA m c) (refWX m c) (refBX m c) (refLam m c) ⟨j, hj'⟩ n q
      show (Step.A_main_v180 (F := Ideal) (refX m c) (refCW m c) (refCB m c) (refWA m c) (refBA m c) (refWX m c) (refBX m c) (refLam m c) (ix2 ⟨j, hj'⟩ (col n q)) : EReal) * _
        + Step.A_main_v181 (F := Ideal) (refX m c) (refCW m c) (refCB m c) (refWA m c) (refBA m c) (refWX m c) (refBX m c) (refLam m c) (ix2 ⟨j, hj'⟩ (col n q)) = _
      rw [f, u]
      cases j with
      | zero => rfl
      | succ i => rfl
    refine ⟨s7, fun r hr => ?_⟩
    show (Step.b10 j (LruLoop.states m c j) (ix2 r (col n q)) : EReal) = _
    rw [trip_rows j hj']
    by_cases h : r.val = j
    · rw [if_pos h, s7, h]
    · rw [if_neg h]
      exact i4 r (by omega)

/-- The reference's result is the recurrence's states. -/
theorem ref_state (n : Fin 10) (q : Fin 128) (r : Fin 49152) :
    ((LruLoop.states m c 49152).main_v184_4 (ix2 r (col n q)) : EReal) = refState m c n q r.val :=
  (after_trips m c n q 49152 (le_refl _)).2 r r.isLt

end Cert.Lru
-- ==== Proof.LruClaim.lean ====
/-
  The forward recurrence's claims: every program runs and leaves its arguments, and the kernel's result is the reference's.
-/
module

public import proofs.«01_k».proof.Defs
public import proofs.«01_k».proof.Proof.LruState
public import proofs.«01_k».proof.Proof.LruRows
public import proofs.«01_k».proof.Proof.Gen.Kernel7.Frame
public import proofs.«01_k».proof.Proof.Gen.Kernel7Ideal.Frame
public import Idealize.ShloMosaic.Adequacy
public import Idealize.ShloMosaic.Init

@[expose] public section

noncomputable section

namespace Cert.Lru

open Idealize.ShloMosaic Idealize.ShloMosaic.TcCoe Idealize.SL.Sem

theorem kernel_frame : quiescent_Kernel7 (hKernel7 := Cert.Kernel7.Gen.facts) := fun m ρ _ => Cert.Kernel7.Gen.frame m ρ
theorem ideal_frame : quiescent_Kernel7Ideal (hKernel7Ideal := Cert.Kernel7Ideal.Gen.facts) := fun m ρ _ => Cert.Kernel7Ideal.Gen.frame m ρ
theorem ref_frame : quiescent_Reference7Ideal (hReference7Ideal := Cert.Reference7Ideal.Gen.facts) := fun m ρ _ =>
  (θ_run _ _ _).mono (fun r h => ⟨fun c => (h c).2, Idealize.ShloMosaic.sem_eq_zero_of_no_sems (by decide) r.2⟩)
    (Cert.LruLoop.run (F := Ideal) m ρ)

theorem preserved : preserves_Kernel7_Kernel7Ideal := trivial

theorem result_eq (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (h0 : refX m' c = argX m c) (h1 : refCW m' c = argCW m c) (h2 : refCB m' c = argCB m c) (h3 : refWA m' c = argWA m c)
    (h4 : refBA m' c = argBA m c) (h5 : refWX m' c = argWX m c) (h6 : refBX m' c = argBX m c) (h7 : refLam m' c = argLam m c) :
    ((LruLoop.states m' c 49152).main_v184_4 : FVec Ideal ⟨2, ![49152, 1280]⟩ .f32) = LruRun.out m c := by
  funext i
  have hd : (i 1).val < 1280 := (i 1).isLt
  have e : i = ix2 (i 0 : Fin 49152) (col ⟨(i 1).val / 128, by omega⟩ ⟨(i 1).val % 128, Nat.mod_lt _ (by decide)⟩) := by
    refine (eq_ix2 i).trans ?_
    congr 1
    exact Fin.ext (by unfold col; dsimp only; omega)
  rw [e]
  refine (ref_state m' c _ _ (i 0)).trans ?_
  unfold refState
  rw [h0, h1, h2, h3, h4, h5, h6, h7]
  exact (out_state m c _ _ (i 0)).symm

theorem value : algebraic_Kernel7Ideal_Reference7Ideal (hKernel7Ideal := Cert.Kernel7Ideal.Gen.facts)
    (hReference7Ideal := Cert.Reference7Ideal.Gen.facts) := by
  intro m ρ m' ρ' _ hagree
  refine ⟨fun c => LruRun.out m c, Cert.LruRun.run (F := Ideal) m ρ, ?_⟩
  refine (θ_run _ _ _).mono (fun r h c => ⟨(h c).1.trans ?_, (h c).2⟩) (Cert.LruLoop.run (F := Ideal) m' ρ')
  obtain ⟨h0, h1, h2, h3, h4, h5, h6, h7⟩ := hagree c
  exact result_eq m m' c h0 h1 h2 h3 h4 h5 h6 h7

end Cert.Lru

end
-- ==== Proof.lean ====
module

public import proofs.«01_k».proof.Defs
public import proofs.«01_k».proof.Proof.AttnClaim
public import proofs.«01_k».proof.Proof.AttnD4Claim
public import proofs.«01_k».proof.Proof.AttnD16Claim
public import proofs.«01_k».proof.Proof.FfnClaim
public import proofs.«01_k».proof.Proof.ProjClaim
public import proofs.«01_k».proof.Proof.MergeClaim
public import proofs.«01_k».proof.Proof.LruClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts,
    Cert.Pre_finite.Gen.facts,
    Cert.Attn.kernel_frame, Cert.Attn.ideal_frame, Cert.Attn.ideal_frame_pre, Cert.Attn.ref_frame, Cert.Attn.ref_frame_pre,
    Cert.Ffn.kernel_frame, Cert.Ffn.ideal_frame, Cert.Ffn.ref_frame,
    Cert.Proj.kernel_frame, Cert.Proj.ideal_frame, Cert.Proj.ref_frame,
    Cert.Merge.kernel_frame, Cert.Merge.ideal_frame, Cert.Merge.ref_frame,
    Cert.AttnD4.kernel_frame, Cert.AttnD4.ideal_frame, Cert.AttnD4.ideal_frame_pre, Cert.AttnD4.ref_frame, Cert.AttnD4.ref_frame_pre,
    Cert.AttnD16.kernel_frame, Cert.AttnD16.ideal_frame, Cert.AttnD16.ideal_frame_pre, Cert.AttnD16.ref_frame,
    Cert.AttnD16.ref_frame_pre, Cert.Lru.kernel_frame, Cert.Lru.ideal_frame, Cert.Lru.ref_frame,
    Cert.Attn.preserved, Cert.Attn.value, Cert.Ffn.preserved, Cert.Ffn.value, Cert.Proj.preserved, Cert.Proj.value,
    Cert.Merge.preserved, Cert.Merge.value, Cert.AttnD4.preserved, Cert.AttnD4.value, Cert.AttnD16.preserved,
    Cert.AttnD16.value, Cert.Lru.preserved, Cert.Lru.value⟩

end Cert.Proof

end
